-- ==== Defs.lean ====
def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_KernelMemIdeal_finite_mem [hPre_finite_mem : Cert.Pre_finite_mem.Facts] (m : (ℓ : Loc Cert.KernelMemIdeal.nD Cert.KernelMemIdeal.τ Cert.KernelMemIdeal.sig) → Buf (Elt Ideal) ℓ) : Prop :=
  ∀ c : Dev Cert.KernelMemIdeal.nD,
    (Cert.Pre_finite_mem.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2))).1 = (fun _ => 1#1)
    ∧ (Cert.Pre_finite_mem.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2))).2.1 = (fun _ => 1#1)
    ∧ (Cert.Pre_finite_mem.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2))).2.2 = (fun _ => 1#1)

def Pre_ReferenceMemIdeal (m : (ℓ : Loc Cert.ReferenceMemIdeal.nD Cert.ReferenceMemIdeal.τ Cert.ReferenceMemIdeal.sig) → Buf (Elt Ideal) ℓ) : Prop :=
  True

def Pre_ReferenceMemIdeal_finite_mem [hPre_finite_mem : Cert.Pre_finite_mem.Facts] (m : (ℓ : Loc Cert.ReferenceMemIdeal.nD Cert.ReferenceMemIdeal.τ Cert.ReferenceMemIdeal.sig) → Buf (Elt Ideal) ℓ) : Prop :=
  ∀ c : Dev Cert.ReferenceMemIdeal.nD,
    (Cert.Pre_finite_mem.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2))).1 = (fun _ => 1#1)
    ∧ (Cert.Pre_finite_mem.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2))).2.1 = (fun _ => 1#1)
    ∧ (Cert.Pre_finite_mem.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2))).2.2 = (fun _ => 1#1)

def Pre_KernelXatt (m : (ℓ : Loc Cert.KernelXatt.nD Cert.KernelXatt.τ Cert.KernelXatt.sig) → Buf (Elt Bits) ℓ) : Prop :=
  True

def Pre_KernelXattIdeal (m : (ℓ : Loc Cert.KernelXattIdeal.nD Cert.KernelXattIdeal.τ Cert.KernelXattIdeal.sig) → Buf (Elt Ideal) ℓ) : Prop :=
  True

def Pre_KernelXattIdeal_finite_xatt [hPre_finite_xatt : Cert.Pre_finite_xatt.Facts] (m : (ℓ : Loc Cert.KernelXattIdeal.nD Cert.KernelXattIdeal.τ Cert.KernelXattIdeal.sig) → Buf (Elt Ideal) ℓ) : Prop :=
  ∀ c : Dev Cert.KernelXattIdeal.nD,
    (Cert.Pre_finite_xatt.fn (F := Ideal) (m ((c.tc : Thread Cert.KernelXattIdeal.nD Cert.KernelXattIdeal.τ).loc Cert.KernelXattIdeal.main_arg0)) (m ((c.tc : Thread Cert.KernelXattIdeal.nD Cert.KernelXattIdeal.τ).loc Cert.KernelXattIdeal.main_arg1)) (m ((c.tc : Thread Cert.KernelXattIdeal.nD Cert.KernelXattIdeal.τ).loc Cert.KernelXattIdeal.main_arg2)) (m ((c.tc : Thread Cert.KernelXattIdeal.nD Cert.KernelXattIdeal.τ).loc Cert.KernelXattIdeal.main_arg3))).1 = (fun _ => 1#1)
    ∧ (Cert.Pre_finite_xatt.fn (F := Ideal) (m ((c.tc : Thread Cert.KernelXattIdeal.nD Cert.KernelXattIdeal.τ).loc Cert.KernelXattIdeal.main_arg0)) (m ((c.tc : Thread Cert.KernelXattIdeal.nD Cert.KernelXattIdeal.τ).loc Cert.KernelXattIdeal.main_arg1)) (m ((c.tc : Thread Cert.KernelXattIdeal.nD Cert.KernelXattIdeal.τ).loc Cert.KernelXattIdeal.main_arg2)) (m ((c.tc : Thread Cert.KernelXattIdeal.nD Cert.KernelXattIdeal.τ).loc Cert.KernelXattIdeal.main_arg3))).2.1 = (fun _ => 1#1)
    ∧ (Cert.Pre_finite_xatt.fn (F := Ideal) (m ((c.tc : Thread Cert.KernelXattIdeal.nD Cert.KernelXattIdeal.τ).loc Cert.KernelXattIdeal.main_arg0)) (m ((c.tc : Thread Cert.KernelXattIdeal.nD Cert.KernelXattIdeal.τ).loc Cert.KernelXattIdeal.main_arg1)) (m ((c.tc : Thread Cert.KernelXattIdeal.nD Cert.KernelXattIdeal.τ).loc Cert.KernelXattIdeal.main_arg2)) (m ((c.tc : Thread Cert.KernelXattIdeal.nD Cert.KernelXattIdeal.τ).loc Cert.KernelXattIdeal.main_arg3))).2.2.1 = (fun _ => 1#1)
    ∧ (Cert.Pre_finite_xatt.fn (F := Ideal) (m ((c.tc : Thread Cert.KernelXattIdeal.nD Cert.KernelXattIdeal.τ).loc Cert.KernelXattIdeal.main_arg0)) (m ((c.tc : Thread Cert.KernelXattIdeal.nD Cert.KernelXattIdeal.τ).loc Cert.KernelXattIdeal.main_arg1)) (m ((c.tc : Thread Cert.KernelXattIdeal.nD Cert.KernelXattIdeal.τ).loc Cert.KernelXattIdeal.main_arg2)) (m ((c.tc : Thread Cert.KernelXattIdeal.nD Cert.KernelXattIdeal.τ).loc Cert.KernelXattIdeal.main_arg3))).2.2.2 = (fun _ => 1#1)

def Pre_ReferenceXattIdeal (m : (ℓ : Loc Cert.ReferenceXattIdeal.nD Cert.ReferenceXattIdeal.τ Cert.ReferenceXattIdeal.sig) → Buf (Elt Ideal) ℓ) : Prop :=
  True

def Pre_ReferenceXattIdeal_finite_xatt [hPre_finite_xatt : Cert.Pre_finite_xatt.Facts] (m : (ℓ : Loc Cert.ReferenceXattIdeal.nD Cert.ReferenceXattIdeal.τ Cert.ReferenceXattIdeal.sig) → Buf (Elt Ideal) ℓ) : Prop :=
  ∀ c : Dev Cert.ReferenceXattIdeal.nD,
    (Cert.Pre_finite_xatt.fn (F := Ideal) (m ((c.tc : Thread Cert.ReferenceXattIdeal.nD Cert.ReferenceXattIdeal.τ).loc Cert.ReferenceXattIdeal.main_arg0)) (m ((c.tc : Thread Cert.ReferenceXattIdeal.nD Cert.ReferenceXattIdeal.τ).loc Cert.ReferenceXattIdeal.main_arg1)) (m ((c.tc : Thread Cert.ReferenceXattIdeal.nD Cert.ReferenceXattIdeal.τ).loc Cert.ReferenceXattIdeal.main_arg2)) (m ((c.tc : Thread Cert.ReferenceXattIdeal.nD Cert.ReferenceXattIdeal.τ).loc Cert.ReferenceXattIdeal.main_arg3))).1 = (fun _ => 1#1)
    ∧ (Cert.Pre_finite_xatt.fn (F := Ideal) (m ((c.tc : Thread Cert.ReferenceXattIdeal.nD Cert.ReferenceXattIdeal.τ).loc Cert.ReferenceXattIdeal.main_arg0)) (m ((c.tc : Thread Cert.ReferenceXattIdeal.nD Cert.ReferenceXattIdeal.τ).loc Cert.ReferenceXattIdeal.main_arg1)) (m ((c.tc : Thread Cert.ReferenceXattIdeal.nD Cert.ReferenceXattIdeal.τ).loc Cert.ReferenceXattIdeal.main_arg2)) (m ((c.tc : Thread Cert.ReferenceXattIdeal.nD Cert.ReferenceXattIdeal.τ).loc Cert.ReferenceXattIdeal.main_arg3))).2.1 = (fun _ => 1#1)
    ∧ (Cert.Pre_finite_xatt.fn (F := Ideal) (m ((c.tc : Thread Cert.ReferenceXattIdeal.nD Cert.ReferenceXattIdeal.τ).loc Cert.ReferenceXattIdeal.main_arg0)) (m ((c.tc : Thread Cert.ReferenceXattIdeal.nD Cert.ReferenceXattIdeal.τ).loc Cert.ReferenceXattIdeal.main_arg1)) (m ((c.tc : Thread Cert.ReferenceXattIdeal.nD Cert.ReferenceXattIdeal.τ).loc Cert.ReferenceXattIdeal.main_arg2)) (m ((c.tc : Thread Cert.ReferenceXattIdeal.nD Cert.ReferenceXattIdeal.τ).loc Cert.ReferenceXattIdeal.main_arg3))).2.2.1 = (fun _ => 1#1)
    ∧ (Cert.Pre_finite_xatt.fn (F := Ideal) (m ((c.tc : Thread Cert.ReferenceXattIdeal.nD Cert.ReferenceXattIdeal.τ).loc Cert.ReferenceXattIdeal.main_arg0)) (m ((c.tc : Thread Cert.ReferenceXattIdeal.nD Cert.ReferenceXattIdeal.τ).loc Cert.ReferenceXattIdeal.main_arg1)) (m ((c.tc : Thread Cert.ReferenceXattIdeal.nD Cert.ReferenceXattIdeal.τ).loc Cert.ReferenceXattIdeal.main_arg2)) (m ((c.tc : Thread Cert.ReferenceXattIdeal.nD Cert.ReferenceXattIdeal.τ).loc Cert.ReferenceXattIdeal.main_arg3))).2.2.2 = (fun _ => 1#1)

def Pre_KernelHn (m : (ℓ : Loc Cert.KernelHn.nD Cert.KernelHn.τ Cert.KernelHn.sig) → Buf (Elt Bits) ℓ) : Prop :=
  True

def Pre_KernelHnIdeal (m : (ℓ : Loc Cert.KernelHnIdeal.nD Cert.KernelHnIdeal.τ Cert.KernelHnIdeal.sig) → Buf (Elt Ideal) ℓ) : Prop :=
  True

def Pre_KernelHnIdeal_finite_hn [hPre_finite_hn : Cert.Pre_finite_hn.Facts] (m : (ℓ : Loc Cert.KernelHnIdeal.nD Cert.KernelHnIdeal.τ Cert.KernelHnIdeal.sig) → Buf (Elt Ideal) ℓ) : Prop :=
  ∀ c : Dev Cert.KernelHnIdeal.nD,
    (Cert.Pre_finite_hn.fn (F := Ideal) (m ((c.tc : Thread Cert.KernelHnIdeal.nD Cert.KernelHnIdeal.τ).loc Cert.KernelHnIdeal.main_arg0)) (m ((c.tc : Thread Cert.KernelHnIdeal.nD Cert.KernelHnIdeal.τ).loc Cert.KernelHnIdeal.main_arg1)) (m ((c.tc : Thread Cert.KernelHnIdeal.nD Cert.KernelHnIdeal.τ).loc Cert.KernelHnIdeal.main_arg2)) (m ((c.tc : Thread Cert.KernelHnIdeal.nD Cert.KernelHnIdeal.τ).loc Cert.KernelHnIdeal.main_arg3)) (m ((c.tc : Thread Cert.KernelHnIdeal.nD Cert.KernelHnIdeal.τ).loc Cert.KernelHnIdeal.main_arg4))).1 = (fun _ => 1#1)
    ∧ (Cert.Pre_finite_hn.fn (F := Ideal) (m ((c.tc : Thread Cert.KernelHnIdeal.nD Cert.KernelHnIdeal.τ).loc Cert.KernelHnIdeal.main_arg0)) (m ((c.tc : Thread Cert.KernelHnIdeal.nD Cert.KernelHnIdeal.τ).loc Cert.KernelHnIdeal.main_arg1)) (m ((c.tc : Thread Cert.KernelHnIdeal.nD Cert.KernelHnIdeal.τ).loc Cert.KernelHnIdeal.main_arg2)) (m ((c.tc : Thread Cert.KernelHnIdeal.nD Cert.KernelHnIdeal.τ).loc Cert.KernelHnIdeal.main_arg3)) (m ((c.tc : Thread Cert.KernelHnIdeal.nD Cert.KernelHnIdeal.τ).loc Cert.KernelHnIdeal.main_arg4))).2.1 = (fun _ => 1#1)
    ∧ (Cert.Pre_finite_hn.fn (F := Ideal) (m ((c.tc : Thread Cert.KernelHnIdeal.nD Cert.KernelHnIdeal.τ).loc Cert.KernelHnIdeal.main_arg0)) (m ((c.tc : Thread Cert.KernelHnIdeal.nD Cert.KernelHnIdeal.τ).loc Cert.KernelHnIdeal.main_arg1)) (m ((c.tc : Thread Cert.KernelHnIdeal.nD Cert.KernelHnIdeal.τ).loc Cert.KernelHnIdeal.main_arg2)) (m ((c.tc : Thread Cert.KernelHnIdeal.nD Cert.KernelHnIdeal.τ).loc Cert.KernelHnIdeal.main_arg3)) (m ((c.tc : Thread Cert.KernelHnIdeal.nD Cert.KernelHnIdeal.τ).loc Cert.KernelHnIdeal.main_arg4))).2.2.1 = (fun _ => 1#1)
    ∧ (Cert.Pre_finite_hn.fn (F := Ideal) (m ((c.tc : Thread Cert.KernelHnIdeal.nD Cert.KernelHnIdeal.τ).loc Cert.KernelHnIdeal.main_arg0)) (m ((c.tc : Thread Cert.KernelHnIdeal.nD Cert.KernelHnIdeal.τ).loc Cert.KernelHnIdeal.main_arg1)) (m ((c.tc : Thread Cert.KernelHnIdeal.nD Cert.KernelHnIdeal.τ).loc Cert.KernelHnIdeal.main_arg2)) (m ((c.tc : Thread Cert.KernelHnIdeal.nD Cert.KernelHnIdeal.τ).loc Cert.KernelHnIdeal.main_arg3)) (m ((c.tc : Thread Cert.KernelHnIdeal.nD Cert.KernelHnIdeal.τ).loc Cert.KernelHnIdeal.main_arg4))).2.2.2 = (fun _ => 1#1)

def Pre_ReferenceHnIdeal (m : (ℓ : Loc Cert.ReferenceHnIdeal.nD Cert.ReferenceHnIdeal.τ Cert.ReferenceHnIdeal.sig) → Buf (Elt Ideal) ℓ) : Prop :=
  True

def Pre_ReferenceHnIdeal_finite_hn [hPre_finite_hn : Cert.Pre_finite_hn.Facts] (m : (ℓ : Loc Cert.ReferenceHnIdeal.nD Cert.ReferenceHnIdeal.τ Cert.ReferenceHnIdeal.sig) → Buf (Elt Ideal) ℓ) : Prop :=
  ∀ c : Dev Cert.ReferenceHnIdeal.nD,
    (Cert.Pre_finite_hn.fn (F := Ideal) (m ((c.tc : Thread Cert.ReferenceHnIdeal.nD Cert.ReferenceHnIdeal.τ).loc Cert.ReferenceHnIdeal.main_arg0)) (m ((c.tc : Thread Cert.ReferenceHnIdeal.nD Cert.ReferenceHnIdeal.τ).loc Cert.ReferenceHnIdeal.main_arg1)) (m ((c.tc : Thread Cert.ReferenceHnIdeal.nD Cert.ReferenceHnIdeal.τ).loc Cert.ReferenceHnIdeal.main_arg2)) (m ((c.tc : Thread Cert.ReferenceHnIdeal.nD Cert.ReferenceHnIdeal.τ).loc Cert.ReferenceHnIdeal.main_arg3)) (m ((c.tc : Thread Cert.ReferenceHnIdeal.nD Cert.ReferenceHnIdeal.τ).loc Cert.ReferenceHnIdeal.main_arg4))).1 = (fun _ => 1#1)
    ∧ (Cert.Pre_finite_hn.fn (F := Ideal) (m ((c.tc : Thread Cert.ReferenceHnIdeal.nD Cert.ReferenceHnIdeal.τ).loc Cert.ReferenceHnIdeal.main_arg0)) (m ((c.tc : Thread Cert.ReferenceHnIdeal.nD Cert.ReferenceHnIdeal.τ).loc Cert.ReferenceHnIdeal.main_arg1)) (m ((c.tc : Thread Cert.ReferenceHnIdeal.nD Cert.ReferenceHnIdeal.τ).loc Cert.ReferenceHnIdeal.main_arg2)) (m ((c.tc : Thread Cert.ReferenceHnIdeal.nD Cert.ReferenceHnIdeal.τ).loc Cert.ReferenceHnIdeal.main_arg3)) (m ((c.tc : Thread Cert.ReferenceHnIdeal.nD Cert.ReferenceHnIdeal.τ).loc Cert.ReferenceHnIdeal.main_arg4))).2.1 = (fun _ => 1#1)
    ∧ (Cert.Pre_finite_hn.fn (F := Ideal) (m ((c.tc : Thread Cert.ReferenceHnIdeal.nD Cert.ReferenceHnIdeal.τ).loc Cert.ReferenceHnIdeal.main_arg0)) (m ((c.tc : Thread Cert.ReferenceHnIdeal.nD Cert.ReferenceHnIdeal.τ).loc Cert.ReferenceHnIdeal.main_arg1)) (m ((c.tc : Thread Cert.ReferenceHnIdeal.nD Cert.ReferenceHnIdeal.τ).loc Cert.ReferenceHnIdeal.main_arg2)) (m ((c.tc : Thread Cert.ReferenceHnIdeal.nD Cert.ReferenceHnIdeal.τ).loc Cert.ReferenceHnIdeal.main_arg3)) (m ((c.tc : Thread Cert.ReferenceHnIdeal.nD Cert.ReferenceHnIdeal.τ).loc Cert.ReferenceHnIdeal.main_arg4))).2.2.1 = (fun _ => 1#1)
    ∧ (Cert.Pre_finite_hn.fn (F := Ideal) (m ((c.tc : Thread Cert.ReferenceHnIdeal.nD Cert.ReferenceHnIdeal.τ).loc Cert.ReferenceHnIdeal.main_arg0)) (m ((c.tc : Thread Cert.ReferenceHnIdeal.nD Cert.ReferenceHnIdeal.τ).loc Cert.ReferenceHnIdeal.main_arg1)) (m ((c.tc : Thread Cert.ReferenceHnIdeal.nD Cert.ReferenceHnIdeal.τ).loc Cert.ReferenceHnIdeal.main_arg2)) (m ((c.tc : Thread Cert.ReferenceHnIdeal.nD Cert.ReferenceHnIdeal.τ).loc Cert.ReferenceHnIdeal.main_arg3)) (m ((c.tc : Thread Cert.ReferenceHnIdeal.nD Cert.ReferenceHnIdeal.τ).loc Cert.ReferenceHnIdeal.main_arg4))).2.2.2 = (fun _ => 1#1)

def Pre_KernelXn (m : (ℓ : Loc Cert.KernelXn.nD Cert.KernelXn.τ Cert.KernelXn.sig) → Buf (Elt Bits) ℓ) : Prop :=
  True

def Pre_KernelXnIdeal (m : (ℓ : Loc Cert.KernelXnIdeal.nD Cert.KernelXnIdeal.τ Cert.KernelXnIdeal.sig) → Buf (Elt Ideal) ℓ) : Prop :=
  True

def Pre_KernelXnIdeal_finite_xn [hPre_finite_xn : Cert.Pre_finite_xn.Facts] (m : (ℓ : Loc Cert.KernelXnIdeal.nD Cert.KernelXnIdeal.τ Cert.KernelXnIdeal.sig) → Buf (Elt Ideal) ℓ) : Prop :=
  ∀ c : Dev Cert.KernelXnIdeal.nD,
    (Cert.Pre_finite_xn.fn (F := Ideal) (m ((c.tc : Thread Cert.KernelXnIdeal.nD Cert.KernelXnIdeal.τ).loc Cert.KernelXnIdeal.main_arg0)) (m ((c.tc : Thread Cert.KernelXnIdeal.nD Cert.KernelXnIdeal.τ).loc Cert.KernelXnIdeal.main_arg1)) (m ((c.tc : Thread Cert.KernelXnIdeal.nD Cert.KernelXnIdeal.τ).loc Cert.KernelXnIdeal.main_arg2)) (m ((c.tc : Thread Cert.KernelXnIdeal.nD Cert.KernelXnIdeal.τ).loc Cert.KernelXnIdeal.main_arg3)) (m ((c.tc : Thread Cert.KernelXnIdeal.nD Cert.KernelXnIdeal.τ).loc Cert.KernelXnIdeal.main_arg4))).1 = (fun _ => 1#1)
    ∧ (Cert.Pre_finite_xn.fn (F := Ideal) (m ((c.tc : Thread Cert.KernelXnIdeal.nD Cert.KernelXnIdeal.τ).loc Cert.KernelXnIdeal.main_arg0)) (m ((c.tc : Thread Cert.KernelXnIdeal.nD Cert.KernelXnIdeal.τ).loc Cert.KernelXnIdeal.main_arg1)) (m ((c.tc : Thread Cert.KernelXnIdeal.nD Cert.KernelXnIdeal.τ).loc Cert.KernelXnIdeal.main_arg2)) (m ((c.tc : Thread Cert.KernelXnIdeal.nD Cert.KernelXnIdeal.τ).loc Cert.KernelXnIdeal.main_arg3)) (m ((c.tc : Thread Cert.KernelXnIdeal.nD Cert.KernelXnIdeal.τ).loc Cert.KernelXnIdeal.main_arg4))).2.1 = (fun _ => 1#1)
    ∧ (Cert.Pre_finite_xn.fn (F := Ideal) (m ((c.tc : Thread Cert.KernelXnIdeal.nD Cert.KernelXnIdeal.τ).loc Cert.KernelXnIdeal.main_arg0)) (m ((c.tc : Thread Cert.KernelXnIdeal.nD Cert.KernelXnIdeal.τ).loc Cert.KernelXnIdeal.main_arg1)) (m ((c.tc : Thread Cert.KernelXnIdeal.nD Cert.KernelXnIdeal.τ).loc Cert.KernelXnIdeal.main_arg2)) (m ((c.tc : Thread Cert.KernelXnIdeal.nD Cert.KernelXnIdeal.τ).loc Cert.KernelXnIdeal.main_arg3)) (m ((c.tc : Thread Cert.KernelXnIdeal.nD Cert.KernelXnIdeal.τ).loc Cert.KernelXnIdeal.main_arg4))).2.2.1 = (fun _ => 1#1)
    ∧ (Cert.Pre_finite_xn.fn (F := Ideal) (m ((c.tc : Thread Cert.KernelXnIdeal.nD Cert.KernelXnIdeal.τ).loc Cert.KernelXnIdeal.main_arg0)) (m ((c.tc : Thread Cert.KernelXnIdeal.nD Cert.KernelXnIdeal.τ).loc Cert.KernelXnIdeal.main_arg1)) (m ((c.tc : Thread Cert.KernelXnIdeal.nD Cert.KernelXnIdeal.τ).loc Cert.KernelXnIdeal.main_arg2)) (m ((c.tc : Thread Cert.KernelXnIdeal.nD Cert.KernelXnIdeal.τ).loc Cert.KernelXnIdeal.main_arg3)) (m ((c.tc : Thread Cert.KernelXnIdeal.nD Cert.KernelXnIdeal.τ).loc Cert.KernelXnIdeal.main_arg4))).2.2.2 = (fun _ => 1#1)

def Pre_ReferenceXnIdeal (m : (ℓ : Loc Cert.ReferenceXnIdeal.nD Cert.ReferenceXnIdeal.τ Cert.ReferenceXnIdeal.sig) → Buf (Elt Ideal) ℓ) : Prop :=
  True

def Pre_ReferenceXnIdeal_finite_xn [hPre_finite_xn : Cert.Pre_finite_xn.Facts] (m : (ℓ : Loc Cert.ReferenceXnIdeal.nD Cert.ReferenceXnIdeal.τ Cert.ReferenceXnIdeal.sig) → Buf (Elt Ideal) ℓ) : Prop :=
  ∀ c : Dev Cert.ReferenceXnIdeal.nD,
    (Cert.Pre_finite_xn.fn (F := Ideal) (m ((c.tc : Thread Cert.ReferenceXnIdeal.nD Cert.ReferenceXnIdeal.τ).loc Cert.ReferenceXnIdeal.main_arg0)) (m ((c.tc : Thread Cert.ReferenceXnIdeal.nD Cert.ReferenceXnIdeal.τ).loc Cert.ReferenceXnIdeal.main_arg1)) (m ((c.tc : Thread Cert.ReferenceXnIdeal.nD Cert.ReferenceXnIdeal.τ).loc Cert.ReferenceXnIdeal.main_arg2)) (m ((c.tc : Thread Cert.ReferenceXnIdeal.nD Cert.ReferenceXnIdeal.τ).loc Cert.ReferenceXnIdeal.main_arg3)) (m ((c.tc : Thread Cert.ReferenceXnIdeal.nD Cert.ReferenceXnIdeal.τ).loc Cert.ReferenceXnIdeal.main_arg4))).1 = (fun _ => 1#1)
    ∧ (Cert.Pre_finite_xn.fn (F := Ideal) (m ((c.tc : Thread Cert.ReferenceXnIdeal.nD Cert.ReferenceXnIdeal.τ).loc Cert.ReferenceXnIdeal.main_arg0)) (m ((c.tc : Thread Cert.ReferenceXnIdeal.nD Cert.ReferenceXnIdeal.τ).loc Cert.ReferenceXnIdeal.main_arg1)) (m ((c.tc : Thread Cert.ReferenceXnIdeal.nD Cert.ReferenceXnIdeal.τ).loc Cert.ReferenceXnIdeal.main_arg2)) (m ((c.tc : Thread Cert.ReferenceXnIdeal.nD Cert.ReferenceXnIdeal.τ).loc Cert.ReferenceXnIdeal.main_arg3)) (m ((c.tc : Thread Cert.ReferenceXnIdeal.nD Cert.ReferenceXnIdeal.τ).loc Cert.ReferenceXnIdeal.main_arg4))).2.1 = (fun _ => 1#1)
    ∧ (Cert.Pre_finite_xn.fn (F := Ideal) (m ((c.tc : Thread Cert.ReferenceXnIdeal.nD Cert.ReferenceXnIdeal.τ).loc Cert.ReferenceXnIdeal.main_arg0)) (m ((c.tc : Thread Cert.ReferenceXnIdeal.nD Cert.ReferenceXnIdeal.τ).loc Cert.ReferenceXnIdeal.main_arg1)) (m ((c.tc : Thread Cert.ReferenceXnIdeal.nD Cert.ReferenceXnIdeal.τ).loc Cert.ReferenceXnIdeal.main_arg2)) (m ((c.tc : Thread Cert.ReferenceXnIdeal.nD Cert.ReferenceXnIdeal.τ).loc Cert.ReferenceXnIdeal.main_arg3)) (m ((c.tc : Thread Cert.ReferenceXnIdeal.nD Cert.ReferenceXnIdeal.τ).loc Cert.ReferenceXnIdeal.main_arg4))).2.2.1 = (fun _ => 1#1)
    ∧ (Cert.Pre_finite_xn.fn (F := Ideal) (m ((c.tc : Thread Cert.ReferenceXnIdeal.nD Cert.ReferenceXnIdeal.τ).loc Cert.ReferenceXnIdeal.main_arg0)) (m ((c.tc : Thread Cert.ReferenceXnIdeal.nD Cert.ReferenceXnIdeal.τ).loc Cert.ReferenceXnIdeal.main_arg1)) (m ((c.tc : Thread Cert.ReferenceXnIdeal.nD Cert.ReferenceXnIdeal.τ).loc Cert.ReferenceXnIdeal.main_arg2)) (m ((c.tc : Thread Cert.ReferenceXnIdeal.nD Cert.ReferenceXnIdeal.τ).loc Cert.ReferenceXnIdeal.main_arg3)) (m ((c.tc : Thread Cert.ReferenceXnIdeal.nD Cert.ReferenceXnIdeal.τ).loc Cert.ReferenceXnIdeal.main_arg4))).2.2.2 = (fun _ => 1#1)

def Pre_KernelHm (m : (ℓ : Loc Cert.KernelHm.nD Cert.KernelHm.τ Cert.KernelHm.sig) → Buf (Elt Bits) ℓ) : Prop :=
  True

def Pre_KernelHmIdeal (m : (ℓ : Loc Cert.KernelHmIdeal.nD Cert.KernelHmIdeal.τ Cert.KernelHmIdeal.sig) → Buf (Elt Ideal) ℓ) : Prop :=
  True

def Pre_KernelHmIdeal_finite_hm [hPre_finite_hm : Cert.Pre_finite_hm.Facts] (m : (ℓ : Loc Cert.KernelHmIdeal.nD Cert.KernelHmIdeal.τ Cert.KernelHmIdeal.sig) → Buf (Elt Ideal) ℓ) : Prop :=
  ∀ c : Dev Cert.KernelHmIdeal.nD,
    (Cert.Pre_finite_hm.fn (F := Ideal) (m ((c.tc : Thread Cert.KernelHmIdeal.nD Cert.KernelHmIdeal.τ).loc Cert.KernelHmIdeal.main_arg0)) (m ((c.tc : Thread Cert.KernelHmIdeal.nD Cert.KernelHmIdeal.τ).loc Cert.KernelHmIdeal.main_arg1)) (m ((c.tc : Thread Cert.KernelHmIdeal.nD Cert.KernelHmIdeal.τ).loc Cert.KernelHmIdeal.main_arg2)) (m ((c.tc : Thread Cert.KernelHmIdeal.nD Cert.KernelHmIdeal.τ).loc Cert.KernelHmIdeal.main_arg3)) (m ((c.tc : Thread Cert.KernelHmIdeal.nD Cert.KernelHmIdeal.τ).loc Cert.KernelHmIdeal.main_arg4))).1 = (fun _ => 1#1)
    ∧ (Cert.Pre_finite_hm.fn (F := Ideal) (m ((c.tc : Thread Cert.KernelHmIdeal.nD Cert.KernelHmIdeal.τ).loc Cert.KernelHmIdeal.main_arg0)) (m ((c.tc : Thread Cert.KernelHmIdeal.nD Cert.KernelHmIdeal.τ).loc Cert.KernelHmIdeal.main_arg1)) (m ((c.tc : Thread Cert.KernelHmIdeal.nD Cert.KernelHmIdeal.τ).loc Cert.KernelHmIdeal.main_arg2)) (m ((c.tc : Thread Cert.KernelHmIdeal.nD Cert.KernelHmIdeal.τ).loc Cert.KernelHmIdeal.main_arg3)) (m ((c.tc : Thread Cert.KernelHmIdeal.nD Cert.KernelHmIdeal.τ).loc Cert.KernelHmIdeal.main_arg4))).2.1 = (fun _ => 1#1)
    ∧ (Cert.Pre_finite_hm.fn (F := Ideal) (m ((c.tc : Thread Cert.KernelHmIdeal.nD Cert.KernelHmIdeal.τ).loc Cert.KernelHmIdeal.main_arg0)) (m ((c.tc : Thread Cert.KernelHmIdeal.nD Cert.KernelHmIdeal.τ).loc Cert.KernelHmIdeal.main_arg1)) (m ((c.tc : Thread Cert.KernelHmIdeal.nD Cert.KernelHmIdeal.τ).loc Cert.KernelHmIdeal.main_arg2)) (m ((c.tc : Thread Cert.KernelHmIdeal.nD Cert.KernelHmIdeal.τ).loc Cert.KernelHmIdeal.main_arg3)) (m ((c.tc : Thread Cert.KernelHmIdeal.nD Cert.KernelHmIdeal.τ).loc Cert.KernelHmIdeal.main_arg4))).2.2.1 = (fun _ => 1#1)
    ∧ (Cert.Pre_finite_hm.fn (F := Ideal) (m ((c.tc : Thread Cert.KernelHmIdeal.nD Cert.KernelHmIdeal.τ).loc Cert.KernelHmIdeal.main_arg0)) (m ((c.tc : Thread Cert.KernelHmIdeal.nD Cert.KernelHmIdeal.τ).loc Cert.KernelHmIdeal.main_arg1)) (m ((c.tc : Thread Cert.KernelHmIdeal.nD Cert.KernelHmIdeal.τ).loc Cert.KernelHmIdeal.main_arg2)) (m ((c.tc : Thread Cert.KernelHmIdeal.nD Cert.KernelHmIdeal.τ).loc Cert.KernelHmIdeal.main_arg3)) (m ((c.tc : Thread Cert.KernelHmIdeal.nD Cert.KernelHmIdeal.τ).loc Cert.KernelHmIdeal.main_arg4))).2.2.2 = (fun _ => 1#1)

def Pre_ReferenceHmIdeal (m : (ℓ : Loc Cert.ReferenceHmIdeal.nD Cert.ReferenceHmIdeal.τ Cert.ReferenceHmIdeal.sig) → Buf (Elt Ideal) ℓ) : Prop :=
  True

def Pre_ReferenceHmIdeal_finite_hm [hPre_finite_hm : Cert.Pre_finite_hm.Facts] (m : (ℓ : Loc Cert.ReferenceHmIdeal.nD Cert.ReferenceHmIdeal.τ Cert.ReferenceHmIdeal.sig) → Buf (Elt Ideal) ℓ) : Prop :=
  ∀ c : Dev Cert.ReferenceHmIdeal.nD,
    (Cert.Pre_finite_hm.fn (F := Ideal) (m ((c.tc : Thread Cert.ReferenceHmIdeal.nD Cert.ReferenceHmIdeal.τ).loc Cert.ReferenceHmIdeal.main_arg0)) (m ((c.tc : Thread Cert.ReferenceHmIdeal.nD Cert.ReferenceHmIdeal.τ).loc Cert.ReferenceHmIdeal.main_arg1)) (m ((c.tc : Thread Cert.ReferenceHmIdeal.nD Cert.ReferenceHmIdeal.τ).loc Cert.ReferenceHmIdeal.main_arg2)) (m ((c.tc : Thread Cert.ReferenceHmIdeal.nD Cert.ReferenceHmIdeal.τ).loc Cert.ReferenceHmIdeal.main_arg3)) (m ((c.tc : Thread Cert.ReferenceHmIdeal.nD Cert.ReferenceHmIdeal.τ).loc Cert.ReferenceHmIdeal.main_arg4))).1 = (fun _ => 1#1)
    ∧ (Cert.Pre_finite_hm.fn (F := Ideal) (m ((c.tc : Thread Cert.ReferenceHmIdeal.nD Cert.ReferenceHmIdeal.τ).loc Cert.ReferenceHmIdeal.main_arg0)) (m ((c.tc : Thread Cert.ReferenceHmIdeal.nD Cert.ReferenceHmIdeal.τ).loc Cert.ReferenceHmIdeal.main_arg1)) (m ((c.tc : Thread Cert.ReferenceHmIdeal.nD Cert.ReferenceHmIdeal.τ).loc Cert.ReferenceHmIdeal.main_arg2)) (m ((c.tc : Thread Cert.ReferenceHmIdeal.nD Cert.ReferenceHmIdeal.τ).loc Cert.ReferenceHmIdeal.main_arg3)) (m ((c.tc : Thread Cert.ReferenceHmIdeal.nD Cert.ReferenceHmIdeal.τ).loc Cert.ReferenceHmIdeal.main_arg4))).2.1 = (fun _ => 1#1)
    ∧ (Cert.Pre_finite_hm.fn (F := Ideal) (m ((c.tc : Thread Cert.ReferenceHmIdeal.nD Cert.ReferenceHmIdeal.τ).loc Cert.ReferenceHmIdeal.main_arg0)) (m ((c.tc : Thread Cert.ReferenceHmIdeal.nD Cert.ReferenceHmIdeal.τ).loc Cert.ReferenceHmIdeal.main_arg1)) (m ((c.tc : Thread Cert.ReferenceHmIdeal.nD Cert.ReferenceHmIdeal.τ).loc Cert.ReferenceHmIdeal.main_arg2)) (m ((c.tc : Thread Cert.ReferenceHmIdeal.nD Cert.ReferenceHmIdeal.τ).loc Cert.ReferenceHmIdeal.main_arg3)) (m ((c.tc : Thread Cert.ReferenceHmIdeal.nD Cert.ReferenceHmIdeal.τ).loc Cert.ReferenceHmIdeal.main_arg4))).2.2.1 = (fun _ => 1#1)
    ∧ (Cert.Pre_finite_hm.fn (F := Ideal) (m ((c.tc : Thread Cert.ReferenceHmIdeal.nD Cert.ReferenceHmIdeal.τ).loc Cert.ReferenceHmIdeal.main_arg0)) (m ((c.tc : Thread Cert.ReferenceHmIdeal.nD Cert.ReferenceHmIdeal.τ).loc Cert.ReferenceHmIdeal.main_arg1)) (m ((c.tc : Thread Cert.ReferenceHmIdeal.nD Cert.ReferenceHmIdeal.τ).loc Cert.ReferenceHmIdeal.main_arg2)) (m ((c.tc : Thread Cert.ReferenceHmIdeal.nD Cert.ReferenceHmIdeal.τ).loc Cert.ReferenceHmIdeal.main_arg3)) (m ((c.tc : Thread Cert.ReferenceHmIdeal.nD Cert.ReferenceHmIdeal.τ).loc Cert.ReferenceHmIdeal.main_arg4))).2.2.2 = (fun _ => 1#1)

def Pre_KernelDact (m : (ℓ : Loc Cert.KernelDact.nD Cert.KernelDact.τ Cert.KernelDact.sig) → Buf (Elt Bits) ℓ) : Prop :=
  True

def Pre_KernelDactIdeal (m : (ℓ : Loc Cert.KernelDactIdeal.nD Cert.KernelDactIdeal.τ Cert.KernelDactIdeal.sig) → Buf (Elt Ideal) ℓ) : Prop :=
  True

def Pre_ReferenceDactIdeal (m : (ℓ : Loc Cert.ReferenceDactIdeal.nD Cert.ReferenceDactIdeal.τ Cert.ReferenceDactIdeal.sig) → Buf (Elt Ideal) ℓ) : Prop :=
  True

def Pre_KernelDwdown (m : (ℓ : Loc Cert.KernelDwdown.nD Cert.KernelDwdown.τ Cert.KernelDwdown.sig) → Buf (Elt Bits) ℓ) : Prop :=
  True

def Pre_KernelDwdownIdeal (m : (ℓ : Loc Cert.KernelDwdownIdeal.nD Cert.KernelDwdownIdeal.τ Cert.KernelDwdownIdeal.sig) → Buf (Elt Ideal) ℓ) : Prop :=
  True

def Pre_ReferenceDwdownIdeal (m : (ℓ : Loc Cert.ReferenceDwdownIdeal.nD Cert.ReferenceDwdownIdeal.τ Cert.ReferenceDwdownIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.2.2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.2.2.2 = (fun _ => 1#1)

def Pre_KernelDy (m : (ℓ : Loc Cert.KernelDy.nD Cert.KernelDy.τ Cert.KernelDy.sig) → Buf (Elt Bits) ℓ) : Prop :=
  True

def Pre_KernelDyIdeal (m : (ℓ : Loc Cert.KernelDyIdeal.nD Cert.KernelDyIdeal.τ Cert.KernelDyIdeal.sig) → Buf (Elt Ideal) ℓ) : Prop :=
  True

def Pre_ReferenceDyIdeal (m : (ℓ : Loc Cert.ReferenceDyIdeal.nD Cert.ReferenceDyIdeal.τ Cert.ReferenceDyIdeal.sig) → Buf (Elt Ideal) ℓ) : Prop :=
  True

def Pre_KernelXattf (m : (ℓ : Loc Cert.KernelXattf.nD Cert.KernelXattf.τ Cert.KernelXattf.sig) → Buf (Elt Bits) ℓ) : Prop :=
  True

def Pre_KernelXattfIdeal (m : (ℓ : Loc Cert.KernelXattfIdeal.nD Cert.KernelXattfIdeal.τ Cert.KernelXattfIdeal.sig) → Buf (Elt Ideal) ℓ) : Prop :=
  True

def Pre_KernelXattfIdeal_finite_xattf [hPre_finite_xattf : Cert.Pre_finite_xattf.Facts] (m : (ℓ : Loc Cert.KernelXattfIdeal.nD Cert.KernelXattfIdeal.τ Cert.KernelXattfIdeal.sig) → Buf (Elt Ideal) ℓ) : Prop :=
  ∀ c : Dev Cert.KernelXattfIdeal.nD,
    (Cert.Pre_finite_xattf.fn (F := Ideal) (m ((c.tc : Thread Cert.KernelXattfIdeal.nD Cert.KernelXattfIdeal.τ).loc Cert.KernelXattfIdeal.main_arg0)) (m ((c.tc : Thread Cert.KernelXattfIdeal.nD Cert.KernelXattfIdeal.τ).loc Cert.KernelXattfIdeal.main_arg1)) (m ((c.tc : Thread Cert.KernelXattfIdeal.nD Cert.KernelXattfIdeal.τ).loc Cert.KernelXattfIdeal.main_arg2))).1 = (fun _ => 1#1)
    ∧ (Cert.Pre_finite_xattf.fn (F := Ideal) (m ((c.tc : Thread Cert.KernelXattfIdeal.nD Cert.KernelXattfIdeal.τ).loc Cert.KernelXattfIdeal.main_arg0)) (m ((c.tc : Thread Cert.KernelXattfIdeal.nD Cert.KernelXattfIdeal.τ).loc Cert.KernelXattfIdeal.main_arg1)) (m ((c.tc : Thread Cert.KernelXattfIdeal.nD Cert.KernelXattfIdeal.τ).loc Cert.KernelXattfIdeal.main_arg2))).2 = (fun _ => 1#1)

def Pre_ReferenceXattfIdeal (m : (ℓ : Loc Cert.ReferenceXattfIdeal.nD Cert.ReferenceXattfIdeal.τ Cert.ReferenceXattfIdeal.sig) → Buf (Elt Ideal) ℓ) : Prop :=
  True

def Pre_ReferenceXattfIdeal_finite_xattf [hPre_finite_xattf : Cert.Pre_finite_xattf.Facts] (m : (ℓ : Loc Cert.ReferenceXattfIdeal.nD Cert.ReferenceXattfIdeal.τ Cert.ReferenceXattfIdeal.sig) → Buf (Elt Ideal) ℓ) : Prop :=
  ∀ c : Dev Cert.ReferenceXattfIdeal.nD,
    (Cert.Pre_finite_xattf.fn (F := Ideal) (m ((c.tc : Thread Cert.ReferenceXattfIdeal.nD Cert.ReferenceXattfIdeal.τ).loc Cert.ReferenceXattfIdeal.main_arg0)) (m ((c.tc : Thread Cert.ReferenceXattfIdeal.nD Cert.ReferenceXattfIdeal.τ).loc Cert.ReferenceXattfIdeal.main_arg1)) (m ((c.tc : Thread Cert.ReferenceXattfIdeal.nD Cert.ReferenceXattfIdeal.τ).loc Cert.ReferenceXattfIdeal.main_arg2))).1 = (fun _ => 1#1)
    ∧ (Cert.Pre_finite_xattf.fn (F := Ideal) (m ((c.tc : Thread Cert.ReferenceXattfIdeal.nD Cert.ReferenceXattfIdeal.τ).loc Cert.ReferenceXattfIdeal.main_arg0)) (m ((c.tc : Thread Cert.ReferenceXattfIdeal.nD Cert.ReferenceXattfIdeal.τ).loc Cert.ReferenceXattfIdeal.main_arg1)) (m ((c.tc : Thread Cert.ReferenceXattfIdeal.nD Cert.ReferenceXattfIdeal.τ).loc Cert.ReferenceXattfIdeal.main_arg2))).2 = (fun _ => 1#1)

def Pre_KernelAttf1 (m : (ℓ : Loc Cert.KernelAttf1.nD Cert.KernelAttf1.τ Cert.KernelAttf1.sig) → Buf (Elt Bits) ℓ) : Prop :=
  True

def Pre_KernelAttf1Ideal (m : (ℓ : Loc Cert.KernelAttf1Ideal.nD Cert.KernelAttf1Ideal.τ Cert.KernelAttf1Ideal.sig) → Buf (Elt Ideal) ℓ) : Prop :=
  True

def Pre_KernelAttf1Ideal_finite_attf1 [hPre_finite_attf1 : Cert.Pre_finite_attf1.Facts] (m : (ℓ : Loc Cert.KernelAttf1Ideal.nD Cert.KernelAttf1Ideal.τ Cert.KernelAttf1Ideal.sig) → Buf (Elt Ideal) ℓ) : Prop :=
  ∀ c : Dev Cert.KernelAttf1Ideal.nD,
    (Cert.Pre_finite_attf1.fn (F := Ideal) (m ((c.tc : Thread Cert.KernelAttf1Ideal.nD Cert.KernelAttf1Ideal.τ).loc Cert.KernelAttf1Ideal.main_arg0)) (m ((c.tc : Thread Cert.KernelAttf1Ideal.nD Cert.KernelAttf1Ideal.τ).loc Cert.KernelAttf1Ideal.main_arg1))) = (fun _ => 1#1)

def Pre_ReferenceAttf1Ideal (m : (ℓ : Loc Cert.ReferenceAttf1Ideal.nD Cert.ReferenceAttf1Ideal.τ Cert.ReferenceAttf1Ideal.sig) → Buf (Elt Ideal) ℓ) : Prop :=
  True

def Pre_ReferenceAttf1Ideal_finite_attf1 [hPre_finite_attf1 : Cert.Pre_finite_attf1.Facts] (m : (ℓ : Loc Cert.ReferenceAttf1Ideal.nD Cert.ReferenceAttf1Ideal.τ Cert.ReferenceAttf1Ideal.sig) → Buf (Elt Ideal) ℓ) : Prop :=
  ∀ c : Dev Cert.ReferenceAttf1Ideal.nD,
    (Cert.Pre_finite_attf1.fn (F := Ideal) (m ((c.tc : Thread Cert.ReferenceAttf1Ideal.nD Cert.ReferenceAttf1Ideal.τ).loc Cert.ReferenceAttf1Ideal.main_arg0)) (m ((c.tc : Thread Cert.ReferenceAttf1Ideal.nD Cert.ReferenceAttf1Ideal.τ).loc Cert.ReferenceAttf1Ideal.main_arg1))) = (fun _ => 1#1)

def Pre_KernelAttf4 (m : (ℓ : Loc Cert.KernelAttf4.nD Cert.KernelAttf4.τ Cert.KernelAttf4.sig) → Buf (Elt Bits) ℓ) : Prop :=
  True

def Pre_KernelAttf4Ideal (m : (ℓ : Loc Cert.KernelAttf4Ideal.nD Cert.KernelAttf4Ideal.τ Cert.KernelAttf4Ideal.sig) → Buf (Elt Ideal) ℓ) : Prop :=
  True

def Pre_KernelAttf4Ideal_finite_attf4 [hPre_finite_attf4 : Cert.Pre_finite_attf4.Facts] (m : (ℓ : Loc Cert.KernelAttf4Ideal.nD Cert.KernelAttf4Ideal.τ Cert.KernelAttf4Ideal.sig) → Buf (Elt Ideal) ℓ) : Prop :=
  ∀ c : Dev Cert.KernelAttf4Ideal.nD,
    (Cert.Pre_finite_attf4.fn (F := Ideal) (m ((c.tc : Thread Cert.KernelAttf4Ideal.nD Cert.KernelAttf4Ideal.τ).loc Cert.KernelAttf4Ideal.main_arg0)) (m ((c.tc : Thread Cert.KernelAttf4Ideal.nD Cert.KernelAttf4Ideal.τ).loc Cert.KernelAttf4Ideal.main_arg1))) = (fun _ => 1#1)

def Pre_ReferenceAttf4Ideal (m : (ℓ : Loc Cert.ReferenceAttf4Ideal.nD Cert.ReferenceAttf4Ideal.τ Cert.ReferenceAttf4Ideal.sig) → Buf (Elt Ideal) ℓ) : Prop :=
  True

def Pre_ReferenceAttf4Ideal_finite_attf4 [hPre_finite_attf4 : Cert.Pre_finite_attf4.Facts] (m : (ℓ : Loc Cert.ReferenceAttf4Ideal.nD Cert.ReferenceAttf4Ideal.τ Cert.ReferenceAttf4Ideal.sig) → Buf (Elt Ideal) ℓ) : Prop :=
  ∀ c : Dev Cert.ReferenceAttf4Ideal.nD,
    (Cert.Pre_finite_attf4.fn (F := Ideal) (m ((c.tc : Thread Cert.ReferenceAttf4Ideal.nD Cert.ReferenceAttf4Ideal.τ).loc Cert.ReferenceAttf4Ideal.main_arg0)) (m ((c.tc : Thread Cert.ReferenceAttf4Ideal.nD Cert.ReferenceAttf4Ideal.τ).loc Cert.ReferenceAttf4Ideal.main_arg1))) = (fun _ => 1#1)

def Pre_KernelAttf16 (m : (ℓ : Loc Cert.KernelAttf16.nD Cert.KernelAttf16.τ Cert.KernelAttf16.sig) → Buf (Elt Bits) ℓ) : Prop :=
  True

def Pre_KernelAttf16Ideal (m : (ℓ : Loc Cert.KernelAttf16Ideal.nD Cert.KernelAttf16Ideal.τ Cert.KernelAttf16Ideal.sig) → Buf (Elt Ideal) ℓ) : Prop :=
  True

def Pre_KernelAttf16Ideal_finite_attf16 [hPre_finite_attf16 : Cert.Pre_finite_attf16.Facts] (m : (ℓ : Loc Cert.KernelAttf16Ideal.nD Cert.KernelAttf16Ideal.τ Cert.KernelAttf16Ideal.sig) → Buf (Elt Ideal) ℓ) : Prop :=
  ∀ c : Dev Cert.KernelAttf16Ideal.nD,
    (Cert.Pre_finite_attf16.fn (F := Ideal) (m ((c.tc : Thread Cert.KernelAttf16Ideal.nD Cert.KernelAttf16Ideal.τ).loc Cert.KernelAttf16Ideal.main_arg0)) (m ((c.tc : Thread Cert.KernelAttf16Ideal.nD Cert.KernelAttf16Ideal.τ).loc Cert.KernelAttf16Ideal.main_arg1))) = (fun _ => 1#1)

def Pre_ReferenceAttf16Ideal (m : (ℓ : Loc Cert.ReferenceAttf16Ideal.nD Cert.ReferenceAttf16Ideal.τ Cert.ReferenceAttf16Ideal.sig) → Buf (Elt Ideal) ℓ) : Prop :=
  True

def Pre_ReferenceAttf16Ideal_finite_attf16 [hPre_finite_attf16 : Cert.Pre_finite_attf16.Facts] (m : (ℓ : Loc Cert.ReferenceAttf16Ideal.nD Cert.ReferenceAttf16Ideal.τ Cert.ReferenceAttf16Ideal.sig) → Buf (Elt Ideal) ℓ) : Prop :=
  ∀ c : Dev Cert.ReferenceAttf16Ideal.nD,
    (Cert.Pre_finite_attf16.fn (F := Ideal) (m ((c.tc : Thread Cert.ReferenceAttf16Ideal.nD Cert.ReferenceAttf16Ideal.τ).loc Cert.ReferenceAttf16Ideal.main_arg0)) (m ((c.tc : Thread Cert.ReferenceAttf16Ideal.nD Cert.ReferenceAttf16Ideal.τ).loc Cert.ReferenceAttf16Ideal.main_arg1))) = (fun _ => 1#1)

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def Pre_KernelXo (m : (ℓ : Loc Cert.KernelXo.nD Cert.KernelXo.τ Cert.KernelXo.sig) → Buf (Elt Bits) ℓ) : Prop :=
  True

def Pre_KernelXoIdeal (m : (ℓ : Loc Cert.KernelXoIdeal.nD Cert.KernelXoIdeal.τ Cert.KernelXoIdeal.sig) → Buf (Elt Ideal) ℓ) : Prop :=
  True

def Pre_ReferenceXoIdeal (m : (ℓ : Loc Cert.ReferenceXoIdeal.nD Cert.ReferenceXoIdeal.τ Cert.ReferenceXoIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDelta (m : (ℓ : Loc Cert.KernelDelta.nD Cert.KernelDelta.τ Cert.KernelDelta.sig) → Buf (Elt Bits) ℓ) : Prop :=
  True

def Pre_KernelDeltaIdeal (m : (ℓ : Loc Cert.KernelDeltaIdeal.nD Cert.KernelDeltaIdeal.τ Cert.KernelDeltaIdeal.sig) → Buf (Elt Ideal) ℓ) : Prop :=
  True

def Pre_ReferenceDeltaIdeal (m : (ℓ : Loc Cert.ReferenceDeltaIdeal.nD Cert.ReferenceDeltaIdeal.τ Cert.ReferenceDeltaIdeal.sig) → Buf (Elt Ideal) ℓ) : Prop :=
  True

def Pre_KernelDwup (m : (ℓ : Loc Cert.KernelDwup.nD Cert.KernelDwup.τ Cert.KernelDwup.sig) → Buf (Elt Bits) ℓ) : Prop :=
  True

def Pre_KernelDwupIdeal (m : (ℓ : Loc Cert.KernelDwupIdeal.nD Cert.KernelDwupIdeal.τ Cert.KernelDwupIdeal.sig) → Buf (Elt Ideal) ℓ) : Prop :=
  True

def Pre_ReferenceDwupIdeal (m : (ℓ : Loc Cert.ReferenceDwupIdeal.nD Cert.ReferenceDwupIdeal.τ Cert.ReferenceDwupIdeal.sig) → Buf (Elt Ideal) ℓ) : Prop :=
  True

def Pre_KernelDxo (m : (ℓ : Loc Cert.KernelDxo.nD Cert.KernelDxo.τ Cert.KernelDxo.sig) → Buf (Elt Bits) ℓ) : Prop :=
  True

def Pre_KernelDxoIdeal (m : (ℓ : Loc Cert.KernelDxoIdeal.nD Cert.KernelDxoIdeal.τ Cert.KernelDxoIdeal.sig) → Buf (Elt Ideal) ℓ) : Prop :=
  True

def Pre_ReferenceDxoIdeal (m : (ℓ : Loc Cert.ReferenceDxoIdeal.nD Cert.ReferenceDxoIdeal.τ Cert.ReferenceDxoIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def Pre_KernelComb (m : (ℓ : Loc Cert.KernelComb.nD Cert.KernelComb.τ Cert.KernelComb.sig) → Buf (Elt Bits) ℓ) : Prop :=
  True

def Pre_KernelCombIdeal (m : (ℓ : Loc Cert.KernelCombIdeal.nD Cert.KernelCombIdeal.τ Cert.KernelCombIdeal.sig) → Buf (Elt Ideal) ℓ) : Prop :=
  True

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ r.2.sem = fun _ => 0)

def quiescent_KernelMemIdeal_pre_finite_mem [hKernelMemIdeal : Cert.KernelMemIdeal.Facts] [hPre_finite_mem : Cert.Pre_finite_mem.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal_finite_mem m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2))
      ∧ r.2.sem = fun _ => 0)

def quiescent_ReferenceMemIdeal_pre_finite_mem [hReferenceMemIdeal : Cert.ReferenceMemIdeal.Facts] [hPre_finite_mem : Cert.Pre_finite_mem.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal_finite_mem m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2))
      ∧ r.2.sem = fun _ => 0)

def quiescent_KernelXatt [hKernelXatt : Cert.KernelXatt.Facts] : Prop :=
  ∀ (m : (ℓ : Loc Cert.KernelXatt.nD Cert.KernelXatt.τ Cert.KernelXatt.sig) → Buf (Elt Bits) ℓ) (g : Dev Cert.KernelXatt.nD → PrngReg), Pre_KernelXatt m →
    θ_run (Cert.KernelXatt.defs (F := Bits)) (onTc (τ := Cert.KernelXatt.τ) (Cert.KernelXatt.main (F := Bits))) ⟨m, fun _ => 0, g⟩ (fun r => (∀ c : Dev Cert.KernelXatt.nD,
      r.2.mem ((c.tc : Thread Cert.KernelXatt.nD Cert.KernelXatt.τ).loc Cert.KernelXatt.main_arg0) = m ((c.tc : Thread Cert.KernelXatt.nD Cert.KernelXatt.τ).loc Cert.KernelXatt.main_arg0)
      ∧ r.2.mem ((c.tc : Thread Cert.KernelXatt.nD Cert.KernelXatt.τ).loc Cert.KernelXatt.main_arg1) = m ((c.tc : Thread Cert.KernelXatt.nD Cert.KernelXatt.τ).loc Cert.KernelXatt.main_arg1)
      ∧ r.2.mem ((c.tc : Thread Cert.KernelXatt.nD Cert.KernelXatt.τ).loc Cert.KernelXatt.main_arg2) = m ((c.tc : Thread Cert.KernelXatt.nD Cert.KernelXatt.τ).loc Cert.KernelXatt.main_arg2)
      ∧ r.2.mem ((c.tc : Thread Cert.KernelXatt.nD Cert.KernelXatt.τ).loc Cert.KernelXatt.main_arg3) = m ((c.tc : Thread Cert.KernelXatt.nD Cert.KernelXatt.τ).loc Cert.KernelXatt.main_arg3))
      ∧ r.2.sem = fun _ => 0)

def quiescent_KernelXattIdeal [hKernelXattIdeal : Cert.KernelXattIdeal.Facts] : Prop :=
  ∀ (m : (ℓ : Loc Cert.KernelXattIdeal.nD Cert.KernelXattIdeal.τ Cert.KernelXattIdeal.sig) → Buf (Elt Ideal) ℓ) (g : Dev Cert.KernelXattIdeal.nD → PrngReg), Pre_KernelXattIdeal m →
    θ_run (Cert.KernelXattIdeal.defs (F := Ideal)) (onTc (τ := Cert.KernelXattIdeal.τ) (Cert.KernelXattIdeal.main (F := Ideal))) ⟨m, fun _ => 0, g⟩ (fun r => (∀ c : Dev Cert.KernelXattIdeal.nD,
      r.2.mem ((c.tc : Thread Cert.KernelXattIdeal.nD Cert.KernelXattIdeal.τ).loc Cert.KernelXattIdeal.main_arg0) = m ((c.tc : Thread Cert.KernelXattIdeal.nD Cert.KernelXattIdeal.τ).loc Cert.KernelXattIdeal.main_arg0)
      ∧ r.2.mem ((c.tc : Thread Cert.KernelXattIdeal.nD Cert.KernelXattIdeal.τ).loc Cert.KernelXattIdeal.main_arg1) = m ((c.tc : Thread Cert.KernelXattIdeal.nD Cert.KernelXattIdeal.τ).loc Cert.KernelXattIdeal.main_arg1)
      ∧ r.2.mem ((c.tc : Thread Cert.KernelXattIdeal.nD Cert.KernelXattIdeal.τ).loc Cert.KernelXattIdeal.main_arg2) = m ((c.tc : Thread Cert.KernelXattIdeal.nD Cert.KernelXattIdeal.τ).loc Cert.KernelXattIdeal.main_arg2)
      ∧ r.2.mem ((c.tc : Thread Cert.KernelXattIdeal.nD Cert.KernelXattIdeal.τ).loc Cert.KernelXattIdeal.main_arg3) = m ((c.tc : Thread Cert.KernelXattIdeal.nD Cert.KernelXattIdeal.τ).loc Cert.KernelXattIdeal.main_arg3))
      ∧ r.2.sem = fun _ => 0)

def quiescent_KernelXattIdeal_pre_finite_xatt [hKernelXattIdeal : Cert.KernelXattIdeal.Facts] [hPre_finite_xatt : Cert.Pre_finite_xatt.Facts] : Prop :=
  ∀ (m : (ℓ : Loc Cert.KernelXattIdeal.nD Cert.KernelXattIdeal.τ Cert.KernelXattIdeal.sig) → Buf (Elt Ideal) ℓ) (g : Dev Cert.KernelXattIdeal.nD → PrngReg), Pre_KernelXattIdeal_finite_xatt m →
    θ_run (Cert.KernelXattIdeal.defs (F := Ideal)) (onTc (τ := Cert.KernelXattIdeal.τ) (Cert.KernelXattIdeal.main (F := Ideal))) ⟨m, fun _ => 0, g⟩ (fun r => (∀ c : Dev Cert.KernelXattIdeal.nD,
      r.2.mem ((c.tc : Thread Cert.KernelXattIdeal.nD Cert.KernelXattIdeal.τ).loc Cert.KernelXattIdeal.main_arg0) = m ((c.tc : Thread Cert.KernelXattIdeal.nD Cert.KernelXattIdeal.τ).loc Cert.KernelXattIdeal.main_arg0)
      ∧ r.2.mem ((c.tc : Thread Cert.KernelXattIdeal.nD Cert.KernelXattIdeal.τ).loc Cert.KernelXattIdeal.main_arg1) = m ((c.tc : Thread Cert.KernelXattIdeal.nD Cert.KernelXattIdeal.τ).loc Cert.KernelXattIdeal.main_arg1)
      ∧ r.2.mem ((c.tc : Thread Cert.KernelXattIdeal.nD Cert.KernelXattIdeal.τ).loc Cert.KernelXattIdeal.main_arg2) = m ((c.tc : Thread Cert.KernelXattIdeal.nD Cert.KernelXattIdeal.τ).loc Cert.KernelXattIdeal.main_arg2)
      ∧ r.2.mem ((c.tc : Thread Cert.KernelXattIdeal.nD Cert.KernelXattIdeal.τ).loc Cert.KernelXattIdeal.main_arg3) = m ((c.tc : Thread Cert.KernelXattIdeal.nD Cert.KernelXattIdeal.τ).loc Cert.KernelXattIdeal.main_arg3))
      ∧ r.2.sem = fun _ => 0)

def quiescent_ReferenceXattIdeal [hReferenceXattIdeal : Cert.ReferenceXattIdeal.Facts] : Prop :=
  ∀ (m : (ℓ : Loc Cert.ReferenceXattIdeal.nD Cert.ReferenceXattIdeal.τ Cert.ReferenceXattIdeal.sig) → Buf (Elt Ideal) ℓ) (g : Dev Cert.ReferenceXattIdeal.nD → PrngReg), Pre_ReferenceXattIdeal m →
    θ_run (Cert.ReferenceXattIdeal.defs (F := Ideal)) (onTc (τ := Cert.ReferenceXattIdeal.τ) (Cert.ReferenceXattIdeal.main (F := Ideal))) ⟨m, fun _ => 0, g⟩ (fun r => (∀ c : Dev Cert.ReferenceXattIdeal.nD,
      r.2.mem ((c.tc : Thread Cert.ReferenceXattIdeal.nD Cert.ReferenceXattIdeal.τ).loc Cert.ReferenceXattIdeal.main_arg0) = m ((c.tc : Thread Cert.ReferenceXattIdeal.nD Cert.ReferenceXattIdeal.τ).loc Cert.ReferenceXattIdeal.main_arg0)
      ∧ r.2.mem ((c.tc : Thread Cert.ReferenceXattIdeal.nD Cert.ReferenceXattIdeal.τ).loc Cert.ReferenceXattIdeal.main_arg1) = m ((c.tc : Thread Cert.ReferenceXattIdeal.nD Cert.ReferenceXattIdeal.τ).loc Cert.ReferenceXattIdeal.main_arg1)
      ∧ r.2.mem ((c.tc : Thread Cert.ReferenceXattIdeal.nD Cert.ReferenceXattIdeal.τ).loc Cert.ReferenceXattIdeal.main_arg2) = m ((c.tc : Thread Cert.ReferenceXattIdeal.nD Cert.ReferenceXattIdeal.τ).loc Cert.ReferenceXattIdeal.main_arg2)
      ∧ r.2.mem ((c.tc : Thread Cert.ReferenceXattIdeal.nD Cert.ReferenceXattIdeal.τ).loc Cert.ReferenceXattIdeal.main_arg3) = m ((c.tc : Thread Cert.ReferenceXattIdeal.nD Cert.ReferenceXattIdeal.τ).loc Cert.ReferenceXattIdeal.main_arg3))
      ∧ r.2.sem = fun _ => 0)

def quiescent_ReferenceXattIdeal_pre_finite_xatt [hReferenceXattIdeal : Cert.ReferenceXattIdeal.Facts] [hPre_finite_xatt : Cert.Pre_finite_xatt.Facts] : Prop :=
  ∀ (m : (ℓ : Loc Cert.ReferenceXattIdeal.nD Cert.ReferenceXattIdeal.τ Cert.ReferenceXattIdeal.sig) → Buf (Elt Ideal) ℓ) (g : Dev Cert.ReferenceXattIdeal.nD → PrngReg), Pre_ReferenceXattIdeal_finite_xatt m →
    θ_run (Cert.ReferenceXattIdeal.defs (F := Ideal)) (onTc (τ := Cert.ReferenceXattIdeal.τ) (Cert.ReferenceXattIdeal.main (F := Ideal))) ⟨m, fun _ => 0, g⟩ (fun r => (∀ c : Dev Cert.ReferenceXattIdeal.nD,
      r.2.mem ((c.tc : Thread Cert.ReferenceXattIdeal.nD Cert.ReferenceXattIdeal.τ).loc Cert.ReferenceXattIdeal.main_arg0) = m ((c.tc : Thread Cert.ReferenceXattIdeal.nD Cert.ReferenceXattIdeal.τ).loc Cert.ReferenceXattIdeal.main_arg0)
      ∧ r.2.mem ((c.tc : Thread Cert.ReferenceXattIdeal.nD Cert.ReferenceXattIdeal.τ).loc Cert.ReferenceXattIdeal.main_arg1) = m ((c.tc : Thread Cert.ReferenceXattIdeal.nD Cert.ReferenceXattIdeal.τ).loc Cert.ReferenceXattIdeal.main_arg1)
      ∧ r.2.mem ((c.tc : Thread Cert.ReferenceXattIdeal.nD Cert.ReferenceXattIdeal.τ).loc Cert.ReferenceXattIdeal.main_arg2) = m ((c.tc : Thread Cert.ReferenceXattIdeal.nD Cert.ReferenceXattIdeal.τ).loc Cert.ReferenceXattIdeal.main_arg2)
      ∧ r.2.mem ((c.tc : Thread Cert.ReferenceXattIdeal.nD Cert.ReferenceXattIdeal.τ).loc Cert.ReferenceXattIdeal.main_arg3) = m ((c.tc : Thread Cert.ReferenceXattIdeal.nD Cert.ReferenceXattIdeal.τ).loc Cert.ReferenceXattIdeal.main_arg3))
      ∧ r.2.sem = fun _ => 0)

def quiescent_KernelHn [hKernelHn : Cert.KernelHn.Facts] : Prop :=
  ∀ (m : (ℓ : Loc Cert.KernelHn.nD Cert.KernelHn.τ Cert.KernelHn.sig) → Buf (Elt Bits) ℓ) (g : Dev Cert.KernelHn.nD → PrngReg), Pre_KernelHn m →
    θ_run (Cert.KernelHn.defs (F := Bits)) (onTc (τ := Cert.KernelHn.τ) (Cert.KernelHn.main (F := Bits))) ⟨m, fun _ => 0, g⟩ (fun r => (∀ c : Dev Cert.KernelHn.nD,
      r.2.mem ((c.tc : Thread Cert.KernelHn.nD Cert.KernelHn.τ).loc Cert.KernelHn.main_arg0) = m ((c.tc : Thread Cert.KernelHn.nD Cert.KernelHn.τ).loc Cert.KernelHn.main_arg0)
      ∧ r.2.mem ((c.tc : Thread Cert.KernelHn.nD Cert.KernelHn.τ).loc Cert.KernelHn.main_arg1) = m ((c.tc : Thread Cert.KernelHn.nD Cert.KernelHn.τ).loc Cert.KernelHn.main_arg1)
      ∧ r.2.mem ((c.tc : Thread Cert.KernelHn.nD Cert.KernelHn.τ).loc Cert.KernelHn.main_arg2) = m ((c.tc : Thread Cert.KernelHn.nD Cert.KernelHn.τ).loc Cert.KernelHn.main_arg2)
      ∧ r.2.mem ((c.tc : Thread Cert.KernelHn.nD Cert.KernelHn.τ).loc Cert.KernelHn.main_arg3) = m ((c.tc : Thread Cert.KernelHn.nD Cert.KernelHn.τ).loc Cert.KernelHn.main_arg3)
      ∧ r.2.mem ((c.tc : Thread Cert.KernelHn.nD Cert.KernelHn.τ).loc Cert.KernelHn.main_arg4) = m ((c.tc : Thread Cert.KernelHn.nD Cert.KernelHn.τ).loc Cert.KernelHn.main_arg4))
      ∧ r.2.sem = fun _ => 0)

def quiescent_KernelHnIdeal [hKernelHnIdeal : Cert.KernelHnIdeal.Facts] : Prop :=
  ∀ (m : (ℓ : Loc Cert.KernelHnIdeal.nD Cert.KernelHnIdeal.τ Cert.KernelHnIdeal.sig) → Buf (Elt Ideal) ℓ) (g : Dev Cert.KernelHnIdeal.nD → PrngReg), Pre_KernelHnIdeal m →
    θ_run (Cert.KernelHnIdeal.defs (F := Ideal)) (onTc (τ := Cert.KernelHnIdeal.τ) (Cert.KernelHnIdeal.main (F := Ideal))) ⟨m, fun _ => 0, g⟩ (fun r => (∀ c : Dev Cert.KernelHnIdeal.nD,
      r.2.mem ((c.tc : Thread Cert.KernelHnIdeal.nD Cert.KernelHnIdeal.τ).loc Cert.KernelHnIdeal.main_arg0) = m ((c.tc : Thread Cert.KernelHnIdeal.nD Cert.KernelHnIdeal.τ).loc Cert.KernelHnIdeal.main_arg0)
      ∧ r.2.mem ((c.tc : Thread Cert.KernelHnIdeal.nD Cert.KernelHnIdeal.τ).loc Cert.KernelHnIdeal.main_arg1) = m ((c.tc : Thread Cert.KernelHnIdeal.nD Cert.KernelHnIdeal.τ).loc Cert.KernelHnIdeal.main_arg1)
      ∧ r.2.mem ((c.tc : Thread Cert.KernelHnIdeal.nD Cert.KernelHnIdeal.τ).loc Cert.KernelHnIdeal.main_arg2) = m ((c.tc : Thread Cert.KernelHnIdeal.nD Cert.KernelHnIdeal.τ).loc Cert.KernelHnIdeal.main_arg2)
      ∧ r.2.mem ((c.tc : Thread Cert.KernelHnIdeal.nD Cert.KernelHnIdeal.τ).loc Cert.KernelHnIdeal.main_arg3) = m ((c.tc : Thread Cert.KernelHnIdeal.nD Cert.KernelHnIdeal.τ).loc Cert.KernelHnIdeal.main_arg3)
      ∧ r.2.mem ((c.tc : Thread Cert.KernelHnIdeal.nD Cert.KernelHnIdeal.τ).loc Cert.KernelHnIdeal.main_arg4) = m ((c.tc : Thread Cert.KernelHnIdeal.nD Cert.KernelHnIdeal.τ).loc Cert.KernelHnIdeal.main_arg4))
      ∧ r.2.sem = fun _ => 0)

def quiescent_KernelHnIdeal_pre_finite_hn [hKernelHnIdeal : Cert.KernelHnIdeal.Facts] [hPre_finite_hn : Cert.Pre_finite_hn.Facts] : Prop :=
  ∀ (m : (ℓ : Loc Cert.KernelHnIdeal.nD Cert.KernelHnIdeal.τ Cert.KernelHnIdeal.sig) → Buf (Elt Ideal) ℓ) (g : Dev Cert.KernelHnIdeal.nD → PrngReg), Pre_KernelHnIdeal_finite_hn m →
    θ_run (Cert.KernelHnIdeal.defs (F := Ideal)) (onTc (τ := Cert.KernelHnIdeal.τ) (Cert.KernelHnIdeal.main (F := Ideal))) ⟨m, fun _ => 0, g⟩ (fun r => (∀ c : Dev Cert.KernelHnIdeal.nD,
      r.2.mem ((c.tc : Thread Cert.KernelHnIdeal.nD Cert.KernelHnIdeal.τ).loc Cert.KernelHnIdeal.main_arg0) = m ((c.tc : Thread Cert.KernelHnIdeal.nD Cert.KernelHnIdeal.τ).loc Cert.KernelHnIdeal.main_arg0)
      ∧ r.2.mem ((c.tc : Thread Cert.KernelHnIdeal.nD Cert.KernelHnIdeal.τ).loc Cert.KernelHnIdeal.main_arg1) = m ((c.tc : Thread Cert.KernelHnIdeal.nD Cert.KernelHnIdeal.τ).loc Cert.KernelHnIdeal.main_arg1)
      ∧ r.2.mem ((c.tc : Thread Cert.KernelHnIdeal.nD Cert.KernelHnIdeal.τ).loc Cert.KernelHnIdeal.main_arg2) = m ((c.tc : Thread Cert.KernelHnIdeal.nD Cert.KernelHnIdeal.τ).loc Cert.KernelHnIdeal.main_arg2)
      ∧ r.2.mem ((c.tc : Thread Cert.KernelHnIdeal.nD Cert.KernelHnIdeal.τ).loc Cert.KernelHnIdeal.main_arg3) = m ((c.tc : Thread Cert.KernelHnIdeal.nD Cert.KernelHnIdeal.τ).loc Cert.KernelHnIdeal.main_arg3)
      ∧ r.2.mem ((c.tc : Thread Cert.KernelHnIdeal.nD Cert.KernelHnIdeal.τ).loc Cert.KernelHnIdeal.main_arg4) = m ((c.tc : Thread Cert.KernelHnIdeal.nD Cert.KernelHnIdeal.τ).loc Cert.KernelHnIdeal.main_arg4))
      ∧ r.2.sem = fun _ => 0)

def quiescent_ReferenceHnIdeal [hReferenceHnIdeal : Cert.ReferenceHnIdeal.Facts] : Prop :=
  ∀ (m : (ℓ : Loc Cert.ReferenceHnIdeal.nD Cert.ReferenceHnIdeal.τ Cert.ReferenceHnIdeal.sig) → Buf (Elt Ideal) ℓ) (g : Dev Cert.ReferenceHnIdeal.nD → PrngReg), Pre_ReferenceHnIdeal m →
    θ_run (Cert.ReferenceHnIdeal.defs (F := Ideal)) (onTc (τ := Cert.ReferenceHnIdeal.τ) (Cert.ReferenceHnIdeal.main (F := Ideal))) ⟨m, fun _ => 0, g⟩ (fun r => (∀ c : Dev Cert.ReferenceHnIdeal.nD,
      r.2.mem ((c.tc : Thread Cert.ReferenceHnIdeal.nD Cert.ReferenceHnIdeal.τ).loc Cert.ReferenceHnIdeal.main_arg0) = m ((c.tc : Thread Cert.ReferenceHnIdeal.nD Cert.ReferenceHnIdeal.τ).loc Cert.ReferenceHnIdeal.main_arg0)
      ∧ r.2.mem ((c.tc : Thread Cert.ReferenceHnIdeal.nD Cert.ReferenceHnIdeal.τ).loc Cert.ReferenceHnIdeal.main_arg1) = m ((c.tc : Thread Cert.ReferenceHnIdeal.nD Cert.ReferenceHnIdeal.τ).loc Cert.ReferenceHnIdeal.main_arg1)
      ∧ r.2.mem ((c.tc : Thread Cert.ReferenceHnIdeal.nD Cert.ReferenceHnIdeal.τ).loc Cert.ReferenceHnIdeal.main_arg2) = m ((c.tc : Thread Cert.ReferenceHnIdeal.nD Cert.ReferenceHnIdeal.τ).loc Cert.ReferenceHnIdeal.main_arg2)
      ∧ r.2.mem ((c.tc : Thread Cert.ReferenceHnIdeal.nD Cert.ReferenceHnIdeal.τ).loc Cert.ReferenceHnIdeal.main_arg3) = m ((c.tc : Thread Cert.ReferenceHnIdeal.nD Cert.ReferenceHnIdeal.τ).loc Cert.ReferenceHnIdeal.main_arg3)
      ∧ r.2.mem ((c.tc : Thread Cert.ReferenceHnIdeal.nD Cert.ReferenceHnIdeal.τ).loc Cert.ReferenceHnIdeal.main_arg4) = m ((c.tc : Thread Cert.ReferenceHnIdeal.nD Cert.ReferenceHnIdeal.τ).loc Cert.ReferenceHnIdeal.main_arg4))
      ∧ r.2.sem = fun _ => 0)

def quiescent_ReferenceHnIdeal_pre_finite_hn [hReferenceHnIdeal : Cert.ReferenceHnIdeal.Facts] [hPre_finite_hn : Cert.Pre_finite_hn.Facts] : Prop :=
  ∀ (m : (ℓ : Loc Cert.ReferenceHnIdeal.nD Cert.ReferenceHnIdeal.τ Cert.ReferenceHnIdeal.sig) → Buf (Elt Ideal) ℓ) (g : Dev Cert.ReferenceHnIdeal.nD → PrngReg), Pre_ReferenceHnIdeal_finite_hn m →
    θ_run (Cert.ReferenceHnIdeal.defs (F := Ideal)) (onTc (τ := Cert.ReferenceHnIdeal.τ) (Cert.ReferenceHnIdeal.main (F := Ideal))) ⟨m, fun _ => 0, g⟩ (fun r => (∀ c : Dev Cert.ReferenceHnIdeal.nD,
      r.2.mem ((c.tc : Thread Cert.ReferenceHnIdeal.nD Cert.ReferenceHnIdeal.τ).loc Cert.ReferenceHnIdeal.main_arg0) = m ((c.tc : Thread Cert.ReferenceHnIdeal.nD Cert.ReferenceHnIdeal.τ).loc Cert.ReferenceHnIdeal.main_arg0)
      ∧ r.2.mem ((c.tc : Thread Cert.ReferenceHnIdeal.nD Cert.ReferenceHnIdeal.τ).loc Cert.ReferenceHnIdeal.main_arg1) = m ((c.tc : Thread Cert.ReferenceHnIdeal.nD Cert.ReferenceHnIdeal.τ).loc Cert.ReferenceHnIdeal.main_arg1)
      ∧ r.2.mem ((c.tc : Thread Cert.ReferenceHnIdeal.nD Cert.ReferenceHnIdeal.τ).loc Cert.ReferenceHnIdeal.main_arg2) = m ((c.tc : Thread Cert.ReferenceHnIdeal.nD Cert.ReferenceHnIdeal.τ).loc Cert.ReferenceHnIdeal.main_arg2)
      ∧ r.2.mem ((c.tc : Thread Cert.ReferenceHnIdeal.nD Cert.ReferenceHnIdeal.τ).loc Cert.ReferenceHnIdeal.main_arg3) = m ((c.tc : Thread Cert.ReferenceHnIdeal.nD Cert.ReferenceHnIdeal.τ).loc Cert.ReferenceHnIdeal.main_arg3)
      ∧ r.2.mem ((c.tc : Thread Cert.ReferenceHnIdeal.nD Cert.ReferenceHnIdeal.τ).loc Cert.ReferenceHnIdeal.main_arg4) = m ((c.tc : Thread Cert.ReferenceHnIdeal.nD Cert.ReferenceHnIdeal.τ).loc Cert.ReferenceHnIdeal.main_arg4))
      ∧ r.2.sem = fun _ => 0)

def quiescent_KernelXn [hKernelXn : Cert.KernelXn.Facts] : Prop :=
  ∀ (m : (ℓ : Loc Cert.KernelXn.nD Cert.KernelXn.τ Cert.KernelXn.sig) → Buf (Elt Bits) ℓ) (g : Dev Cert.KernelXn.nD → PrngReg), Pre_KernelXn m →
    θ_run (Cert.KernelXn.defs (F := Bits)) (onTc (τ := Cert.KernelXn.τ) (Cert.KernelXn.main (F := Bits))) ⟨m, fun _ => 0, g⟩ (fun r => (∀ c : Dev Cert.KernelXn.nD,
      r.2.mem ((c.tc : Thread Cert.KernelXn.nD Cert.KernelXn.τ).loc Cert.KernelXn.main_arg0) = m ((c.tc : Thread Cert.KernelXn.nD Cert.KernelXn.τ).loc Cert.KernelXn.main_arg0)
      ∧ r.2.mem ((c.tc : Thread Cert.KernelXn.nD Cert.KernelXn.τ).loc Cert.KernelXn.main_arg1) = m ((c.tc : Thread Cert.KernelXn.nD Cert.KernelXn.τ).loc Cert.KernelXn.main_arg1)
      ∧ r.2.mem ((c.tc : Thread Cert.KernelXn.nD Cert.KernelXn.τ).loc Cert.KernelXn.main_arg2) = m ((c.tc : Thread Cert.KernelXn.nD Cert.KernelXn.τ).loc Cert.KernelXn.main_arg2)
      ∧ r.2.mem ((c.tc : Thread Cert.KernelXn.nD Cert.KernelXn.τ).loc Cert.KernelXn.main_arg3) = m ((c.tc : Thread Cert.KernelXn.nD Cert.KernelXn.τ).loc Cert.KernelXn.main_arg3)
      ∧ r.2.mem ((c.tc : Thread Cert.KernelXn.nD Cert.KernelXn.τ).loc Cert.KernelXn.main_arg4) = m ((c.tc : Thread Cert.KernelXn.nD Cert.KernelXn.τ).loc Cert.KernelXn.main_arg4))
      ∧ r.2.sem = fun _ => 0)

def quiescent_KernelXnIdeal [hKernelXnIdeal : Cert.KernelXnIdeal.Facts] : Prop :=
  ∀ (m : (ℓ : Loc Cert.KernelXnIdeal.nD Cert.KernelXnIdeal.τ Cert.KernelXnIdeal.sig) → Buf (Elt Ideal) ℓ) (g : Dev Cert.KernelXnIdeal.nD → PrngReg), Pre_KernelXnIdeal m →
    θ_run (Cert.KernelXnIdeal.defs (F := Ideal)) (onTc (τ := Cert.KernelXnIdeal.τ) (Cert.KernelXnIdeal.main (F := Ideal))) ⟨m, fun _ => 0, g⟩ (fun r => (∀ c : Dev Cert.KernelXnIdeal.nD,
      r.2.mem ((c.tc : Thread Cert.KernelXnIdeal.nD Cert.KernelXnIdeal.τ).loc Cert.KernelXnIdeal.main_arg0) = m ((c.tc : Thread Cert.KernelXnIdeal.nD Cert.KernelXnIdeal.τ).loc Cert.KernelXnIdeal.main_arg0)
      ∧ r.2.mem ((c.tc : Thread Cert.KernelXnIdeal.nD Cert.KernelXnIdeal.τ).loc Cert.KernelXnIdeal.main_arg1) = m ((c.tc : Thread Cert.KernelXnIdeal.nD Cert.KernelXnIdeal.τ).loc Cert.KernelXnIdeal.main_arg1)
      ∧ r.2.mem ((c.tc : Thread Cert.KernelXnIdeal.nD Cert.KernelXnIdeal.τ).loc Cert.KernelXnIdeal.main_arg2) = m ((c.tc : Thread Cert.KernelXnIdeal.nD Cert.KernelXnIdeal.τ).loc Cert.KernelXnIdeal.main_arg2)
      ∧ r.2.mem ((c.tc : Thread Cert.KernelXnIdeal.nD Cert.KernelXnIdeal.τ).loc Cert.KernelXnIdeal.main_arg3) = m ((c.tc : Thread Cert.KernelXnIdeal.nD Cert.KernelXnIdeal.τ).loc Cert.KernelXnIdeal.main_arg3)
      ∧ r.2.mem ((c.tc : Thread Cert.KernelXnIdeal.nD Cert.KernelXnIdeal.τ).loc Cert.KernelXnIdeal.main_arg4) = m ((c.tc : Thread Cert.KernelXnIdeal.nD Cert.KernelXnIdeal.τ).loc Cert.KernelXnIdeal.main_arg4))
      ∧ r.2.sem = fun _ => 0)

def quiescent_KernelXnIdeal_pre_finite_xn [hKernelXnIdeal : Cert.KernelXnIdeal.Facts] [hPre_finite_xn : Cert.Pre_finite_xn.Facts] : Prop :=
  ∀ (m : (ℓ : Loc Cert.KernelXnIdeal.nD Cert.KernelXnIdeal.τ Cert.KernelXnIdeal.sig) → Buf (Elt Ideal) ℓ) (g : Dev Cert.KernelXnIdeal.nD → PrngReg), Pre_KernelXnIdeal_finite_xn m →
    θ_run (Cert.KernelXnIdeal.defs (F := Ideal)) (onTc (τ := Cert.KernelXnIdeal.τ) (Cert.KernelXnIdeal.main (F := Ideal))) ⟨m, fun _ => 0, g⟩ (fun r => (∀ c : Dev Cert.KernelXnIdeal.nD,
      r.2.mem ((c.tc : Thread Cert.KernelXnIdeal.nD Cert.KernelXnIdeal.τ).loc Cert.KernelXnIdeal.main_arg0) = m ((c.tc : Thread Cert.KernelXnIdeal.nD Cert.KernelXnIdeal.τ).loc Cert.KernelXnIdeal.main_arg0)
      ∧ r.2.mem ((c.tc : Thread Cert.KernelXnIdeal.nD Cert.KernelXnIdeal.τ).loc Cert.KernelXnIdeal.main_arg1) = m ((c.tc : Thread Cert.KernelXnIdeal.nD Cert.KernelXnIdeal.τ).loc Cert.KernelXnIdeal.main_arg1)
      ∧ r.2.mem ((c.tc : Thread Cert.KernelXnIdeal.nD Cert.KernelXnIdeal.τ).loc Cert.KernelXnIdeal.main_arg2) = m ((c.tc : Thread Cert.KernelXnIdeal.nD Cert.KernelXnIdeal.τ).loc Cert.KernelXnIdeal.main_arg2)
      ∧ r.2.mem ((c.tc : Thread Cert.KernelXnIdeal.nD Cert.KernelXnIdeal.τ).loc Cert.KernelXnIdeal.main_arg3) = m ((c.tc : Thread Cert.KernelXnIdeal.nD Cert.KernelXnIdeal.τ).loc Cert.KernelXnIdeal.main_arg3)
      ∧ r.2.mem ((c.tc : Thread Cert.KernelXnIdeal.nD Cert.KernelXnIdeal.τ).loc Cert.KernelXnIdeal.main_arg4) = m ((c.tc : Thread Cert.KernelXnIdeal.nD Cert.KernelXnIdeal.τ).loc Cert.KernelXnIdeal.main_arg4))
      ∧ r.2.sem = fun _ => 0)

def quiescent_ReferenceXnIdeal [hReferenceXnIdeal : Cert.ReferenceXnIdeal.Facts] : Prop :=
  ∀ (m : (ℓ : Loc Cert.ReferenceXnIdeal.nD Cert.ReferenceXnIdeal.τ Cert.ReferenceXnIdeal.sig) → Buf (Elt Ideal) ℓ) (g : Dev Cert.ReferenceXnIdeal.nD → PrngReg), Pre_ReferenceXnIdeal m →
    θ_run (Cert.ReferenceXnIdeal.defs (F := Ideal)) (onTc (τ := Cert.ReferenceXnIdeal.τ) (Cert.ReferenceXnIdeal.main (F := Ideal))) ⟨m, fun _ => 0, g⟩ (fun r => (∀ c : Dev Cert.ReferenceXnIdeal.nD,
      r.2.mem ((c.tc : Thread Cert.ReferenceXnIdeal.nD Cert.ReferenceXnIdeal.τ).loc Cert.ReferenceXnIdeal.main_arg0) = m ((c.tc : Thread Cert.ReferenceXnIdeal.nD Cert.ReferenceXnIdeal.τ).loc Cert.ReferenceXnIdeal.main_arg0)
      ∧ r.2.mem ((c.tc : Thread Cert.ReferenceXnIdeal.nD Cert.ReferenceXnIdeal.τ).loc Cert.ReferenceXnIdeal.main_arg1) = m ((c.tc : Thread Cert.ReferenceXnIdeal.nD Cert.ReferenceXnIdeal.τ).loc Cert.ReferenceXnIdeal.main_arg1)
      ∧ r.2.mem ((c.tc : Thread Cert.ReferenceXnIdeal.nD Cert.ReferenceXnIdeal.τ).loc Cert.ReferenceXnIdeal.main_arg2) = m ((c.tc : Thread Cert.ReferenceXnIdeal.nD Cert.ReferenceXnIdeal.τ).loc Cert.ReferenceXnIdeal.main_arg2)
      ∧ r.2.mem ((c.tc : Thread Cert.ReferenceXnIdeal.nD Cert.ReferenceXnIdeal.τ).loc Cert.ReferenceXnIdeal.main_arg3) = m ((c.tc : Thread Cert.ReferenceXnIdeal.nD Cert.ReferenceXnIdeal.τ).loc Cert.ReferenceXnIdeal.main_arg3)
      ∧ r.2.mem ((c.tc : Thread Cert.ReferenceXnIdeal.nD Cert.ReferenceXnIdeal.τ).loc Cert.ReferenceXnIdeal.main_arg4) = m ((c.tc : Thread Cert.ReferenceXnIdeal.nD Cert.ReferenceXnIdeal.τ).loc Cert.ReferenceXnIdeal.main_arg4))
      ∧ r.2.sem = fun _ => 0)

def quiescent_ReferenceXnIdeal_pre_finite_xn [hReferenceXnIdeal : Cert.ReferenceXnIdeal.Facts] [hPre_finite_xn : Cert.Pre_finite_xn.Facts] : Prop :=
  ∀ (m : (ℓ : Loc Cert.ReferenceXnIdeal.nD Cert.ReferenceXnIdeal.τ Cert.ReferenceXnIdeal.sig) → Buf (Elt Ideal) ℓ) (g : Dev Cert.ReferenceXnIdeal.nD → PrngReg), Pre_ReferenceXnIdeal_finite_xn m →
    θ_run (Cert.ReferenceXnIdeal.defs (F := Ideal)) (onTc (τ := Cert.ReferenceXnIdeal.τ) (Cert.ReferenceXnIdeal.main (F := Ideal))) ⟨m, fun _ => 0, g⟩ (fun r => (∀ c : Dev Cert.ReferenceXnIdeal.nD,
      r.2.mem ((c.tc : Thread Cert.ReferenceXnIdeal.nD Cert.ReferenceXnIdeal.τ).loc Cert.ReferenceXnIdeal.main_arg0) = m ((c.tc : Thread Cert.ReferenceXnIdeal.nD Cert.ReferenceXnIdeal.τ).loc Cert.ReferenceXnIdeal.main_arg0)
      ∧ r.2.mem ((c.tc : Thread Cert.ReferenceXnIdeal.nD Cert.ReferenceXnIdeal.τ).loc Cert.ReferenceXnIdeal.main_arg1) = m ((c.tc : Thread Cert.ReferenceXnIdeal.nD Cert.ReferenceXnIdeal.τ).loc Cert.ReferenceXnIdeal.main_arg1)
      ∧ r.2.mem ((c.tc : Thread Cert.ReferenceXnIdeal.nD Cert.ReferenceXnIdeal.τ).loc Cert.ReferenceXnIdeal.main_arg2) = m ((c.tc : Thread Cert.ReferenceXnIdeal.nD Cert.ReferenceXnIdeal.τ).loc Cert.ReferenceXnIdeal.main_arg2)
      ∧ r.2.mem ((c.tc : Thread Cert.ReferenceXnIdeal.nD Cert.ReferenceXnIdeal.τ).loc Cert.ReferenceXnIdeal.main_arg3) = m ((c.tc : Thread Cert.ReferenceXnIdeal.nD Cert.ReferenceXnIdeal.τ).loc Cert.ReferenceXnIdeal.main_arg3)
      ∧ r.2.mem ((c.tc : Thread Cert.ReferenceXnIdeal.nD Cert.ReferenceXnIdeal.τ).loc Cert.ReferenceXnIdeal.main_arg4) = m ((c.tc : Thread Cert.ReferenceXnIdeal.nD Cert.ReferenceXnIdeal.τ).loc Cert.ReferenceXnIdeal.main_arg4))
      ∧ r.2.sem = fun _ => 0)

def quiescent_KernelHm [hKernelHm : Cert.KernelHm.Facts] : Prop :=
  ∀ (m : (ℓ : Loc Cert.KernelHm.nD Cert.KernelHm.τ Cert.KernelHm.sig) → Buf (Elt Bits) ℓ) (g : Dev Cert.KernelHm.nD → PrngReg), Pre_KernelHm m →
    θ_run (Cert.KernelHm.defs (F := Bits)) (onTc (τ := Cert.KernelHm.τ) (Cert.KernelHm.main (F := Bits))) ⟨m, fun _ => 0, g⟩ (fun r => (∀ c : Dev Cert.KernelHm.nD,
      r.2.mem ((c.tc : Thread Cert.KernelHm.nD Cert.KernelHm.τ).loc Cert.KernelHm.main_arg0) = m ((c.tc : Thread Cert.KernelHm.nD Cert.KernelHm.τ).loc Cert.KernelHm.main_arg0)
      ∧ r.2.mem ((c.tc : Thread Cert.KernelHm.nD Cert.KernelHm.τ).loc Cert.KernelHm.main_arg1) = m ((c.tc : Thread Cert.KernelHm.nD Cert.KernelHm.τ).loc Cert.KernelHm.main_arg1)
      ∧ r.2.mem ((c.tc : Thread Cert.KernelHm.nD Cert.KernelHm.τ).loc Cert.KernelHm.main_arg2) = m ((c.tc : Thread Cert.KernelHm.nD Cert.KernelHm.τ).loc Cert.KernelHm.main_arg2)
      ∧ r.2.mem ((c.tc : Thread Cert.KernelHm.nD Cert.KernelHm.τ).loc Cert.KernelHm.main_arg3) = m ((c.tc : Thread Cert.KernelHm.nD Cert.KernelHm.τ).loc Cert.KernelHm.main_arg3)
      ∧ r.2.mem ((c.tc : Thread Cert.KernelHm.nD Cert.KernelHm.τ).loc Cert.KernelHm.main_arg4) = m ((c.tc : Thread Cert.KernelHm.nD Cert.KernelHm.τ).loc Cert.KernelHm.main_arg4))
      ∧ r.2.sem = fun _ => 0)

def quiescent_KernelHmIdeal [hKernelHmIdeal : Cert.KernelHmIdeal.Facts] : Prop :=
  ∀ (m : (ℓ : Loc Cert.KernelHmIdeal.nD Cert.KernelHmIdeal.τ Cert.KernelHmIdeal.sig) → Buf (Elt Ideal) ℓ) (g : Dev Cert.KernelHmIdeal.nD → PrngReg), Pre_KernelHmIdeal m →
    θ_run (Cert.KernelHmIdeal.defs (F := Ideal)) (onTc (τ := Cert.KernelHmIdeal.τ) (Cert.KernelHmIdeal.main (F := Ideal))) ⟨m, fun _ => 0, g⟩ (fun r => (∀ c : Dev Cert.KernelHmIdeal.nD,
      r.2.mem ((c.tc : Thread Cert.KernelHmIdeal.nD Cert.KernelHmIdeal.τ).loc Cert.KernelHmIdeal.main_arg0) = m ((c.tc : Thread Cert.KernelHmIdeal.nD Cert.KernelHmIdeal.τ).loc Cert.KernelHmIdeal.main_arg0)
      ∧ r.2.mem ((c.tc : Thread Cert.KernelHmIdeal.nD Cert.KernelHmIdeal.τ).loc Cert.KernelHmIdeal.main_arg1) = m ((c.tc : Thread Cert.KernelHmIdeal.nD Cert.KernelHmIdeal.τ).loc Cert.KernelHmIdeal.main_arg1)
      ∧ r.2.mem ((c.tc : Thread Cert.KernelHmIdeal.nD Cert.KernelHmIdeal.τ).loc Cert.KernelHmIdeal.main_arg2) = m ((c.tc : Thread Cert.KernelHmIdeal.nD Cert.KernelHmIdeal.τ).loc Cert.KernelHmIdeal.main_arg2)
      ∧ r.2.mem ((c.tc : Thread Cert.KernelHmIdeal.nD Cert.KernelHmIdeal.τ).loc Cert.KernelHmIdeal.main_arg3) = m ((c.tc : Thread Cert.KernelHmIdeal.nD Cert.KernelHmIdeal.τ).loc Cert.KernelHmIdeal.main_arg3)
      ∧ r.2.mem ((c.tc : Thread Cert.KernelHmIdeal.nD Cert.KernelHmIdeal.τ).loc Cert.KernelHmIdeal.main_arg4) = m ((c.tc : Thread Cert.KernelHmIdeal.nD Cert.KernelHmIdeal.τ).loc Cert.KernelHmIdeal.main_arg4))
      ∧ r.2.sem = fun _ => 0)

def quiescent_KernelHmIdeal_pre_finite_hm [hKernelHmIdeal : Cert.KernelHmIdeal.Facts] [hPre_finite_hm : Cert.Pre_finite_hm.Facts] : Prop :=
  ∀ (m : (ℓ : Loc Cert.KernelHmIdeal.nD Cert.KernelHmIdeal.τ Cert.KernelHmIdeal.sig) → Buf (Elt Ideal) ℓ) (g : Dev Cert.KernelHmIdeal.nD → PrngReg), Pre_KernelHmIdeal_finite_hm m →
    θ_run (Cert.KernelHmIdeal.defs (F := Ideal)) (onTc (τ := Cert.KernelHmIdeal.τ) (Cert.KernelHmIdeal.main (F := Ideal))) ⟨m, fun _ => 0, g⟩ (fun r => (∀ c : Dev Cert.KernelHmIdeal.nD,
      r.2.mem ((c.tc : Thread Cert.KernelHmIdeal.nD Cert.KernelHmIdeal.τ).loc Cert.KernelHmIdeal.main_arg0) = m ((c.tc : Thread Cert.KernelHmIdeal.nD Cert.KernelHmIdeal.τ).loc Cert.KernelHmIdeal.main_arg0)
      ∧ r.2.mem ((c.tc : Thread Cert.KernelHmIdeal.nD Cert.KernelHmIdeal.τ).loc Cert.KernelHmIdeal.main_arg1) = m ((c.tc : Thread Cert.KernelHmIdeal.nD Cert.KernelHmIdeal.τ).loc Cert.KernelHmIdeal.main_arg1)
      ∧ r.2.mem ((c.tc : Thread Cert.KernelHmIdeal.nD Cert.KernelHmIdeal.τ).loc Cert.KernelHmIdeal.main_arg2) = m ((c.tc : Thread Cert.KernelHmIdeal.nD Cert.KernelHmIdeal.τ).loc Cert.KernelHmIdeal.main_arg2)
      ∧ r.2.mem ((c.tc : Thread Cert.KernelHmIdeal.nD Cert.KernelHmIdeal.τ).loc Cert.KernelHmIdeal.main_arg3) = m ((c.tc : Thread Cert.KernelHmIdeal.nD Cert.KernelHmIdeal.τ).loc Cert.KernelHmIdeal.main_arg3)
      ∧ r.2.mem ((c.tc : Thread Cert.KernelHmIdeal.nD Cert.KernelHmIdeal.τ).loc Cert.KernelHmIdeal.main_arg4) = m ((c.tc : Thread Cert.KernelHmIdeal.nD Cert.KernelHmIdeal.τ).loc Cert.KernelHmIdeal.main_arg4))
      ∧ r.2.sem = fun _ => 0)

def quiescent_ReferenceHmIdeal [hReferenceHmIdeal : Cert.ReferenceHmIdeal.Facts] : Prop :=
  ∀ (m : (ℓ : Loc Cert.ReferenceHmIdeal.nD Cert.ReferenceHmIdeal.τ Cert.ReferenceHmIdeal.sig) → Buf (Elt Ideal) ℓ) (g : Dev Cert.ReferenceHmIdeal.nD → PrngReg), Pre_ReferenceHmIdeal m →
    θ_run (Cert.ReferenceHmIdeal.defs (F := Ideal)) (onTc (τ := Cert.ReferenceHmIdeal.τ) (Cert.ReferenceHmIdeal.main (F := Ideal))) ⟨m, fun _ => 0, g⟩ (fun r => (∀ c : Dev Cert.ReferenceHmIdeal.nD,
      r.2.mem ((c.tc : Thread Cert.ReferenceHmIdeal.nD Cert.ReferenceHmIdeal.τ).loc Cert.ReferenceHmIdeal.main_arg0) = m ((c.tc : Thread Cert.ReferenceHmIdeal.nD Cert.ReferenceHmIdeal.τ).loc Cert.ReferenceHmIdeal.main_arg0)
      ∧ r.2.mem ((c.tc : Thread Cert.ReferenceHmIdeal.nD Cert.ReferenceHmIdeal.τ).loc Cert.ReferenceHmIdeal.main_arg1) = m ((c.tc : Thread Cert.ReferenceHmIdeal.nD Cert.ReferenceHmIdeal.τ).loc Cert.ReferenceHmIdeal.main_arg1)
      ∧ r.2.mem ((c.tc : Thread Cert.ReferenceHmIdeal.nD Cert.ReferenceHmIdeal.τ).loc Cert.ReferenceHmIdeal.main_arg2) = m ((c.tc : Thread Cert.ReferenceHmIdeal.nD Cert.ReferenceHmIdeal.τ).loc Cert.ReferenceHmIdeal.main_arg2)
      ∧ r.2.mem ((c.tc : Thread Cert.ReferenceHmIdeal.nD Cert.ReferenceHmIdeal.τ).loc Cert.ReferenceHmIdeal.main_arg3) = m ((c.tc : Thread Cert.ReferenceHmIdeal.nD Cert.ReferenceHmIdeal.τ).loc Cert.ReferenceHmIdeal.main_arg3)
      ∧ r.2.mem ((c.tc : Thread Cert.ReferenceHmIdeal.nD Cert.ReferenceHmIdeal.τ).loc Cert.ReferenceHmIdeal.main_arg4) = m ((c.tc : Thread Cert.ReferenceHmIdeal.nD Cert.ReferenceHmIdeal.τ).loc Cert.ReferenceHmIdeal.main_arg4))
      ∧ r.2.sem = fun _ => 0)

def quiescent_ReferenceHmIdeal_pre_finite_hm [hReferenceHmIdeal : Cert.ReferenceHmIdeal.Facts] [hPre_finite_hm : Cert.Pre_finite_hm.Facts] : Prop :=
  ∀ (m : (ℓ : Loc Cert.ReferenceHmIdeal.nD Cert.ReferenceHmIdeal.τ Cert.ReferenceHmIdeal.sig) → Buf (Elt Ideal) ℓ) (g : Dev Cert.ReferenceHmIdeal.nD → PrngReg), Pre_ReferenceHmIdeal_finite_hm m →
    θ_run (Cert.ReferenceHmIdeal.defs (F := Ideal)) (onTc (τ := Cert.ReferenceHmIdeal.τ) (Cert.ReferenceHmIdeal.main (F := Ideal))) ⟨m, fun _ => 0, g⟩ (fun r => (∀ c : Dev Cert.ReferenceHmIdeal.nD,
      r.2.mem ((c.tc : Thread Cert.ReferenceHmIdeal.nD Cert.ReferenceHmIdeal.τ).loc Cert.ReferenceHmIdeal.main_arg0) = m ((c.tc : Thread Cert.ReferenceHmIdeal.nD Cert.ReferenceHmIdeal.τ).loc Cert.ReferenceHmIdeal.main_arg0)
      ∧ r.2.mem ((c.tc : Thread Cert.ReferenceHmIdeal.nD Cert.ReferenceHmIdeal.τ).loc Cert.ReferenceHmIdeal.main_arg1) = m ((c.tc : Thread Cert.ReferenceHmIdeal.nD Cert.ReferenceHmIdeal.τ).loc Cert.ReferenceHmIdeal.main_arg1)
      ∧ r.2.mem ((c.tc : Thread Cert.ReferenceHmIdeal.nD Cert.ReferenceHmIdeal.τ).loc Cert.ReferenceHmIdeal.main_arg2) = m ((c.tc : Thread Cert.ReferenceHmIdeal.nD Cert.ReferenceHmIdeal.τ).loc Cert.ReferenceHmIdeal.main_arg2)
      ∧ r.2.mem ((c.tc : Thread Cert.ReferenceHmIdeal.nD Cert.ReferenceHmIdeal.τ).loc Cert.ReferenceHmIdeal.main_arg3) = m ((c.tc : Thread Cert.ReferenceHmIdeal.nD Cert.ReferenceHmIdeal.τ).loc Cert.ReferenceHmIdeal.main_arg3)
      ∧ r.2.mem ((c.tc : Thread Cert.ReferenceHmIdeal.nD Cert.ReferenceHmIdeal.τ).loc Cert.ReferenceHmIdeal.main_arg4) = m ((c.tc : Thread Cert.ReferenceHmIdeal.nD Cert.ReferenceHmIdeal.τ).loc Cert.ReferenceHmIdeal.main_arg4))
      ∧ r.2.sem = fun _ => 0)

def quiescent_KernelDact [hKernelDact : Cert.KernelDact.Facts] : Prop :=
  ∀ (m : (ℓ : Loc Cert.KernelDact.nD Cert.KernelDact.τ Cert.KernelDact.sig) → Buf (Elt Bits) ℓ) (g : Dev Cert.KernelDact.nD → PrngReg), Pre_KernelDact m →
    θ_run (Cert.KernelDact.defs (F := Bits)) (onTc (τ := Cert.KernelDact.τ) (Cert.KernelDact.main (F := Bits))) ⟨m, fun _ => 0, g⟩ (fun r => (∀ c : Dev Cert.KernelDact.nD,
      r.2.mem ((c.tc : Thread Cert.KernelDact.nD Cert.KernelDact.τ).loc Cert.KernelDact.main_arg0) = m ((c.tc : Thread Cert.KernelDact.nD Cert.KernelDact.τ).loc Cert.KernelDact.main_arg0)
      ∧ r.2.mem ((c.tc : Thread Cert.KernelDact.nD Cert.KernelDact.τ).loc Cert.KernelDact.main_arg1) = m ((c.tc : Thread Cert.KernelDact.nD Cert.KernelDact.τ).loc Cert.KernelDact.main_arg1)
      ∧ r.2.mem ((c.tc : Thread Cert.KernelDact.nD Cert.KernelDact.τ).loc Cert.KernelDact.main_arg2) = m ((c.tc : Thread Cert.KernelDact.nD Cert.KernelDact.τ).loc Cert.KernelDact.main_arg2))
      ∧ r.2.sem = fun _ => 0)

def quiescent_KernelDactIdeal [hKernelDactIdeal : Cert.KernelDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg), Pre_KernelDactIdeal m →
    θ_run (Cert.KernelDactIdeal.defs (F := Ideal)) (onTc (τ := Cert.KernelDactIdeal.τ) (Cert.KernelDactIdeal.main (F := Ideal))) ⟨m, fun _ => 0, g⟩ (fun r => (∀ c : Dev Cert.KernelDactIdeal.nD,
      r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
      ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1)
      ∧ r.2.mem ((c.tc : Thread Cert.KernelDactIdeal.nD Cert.KernelDactIdeal.τ).loc Cert.KernelDactIdeal.main_arg2) = m ((c.tc : Thread Cert.KernelDactIdeal.nD Cert.KernelDactIdeal.τ).loc Cert.KernelDactIdeal.main_arg2))
      ∧ r.2.sem = fun _ => 0)

def quiescent_ReferenceDactIdeal [hReferenceDactIdeal : Cert.ReferenceDactIdeal.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1)
      ∧ r.2.mem ((c.tc : Thread Cert.ReferenceDactIdeal.nD Cert.ReferenceDactIdeal.τ).loc Cert.ReferenceDactIdeal.main_arg2) = m ((c.tc : Thread Cert.ReferenceDactIdeal.nD Cert.ReferenceDactIdeal.τ).loc Cert.ReferenceDactIdeal.main_arg2))
      ∧ r.2.sem = fun _ => 0)

def quiescent_KernelDwdown [hKernelDwdown : Cert.KernelDwdown.Facts] : Prop :=
  ∀ (m : (ℓ : Loc Cert.KernelDwdown.nD Cert.KernelDwdown.τ Cert.KernelDwdown.sig) → Buf (Elt Bits) ℓ) (g : Dev Cert.KernelDwdown.nD → PrngReg), Pre_KernelDwdown m →
    θ_run (Cert.KernelDwdown.defs (F := Bits)) (onTc (τ := Cert.KernelDwdown.τ) (Cert.KernelDwdown.main (F := Bits))) ⟨m, fun _ => 0, g⟩ (fun r => (∀ c : Dev Cert.KernelDwdown.nD,
      r.2.mem ((c.tc : Thread Cert.KernelDwdown.nD Cert.KernelDwdown.τ).loc Cert.KernelDwdown.main_arg0) = m ((c.tc : Thread Cert.KernelDwdown.nD Cert.KernelDwdown.τ).loc Cert.KernelDwdown.main_arg0)
      ∧ r.2.mem ((c.tc : Thread Cert.KernelDwdown.nD Cert.KernelDwdown.τ).loc Cert.KernelDwdown.main_arg1) = m ((c.tc : Thread Cert.KernelDwdown.nD Cert.KernelDwdown.τ).loc Cert.KernelDwdown.main_arg1)
      ∧ r.2.mem ((c.tc : Thread Cert.KernelDwdown.nD Cert.KernelDwdown.τ).loc Cert.KernelDwdown.main_arg2) = m ((c.tc : Thread Cert.KernelDwdown.nD Cert.KernelDwdown.τ).loc Cert.KernelDwdown.main_arg2))
      ∧ r.2.sem = fun _ => 0)

def quiescent_KernelDwdownIdeal [hKernelDwdownIdeal : Cert.KernelDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg), Pre_KernelDwdownIdeal m →
    θ_run (Cert.KernelDwdownIdeal.defs (F := Ideal)) (onTc (τ := Cert.KernelDwdownIdeal.τ) (Cert.KernelDwdownIdeal.main (F := Ideal))) ⟨m, fun _ => 0, g⟩ (fun r => (∀ c : Dev Cert.KernelDwdownIdeal.nD,
      r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
      ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1)
      ∧ r.2.mem ((c.tc : Thread Cert.KernelDwdownIdeal.nD Cert.KernelDwdownIdeal.τ).loc Cert.KernelDwdownIdeal.main_arg2) = m ((c.tc : Thread Cert.KernelDwdownIdeal.nD Cert.KernelDwdownIdeal.τ).loc Cert.KernelDwdownIdeal.main_arg2))
      ∧ r.2.sem = fun _ => 0)

def quiescent_ReferenceDwdownIdeal [hReferenceDwdownIdeal : Cert.ReferenceDwdownIdeal.Facts] : Prop :=
  ∀ (m : (ℓ : Loc Cert.ReferenceDwdownIdeal.nD Cert.ReferenceDwdownIdeal.τ Cert.ReferenceDwdownIdeal.sig) → Buf (Elt Ideal) ℓ) (g : Dev Cert.ReferenceDwdownIdeal.nD → PrngReg), Pre_ReferenceDwdownIdeal m →
    θ_run (Cert.ReferenceDwdownIdeal.defs (F := Ideal)) (onTc (τ := Cert.ReferenceDwdownIdeal.τ) (Cert.ReferenceDwdownIdeal.main (F := Ideal))) ⟨m, fun _ => 0, g⟩ (fun r => (∀ c : Dev Cert.ReferenceDwdownIdeal.nD,
      r.2.mem ((c.tc : Thread Cert.ReferenceDwdownIdeal.nD Cert.ReferenceDwdownIdeal.τ).loc Cert.ReferenceDwdownIdeal.main_arg0) = m ((c.tc : Thread Cert.ReferenceDwdownIdeal.nD Cert.ReferenceDwdownIdeal.τ).loc Cert.ReferenceDwdownIdeal.main_arg0)
      ∧ r.2.mem ((c.tc : Thread Cert.ReferenceDwdownIdeal.nD Cert.ReferenceDwdownIdeal.τ).loc Cert.ReferenceDwdownIdeal.main_arg1) = m ((c.tc : Thread Cert.ReferenceDwdownIdeal.nD Cert.ReferenceDwdownIdeal.τ).loc Cert.ReferenceDwdownIdeal.main_arg1)
      ∧ r.2.mem ((c.tc : Thread Cert.ReferenceDwdownIdeal.nD Cert.ReferenceDwdownIdeal.τ).loc Cert.ReferenceDwdownIdeal.main_arg2) = m ((c.tc : Thread Cert.ReferenceDwdownIdeal.nD Cert.ReferenceDwdownIdeal.τ).loc Cert.ReferenceDwdownIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelDy [hKernelDy : Cert.KernelDy.Facts] : Prop :=
  ∀ (m : (ℓ : Loc Cert.KernelDy.nD Cert.KernelDy.τ Cert.KernelDy.sig) → Buf (Elt Bits) ℓ) (g : Dev Cert.KernelDy.nD → PrngReg), Pre_KernelDy m →
    θ_run (Cert.KernelDy.defs (F := Bits)) (onTc (τ := Cert.KernelDy.τ) (Cert.KernelDy.main (F := Bits))) ⟨m, fun _ => 0, g⟩ (fun r => (∀ c : Dev Cert.KernelDy.nD,
      r.2.mem ((c.tc : Thread Cert.KernelDy.nD Cert.KernelDy.τ).loc Cert.KernelDy.main_arg0) = m ((c.tc : Thread Cert.KernelDy.nD Cert.KernelDy.τ).loc Cert.KernelDy.main_arg0)
      ∧ r.2.mem ((c.tc : Thread Cert.KernelDy.nD Cert.KernelDy.τ).loc Cert.KernelDy.main_arg1) = m ((c.tc : Thread Cert.KernelDy.nD Cert.KernelDy.τ).loc Cert.KernelDy.main_arg1)
      ∧ r.2.mem ((c.tc : Thread Cert.KernelDy.nD Cert.KernelDy.τ).loc Cert.KernelDy.main_arg2) = m ((c.tc : Thread Cert.KernelDy.nD Cert.KernelDy.τ).loc Cert.KernelDy.main_arg2)
      ∧ r.2.mem ((c.tc : Thread Cert.KernelDy.nD Cert.KernelDy.τ).loc Cert.KernelDy.main_arg3) = m ((c.tc : Thread Cert.KernelDy.nD Cert.KernelDy.τ).loc Cert.KernelDy.main_arg3)
      ∧ r.2.mem ((c.tc : Thread Cert.KernelDy.nD Cert.KernelDy.τ).loc Cert.KernelDy.main_arg4) = m ((c.tc : Thread Cert.KernelDy.nD Cert.KernelDy.τ).loc Cert.KernelDy.main_arg4)
      ∧ r.2.mem ((c.tc : Thread Cert.KernelDy.nD Cert.KernelDy.τ).loc Cert.KernelDy.main_arg5) = m ((c.tc : Thread Cert.KernelDy.nD Cert.KernelDy.τ).loc Cert.KernelDy.main_arg5)
      ∧ r.2.mem ((c.tc : Thread Cert.KernelDy.nD Cert.KernelDy.τ).loc Cert.KernelDy.main_arg6) = m ((c.tc : Thread Cert.KernelDy.nD Cert.KernelDy.τ).loc Cert.KernelDy.main_arg6)
      ∧ r.2.mem ((c.tc : Thread Cert.KernelDy.nD Cert.KernelDy.τ).loc Cert.KernelDy.main_arg7) = m ((c.tc : Thread Cert.KernelDy.nD Cert.KernelDy.τ).loc Cert.KernelDy.main_arg7)
      ∧ r.2.mem ((c.tc : Thread Cert.KernelDy.nD Cert.KernelDy.τ).loc Cert.KernelDy.main_arg8) = m ((c.tc : Thread Cert.KernelDy.nD Cert.KernelDy.τ).loc Cert.KernelDy.main_arg8)
      ∧ r.2.mem ((c.tc : Thread Cert.KernelDy.nD Cert.KernelDy.τ).loc Cert.KernelDy.main_arg9) = m ((c.tc : Thread Cert.KernelDy.nD Cert.KernelDy.τ).loc Cert.KernelDy.main_arg9))
      ∧ r.2.sem = fun _ => 0)

def quiescent_KernelDyIdeal [hKernelDyIdeal : Cert.KernelDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg), Pre_KernelDyIdeal m →
    θ_run (Cert.KernelDyIdeal.defs (F := Ideal)) (onTc (τ := Cert.KernelDyIdeal.τ) (Cert.KernelDyIdeal.main (F := Ideal))) ⟨m, fun _ => 0, g⟩ (fun r => (∀ c : Dev Cert.KernelDyIdeal.nD,
      r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
      ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1)
      ∧ r.2.mem ((c.tc : Thread Cert.KernelDyIdeal.nD Cert.KernelDyIdeal.τ).loc Cert.KernelDyIdeal.main_arg2) = m ((c.tc : Thread Cert.KernelDyIdeal.nD Cert.KernelDyIdeal.τ).loc Cert.KernelDyIdeal.main_arg2)
      ∧ r.2.mem ((c.tc : Thread Cert.KernelDyIdeal.nD Cert.KernelDyIdeal.τ).loc Cert.KernelDyIdeal.main_arg3) = m ((c.tc : Thread Cert.KernelDyIdeal.nD Cert.KernelDyIdeal.τ).loc Cert.KernelDyIdeal.main_arg3)
      ∧ r.2.mem ((c.tc : Thread Cert.KernelDyIdeal.nD Cert.KernelDyIdeal.τ).loc Cert.KernelDyIdeal.main_arg4) = m ((c.tc : Thread Cert.KernelDyIdeal.nD Cert.KernelDyIdeal.τ).loc Cert.KernelDyIdeal.main_arg4)
      ∧ r.2.mem ((c.tc : Thread Cert.KernelDyIdeal.nD Cert.KernelDyIdeal.τ).loc Cert.KernelDyIdeal.main_arg5) = m ((c.tc : Thread Cert.KernelDyIdeal.nD Cert.KernelDyIdeal.τ).loc Cert.KernelDyIdeal.main_arg5)
      ∧ r.2.mem ((c.tc : Thread Cert.KernelDyIdeal.nD Cert.KernelDyIdeal.τ).loc Cert.KernelDyIdeal.main_arg6) = m ((c.tc : Thread Cert.KernelDyIdeal.nD Cert.KernelDyIdeal.τ).loc Cert.KernelDyIdeal.main_arg6)
      ∧ r.2.mem ((c.tc : Thread Cert.KernelDyIdeal.nD Cert.KernelDyIdeal.τ).loc Cert.KernelDyIdeal.main_arg7) = m ((c.tc : Thread Cert.KernelDyIdeal.nD Cert.KernelDyIdeal.τ).loc Cert.KernelDyIdeal.main_arg7)
      ∧ r.2.mem ((c.tc : Thread Cert.KernelDyIdeal.nD Cert.KernelDyIdeal.τ).loc Cert.KernelDyIdeal.main_arg8) = m ((c.tc : Thread Cert.KernelDyIdeal.nD Cert.KernelDyIdeal.τ).loc Cert.KernelDyIdeal.main_arg8)
      ∧ r.2.mem ((c.tc : Thread Cert.KernelDyIdeal.nD Cert.KernelDyIdeal.τ).loc Cert.KernelDyIdeal.main_arg9) = m ((c.tc : Thread Cert.KernelDyIdeal.nD Cert.KernelDyIdeal.τ).loc Cert.KernelDyIdeal.main_arg9))
      ∧ r.2.sem = fun _ => 0)

def quiescent_ReferenceDyIdeal [hReferenceDyIdeal : Cert.ReferenceDyIdeal.Facts] : Prop :=
  ∀ (m : (ℓ : Loc Cert.ReferenceDyIdeal.nD Cert.ReferenceDyIdeal.τ Cert.ReferenceDyIdeal.sig) → Buf (Elt Ideal) ℓ) (g : Dev Cert.ReferenceDyIdeal.nD → PrngReg), Pre_ReferenceDyIdeal m →
    θ_run (Cert.ReferenceDyIdeal.defs (F := Ideal)) (onTc (τ := Cert.ReferenceDyIdeal.τ) (Cert.ReferenceDyIdeal.main (F := Ideal))) ⟨m, fun _ => 0, g⟩ (fun r => (∀ c : Dev Cert.ReferenceDyIdeal.nD,
      r.2.mem ((c.tc : Thread Cert.ReferenceDyIdeal.nD Cert.ReferenceDyIdeal.τ).loc Cert.ReferenceDyIdeal.main_arg0) = m ((c.tc : Thread Cert.ReferenceDyIdeal.nD Cert.ReferenceDyIdeal.τ).loc Cert.ReferenceDyIdeal.main_arg0)
      ∧ r.2.mem ((c.tc : Thread Cert.ReferenceDyIdeal.nD Cert.ReferenceDyIdeal.τ).loc Cert.ReferenceDyIdeal.main_arg1) = m ((c.tc : Thread Cert.ReferenceDyIdeal.nD Cert.ReferenceDyIdeal.τ).loc Cert.ReferenceDyIdeal.main_arg1)
      ∧ r.2.mem ((c.tc : Thread Cert.ReferenceDyIdeal.nD Cert.ReferenceDyIdeal.τ).loc Cert.ReferenceDyIdeal.main_arg2) = m ((c.tc : Thread Cert.ReferenceDyIdeal.nD Cert.ReferenceDyIdeal.τ).loc Cert.ReferenceDyIdeal.main_arg2)
      ∧ r.2.mem ((c.tc : Thread Cert.ReferenceDyIdeal.nD Cert.ReferenceDyIdeal.τ).loc Cert.ReferenceDyIdeal.main_arg3) = m ((c.tc : Thread Cert.ReferenceDyIdeal.nD Cert.ReferenceDyIdeal.τ).loc Cert.ReferenceDyIdeal.main_arg3)
      ∧ r.2.mem ((c.tc : Thread Cert.ReferenceDyIdeal.nD Cert.ReferenceDyIdeal.τ).loc Cert.ReferenceDyIdeal.main_arg4) = m ((c.tc : Thread Cert.ReferenceDyIdeal.nD Cert.ReferenceDyIdeal.τ).loc Cert.ReferenceDyIdeal.main_arg4)
      ∧ r.2.mem ((c.tc : Thread Cert.ReferenceDyIdeal.nD Cert.ReferenceDyIdeal.τ).loc Cert.ReferenceDyIdeal.main_arg5) = m ((c.tc : Thread Cert.ReferenceDyIdeal.nD Cert.ReferenceDyIdeal.τ).loc Cert.ReferenceDyIdeal.main_arg5)
      ∧ r.2.mem ((c.tc : Thread Cert.ReferenceDyIdeal.nD Cert.ReferenceDyIdeal.τ).loc Cert.ReferenceDyIdeal.main_arg6) = m ((c.tc : Thread Cert.ReferenceDyIdeal.nD Cert.ReferenceDyIdeal.τ).loc Cert.ReferenceDyIdeal.main_arg6)
      ∧ r.2.mem ((c.tc : Thread Cert.ReferenceDyIdeal.nD Cert.ReferenceDyIdeal.τ).loc Cert.ReferenceDyIdeal.main_arg7) = m ((c.tc : Thread Cert.ReferenceDyIdeal.nD Cert.ReferenceDyIdeal.τ).loc Cert.ReferenceDyIdeal.main_arg7)
      ∧ r.2.mem ((c.tc : Thread Cert.ReferenceDyIdeal.nD Cert.ReferenceDyIdeal.τ).loc Cert.ReferenceDyIdeal.main_arg8) = m ((c.tc : Thread Cert.ReferenceDyIdeal.nD Cert.ReferenceDyIdeal.τ).loc Cert.ReferenceDyIdeal.main_arg8)
      ∧ r.2.mem ((c.tc : Thread Cert.ReferenceDyIdeal.nD Cert.ReferenceDyIdeal.τ).loc Cert.ReferenceDyIdeal.main_arg9) = m ((c.tc : Thread Cert.ReferenceDyIdeal.nD Cert.ReferenceDyIdeal.τ).loc Cert.ReferenceDyIdeal.main_arg9))
      ∧ r.2.sem = fun _ => 0)

def quiescent_KernelXattf [hKernelXattf : Cert.KernelXattf.Facts] : Prop :=
  ∀ (m : (ℓ : Loc Cert.KernelXattf.nD Cert.KernelXattf.τ Cert.KernelXattf.sig) → Buf (Elt Bits) ℓ) (g : Dev Cert.KernelXattf.nD → PrngReg), Pre_KernelXattf m →
    θ_run (Cert.KernelXattf.defs (F := Bits)) (onTc (τ := Cert.KernelXattf.τ) (Cert.KernelXattf.main (F := Bits))) ⟨m, fun _ => 0, g⟩ (fun r => (∀ c : Dev Cert.KernelXattf.nD,
      r.2.mem ((c.tc : Thread Cert.KernelXattf.nD Cert.KernelXattf.τ).loc Cert.KernelXattf.main_arg0) = m ((c.tc : Thread Cert.KernelXattf.nD Cert.KernelXattf.τ).loc Cert.KernelXattf.main_arg0)
      ∧ r.2.mem ((c.tc : Thread Cert.KernelXattf.nD Cert.KernelXattf.τ).loc Cert.KernelXattf.main_arg1) = m ((c.tc : Thread Cert.KernelXattf.nD Cert.KernelXattf.τ).loc Cert.KernelXattf.main_arg1)
      ∧ r.2.mem ((c.tc : Thread Cert.KernelXattf.nD Cert.KernelXattf.τ).loc Cert.KernelXattf.main_arg2) = m ((c.tc : Thread Cert.KernelXattf.nD Cert.KernelXattf.τ).loc Cert.KernelXattf.main_arg2))
      ∧ r.2.sem = fun _ => 0)

def quiescent_KernelXattfIdeal [hKernelXattfIdeal : Cert.KernelXattfIdeal.Facts] : Prop :=
  ∀ (m : (ℓ : Loc Cert.KernelXattfIdeal.nD Cert.KernelXattfIdeal.τ Cert.KernelXattfIdeal.sig) → Buf (Elt Ideal) ℓ) (g : Dev Cert.KernelXattfIdeal.nD → PrngReg), Pre_KernelXattfIdeal m →
    θ_run (Cert.KernelXattfIdeal.defs (F := Ideal)) (onTc (τ := Cert.KernelXattfIdeal.τ) (Cert.KernelXattfIdeal.main (F := Ideal))) ⟨m, fun _ => 0, g⟩ (fun r => (∀ c : Dev Cert.KernelXattfIdeal.nD,
      r.2.mem ((c.tc : Thread Cert.KernelXattfIdeal.nD Cert.KernelXattfIdeal.τ).loc Cert.KernelXattfIdeal.main_arg0) = m ((c.tc : Thread Cert.KernelXattfIdeal.nD Cert.KernelXattfIdeal.τ).loc Cert.KernelXattfIdeal.main_arg0)
      ∧ r.2.mem ((c.tc : Thread Cert.KernelXattfIdeal.nD Cert.KernelXattfIdeal.τ).loc Cert.KernelXattfIdeal.main_arg1) = m ((c.tc : Thread Cert.KernelXattfIdeal.nD Cert.KernelXattfIdeal.τ).loc Cert.KernelXattfIdeal.main_arg1)
      ∧ r.2.mem ((c.tc : Thread Cert.KernelXattfIdeal.nD Cert.KernelXattfIdeal.τ).loc Cert.KernelXattfIdeal.main_arg2) = m ((c.tc : Thread Cert.KernelXattfIdeal.nD Cert.KernelXattfIdeal.τ).loc Cert.KernelXattfIdeal.main_arg2))
      ∧ r.2.sem = fun _ => 0)

def quiescent_KernelXattfIdeal_pre_finite_xattf [hKernelXattfIdeal : Cert.KernelXattfIdeal.Facts] [hPre_finite_xattf : Cert.Pre_finite_xattf.Facts] : Prop :=
  ∀ (m : (ℓ : Loc Cert.KernelXattfIdeal.nD Cert.KernelXattfIdeal.τ Cert.KernelXattfIdeal.sig) → Buf (Elt Ideal) ℓ) (g : Dev Cert.KernelXattfIdeal.nD → PrngReg), Pre_KernelXattfIdeal_finite_xattf m →
    θ_run (Cert.KernelXattfIdeal.defs (F := Ideal)) (onTc (τ := Cert.KernelXattfIdeal.τ) (Cert.KernelXattfIdeal.main (F := Ideal))) ⟨m, fun _ => 0, g⟩ (fun r => (∀ c : Dev Cert.KernelXattfIdeal.nD,
      r.2.mem ((c.tc : Thread Cert.KernelXattfIdeal.nD Cert.KernelXattfIdeal.τ).loc Cert.KernelXattfIdeal.main_arg0) = m ((c.tc : Thread Cert.KernelXattfIdeal.nD Cert.KernelXattfIdeal.τ).loc Cert.KernelXattfIdeal.main_arg0)
      ∧ r.2.mem ((c.tc : Thread Cert.KernelXattfIdeal.nD Cert.KernelXattfIdeal.τ).loc Cert.KernelXattfIdeal.main_arg1) = m ((c.tc : Thread Cert.KernelXattfIdeal.nD Cert.KernelXattfIdeal.τ).loc Cert.KernelXattfIdeal.main_arg1)
      ∧ r.2.mem ((c.tc : Thread Cert.KernelXattfIdeal.nD Cert.KernelXattfIdeal.τ).loc Cert.KernelXattfIdeal.main_arg2) = m ((c.tc : Thread Cert.KernelXattfIdeal.nD Cert.KernelXattfIdeal.τ).loc Cert.KernelXattfIdeal.main_arg2))
      ∧ r.2.sem = fun _ => 0)

def quiescent_ReferenceXattfIdeal [hReferenceXattfIdeal : Cert.ReferenceXattfIdeal.Facts] : Prop :=
  ∀ (m : (ℓ : Loc Cert.ReferenceXattfIdeal.nD Cert.ReferenceXattfIdeal.τ Cert.ReferenceXattfIdeal.sig) → Buf (Elt Ideal) ℓ) (g : Dev Cert.ReferenceXattfIdeal.nD → PrngReg), Pre_ReferenceXattfIdeal m →
    θ_run (Cert.ReferenceXattfIdeal.defs (F := Ideal)) (onTc (τ := Cert.ReferenceXattfIdeal.τ) (Cert.ReferenceXattfIdeal.main (F := Ideal))) ⟨m, fun _ => 0, g⟩ (fun r => (∀ c : Dev Cert.ReferenceXattfIdeal.nD,
      r.2.mem ((c.tc : Thread Cert.ReferenceXattfIdeal.nD Cert.ReferenceXattfIdeal.τ).loc Cert.ReferenceXattfIdeal.main_arg0) = m ((c.tc : Thread Cert.ReferenceXattfIdeal.nD Cert.ReferenceXattfIdeal.τ).loc Cert.ReferenceXattfIdeal.main_arg0)
      ∧ r.2.mem ((c.tc : Thread Cert.ReferenceXattfIdeal.nD Cert.ReferenceXattfIdeal.τ).loc Cert.ReferenceXattfIdeal.main_arg1) = m ((c.tc : Thread Cert.ReferenceXattfIdeal.nD Cert.ReferenceXattfIdeal.τ).loc Cert.ReferenceXattfIdeal.main_arg1)
      ∧ r.2.mem ((c.tc : Thread Cert.ReferenceXattfIdeal.nD Cert.ReferenceXattfIdeal.τ).loc Cert.ReferenceXattfIdeal.main_arg2) = m ((c.tc : Thread Cert.ReferenceXattfIdeal.nD Cert.ReferenceXattfIdeal.τ).loc Cert.ReferenceXattfIdeal.main_arg2))
      ∧ r.2.sem = fun _ => 0)

def quiescent_ReferenceXattfIdeal_pre_finite_xattf [hReferenceXattfIdeal : Cert.ReferenceXattfIdeal.Facts] [hPre_finite_xattf : Cert.Pre_finite_xattf.Facts] : Prop :=
  ∀ (m : (ℓ : Loc Cert.ReferenceXattfIdeal.nD Cert.ReferenceXattfIdeal.τ Cert.ReferenceXattfIdeal.sig) → Buf (Elt Ideal) ℓ) (g : Dev Cert.ReferenceXattfIdeal.nD → PrngReg), Pre_ReferenceXattfIdeal_finite_xattf m →
    θ_run (Cert.ReferenceXattfIdeal.defs (F := Ideal)) (onTc (τ := Cert.ReferenceXattfIdeal.τ) (Cert.ReferenceXattfIdeal.main (F := Ideal))) ⟨m, fun _ => 0, g⟩ (fun r => (∀ c : Dev Cert.ReferenceXattfIdeal.nD,
      r.2.mem ((c.tc : Thread Cert.ReferenceXattfIdeal.nD Cert.ReferenceXattfIdeal.τ).loc Cert.ReferenceXattfIdeal.main_arg0) = m ((c.tc : Thread Cert.ReferenceXattfIdeal.nD Cert.ReferenceXattfIdeal.τ).loc Cert.ReferenceXattfIdeal.main_arg0)
      ∧ r.2.mem ((c.tc : Thread Cert.ReferenceXattfIdeal.nD Cert.ReferenceXattfIdeal.τ).loc Cert.ReferenceXattfIdeal.main_arg1) = m ((c.tc : Thread Cert.ReferenceXattfIdeal.nD Cert.ReferenceXattfIdeal.τ).loc Cert.ReferenceXattfIdeal.main_arg1)
      ∧ r.2.mem ((c.tc : Thread Cert.ReferenceXattfIdeal.nD Cert.ReferenceXattfIdeal.τ).loc Cert.ReferenceXattfIdeal.main_arg2) = m ((c.tc : Thread Cert.ReferenceXattfIdeal.nD Cert.ReferenceXattfIdeal.τ).loc Cert.ReferenceXattfIdeal.main_arg2))
      ∧ r.2.sem = fun _ => 0)

def quiescent_KernelAttf1 [hKernelAttf1 : Cert.KernelAttf1.Facts] : Prop :=
  ∀ (m : (ℓ : Loc Cert.KernelAttf1.nD Cert.KernelAttf1.τ Cert.KernelAttf1.sig) → Buf (Elt Bits) ℓ) (g : Dev Cert.KernelAttf1.nD → PrngReg), Pre_KernelAttf1 m →
    θ_run (Cert.KernelAttf1.defs (F := Bits)) (onTc (τ := Cert.KernelAttf1.τ) (Cert.KernelAttf1.main (F := Bits))) ⟨m, fun _ => 0, g⟩ (fun r => (∀ c : Dev Cert.KernelAttf1.nD,
      r.2.mem ((c.tc : Thread Cert.KernelAttf1.nD Cert.KernelAttf1.τ).loc Cert.KernelAttf1.main_arg0) = m ((c.tc : Thread Cert.KernelAttf1.nD Cert.KernelAttf1.τ).loc Cert.KernelAttf1.main_arg0)
      ∧ r.2.mem ((c.tc : Thread Cert.KernelAttf1.nD Cert.KernelAttf1.τ).loc Cert.KernelAttf1.main_arg1) = m ((c.tc : Thread Cert.KernelAttf1.nD Cert.KernelAttf1.τ).loc Cert.KernelAttf1.main_arg1))
      ∧ r.2.sem = fun _ => 0)

def quiescent_KernelAttf1Ideal [hKernelAttf1Ideal : Cert.KernelAttf1Ideal.Facts] : Prop :=
  ∀ (m : (ℓ : Loc Cert.KernelAttf1Ideal.nD Cert.KernelAttf1Ideal.τ Cert.KernelAttf1Ideal.sig) → Buf (Elt Ideal) ℓ) (g : Dev Cert.KernelAttf1Ideal.nD → PrngReg), Pre_KernelAttf1Ideal m →
    θ_run (Cert.KernelAttf1Ideal.defs (F := Ideal)) (onTc (τ := Cert.KernelAttf1Ideal.τ) (Cert.KernelAttf1Ideal.main (F := Ideal))) ⟨m, fun _ => 0, g⟩ (fun r => (∀ c : Dev Cert.KernelAttf1Ideal.nD,
      r.2.mem ((c.tc : Thread Cert.KernelAttf1Ideal.nD Cert.KernelAttf1Ideal.τ).loc Cert.KernelAttf1Ideal.main_arg0) = m ((c.tc : Thread Cert.KernelAttf1Ideal.nD Cert.KernelAttf1Ideal.τ).loc Cert.KernelAttf1Ideal.main_arg0)
      ∧ r.2.mem ((c.tc : Thread Cert.KernelAttf1Ideal.nD Cert.KernelAttf1Ideal.τ).loc Cert.KernelAttf1Ideal.main_arg1) = m ((c.tc : Thread Cert.KernelAttf1Ideal.nD Cert.KernelAttf1Ideal.τ).loc Cert.KernelAttf1Ideal.main_arg1))
      ∧ r.2.sem = fun _ => 0)

def quiescent_KernelAttf1Ideal_pre_finite_attf1 [hKernelAttf1Ideal : Cert.KernelAttf1Ideal.Facts] [hPre_finite_attf1 : Cert.Pre_finite_attf1.Facts] : Prop :=
  ∀ (m : (ℓ : Loc Cert.KernelAttf1Ideal.nD Cert.KernelAttf1Ideal.τ Cert.KernelAttf1Ideal.sig) → Buf (Elt Ideal) ℓ) (g : Dev Cert.KernelAttf1Ideal.nD → PrngReg), Pre_KernelAttf1Ideal_finite_attf1 m →
    θ_run (Cert.KernelAttf1Ideal.defs (F := Ideal)) (onTc (τ := Cert.KernelAttf1Ideal.τ) (Cert.KernelAttf1Ideal.main (F := Ideal))) ⟨m, fun _ => 0, g⟩ (fun r => (∀ c : Dev Cert.KernelAttf1Ideal.nD,
      r.2.mem ((c.tc : Thread Cert.KernelAttf1Ideal.nD Cert.KernelAttf1Ideal.τ).loc Cert.KernelAttf1Ideal.main_arg0) = m ((c.tc : Thread Cert.KernelAttf1Ideal.nD Cert.KernelAttf1Ideal.τ).loc Cert.KernelAttf1Ideal.main_arg0)
      ∧ r.2.mem ((c.tc : Thread Cert.KernelAttf1Ideal.nD Cert.KernelAttf1Ideal.τ).loc Cert.KernelAttf1Ideal.main_arg1) = m ((c.tc : Thread Cert.KernelAttf1Ideal.nD Cert.KernelAttf1Ideal.τ).loc Cert.KernelAttf1Ideal.main_arg1))
      ∧ r.2.sem = fun _ => 0)

def quiescent_ReferenceAttf1Ideal [hReferenceAttf1Ideal : Cert.ReferenceAttf1Ideal.Facts] : Prop :=
  ∀ (m : (ℓ : Loc Cert.ReferenceAttf1Ideal.nD Cert.ReferenceAttf1Ideal.τ Cert.ReferenceAttf1Ideal.sig) → Buf (Elt Ideal) ℓ) (g : Dev Cert.ReferenceAttf1Ideal.nD → PrngReg), Pre_ReferenceAttf1Ideal m →
    θ_run (Cert.ReferenceAttf1Ideal.defs (F := Ideal)) (onTc (τ := Cert.ReferenceAttf1Ideal.τ) (Cert.ReferenceAttf1Ideal.main (F := Ideal))) ⟨m, fun _ => 0, g⟩ (fun r => (∀ c : Dev Cert.ReferenceAttf1Ideal.nD,
      r.2.mem ((c.tc : Thread Cert.ReferenceAttf1Ideal.nD Cert.ReferenceAttf1Ideal.τ).loc Cert.ReferenceAttf1Ideal.main_arg0) = m ((c.tc : Thread Cert.ReferenceAttf1Ideal.nD Cert.ReferenceAttf1Ideal.τ).loc Cert.ReferenceAttf1Ideal.main_arg0)
      ∧ r.2.mem ((c.tc : Thread Cert.ReferenceAttf1Ideal.nD Cert.ReferenceAttf1Ideal.τ).loc Cert.ReferenceAttf1Ideal.main_arg1) = m ((c.tc : Thread Cert.ReferenceAttf1Ideal.nD Cert.ReferenceAttf1Ideal.τ).loc Cert.ReferenceAttf1Ideal.main_arg1))
      ∧ r.2.sem = fun _ => 0)

def quiescent_ReferenceAttf1Ideal_pre_finite_attf1 [hReferenceAttf1Ideal : Cert.ReferenceAttf1Ideal.Facts] [hPre_finite_attf1 : Cert.Pre_finite_attf1.Facts] : Prop :=
  ∀ (m : (ℓ : Loc Cert.ReferenceAttf1Ideal.nD Cert.ReferenceAttf1Ideal.τ Cert.ReferenceAttf1Ideal.sig) → Buf (Elt Ideal) ℓ) (g : Dev Cert.ReferenceAttf1Ideal.nD → PrngReg), Pre_ReferenceAttf1Ideal_finite_attf1 m →
    θ_run (Cert.ReferenceAttf1Ideal.defs (F := Ideal)) (onTc (τ := Cert.ReferenceAttf1Ideal.τ) (Cert.ReferenceAttf1Ideal.main (F := Ideal))) ⟨m, fun _ => 0, g⟩ (fun r => (∀ c : Dev Cert.ReferenceAttf1Ideal.nD,
      r.2.mem ((c.tc : Thread Cert.ReferenceAttf1Ideal.nD Cert.ReferenceAttf1Ideal.τ).loc Cert.ReferenceAttf1Ideal.main_arg0) = m ((c.tc : Thread Cert.ReferenceAttf1Ideal.nD Cert.ReferenceAttf1Ideal.τ).loc Cert.ReferenceAttf1Ideal.main_arg0)
      ∧ r.2.mem ((c.tc : Thread Cert.ReferenceAttf1Ideal.nD Cert.ReferenceAttf1Ideal.τ).loc Cert.ReferenceAttf1Ideal.main_arg1) = m ((c.tc : Thread Cert.ReferenceAttf1Ideal.nD Cert.ReferenceAttf1Ideal.τ).loc Cert.ReferenceAttf1Ideal.main_arg1))
      ∧ r.2.sem = fun _ => 0)

def quiescent_KernelAttf4 [hKernelAttf4 : Cert.KernelAttf4.Facts] : Prop :=
  ∀ (m : (ℓ : Loc Cert.KernelAttf4.nD Cert.KernelAttf4.τ Cert.KernelAttf4.sig) → Buf (Elt Bits) ℓ) (g : Dev Cert.KernelAttf4.nD → PrngReg), Pre_KernelAttf4 m →
    θ_run (Cert.KernelAttf4.defs (F := Bits)) (onTc (τ := Cert.KernelAttf4.τ) (Cert.KernelAttf4.main (F := Bits))) ⟨m, fun _ => 0, g⟩ (fun r => (∀ c : Dev Cert.KernelAttf4.nD,
      r.2.mem ((c.tc : Thread Cert.KernelAttf4.nD Cert.KernelAttf4.τ).loc Cert.KernelAttf4.main_arg0) = m ((c.tc : Thread Cert.KernelAttf4.nD Cert.KernelAttf4.τ).loc Cert.KernelAttf4.main_arg0)
      ∧ r.2.mem ((c.tc : Thread Cert.KernelAttf4.nD Cert.KernelAttf4.τ).loc Cert.KernelAttf4.main_arg1) = m ((c.tc : Thread Cert.KernelAttf4.nD Cert.KernelAttf4.τ).loc Cert.KernelAttf4.main_arg1))
      ∧ r.2.sem = fun _ => 0)

def quiescent_KernelAttf4Ideal [hKernelAttf4Ideal : Cert.KernelAttf4Ideal.Facts] : Prop :=
  ∀ (m : (ℓ : Loc Cert.KernelAttf4Ideal.nD Cert.KernelAttf4Ideal.τ Cert.KernelAttf4Ideal.sig) → Buf (Elt Ideal) ℓ) (g : Dev Cert.KernelAttf4Ideal.nD → PrngReg), Pre_KernelAttf4Ideal m →
    θ_run (Cert.KernelAttf4Ideal.defs (F := Ideal)) (onTc (τ := Cert.KernelAttf4Ideal.τ) (Cert.KernelAttf4Ideal.main (F := Ideal))) ⟨m, fun _ => 0, g⟩ (fun r => (∀ c : Dev Cert.KernelAttf4Ideal.nD,
      r.2.mem ((c.tc : Thread Cert.KernelAttf4Ideal.nD Cert.KernelAttf4Ideal.τ).loc Cert.KernelAttf4Ideal.main_arg0) = m ((c.tc : Thread Cert.KernelAttf4Ideal.nD Cert.KernelAttf4Ideal.τ).loc Cert.KernelAttf4Ideal.main_arg0)
      ∧ r.2.mem ((c.tc : Thread Cert.KernelAttf4Ideal.nD Cert.KernelAttf4Ideal.τ).loc Cert.KernelAttf4Ideal.main_arg1) = m ((c.tc : Thread Cert.KernelAttf4Ideal.nD Cert.KernelAttf4Ideal.τ).loc Cert.KernelAttf4Ideal.main_arg1))
      ∧ r.2.sem = fun _ => 0)

def quiescent_KernelAttf4Ideal_pre_finite_attf4 [hKernelAttf4Ideal : Cert.KernelAttf4Ideal.Facts] [hPre_finite_attf4 : Cert.Pre_finite_attf4.Facts] : Prop :=
  ∀ (m : (ℓ : Loc Cert.KernelAttf4Ideal.nD Cert.KernelAttf4Ideal.τ Cert.KernelAttf4Ideal.sig) → Buf (Elt Ideal) ℓ) (g : Dev Cert.KernelAttf4Ideal.nD → PrngReg), Pre_KernelAttf4Ideal_finite_attf4 m →
    θ_run (Cert.KernelAttf4Ideal.defs (F := Ideal)) (onTc (τ := Cert.KernelAttf4Ideal.τ) (Cert.KernelAttf4Ideal.main (F := Ideal))) ⟨m, fun _ => 0, g⟩ (fun r => (∀ c : Dev Cert.KernelAttf4Ideal.nD,
      r.2.mem ((c.tc : Thread Cert.KernelAttf4Ideal.nD Cert.KernelAttf4Ideal.τ).loc Cert.KernelAttf4Ideal.main_arg0) = m ((c.tc : Thread Cert.KernelAttf4Ideal.nD Cert.KernelAttf4Ideal.τ).loc Cert.KernelAttf4Ideal.main_arg0)
      ∧ r.2.mem ((c.tc : Thread Cert.KernelAttf4Ideal.nD Cert.KernelAttf4Ideal.τ).loc Cert.KernelAttf4Ideal.main_arg1) = m ((c.tc : Thread Cert.KernelAttf4Ideal.nD Cert.KernelAttf4Ideal.τ).loc Cert.KernelAttf4Ideal.main_arg1))
      ∧ r.2.sem = fun _ => 0)

def quiescent_ReferenceAttf4Ideal [hReferenceAttf4Ideal : Cert.ReferenceAttf4Ideal.Facts] : Prop :=
  ∀ (m : (ℓ : Loc Cert.ReferenceAttf4Ideal.nD Cert.ReferenceAttf4Ideal.τ Cert.ReferenceAttf4Ideal.sig) → Buf (Elt Ideal) ℓ) (g : Dev Cert.ReferenceAttf4Ideal.nD → PrngReg), Pre_ReferenceAttf4Ideal m →
    θ_run (Cert.ReferenceAttf4Ideal.defs (F := Ideal)) (onTc (τ := Cert.ReferenceAttf4Ideal.τ) (Cert.ReferenceAttf4Ideal.main (F := Ideal))) ⟨m, fun _ => 0, g⟩ (fun r => (∀ c : Dev Cert.ReferenceAttf4Ideal.nD,
      r.2.mem ((c.tc : Thread Cert.ReferenceAttf4Ideal.nD Cert.ReferenceAttf4Ideal.τ).loc Cert.ReferenceAttf4Ideal.main_arg0) = m ((c.tc : Thread Cert.ReferenceAttf4Ideal.nD Cert.ReferenceAttf4Ideal.τ).loc Cert.ReferenceAttf4Ideal.main_arg0)
      ∧ r.2.mem ((c.tc : Thread Cert.ReferenceAttf4Ideal.nD Cert.ReferenceAttf4Ideal.τ).loc Cert.ReferenceAttf4Ideal.main_arg1) = m ((c.tc : Thread Cert.ReferenceAttf4Ideal.nD Cert.ReferenceAttf4Ideal.τ).loc Cert.ReferenceAttf4Ideal.main_arg1))
      ∧ r.2.sem = fun _ => 0)

def quiescent_ReferenceAttf4Ideal_pre_finite_attf4 [hReferenceAttf4Ideal : Cert.ReferenceAttf4Ideal.Facts] [hPre_finite_attf4 : Cert.Pre_finite_attf4.Facts] : Prop :=
  ∀ (m : (ℓ : Loc Cert.ReferenceAttf4Ideal.nD Cert.ReferenceAttf4Ideal.τ Cert.ReferenceAttf4Ideal.sig) → Buf (Elt Ideal) ℓ) (g : Dev Cert.ReferenceAttf4Ideal.nD → PrngReg), Pre_ReferenceAttf4Ideal_finite_attf4 m →
    θ_run (Cert.ReferenceAttf4Ideal.defs (F := Ideal)) (onTc (τ := Cert.ReferenceAttf4Ideal.τ) (Cert.ReferenceAttf4Ideal.main (F := Ideal))) ⟨m, fun _ => 0, g⟩ (fun r => (∀ c : Dev Cert.ReferenceAttf4Ideal.nD,
      r.2.mem ((c.tc : Thread Cert.ReferenceAttf4Ideal.nD Cert.ReferenceAttf4Ideal.τ).loc Cert.ReferenceAttf4Ideal.main_arg0) = m ((c.tc : Thread Cert.ReferenceAttf4Ideal.nD Cert.ReferenceAttf4Ideal.τ).loc Cert.ReferenceAttf4Ideal.main_arg0)
      ∧ r.2.mem ((c.tc : Thread Cert.ReferenceAttf4Ideal.nD Cert.ReferenceAttf4Ideal.τ).loc Cert.ReferenceAttf4Ideal.main_arg1) = m ((c.tc : Thread Cert.ReferenceAttf4Ideal.nD Cert.ReferenceAttf4Ideal.τ).loc Cert.ReferenceAttf4Ideal.main_arg1))
      ∧ r.2.sem = fun _ => 0)

def quiescent_KernelAttf16 [hKernelAttf16 : Cert.KernelAttf16.Facts] : Prop :=
  ∀ (m : (ℓ : Loc Cert.KernelAttf16.nD Cert.KernelAttf16.τ Cert.KernelAttf16.sig) → Buf (Elt Bits) ℓ) (g : Dev Cert.KernelAttf16.nD → PrngReg), Pre_KernelAttf16 m →
    θ_run (Cert.KernelAttf16.defs (F := Bits)) (onTc (τ := Cert.KernelAttf16.τ) (Cert.KernelAttf16.main (F := Bits))) ⟨m, fun _ => 0, g⟩ (fun r => (∀ c : Dev Cert.KernelAttf16.nD,
      r.2.mem ((c.tc : Thread Cert.KernelAttf16.nD Cert.KernelAttf16.τ).loc Cert.KernelAttf16.main_arg0) = m ((c.tc : Thread Cert.KernelAttf16.nD Cert.KernelAttf16.τ).loc Cert.KernelAttf16.main_arg0)
      ∧ r.2.mem ((c.tc : Thread Cert.KernelAttf16.nD Cert.KernelAttf16.τ).loc Cert.KernelAttf16.main_arg1) = m ((c.tc : Thread Cert.KernelAttf16.nD Cert.KernelAttf16.τ).loc Cert.KernelAttf16.main_arg1))
      ∧ r.2.sem = fun _ => 0)

def quiescent_KernelAttf16Ideal [hKernelAttf16Ideal : Cert.KernelAttf16Ideal.Facts] : Prop :=
  ∀ (m : (ℓ : Loc Cert.KernelAttf16Ideal.nD Cert.KernelAttf16Ideal.τ Cert.KernelAttf16Ideal.sig) → Buf (Elt Ideal) ℓ) (g : Dev Cert.KernelAttf16Ideal.nD → PrngReg), Pre_KernelAttf16Ideal m →
    θ_run (Cert.KernelAttf16Ideal.defs (F := Ideal)) (onTc (τ := Cert.KernelAttf16Ideal.τ) (Cert.KernelAttf16Ideal.main (F := Ideal))) ⟨m, fun _ => 0, g⟩ (fun r => (∀ c : Dev Cert.KernelAttf16Ideal.nD,
      r.2.mem ((c.tc : Thread Cert.KernelAttf16Ideal.nD Cert.KernelAttf16Ideal.τ).loc Cert.KernelAttf16Ideal.main_arg0) = m ((c.tc : Thread Cert.KernelAttf16Ideal.nD Cert.KernelAttf16Ideal.τ).loc Cert.KernelAttf16Ideal.main_arg0)
      ∧ r.2.mem ((c.tc : Thread Cert.KernelAttf16Ideal.nD Cert.KernelAttf16Ideal.τ).loc Cert.KernelAttf16Ideal.main_arg1) = m ((c.tc : Thread Cert.KernelAttf16Ideal.nD Cert.KernelAttf16Ideal.τ).loc Cert.KernelAttf16Ideal.main_arg1))
      ∧ r.2.sem = fun _ => 0)

def quiescent_KernelAttf16Ideal_pre_finite_attf16 [hKernelAttf16Ideal : Cert.KernelAttf16Ideal.Facts] [hPre_finite_attf16 : Cert.Pre_finite_attf16.Facts] : Prop :=
  ∀ (m : (ℓ : Loc Cert.KernelAttf16Ideal.nD Cert.KernelAttf16Ideal.τ Cert.KernelAttf16Ideal.sig) → Buf (Elt Ideal) ℓ) (g : Dev Cert.KernelAttf16Ideal.nD → PrngReg), Pre_KernelAttf16Ideal_finite_attf16 m →
    θ_run (Cert.KernelAttf16Ideal.defs (F := Ideal)) (onTc (τ := Cert.KernelAttf16Ideal.τ) (Cert.KernelAttf16Ideal.main (F := Ideal))) ⟨m, fun _ => 0, g⟩ (fun r => (∀ c : Dev Cert.KernelAttf16Ideal.nD,
      r.2.mem ((c.tc : Thread Cert.KernelAttf16Ideal.nD Cert.KernelAttf16Ideal.τ).loc Cert.KernelAttf16Ideal.main_arg0) = m ((c.tc : Thread Cert.KernelAttf16Ideal.nD Cert.KernelAttf16Ideal.τ).loc Cert.KernelAttf16Ideal.main_arg0)
      ∧ r.2.mem ((c.tc : Thread Cert.KernelAttf16Ideal.nD Cert.KernelAttf16Ideal.τ).loc Cert.KernelAttf16Ideal.main_arg1) = m ((c.tc : Thread Cert.KernelAttf16Ideal.nD Cert.KernelAttf16Ideal.τ).loc Cert.KernelAttf16Ideal.main_arg1))
      ∧ r.2.sem = fun _ => 0)

def quiescent_ReferenceAttf16Ideal [hReferenceAttf16Ideal : Cert.ReferenceAttf16Ideal.Facts] : Prop :=
  ∀ (m : (ℓ : Loc Cert.ReferenceAttf16Ideal.nD Cert.ReferenceAttf16Ideal.τ Cert.ReferenceAttf16Ideal.sig) → Buf (Elt Ideal) ℓ) (g : Dev Cert.ReferenceAttf16Ideal.nD → PrngReg), Pre_ReferenceAttf16Ideal m →
    θ_run (Cert.ReferenceAttf16Ideal.defs (F := Ideal)) (onTc (τ := Cert.ReferenceAttf16Ideal.τ) (Cert.ReferenceAttf16Ideal.main (F := Ideal))) ⟨m, fun _ => 0, g⟩ (fun r => (∀ c : Dev Cert.ReferenceAttf16Ideal.nD,
      r.2.mem ((c.tc : Thread Cert.ReferenceAttf16Ideal.nD Cert.ReferenceAttf16Ideal.τ).loc Cert.ReferenceAttf16Ideal.main_arg0) = m ((c.tc : Thread Cert.ReferenceAttf16Ideal.nD Cert.ReferenceAttf16Ideal.τ).loc Cert.ReferenceAttf16Ideal.main_arg0)
      ∧ r.2.mem ((c.tc : Thread Cert.ReferenceAttf16Ideal.nD Cert.ReferenceAttf16Ideal.τ).loc Cert.ReferenceAttf16Ideal.main_arg1) = m ((c.tc : Thread Cert.ReferenceAttf16Ideal.nD Cert.ReferenceAttf16Ideal.τ).loc Cert.ReferenceAttf16Ideal.main_arg1))
      ∧ r.2.sem = fun _ => 0)

def quiescent_ReferenceAttf16Ideal_pre_finite_attf16 [hReferenceAttf16Ideal : Cert.ReferenceAttf16Ideal.Facts] [hPre_finite_attf16 : Cert.Pre_finite_attf16.Facts] : Prop :=
  ∀ (m : (ℓ : Loc Cert.ReferenceAttf16Ideal.nD Cert.ReferenceAttf16Ideal.τ Cert.ReferenceAttf16Ideal.sig) → Buf (Elt Ideal) ℓ) (g : Dev Cert.ReferenceAttf16Ideal.nD → PrngReg), Pre_ReferenceAttf16Ideal_finite_attf16 m →
    θ_run (Cert.ReferenceAttf16Ideal.defs (F := Ideal)) (onTc (τ := Cert.ReferenceAttf16Ideal.τ) (Cert.ReferenceAttf16Ideal.main (F := Ideal))) ⟨m, fun _ => 0, g⟩ (fun r => (∀ c : Dev Cert.ReferenceAttf16Ideal.nD,
      r.2.mem ((c.tc : Thread Cert.ReferenceAttf16Ideal.nD Cert.ReferenceAttf16Ideal.τ).loc Cert.ReferenceAttf16Ideal.main_arg0) = m ((c.tc : Thread Cert.ReferenceAttf16Ideal.nD Cert.ReferenceAttf16Ideal.τ).loc Cert.ReferenceAttf16Ideal.main_arg0)
      ∧ r.2.mem ((c.tc : Thread Cert.ReferenceAttf16Ideal.nD Cert.ReferenceAttf16Ideal.τ).loc Cert.ReferenceAttf16Ideal.main_arg1) = m ((c.tc : Thread Cert.ReferenceAttf16Ideal.nD Cert.ReferenceAttf16Ideal.τ).loc Cert.ReferenceAttf16Ideal.main_arg1))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1))
      ∧ r.2.sem = fun _ => 0)

def quiescent_KernelXo [hKernelXo : Cert.KernelXo.Facts] : Prop :=
  ∀ (m : (ℓ : Loc Cert.KernelXo.nD Cert.KernelXo.τ Cert.KernelXo.sig) → Buf (Elt Bits) ℓ) (g : Dev Cert.KernelXo.nD → PrngReg), Pre_KernelXo m →
    θ_run (Cert.KernelXo.defs (F := Bits)) (onTc (τ := Cert.KernelXo.τ) (Cert.KernelXo.main (F := Bits))) ⟨m, fun _ => 0, g⟩ (fun r => (∀ c : Dev Cert.KernelXo.nD,
      r.2.mem ((c.tc : Thread Cert.KernelXo.nD Cert.KernelXo.τ).loc Cert.KernelXo.main_arg0) = m ((c.tc : Thread Cert.KernelXo.nD Cert.KernelXo.τ).loc Cert.KernelXo.main_arg0)
      ∧ r.2.mem ((c.tc : Thread Cert.KernelXo.nD Cert.KernelXo.τ).loc Cert.KernelXo.main_arg1) = m ((c.tc : Thread Cert.KernelXo.nD Cert.KernelXo.τ).loc Cert.KernelXo.main_arg1)
      ∧ r.2.mem ((c.tc : Thread Cert.KernelXo.nD Cert.KernelXo.τ).loc Cert.KernelXo.main_arg2) = m ((c.tc : Thread Cert.KernelXo.nD Cert.KernelXo.τ).loc Cert.KernelXo.main_arg2)
      ∧ r.2.mem ((c.tc : Thread Cert.KernelXo.nD Cert.KernelXo.τ).loc Cert.KernelXo.main_arg3) = m ((c.tc : Thread Cert.KernelXo.nD Cert.KernelXo.τ).loc Cert.KernelXo.main_arg3))
      ∧ r.2.sem = fun _ => 0)

def quiescent_KernelXoIdeal [hKernelXoIdeal : Cert.KernelXoIdeal.Facts] : Prop :=
  ∀ (m : (ℓ : Loc Cert.KernelXoIdeal.nD Cert.KernelXoIdeal.τ Cert.KernelXoIdeal.sig) → Buf (Elt Ideal) ℓ) (g : Dev Cert.KernelXoIdeal.nD → PrngReg), Pre_KernelXoIdeal m →
    θ_run (Cert.KernelXoIdeal.defs (F := Ideal)) (onTc (τ := Cert.KernelXoIdeal.τ) (Cert.KernelXoIdeal.main (F := Ideal))) ⟨m, fun _ => 0, g⟩ (fun r => (∀ c : Dev Cert.KernelXoIdeal.nD,
      r.2.mem ((c.tc : Thread Cert.KernelXoIdeal.nD Cert.KernelXoIdeal.τ).loc Cert.KernelXoIdeal.main_arg0) = m ((c.tc : Thread Cert.KernelXoIdeal.nD Cert.KernelXoIdeal.τ).loc Cert.KernelXoIdeal.main_arg0)
      ∧ r.2.mem ((c.tc : Thread Cert.KernelXoIdeal.nD Cert.KernelXoIdeal.τ).loc Cert.KernelXoIdeal.main_arg1) = m ((c.tc : Thread Cert.KernelXoIdeal.nD Cert.KernelXoIdeal.τ).loc Cert.KernelXoIdeal.main_arg1)
      ∧ r.2.mem ((c.tc : Thread Cert.KernelXoIdeal.nD Cert.KernelXoIdeal.τ).loc Cert.KernelXoIdeal.main_arg2) = m ((c.tc : Thread Cert.KernelXoIdeal.nD Cert.KernelXoIdeal.τ).loc Cert.KernelXoIdeal.main_arg2)
      ∧ r.2.mem ((c.tc : Thread Cert.KernelXoIdeal.nD Cert.KernelXoIdeal.τ).loc Cert.KernelXoIdeal.main_arg3) = m ((c.tc : Thread Cert.KernelXoIdeal.nD Cert.KernelXoIdeal.τ).loc Cert.KernelXoIdeal.main_arg3))
      ∧ r.2.sem = fun _ => 0)

def quiescent_ReferenceXoIdeal [hReferenceXoIdeal : Cert.ReferenceXoIdeal.Facts] : Prop :=
  ∀ (m : (ℓ : Loc Cert.ReferenceXoIdeal.nD Cert.ReferenceXoIdeal.τ Cert.ReferenceXoIdeal.sig) → Buf (Elt Ideal) ℓ) (g : Dev Cert.ReferenceXoIdeal.nD → PrngReg), Pre_ReferenceXoIdeal m →
    θ_run (Cert.ReferenceXoIdeal.defs (F := Ideal)) (onTc (τ := Cert.ReferenceXoIdeal.τ) (Cert.ReferenceXoIdeal.main (F := Ideal))) ⟨m, fun _ => 0, g⟩ (fun r => (∀ c : Dev Cert.ReferenceXoIdeal.nD,
      r.2.mem ((c.tc : Thread Cert.ReferenceXoIdeal.nD Cert.ReferenceXoIdeal.τ).loc Cert.ReferenceXoIdeal.main_arg0) = m ((c.tc : Thread Cert.ReferenceXoIdeal.nD Cert.ReferenceXoIdeal.τ).loc Cert.ReferenceXoIdeal.main_arg0)
      ∧ r.2.mem ((c.tc : Thread Cert.ReferenceXoIdeal.nD Cert.ReferenceXoIdeal.τ).loc Cert.ReferenceXoIdeal.main_arg1) = m ((c.tc : Thread Cert.ReferenceXoIdeal.nD Cert.ReferenceXoIdeal.τ).loc Cert.ReferenceXoIdeal.main_arg1)
      ∧ r.2.mem ((c.tc : Thread Cert.ReferenceXoIdeal.nD Cert.ReferenceXoIdeal.τ).loc Cert.ReferenceXoIdeal.main_arg2) = m ((c.tc : Thread Cert.ReferenceXoIdeal.nD Cert.ReferenceXoIdeal.τ).loc Cert.ReferenceXoIdeal.main_arg2)
      ∧ r.2.mem ((c.tc : Thread Cert.ReferenceXoIdeal.nD Cert.ReferenceXoIdeal.τ).loc Cert.ReferenceXoIdeal.main_arg3) = m ((c.tc : Thread Cert.ReferenceXoIdeal.nD Cert.ReferenceXoIdeal.τ).loc Cert.ReferenceXoIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDelta [hKernelDelta : Cert.KernelDelta.Facts] : Prop :=
  ∀ (m : (ℓ : Loc Cert.KernelDelta.nD Cert.KernelDelta.τ Cert.KernelDelta.sig) → Buf (Elt Bits) ℓ) (g : Dev Cert.KernelDelta.nD → PrngReg), Pre_KernelDelta m →
    θ_run (Cert.KernelDelta.defs (F := Bits)) (onTc (τ := Cert.KernelDelta.τ) (Cert.KernelDelta.main (F := Bits))) ⟨m, fun _ => 0, g⟩ (fun r => (∀ c : Dev Cert.KernelDelta.nD,
      r.2.mem ((c.tc : Thread Cert.KernelDelta.nD Cert.KernelDelta.τ).loc Cert.KernelDelta.main_arg0) = m ((c.tc : Thread Cert.KernelDelta.nD Cert.KernelDelta.τ).loc Cert.KernelDelta.main_arg0)
      ∧ r.2.mem ((c.tc : Thread Cert.KernelDelta.nD Cert.KernelDelta.τ).loc Cert.KernelDelta.main_arg1) = m ((c.tc : Thread Cert.KernelDelta.nD Cert.KernelDelta.τ).loc Cert.KernelDelta.main_arg1))
      ∧ r.2.sem = fun _ => 0)

def quiescent_KernelDeltaIdeal [hKernelDeltaIdeal : Cert.KernelDeltaIdeal.Facts] : Prop :=
  ∀ (m : (ℓ : Loc Cert.KernelDeltaIdeal.nD Cert.KernelDeltaIdeal.τ Cert.KernelDeltaIdeal.sig) → Buf (Elt Ideal) ℓ) (g : Dev Cert.KernelDeltaIdeal.nD → PrngReg), Pre_KernelDeltaIdeal m →
    θ_run (Cert.KernelDeltaIdeal.defs (F := Ideal)) (onTc (τ := Cert.KernelDeltaIdeal.τ) (Cert.KernelDeltaIdeal.main (F := Ideal))) ⟨m, fun _ => 0, g⟩ (fun r => (∀ c : Dev Cert.KernelDeltaIdeal.nD,
      r.2.mem ((c.tc : Thread Cert.KernelDeltaIdeal.nD Cert.KernelDeltaIdeal.τ).loc Cert.KernelDeltaIdeal.main_arg0) = m ((c.tc : Thread Cert.KernelDeltaIdeal.nD Cert.KernelDeltaIdeal.τ).loc Cert.KernelDeltaIdeal.main_arg0)
      ∧ r.2.mem ((c.tc : Thread Cert.KernelDeltaIdeal.nD Cert.KernelDeltaIdeal.τ).loc Cert.KernelDeltaIdeal.main_arg1) = m ((c.tc : Thread Cert.KernelDeltaIdeal.nD Cert.KernelDeltaIdeal.τ).loc Cert.KernelDeltaIdeal.main_arg1))
      ∧ r.2.sem = fun _ => 0)

def quiescent_ReferenceDeltaIdeal [hReferenceDeltaIdeal : Cert.ReferenceDeltaIdeal.Facts] : Prop :=
  ∀ (m : (ℓ : Loc Cert.ReferenceDeltaIdeal.nD Cert.ReferenceDeltaIdeal.τ Cert.ReferenceDeltaIdeal.sig) → Buf (Elt Ideal) ℓ) (g : Dev Cert.ReferenceDeltaIdeal.nD → PrngReg), Pre_ReferenceDeltaIdeal m →
    θ_run (Cert.ReferenceDeltaIdeal.defs (F := Ideal)) (onTc (τ := Cert.ReferenceDeltaIdeal.τ) (Cert.ReferenceDeltaIdeal.main (F := Ideal))) ⟨m, fun _ => 0, g⟩ (fun r => (∀ c : Dev Cert.ReferenceDeltaIdeal.nD,
      r.2.mem ((c.tc : Thread Cert.ReferenceDeltaIdeal.nD Cert.ReferenceDeltaIdeal.τ).loc Cert.ReferenceDeltaIdeal.main_arg0) = m ((c.tc : Thread Cert.ReferenceDeltaIdeal.nD Cert.ReferenceDeltaIdeal.τ).loc Cert.ReferenceDeltaIdeal.main_arg0)
      ∧ r.2.mem ((c.tc : Thread Cert.ReferenceDeltaIdeal.nD Cert.ReferenceDeltaIdeal.τ).loc Cert.ReferenceDeltaIdeal.main_arg1) = m ((c.tc : Thread Cert.ReferenceDeltaIdeal.nD Cert.ReferenceDeltaIdeal.τ).loc Cert.ReferenceDeltaIdeal.main_arg1))
      ∧ r.2.sem = fun _ => 0)

def quiescent_KernelDwup [hKernelDwup : Cert.KernelDwup.Facts] : Prop :=
  ∀ (m : (ℓ : Loc Cert.KernelDwup.nD Cert.KernelDwup.τ Cert.KernelDwup.sig) → Buf (Elt Bits) ℓ) (g : Dev Cert.KernelDwup.nD → PrngReg), Pre_KernelDwup m →
    θ_run (Cert.KernelDwup.defs (F := Bits)) (onTc (τ := Cert.KernelDwup.τ) (Cert.KernelDwup.main (F := Bits))) ⟨m, fun _ => 0, g⟩ (fun r => (∀ c : Dev Cert.KernelDwup.nD,
      r.2.mem ((c.tc : Thread Cert.KernelDwup.nD Cert.KernelDwup.τ).loc Cert.KernelDwup.main_arg0) = m ((c.tc : Thread Cert.KernelDwup.nD Cert.KernelDwup.τ).loc Cert.KernelDwup.main_arg0)
      ∧ r.2.mem ((c.tc : Thread Cert.KernelDwup.nD Cert.KernelDwup.τ).loc Cert.KernelDwup.main_arg1) = m ((c.tc : Thread Cert.KernelDwup.nD Cert.KernelDwup.τ).loc Cert.KernelDwup.main_arg1)
      ∧ r.2.mem ((c.tc : Thread Cert.KernelDwup.nD Cert.KernelDwup.τ).loc Cert.KernelDwup.main_arg2) = m ((c.tc : Thread Cert.KernelDwup.nD Cert.KernelDwup.τ).loc Cert.KernelDwup.main_arg2))
      ∧ r.2.sem = fun _ => 0)

def quiescent_KernelDwupIdeal [hKernelDwupIdeal : Cert.KernelDwupIdeal.Facts] : Prop :=
  ∀ (m : (ℓ : Loc Cert.KernelDwupIdeal.nD Cert.KernelDwupIdeal.τ Cert.KernelDwupIdeal.sig) → Buf (Elt Ideal) ℓ) (g : Dev Cert.KernelDwupIdeal.nD → PrngReg), Pre_KernelDwupIdeal m →
    θ_run (Cert.KernelDwupIdeal.defs (F := Ideal)) (onTc (τ := Cert.KernelDwupIdeal.τ) (Cert.KernelDwupIdeal.main (F := Ideal))) ⟨m, fun _ => 0, g⟩ (fun r => (∀ c : Dev Cert.KernelDwupIdeal.nD,
      r.2.mem ((c.tc : Thread Cert.KernelDwupIdeal.nD Cert.KernelDwupIdeal.τ).loc Cert.KernelDwupIdeal.main_arg0) = m ((c.tc : Thread Cert.KernelDwupIdeal.nD Cert.KernelDwupIdeal.τ).loc Cert.KernelDwupIdeal.main_arg0)
      ∧ r.2.mem ((c.tc : Thread Cert.KernelDwupIdeal.nD Cert.KernelDwupIdeal.τ).loc Cert.KernelDwupIdeal.main_arg1) = m ((c.tc : Thread Cert.KernelDwupIdeal.nD Cert.KernelDwupIdeal.τ).loc Cert.KernelDwupIdeal.main_arg1)
      ∧ r.2.mem ((c.tc : Thread Cert.KernelDwupIdeal.nD Cert.KernelDwupIdeal.τ).loc Cert.KernelDwupIdeal.main_arg2) = m ((c.tc : Thread Cert.KernelDwupIdeal.nD Cert.KernelDwupIdeal.τ).loc Cert.KernelDwupIdeal.main_arg2))
      ∧ r.2.sem = fun _ => 0)

def quiescent_ReferenceDwupIdeal [hReferenceDwupIdeal : Cert.ReferenceDwupIdeal.Facts] : Prop :=
  ∀ (m : (ℓ : Loc Cert.ReferenceDwupIdeal.nD Cert.ReferenceDwupIdeal.τ Cert.ReferenceDwupIdeal.sig) → Buf (Elt Ideal) ℓ) (g : Dev Cert.ReferenceDwupIdeal.nD → PrngReg), Pre_ReferenceDwupIdeal m →
    θ_run (Cert.ReferenceDwupIdeal.defs (F := Ideal)) (onTc (τ := Cert.ReferenceDwupIdeal.τ) (Cert.ReferenceDwupIdeal.main (F := Ideal))) ⟨m, fun _ => 0, g⟩ (fun r => (∀ c : Dev Cert.ReferenceDwupIdeal.nD,
      r.2.mem ((c.tc : Thread Cert.ReferenceDwupIdeal.nD Cert.ReferenceDwupIdeal.τ).loc Cert.ReferenceDwupIdeal.main_arg0) = m ((c.tc : Thread Cert.ReferenceDwupIdeal.nD Cert.ReferenceDwupIdeal.τ).loc Cert.ReferenceDwupIdeal.main_arg0)
      ∧ r.2.mem ((c.tc : Thread Cert.ReferenceDwupIdeal.nD Cert.ReferenceDwupIdeal.τ).loc Cert.ReferenceDwupIdeal.main_arg1) = m ((c.tc : Thread Cert.ReferenceDwupIdeal.nD Cert.ReferenceDwupIdeal.τ).loc Cert.ReferenceDwupIdeal.main_arg1)
      ∧ r.2.mem ((c.tc : Thread Cert.ReferenceDwupIdeal.nD Cert.ReferenceDwupIdeal.τ).loc Cert.ReferenceDwupIdeal.main_arg2) = m ((c.tc : Thread Cert.ReferenceDwupIdeal.nD Cert.ReferenceDwupIdeal.τ).loc Cert.ReferenceDwupIdeal.main_arg2))
      ∧ r.2.sem = fun _ => 0)

def quiescent_KernelDxo [hKernelDxo : Cert.KernelDxo.Facts] : Prop :=
  ∀ (m : (ℓ : Loc Cert.KernelDxo.nD Cert.KernelDxo.τ Cert.KernelDxo.sig) → Buf (Elt Bits) ℓ) (g : Dev Cert.KernelDxo.nD → PrngReg), Pre_KernelDxo m →
    θ_run (Cert.KernelDxo.defs (F := Bits)) (onTc (τ := Cert.KernelDxo.τ) (Cert.KernelDxo.main (F := Bits))) ⟨m, fun _ => 0, g⟩ (fun r => (∀ c : Dev Cert.KernelDxo.nD,
      r.2.mem ((c.tc : Thread Cert.KernelDxo.nD Cert.KernelDxo.τ).loc Cert.KernelDxo.main_arg0) = m ((c.tc : Thread Cert.KernelDxo.nD Cert.KernelDxo.τ).loc Cert.KernelDxo.main_arg0)
      ∧ r.2.mem ((c.tc : Thread Cert.KernelDxo.nD Cert.KernelDxo.τ).loc Cert.KernelDxo.main_arg1) = m ((c.tc : Thread Cert.KernelDxo.nD Cert.KernelDxo.τ).loc Cert.KernelDxo.main_arg1)
      ∧ r.2.mem ((c.tc : Thread Cert.KernelDxo.nD Cert.KernelDxo.τ).loc Cert.KernelDxo.main_arg2) = m ((c.tc : Thread Cert.KernelDxo.nD Cert.KernelDxo.τ).loc Cert.KernelDxo.main_arg2))
      ∧ r.2.sem = fun _ => 0)

def quiescent_KernelDxoIdeal [hKernelDxoIdeal : Cert.KernelDxoIdeal.Facts] : Prop :=
  ∀ (m : (ℓ : Loc Cert.KernelDxoIdeal.nD Cert.KernelDxoIdeal.τ Cert.KernelDxoIdeal.sig) → Buf (Elt Ideal) ℓ) (g : Dev Cert.KernelDxoIdeal.nD → PrngReg), Pre_KernelDxoIdeal m →
    θ_run (Cert.KernelDxoIdeal.defs (F := Ideal)) (onTc (τ := Cert.KernelDxoIdeal.τ) (Cert.KernelDxoIdeal.main (F := Ideal))) ⟨m, fun _ => 0, g⟩ (fun r => (∀ c : Dev Cert.KernelDxoIdeal.nD,
      r.2.mem ((c.tc : Thread Cert.KernelDxoIdeal.nD Cert.KernelDxoIdeal.τ).loc Cert.KernelDxoIdeal.main_arg0) = m ((c.tc : Thread Cert.KernelDxoIdeal.nD Cert.KernelDxoIdeal.τ).loc Cert.KernelDxoIdeal.main_arg0)
      ∧ r.2.mem ((c.tc : Thread Cert.KernelDxoIdeal.nD Cert.KernelDxoIdeal.τ).loc Cert.KernelDxoIdeal.main_arg1) = m ((c.tc : Thread Cert.KernelDxoIdeal.nD Cert.KernelDxoIdeal.τ).loc Cert.KernelDxoIdeal.main_arg1)
      ∧ r.2.mem ((c.tc : Thread Cert.KernelDxoIdeal.nD Cert.KernelDxoIdeal.τ).loc Cert.KernelDxoIdeal.main_arg2) = m ((c.tc : Thread Cert.KernelDxoIdeal.nD Cert.KernelDxoIdeal.τ).loc Cert.KernelDxoIdeal.main_arg2))
      ∧ r.2.sem = fun _ => 0)

def quiescent_ReferenceDxoIdeal [hReferenceDxoIdeal : Cert.ReferenceDxoIdeal.Facts] : Prop :=
  ∀ (m : (ℓ : Loc Cert.ReferenceDxoIdeal.nD Cert.ReferenceDxoIdeal.τ Cert.ReferenceDxoIdeal.sig) → Buf (Elt Ideal) ℓ) (g : Dev Cert.ReferenceDxoIdeal.nD → PrngReg), Pre_ReferenceDxoIdeal m →
    θ_run (Cert.ReferenceDxoIdeal.defs (F := Ideal)) (onTc (τ := Cert.ReferenceDxoIdeal.τ) (Cert.ReferenceDxoIdeal.main (F := Ideal))) ⟨m, fun _ => 0, g⟩ (fun r => (∀ c : Dev Cert.ReferenceDxoIdeal.nD,
      r.2.mem ((c.tc : Thread Cert.ReferenceDxoIdeal.nD Cert.ReferenceDxoIdeal.τ).loc Cert.ReferenceDxoIdeal.main_arg0) = m ((c.tc : Thread Cert.ReferenceDxoIdeal.nD Cert.ReferenceDxoIdeal.τ).loc Cert.ReferenceDxoIdeal.main_arg0)
      ∧ r.2.mem ((c.tc : Thread Cert.ReferenceDxoIdeal.nD Cert.ReferenceDxoIdeal.τ).loc Cert.ReferenceDxoIdeal.main_arg1) = m ((c.tc : Thread Cert.ReferenceDxoIdeal.nD Cert.ReferenceDxoIdeal.τ).loc Cert.ReferenceDxoIdeal.main_arg1)
      ∧ r.2.mem ((c.tc : Thread Cert.ReferenceDxoIdeal.nD Cert.ReferenceDxoIdeal.τ).loc Cert.ReferenceDxoIdeal.main_arg2) = m ((c.tc : Thread Cert.ReferenceDxoIdeal.nD Cert.ReferenceDxoIdeal.τ).loc Cert.ReferenceDxoIdeal.main_arg2))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0))
      ∧ r.2.sem = fun _ => 0)

def quiescent_KernelComb [hKernelComb : Cert.KernelComb.Facts] : Prop :=
  ∀ (m : (ℓ : Loc Cert.KernelComb.nD Cert.KernelComb.τ Cert.KernelComb.sig) → Buf (Elt Bits) ℓ) (g : Dev Cert.KernelComb.nD → PrngReg), Pre_KernelComb m →
    θ_run (Cert.KernelComb.defs (F := Bits)) (onTc (τ := Cert.KernelComb.τ) (Cert.KernelComb.main (F := Bits))) ⟨m, fun _ => 0, g⟩ (fun r => (∀ c : Dev Cert.KernelComb.nD,
      r.2.mem ((c.tc : Thread Cert.KernelComb.nD Cert.KernelComb.τ).loc Cert.KernelComb.main_arg0) = m ((c.tc : Thread Cert.KernelComb.nD Cert.KernelComb.τ).loc Cert.KernelComb.main_arg0)
      ∧ r.2.mem ((c.tc : Thread Cert.KernelComb.nD Cert.KernelComb.τ).loc Cert.KernelComb.main_arg1) = m ((c.tc : Thread Cert.KernelComb.nD Cert.KernelComb.τ).loc Cert.KernelComb.main_arg1)
      ∧ r.2.mem ((c.tc : Thread Cert.KernelComb.nD Cert.KernelComb.τ).loc Cert.KernelComb.main_arg2) = m ((c.tc : Thread Cert.KernelComb.nD Cert.KernelComb.τ).loc Cert.KernelComb.main_arg2)
      ∧ r.2.mem ((c.tc : Thread Cert.KernelComb.nD Cert.KernelComb.τ).loc Cert.KernelComb.main_arg3) = m ((c.tc : Thread Cert.KernelComb.nD Cert.KernelComb.τ).loc Cert.KernelComb.main_arg3)
      ∧ r.2.mem ((c.tc : Thread Cert.KernelComb.nD Cert.KernelComb.τ).loc Cert.KernelComb.main_arg4) = m ((c.tc : Thread Cert.KernelComb.nD Cert.KernelComb.τ).loc Cert.KernelComb.main_arg4)
      ∧ r.2.mem ((c.tc : Thread Cert.KernelComb.nD Cert.KernelComb.τ).loc Cert.KernelComb.main_arg5) = m ((c.tc : Thread Cert.KernelComb.nD Cert.KernelComb.τ).loc Cert.KernelComb.main_arg5))
      ∧ r.2.sem = fun _ => 0)

def quiescent_KernelCombIdeal [hKernelCombIdeal : Cert.KernelCombIdeal.Facts] : Prop :=
  ∀ (m : (ℓ : Loc Cert.KernelCombIdeal.nD Cert.KernelCombIdeal.τ Cert.KernelCombIdeal.sig) → Buf (Elt Ideal) ℓ) (g : Dev Cert.KernelCombIdeal.nD → PrngReg), Pre_KernelCombIdeal m →
    θ_run (Cert.KernelCombIdeal.defs (F := Ideal)) (onTc (τ := Cert.KernelCombIdeal.τ) (Cert.KernelCombIdeal.main (F := Ideal))) ⟨m, fun _ => 0, g⟩ (fun r => (∀ c : Dev Cert.KernelCombIdeal.nD,
      r.2.mem ((c.tc : Thread Cert.KernelCombIdeal.nD Cert.KernelCombIdeal.τ).loc Cert.KernelCombIdeal.main_arg0) = m ((c.tc : Thread Cert.KernelCombIdeal.nD Cert.KernelCombIdeal.τ).loc Cert.KernelCombIdeal.main_arg0)
      ∧ r.2.mem ((c.tc : Thread Cert.KernelCombIdeal.nD Cert.KernelCombIdeal.τ).loc Cert.KernelCombIdeal.main_arg1) = m ((c.tc : Thread Cert.KernelCombIdeal.nD Cert.KernelCombIdeal.τ).loc Cert.KernelCombIdeal.main_arg1)
      ∧ r.2.mem ((c.tc : Thread Cert.KernelCombIdeal.nD Cert.KernelCombIdeal.τ).loc Cert.KernelCombIdeal.main_arg2) = m ((c.tc : Thread Cert.KernelCombIdeal.nD Cert.KernelCombIdeal.τ).loc Cert.KernelCombIdeal.main_arg2)
      ∧ r.2.mem ((c.tc : Thread Cert.KernelCombIdeal.nD Cert.KernelCombIdeal.τ).loc Cert.KernelCombIdeal.main_arg3) = m ((c.tc : Thread Cert.KernelCombIdeal.nD Cert.KernelCombIdeal.τ).loc Cert.KernelCombIdeal.main_arg3)
      ∧ r.2.mem ((c.tc : Thread Cert.KernelCombIdeal.nD Cert.KernelCombIdeal.τ).loc Cert.KernelCombIdeal.main_arg4) = m ((c.tc : Thread Cert.KernelCombIdeal.nD Cert.KernelCombIdeal.τ).loc Cert.KernelCombIdeal.main_arg4)
      ∧ r.2.mem ((c.tc : Thread Cert.KernelCombIdeal.nD Cert.KernelCombIdeal.τ).loc Cert.KernelCombIdeal.main_arg5) = m ((c.tc : Thread Cert.KernelCombIdeal.nD Cert.KernelCombIdeal.τ).loc Cert.KernelCombIdeal.main_arg5))
      ∧ r.2.sem = fun _ => 0)

def preserves_KernelMem_KernelMemIdeal : Prop :=
  True

def algebraic_KernelMemIdeal_ReferenceMemIdeal_pre_finite_mem [hKernelMemIdeal : Cert.KernelMemIdeal.Facts] [hReferenceMemIdeal : Cert.ReferenceMemIdeal.Facts] [hPre_finite_mem : Cert.Pre_finite_mem.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal_finite_mem m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)) →
    ∃ (v0 : (c : Dev Cert.KernelMemIdeal.nD) → Buf (Elt Ideal) ((c.tc : Thread Cert.KernelMemIdeal.nD Cert.KernelMemIdeal.τ).loc Cert.KernelMemIdeal.main_v0_0)) (v1 : (c : Dev Cert.KernelMemIdeal.nD) → Buf (Elt Ideal) ((c.tc : Thread Cert.KernelMemIdeal.nD Cert.KernelMemIdeal.τ).loc Cert.KernelMemIdeal.main_v0_1)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v0_0) = v0 c
          ∧ r.2.mem ((c.tc : Thread Cert.KernelMemIdeal.nD Cert.KernelMemIdeal.τ).loc Cert.KernelMemIdeal.main_v0_1) = v1 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v37) = v0 c
          ∧ r.2.mem ((c.tc : Thread Cert.ReferenceMemIdeal.nD Cert.ReferenceMemIdeal.τ).loc Cert.ReferenceMemIdeal.main_v40) = v1 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2))

def preserves_KernelXatt_KernelXattIdeal : Prop :=
  True

def algebraic_KernelXattIdeal_ReferenceXattIdeal_pre_finite_xatt [hKernelXattIdeal : Cert.KernelXattIdeal.Facts] [hReferenceXattIdeal : Cert.ReferenceXattIdeal.Facts] [hPre_finite_xatt : Cert.Pre_finite_xatt.Facts] : Prop :=
  ∀ (m : (ℓ : Loc Cert.KernelXattIdeal.nD Cert.KernelXattIdeal.τ Cert.KernelXattIdeal.sig) → Buf (Elt Ideal) ℓ) (g : Dev Cert.KernelXattIdeal.nD → PrngReg)
    (m' : (ℓ : Loc Cert.ReferenceXattIdeal.nD Cert.ReferenceXattIdeal.τ Cert.ReferenceXattIdeal.sig) → Buf (Elt Ideal) ℓ) (g' : Dev Cert.ReferenceXattIdeal.nD → PrngReg), Pre_KernelXattIdeal_finite_xatt m →
    (∀ c : Dev Cert.KernelXattIdeal.nD,
      m' ((c.tc : Thread Cert.ReferenceXattIdeal.nD Cert.ReferenceXattIdeal.τ).loc Cert.ReferenceXattIdeal.main_arg0) = m ((c.tc : Thread Cert.KernelXattIdeal.nD Cert.KernelXattIdeal.τ).loc Cert.KernelXattIdeal.main_arg0)
      ∧ m' ((c.tc : Thread Cert.ReferenceXattIdeal.nD Cert.ReferenceXattIdeal.τ).loc Cert.ReferenceXattIdeal.main_arg1) = m ((c.tc : Thread Cert.KernelXattIdeal.nD Cert.KernelXattIdeal.τ).loc Cert.KernelXattIdeal.main_arg1)
      ∧ m' ((c.tc : Thread Cert.ReferenceXattIdeal.nD Cert.ReferenceXattIdeal.τ).loc Cert.ReferenceXattIdeal.main_arg2) = m ((c.tc : Thread Cert.KernelXattIdeal.nD Cert.KernelXattIdeal.τ).loc Cert.KernelXattIdeal.main_arg2)
      ∧ m' ((c.tc : Thread Cert.ReferenceXattIdeal.nD Cert.ReferenceXattIdeal.τ).loc Cert.ReferenceXattIdeal.main_arg3) = m ((c.tc : Thread Cert.KernelXattIdeal.nD Cert.KernelXattIdeal.τ).loc Cert.KernelXattIdeal.main_arg3)) →
    ∃ (v0 : (c : Dev Cert.KernelXattIdeal.nD) → Buf (Elt Ideal) ((c.tc : Thread Cert.KernelXattIdeal.nD Cert.KernelXattIdeal.τ).loc Cert.KernelXattIdeal.main_v0_0)) (v1 : (c : Dev Cert.KernelXattIdeal.nD) → Buf (Elt Ideal) ((c.tc : Thread Cert.KernelXattIdeal.nD Cert.KernelXattIdeal.τ).loc Cert.KernelXattIdeal.main_v0_1)) (v2 : (c : Dev Cert.KernelXattIdeal.nD) → Buf (Elt Ideal) ((c.tc : Thread Cert.KernelXattIdeal.nD Cert.KernelXattIdeal.τ).loc Cert.KernelXattIdeal.main_v0_2)),
      θ_run (Cert.KernelXattIdeal.defs (F := Ideal)) (onTc (τ := Cert.KernelXattIdeal.τ) (Cert.KernelXattIdeal.main (F := Ideal))) ⟨m, fun _ => 0, g⟩ (fun r => ∀ c : Dev Cert.KernelXattIdeal.nD,
          r.2.mem ((c.tc : Thread Cert.KernelXattIdeal.nD Cert.KernelXattIdeal.τ).loc Cert.KernelXattIdeal.main_v0_0) = v0 c
          ∧ r.2.mem ((c.tc : Thread Cert.KernelXattIdeal.nD Cert.KernelXattIdeal.τ).loc Cert.KernelXattIdeal.main_v0_1) = v1 c
          ∧ r.2.mem ((c.tc : Thread Cert.KernelXattIdeal.nD Cert.KernelXattIdeal.τ).loc Cert.KernelXattIdeal.main_v0_2) = v2 c
          ∧ r.2.mem ((c.tc : Thread Cert.KernelXattIdeal.nD Cert.KernelXattIdeal.τ).loc Cert.KernelXattIdeal.main_arg0) = m ((c.tc : Thread Cert.KernelXattIdeal.nD Cert.KernelXattIdeal.τ).loc Cert.KernelXattIdeal.main_arg0)
          ∧ r.2.mem ((c.tc : Thread Cert.KernelXattIdeal.nD Cert.KernelXattIdeal.τ).loc Cert.KernelXattIdeal.main_arg1) = m ((c.tc : Thread Cert.KernelXattIdeal.nD Cert.KernelXattIdeal.τ).loc Cert.KernelXattIdeal.main_arg1)
          ∧ r.2.mem ((c.tc : Thread Cert.KernelXattIdeal.nD Cert.KernelXattIdeal.τ).loc Cert.KernelXattIdeal.main_arg2) = m ((c.tc : Thread Cert.KernelXattIdeal.nD Cert.KernelXattIdeal.τ).loc Cert.KernelXattIdeal.main_arg2)
          ∧ r.2.mem ((c.tc : Thread Cert.KernelXattIdeal.nD Cert.KernelXattIdeal.τ).loc Cert.KernelXattIdeal.main_arg3) = m ((c.tc : Thread Cert.KernelXattIdeal.nD Cert.KernelXattIdeal.τ).loc Cert.KernelXattIdeal.main_arg3))
      ∧ θ_run (Cert.ReferenceXattIdeal.defs (F := Ideal)) (onTc (τ := Cert.ReferenceXattIdeal.τ) (Cert.ReferenceXattIdeal.main (F := Ideal))) ⟨m', fun _ => 0, g'⟩ (fun r => ∀ c : Dev Cert.ReferenceXattIdeal.nD,
          r.2.mem ((c.tc : Thread Cert.ReferenceXattIdeal.nD Cert.ReferenceXattIdeal.τ).loc Cert.ReferenceXattIdeal.main_v67) = v0 c
          ∧ r.2.mem ((c.tc : Thread Cert.ReferenceXattIdeal.nD Cert.ReferenceXattIdeal.τ).loc Cert.ReferenceXattIdeal.main_v65) = v1 c
          ∧ r.2.mem ((c.tc : Thread Cert.ReferenceXattIdeal.nD Cert.ReferenceXattIdeal.τ).loc Cert.ReferenceXattIdeal.main_v64) = v2 c
          ∧ r.2.mem ((c.tc : Thread Cert.ReferenceXattIdeal.nD Cert.ReferenceXattIdeal.τ).loc Cert.ReferenceXattIdeal.main_arg0) = m' ((c.tc : Thread Cert.ReferenceXattIdeal.nD Cert.ReferenceXattIdeal.τ).loc Cert.ReferenceXattIdeal.main_arg0)
          ∧ r.2.mem ((c.tc : Thread Cert.ReferenceXattIdeal.nD Cert.ReferenceXattIdeal.τ).loc Cert.ReferenceXattIdeal.main_arg1) = m' ((c.tc : Thread Cert.ReferenceXattIdeal.nD Cert.ReferenceXattIdeal.τ).loc Cert.ReferenceXattIdeal.main_arg1)
          ∧ r.2.mem ((c.tc : Thread Cert.ReferenceXattIdeal.nD Cert.ReferenceXattIdeal.τ).loc Cert.ReferenceXattIdeal.main_arg2) = m' ((c.tc : Thread Cert.ReferenceXattIdeal.nD Cert.ReferenceXattIdeal.τ).loc Cert.ReferenceXattIdeal.main_arg2)
          ∧ r.2.mem ((c.tc : Thread Cert.ReferenceXattIdeal.nD Cert.ReferenceXattIdeal.τ).loc Cert.ReferenceXattIdeal.main_arg3) = m' ((c.tc : Thread Cert.ReferenceXattIdeal.nD Cert.ReferenceXattIdeal.τ).loc Cert.ReferenceXattIdeal.main_arg3))

def preserves_KernelHn_KernelHnIdeal : Prop :=
  True

def algebraic_KernelHnIdeal_ReferenceHnIdeal_pre_finite_hn [hKernelHnIdeal : Cert.KernelHnIdeal.Facts] [hReferenceHnIdeal : Cert.ReferenceHnIdeal.Facts] [hPre_finite_hn : Cert.Pre_finite_hn.Facts] : Prop :=
  ∀ (m : (ℓ : Loc Cert.KernelHnIdeal.nD Cert.KernelHnIdeal.τ Cert.KernelHnIdeal.sig) → Buf (Elt Ideal) ℓ) (g : Dev Cert.KernelHnIdeal.nD → PrngReg)
    (m' : (ℓ : Loc Cert.ReferenceHnIdeal.nD Cert.ReferenceHnIdeal.τ Cert.ReferenceHnIdeal.sig) → Buf (Elt Ideal) ℓ) (g' : Dev Cert.ReferenceHnIdeal.nD → PrngReg), Pre_KernelHnIdeal_finite_hn m →
    (∀ c : Dev Cert.KernelHnIdeal.nD,
      m' ((c.tc : Thread Cert.ReferenceHnIdeal.nD Cert.ReferenceHnIdeal.τ).loc Cert.ReferenceHnIdeal.main_arg0) = m ((c.tc : Thread Cert.KernelHnIdeal.nD Cert.KernelHnIdeal.τ).loc Cert.KernelHnIdeal.main_arg0)
      ∧ m' ((c.tc : Thread Cert.ReferenceHnIdeal.nD Cert.ReferenceHnIdeal.τ).loc Cert.ReferenceHnIdeal.main_arg1) = m ((c.tc : Thread Cert.KernelHnIdeal.nD Cert.KernelHnIdeal.τ).loc Cert.KernelHnIdeal.main_arg1)
      ∧ m' ((c.tc : Thread Cert.ReferenceHnIdeal.nD Cert.ReferenceHnIdeal.τ).loc Cert.ReferenceHnIdeal.main_arg2) = m ((c.tc : Thread Cert.KernelHnIdeal.nD Cert.KernelHnIdeal.τ).loc Cert.KernelHnIdeal.main_arg2)
      ∧ m' ((c.tc : Thread Cert.ReferenceHnIdeal.nD Cert.ReferenceHnIdeal.τ).loc Cert.ReferenceHnIdeal.main_arg3) = m ((c.tc : Thread Cert.KernelHnIdeal.nD Cert.KernelHnIdeal.τ).loc Cert.KernelHnIdeal.main_arg3)
      ∧ m' ((c.tc : Thread Cert.ReferenceHnIdeal.nD Cert.ReferenceHnIdeal.τ).loc Cert.ReferenceHnIdeal.main_arg4) = m ((c.tc : Thread Cert.KernelHnIdeal.nD Cert.KernelHnIdeal.τ).loc Cert.KernelHnIdeal.main_arg4)) →
    ∃ (v0 : (c : Dev Cert.KernelHnIdeal.nD) → Buf (Elt Ideal) ((c.tc : Thread Cert.KernelHnIdeal.nD Cert.KernelHnIdeal.τ).loc Cert.KernelHnIdeal.main_v1_0)) (v1 : (c : Dev Cert.KernelHnIdeal.nD) → Buf (Elt Ideal) ((c.tc : Thread Cert.KernelHnIdeal.nD Cert.KernelHnIdeal.τ).loc Cert.KernelHnIdeal.main_v1_1)) (v2 : (c : Dev Cert.KernelHnIdeal.nD) → Buf (Elt Ideal) ((c.tc : Thread Cert.KernelHnIdeal.nD Cert.KernelHnIdeal.τ).loc Cert.KernelHnIdeal.main_v1_2)),
      θ_run (Cert.KernelHnIdeal.defs (F := Ideal)) (onTc (τ := Cert.KernelHnIdeal.τ) (Cert.KernelHnIdeal.main (F := Ideal))) ⟨m, fun _ => 0, g⟩ (fun r => ∀ c : Dev Cert.KernelHnIdeal.nD,
          r.2.mem ((c.tc : Thread Cert.KernelHnIdeal.nD Cert.KernelHnIdeal.τ).loc Cert.KernelHnIdeal.main_v1_0) = v0 c
          ∧ r.2.mem ((c.tc : Thread Cert.KernelHnIdeal.nD Cert.KernelHnIdeal.τ).loc Cert.KernelHnIdeal.main_v1_1) = v1 c
          ∧ r.2.mem ((c.tc : Thread Cert.KernelHnIdeal.nD Cert.KernelHnIdeal.τ).loc Cert.KernelHnIdeal.main_v1_2) = v2 c
          ∧ r.2.mem ((c.tc : Thread Cert.KernelHnIdeal.nD Cert.KernelHnIdeal.τ).loc Cert.KernelHnIdeal.main_arg0) = m ((c.tc : Thread Cert.KernelHnIdeal.nD Cert.KernelHnIdeal.τ).loc Cert.KernelHnIdeal.main_arg0)
          ∧ r.2.mem ((c.tc : Thread Cert.KernelHnIdeal.nD Cert.KernelHnIdeal.τ).loc Cert.KernelHnIdeal.main_arg1) = m ((c.tc : Thread Cert.KernelHnIdeal.nD Cert.KernelHnIdeal.τ).loc Cert.KernelHnIdeal.main_arg1)
          ∧ r.2.mem ((c.tc : Thread Cert.KernelHnIdeal.nD Cert.KernelHnIdeal.τ).loc Cert.KernelHnIdeal.main_arg2) = m ((c.tc : Thread Cert.KernelHnIdeal.nD Cert.KernelHnIdeal.τ).loc Cert.KernelHnIdeal.main_arg2)
          ∧ r.2.mem ((c.tc : Thread Cert.KernelHnIdeal.nD Cert.KernelHnIdeal.τ).loc Cert.KernelHnIdeal.main_arg3) = m ((c.tc : Thread Cert.KernelHnIdeal.nD Cert.KernelHnIdeal.τ).loc Cert.KernelHnIdeal.main_arg3)
          ∧ r.2.mem ((c.tc : Thread Cert.KernelHnIdeal.nD Cert.KernelHnIdeal.τ).loc Cert.KernelHnIdeal.main_arg4) = m ((c.tc : Thread Cert.KernelHnIdeal.nD Cert.KernelHnIdeal.τ).loc Cert.KernelHnIdeal.main_arg4))
      ∧ θ_run (Cert.ReferenceHnIdeal.defs (F := Ideal)) (onTc (τ := Cert.ReferenceHnIdeal.τ) (Cert.ReferenceHnIdeal.main (F := Ideal))) ⟨m', fun _ => 0, g'⟩ (fun r => ∀ c : Dev Cert.ReferenceHnIdeal.nD,
          r.2.mem ((c.tc : Thread Cert.ReferenceHnIdeal.nD Cert.ReferenceHnIdeal.τ).loc Cert.ReferenceHnIdeal.main_v41) = v0 c
          ∧ r.2.mem ((c.tc : Thread Cert.ReferenceHnIdeal.nD Cert.ReferenceHnIdeal.τ).loc Cert.ReferenceHnIdeal.main_v43) = v1 c
          ∧ r.2.mem ((c.tc : Thread Cert.ReferenceHnIdeal.nD Cert.ReferenceHnIdeal.τ).loc Cert.ReferenceHnIdeal.main_v45) = v2 c
          ∧ r.2.mem ((c.tc : Thread Cert.ReferenceHnIdeal.nD Cert.ReferenceHnIdeal.τ).loc Cert.ReferenceHnIdeal.main_arg0) = m' ((c.tc : Thread Cert.ReferenceHnIdeal.nD Cert.ReferenceHnIdeal.τ).loc Cert.ReferenceHnIdeal.main_arg0)
          ∧ r.2.mem ((c.tc : Thread Cert.ReferenceHnIdeal.nD Cert.ReferenceHnIdeal.τ).loc Cert.ReferenceHnIdeal.main_arg1) = m' ((c.tc : Thread Cert.ReferenceHnIdeal.nD Cert.ReferenceHnIdeal.τ).loc Cert.ReferenceHnIdeal.main_arg1)
          ∧ r.2.mem ((c.tc : Thread Cert.ReferenceHnIdeal.nD Cert.ReferenceHnIdeal.τ).loc Cert.ReferenceHnIdeal.main_arg2) = m' ((c.tc : Thread Cert.ReferenceHnIdeal.nD Cert.ReferenceHnIdeal.τ).loc Cert.ReferenceHnIdeal.main_arg2)
          ∧ r.2.mem ((c.tc : Thread Cert.ReferenceHnIdeal.nD Cert.ReferenceHnIdeal.τ).loc Cert.ReferenceHnIdeal.main_arg3) = m' ((c.tc : Thread Cert.ReferenceHnIdeal.nD Cert.ReferenceHnIdeal.τ).loc Cert.ReferenceHnIdeal.main_arg3)
          ∧ r.2.mem ((c.tc : Thread Cert.ReferenceHnIdeal.nD Cert.ReferenceHnIdeal.τ).loc Cert.ReferenceHnIdeal.main_arg4) = m' ((c.tc : Thread Cert.ReferenceHnIdeal.nD Cert.ReferenceHnIdeal.τ).loc Cert.ReferenceHnIdeal.main_arg4))

def preserves_KernelXn_KernelXnIdeal : Prop :=
  True

def algebraic_KernelXnIdeal_ReferenceXnIdeal_pre_finite_xn [hKernelXnIdeal : Cert.KernelXnIdeal.Facts] [hReferenceXnIdeal : Cert.ReferenceXnIdeal.Facts] [hPre_finite_xn : Cert.Pre_finite_xn.Facts] : Prop :=
  ∀ (m : (ℓ : Loc Cert.KernelXnIdeal.nD Cert.KernelXnIdeal.τ Cert.KernelXnIdeal.sig) → Buf (Elt Ideal) ℓ) (g : Dev Cert.KernelXnIdeal.nD → PrngReg)
    (m' : (ℓ : Loc Cert.ReferenceXnIdeal.nD Cert.ReferenceXnIdeal.τ Cert.ReferenceXnIdeal.sig) → Buf (Elt Ideal) ℓ) (g' : Dev Cert.ReferenceXnIdeal.nD → PrngReg), Pre_KernelXnIdeal_finite_xn m →
    (∀ c : Dev Cert.KernelXnIdeal.nD,
      m' ((c.tc : Thread Cert.ReferenceXnIdeal.nD Cert.ReferenceXnIdeal.τ).loc Cert.ReferenceXnIdeal.main_arg0) = m ((c.tc : Thread Cert.KernelXnIdeal.nD Cert.KernelXnIdeal.τ).loc Cert.KernelXnIdeal.main_arg0)
      ∧ m' ((c.tc : Thread Cert.ReferenceXnIdeal.nD Cert.ReferenceXnIdeal.τ).loc Cert.ReferenceXnIdeal.main_arg1) = m ((c.tc : Thread Cert.KernelXnIdeal.nD Cert.KernelXnIdeal.τ).loc Cert.KernelXnIdeal.main_arg1)
      ∧ m' ((c.tc : Thread Cert.ReferenceXnIdeal.nD Cert.ReferenceXnIdeal.τ).loc Cert.ReferenceXnIdeal.main_arg2) = m ((c.tc : Thread Cert.KernelXnIdeal.nD Cert.KernelXnIdeal.τ).loc Cert.KernelXnIdeal.main_arg2)
      ∧ m' ((c.tc : Thread Cert.ReferenceXnIdeal.nD Cert.ReferenceXnIdeal.τ).loc Cert.ReferenceXnIdeal.main_arg3) = m ((c.tc : Thread Cert.KernelXnIdeal.nD Cert.KernelXnIdeal.τ).loc Cert.KernelXnIdeal.main_arg3)
      ∧ m' ((c.tc : Thread Cert.ReferenceXnIdeal.nD Cert.ReferenceXnIdeal.τ).loc Cert.ReferenceXnIdeal.main_arg4) = m ((c.tc : Thread Cert.KernelXnIdeal.nD Cert.KernelXnIdeal.τ).loc Cert.KernelXnIdeal.main_arg4)) →
    ∃ (v0 : (c : Dev Cert.KernelXnIdeal.nD) → Buf (Elt Ideal) ((c.tc : Thread Cert.KernelXnIdeal.nD Cert.KernelXnIdeal.τ).loc Cert.KernelXnIdeal.main_v4_0)) (v1 : (c : Dev Cert.KernelXnIdeal.nD) → Buf (Elt Ideal) ((c.tc : Thread Cert.KernelXnIdeal.nD Cert.KernelXnIdeal.τ).loc Cert.KernelXnIdeal.main_v4_1)),
      θ_run (Cert.KernelXnIdeal.defs (F := Ideal)) (onTc (τ := Cert.KernelXnIdeal.τ) (Cert.KernelXnIdeal.main (F := Ideal))) ⟨m, fun _ => 0, g⟩ (fun r => ∀ c : Dev Cert.KernelXnIdeal.nD,
          r.2.mem ((c.tc : Thread Cert.KernelXnIdeal.nD Cert.KernelXnIdeal.τ).loc Cert.KernelXnIdeal.main_v4_0) = v0 c
          ∧ r.2.mem ((c.tc : Thread Cert.KernelXnIdeal.nD Cert.KernelXnIdeal.τ).loc Cert.KernelXnIdeal.main_v4_1) = v1 c
          ∧ r.2.mem ((c.tc : Thread Cert.KernelXnIdeal.nD Cert.KernelXnIdeal.τ).loc Cert.KernelXnIdeal.main_arg0) = m ((c.tc : Thread Cert.KernelXnIdeal.nD Cert.KernelXnIdeal.τ).loc Cert.KernelXnIdeal.main_arg0)
          ∧ r.2.mem ((c.tc : Thread Cert.KernelXnIdeal.nD Cert.KernelXnIdeal.τ).loc Cert.KernelXnIdeal.main_arg1) = m ((c.tc : Thread Cert.KernelXnIdeal.nD Cert.KernelXnIdeal.τ).loc Cert.KernelXnIdeal.main_arg1)
          ∧ r.2.mem ((c.tc : Thread Cert.KernelXnIdeal.nD Cert.KernelXnIdeal.τ).loc Cert.KernelXnIdeal.main_arg2) = m ((c.tc : Thread Cert.KernelXnIdeal.nD Cert.KernelXnIdeal.τ).loc Cert.KernelXnIdeal.main_arg2)
          ∧ r.2.mem ((c.tc : Thread Cert.KernelXnIdeal.nD Cert.KernelXnIdeal.τ).loc Cert.KernelXnIdeal.main_arg3) = m ((c.tc : Thread Cert.KernelXnIdeal.nD Cert.KernelXnIdeal.τ).loc Cert.KernelXnIdeal.main_arg3)
          ∧ r.2.mem ((c.tc : Thread Cert.KernelXnIdeal.nD Cert.KernelXnIdeal.τ).loc Cert.KernelXnIdeal.main_arg4) = m ((c.tc : Thread Cert.KernelXnIdeal.nD Cert.KernelXnIdeal.τ).loc Cert.KernelXnIdeal.main_arg4))
      ∧ θ_run (Cert.ReferenceXnIdeal.defs (F := Ideal)) (onTc (τ := Cert.ReferenceXnIdeal.τ) (Cert.ReferenceXnIdeal.main (F := Ideal))) ⟨m', fun _ => 0, g'⟩ (fun r => ∀ c : Dev Cert.ReferenceXnIdeal.nD,
          r.2.mem ((c.tc : Thread Cert.ReferenceXnIdeal.nD Cert.ReferenceXnIdeal.τ).loc Cert.ReferenceXnIdeal.main_v41) = v0 c
          ∧ r.2.mem ((c.tc : Thread Cert.ReferenceXnIdeal.nD Cert.ReferenceXnIdeal.τ).loc Cert.ReferenceXnIdeal.main_v44) = v1 c
          ∧ r.2.mem ((c.tc : Thread Cert.ReferenceXnIdeal.nD Cert.ReferenceXnIdeal.τ).loc Cert.ReferenceXnIdeal.main_arg0) = m' ((c.tc : Thread Cert.ReferenceXnIdeal.nD Cert.ReferenceXnIdeal.τ).loc Cert.ReferenceXnIdeal.main_arg0)
          ∧ r.2.mem ((c.tc : Thread Cert.ReferenceXnIdeal.nD Cert.ReferenceXnIdeal.τ).loc Cert.ReferenceXnIdeal.main_arg1) = m' ((c.tc : Thread Cert.ReferenceXnIdeal.nD Cert.ReferenceXnIdeal.τ).loc Cert.ReferenceXnIdeal.main_arg1)
          ∧ r.2.mem ((c.tc : Thread Cert.ReferenceXnIdeal.nD Cert.ReferenceXnIdeal.τ).loc Cert.ReferenceXnIdeal.main_arg2) = m' ((c.tc : Thread Cert.ReferenceXnIdeal.nD Cert.ReferenceXnIdeal.τ).loc Cert.ReferenceXnIdeal.main_arg2)
          ∧ r.2.mem ((c.tc : Thread Cert.ReferenceXnIdeal.nD Cert.ReferenceXnIdeal.τ).loc Cert.ReferenceXnIdeal.main_arg3) = m' ((c.tc : Thread Cert.ReferenceXnIdeal.nD Cert.ReferenceXnIdeal.τ).loc Cert.ReferenceXnIdeal.main_arg3)
          ∧ r.2.mem ((c.tc : Thread Cert.ReferenceXnIdeal.nD Cert.ReferenceXnIdeal.τ).loc Cert.ReferenceXnIdeal.main_arg4) = m' ((c.tc : Thread Cert.ReferenceXnIdeal.nD Cert.ReferenceXnIdeal.τ).loc Cert.ReferenceXnIdeal.main_arg4))

def preserves_KernelHm_KernelHmIdeal : Prop :=
  True

def algebraic_KernelHmIdeal_ReferenceHmIdeal_pre_finite_hm [hKernelHmIdeal : Cert.KernelHmIdeal.Facts] [hReferenceHmIdeal : Cert.ReferenceHmIdeal.Facts] [hPre_finite_hm : Cert.Pre_finite_hm.Facts] : Prop :=
  ∀ (m : (ℓ : Loc Cert.KernelHmIdeal.nD Cert.KernelHmIdeal.τ Cert.KernelHmIdeal.sig) → Buf (Elt Ideal) ℓ) (g : Dev Cert.KernelHmIdeal.nD → PrngReg)
    (m' : (ℓ : Loc Cert.ReferenceHmIdeal.nD Cert.ReferenceHmIdeal.τ Cert.ReferenceHmIdeal.sig) → Buf (Elt Ideal) ℓ) (g' : Dev Cert.ReferenceHmIdeal.nD → PrngReg), Pre_KernelHmIdeal_finite_hm m →
    (∀ c : Dev Cert.KernelHmIdeal.nD,
      m' ((c.tc : Thread Cert.ReferenceHmIdeal.nD Cert.ReferenceHmIdeal.τ).loc Cert.ReferenceHmIdeal.main_arg0) = m ((c.tc : Thread Cert.KernelHmIdeal.nD Cert.KernelHmIdeal.τ).loc Cert.KernelHmIdeal.main_arg0)
      ∧ m' ((c.tc : Thread Cert.ReferenceHmIdeal.nD Cert.ReferenceHmIdeal.τ).loc Cert.ReferenceHmIdeal.main_arg1) = m ((c.tc : Thread Cert.KernelHmIdeal.nD Cert.KernelHmIdeal.τ).loc Cert.KernelHmIdeal.main_arg1)
      ∧ m' ((c.tc : Thread Cert.ReferenceHmIdeal.nD Cert.ReferenceHmIdeal.τ).loc Cert.ReferenceHmIdeal.main_arg2) = m ((c.tc : Thread Cert.KernelHmIdeal.nD Cert.KernelHmIdeal.τ).loc Cert.KernelHmIdeal.main_arg2)
      ∧ m' ((c.tc : Thread Cert.ReferenceHmIdeal.nD Cert.ReferenceHmIdeal.τ).loc Cert.ReferenceHmIdeal.main_arg3) = m ((c.tc : Thread Cert.KernelHmIdeal.nD Cert.KernelHmIdeal.τ).loc Cert.KernelHmIdeal.main_arg3)
      ∧ m' ((c.tc : Thread Cert.ReferenceHmIdeal.nD Cert.ReferenceHmIdeal.τ).loc Cert.ReferenceHmIdeal.main_arg4) = m ((c.tc : Thread Cert.KernelHmIdeal.nD Cert.KernelHmIdeal.τ).loc Cert.KernelHmIdeal.main_arg4)) →
    ∃ (v0 : (c : Dev Cert.KernelHmIdeal.nD) → Buf (Elt Ideal) ((c.tc : Thread Cert.KernelHmIdeal.nD Cert.KernelHmIdeal.τ).loc Cert.KernelHmIdeal.main_v4_0)) (v1 : (c : Dev Cert.KernelHmIdeal.nD) → Buf (Elt Ideal) ((c.tc : Thread Cert.KernelHmIdeal.nD Cert.KernelHmIdeal.τ).loc Cert.KernelHmIdeal.main_v4_1)) (v2 : (c : Dev Cert.KernelHmIdeal.nD) → Buf (Elt Ideal) ((c.tc : Thread Cert.KernelHmIdeal.nD Cert.KernelHmIdeal.τ).loc Cert.KernelHmIdeal.main_v4_2)),
      θ_run (Cert.KernelHmIdeal.defs (F := Ideal)) (onTc (τ := Cert.KernelHmIdeal.τ) (Cert.KernelHmIdeal.main (F := Ideal))) ⟨m, fun _ => 0, g⟩ (fun r => ∀ c : Dev Cert.KernelHmIdeal.nD,
          r.2.mem ((c.tc : Thread Cert.KernelHmIdeal.nD Cert.KernelHmIdeal.τ).loc Cert.KernelHmIdeal.main_v4_0) = v0 c
          ∧ r.2.mem ((c.tc : Thread Cert.KernelHmIdeal.nD Cert.KernelHmIdeal.τ).loc Cert.KernelHmIdeal.main_v4_1) = v1 c
          ∧ r.2.mem ((c.tc : Thread Cert.KernelHmIdeal.nD Cert.KernelHmIdeal.τ).loc Cert.KernelHmIdeal.main_v4_2) = v2 c
          ∧ r.2.mem ((c.tc : Thread Cert.KernelHmIdeal.nD Cert.KernelHmIdeal.τ).loc Cert.KernelHmIdeal.main_arg0) = m ((c.tc : Thread Cert.KernelHmIdeal.nD Cert.KernelHmIdeal.τ).loc Cert.KernelHmIdeal.main_arg0)
          ∧ r.2.mem ((c.tc : Thread Cert.KernelHmIdeal.nD Cert.KernelHmIdeal.τ).loc Cert.KernelHmIdeal.main_arg1) = m ((c.tc : Thread Cert.KernelHmIdeal.nD Cert.KernelHmIdeal.τ).loc Cert.KernelHmIdeal.main_arg1)
          ∧ r.2.mem ((c.tc : Thread Cert.KernelHmIdeal.nD Cert.KernelHmIdeal.τ).loc Cert.KernelHmIdeal.main_arg2) = m ((c.tc : Thread Cert.KernelHmIdeal.nD Cert.KernelHmIdeal.τ).loc Cert.KernelHmIdeal.main_arg2)
          ∧ r.2.mem ((c.tc : Thread Cert.KernelHmIdeal.nD Cert.KernelHmIdeal.τ).loc Cert.KernelHmIdeal.main_arg3) = m ((c.tc : Thread Cert.KernelHmIdeal.nD Cert.KernelHmIdeal.τ).loc Cert.KernelHmIdeal.main_arg3)
          ∧ r.2.mem ((c.tc : Thread Cert.KernelHmIdeal.nD Cert.KernelHmIdeal.τ).loc Cert.KernelHmIdeal.main_arg4) = m ((c.tc : Thread Cert.KernelHmIdeal.nD Cert.KernelHmIdeal.τ).loc Cert.KernelHmIdeal.main_arg4))
      ∧ θ_run (Cert.ReferenceHmIdeal.defs (F := Ideal)) (onTc (τ := Cert.ReferenceHmIdeal.τ) (Cert.ReferenceHmIdeal.main (F := Ideal))) ⟨m', fun _ => 0, g'⟩ (fun r => ∀ c : Dev Cert.ReferenceHmIdeal.nD,
          r.2.mem ((c.tc : Thread Cert.ReferenceHmIdeal.nD Cert.ReferenceHmIdeal.τ).loc Cert.ReferenceHmIdeal.main_v41) = v0 c
          ∧ r.2.mem ((c.tc : Thread Cert.ReferenceHmIdeal.nD Cert.ReferenceHmIdeal.τ).loc Cert.ReferenceHmIdeal.main_v43) = v1 c
          ∧ r.2.mem ((c.tc : Thread Cert.ReferenceHmIdeal.nD Cert.ReferenceHmIdeal.τ).loc Cert.ReferenceHmIdeal.main_v45) = v2 c
          ∧ r.2.mem ((c.tc : Thread Cert.ReferenceHmIdeal.nD Cert.ReferenceHmIdeal.τ).loc Cert.ReferenceHmIdeal.main_arg0) = m' ((c.tc : Thread Cert.ReferenceHmIdeal.nD Cert.ReferenceHmIdeal.τ).loc Cert.ReferenceHmIdeal.main_arg0)
          ∧ r.2.mem ((c.tc : Thread Cert.ReferenceHmIdeal.nD Cert.ReferenceHmIdeal.τ).loc Cert.ReferenceHmIdeal.main_arg1) = m' ((c.tc : Thread Cert.ReferenceHmIdeal.nD Cert.ReferenceHmIdeal.τ).loc Cert.ReferenceHmIdeal.main_arg1)
          ∧ r.2.mem ((c.tc : Thread Cert.ReferenceHmIdeal.nD Cert.ReferenceHmIdeal.τ).loc Cert.ReferenceHmIdeal.main_arg2) = m' ((c.tc : Thread Cert.ReferenceHmIdeal.nD Cert.ReferenceHmIdeal.τ).loc Cert.ReferenceHmIdeal.main_arg2)
          ∧ r.2.mem ((c.tc : Thread Cert.ReferenceHmIdeal.nD Cert.ReferenceHmIdeal.τ).loc Cert.ReferenceHmIdeal.main_arg3) = m' ((c.tc : Thread Cert.ReferenceHmIdeal.nD Cert.ReferenceHmIdeal.τ).loc Cert.ReferenceHmIdeal.main_arg3)
          ∧ r.2.mem ((c.tc : Thread Cert.ReferenceHmIdeal.nD Cert.ReferenceHmIdeal.τ).loc Cert.ReferenceHmIdeal.main_arg4) = m' ((c.tc : Thread Cert.ReferenceHmIdeal.nD Cert.ReferenceHmIdeal.τ).loc Cert.ReferenceHmIdeal.main_arg4))

def preserves_KernelDact_KernelDactIdeal : Prop :=
  True

def algebraic_KernelDactIdeal_ReferenceDactIdeal [hKernelDactIdeal : Cert.KernelDactIdeal.Facts] [hReferenceDactIdeal : Cert.ReferenceDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg)
    (m' : (ℓ : Loc Cert.ReferenceDactIdeal.nD Cert.ReferenceDactIdeal.τ Cert.ReferenceDactIdeal.sig) → Buf (Elt Ideal) ℓ) (g' : Dev Cert.ReferenceDactIdeal.nD → PrngReg), Pre_KernelDactIdeal m →
    (∀ c : Dev Cert.KernelDactIdeal.nD,
      m' ((c.tc : Thread Cert.ReferenceDactIdeal.nD Cert.ReferenceDactIdeal.τ).loc Cert.ReferenceDactIdeal.main_arg0) = m ((c.tc : Thread Cert.KernelDactIdeal.nD Cert.KernelDactIdeal.τ).loc Cert.KernelDactIdeal.main_arg0)
      ∧ m' ((c.tc : Thread Cert.ReferenceDactIdeal.nD Cert.ReferenceDactIdeal.τ).loc Cert.ReferenceDactIdeal.main_arg1) = m ((c.tc : Thread Cert.KernelDactIdeal.nD Cert.KernelDactIdeal.τ).loc Cert.KernelDactIdeal.main_arg1)
      ∧ m' ((c.tc : Thread Cert.ReferenceDactIdeal.nD Cert.ReferenceDactIdeal.τ).loc Cert.ReferenceDactIdeal.main_arg2) = m ((c.tc : Thread Cert.KernelDactIdeal.nD Cert.KernelDactIdeal.τ).loc Cert.KernelDactIdeal.main_arg2)) →
    ∃ (v0 : (c : Dev Cert.KernelDactIdeal.nD) → Buf (Elt Ideal) ((c.tc : Thread Cert.KernelDactIdeal.nD Cert.KernelDactIdeal.τ).loc Cert.KernelDactIdeal.main_v4)),
      θ_run (Cert.KernelDactIdeal.defs (F := Ideal)) (onTc (τ := Cert.KernelDactIdeal.τ) (Cert.KernelDactIdeal.main (F := Ideal))) ⟨m, fun _ => 0, g⟩ (fun r => ∀ c : Dev Cert.KernelDactIdeal.nD,
          r.2.mem ((c.tc : Thread Cert.KernelDactIdeal.nD Cert.KernelDactIdeal.τ).loc Cert.KernelDactIdeal.main_v4) = v0 c
          ∧ r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
          ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1)
          ∧ r.2.mem ((c.tc : Thread Cert.KernelDactIdeal.nD Cert.KernelDactIdeal.τ).loc Cert.KernelDactIdeal.main_arg2) = m ((c.tc : Thread Cert.KernelDactIdeal.nD Cert.KernelDactIdeal.τ).loc Cert.KernelDactIdeal.main_arg2))
      ∧ θ_run (Cert.ReferenceDactIdeal.defs (F := Ideal)) (onTc (τ := Cert.ReferenceDactIdeal.τ) (Cert.ReferenceDactIdeal.main (F := Ideal))) ⟨m', fun _ => 0, g'⟩ (fun r => ∀ c : Dev Cert.ReferenceDactIdeal.nD,
          r.2.mem ((c.tc : Thread Cert.ReferenceDactIdeal.nD Cert.ReferenceDactIdeal.τ).loc Cert.ReferenceDactIdeal.main_v14) = v0 c
          ∧ r.2.mem ((c.tc : Thread Cert.ReferenceDactIdeal.nD Cert.ReferenceDactIdeal.τ).loc Cert.ReferenceDactIdeal.main_arg0) = m' ((c.tc : Thread Cert.ReferenceDactIdeal.nD Cert.ReferenceDactIdeal.τ).loc Cert.ReferenceDactIdeal.main_arg0)
          ∧ r.2.mem ((c.tc : Thread Cert.ReferenceDactIdeal.nD Cert.ReferenceDactIdeal.τ).loc Cert.ReferenceDactIdeal.main_arg1) = m' ((c.tc : Thread Cert.ReferenceDactIdeal.nD Cert.ReferenceDactIdeal.τ).loc Cert.ReferenceDactIdeal.main_arg1)
          ∧ r.2.mem ((c.tc : Thread Cert.ReferenceDactIdeal.nD Cert.ReferenceDactIdeal.τ).loc Cert.ReferenceDactIdeal.main_arg2) = m' ((c.tc : Thread Cert.ReferenceDactIdeal.nD Cert.ReferenceDactIdeal.τ).loc Cert.ReferenceDactIdeal.main_arg2))

def preserves_KernelDwdown_KernelDwdownIdeal : Prop :=
  True

def algebraic_KernelDwdownIdeal_ReferenceDwdownIdeal [hKernelDwdownIdeal : Cert.KernelDwdownIdeal.Facts] [hReferenceDwdownIdeal : Cert.ReferenceDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg)
    (m' : (ℓ : Loc Cert.ReferenceDwdownIdeal.nD Cert.ReferenceDwdownIdeal.τ Cert.ReferenceDwdownIdeal.sig) → Buf (Elt Ideal) ℓ) (g' : Dev Cert.ReferenceDwdownIdeal.nD → PrngReg), Pre_KernelDwdownIdeal m →
    (∀ c : Dev Cert.KernelDwdownIdeal.nD,
      m' ((c.tc : Thread Cert.ReferenceDwdownIdeal.nD Cert.ReferenceDwdownIdeal.τ).loc Cert.ReferenceDwdownIdeal.main_arg0) = m ((c.tc : Thread Cert.KernelDwdownIdeal.nD Cert.KernelDwdownIdeal.τ).loc Cert.KernelDwdownIdeal.main_arg0)
      ∧ m' ((c.tc : Thread Cert.ReferenceDwdownIdeal.nD Cert.ReferenceDwdownIdeal.τ).loc Cert.ReferenceDwdownIdeal.main_arg1) = m ((c.tc : Thread Cert.KernelDwdownIdeal.nD Cert.KernelDwdownIdeal.τ).loc Cert.KernelDwdownIdeal.main_arg1)
      ∧ m' ((c.tc : Thread Cert.ReferenceDwdownIdeal.nD Cert.ReferenceDwdownIdeal.τ).loc Cert.ReferenceDwdownIdeal.main_arg2) = m ((c.tc : Thread Cert.KernelDwdownIdeal.nD Cert.KernelDwdownIdeal.τ).loc Cert.KernelDwdownIdeal.main_arg2)) →
    ∃ (v0 : (c : Dev Cert.KernelDwdownIdeal.nD) → Buf (Elt Ideal) ((c.tc : Thread Cert.KernelDwdownIdeal.nD Cert.KernelDwdownIdeal.τ).loc Cert.KernelDwdownIdeal.main_v3)),
      θ_run (Cert.KernelDwdownIdeal.defs (F := Ideal)) (onTc (τ := Cert.KernelDwdownIdeal.τ) (Cert.KernelDwdownIdeal.main (F := Ideal))) ⟨m, fun _ => 0, g⟩ (fun r => ∀ c : Dev Cert.KernelDwdownIdeal.nD,
          r.2.mem ((c.tc : Thread Cert.KernelDwdownIdeal.nD Cert.KernelDwdownIdeal.τ).loc Cert.KernelDwdownIdeal.main_v3) = v0 c
          ∧ r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
          ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1)
          ∧ r.2.mem ((c.tc : Thread Cert.KernelDwdownIdeal.nD Cert.KernelDwdownIdeal.τ).loc Cert.KernelDwdownIdeal.main_arg2) = m ((c.tc : Thread Cert.KernelDwdownIdeal.nD Cert.KernelDwdownIdeal.τ).loc Cert.KernelDwdownIdeal.main_arg2))
      ∧ θ_run (Cert.ReferenceDwdownIdeal.defs (F := Ideal)) (onTc (τ := Cert.ReferenceDwdownIdeal.τ) (Cert.ReferenceDwdownIdeal.main (F := Ideal))) ⟨m', fun _ => 0, g'⟩ (fun r => ∀ c : Dev Cert.ReferenceDwdownIdeal.nD,
          r.2.mem ((c.tc : Thread Cert.ReferenceDwdownIdeal.nD Cert.ReferenceDwdownIdeal.τ).loc Cert.ReferenceDwdownIdeal.main_v8) = v0 c
          ∧ r.2.mem ((c.tc : Thread Cert.ReferenceDwdownIdeal.nD Cert.ReferenceDwdownIdeal.τ).loc Cert.ReferenceDwdownIdeal.main_arg0) = m' ((c.tc : Thread Cert.ReferenceDwdownIdeal.nD Cert.ReferenceDwdownIdeal.τ).loc Cert.ReferenceDwdownIdeal.main_arg0)
          ∧ r.2.mem ((c.tc : Thread Cert.ReferenceDwdownIdeal.nD Cert.ReferenceDwdownIdeal.τ).loc Cert.ReferenceDwdownIdeal.main_arg1) = m' ((c.tc : Thread Cert.ReferenceDwdownIdeal.nD Cert.ReferenceDwdownIdeal.τ).loc Cert.ReferenceDwdownIdeal.main_arg1)
          ∧ r.2.mem ((c.tc : Thread Cert.ReferenceDwdownIdeal.nD Cert.ReferenceDwdownIdeal.τ).loc Cert.ReferenceDwdownIdeal.main_arg2) = m' ((c.tc : Thread Cert.ReferenceDwdownIdeal.nD Cert.ReferenceDwdownIdeal.τ).loc Cert.ReferenceDwdownIdeal.main_arg2))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v4_0)) (v1 : (c : Dev Cert.KernelLossIdeal.nD) → Buf (Elt Ideal) ((c.tc : Thread Cert.KernelLossIdeal.nD Cert.KernelLossIdeal.τ).loc Cert.KernelLossIdeal.main_v4_1)) (v2 : (c : Dev Cert.KernelLossIdeal.nD) → Buf (Elt Ideal) ((c.tc : Thread Cert.KernelLossIdeal.nD Cert.KernelLossIdeal.τ).loc Cert.KernelLossIdeal.main_v4_2)) (v3 : (c : Dev Cert.KernelLossIdeal.nD) → Buf (Elt Ideal) ((c.tc : Thread Cert.KernelLossIdeal.nD Cert.KernelLossIdeal.τ).loc Cert.KernelLossIdeal.main_v4_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v4_0) = v0 c
          ∧ r.2.mem ((c.tc : Thread Cert.KernelLossIdeal.nD Cert.KernelLossIdeal.τ).loc Cert.KernelLossIdeal.main_v4_1) = v1 c
          ∧ r.2.mem ((c.tc : Thread Cert.KernelLossIdeal.nD Cert.KernelLossIdeal.τ).loc Cert.KernelLossIdeal.main_v4_2) = v2 c
          ∧ r.2.mem ((c.tc : Thread Cert.KernelLossIdeal.nD Cert.KernelLossIdeal.τ).loc Cert.KernelLossIdeal.main_v4_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v53) = v0 c
          ∧ r.2.mem ((c.tc : Thread Cert.ReferenceLossIdeal.nD Cert.ReferenceLossIdeal.τ).loc Cert.ReferenceLossIdeal.main_v54) = v1 c
          ∧ r.2.mem ((c.tc : Thread Cert.ReferenceLossIdeal.nD Cert.ReferenceLossIdeal.τ).loc Cert.ReferenceLossIdeal.main_v56) = v2 c
          ∧ r.2.mem ((c.tc : Thread Cert.ReferenceLossIdeal.nD Cert.ReferenceLossIdeal.τ).loc Cert.ReferenceLossIdeal.main_v58) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelDy_KernelDyIdeal : Prop :=
  True

def algebraic_KernelDyIdeal_ReferenceDyIdeal [hKernelDyIdeal : Cert.KernelDyIdeal.Facts] [hReferenceDyIdeal : Cert.ReferenceDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg)
    (m' : (ℓ : Loc Cert.ReferenceDyIdeal.nD Cert.ReferenceDyIdeal.τ Cert.ReferenceDyIdeal.sig) → Buf (Elt Ideal) ℓ) (g' : Dev Cert.ReferenceDyIdeal.nD → PrngReg), Pre_KernelDyIdeal m →
    (∀ c : Dev Cert.KernelDyIdeal.nD,
      m' ((c.tc : Thread Cert.ReferenceDyIdeal.nD Cert.ReferenceDyIdeal.τ).loc Cert.ReferenceDyIdeal.main_arg0) = m ((c.tc : Thread Cert.KernelDyIdeal.nD Cert.KernelDyIdeal.τ).loc Cert.KernelDyIdeal.main_arg0)
      ∧ m' ((c.tc : Thread Cert.ReferenceDyIdeal.nD Cert.ReferenceDyIdeal.τ).loc Cert.ReferenceDyIdeal.main_arg1) = m ((c.tc : Thread Cert.KernelDyIdeal.nD Cert.KernelDyIdeal.τ).loc Cert.KernelDyIdeal.main_arg1)
      ∧ m' ((c.tc : Thread Cert.ReferenceDyIdeal.nD Cert.ReferenceDyIdeal.τ).loc Cert.ReferenceDyIdeal.main_arg2) = m ((c.tc : Thread Cert.KernelDyIdeal.nD Cert.KernelDyIdeal.τ).loc Cert.KernelDyIdeal.main_arg2)
      ∧ m' ((c.tc : Thread Cert.ReferenceDyIdeal.nD Cert.ReferenceDyIdeal.τ).loc Cert.ReferenceDyIdeal.main_arg3) = m ((c.tc : Thread Cert.KernelDyIdeal.nD Cert.KernelDyIdeal.τ).loc Cert.KernelDyIdeal.main_arg3)
      ∧ m' ((c.tc : Thread Cert.ReferenceDyIdeal.nD Cert.ReferenceDyIdeal.τ).loc Cert.ReferenceDyIdeal.main_arg4) = m ((c.tc : Thread Cert.KernelDyIdeal.nD Cert.KernelDyIdeal.τ).loc Cert.KernelDyIdeal.main_arg4)
      ∧ m' ((c.tc : Thread Cert.ReferenceDyIdeal.nD Cert.ReferenceDyIdeal.τ).loc Cert.ReferenceDyIdeal.main_arg5) = m ((c.tc : Thread Cert.KernelDyIdeal.nD Cert.KernelDyIdeal.τ).loc Cert.KernelDyIdeal.main_arg5)
      ∧ m' ((c.tc : Thread Cert.ReferenceDyIdeal.nD Cert.ReferenceDyIdeal.τ).loc Cert.ReferenceDyIdeal.main_arg6) = m ((c.tc : Thread Cert.KernelDyIdeal.nD Cert.KernelDyIdeal.τ).loc Cert.KernelDyIdeal.main_arg6)
      ∧ m' ((c.tc : Thread Cert.ReferenceDyIdeal.nD Cert.ReferenceDyIdeal.τ).loc Cert.ReferenceDyIdeal.main_arg7) = m ((c.tc : Thread Cert.KernelDyIdeal.nD Cert.KernelDyIdeal.τ).loc Cert.KernelDyIdeal.main_arg7)
      ∧ m' ((c.tc : Thread Cert.ReferenceDyIdeal.nD Cert.ReferenceDyIdeal.τ).loc Cert.ReferenceDyIdeal.main_arg8) = m ((c.tc : Thread Cert.KernelDyIdeal.nD Cert.KernelDyIdeal.τ).loc Cert.KernelDyIdeal.main_arg8)
      ∧ m' ((c.tc : Thread Cert.ReferenceDyIdeal.nD Cert.ReferenceDyIdeal.τ).loc Cert.ReferenceDyIdeal.main_arg9) = m ((c.tc : Thread Cert.KernelDyIdeal.nD Cert.KernelDyIdeal.τ).loc Cert.KernelDyIdeal.main_arg9)) →
    ∃ (v0 : (c : Dev Cert.KernelDyIdeal.nD) → Buf (Elt Ideal) ((c.tc : Thread Cert.KernelDyIdeal.nD Cert.KernelDyIdeal.τ).loc Cert.KernelDyIdeal.main_v40)),
      θ_run (Cert.KernelDyIdeal.defs (F := Ideal)) (onTc (τ := Cert.KernelDyIdeal.τ) (Cert.KernelDyIdeal.main (F := Ideal))) ⟨m, fun _ => 0, g⟩ (fun r => ∀ c : Dev Cert.KernelDyIdeal.nD,
          r.2.mem ((c.tc : Thread Cert.KernelDyIdeal.nD Cert.KernelDyIdeal.τ).loc Cert.KernelDyIdeal.main_v40) = v0 c
          ∧ r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
          ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1)
          ∧ r.2.mem ((c.tc : Thread Cert.KernelDyIdeal.nD Cert.KernelDyIdeal.τ).loc Cert.KernelDyIdeal.main_arg2) = m ((c.tc : Thread Cert.KernelDyIdeal.nD Cert.KernelDyIdeal.τ).loc Cert.KernelDyIdeal.main_arg2)
          ∧ r.2.mem ((c.tc : Thread Cert.KernelDyIdeal.nD Cert.KernelDyIdeal.τ).loc Cert.KernelDyIdeal.main_arg3) = m ((c.tc : Thread Cert.KernelDyIdeal.nD Cert.KernelDyIdeal.τ).loc Cert.KernelDyIdeal.main_arg3)
          ∧ r.2.mem ((c.tc : Thread Cert.KernelDyIdeal.nD Cert.KernelDyIdeal.τ).loc Cert.KernelDyIdeal.main_arg4) = m ((c.tc : Thread Cert.KernelDyIdeal.nD Cert.KernelDyIdeal.τ).loc Cert.KernelDyIdeal.main_arg4)
          ∧ r.2.mem ((c.tc : Thread Cert.KernelDyIdeal.nD Cert.KernelDyIdeal.τ).loc Cert.KernelDyIdeal.main_arg5) = m ((c.tc : Thread Cert.KernelDyIdeal.nD Cert.KernelDyIdeal.τ).loc Cert.KernelDyIdeal.main_arg5)
          ∧ r.2.mem ((c.tc : Thread Cert.KernelDyIdeal.nD Cert.KernelDyIdeal.τ).loc Cert.KernelDyIdeal.main_arg6) = m ((c.tc : Thread Cert.KernelDyIdeal.nD Cert.KernelDyIdeal.τ).loc Cert.KernelDyIdeal.main_arg6)
          ∧ r.2.mem ((c.tc : Thread Cert.KernelDyIdeal.nD Cert.KernelDyIdeal.τ).loc Cert.KernelDyIdeal.main_arg7) = m ((c.tc : Thread Cert.KernelDyIdeal.nD Cert.KernelDyIdeal.τ).loc Cert.KernelDyIdeal.main_arg7)
          ∧ r.2.mem ((c.tc : Thread Cert.KernelDyIdeal.nD Cert.KernelDyIdeal.τ).loc Cert.KernelDyIdeal.main_arg8) = m ((c.tc : Thread Cert.KernelDyIdeal.nD Cert.KernelDyIdeal.τ).loc Cert.KernelDyIdeal.main_arg8)
          ∧ r.2.mem ((c.tc : Thread Cert.KernelDyIdeal.nD Cert.KernelDyIdeal.τ).loc Cert.KernelDyIdeal.main_arg9) = m ((c.tc : Thread Cert.KernelDyIdeal.nD Cert.KernelDyIdeal.τ).loc Cert.KernelDyIdeal.main_arg9))
      ∧ θ_run (Cert.ReferenceDyIdeal.defs (F := Ideal)) (onTc (τ := Cert.ReferenceDyIdeal.τ) (Cert.ReferenceDyIdeal.main (F := Ideal))) ⟨m', fun _ => 0, g'⟩ (fun r => ∀ c : Dev Cert.ReferenceDyIdeal.nD,
          r.2.mem ((c.tc : Thread Cert.ReferenceDyIdeal.nD Cert.ReferenceDyIdeal.τ).loc Cert.ReferenceDyIdeal.main_v205) = v0 c
          ∧ r.2.mem ((c.tc : Thread Cert.ReferenceDyIdeal.nD Cert.ReferenceDyIdeal.τ).loc Cert.ReferenceDyIdeal.main_arg0) = m' ((c.tc : Thread Cert.ReferenceDyIdeal.nD Cert.ReferenceDyIdeal.τ).loc Cert.ReferenceDyIdeal.main_arg0)
          ∧ r.2.mem ((c.tc : Thread Cert.ReferenceDyIdeal.nD Cert.ReferenceDyIdeal.τ).loc Cert.ReferenceDyIdeal.main_arg1) = m' ((c.tc : Thread Cert.ReferenceDyIdeal.nD Cert.ReferenceDyIdeal.τ).loc Cert.ReferenceDyIdeal.main_arg1)
          ∧ r.2.mem ((c.tc : Thread Cert.ReferenceDyIdeal.nD Cert.ReferenceDyIdeal.τ).loc Cert.ReferenceDyIdeal.main_arg2) = m' ((c.tc : Thread Cert.ReferenceDyIdeal.nD Cert.ReferenceDyIdeal.τ).loc Cert.ReferenceDyIdeal.main_arg2)
          ∧ r.2.mem ((c.tc : Thread Cert.ReferenceDyIdeal.nD Cert.ReferenceDyIdeal.τ).loc Cert.ReferenceDyIdeal.main_arg3) = m' ((c.tc : Thread Cert.ReferenceDyIdeal.nD Cert.ReferenceDyIdeal.τ).loc Cert.ReferenceDyIdeal.main_arg3)
          ∧ r.2.mem ((c.tc : Thread Cert.ReferenceDyIdeal.nD Cert.ReferenceDyIdeal.τ).loc Cert.ReferenceDyIdeal.main_arg4) = m' ((c.tc : Thread Cert.ReferenceDyIdeal.nD Cert.ReferenceDyIdeal.τ).loc Cert.ReferenceDyIdeal.main_arg4)
          ∧ r.2.mem ((c.tc : Thread Cert.ReferenceDyIdeal.nD Cert.ReferenceDyIdeal.τ).loc Cert.ReferenceDyIdeal.main_arg5) = m' ((c.tc : Thread Cert.ReferenceDyIdeal.nD Cert.ReferenceDyIdeal.τ).loc Cert.ReferenceDyIdeal.main_arg5)
          ∧ r.2.mem ((c.tc : Thread Cert.ReferenceDyIdeal.nD Cert.ReferenceDyIdeal.τ).loc Cert.ReferenceDyIdeal.main_arg6) = m' ((c.tc : Thread Cert.ReferenceDyIdeal.nD Cert.ReferenceDyIdeal.τ).loc Cert.ReferenceDyIdeal.main_arg6)
          ∧ r.2.mem ((c.tc : Thread Cert.ReferenceDyIdeal.nD Cert.ReferenceDyIdeal.τ).loc Cert.ReferenceDyIdeal.main_arg7) = m' ((c.tc : Thread Cert.ReferenceDyIdeal.nD Cert.ReferenceDyIdeal.τ).loc Cert.ReferenceDyIdeal.main_arg7)
          ∧ r.2.mem ((c.tc : Thread Cert.ReferenceDyIdeal.nD Cert.ReferenceDyIdeal.τ).loc Cert.ReferenceDyIdeal.main_arg8) = m' ((c.tc : Thread Cert.ReferenceDyIdeal.nD Cert.ReferenceDyIdeal.τ).loc Cert.ReferenceDyIdeal.main_arg8)
          ∧ r.2.mem ((c.tc : Thread Cert.ReferenceDyIdeal.nD Cert.ReferenceDyIdeal.τ).loc Cert.ReferenceDyIdeal.main_arg9) = m' ((c.tc : Thread Cert.ReferenceDyIdeal.nD Cert.ReferenceDyIdeal.τ).loc Cert.ReferenceDyIdeal.main_arg9))

def preserves_KernelXattf_KernelXattfIdeal : Prop :=
  True

def algebraic_KernelXattfIdeal_ReferenceXattfIdeal_pre_finite_xattf [hKernelXattfIdeal : Cert.KernelXattfIdeal.Facts] [hReferenceXattfIdeal : Cert.ReferenceXattfIdeal.Facts] [hPre_finite_xattf : Cert.Pre_finite_xattf.Facts] : Prop :=
  ∀ (m : (ℓ : Loc Cert.KernelXattfIdeal.nD Cert.KernelXattfIdeal.τ Cert.KernelXattfIdeal.sig) → Buf (Elt Ideal) ℓ) (g : Dev Cert.KernelXattfIdeal.nD → PrngReg)
    (m' : (ℓ : Loc Cert.ReferenceXattfIdeal.nD Cert.ReferenceXattfIdeal.τ Cert.ReferenceXattfIdeal.sig) → Buf (Elt Ideal) ℓ) (g' : Dev Cert.ReferenceXattfIdeal.nD → PrngReg), Pre_KernelXattfIdeal_finite_xattf m →
    (∀ c : Dev Cert.KernelXattfIdeal.nD,
      m' ((c.tc : Thread Cert.ReferenceXattfIdeal.nD Cert.ReferenceXattfIdeal.τ).loc Cert.ReferenceXattfIdeal.main_arg0) = m ((c.tc : Thread Cert.KernelXattfIdeal.nD Cert.KernelXattfIdeal.τ).loc Cert.KernelXattfIdeal.main_arg0)
      ∧ m' ((c.tc : Thread Cert.ReferenceXattfIdeal.nD Cert.ReferenceXattfIdeal.τ).loc Cert.ReferenceXattfIdeal.main_arg1) = m ((c.tc : Thread Cert.KernelXattfIdeal.nD Cert.KernelXattfIdeal.τ).loc Cert.KernelXattfIdeal.main_arg1)
      ∧ m' ((c.tc : Thread Cert.ReferenceXattfIdeal.nD Cert.ReferenceXattfIdeal.τ).loc Cert.ReferenceXattfIdeal.main_arg2) = m ((c.tc : Thread Cert.KernelXattfIdeal.nD Cert.KernelXattfIdeal.τ).loc Cert.KernelXattfIdeal.main_arg2)) →
    ∃ (v0 : (c : Dev Cert.KernelXattfIdeal.nD) → Buf (Elt Ideal) ((c.tc : Thread Cert.KernelXattfIdeal.nD Cert.KernelXattfIdeal.τ).loc Cert.KernelXattfIdeal.main_v0)),
      θ_run (Cert.KernelXattfIdeal.defs (F := Ideal)) (onTc (τ := Cert.KernelXattfIdeal.τ) (Cert.KernelXattfIdeal.main (F := Ideal))) ⟨m, fun _ => 0, g⟩ (fun r => ∀ c : Dev Cert.KernelXattfIdeal.nD,
          r.2.mem ((c.tc : Thread Cert.KernelXattfIdeal.nD Cert.KernelXattfIdeal.τ).loc Cert.KernelXattfIdeal.main_v0) = v0 c
          ∧ r.2.mem ((c.tc : Thread Cert.KernelXattfIdeal.nD Cert.KernelXattfIdeal.τ).loc Cert.KernelXattfIdeal.main_arg0) = m ((c.tc : Thread Cert.KernelXattfIdeal.nD Cert.KernelXattfIdeal.τ).loc Cert.KernelXattfIdeal.main_arg0)
          ∧ r.2.mem ((c.tc : Thread Cert.KernelXattfIdeal.nD Cert.KernelXattfIdeal.τ).loc Cert.KernelXattfIdeal.main_arg1) = m ((c.tc : Thread Cert.KernelXattfIdeal.nD Cert.KernelXattfIdeal.τ).loc Cert.KernelXattfIdeal.main_arg1)
          ∧ r.2.mem ((c.tc : Thread Cert.KernelXattfIdeal.nD Cert.KernelXattfIdeal.τ).loc Cert.KernelXattfIdeal.main_arg2) = m ((c.tc : Thread Cert.KernelXattfIdeal.nD Cert.KernelXattfIdeal.τ).loc Cert.KernelXattfIdeal.main_arg2))
      ∧ θ_run (Cert.ReferenceXattfIdeal.defs (F := Ideal)) (onTc (τ := Cert.ReferenceXattfIdeal.τ) (Cert.ReferenceXattfIdeal.main (F := Ideal))) ⟨m', fun _ => 0, g'⟩ (fun r => ∀ c : Dev Cert.ReferenceXattfIdeal.nD,
          r.2.mem ((c.tc : Thread Cert.ReferenceXattfIdeal.nD Cert.ReferenceXattfIdeal.τ).loc Cert.ReferenceXattfIdeal.main_v23) = v0 c
          ∧ r.2.mem ((c.tc : Thread Cert.ReferenceXattfIdeal.nD Cert.ReferenceXattfIdeal.τ).loc Cert.ReferenceXattfIdeal.main_arg0) = m' ((c.tc : Thread Cert.ReferenceXattfIdeal.nD Cert.ReferenceXattfIdeal.τ).loc Cert.ReferenceXattfIdeal.main_arg0)
          ∧ r.2.mem ((c.tc : Thread Cert.ReferenceXattfIdeal.nD Cert.ReferenceXattfIdeal.τ).loc Cert.ReferenceXattfIdeal.main_arg1) = m' ((c.tc : Thread Cert.ReferenceXattfIdeal.nD Cert.ReferenceXattfIdeal.τ).loc Cert.ReferenceXattfIdeal.main_arg1)
          ∧ r.2.mem ((c.tc : Thread Cert.ReferenceXattfIdeal.nD Cert.ReferenceXattfIdeal.τ).loc Cert.ReferenceXattfIdeal.main_arg2) = m' ((c.tc : Thread Cert.ReferenceXattfIdeal.nD Cert.ReferenceXattfIdeal.τ).loc Cert.ReferenceXattfIdeal.main_arg2))

def preserves_KernelAttf1_KernelAttf1Ideal : Prop :=
  IdealRules.named_const.Statement Cert.KernelAttf1Ideal.κ "mask" .f32 0xF149F2CA#32 ⊥

def algebraic_KernelAttf1Ideal_ReferenceAttf1Ideal_pre_finite_attf1 [hKernelAttf1Ideal : Cert.KernelAttf1Ideal.Facts] [hReferenceAttf1Ideal : Cert.ReferenceAttf1Ideal.Facts] [hPre_finite_attf1 : Cert.Pre_finite_attf1.Facts] : Prop :=
  ∀ (m : (ℓ : Loc Cert.KernelAttf1Ideal.nD Cert.KernelAttf1Ideal.τ Cert.KernelAttf1Ideal.sig) → Buf (Elt Ideal) ℓ) (g : Dev Cert.KernelAttf1Ideal.nD → PrngReg)
    (m' : (ℓ : Loc Cert.ReferenceAttf1Ideal.nD Cert.ReferenceAttf1Ideal.τ Cert.ReferenceAttf1Ideal.sig) → Buf (Elt Ideal) ℓ) (g' : Dev Cert.ReferenceAttf1Ideal.nD → PrngReg), Pre_KernelAttf1Ideal_finite_attf1 m →
    (∀ c : Dev Cert.KernelAttf1Ideal.nD,
      m' ((c.tc : Thread Cert.ReferenceAttf1Ideal.nD Cert.ReferenceAttf1Ideal.τ).loc Cert.ReferenceAttf1Ideal.main_arg0) = m ((c.tc : Thread Cert.KernelAttf1Ideal.nD Cert.KernelAttf1Ideal.τ).loc Cert.KernelAttf1Ideal.main_arg0)
      ∧ m' ((c.tc : Thread Cert.ReferenceAttf1Ideal.nD Cert.ReferenceAttf1Ideal.τ).loc Cert.ReferenceAttf1Ideal.main_arg1) = m ((c.tc : Thread Cert.KernelAttf1Ideal.nD Cert.KernelAttf1Ideal.τ).loc Cert.KernelAttf1Ideal.main_arg1)) →
    ∃ (v0 : (c : Dev Cert.KernelAttf1Ideal.nD) → Buf (Elt Ideal) ((c.tc : Thread Cert.KernelAttf1Ideal.nD Cert.KernelAttf1Ideal.τ).loc Cert.KernelAttf1Ideal.main_v0_0)) (v1 : (c : Dev Cert.KernelAttf1Ideal.nD) → Buf (Elt Ideal) ((c.tc : Thread Cert.KernelAttf1Ideal.nD Cert.KernelAttf1Ideal.τ).loc Cert.KernelAttf1Ideal.main_v0_1)),
      θ_run (Cert.KernelAttf1Ideal.defs (F := Ideal)) (onTc (τ := Cert.KernelAttf1Ideal.τ) (Cert.KernelAttf1Ideal.main (F := Ideal))) ⟨m, fun _ => 0, g⟩ (fun r => ∀ c : Dev Cert.KernelAttf1Ideal.nD,
          r.2.mem ((c.tc : Thread Cert.KernelAttf1Ideal.nD Cert.KernelAttf1Ideal.τ).loc Cert.KernelAttf1Ideal.main_v0_0) = v0 c
          ∧ r.2.mem ((c.tc : Thread Cert.KernelAttf1Ideal.nD Cert.KernelAttf1Ideal.τ).loc Cert.KernelAttf1Ideal.main_v0_1) = v1 c
          ∧ r.2.mem ((c.tc : Thread Cert.KernelAttf1Ideal.nD Cert.KernelAttf1Ideal.τ).loc Cert.KernelAttf1Ideal.main_arg0) = m ((c.tc : Thread Cert.KernelAttf1Ideal.nD Cert.KernelAttf1Ideal.τ).loc Cert.KernelAttf1Ideal.main_arg0)
          ∧ r.2.mem ((c.tc : Thread Cert.KernelAttf1Ideal.nD Cert.KernelAttf1Ideal.τ).loc Cert.KernelAttf1Ideal.main_arg1) = m ((c.tc : Thread Cert.KernelAttf1Ideal.nD Cert.KernelAttf1Ideal.τ).loc Cert.KernelAttf1Ideal.main_arg1))
      ∧ θ_run (Cert.ReferenceAttf1Ideal.defs (F := Ideal)) (onTc (τ := Cert.ReferenceAttf1Ideal.τ) (Cert.ReferenceAttf1Ideal.main (F := Ideal))) ⟨m', fun _ => 0, g'⟩ (fun r => ∀ c : Dev Cert.ReferenceAttf1Ideal.nD,
          r.2.mem ((c.tc : Thread Cert.ReferenceAttf1Ideal.nD Cert.ReferenceAttf1Ideal.τ).loc Cert.ReferenceAttf1Ideal.main_v34) = v0 c
          ∧ r.2.mem ((c.tc : Thread Cert.ReferenceAttf1Ideal.nD Cert.ReferenceAttf1Ideal.τ).loc Cert.ReferenceAttf1Ideal.main_v36) = v1 c
          ∧ r.2.mem ((c.tc : Thread Cert.ReferenceAttf1Ideal.nD Cert.ReferenceAttf1Ideal.τ).loc Cert.ReferenceAttf1Ideal.main_arg0) = m' ((c.tc : Thread Cert.ReferenceAttf1Ideal.nD Cert.ReferenceAttf1Ideal.τ).loc Cert.ReferenceAttf1Ideal.main_arg0)
          ∧ r.2.mem ((c.tc : Thread Cert.ReferenceAttf1Ideal.nD Cert.ReferenceAttf1Ideal.τ).loc Cert.ReferenceAttf1Ideal.main_arg1) = m' ((c.tc : Thread Cert.ReferenceAttf1Ideal.nD Cert.ReferenceAttf1Ideal.τ).loc Cert.ReferenceAttf1Ideal.main_arg1))

def preserves_KernelAttf4_KernelAttf4Ideal : Prop :=
  IdealRules.named_const.Statement Cert.KernelAttf4Ideal.κ "mask" .f32 0xF149F2CA#32 ⊥

def algebraic_KernelAttf4Ideal_ReferenceAttf4Ideal_pre_finite_attf4 [hKernelAttf4Ideal : Cert.KernelAttf4Ideal.Facts] [hReferenceAttf4Ideal : Cert.ReferenceAttf4Ideal.Facts] [hPre_finite_attf4 : Cert.Pre_finite_attf4.Facts] : Prop :=
  ∀ (m : (ℓ : Loc Cert.KernelAttf4Ideal.nD Cert.KernelAttf4Ideal.τ Cert.KernelAttf4Ideal.sig) → Buf (Elt Ideal) ℓ) (g : Dev Cert.KernelAttf4Ideal.nD → PrngReg)
    (m' : (ℓ : Loc Cert.ReferenceAttf4Ideal.nD Cert.ReferenceAttf4Ideal.τ Cert.ReferenceAttf4Ideal.sig) → Buf (Elt Ideal) ℓ) (g' : Dev Cert.ReferenceAttf4Ideal.nD → PrngReg), Pre_KernelAttf4Ideal_finite_attf4 m →
    (∀ c : Dev Cert.KernelAttf4Ideal.nD,
      m' ((c.tc : Thread Cert.ReferenceAttf4Ideal.nD Cert.ReferenceAttf4Ideal.τ).loc Cert.ReferenceAttf4Ideal.main_arg0) = m ((c.tc : Thread Cert.KernelAttf4Ideal.nD Cert.KernelAttf4Ideal.τ).loc Cert.KernelAttf4Ideal.main_arg0)
      ∧ m' ((c.tc : Thread Cert.ReferenceAttf4Ideal.nD Cert.ReferenceAttf4Ideal.τ).loc Cert.ReferenceAttf4Ideal.main_arg1) = m ((c.tc : Thread Cert.KernelAttf4Ideal.nD Cert.KernelAttf4Ideal.τ).loc Cert.KernelAttf4Ideal.main_arg1)) →
    ∃ (v0 : (c : Dev Cert.KernelAttf4Ideal.nD) → Buf (Elt Ideal) ((c.tc : Thread Cert.KernelAttf4Ideal.nD Cert.KernelAttf4Ideal.τ).loc Cert.KernelAttf4Ideal.main_v11_0)) (v1 : (c : Dev Cert.KernelAttf4Ideal.nD) → Buf (Elt Ideal) ((c.tc : Thread Cert.KernelAttf4Ideal.nD Cert.KernelAttf4Ideal.τ).loc Cert.KernelAttf4Ideal.main_v11_1)),
      θ_run (Cert.KernelAttf4Ideal.defs (F := Ideal)) (onTc (τ := Cert.KernelAttf4Ideal.τ) (Cert.KernelAttf4Ideal.main (F := Ideal))) ⟨m, fun _ => 0, g⟩ (fun r => ∀ c : Dev Cert.KernelAttf4Ideal.nD,
          r.2.mem ((c.tc : Thread Cert.KernelAttf4Ideal.nD Cert.KernelAttf4Ideal.τ).loc Cert.KernelAttf4Ideal.main_v11_0) = v0 c
          ∧ r.2.mem ((c.tc : Thread Cert.KernelAttf4Ideal.nD Cert.KernelAttf4Ideal.τ).loc Cert.KernelAttf4Ideal.main_v11_1) = v1 c
          ∧ r.2.mem ((c.tc : Thread Cert.KernelAttf4Ideal.nD Cert.KernelAttf4Ideal.τ).loc Cert.KernelAttf4Ideal.main_arg0) = m ((c.tc : Thread Cert.KernelAttf4Ideal.nD Cert.KernelAttf4Ideal.τ).loc Cert.KernelAttf4Ideal.main_arg0)
          ∧ r.2.mem ((c.tc : Thread Cert.KernelAttf4Ideal.nD Cert.KernelAttf4Ideal.τ).loc Cert.KernelAttf4Ideal.main_arg1) = m ((c.tc : Thread Cert.KernelAttf4Ideal.nD Cert.KernelAttf4Ideal.τ).loc Cert.KernelAttf4Ideal.main_arg1))
      ∧ θ_run (Cert.ReferenceAttf4Ideal.defs (F := Ideal)) (onTc (τ := Cert.ReferenceAttf4Ideal.τ) (Cert.ReferenceAttf4Ideal.main (F := Ideal))) ⟨m', fun _ => 0, g'⟩ (fun r => ∀ c : Dev Cert.ReferenceAttf4Ideal.nD,
          r.2.mem ((c.tc : Thread Cert.ReferenceAttf4Ideal.nD Cert.ReferenceAttf4Ideal.τ).loc Cert.ReferenceAttf4Ideal.main_v43) = v0 c
          ∧ r.2.mem ((c.tc : Thread Cert.ReferenceAttf4Ideal.nD Cert.ReferenceAttf4Ideal.τ).loc Cert.ReferenceAttf4Ideal.main_v45) = v1 c
          ∧ r.2.mem ((c.tc : Thread Cert.ReferenceAttf4Ideal.nD Cert.ReferenceAttf4Ideal.τ).loc Cert.ReferenceAttf4Ideal.main_arg0) = m' ((c.tc : Thread Cert.ReferenceAttf4Ideal.nD Cert.ReferenceAttf4Ideal.τ).loc Cert.ReferenceAttf4Ideal.main_arg0)
          ∧ r.2.mem ((c.tc : Thread Cert.ReferenceAttf4Ideal.nD Cert.ReferenceAttf4Ideal.τ).loc Cert.ReferenceAttf4Ideal.main_arg1) = m' ((c.tc : Thread Cert.ReferenceAttf4Ideal.nD Cert.ReferenceAttf4Ideal.τ).loc Cert.ReferenceAttf4Ideal.main_arg1))

def preserves_KernelAttf16_KernelAttf16Ideal : Prop :=
  IdealRules.named_const.Statement Cert.KernelAttf16Ideal.κ "mask" .f32 0xF149F2CA#32 ⊥

def algebraic_KernelAttf16Ideal_ReferenceAttf16Ideal_pre_finite_attf16 [hKernelAttf16Ideal : Cert.KernelAttf16Ideal.Facts] [hReferenceAttf16Ideal : Cert.ReferenceAttf16Ideal.Facts] [hPre_finite_attf16 : Cert.Pre_finite_attf16.Facts] : Prop :=
  ∀ (m : (ℓ : Loc Cert.KernelAttf16Ideal.nD Cert.KernelAttf16Ideal.τ Cert.KernelAttf16Ideal.sig) → Buf (Elt Ideal) ℓ) (g : Dev Cert.KernelAttf16Ideal.nD → PrngReg)
    (m' : (ℓ : Loc Cert.ReferenceAttf16Ideal.nD Cert.ReferenceAttf16Ideal.τ Cert.ReferenceAttf16Ideal.sig) → Buf (Elt Ideal) ℓ) (g' : Dev Cert.ReferenceAttf16Ideal.nD → PrngReg), Pre_KernelAttf16Ideal_finite_attf16 m →
    (∀ c : Dev Cert.KernelAttf16Ideal.nD,
      m' ((c.tc : Thread Cert.ReferenceAttf16Ideal.nD Cert.ReferenceAttf16Ideal.τ).loc Cert.ReferenceAttf16Ideal.main_arg0) = m ((c.tc : Thread Cert.KernelAttf16Ideal.nD Cert.KernelAttf16Ideal.τ).loc Cert.KernelAttf16Ideal.main_arg0)
      ∧ m' ((c.tc : Thread Cert.ReferenceAttf16Ideal.nD Cert.ReferenceAttf16Ideal.τ).loc Cert.ReferenceAttf16Ideal.main_arg1) = m ((c.tc : Thread Cert.KernelAttf16Ideal.nD Cert.KernelAttf16Ideal.τ).loc Cert.KernelAttf16Ideal.main_arg1)) →
    ∃ (v0 : (c : Dev Cert.KernelAttf16Ideal.nD) → Buf (Elt Ideal) ((c.tc : Thread Cert.KernelAttf16Ideal.nD Cert.KernelAttf16Ideal.τ).loc Cert.KernelAttf16Ideal.main_v11_0)) (v1 : (c : Dev Cert.KernelAttf16Ideal.nD) → Buf (Elt Ideal) ((c.tc : Thread Cert.KernelAttf16Ideal.nD Cert.KernelAttf16Ideal.τ).loc Cert.KernelAttf16Ideal.main_v11_1)),
      θ_run (Cert.KernelAttf16Ideal.defs (F := Ideal)) (onTc (τ := Cert.KernelAttf16Ideal.τ) (Cert.KernelAttf16Ideal.main (F := Ideal))) ⟨m, fun _ => 0, g⟩ (fun r => ∀ c : Dev Cert.KernelAttf16Ideal.nD,
          r.2.mem ((c.tc : Thread Cert.KernelAttf16Ideal.nD Cert.KernelAttf16Ideal.τ).loc Cert.KernelAttf16Ideal.main_v11_0) = v0 c
          ∧ r.2.mem ((c.tc : Thread Cert.KernelAttf16Ideal.nD Cert.KernelAttf16Ideal.τ).loc Cert.KernelAttf16Ideal.main_v11_1) = v1 c
          ∧ r.2.mem ((c.tc : Thread Cert.KernelAttf16Ideal.nD Cert.KernelAttf16Ideal.τ).loc Cert.KernelAttf16Ideal.main_arg0) = m ((c.tc : Thread Cert.KernelAttf16Ideal.nD Cert.KernelAttf16Ideal.τ).loc Cert.KernelAttf16Ideal.main_arg0)
          ∧ r.2.mem ((c.tc : Thread Cert.KernelAttf16Ideal.nD Cert.KernelAttf16Ideal.τ).loc Cert.KernelAttf16Ideal.main_arg1) = m ((c.tc : Thread Cert.KernelAttf16Ideal.nD Cert.KernelAttf16Ideal.τ).loc Cert.KernelAttf16Ideal.main_arg1))
      ∧ θ_run (Cert.ReferenceAttf16Ideal.defs (F := Ideal)) (onTc (τ := Cert.ReferenceAttf16Ideal.τ) (Cert.ReferenceAttf16Ideal.main (F := Ideal))) ⟨m', fun _ => 0, g'⟩ (fun r => ∀ c : Dev Cert.ReferenceAttf16Ideal.nD,
          r.2.mem ((c.tc : Thread Cert.ReferenceAttf16Ideal.nD Cert.ReferenceAttf16Ideal.τ).loc Cert.ReferenceAttf16Ideal.main_v43) = v0 c
          ∧ r.2.mem ((c.tc : Thread Cert.ReferenceAttf16Ideal.nD Cert.ReferenceAttf16Ideal.τ).loc Cert.ReferenceAttf16Ideal.main_v45) = v1 c
          ∧ r.2.mem ((c.tc : Thread Cert.ReferenceAttf16Ideal.nD Cert.ReferenceAttf16Ideal.τ).loc Cert.ReferenceAttf16Ideal.main_arg0) = m' ((c.tc : Thread Cert.ReferenceAttf16Ideal.nD Cert.ReferenceAttf16Ideal.τ).loc Cert.ReferenceAttf16Ideal.main_arg0)
          ∧ r.2.mem ((c.tc : Thread Cert.ReferenceAttf16Ideal.nD Cert.ReferenceAttf16Ideal.τ).loc Cert.ReferenceAttf16Ideal.main_arg1) = m' ((c.tc : Thread Cert.ReferenceAttf16Ideal.nD Cert.ReferenceAttf16Ideal.τ).loc Cert.ReferenceAttf16Ideal.main_arg1))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)) →
    ∃ (v0 : (c : Dev Cert.KernelRmsIdeal.nD) → Buf (Elt Ideal) ((c.tc : Thread Cert.KernelRmsIdeal.nD Cert.KernelRmsIdeal.τ).loc Cert.KernelRmsIdeal.main_v0)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v0) = v0 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v14) = v0 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1))

def preserves_KernelXo_KernelXoIdeal : Prop :=
  True

def algebraic_KernelXoIdeal_ReferenceXoIdeal [hKernelXoIdeal : Cert.KernelXoIdeal.Facts] [hReferenceXoIdeal : Cert.ReferenceXoIdeal.Facts] : Prop :=
  ∀ (m : (ℓ : Loc Cert.KernelXoIdeal.nD Cert.KernelXoIdeal.τ Cert.KernelXoIdeal.sig) → Buf (Elt Ideal) ℓ) (g : Dev Cert.KernelXoIdeal.nD → PrngReg)
    (m' : (ℓ : Loc Cert.ReferenceXoIdeal.nD Cert.ReferenceXoIdeal.τ Cert.ReferenceXoIdeal.sig) → Buf (Elt Ideal) ℓ) (g' : Dev Cert.ReferenceXoIdeal.nD → PrngReg), Pre_KernelXoIdeal m →
    (∀ c : Dev Cert.KernelXoIdeal.nD,
      m' ((c.tc : Thread Cert.ReferenceXoIdeal.nD Cert.ReferenceXoIdeal.τ).loc Cert.ReferenceXoIdeal.main_arg0) = m ((c.tc : Thread Cert.KernelXoIdeal.nD Cert.KernelXoIdeal.τ).loc Cert.KernelXoIdeal.main_arg0)
      ∧ m' ((c.tc : Thread Cert.ReferenceXoIdeal.nD Cert.ReferenceXoIdeal.τ).loc Cert.ReferenceXoIdeal.main_arg1) = m ((c.tc : Thread Cert.KernelXoIdeal.nD Cert.KernelXoIdeal.τ).loc Cert.KernelXoIdeal.main_arg1)
      ∧ m' ((c.tc : Thread Cert.ReferenceXoIdeal.nD Cert.ReferenceXoIdeal.τ).loc Cert.ReferenceXoIdeal.main_arg2) = m ((c.tc : Thread Cert.KernelXoIdeal.nD Cert.KernelXoIdeal.τ).loc Cert.KernelXoIdeal.main_arg2)
      ∧ m' ((c.tc : Thread Cert.ReferenceXoIdeal.nD Cert.ReferenceXoIdeal.τ).loc Cert.ReferenceXoIdeal.main_arg3) = m ((c.tc : Thread Cert.KernelXoIdeal.nD Cert.KernelXoIdeal.τ).loc Cert.KernelXoIdeal.main_arg3)) →
    ∃ (v0 : (c : Dev Cert.KernelXoIdeal.nD) → Buf (Elt Ideal) ((c.tc : Thread Cert.KernelXoIdeal.nD Cert.KernelXoIdeal.τ).loc Cert.KernelXoIdeal.main_v1_0)) (v1 : (c : Dev Cert.KernelXoIdeal.nD) → Buf (Elt Ideal) ((c.tc : Thread Cert.KernelXoIdeal.nD Cert.KernelXoIdeal.τ).loc Cert.KernelXoIdeal.main_v1_1)),
      θ_run (Cert.KernelXoIdeal.defs (F := Ideal)) (onTc (τ := Cert.KernelXoIdeal.τ) (Cert.KernelXoIdeal.main (F := Ideal))) ⟨m, fun _ => 0, g⟩ (fun r => ∀ c : Dev Cert.KernelXoIdeal.nD,
          r.2.mem ((c.tc : Thread Cert.KernelXoIdeal.nD Cert.KernelXoIdeal.τ).loc Cert.KernelXoIdeal.main_v1_0) = v0 c
          ∧ r.2.mem ((c.tc : Thread Cert.KernelXoIdeal.nD Cert.KernelXoIdeal.τ).loc Cert.KernelXoIdeal.main_v1_1) = v1 c
          ∧ r.2.mem ((c.tc : Thread Cert.KernelXoIdeal.nD Cert.KernelXoIdeal.τ).loc Cert.KernelXoIdeal.main_arg0) = m ((c.tc : Thread Cert.KernelXoIdeal.nD Cert.KernelXoIdeal.τ).loc Cert.KernelXoIdeal.main_arg0)
          ∧ r.2.mem ((c.tc : Thread Cert.KernelXoIdeal.nD Cert.KernelXoIdeal.τ).loc Cert.KernelXoIdeal.main_arg1) = m ((c.tc : Thread Cert.KernelXoIdeal.nD Cert.KernelXoIdeal.τ).loc Cert.KernelXoIdeal.main_arg1)
          ∧ r.2.mem ((c.tc : Thread Cert.KernelXoIdeal.nD Cert.KernelXoIdeal.τ).loc Cert.KernelXoIdeal.main_arg2) = m ((c.tc : Thread Cert.KernelXoIdeal.nD Cert.KernelXoIdeal.τ).loc Cert.KernelXoIdeal.main_arg2)
          ∧ r.2.mem ((c.tc : Thread Cert.KernelXoIdeal.nD Cert.KernelXoIdeal.τ).loc Cert.KernelXoIdeal.main_arg3) = m ((c.tc : Thread Cert.KernelXoIdeal.nD Cert.KernelXoIdeal.τ).loc Cert.KernelXoIdeal.main_arg3))
      ∧ θ_run (Cert.ReferenceXoIdeal.defs (F := Ideal)) (onTc (τ := Cert.ReferenceXoIdeal.τ) (Cert.ReferenceXoIdeal.main (F := Ideal))) ⟨m', fun _ => 0, g'⟩ (fun r => ∀ c : Dev Cert.ReferenceXoIdeal.nD,
          r.2.mem ((c.tc : Thread Cert.ReferenceXoIdeal.nD Cert.ReferenceXoIdeal.τ).loc Cert.ReferenceXoIdeal.main_v3) = v0 c
          ∧ r.2.mem ((c.tc : Thread Cert.ReferenceXoIdeal.nD Cert.ReferenceXoIdeal.τ).loc Cert.ReferenceXoIdeal.main_v18) = v1 c
          ∧ r.2.mem ((c.tc : Thread Cert.ReferenceXoIdeal.nD Cert.ReferenceXoIdeal.τ).loc Cert.ReferenceXoIdeal.main_arg0) = m' ((c.tc : Thread Cert.ReferenceXoIdeal.nD Cert.ReferenceXoIdeal.τ).loc Cert.ReferenceXoIdeal.main_arg0)
          ∧ r.2.mem ((c.tc : Thread Cert.ReferenceXoIdeal.nD Cert.ReferenceXoIdeal.τ).loc Cert.ReferenceXoIdeal.main_arg1) = m' ((c.tc : Thread Cert.ReferenceXoIdeal.nD Cert.ReferenceXoIdeal.τ).loc Cert.ReferenceXoIdeal.main_arg1)
          ∧ r.2.mem ((c.tc : Thread Cert.ReferenceXoIdeal.nD Cert.ReferenceXoIdeal.τ).loc Cert.ReferenceXoIdeal.main_arg2) = m' ((c.tc : Thread Cert.ReferenceXoIdeal.nD Cert.ReferenceXoIdeal.τ).loc Cert.ReferenceXoIdeal.main_arg2)
          ∧ r.2.mem ((c.tc : Thread Cert.ReferenceXoIdeal.nD Cert.ReferenceXoIdeal.τ).loc Cert.ReferenceXoIdeal.main_arg3) = m' ((c.tc : Thread Cert.ReferenceXoIdeal.nD Cert.ReferenceXoIdeal.τ).loc Cert.ReferenceXoIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v1_0)) (v1 : (c : Dev Cert.KernelOutIdeal.nD) → Buf (Elt Ideal) ((c.tc : Thread Cert.KernelOutIdeal.nD Cert.KernelOutIdeal.τ).loc Cert.KernelOutIdeal.main_v1_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1_0) = v0 c
          ∧ r.2.mem ((c.tc : Thread Cert.KernelOutIdeal.nD Cert.KernelOutIdeal.τ).loc Cert.KernelOutIdeal.main_v1_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_v19) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v4)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v4) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDelta_KernelDeltaIdeal : Prop :=
  True

def algebraic_KernelDeltaIdeal_ReferenceDeltaIdeal [hKernelDeltaIdeal : Cert.KernelDeltaIdeal.Facts] [hReferenceDeltaIdeal : Cert.ReferenceDeltaIdeal.Facts] : Prop :=
  ∀ (m : (ℓ : Loc Cert.KernelDeltaIdeal.nD Cert.KernelDeltaIdeal.τ Cert.KernelDeltaIdeal.sig) → Buf (Elt Ideal) ℓ) (g : Dev Cert.KernelDeltaIdeal.nD → PrngReg)
    (m' : (ℓ : Loc Cert.ReferenceDeltaIdeal.nD Cert.ReferenceDeltaIdeal.τ Cert.ReferenceDeltaIdeal.sig) → Buf (Elt Ideal) ℓ) (g' : Dev Cert.ReferenceDeltaIdeal.nD → PrngReg), Pre_KernelDeltaIdeal m →
    (∀ c : Dev Cert.KernelDeltaIdeal.nD,
      m' ((c.tc : Thread Cert.ReferenceDeltaIdeal.nD Cert.ReferenceDeltaIdeal.τ).loc Cert.ReferenceDeltaIdeal.main_arg0) = m ((c.tc : Thread Cert.KernelDeltaIdeal.nD Cert.KernelDeltaIdeal.τ).loc Cert.KernelDeltaIdeal.main_arg0)
      ∧ m' ((c.tc : Thread Cert.ReferenceDeltaIdeal.nD Cert.ReferenceDeltaIdeal.τ).loc Cert.ReferenceDeltaIdeal.main_arg1) = m ((c.tc : Thread Cert.KernelDeltaIdeal.nD Cert.KernelDeltaIdeal.τ).loc Cert.KernelDeltaIdeal.main_arg1)) →
    ∃ (v0 : (c : Dev Cert.KernelDeltaIdeal.nD) → Buf (Elt Ideal) ((c.tc : Thread Cert.KernelDeltaIdeal.nD Cert.KernelDeltaIdeal.τ).loc Cert.KernelDeltaIdeal.main_v0_0)) (v1 : (c : Dev Cert.KernelDeltaIdeal.nD) → Buf (Elt Ideal) ((c.tc : Thread Cert.KernelDeltaIdeal.nD Cert.KernelDeltaIdeal.τ).loc Cert.KernelDeltaIdeal.main_v0_1)) (v2 : (c : Dev Cert.KernelDeltaIdeal.nD) → Buf (Elt Ideal) ((c.tc : Thread Cert.KernelDeltaIdeal.nD Cert.KernelDeltaIdeal.τ).loc Cert.KernelDeltaIdeal.main_v0_2)) (v3 : (c : Dev Cert.KernelDeltaIdeal.nD) → Buf (Elt Ideal) ((c.tc : Thread Cert.KernelDeltaIdeal.nD Cert.KernelDeltaIdeal.τ).loc Cert.KernelDeltaIdeal.main_v0_3)) (v4 : (c : Dev Cert.KernelDeltaIdeal.nD) → Buf (Elt Ideal) ((c.tc : Thread Cert.KernelDeltaIdeal.nD Cert.KernelDeltaIdeal.τ).loc Cert.KernelDeltaIdeal.main_v0_4)),
      θ_run (Cert.KernelDeltaIdeal.defs (F := Ideal)) (onTc (τ := Cert.KernelDeltaIdeal.τ) (Cert.KernelDeltaIdeal.main (F := Ideal))) ⟨m, fun _ => 0, g⟩ (fun r => ∀ c : Dev Cert.KernelDeltaIdeal.nD,
          r.2.mem ((c.tc : Thread Cert.KernelDeltaIdeal.nD Cert.KernelDeltaIdeal.τ).loc Cert.KernelDeltaIdeal.main_v0_0) = v0 c
          ∧ r.2.mem ((c.tc : Thread Cert.KernelDeltaIdeal.nD Cert.KernelDeltaIdeal.τ).loc Cert.KernelDeltaIdeal.main_v0_1) = v1 c
          ∧ r.2.mem ((c.tc : Thread Cert.KernelDeltaIdeal.nD Cert.KernelDeltaIdeal.τ).loc Cert.KernelDeltaIdeal.main_v0_2) = v2 c
          ∧ r.2.mem ((c.tc : Thread Cert.KernelDeltaIdeal.nD Cert.KernelDeltaIdeal.τ).loc Cert.KernelDeltaIdeal.main_v0_3) = v3 c
          ∧ r.2.mem ((c.tc : Thread Cert.KernelDeltaIdeal.nD Cert.KernelDeltaIdeal.τ).loc Cert.KernelDeltaIdeal.main_v0_4) = v4 c
          ∧ r.2.mem ((c.tc : Thread Cert.KernelDeltaIdeal.nD Cert.KernelDeltaIdeal.τ).loc Cert.KernelDeltaIdeal.main_arg0) = m ((c.tc : Thread Cert.KernelDeltaIdeal.nD Cert.KernelDeltaIdeal.τ).loc Cert.KernelDeltaIdeal.main_arg0)
          ∧ r.2.mem ((c.tc : Thread Cert.KernelDeltaIdeal.nD Cert.KernelDeltaIdeal.τ).loc Cert.KernelDeltaIdeal.main_arg1) = m ((c.tc : Thread Cert.KernelDeltaIdeal.nD Cert.KernelDeltaIdeal.τ).loc Cert.KernelDeltaIdeal.main_arg1))
      ∧ θ_run (Cert.ReferenceDeltaIdeal.defs (F := Ideal)) (onTc (τ := Cert.ReferenceDeltaIdeal.τ) (Cert.ReferenceDeltaIdeal.main (F := Ideal))) ⟨m', fun _ => 0, g'⟩ (fun r => ∀ c : Dev Cert.ReferenceDeltaIdeal.nD,
          r.2.mem ((c.tc : Thread Cert.ReferenceDeltaIdeal.nD Cert.ReferenceDeltaIdeal.τ).loc Cert.ReferenceDeltaIdeal.main_v15) = v0 c
          ∧ r.2.mem ((c.tc : Thread Cert.ReferenceDeltaIdeal.nD Cert.ReferenceDeltaIdeal.τ).loc Cert.ReferenceDeltaIdeal.main_v20) = v1 c
          ∧ r.2.mem ((c.tc : Thread Cert.ReferenceDeltaIdeal.nD Cert.ReferenceDeltaIdeal.τ).loc Cert.ReferenceDeltaIdeal.main_v25) = v2 c
          ∧ r.2.mem ((c.tc : Thread Cert.ReferenceDeltaIdeal.nD Cert.ReferenceDeltaIdeal.τ).loc Cert.ReferenceDeltaIdeal.main_v31) = v3 c
          ∧ r.2.mem ((c.tc : Thread Cert.ReferenceDeltaIdeal.nD Cert.ReferenceDeltaIdeal.τ).loc Cert.ReferenceDeltaIdeal.main_v37) = v4 c
          ∧ r.2.mem ((c.tc : Thread Cert.ReferenceDeltaIdeal.nD Cert.ReferenceDeltaIdeal.τ).loc Cert.ReferenceDeltaIdeal.main_arg0) = m' ((c.tc : Thread Cert.ReferenceDeltaIdeal.nD Cert.ReferenceDeltaIdeal.τ).loc Cert.ReferenceDeltaIdeal.main_arg0)
          ∧ r.2.mem ((c.tc : Thread Cert.ReferenceDeltaIdeal.nD Cert.ReferenceDeltaIdeal.τ).loc Cert.ReferenceDeltaIdeal.main_arg1) = m' ((c.tc : Thread Cert.ReferenceDeltaIdeal.nD Cert.ReferenceDeltaIdeal.τ).loc Cert.ReferenceDeltaIdeal.main_arg1))

def preserves_KernelDwup_KernelDwupIdeal : Prop :=
  True

def algebraic_KernelDwupIdeal_ReferenceDwupIdeal [hKernelDwupIdeal : Cert.KernelDwupIdeal.Facts] [hReferenceDwupIdeal : Cert.ReferenceDwupIdeal.Facts] : Prop :=
  ∀ (m : (ℓ : Loc Cert.KernelDwupIdeal.nD Cert.KernelDwupIdeal.τ Cert.KernelDwupIdeal.sig) → Buf (Elt Ideal) ℓ) (g : Dev Cert.KernelDwupIdeal.nD → PrngReg)
    (m' : (ℓ : Loc Cert.ReferenceDwupIdeal.nD Cert.ReferenceDwupIdeal.τ Cert.ReferenceDwupIdeal.sig) → Buf (Elt Ideal) ℓ) (g' : Dev Cert.ReferenceDwupIdeal.nD → PrngReg), Pre_KernelDwupIdeal m →
    (∀ c : Dev Cert.KernelDwupIdeal.nD,
      m' ((c.tc : Thread Cert.ReferenceDwupIdeal.nD Cert.ReferenceDwupIdeal.τ).loc Cert.ReferenceDwupIdeal.main_arg0) = m ((c.tc : Thread Cert.KernelDwupIdeal.nD Cert.KernelDwupIdeal.τ).loc Cert.KernelDwupIdeal.main_arg0)
      ∧ m' ((c.tc : Thread Cert.ReferenceDwupIdeal.nD Cert.ReferenceDwupIdeal.τ).loc Cert.ReferenceDwupIdeal.main_arg1) = m ((c.tc : Thread Cert.KernelDwupIdeal.nD Cert.KernelDwupIdeal.τ).loc Cert.KernelDwupIdeal.main_arg1)
      ∧ m' ((c.tc : Thread Cert.ReferenceDwupIdeal.nD Cert.ReferenceDwupIdeal.τ).loc Cert.ReferenceDwupIdeal.main_arg2) = m ((c.tc : Thread Cert.KernelDwupIdeal.nD Cert.KernelDwupIdeal.τ).loc Cert.KernelDwupIdeal.main_arg2)) →
    ∃ (v0 : (c : Dev Cert.KernelDwupIdeal.nD) → Buf (Elt Ideal) ((c.tc : Thread Cert.KernelDwupIdeal.nD Cert.KernelDwupIdeal.τ).loc Cert.KernelDwupIdeal.main_v0)),
      θ_run (Cert.KernelDwupIdeal.defs (F := Ideal)) (onTc (τ := Cert.KernelDwupIdeal.τ) (Cert.KernelDwupIdeal.main (F := Ideal))) ⟨m, fun _ => 0, g⟩ (fun r => ∀ c : Dev Cert.KernelDwupIdeal.nD,
          r.2.mem ((c.tc : Thread Cert.KernelDwupIdeal.nD Cert.KernelDwupIdeal.τ).loc Cert.KernelDwupIdeal.main_v0) = v0 c
          ∧ r.2.mem ((c.tc : Thread Cert.KernelDwupIdeal.nD Cert.KernelDwupIdeal.τ).loc Cert.KernelDwupIdeal.main_arg0) = m ((c.tc : Thread Cert.KernelDwupIdeal.nD Cert.KernelDwupIdeal.τ).loc Cert.KernelDwupIdeal.main_arg0)
          ∧ r.2.mem ((c.tc : Thread Cert.KernelDwupIdeal.nD Cert.KernelDwupIdeal.τ).loc Cert.KernelDwupIdeal.main_arg1) = m ((c.tc : Thread Cert.KernelDwupIdeal.nD Cert.KernelDwupIdeal.τ).loc Cert.KernelDwupIdeal.main_arg1)
          ∧ r.2.mem ((c.tc : Thread Cert.KernelDwupIdeal.nD Cert.KernelDwupIdeal.τ).loc Cert.KernelDwupIdeal.main_arg2) = m ((c.tc : Thread Cert.KernelDwupIdeal.nD Cert.KernelDwupIdeal.τ).loc Cert.KernelDwupIdeal.main_arg2))
      ∧ θ_run (Cert.ReferenceDwupIdeal.defs (F := Ideal)) (onTc (τ := Cert.ReferenceDwupIdeal.τ) (Cert.ReferenceDwupIdeal.main (F := Ideal))) ⟨m', fun _ => 0, g'⟩ (fun r => ∀ c : Dev Cert.ReferenceDwupIdeal.nD,
          r.2.mem ((c.tc : Thread Cert.ReferenceDwupIdeal.nD Cert.ReferenceDwupIdeal.τ).loc Cert.ReferenceDwupIdeal.main_v10) = v0 c
          ∧ r.2.mem ((c.tc : Thread Cert.ReferenceDwupIdeal.nD Cert.ReferenceDwupIdeal.τ).loc Cert.ReferenceDwupIdeal.main_arg0) = m' ((c.tc : Thread Cert.ReferenceDwupIdeal.nD Cert.ReferenceDwupIdeal.τ).loc Cert.ReferenceDwupIdeal.main_arg0)
          ∧ r.2.mem ((c.tc : Thread Cert.ReferenceDwupIdeal.nD Cert.ReferenceDwupIdeal.τ).loc Cert.ReferenceDwupIdeal.main_arg1) = m' ((c.tc : Thread Cert.ReferenceDwupIdeal.nD Cert.ReferenceDwupIdeal.τ).loc Cert.ReferenceDwupIdeal.main_arg1)
          ∧ r.2.mem ((c.tc : Thread Cert.ReferenceDwupIdeal.nD Cert.ReferenceDwupIdeal.τ).loc Cert.ReferenceDwupIdeal.main_arg2) = m' ((c.tc : Thread Cert.ReferenceDwupIdeal.nD Cert.ReferenceDwupIdeal.τ).loc Cert.ReferenceDwupIdeal.main_arg2))

def preserves_KernelDxo_KernelDxoIdeal : Prop :=
  True

def algebraic_KernelDxoIdeal_ReferenceDxoIdeal [hKernelDxoIdeal : Cert.KernelDxoIdeal.Facts] [hReferenceDxoIdeal : Cert.ReferenceDxoIdeal.Facts] : Prop :=
  ∀ (m : (ℓ : Loc Cert.KernelDxoIdeal.nD Cert.KernelDxoIdeal.τ Cert.KernelDxoIdeal.sig) → Buf (Elt Ideal) ℓ) (g : Dev Cert.KernelDxoIdeal.nD → PrngReg)
    (m' : (ℓ : Loc Cert.ReferenceDxoIdeal.nD Cert.ReferenceDxoIdeal.τ Cert.ReferenceDxoIdeal.sig) → Buf (Elt Ideal) ℓ) (g' : Dev Cert.ReferenceDxoIdeal.nD → PrngReg), Pre_KernelDxoIdeal m →
    (∀ c : Dev Cert.KernelDxoIdeal.nD,
      m' ((c.tc : Thread Cert.ReferenceDxoIdeal.nD Cert.ReferenceDxoIdeal.τ).loc Cert.ReferenceDxoIdeal.main_arg0) = m ((c.tc : Thread Cert.KernelDxoIdeal.nD Cert.KernelDxoIdeal.τ).loc Cert.KernelDxoIdeal.main_arg0)
      ∧ m' ((c.tc : Thread Cert.ReferenceDxoIdeal.nD Cert.ReferenceDxoIdeal.τ).loc Cert.ReferenceDxoIdeal.main_arg1) = m ((c.tc : Thread Cert.KernelDxoIdeal.nD Cert.KernelDxoIdeal.τ).loc Cert.KernelDxoIdeal.main_arg1)
      ∧ m' ((c.tc : Thread Cert.ReferenceDxoIdeal.nD Cert.ReferenceDxoIdeal.τ).loc Cert.ReferenceDxoIdeal.main_arg2) = m ((c.tc : Thread Cert.KernelDxoIdeal.nD Cert.KernelDxoIdeal.τ).loc Cert.KernelDxoIdeal.main_arg2)) →
    ∃ (v0 : (c : Dev Cert.KernelDxoIdeal.nD) → Buf (Elt Ideal) ((c.tc : Thread Cert.KernelDxoIdeal.nD Cert.KernelDxoIdeal.τ).loc Cert.KernelDxoIdeal.main_v1)),
      θ_run (Cert.KernelDxoIdeal.defs (F := Ideal)) (onTc (τ := Cert.KernelDxoIdeal.τ) (Cert.KernelDxoIdeal.main (F := Ideal))) ⟨m, fun _ => 0, g⟩ (fun r => ∀ c : Dev Cert.KernelDxoIdeal.nD,
          r.2.mem ((c.tc : Thread Cert.KernelDxoIdeal.nD Cert.KernelDxoIdeal.τ).loc Cert.KernelDxoIdeal.main_v1) = v0 c
          ∧ r.2.mem ((c.tc : Thread Cert.KernelDxoIdeal.nD Cert.KernelDxoIdeal.τ).loc Cert.KernelDxoIdeal.main_arg0) = m ((c.tc : Thread Cert.KernelDxoIdeal.nD Cert.KernelDxoIdeal.τ).loc Cert.KernelDxoIdeal.main_arg0)
          ∧ r.2.mem ((c.tc : Thread Cert.KernelDxoIdeal.nD Cert.KernelDxoIdeal.τ).loc Cert.KernelDxoIdeal.main_arg1) = m ((c.tc : Thread Cert.KernelDxoIdeal.nD Cert.KernelDxoIdeal.τ).loc Cert.KernelDxoIdeal.main_arg1)
          ∧ r.2.mem ((c.tc : Thread Cert.KernelDxoIdeal.nD Cert.KernelDxoIdeal.τ).loc Cert.KernelDxoIdeal.main_arg2) = m ((c.tc : Thread Cert.KernelDxoIdeal.nD Cert.KernelDxoIdeal.τ).loc Cert.KernelDxoIdeal.main_arg2))
      ∧ θ_run (Cert.ReferenceDxoIdeal.defs (F := Ideal)) (onTc (τ := Cert.ReferenceDxoIdeal.τ) (Cert.ReferenceDxoIdeal.main (F := Ideal))) ⟨m', fun _ => 0, g'⟩ (fun r => ∀ c : Dev Cert.ReferenceDxoIdeal.nD,
          r.2.mem ((c.tc : Thread Cert.ReferenceDxoIdeal.nD Cert.ReferenceDxoIdeal.τ).loc Cert.ReferenceDxoIdeal.main_v5) = v0 c
          ∧ r.2.mem ((c.tc : Thread Cert.ReferenceDxoIdeal.nD Cert.ReferenceDxoIdeal.τ).loc Cert.ReferenceDxoIdeal.main_arg0) = m' ((c.tc : Thread Cert.ReferenceDxoIdeal.nD Cert.ReferenceDxoIdeal.τ).loc Cert.ReferenceDxoIdeal.main_arg0)
          ∧ r.2.mem ((c.tc : Thread Cert.ReferenceDxoIdeal.nD Cert.ReferenceDxoIdeal.τ).loc Cert.ReferenceDxoIdeal.main_arg1) = m' ((c.tc : Thread Cert.ReferenceDxoIdeal.nD Cert.ReferenceDxoIdeal.τ).loc Cert.ReferenceDxoIdeal.main_arg1)
          ∧ r.2.mem ((c.tc : Thread Cert.ReferenceDxoIdeal.nD Cert.ReferenceDxoIdeal.τ).loc Cert.ReferenceDxoIdeal.main_arg2) = m' ((c.tc : Thread Cert.ReferenceDxoIdeal.nD Cert.ReferenceDxoIdeal.τ).loc Cert.ReferenceDxoIdeal.main_arg2))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)) →
    ∃ (v0 : (c : Dev Cert.KernelRopeIdeal.nD) → Buf (Elt Ideal) ((c.tc : Thread Cert.KernelRopeIdeal.nD Cert.KernelRopeIdeal.τ).loc Cert.KernelRopeIdeal.main_v34_0)) (v1 : (c : Dev Cert.KernelRopeIdeal.nD) → Buf (Elt Ideal) ((c.tc : Thread Cert.KernelRopeIdeal.nD Cert.KernelRopeIdeal.τ).loc Cert.KernelRopeIdeal.main_v34_1)) (v2 : (c : Dev Cert.KernelRopeIdeal.nD) → Buf (Elt Ideal) ((c.tc : Thread Cert.KernelRopeIdeal.nD Cert.KernelRopeIdeal.τ).loc Cert.KernelRopeIdeal.main_v34_2)) (v3 : (c : Dev Cert.KernelRopeIdeal.nD) → Buf (Elt Ideal) ((c.tc : Thread Cert.KernelRopeIdeal.nD Cert.KernelRopeIdeal.τ).loc Cert.KernelRopeIdeal.main_v34_3)) (v4 : (c : Dev Cert.KernelRopeIdeal.nD) → Buf (Elt Ideal) ((c.tc : Thread Cert.KernelRopeIdeal.nD Cert.KernelRopeIdeal.τ).loc Cert.KernelRopeIdeal.main_v34_4)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v34_0) = v0 c
          ∧ r.2.mem ((c.tc : Thread Cert.KernelRopeIdeal.nD Cert.KernelRopeIdeal.τ).loc Cert.KernelRopeIdeal.main_v34_1) = v1 c
          ∧ r.2.mem ((c.tc : Thread Cert.KernelRopeIdeal.nD Cert.KernelRopeIdeal.τ).loc Cert.KernelRopeIdeal.main_v34_2) = v2 c
          ∧ r.2.mem ((c.tc : Thread Cert.KernelRopeIdeal.nD Cert.KernelRopeIdeal.τ).loc Cert.KernelRopeIdeal.main_v34_3) = v3 c
          ∧ r.2.mem ((c.tc : Thread Cert.KernelRopeIdeal.nD Cert.KernelRopeIdeal.τ).loc Cert.KernelRopeIdeal.main_v34_4) = v4 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v79) = v0 c
          ∧ r.2.mem ((c.tc : Thread Cert.ReferenceRopeIdeal.nD Cert.ReferenceRopeIdeal.τ).loc Cert.ReferenceRopeIdeal.main_v83) = v1 c
          ∧ r.2.mem ((c.tc : Thread Cert.ReferenceRopeIdeal.nD Cert.ReferenceRopeIdeal.τ).loc Cert.ReferenceRopeIdeal.main_v87) = v2 c
          ∧ r.2.mem ((c.tc : Thread Cert.ReferenceRopeIdeal.nD Cert.ReferenceRopeIdeal.τ).loc Cert.ReferenceRopeIdeal.main_v91) = v3 c
          ∧ r.2.mem ((c.tc : Thread Cert.ReferenceRopeIdeal.nD Cert.ReferenceRopeIdeal.τ).loc Cert.ReferenceRopeIdeal.main_v95) = v4 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0))

def preserves_KernelComb_KernelCombIdeal : Prop :=
  True

def Claim : Prop :=
  ∃ (hKernelMem : Cert.KernelMem.Facts) (hKernelMemIdeal : Cert.KernelMemIdeal.Facts) (hReferenceMemIdeal : Cert.ReferenceMemIdeal.Facts) (hKernelXatt : Cert.KernelXatt.Facts) (hKernelXattIdeal : Cert.KernelXattIdeal.Facts) (hReferenceXattIdeal : Cert.ReferenceXattIdeal.Facts) (hKernelHn : Cert.KernelHn.Facts) (hKernelHnIdeal : Cert.KernelHnIdeal.Facts) (hReferenceHnIdeal : Cert.ReferenceHnIdeal.Facts) (hKernelXn : Cert.KernelXn.Facts) (hKernelXnIdeal : Cert.KernelXnIdeal.Facts) (hReferenceXnIdeal : Cert.ReferenceXnIdeal.Facts) (hKernelHm : Cert.KernelHm.Facts) (hKernelHmIdeal : Cert.KernelHmIdeal.Facts) (hReferenceHmIdeal : Cert.ReferenceHmIdeal.Facts) (hKernelDact : Cert.KernelDact.Facts) (hKernelDactIdeal : Cert.KernelDactIdeal.Facts) (hReferenceDactIdeal : Cert.ReferenceDactIdeal.Facts) (hKernelDwdown : Cert.KernelDwdown.Facts) (hKernelDwdownIdeal : Cert.KernelDwdownIdeal.Facts) (hReferenceDwdownIdeal : Cert.ReferenceDwdownIdeal.Facts) (hKernelLoss : Cert.KernelLoss.Facts) (hKernelLossIdeal : Cert.KernelLossIdeal.Facts) (hReferenceLossIdeal : Cert.ReferenceLossIdeal.Facts) (hKernelDy : Cert.KernelDy.Facts) (hKernelDyIdeal : Cert.KernelDyIdeal.Facts) (hReferenceDyIdeal : Cert.ReferenceDyIdeal.Facts) (hKernelXattf : Cert.KernelXattf.Facts) (hKernelXattfIdeal : Cert.KernelXattfIdeal.Facts) (hReferenceXattfIdeal : Cert.ReferenceXattfIdeal.Facts) (hKernelAttf1 : Cert.KernelAttf1.Facts) (hKernelAttf1Ideal : Cert.KernelAttf1Ideal.Facts) (hReferenceAttf1Ideal : Cert.ReferenceAttf1Ideal.Facts) (hKernelAttf4 : Cert.KernelAttf4.Facts) (hKernelAttf4Ideal : Cert.KernelAttf4Ideal.Facts) (hReferenceAttf4Ideal : Cert.ReferenceAttf4Ideal.Facts) (hKernelAttf16 : Cert.KernelAttf16.Facts) (hKernelAttf16Ideal : Cert.KernelAttf16Ideal.Facts) (hReferenceAttf16Ideal : Cert.ReferenceAttf16Ideal.Facts) (hKernelRms : Cert.KernelRms.Facts) (hKernelRmsIdeal : Cert.KernelRmsIdeal.Facts) (hReferenceRmsIdeal : Cert.ReferenceRmsIdeal.Facts) (hKernelXo : Cert.KernelXo.Facts) (hKernelXoIdeal : Cert.KernelXoIdeal.Facts) (hReferenceXoIdeal : Cert.ReferenceXoIdeal.Facts) (hKernelOut : Cert.KernelOut.Facts) (hKernelOutIdeal : Cert.KernelOutIdeal.Facts) (hReferenceOutIdeal : Cert.ReferenceOutIdeal.Facts) (hKernelUp : Cert.KernelUp.Facts) (hKernelUpIdeal : Cert.KernelUpIdeal.Facts) (hReferenceUpIdeal : Cert.ReferenceUpIdeal.Facts) (hKernelDelta : Cert.KernelDelta.Facts) (hKernelDeltaIdeal : Cert.KernelDeltaIdeal.Facts) (hReferenceDeltaIdeal : Cert.ReferenceDeltaIdeal.Facts) (hKernelDwup : Cert.KernelDwup.Facts) (hKernelDwupIdeal : Cert.KernelDwupIdeal.Facts) (hReferenceDwupIdeal : Cert.ReferenceDwupIdeal.Facts) (hKernelDxo : Cert.KernelDxo.Facts) (hKernelDxoIdeal : Cert.KernelDxoIdeal.Facts) (hReferenceDxoIdeal : Cert.ReferenceDxoIdeal.Facts) (hKernelRope : Cert.KernelRope.Facts) (hKernelRopeIdeal : Cert.KernelRopeIdeal.Facts) (hReferenceRopeIdeal : Cert.ReferenceRopeIdeal.Facts) (hKernelComb : Cert.KernelComb.Facts) (hKernelCombIdeal : Cert.KernelCombIdeal.Facts) (hPre_finite_mem : Cert.Pre_finite_mem.Facts) (hPre_finite_xatt : Cert.Pre_finite_xatt.Facts) (hPre_finite_hn : Cert.Pre_finite_hn.Facts) (hPre_finite_xn : Cert.Pre_finite_xn.Facts) (hPre_finite_hm : Cert.Pre_finite_hm.Facts) (hPre_finite_loss : Cert.Pre_finite_loss.Facts) (hPre_finite_xattf : Cert.Pre_finite_xattf.Facts) (hPre_finite_attf1 : Cert.Pre_finite_attf1.Facts) (hPre_finite_attf4 : Cert.Pre_finite_attf4.Facts) (hPre_finite_attf16 : Cert.Pre_finite_attf16.Facts),
    quiescent_KernelMem (hKernelMem := hKernelMem)
    ∧ quiescent_KernelMemIdeal (hKernelMemIdeal := hKernelMemIdeal)
    ∧ quiescent_KernelMemIdeal_pre_finite_mem (hKernelMemIdeal := hKernelMemIdeal) (hPre_finite_mem := hPre_finite_mem)
    ∧ quiescent_ReferenceMemIdeal (hReferenceMemIdeal := hReferenceMemIdeal)
    ∧ quiescent_ReferenceMemIdeal_pre_finite_mem (hReferenceMemIdeal := hReferenceMemIdeal) (hPre_finite_mem := hPre_finite_mem)
    ∧ quiescent_KernelXatt (hKernelXatt := hKernelXatt)
    ∧ quiescent_KernelXattIdeal (hKernelXattIdeal := hKernelXattIdeal)
    ∧ quiescent_KernelXattIdeal_pre_finite_xatt (hKernelXattIdeal := hKernelXattIdeal) (hPre_finite_xatt := hPre_finite_xatt)
    ∧ quiescent_ReferenceXattIdeal (hReferenceXattIdeal := hReferenceXattIdeal)
    ∧ quiescent_ReferenceXattIdeal_pre_finite_xatt (hReferenceXattIdeal := hReferenceXattIdeal) (hPre_finite_xatt := hPre_finite_xatt)
    ∧ quiescent_KernelHn (hKernelHn := hKernelHn)
    ∧ quiescent_KernelHnIdeal (hKernelHnIdeal := hKernelHnIdeal)
    ∧ quiescent_KernelHnIdeal_pre_finite_hn (hKernelHnIdeal := hKernelHnIdeal) (hPre_finite_hn := hPre_finite_hn)
    ∧ quiescent_ReferenceHnIdeal (hReferenceHnIdeal := hReferenceHnIdeal)
    ∧ quiescent_ReferenceHnIdeal_pre_finite_hn (hReferenceHnIdeal := hReferenceHnIdeal) (hPre_finite_hn := hPre_finite_hn)
    ∧ quiescent_KernelXn (hKernelXn := hKernelXn)
    ∧ quiescent_KernelXnIdeal (hKernelXnIdeal := hKernelXnIdeal)
    ∧ quiescent_KernelXnIdeal_pre_finite_xn (hKernelXnIdeal := hKernelXnIdeal) (hPre_finite_xn := hPre_finite_xn)
    ∧ quiescent_ReferenceXnIdeal (hReferenceXnIdeal := hReferenceXnIdeal)
    ∧ quiescent_ReferenceXnIdeal_pre_finite_xn (hReferenceXnIdeal := hReferenceXnIdeal) (hPre_finite_xn := hPre_finite_xn)
    ∧ quiescent_KernelHm (hKernelHm := hKernelHm)
    ∧ quiescent_KernelHmIdeal (hKernelHmIdeal := hKernelHmIdeal)
    ∧ quiescent_KernelHmIdeal_pre_finite_hm (hKernelHmIdeal := hKernelHmIdeal) (hPre_finite_hm := hPre_finite_hm)
    ∧ quiescent_ReferenceHmIdeal (hReferenceHmIdeal := hReferenceHmIdeal)
    ∧ quiescent_ReferenceHmIdeal_pre_finite_hm (hReferenceHmIdeal := hReferenceHmIdeal) (hPre_finite_hm := hPre_finite_hm)
    ∧ quiescent_KernelDact (hKernelDact := hKernelDact)
    ∧ quiescent_KernelDactIdeal (hKernelDactIdeal := hKernelDactIdeal)
    ∧ quiescent_ReferenceDactIdeal (hReferenceDactIdeal := hReferenceDactIdeal)
    ∧ quiescent_KernelDwdown (hKernelDwdown := hKernelDwdown)
    ∧ quiescent_KernelDwdownIdeal (hKernelDwdownIdeal := hKernelDwdownIdeal)
    ∧ quiescent_ReferenceDwdownIdeal (hReferenceDwdownIdeal := hReferenceDwdownIdeal)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelDy (hKernelDy := hKernelDy)
    ∧ quiescent_KernelDyIdeal (hKernelDyIdeal := hKernelDyIdeal)
    ∧ quiescent_ReferenceDyIdeal (hReferenceDyIdeal := hReferenceDyIdeal)
    ∧ quiescent_KernelXattf (hKernelXattf := hKernelXattf)
    ∧ quiescent_KernelXattfIdeal (hKernelXattfIdeal := hKernelXattfIdeal)
    ∧ quiescent_KernelXattfIdeal_pre_finite_xattf (hKernelXattfIdeal := hKernelXattfIdeal) (hPre_finite_xattf := hPre_finite_xattf)
    ∧ quiescent_ReferenceXattfIdeal (hReferenceXattfIdeal := hReferenceXattfIdeal)
    ∧ quiescent_ReferenceXattfIdeal_pre_finite_xattf (hReferenceXattfIdeal := hReferenceXattfIdeal) (hPre_finite_xattf := hPre_finite_xattf)
    ∧ quiescent_KernelAttf1 (hKernelAttf1 := hKernelAttf1)
    ∧ quiescent_KernelAttf1Ideal (hKernelAttf1Ideal := hKernelAttf1Ideal)
    ∧ quiescent_KernelAttf1Ideal_pre_finite_attf1 (hKernelAttf1Ideal := hKernelAttf1Ideal) (hPre_finite_attf1 := hPre_finite_attf1)
    ∧ quiescent_ReferenceAttf1Ideal (hReferenceAttf1Ideal := hReferenceAttf1Ideal)
    ∧ quiescent_ReferenceAttf1Ideal_pre_finite_attf1 (hReferenceAttf1Ideal := hReferenceAttf1Ideal) (hPre_finite_attf1 := hPre_finite_attf1)
    ∧ quiescent_KernelAttf4 (hKernelAttf4 := hKernelAttf4)
    ∧ quiescent_KernelAttf4Ideal (hKernelAttf4Ideal := hKernelAttf4Ideal)
    ∧ quiescent_KernelAttf4Ideal_pre_finite_attf4 (hKernelAttf4Ideal := hKernelAttf4Ideal) (hPre_finite_attf4 := hPre_finite_attf4)
    ∧ quiescent_ReferenceAttf4Ideal (hReferenceAttf4Ideal := hReferenceAttf4Ideal)
    ∧ quiescent_ReferenceAttf4Ideal_pre_finite_attf4 (hReferenceAttf4Ideal := hReferenceAttf4Ideal) (hPre_finite_attf4 := hPre_finite_attf4)
    ∧ quiescent_KernelAttf16 (hKernelAttf16 := hKernelAttf16)
    ∧ quiescent_KernelAttf16Ideal (hKernelAttf16Ideal := hKernelAttf16Ideal)
    ∧ quiescent_KernelAttf16Ideal_pre_finite_attf16 (hKernelAttf16Ideal := hKernelAttf16Ideal) (hPre_finite_attf16 := hPre_finite_attf16)
    ∧ quiescent_ReferenceAttf16Ideal (hReferenceAttf16Ideal := hReferenceAttf16Ideal)
    ∧ quiescent_ReferenceAttf16Ideal_pre_finite_attf16 (hReferenceAttf16Ideal := hReferenceAttf16Ideal) (hPre_finite_attf16 := hPre_finite_attf16)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ quiescent_KernelXo (hKernelXo := hKernelXo)
    ∧ quiescent_KernelXoIdeal (hKernelXoIdeal := hKernelXoIdeal)
    ∧ quiescent_ReferenceXoIdeal (hReferenceXoIdeal := hReferenceXoIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDelta (hKernelDelta := hKernelDelta)
    ∧ quiescent_KernelDeltaIdeal (hKernelDeltaIdeal := hKernelDeltaIdeal)
    ∧ quiescent_ReferenceDeltaIdeal (hReferenceDeltaIdeal := hReferenceDeltaIdeal)
    ∧ quiescent_KernelDwup (hKernelDwup := hKernelDwup)
    ∧ quiescent_KernelDwupIdeal (hKernelDwupIdeal := hKernelDwupIdeal)
    ∧ quiescent_ReferenceDwupIdeal (hReferenceDwupIdeal := hReferenceDwupIdeal)
    ∧ quiescent_KernelDxo (hKernelDxo := hKernelDxo)
    ∧ quiescent_KernelDxoIdeal (hKernelDxoIdeal := hKernelDxoIdeal)
    ∧ quiescent_ReferenceDxoIdeal (hReferenceDxoIdeal := hReferenceDxoIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ quiescent_KernelComb (hKernelComb := hKernelComb)
    ∧ quiescent_KernelCombIdeal (hKernelCombIdeal := hKernelCombIdeal)
    ∧ preserves_KernelMem_KernelMemIdeal
    ∧ algebraic_KernelMemIdeal_ReferenceMemIdeal_pre_finite_mem (hKernelMemIdeal := hKernelMemIdeal) (hReferenceMemIdeal := hReferenceMemIdeal) (hPre_finite_mem := hPre_finite_mem)
    ∧ preserves_KernelXatt_KernelXattIdeal
    ∧ algebraic_KernelXattIdeal_ReferenceXattIdeal_pre_finite_xatt (hKernelXattIdeal := hKernelXattIdeal) (hReferenceXattIdeal := hReferenceXattIdeal) (hPre_finite_xatt := hPre_finite_xatt)
    ∧ preserves_KernelHn_KernelHnIdeal
    ∧ algebraic_KernelHnIdeal_ReferenceHnIdeal_pre_finite_hn (hKernelHnIdeal := hKernelHnIdeal) (hReferenceHnIdeal := hReferenceHnIdeal) (hPre_finite_hn := hPre_finite_hn)
    ∧ preserves_KernelXn_KernelXnIdeal
    ∧ algebraic_KernelXnIdeal_ReferenceXnIdeal_pre_finite_xn (hKernelXnIdeal := hKernelXnIdeal) (hReferenceXnIdeal := hReferenceXnIdeal) (hPre_finite_xn := hPre_finite_xn)
    ∧ preserves_KernelHm_KernelHmIdeal
    ∧ algebraic_KernelHmIdeal_ReferenceHmIdeal_pre_finite_hm (hKernelHmIdeal := hKernelHmIdeal) (hReferenceHmIdeal := hReferenceHmIdeal) (hPre_finite_hm := hPre_finite_hm)
    ∧ preserves_KernelDact_KernelDactIdeal
    ∧ algebraic_KernelDactIdeal_ReferenceDactIdeal (hKernelDactIdeal := hKernelDactIdeal) (hReferenceDactIdeal := hReferenceDactIdeal)
    ∧ preserves_KernelDwdown_KernelDwdownIdeal
    ∧ algebraic_KernelDwdownIdeal_ReferenceDwdownIdeal (hKernelDwdownIdeal := hKernelDwdownIdeal) (hReferenceDwdownIdeal := hReferenceDwdownIdeal)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelDy_KernelDyIdeal
    ∧ algebraic_KernelDyIdeal_ReferenceDyIdeal (hKernelDyIdeal := hKernelDyIdeal) (hReferenceDyIdeal := hReferenceDyIdeal)
    ∧ preserves_KernelXattf_KernelXattfIdeal
    ∧ algebraic_KernelXattfIdeal_ReferenceXattfIdeal_pre_finite_xattf (hKernelXattfIdeal := hKernelXattfIdeal) (hReferenceXattfIdeal := hReferenceXattfIdeal) (hPre_finite_xattf := hPre_finite_xattf)
    ∧ preserves_KernelAttf1_KernelAttf1Ideal
    ∧ algebraic_KernelAttf1Ideal_ReferenceAttf1Ideal_pre_finite_attf1 (hKernelAttf1Ideal := hKernelAttf1Ideal) (hReferenceAttf1Ideal := hReferenceAttf1Ideal) (hPre_finite_attf1 := hPre_finite_attf1)
    ∧ preserves_KernelAttf4_KernelAttf4Ideal
    ∧ algebraic_KernelAttf4Ideal_ReferenceAttf4Ideal_pre_finite_attf4 (hKernelAttf4Ideal := hKernelAttf4Ideal) (hReferenceAttf4Ideal := hReferenceAttf4Ideal) (hPre_finite_attf4 := hPre_finite_attf4)
    ∧ preserves_KernelAttf16_KernelAttf16Ideal
    ∧ algebraic_KernelAttf16Ideal_ReferenceAttf16Ideal_pre_finite_attf16 (hKernelAttf16Ideal := hKernelAttf16Ideal) (hReferenceAttf16Ideal := hReferenceAttf16Ideal) (hPre_finite_attf16 := hPre_finite_attf16)
    ∧ preserves_KernelRms_KernelRmsIdeal
    ∧ algebraic_KernelRmsIdeal_ReferenceRmsIdeal (hKernelRmsIdeal := hKernelRmsIdeal) (hReferenceRmsIdeal := hReferenceRmsIdeal)
    ∧ preserves_KernelXo_KernelXoIdeal
    ∧ algebraic_KernelXoIdeal_ReferenceXoIdeal (hKernelXoIdeal := hKernelXoIdeal) (hReferenceXoIdeal := hReferenceXoIdeal)
    ∧ preserves_KernelOut_KernelOutIdeal
    ∧ algebraic_KernelOutIdeal_ReferenceOutIdeal (hKernelOutIdeal := hKernelOutIdeal) (hReferenceOutIdeal := hReferenceOutIdeal)
    ∧ preserves_KernelUp_KernelUpIdeal
    ∧ algebraic_KernelUpIdeal_ReferenceUpIdeal (hKernelUpIdeal := hKernelUpIdeal) (hReferenceUpIdeal := hReferenceUpIdeal)
    ∧ preserves_KernelDelta_KernelDeltaIdeal
    ∧ algebraic_KernelDeltaIdeal_ReferenceDeltaIdeal (hKernelDeltaIdeal := hKernelDeltaIdeal) (hReferenceDeltaIdeal := hReferenceDeltaIdeal)
    ∧ preserves_KernelDwup_KernelDwupIdeal
    ∧ algebraic_KernelDwupIdeal_ReferenceDwupIdeal (hKernelDwupIdeal := hKernelDwupIdeal) (hReferenceDwupIdeal := hReferenceDwupIdeal)
    ∧ preserves_KernelDxo_KernelDxoIdeal
    ∧ algebraic_KernelDxoIdeal_ReferenceDxoIdeal (hKernelDxoIdeal := hKernelDxoIdeal) (hReferenceDxoIdeal := hReferenceDxoIdeal)
    ∧ preserves_KernelRope_KernelRopeIdeal
    ∧ algebraic_KernelRopeIdeal_ReferenceRopeIdeal (hKernelRopeIdeal := hKernelRopeIdeal) (hReferenceRopeIdeal := hReferenceRopeIdeal)
    ∧ preserves_KernelComb_KernelCombIdeal
-- ==== Pre_finite_attf1.lean ====
abbrev S8192x1024 : Shape := ⟨2, ![8192, 1024]⟩
abbrev S8192x2560 : Shape := ⟨2, ![8192, 2560]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x2560 .bf16) : IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  main_v3
-- ==== Pre_finite_attf16.lean ====
abbrev S8192x1024 : Shape := ⟨2, ![8192, 1024]⟩
abbrev S8192x2560 : Shape := ⟨2, ![8192, 2560]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x2560 .bf16) : IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  main_v3
-- ==== Pre_finite_attf4.lean ====
abbrev S8192x1024 : Shape := ⟨2, ![8192, 1024]⟩
abbrev S8192x2560 : Shape := ⟨2, ![8192, 2560]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x2560 .bf16) : IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  main_v3
-- ==== Pre_finite_hm.lean ====
abbrev S8192x4096 : Shape := ⟨2, ![8192, 4096]⟩
abbrev S1x1024x4096 : Shape := ⟨3, ![1, 1024, 4096]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S1x1024x4096 : S_.BroadcastsInDim S1x1024x4096 (![] : Fin 0 → Fin S1x1024x4096.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x4096 .bf16) (main_arg1 : FVec F S1x1024x4096 .f32) (main_arg2 : FVec F S8192x1024 .f32) (main_arg3 : FVec F S8192x1024 .f32) (main_arg4 : FVec F S1x1024 .f32) : IVec S8192x4096 1 × IVec S1x1024x4096 1 × IVec S8192x1024 1 × IVec S1x1024 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S1x1024x4096 .f32 := Host.absf main_arg1
  let main_cst_0 : FVec F S_ .f32 := constant S_ .f32 0x7F800000#32
  let main_v5 : FVec F S1x1024x4096 .f32 := broadcastInDim S1x1024x4096 ![] bcast_S_S1x1024x4096 main_cst_0
  let main_v6 : IVec S1x1024x4096 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1x1024 .f32 := Host.absf main_arg4
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  (main_v3, main_v6, main_v9, main_v12)
-- ==== Pre_finite_hn.lean ====
abbrev S8192x1024 : Shape := ⟨2, ![8192, 1024]⟩
abbrev S1x1024x1024 : Shape := ⟨3, ![1, 1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)

variable [Facts]

def fn {F : FTy → Type} [FloatOps F] (main_arg0 : FVec F S8192x1024 .bf16) (main_arg1 : FVec F S1x1024x1024 .f32) (main_arg2 : FVec F S8192x1024 .f32) (main_arg3 : FVec F S8192x1024 .f32) (main_arg4 : FVec F S1x1024 .f32) : IVec S8192x1024 1 × IVec S1x1024x1024 1 × IVec S8192x1024 1 × IVec S1x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1x1024 .f32 := Host.absf main_arg4
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  (main_v3, main_v6, main_v9, main_v12)
-- ==== Pre_finite_loss.lean ====
abbrev S8192x4096 : Shape := ⟨2, ![8192, 4096]⟩
abbrev S1x4096x1024 : Shape := ⟨3, ![1, 4096, 1024]⟩
abbrev S8192x1024 : Shape := ⟨2, ![8192, 1024]⟩
abbrev S1x1024 : Shape := ⟨2, ![1, 1024]⟩
abbrev S_ : Shape := ⟨0, ![]⟩

class Facts : Prop where
  bcast_S_S8192x4096 : S_.BroadcastsInDim S8192x4096 (![] : Fin 0 → Fin S8192x4096.rank)
  bcast_S_S1x4096x1024 : S_.BroadcastsInDim S1x4096x1024 (![] : Fin 0 → Fin S1x4096x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x4096 .f32) (main_arg1 : FVec F S1x4096x1024 .f32) (main_arg2 : FVec F S8192x1024 .f32) (main_arg3 : FVec F S8192x1024 .f32) (main_arg4 : FVec F S1x1024 .f32) : IVec S8192x4096 1 × IVec S1x4096x1024 1 × IVec S8192x1024 1 × IVec S8192x1024 1 × IVec S1x1024 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite_mem.lean ====
abbrev S256x1024 : Shape := ⟨2, ![256, 1024]⟩
abbrev S1x1024 : Shape := ⟨2, ![1, 1024]⟩
abbrev S_ : Shape := ⟨0, ![]⟩

class Facts : Prop where
  bitsLt_bf16_f32 : FTy.bits .bf16 < FTy.bits .f32
  bcast_S_S256x1024 : S_.BroadcastsInDim S256x1024 (![] : Fin 0 → Fin S256x1024.rank)
  bcast_S_S1x1024 : S_.BroadcastsInDim S1x1024 (![] : Fin 0 → Fin S1x1024.rank)

variable [Facts]

def fn {F : FTy → Type} [FloatOps F] (main_arg0 : FVec F S256x1024 .bf16) (main_arg1 : FVec F S256x1024 .f32) (main_arg2 : FVec F S1x1024 .f32) : IVec S256x1024 1 × IVec S256x1024 1 × IVec S1x1024 1 :=
  let main_v0 : FVec F S256x1024 .f32 := (extf .f32 · bitsLt_bf16_f32) main_arg0
  let main_v1 : FVec F S256x1024 .f32 := Host.absf main_v0
  let main_cst : FVec F S_ .f32 := constant S_ .f32 0x7F800000#32
  let main_v2 : FVec F S256x1024 .f32 := broadcastInDim S256x1024 ![] bcast_S_S256x1024 main_cst
  let main_v3 : IVec S256x1024 1 := cmpf .olt main_v1 main_v2
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  (main_v3, main_v6, main_v9)
-- ==== Pre_finite_xatt.lean ====
abbrev S8192x1024 : Shape := ⟨2, ![8192, 1024]⟩
abbrev S256x1024 : Shape := ⟨2, ![256, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x1024 .bf16) (main_arg1 : FVec F S256x1024 .bf16) (main_arg2 : FVec F S256x1024 .bf16) (main_arg3 : FVec F S8192x1024 .bf16) : IVec S8192x1024 1 × IVec S256x1024 1 × IVec S256x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_v8 : FVec F S256x1024 .f32 := (extf .f32 · bitsLt_bf16_f32) main_arg2
  let main_v9 : FVec F S256x1024 .f32 := Host.absf main_v8
  let main_cst_1 : FVec F S_ .f32 := constant S_ .f32 0x7F800000#32
  let main_v10 : FVec F S256x1024 .f32 := broadcastInDim S256x1024 ![] bcast_S_S256x1024 main_cst_1
  let main_v11 : IVec S256x1024 1 := cmpf .olt main_v9 main_v10
  let main_v12 : FVec F S8192x1024 .f32 := (extf .f32 · bitsLt_bf16_f32) main_arg3
  let main_v13 : FVec F S8192x1024 .f32 := Host.absf main_v12
  let main_cst_2 : FVec F S_ .f32 := constant S_ .f32 0x7F800000#32
  let main_v14 : FVec F S8192x1024 .f32 := broadcastInDim S8192x1024 ![] bcast_S_S8192x1024 main_cst_2
  let main_v15 : IVec S8192x1024 1 := cmpf .olt main_v13 main_v14
  (main_v3, main_v7, main_v11, main_v15)
-- ==== Pre_finite_xattf.lean ====
abbrev S8192x1024 : Shape := ⟨2, ![8192, 1024]⟩
abbrev S256x1024 : Shape := ⟨2, ![256, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x1024 .bf16) (main_arg1 : FVec F S256x1024 .bf16) (main_arg2 : FVec F S256x1024 .bf16) : IVec S8192x1024 1 × IVec S256x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  (main_v3, main_v7)
-- ==== Pre_finite_xn.lean ====
abbrev S8192x2560 : Shape := ⟨2, ![8192, 2560]⟩
abbrev S1x1024x2560 : Shape := ⟨3, ![1, 1024, 2560]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2560 : S_.BroadcastsInDim S8192x2560 (![] : Fin 0 → Fin S8192x2560.rank)
  bcast_S_S1x1024x2560 : S_.BroadcastsInDim S1x1024x2560 (![] : Fin 0 → Fin S1x1024x2560.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x2560 .bf16) (main_arg1 : FVec F S1x1024x2560 .f32) (main_arg2 : FVec F S8192x1024 .f32) (main_arg3 : FVec F S8192x1024 .f32) (main_arg4 : FVec F S1x1024 .f32) : IVec S8192x2560 1 × IVec S1x1024x2560 1 × IVec S8192x1024 1 × IVec S1x1024 1 :=
  let main_v0 : FVec F S8192x2560 .f32 := (extf .f32 · bitsLt_bf16_f32) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_v4 : FVec F S1x1024x2560 .f32 := Host.absf main_arg1
  let main_cst_0 : FVec F S_ .f32 := constant S_ .f32 0x7F800000#32
  let main_v5 : FVec F S1x1024x2560 .f32 := broadcastInDim S1x1024x2560 ![] bcast_S_S1x1024x2560 main_cst_0
  let main_v6 : IVec S1x1024x2560 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1x1024 .f32 := Host.absf main_arg4
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  (main_v3, main_v6, main_v9, main_v12)
-- ==== KernelMem.lean ====
abbrev S256x1024 : Shape := ⟨2, ![256, 1024]⟩
abbrev S1x1024 : Shape := ⟨2, ![1, 1024]⟩
abbrev S8x1024 : Shape := ⟨2, ![8, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S8x1024, .f32⟩
  | .local _ .vmem, ⟨0, _⟩ => ⟨S256x1024, .bf16⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S8x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceMemIdeal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩
abbrev S7x1024 : Shape := ⟨2, ![7, 1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1x1024, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S1024, .f32⟩
  | .hbm, ⟨33, _⟩ => ⟨S256x1024, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S256x1024, .f32⟩
  | .hbm, ⟨38, _⟩ => ⟨S256x1024, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S1x1024, .f32⟩
  | .hbm, ⟨51, _⟩ => ⟨S_, .f32⟩
  | .hbm, ⟨52, _⟩ => ⟨S7x1024, .f32⟩
  | .hbm, ⟨53, _⟩ => ⟨S8x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== KernelXatt.lean ====
abbrev S8192x1024 : Shape := ⟨2, ![8192, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .bf16⟩
  | .hbm, ⟨5, _⟩ => ⟨S256x1024, .f32⟩
  | .hbm, ⟨6, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceXattIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .f32⟩
  | .hbm, ⟨5, _⟩ => ⟨S256x1024, .f32⟩
  | .hbm, ⟨6, _⟩ => ⟨S256x1024, .f32⟩
  | .hbm, ⟨7, _⟩ => ⟨S8192x1024, .f32⟩
  | .hbm, ⟨8, _⟩ => ⟨S8192x4x256, .f32⟩
  | .hbm, ⟨9, _⟩ => ⟨S256x4x256, .f32⟩
  | .hbm, ⟨10, _⟩ => ⟨S256x4x256, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S4x8192, .i1⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x256x8192, .f32⟩
  | .hbm, ⟨54, _⟩ => ⟨S8192x4x256, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S256x1024, .f32⟩
  | .hbm, ⟨83, _⟩ => ⟨S256x1024, .f32⟩
  | .hbm, ⟨84, _⟩ => ⟨S8192x1024, .f32⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== KernelHn.lean ====
abbrev S8192x1024 : Shape := ⟨2, ![8192, 1024]⟩
abbrev S1x1024x1024 : Shape := ⟨3, ![1, 1024, 1024]⟩
abbrev S1x1024 : Shape := ⟨2, ![1, 1024]⟩
abbrev S8x1024 : Shape := ⟨2, ![8, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024x1024, .bf16⟩
  | .hbm, ⟨6, _⟩ => ⟨S8192x1024, .f32⟩
  | .hbm, ⟨7, _⟩ => ⟨S8192x1024, .bf16⟩
  | .hbm, ⟨8, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceHnIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S7x1024 : Shape := ⟨2, ![7, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .bf16⟩
  | .hbm, ⟨58, _⟩ => ⟨S_, .f32⟩
  | .hbm, ⟨59, _⟩ => ⟨S7x1024, .f32⟩
  | .hbm, ⟨60, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== KernelXn.lean ====
abbrev S8192x2560 : Shape := ⟨2, ![8192, 2560]⟩
abbrev S1x1024x2560 : Shape := ⟨3, ![1, 1024, 2560]⟩
abbrev S8192x1024 : Shape := ⟨2, ![8192, 1024]⟩
abbrev S1x1024 : Shape := ⟨2, ![1, 1024]⟩
abbrev S1024x2560 : Shape := ⟨2, ![1024, 2560]⟩
abbrev S1024x4x640 : Shape := ⟨3, ![1024, 4, 640]⟩
abbrev S4x1024x640 : Shape := ⟨3, ![4, 1024, 640]⟩
abbrev S8x1024 : Shape := ⟨2, ![8, 1024]⟩
abbrev S512x2560 : Shape := ⟨2, ![512, 2560]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S1x1024x2560, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x2560, .f32⟩
  | .hbm, ⟨6, _⟩ => ⟨S1024x2560, .bf16⟩
  | .hbm, ⟨7, _⟩ => ⟨S1024x4x640, .bf16⟩
  | .hbm, ⟨8, _⟩ => ⟨S4x1024x640, .bf16⟩
  | .hbm, ⟨9, _⟩ => ⟨S8192x1024, .f32⟩
  | .hbm, ⟨10, _⟩ => ⟨S8x1024, .f32⟩
  | .local _ .vmem, ⟨0, _⟩ => ⟨S512x2560, .bf16⟩
  | .local _ .vmem, ⟨1, _⟩ => ⟨S512x2560, .bf16⟩
  | .local _ .vmem, ⟨2, _⟩ => ⟨S4x1024x640, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceXnIdeal.lean ====
abbrev S8192x2560 : Shape := ⟨2, ![8192, 2560]⟩
abbrev S1x1024x2560 : Shape := ⟨3, ![1, 1024, 2560]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S7x1024 : Shape := ⟨2, ![7, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1x1024x2560, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x2560, .f32⟩
  | .hbm, ⟨27, _⟩ => ⟨S8192x2560, .f32⟩
  | .hbm, ⟨28, _⟩ => ⟨S8192x2560, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S_, .f32⟩
  | .hbm, ⟨58, _⟩ => ⟨S7x1024, .f32⟩
  | .hbm, ⟨59, _⟩ => ⟨S8x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== KernelHm.lean ====
abbrev S8192x4096 : Shape := ⟨2, ![8192, 4096]⟩
abbrev S1x1024x4096 : Shape := ⟨3, ![1, 1024, 4096]⟩
abbrev S8192x1024 : Shape := ⟨2, ![8192, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8x1024 : Shape := ⟨2, ![8, 1024]⟩
abbrev S256x4096 : Shape := ⟨2, ![256, 4096]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x4096, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S8192x1024, .f32⟩
  | .hbm, ⟨10, _⟩ => ⟨S8192x1024, .bf16⟩
  | .hbm, ⟨11, _⟩ => ⟨S8x1024, .f32⟩
  | .local _ .vmem, ⟨0, _⟩ => ⟨S256x4096, .bf16⟩
  | .local _ .vmem, ⟨1, _⟩ => ⟨S256x4096, .bf16⟩
  | .local _ .vmem, ⟨2, _⟩ => ⟨S4x1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceHmIdeal.lean ====
abbrev S8192x4096 : Shape := ⟨2, ![8192, 4096]⟩
abbrev S1x1024x4096 : Shape := ⟨3, ![1, 1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S7x1024 : Shape := ⟨2, ![7, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x4096, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .bf16⟩
  | .hbm, ⟨58, _⟩ => ⟨S_, .f32⟩
  | .hbm, ⟨59, _⟩ => ⟨S7x1024, .f32⟩
  | .hbm, ⟨60, _⟩ => ⟨S8x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== KernelDact.lean ====
abbrev S8192x4096 : Shape := ⟨2, ![8192, 4096]⟩
abbrev S1x4096x1024 : Shape := ⟨3, ![1, 4096, 1024]⟩
abbrev S8192x1024 : Shape := ⟨2, ![8192, 1024]⟩
abbrev S_ : Shape := ⟨0, ![]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S1x4096x1024, .bf16⟩
  | .hbm, ⟨8, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDactIdeal.lean ====
abbrev S8192x4096 : Shape := ⟨2, ![8192, 4096]⟩
abbrev S1x4096x1024 : Shape := ⟨3, ![1, 4096, 1024]⟩
abbrev S8192x1024 : Shape := ⟨2, ![8192, 1024]⟩
abbrev S_ : Shape := ⟨0, ![]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelDwdown.lean ====
abbrev S8192x4096 : Shape := ⟨2, ![8192, 4096]⟩
abbrev S1x4096x1024 : Shape := ⟨3, ![1, 4096, 1024]⟩
abbrev S8192x1024 : Shape := ⟨2, ![8192, 1024]⟩
abbrev S_ : Shape := ⟨0, ![]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S1x4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwdownIdeal.lean ====
abbrev S8192x4096 : Shape := ⟨2, ![8192, 4096]⟩
abbrev S1x4096x1024 : Shape := ⟨3, ![1, 4096, 1024]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S8192x1024, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S1x4096x1024, .f32⟩
  | .hbm, ⟨13, _⟩ => ⟨S1x4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelLoss.lean ====
abbrev S8192x4096 : Shape := ⟨2, ![8192, 4096]⟩
abbrev S1x4096x1024 : Shape := ⟨3, ![1, 4096, 1024]⟩
abbrev S8192x1024 : Shape := ⟨2, ![8192, 1024]⟩
abbrev S1x1024 : Shape := ⟨2, ![1, 1024]⟩
abbrev S_ : Shape := ⟨0, ![]⟩
abbrev S8x1024 : Shape := ⟨2, ![8, 1024]⟩
abbrev S8x128 : Shape := ⟨2, ![8, 128]⟩
abbrev S256x4096 : Shape := ⟨2, ![256, 4096]⟩
abbrev S256x1024 : Shape := ⟨2, ![256, 1024]⟩
abbrev S4096x1024 : Shape := ⟨2, ![4096, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S1x4096x1024, .bf16⟩
  | .hbm, ⟨10, _⟩ => ⟨S8192x1024, .f32⟩
  | .hbm, ⟨11, _⟩ => ⟨S8192x1024, .bf16⟩
  | .hbm, ⟨12, _⟩ => ⟨S8x1024, .f32⟩
  | .hbm, ⟨13, _⟩ => ⟨S8x128, .f32⟩
  | .local _ .vmem, ⟨0, _⟩ => ⟨S256x4096, .bf16⟩
  | .local _ .vmem, ⟨1, _⟩ => ⟨S256x4096, .bf16⟩
  | .local _ .vmem, ⟨2, _⟩ => ⟨S1x4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | .local _ .vmem, ⟨13, _⟩ => ⟨S8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceLossIdeal.lean ====
abbrev S8192x4096 : Shape := ⟨2, ![8192, 4096]⟩
abbrev S1x4096x1024 : Shape := ⟨3, ![1, 4096, 1024]⟩
abbrev S8192x1024 : Shape := ⟨2, ![8192, 1024]⟩
abbrev S1x1024 : Shape := ⟨2, ![1, 1024]⟩
abbrev S_ : Shape := ⟨0, ![]⟩
abbrev S4096x1024 : Shape := ⟨2, ![4096, 1024]⟩
abbrev S8192 : Shape := ⟨1, ![8192]⟩
abbrev S8192x1 : Shape := ⟨2, ![8192, 1]⟩
abbrev S1024 : Shape := ⟨1, ![1024]⟩
abbrev S7x1024 : Shape := ⟨2, ![7, 1024]⟩
abbrev S8x1024 : Shape := ⟨2, ![8, 1024]⟩
abbrev S1x1 : Shape := ⟨2, ![1, 1]⟩
abbrev S8x128 : Shape := ⟨2, ![8, 128]⟩

abbrev nBuf : Space → Nat
  | .hbm => 85
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S4096x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S_, .f32⟩
  | .hbm, ⟨79, _⟩ => ⟨S7x1024, .f32⟩
  | .hbm, ⟨80, _⟩ => ⟨S8x1024, .f32⟩
  | .hbm, ⟨81, _⟩ => ⟨S1x1, .f32⟩
  | .hbm, ⟨82, _⟩ => ⟨S_, .i32⟩
  | .hbm, ⟨83, _⟩ => ⟨S_, .f32⟩
  | .hbm, ⟨84, _⟩ => ⟨S8x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c : Ref sig .tc := ⟨.hbm, 82, rfl⟩
abbrev main_call1_v0 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== KernelDy.lean ====
abbrev S8192x512 : Shape := ⟨2, ![8192, 512]⟩
abbrev S8192x1024 : Shape := ⟨2, ![8192, 1024]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S4x2048x512 : Shape := ⟨3, ![4, 2048, 512]⟩
abbrev S16x512x512 : Shape := ⟨3, ![16, 512, 512]⟩
abbrev S8192x2560 : Shape := ⟨2, ![8192, 2560]⟩
abbrev S512x512 : Shape := ⟨2, ![512, 512]⟩
abbrev S4x128x512 : Shape := ⟨3, ![4, 128, 512]⟩
abbrev S16x32x512 : Shape := ⟨3, ![16, 32, 512]⟩
abbrev S512x1024 : Shape := ⟨2, ![512, 1024]⟩
abbrev S512x128 : Shape := ⟨2, ![512, 128]⟩
abbrev S512x2560 : Shape := ⟨2, ![512, 2560]⟩
abbrev S4x512x128 : Shape := ⟨3, ![4, 512, 128]⟩
abbrev S1x128x512 : Shape := ⟨3, ![1, 128, 512]⟩
abbrev S128x512 : Shape := ⟨2, ![128, 512]⟩
abbrev S128x128 : Shape := ⟨2, ![128, 128]⟩
abbrev S1x128x128 : Shape := ⟨3, ![1, 128, 128]⟩
abbrev S1x512x128 : Shape := ⟨3, ![1, 512, 128]⟩
abbrev S1x32x512 : Shape := ⟨3, ![1, 32, 512]⟩
abbrev S32x512 : Shape := ⟨2, ![32, 512]⟩
abbrev S32x128 : Shape := ⟨2, ![32, 128]⟩
abbrev S1x32x128 : Shape := ⟨3, ![1, 32, 128]⟩

abbrev nBuf : Space → Nat
  | .hbm => 58
  | .vmem => 29
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x1024, .bf16⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8192, .f32⟩
  | .hbm, ⟨25, _⟩ => ⟨S8192x1, .f32⟩
  | .hbm, ⟨26, _⟩ => ⟨S1x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S_, .f32⟩
  | .hbm, ⟨33, _⟩ => ⟨S8192x48, .f32⟩
  | .hbm, ⟨34, _⟩ => ⟨S_, .f32⟩
  | .hbm, ⟨35, _⟩ => ⟨S8192x48, .f32⟩
  | .hbm, ⟨36, _⟩ => ⟨S_, .f32⟩
  | .hbm, ⟨37, _⟩ => ⟨S8192x8, .f32⟩
  | .hbm, ⟨38, _⟩ => ⟨S8192x64, .f32⟩
  | .hbm, ⟨39, _⟩ => ⟨S8192x8, .f32⟩
  | .hbm, ⟨40, _⟩ => ⟨S8192x64, .f32⟩
  | .hbm, ⟨41, _⟩ => ⟨S8192x64, .f32⟩
  | .hbm, ⟨42, _⟩ => ⟨S1x8192x1x64, .f32⟩
  | .hbm, ⟨43, _⟩ => ⟨S1x8192x2x64, .f32⟩
  | .hbm, ⟨44, _⟩ => ⟨S8192x128, .f32⟩
  | .hbm, ⟨45, _⟩ => ⟨S1x8192x1x64, .f32⟩
  | .hbm, ⟨46, _⟩ => ⟨S1x8192x2x64, .f32⟩
  | .hbm, ⟨47, _⟩ => ⟨S8192x128, .f32⟩
  | .hbm, ⟨48, _⟩ => ⟨S1x8192x1x64, .f32⟩
  | .hbm, ⟨49, _⟩ => ⟨S1x8192x2x64, .f32⟩
  | .hbm, ⟨50, _⟩ => ⟨S8192x128, .f32⟩
  | .hbm, ⟨51, _⟩ => ⟨S4x2048x512, .bf16⟩
  | .hbm, ⟨52, _⟩ => ⟨S16x512x512, .bf16⟩
  | .hbm, ⟨53, _⟩ => ⟨S4x2048x512, .bf16⟩
  | .hbm, ⟨54, _⟩ => ⟨S16x512x512, .bf16⟩
  | .hbm, ⟨55, _⟩ => ⟨S4x2048x512, .bf16⟩
  | .hbm, ⟨56, _⟩ => ⟨S16x512x512, .bf16⟩
  | .hbm, ⟨57, _⟩ => ⟨S8192x2560, .bf16⟩
  | .local _ .vmem, ⟨0, _⟩ => ⟨S512x512, .bf16⟩
  | .local _ .vmem, ⟨1, _⟩ => ⟨S512x512, .bf16⟩
  | .local _ .vmem, ⟨2, _⟩ => ⟨S4x128x512, .bf16⟩
  | .local _ .vmem, ⟨3, _⟩ => ⟨S4x128x512, .bf16⟩
  | .local _ .vmem, ⟨4, _⟩ => ⟨S16x32x512, .bf16⟩
  | .local _ .vmem, ⟨5, _⟩ => ⟨S16x32x512, .bf16⟩
  | .local _ .vmem, ⟨6, _⟩ => ⟨S512x512, .bf16⟩
  | .local _ .vmem, ⟨7, _⟩ => ⟨S512x512, .bf16⟩
  | .local _ .vmem, ⟨8, _⟩ => ⟨S4x128x512, .bf16⟩
  | .local _ .vmem, ⟨9, _⟩ => ⟨S4x128x512, .bf16⟩
  | .local _ .vmem, ⟨10, _⟩ => ⟨S16x32x512, .bf16⟩
  | .local _ .vmem, ⟨11, _⟩ => ⟨S16x32x512, .bf16⟩
  | .local _ .vmem, ⟨12, _⟩ => ⟨S512x512, .bf16⟩
  | .local _ .vmem, ⟨13, _⟩ => ⟨S512x512, .bf16⟩
  | .local _ .vmem, ⟨14, _⟩ => ⟨S4x128x512, .bf16⟩
  | .local _ .vmem, ⟨15, _⟩ => ⟨S4x128x512, .bf16⟩
  | .local _ .vmem, ⟨16, _⟩ => ⟨S16x32x512, .bf16⟩
  | .local _ .vmem, ⟨17, _⟩ => ⟨S16x32x512, .bf16⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x2560, .bf16⟩
  | .local _ .vmem, ⟨27, _⟩ => ⟨S512x2560, .bf16⟩
  | .local _ .vmem, ⟨28, _⟩ => ⟨S4x512x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceDyIdeal.lean ====
abbrev S8192x512 : Shape := ⟨2, ![8192, 512]⟩
abbrev S8192x1024 : Shape := ⟨2, ![8192, 1024]⟩
abbrev S1x8192x8x64 : Shape := ⟨4, ![1, 8192, 8, 64]⟩
abbrev S4x2048x8x64 : Shape := ⟨4, ![4, 2048, 8, 64]⟩
abbrev S16x512x8x64 : Shape := ⟨4, ![16, 512, 8, 64]⟩
abbrev S_ : Shape := ⟨0, ![]⟩
abbrev S1x8192x2560 : Shape := ⟨3, ![1, 8192, 2560]⟩
abbrev S1x8192x512 : Shape := ⟨3, ![1, 8192, 512]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S1x8192x8x8 : Shape := ⟨4, ![1, 8192, 8, 8]⟩
abbrev S1x8192x8x48 : Shape := ⟨4, ![1, 8192, 8, 48]⟩
abbrev S1x8192x1x8x64 : Shape := ⟨5, ![1, 8192, 1, 8, 64]⟩
abbrev S1x1x8192x8x64 : Shape := ⟨5, ![1, 1, 8192, 8, 64]⟩
abbrev S1x2048x4x8x64 : Shape := ⟨5, ![1, 2048, 4, 8, 64]⟩
abbrev S1x4x2048x8x64 : Shape := ⟨5, ![1, 4, 2048, 8, 64]⟩
abbrev S1x512x16x8x64 : Shape := ⟨5, ![1, 512, 16, 8, 64]⟩
abbrev S1x16x512x8x64 : Shape := ⟨5, ![1, 16, 512, 8, 64]⟩
abbrev S1x8192x1024 : Shape := ⟨3, ![1, 8192, 1024]⟩
abbrev S8192x2560 : Shape := ⟨2, ![8192, 2560]⟩

abbrev nBuf : Space → Nat
  | .hbm => 235
  | .vmem => 0
  | .smem => 0
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8192x512, .bf16⟩
  | 4 => ⟨S8192x512, .bf16⟩
  | 5 => ⟨S8192x512, .bf16⟩
  | 6 => ⟨S8192x512, .bf16⟩
  | 7 => ⟨S8192x512, .bf16⟩
  | 8 => ⟨S8192x512, .bf16⟩
  | 9 => ⟨S8192x1024, .bf16⟩
  | 10 => ⟨S8192x512, .f32⟩
  | 11 => ⟨S1x8192x8x64, .f32⟩
  | 12 => ⟨S8192x512, .f32⟩
  | 13 => ⟨S4x2048x8x64, .f32⟩
  | 14 => ⟨S8192x512, .f32⟩
  | 15 => ⟨S16x512x8x64, .f32⟩
  | 16 => ⟨S8192x512, .f32⟩
  | 17 => ⟨S1x8192x8x64, .f32⟩
  | 18 => ⟨S8192x512, .f32⟩
  | 19 => ⟨S4x2048x8x64, .f32⟩
  | 20 => ⟨S8192x512, .f32⟩
  | 21 => ⟨S16x512x8x64, .f32⟩
  | 22 => ⟨S8192x512, .f32⟩
  | 23 => ⟨S1x8192x8x64, .f32⟩
  | 24 => ⟨S8192x512, .f32⟩
  | 25 => ⟨S4x2048x8x64, .f32⟩
  | 26 => ⟨S8192x512, .f32⟩
  | 27 => ⟨S16x512x8x64, .f32⟩
  | 28 => ⟨S_, .f32⟩
  | 29 => ⟨S1x8192x2560, .f32⟩
  | 30 => ⟨S1x8192x512, .f32⟩
  | 31 => ⟨S1x8192x8x64, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S8192, .f32⟩
  | 47 => ⟨S8192x1, .f32⟩
  | 48 => ⟨S1x8, .f32⟩
  | 49 => ⟨S8192x8, .f32⟩
  | 50 => ⟨S8192x8, .f32⟩
  | 51 => ⟨S8192x8, .f32⟩
  | 52 => ⟨S8192x8, .f32⟩
  | 53 => ⟨S1x8192x1x8, .f32⟩
  | 54 => ⟨S8192x8, .f32⟩
  | 55 => ⟨S1x8192x1x8, .f32⟩
  | 56 => ⟨S1x8192x8x8, .f32⟩
  | 57 => ⟨S1x8192x8x8, .f32⟩
  | 58 => ⟨S1x8192x8x48, .f32⟩
  | 59 => ⟨S1x8192x8x8, .f32⟩
  | 60 => ⟨S1x8192x8x8, .f32⟩
  | 61 => ⟨S1x8192x8x8, .f32⟩
  | 62 => ⟨S1x8192x8x8, .f32⟩
  | 63 => ⟨S1x8192x8x8, .f32⟩
  | 64 => ⟨S1x8192x8x8, .f32⟩
  | 65 => ⟨S1x8192x8x8, .f32⟩
  | 66 => ⟨S1x8192x8x8, .f32⟩
  | 67 => ⟨S1x8192x8x8, .f32⟩
  | 68 => ⟨S1x8192x8x8, .f32⟩
  | 69 => ⟨S1x8192x8x64, .f32⟩
  | 70 => ⟨S1x8192x512, .f32⟩
  | 71 => ⟨S1x8192x8x64, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8192, .f32⟩
  | 87 => ⟨S8192x1, .f32⟩
  | 88 => ⟨S1x8, .f32⟩
  | 89 => ⟨S8192x8, .f32⟩
  | 90 => ⟨S8192x8, .f32⟩
  | 91 => ⟨S8192x8, .f32⟩
  | 92 => ⟨S8192x8, .f32⟩
  | 93 => ⟨S1x8192x1x8, .f32⟩
  | 94 => ⟨S8192x8, .f32⟩
  | 95 => ⟨S1x8192x1x8, .f32⟩
  | 96 => ⟨S1x8192x8x8, .f32⟩
  | 97 => ⟨S1x8192x8x8, .f32⟩
  | 98 => ⟨S1x8192x8x48, .f32⟩
  | 99 => ⟨S1x8192x8x8, .f32⟩
  | 100 => ⟨S1x8192x8x8, .f32⟩
  | 101 => ⟨S1x8192x8x8, .f32⟩
  | 102 => ⟨S1x8192x8x8, .f32⟩
  | 103 => ⟨S1x8192x8x8, .f32⟩
  | 104 => ⟨S1x8192x8x8, .f32⟩
  | 105 => ⟨S1x8192x8x8, .f32⟩
  | 106 => ⟨S1x8192x8x8, .f32⟩
  | 107 => ⟨S1x8192x8x8, .f32⟩
  | 108 => ⟨S1x8192x8x8, .f32⟩
  | 109 => ⟨S1x8192x8x64, .f32⟩
  | 110 => ⟨S1x8192x512, .f32⟩
  | 111 => ⟨S1x8192x8x64, .f32⟩
  | 112 => ⟨S1x8192x1x8x64, .f32⟩
  | 113 => ⟨S1x1x8192x8x64, .f32⟩
  | 114 => ⟨S1x8192x8x64, .f32⟩
  | 115 => ⟨S1x2048x4x8x64, .f32⟩
  | 116 => ⟨S1x4x2048x8x64, .f32⟩
  | 117 => ⟨S4x2048x8x64, .f32⟩
  | 118 => ⟨S1x512x16x8x64, .f32⟩
  | 119 => ⟨S1x16x512x8x64, .f32⟩
  | 120 => ⟨S16x512x8x64, .f32⟩
  | 121 => ⟨S1x8192x1x8x64, .f32⟩
  | 122 => ⟨S1x1x8192x8x64, .f32⟩
  | 123 => ⟨S1x8192x8x64, .f32⟩
  | 124 => ⟨S1x2048x4x8x64, .f32⟩
  | 125 => ⟨S1x4x2048x8x64, .f32⟩
  | 126 => ⟨S4x2048x8x64, .f32⟩
  | 127 => ⟨S1x512x16x8x64, .f32⟩
  | _ => ⟨S8192x512, .bf16⟩

abbrev hbmTy0_1 (i : Nat) : BufTy := match i % 128 with
  | 0 => ⟨S1x16x512x8x64, .f32⟩
  | 1 => ⟨S16x512x8x64, .f32⟩
  | 2 => ⟨S1x8192x1x8x64, .f32⟩
  | 3 => ⟨S1x1x8192x8x64, .f32⟩
  | 4 => ⟨S1x8192x8x64, .f32⟩
  | 5 => ⟨S1x2048x4x8x64, .f32⟩
  | 6 => ⟨S1x4x2048x8x64, .f32⟩
  | 7 => ⟨S4x2048x8x64, .f32⟩
  | 8 => ⟨S1x512x16x8x64, .f32⟩
  | 9 => ⟨S1x16x512x8x64, .f32⟩
  | 10 => ⟨S16x512x8x64, .f32⟩
  | 11 => ⟨S1x8192x1024, .f32⟩
  | 12 => ⟨S8192x1024, .f32⟩
  | 13 => ⟨S1x8192x1024, .f32⟩
  | 14 => ⟨S_, .f32⟩
  | 15 => ⟨S1x8192x2560, .f32⟩
  | 16 => ⟨S1x16x512x8x64, .f32⟩
  | 17 => ⟨S1x512x16x8x64, .f32⟩
  | 18 => ⟨S1x8192x8x64, .f32⟩
  | 19 => ⟨S1x4x2048x8x64, .f32⟩
  | 20 => ⟨S1x2048x4x8x64, .f32⟩
  | 21 => ⟨S1x8192x8x64, .f32⟩
  | 22 => ⟨S1x8192x8x64, .f32⟩
  | 23 => ⟨S1x1x8192x8x64, .f32⟩
  | 24 => ⟨S1x8192x1x8x64, .f32⟩
  | 25 => ⟨S1x8192x8x64, .f32⟩
  | 26 => ⟨S1x8192x8x64, .f32⟩
  | 27 => ⟨S1x16x512x8x64, .f32⟩
  | 28 => ⟨S1x512x16x8x64, .f32⟩
  | 29 => ⟨S1x8192x8x64, .f32⟩
  | 30 => ⟨S1x4x2048x8x64, .f32⟩
  | 31 => ⟨S1x2048x4x8x64, .f32⟩
  | 32 => ⟨S1x8192x8x64, .f32⟩
  | 33 => ⟨S1x8192x8x64, .f32⟩
  | 34 => ⟨S1x1x8192x8x64, .f32⟩
  | 35 => ⟨S1x8192x1x8x64, .f32⟩
  | 36 => ⟨S1x8192x8x64, .f32⟩
  | 37 => ⟨S1x8192x8x64, .f32⟩
  | 38 => ⟨S1x16x512x8x64, .f32⟩
  | 39 => ⟨S1x512x16x8x64, .f32⟩
  | 40 => ⟨S1x8192x8x64, .f32⟩
  | 41 => ⟨S1x4x2048x8x64, .f32⟩
  | 42 => ⟨S1x2048x4x8x64, .f32⟩
  | 43 => ⟨S1x8192x8x64, .f32⟩
  | 44 => ⟨S1x8192x8x64, .f32⟩
  | 45 => ⟨S1x1x8192x8x64, .f32⟩
  | 46 => ⟨S1x8192x1x8x64, .f32⟩
  | 47 => ⟨S1x8192x8x64, .f32⟩
  | 48 => ⟨S1x8192x8x64, .f32⟩
  | 49 => ⟨S1x8192x512, .f32⟩
  | 50 => ⟨S_, .f32⟩
  | 51 => ⟨S1x8192x2560, .f32⟩
  | 52 => ⟨S1x8192x2560, .f32⟩
  | 53 => ⟨S1x8192x8x8, .f32⟩
  | 54 => ⟨S1x8192x8x8, .f32⟩
  | 55 => ⟨S1x8192x8x48, .f32⟩
  | 56 => ⟨S1x8192x8x8, .f32⟩
  | 57 => ⟨S1x8192x8x8, .f32⟩
  | 58 => ⟨S1x8192x8x8, .f32⟩
  | 59 => ⟨S1x8192x8x8, .f32⟩
  | 60 => ⟨S1x8192x8x8, .f32⟩
  | 61 => ⟨S1x8192x8x8, .f32⟩
  | 62 => ⟨S1x8192x8x8, .f32⟩
  | 63 => ⟨S1x8192x8x8, .f32⟩
  | 64 => ⟨S1x8192x8x8, .f32⟩
  | 65 => ⟨S1x8192x8x8, .f32⟩
  | 66 => ⟨S1x8192x8x8, .f32⟩
  | 67 => ⟨S_, .f32⟩
  | 68 => ⟨S1x8192x8x64, .f32⟩
  | 69 => ⟨S_, .f32⟩
  | 70 => ⟨S1x8192x8x64, .f32⟩
  | 71 => ⟨S1x8192x8x64, .f32⟩
  | 72 => ⟨S_, .f32⟩
  | 73 => ⟨S1x8192x8x64, .f32⟩
  | 74 => ⟨S1x8192x8x64, .f32⟩
  | 75 => ⟨S1x8192x512, .f32⟩
  | 76 => ⟨S_, .f32⟩
  | 77 => ⟨S1x8192x2560, .f32⟩
  | 78 => ⟨S1x8192x2560, .f32⟩
  | 79 => ⟨S1x8192x8x8, .f32⟩
  | 80 => ⟨S1x8192x8x8, .f32⟩
  | 81 => ⟨S1x8192x8x48, .f32⟩
  | 82 => ⟨S1x8192x8x8, .f32⟩
  | 83 => ⟨S1x8192x8x8, .f32⟩
  | 84 => ⟨S1x8192x8x8, .f32⟩
  | 85 => ⟨S1x8192x8x8, .f32⟩
  | 86 => ⟨S1x8192x8x8, .f32⟩
  | 87 => ⟨S1x8192x8x8, .f32⟩
  | 88 => ⟨S1x8192x8x8, .f32⟩
  | 89 => ⟨S1x8192x8x8, .f32⟩
  | 90 => ⟨S1x8192x8x8, .f32⟩
  | 91 => ⟨S1x8192x8x8, .f32⟩
  | 92 => ⟨S1x8192x8x8, .f32⟩
  | 93 => ⟨S_, .f32⟩
  | 94 => ⟨S1x8192x8x64, .f32⟩
  | 95 => ⟨S_, .f32⟩
  | 96 => ⟨S1x8192x8x64, .f32⟩
  | 97 => ⟨S1x8192x8x64, .f32⟩
  | 98 => ⟨S_, .f32⟩
  | 99 => ⟨S1x8192x8x64, .f32⟩
  | 100 => ⟨S1x8192x8x64, .f32⟩
  | 101 => ⟨S1x8192x512, .f32⟩
  | 102 => ⟨S_, .f32⟩
  | 103 => ⟨S1x8192x2560, .f32⟩
  | 104 => ⟨S1x8192x2560, .f32⟩
  | 105 => ⟨S8192x2560, .f32⟩
  | 106 => ⟨S8192x2560, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_8 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_cst_9 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_cst_10 : Ref sig .tc := ⟨.hbm, 195, rfl⟩
abbrev main_v174 : Ref sig .tc := ⟨.hbm, 196, rfl⟩
abbrev main_cst_11 : Ref sig .tc := ⟨.hbm, 197, rfl⟩
abbrev main_v175 : Ref sig .tc := ⟨.hbm, 198, rfl⟩
abbrev main_v176 : Ref sig .tc := ⟨.hbm, 199, rfl⟩
abbrev main_cst_12 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_cst_13 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_cst_14 : Ref sig .tc := ⟨.hbm, 221, rfl⟩
abbrev main_v196 : Ref sig .tc := ⟨.hbm, 222, rfl⟩
abbrev main_cst_15 : Ref sig .tc := ⟨.hbm, 223, rfl⟩
abbrev main_v197 : Ref sig .tc := ⟨.hbm, 224, rfl⟩
abbrev main_v198 : Ref sig .tc := ⟨.hbm, 225, rfl⟩
abbrev main_cst_16 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_cst_17 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩

abbrev nD : Nat := 1
abbrev τ : Topo := Topo.v7x

variable {F : FTy → Type} [FloatOps F]
-- ==== KernelXattf.lean ====
abbrev S8192x1024 : Shape := ⟨2, ![8192, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceXattfIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x256x8192, .f32⟩
  | .hbm, ⟨28, _⟩ => ⟨S8192x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== KernelAttf1.lean ====
abbrev S8192x1024 : Shape := ⟨2, ![8192, 1024]⟩
abbrev S8192x2560 : Shape := ⟨2, ![8192, 2560]⟩
abbrev S8192x512 : Shape := ⟨2, ![8192, 512]⟩
abbrev S256x512 : Shape := ⟨2, ![256, 512]⟩
abbrev S64x512 : Shape := ⟨2, ![64, 512]⟩
abbrev S384x512 : Shape := ⟨2, ![384, 512]⟩
abbrev S128x128 : Shape := ⟨2, ![128, 128]⟩
abbrev S128x256 : Shape := ⟨2, ![128, 256]⟩
abbrev S128x512 : Shape := ⟨2, ![128, 512]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x512, .bf16⟩
  | .hbm, ⟨3, _⟩ => ⟨S8192x512, .f32⟩
  | .local _ .vmem, ⟨0, _⟩ => ⟨S256x512, .bf16⟩
  | .local _ .vmem, ⟨1, _⟩ => ⟨S256x512, .bf16⟩
  | .local _ .vmem, ⟨2, _⟩ => ⟨S64x512, .bf16⟩
  | .local _ .vmem, ⟨3, _⟩ => ⟨S64x512, .bf16⟩
  | .local _ .vmem, ⟨4, _⟩ => ⟨S256x512, .bf16⟩
  | .local _ .vmem, ⟨5, _⟩ => ⟨S256x512, .bf16⟩
  | .local _ .vmem, ⟨6, _⟩ => ⟨S64x512, .bf16⟩
  | .local _ .vmem, ⟨7, _⟩ => ⟨S64x512, .bf16⟩
  | .local _ .vmem, ⟨8, _⟩ => ⟨S64x512, .bf16⟩
  | .local _ .vmem, ⟨9, _⟩ => ⟨S64x512, .bf16⟩
  | .local _ .vmem, ⟨10, _⟩ => ⟨S256x512, .bf16⟩
  | .local _ .vmem, ⟨11, _⟩ => ⟨S256x512, .bf16⟩
  | .local _ .vmem, ⟨12, _⟩ => ⟨S64x512, .bf16⟩
  | .local _ .vmem, ⟨13, _⟩ => ⟨S64x512, .bf16⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.addi arg1 c1_i32
  let c4_i32 : BitVec 32 := 4#32
  let v2 : BitVec 32 := Scalar.muli v1 c4_i32
  let c127_i32 : BitVec 32 := 127#32
  let v3 : BitVec 32 := Scalar.minsi v2 c127_i32
  let v4 : BitVec 32 := Scalar.addi v0 v3
  let c1_i32_0 : BitVec 32 := 1#32
  let c0_i32 : BitVec 32 := 0#32
  ![v4.toNat, c1_i32_0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c2_i32 : BitVec 32 := 2#32
  let c0_i32_0 : BitVec 32 := 0#32
  ![v4.toNat, c2_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.addi arg1 c1_i32
  let c4_i32 : BitVec 32 := 4#32
  let v2 : BitVec 32 := Scalar.muli v1 c4_i32
  let c127_i32 : BitVec 32 := 127#32
  let v3 : BitVec 32 := Scalar.minsi v2 c127_i32
  let v4 : BitVec 32 := Scalar.addi v0 v3
  let c2_i32 : BitVec 32 := 2#32
  let c0_i32 : BitVec 32 := 0#32
  ![v4.toNat, c2_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAttf1Ideal.lean ====
variable {F : FTy → Type} [FloatOps F] [Named F]
def κ : String → Option EReal := fun
  | "mask" => some ⊥
  | _ => none
-- ==== ReferenceAttf1Ideal.lean ====
abbrev S8192x1024 : Shape := ⟨2, ![8192, 1024]⟩
abbrev S8192x2560 : Shape := ⟨2, ![8192, 2560]⟩
abbrev S8192x512 : Shape := ⟨2, ![8192, 512]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192x8192 : Shape := ⟨2, ![8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S1x8192x8x1 : Shape := ⟨4, ![1, 8192, 8, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .f32⟩
  | .hbm, ⟨6, _⟩ => ⟨S1x8192x8x64, .f32⟩
  | .hbm, ⟨7, _⟩ => ⟨S8192x512, .f32⟩
  | .hbm, ⟨8, _⟩ => ⟨S1x8192x8x64, .f32⟩
  | .hbm, ⟨9, _⟩ => ⟨S8192x512, .f32⟩
  | .hbm, ⟨10, _⟩ => ⟨S1x8192x8x64, .f32⟩
  | .hbm, ⟨11, _⟩ => ⟨S1x8x8192x8192, .f32⟩
  | .hbm, ⟨12, _⟩ => ⟨S_, .f32⟩
  | .hbm, ⟨13, _⟩ => ⟨S1x8x8192x8192, .f32⟩
  | .hbm, ⟨14, _⟩ => ⟨S1x8x8192x8192, .f32⟩
  | .hbm, ⟨15, _⟩ => ⟨S8192x8192, .i32⟩
  | .hbm, ⟨16, _⟩ => ⟨S8192x8192, .i32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S1x8x8192x8192, .i1⟩
  | .hbm, ⟨25, _⟩ => ⟨S1x8x8192x8192, .f32⟩
  | .hbm, ⟨26, _⟩ => ⟨S1x8x8192x8192, .f32⟩
  | .hbm, ⟨27, _⟩ => ⟨S_, .f32⟩
  | .hbm, ⟨28, _⟩ => ⟨S1x8x8192, .f32⟩
  | .hbm, ⟨29, _⟩ => ⟨S1x8x8192x1, .f32⟩
  | .hbm, ⟨30, _⟩ => ⟨S1x8x8192x8192, .f32⟩
  | .hbm, ⟨31, _⟩ => ⟨S1x8x8192x8192, .f32⟩
  | .hbm, ⟨32, _⟩ => ⟨S1x8x8192x8192, .f32⟩
  | .hbm, ⟨33, _⟩ => ⟨S_, .f32⟩
  | .hbm, ⟨34, _⟩ => ⟨S1x8x8192, .f32⟩
  | .hbm, ⟨35, _⟩ => ⟨S1x8x8192x1, .f32⟩
  | .hbm, ⟨36, _⟩ => ⟨S1x8x8192x8192, .f32⟩
  | .hbm, ⟨37, _⟩ => ⟨S1x8x8192x8192, .f32⟩
  | .hbm, ⟨38, _⟩ => ⟨S1x8x64x8192, .f32⟩
  | .hbm, ⟨39, _⟩ => ⟨S1x8192x8x64, .f32⟩
  | .hbm, ⟨40, _⟩ => ⟨S1x8x8192x1, .f32⟩
  | .hbm, ⟨41, _⟩ => ⟨S1x8x8192x1, .f32⟩
  | .hbm, ⟨42, _⟩ => ⟨S1x8192x8x1, .f32⟩
  | .hbm, ⟨43, _⟩ => ⟨S8192x512, .f32⟩
  | .hbm, ⟨44, _⟩ => ⟨S8192x512, .bf16⟩
  | .hbm, ⟨45, _⟩ => ⟨S1x8192x8x64, .f32⟩
  | .hbm, ⟨46, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== KernelAttf4.lean ====
abbrev S8192x1024 : Shape := ⟨2, ![8192, 1024]⟩
abbrev S8192x2560 : Shape := ⟨2, ![8192, 2560]⟩
abbrev S8192x512 : Shape := ⟨2, ![8192, 512]⟩
abbrev S1x8192x1024 : Shape := ⟨3, ![1, 8192, 1024]⟩
abbrev S1x2048x4x1024 : Shape := ⟨4, ![1, 2048, 4, 1024]⟩
abbrev S1x4x2048x1024 : Shape := ⟨4, ![1, 4, 2048, 1024]⟩
abbrev S4x2048x1024 : Shape := ⟨3, ![4, 2048, 1024]⟩
abbrev S1x8192x512 : Shape := ⟨3, ![1, 8192, 512]⟩
abbrev S1x2048x4x512 : Shape := ⟨4, ![1, 2048, 4, 512]⟩
abbrev S1x4x2048x512 : Shape := ⟨4, ![1, 4, 2048, 512]⟩
abbrev S4x2048x512 : Shape := ⟨3, ![4, 2048, 512]⟩
abbrev S256x512 : Shape := ⟨2, ![256, 512]⟩
abbrev S64x512 : Shape := ⟨2, ![64, 512]⟩
abbrev S384x512 : Shape := ⟨2, ![384, 512]⟩
abbrev S128x128 : Shape := ⟨2, ![128, 128]⟩
abbrev S128x256 : Shape := ⟨2, ![128, 256]⟩
abbrev S128x512 : Shape := ⟨2, ![128, 512]⟩
abbrev S256x128 : Shape := ⟨2, ![256, 128]⟩
abbrev S128 : Shape := ⟨1, ![128]⟩
abbrev S128x1 : Shape := ⟨2, ![128, 1]⟩

abbrev nBuf : Space → Nat
  | .hbm => 15
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x512, .bf16⟩
  | .hbm, ⟨3, _⟩ => ⟨S1x8192x1024, .bf16⟩
  | .hbm, ⟨4, _⟩ => ⟨S1x2048x4x1024, .bf16⟩
  | .hbm, ⟨5, _⟩ => ⟨S1x4x2048x1024, .bf16⟩
  | .hbm, ⟨6, _⟩ => ⟨S4x2048x1024, .bf16⟩
  | .hbm, ⟨7, _⟩ => ⟨S8192x1024, .bf16⟩
  | .hbm, ⟨8, _⟩ => ⟨S1x8192x512, .bf16⟩
  | .hbm, ⟨9, _⟩ => ⟨S1x2048x4x512, .bf16⟩
  | .hbm, ⟨10, _⟩ => ⟨S1x4x2048x512, .bf16⟩
  | .hbm, ⟨11, _⟩ => ⟨S4x2048x512, .bf16⟩
  | .hbm, ⟨12, _⟩ => ⟨S8192x512, .bf16⟩
  | .hbm, ⟨13, _⟩ => ⟨S8192x512, .bf16⟩
  | .hbm, ⟨14, _⟩ => ⟨S8192x512, .f32⟩
  | .local _ .vmem, ⟨0, _⟩ => ⟨S256x512, .bf16⟩
  | .local _ .vmem, ⟨1, _⟩ => ⟨S256x512, .bf16⟩
  | .local _ .vmem, ⟨2, _⟩ => ⟨S64x512, .bf16⟩
  | .local _ .vmem, ⟨3, _⟩ => ⟨S64x512, .bf16⟩
  | .local _ .vmem, ⟨4, _⟩ => ⟨S256x512, .bf16⟩
  | .local _ .vmem, ⟨5, _⟩ => ⟨S256x512, .bf16⟩
  | .local _ .vmem, ⟨6, _⟩ => ⟨S64x512, .bf16⟩
  | .local _ .vmem, ⟨7, _⟩ => ⟨S64x512, .bf16⟩
  | .local _ .vmem, ⟨8, _⟩ => ⟨S64x512, .bf16⟩
  | .local _ .vmem, ⟨9, _⟩ => ⟨S64x512, .bf16⟩
  | .local _ .vmem, ⟨10, _⟩ => ⟨S256x512, .bf16⟩
  | .local _ .vmem, ⟨11, _⟩ => ⟨S256x512, .bf16⟩
  | .local _ .vmem, ⟨12, _⟩ => ⟨S64x512, .bf16⟩
  | .local _ .vmem, ⟨13, _⟩ => ⟨S64x512, .bf16⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11_0 : Ref sig .tc := ⟨.hbm, 13, rfl⟩
abbrev main_v11_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c4_i32 : BitVec 32 := 4#32
  let v2 : BitVec 32 := Scalar.muli v1 c4_i32
  let c31_i32 : BitVec 32 := 31#32
  let v3 : BitVec 32 := Scalar.minsi v2 c31_i32
  let v4 : BitVec 32 := Scalar.addi v0 v3
  let c1_i32_0 : BitVec 32 := 1#32
  let c0_i32 : BitVec 32 := 0#32
  ![v4.toNat, c1_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c4_i32 : BitVec 32 := 4#32
  let v2 : BitVec 32 := Scalar.muli v1 c4_i32
  let c31_i32 : BitVec 32 := 31#32
  let v3 : BitVec 32 := Scalar.minsi v2 c31_i32
  let v4 : BitVec 32 := Scalar.addi v0 v3
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAttf4Ideal.lean ====
variable {F : FTy → Type} [FloatOps F] [Named F]
def κ : String → Option EReal := fun
  | "mask" => some ⊥
  | _ => none
-- ==== ReferenceAttf4Ideal.lean ====
abbrev S8192x1024 : Shape := ⟨2, ![8192, 1024]⟩
abbrev S8192x2560 : Shape := ⟨2, ![8192, 2560]⟩
abbrev S8192x512 : Shape := ⟨2, ![8192, 512]⟩
abbrev S1x8192x8x64 : Shape := ⟨4, ![1, 8192, 8, 64]⟩
abbrev S1x2048x4x8x64 : Shape := ⟨5, ![1, 2048, 4, 8, 64]⟩
abbrev S1x4x2048x8x64 : Shape := ⟨5, ![1, 4, 2048, 8, 64]⟩
abbrev S4x2048x8x64 : Shape := ⟨4, ![4, 2048, 8, 64]⟩
abbrev S4x8x2048x2048 : Shape := ⟨4, ![4, 8, 2048, 2048]⟩
abbrev S_ : Shape := ⟨0, ![]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x1 : Shape := ⟨4, ![4, 2048, 8, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .f32⟩
  | .hbm, ⟨6, _⟩ => ⟨S1x8192x8x64, .f32⟩
  | .hbm, ⟨7, _⟩ => ⟨S1x2048x4x8x64, .f32⟩
  | .hbm, ⟨8, _⟩ => ⟨S1x4x2048x8x64, .f32⟩
  | .hbm, ⟨9, _⟩ => ⟨S4x2048x8x64, .f32⟩
  | .hbm, ⟨10, _⟩ => ⟨S8192x512, .f32⟩
  | .hbm, ⟨11, _⟩ => ⟨S1x8192x8x64, .f32⟩
  | .hbm, ⟨12, _⟩ => ⟨S1x2048x4x8x64, .f32⟩
  | .hbm, ⟨13, _⟩ => ⟨S1x4x2048x8x64, .f32⟩
  | .hbm, ⟨14, _⟩ => ⟨S4x2048x8x64, .f32⟩
  | .hbm, ⟨15, _⟩ => ⟨S8192x512, .f32⟩
  | .hbm, ⟨16, _⟩ => ⟨S1x8192x8x64, .f32⟩
  | .hbm, ⟨17, _⟩ => ⟨S1x2048x4x8x64, .f32⟩
  | .hbm, ⟨18, _⟩ => ⟨S1x4x2048x8x64, .f32⟩
  | .hbm, ⟨19, _⟩ => ⟨S4x2048x8x64, .f32⟩
  | .hbm, ⟨20, _⟩ => ⟨S4x8x2048x2048, .f32⟩
  | .hbm, ⟨21, _⟩ => ⟨S_, .f32⟩
  | .hbm, ⟨22, _⟩ => ⟨S4x8x2048x2048, .f32⟩
  | .hbm, ⟨23, _⟩ => ⟨S4x8x2048x2048, .f32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S4x8x2048x2048, .i1⟩
  | .hbm, ⟨34, _⟩ => ⟨S4x8x2048x2048, .f32⟩
  | .hbm, ⟨35, _⟩ => ⟨S4x8x2048x2048, .f32⟩
  | .hbm, ⟨36, _⟩ => ⟨S_, .f32⟩
  | .hbm, ⟨37, _⟩ => ⟨S4x8x2048, .f32⟩
  | .hbm, ⟨38, _⟩ => ⟨S4x8x2048x1, .f32⟩
  | .hbm, ⟨39, _⟩ => ⟨S4x8x2048x2048, .f32⟩
  | .hbm, ⟨40, _⟩ => ⟨S4x8x2048x2048, .f32⟩
  | .hbm, ⟨41, _⟩ => ⟨S4x8x2048x2048, .f32⟩
  | .hbm, ⟨42, _⟩ => ⟨S_, .f32⟩
  | .hbm, ⟨43, _⟩ => ⟨S4x8x2048, .f32⟩
  | .hbm, ⟨44, _⟩ => ⟨S4x8x2048x1, .f32⟩
  | .hbm, ⟨45, _⟩ => ⟨S4x8x2048x2048, .f32⟩
  | .hbm, ⟨46, _⟩ => ⟨S4x8x2048x2048, .f32⟩
  | .hbm, ⟨47, _⟩ => ⟨S4x8x64x2048, .f32⟩
  | .hbm, ⟨48, _⟩ => ⟨S4x2048x8x64, .f32⟩
  | .hbm, ⟨49, _⟩ => ⟨S4x8x2048x1, .f32⟩
  | .hbm, ⟨50, _⟩ => ⟨S4x8x2048x1, .f32⟩
  | .hbm, ⟨51, _⟩ => ⟨S4x2048x8x1, .f32⟩
  | .hbm, ⟨52, _⟩ => ⟨S8192x512, .f32⟩
  | .hbm, ⟨53, _⟩ => ⟨S8192x512, .bf16⟩
  | .hbm, ⟨54, _⟩ => ⟨S4x2048x8x64, .f32⟩
  | .hbm, ⟨55, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== KernelAttf16.lean ====
abbrev S8192x1024 : Shape := ⟨2, ![8192, 1024]⟩
abbrev S8192x2560 : Shape := ⟨2, ![8192, 2560]⟩
abbrev S8192x512 : Shape := ⟨2, ![8192, 512]⟩
abbrev S1x8192x1024 : Shape := ⟨3, ![1, 8192, 1024]⟩
abbrev S1x512x16x1024 : Shape := ⟨4, ![1, 512, 16, 1024]⟩
abbrev S1x16x512x1024 : Shape := ⟨4, ![1, 16, 512, 1024]⟩
abbrev S16x512x1024 : Shape := ⟨3, ![16, 512, 1024]⟩
abbrev S1x8192x512 : Shape := ⟨3, ![1, 8192, 512]⟩
abbrev S1x512x16x512 : Shape := ⟨4, ![1, 512, 16, 512]⟩
abbrev S1x16x512x512 : Shape := ⟨4, ![1, 16, 512, 512]⟩
abbrev S16x512x512 : Shape := ⟨3, ![16, 512, 512]⟩
abbrev S256x512 : Shape := ⟨2, ![256, 512]⟩
abbrev S64x512 : Shape := ⟨2, ![64, 512]⟩
abbrev S384x512 : Shape := ⟨2, ![384, 512]⟩
abbrev S128x128 : Shape := ⟨2, ![128, 128]⟩
abbrev S128x256 : Shape := ⟨2, ![128, 256]⟩
abbrev S128x512 : Shape := ⟨2, ![128, 512]⟩
abbrev S256x128 : Shape := ⟨2, ![256, 128]⟩
abbrev S128 : Shape := ⟨1, ![128]⟩
abbrev S128x1 : Shape := ⟨2, ![128, 1]⟩

abbrev nBuf : Space → Nat
  | .hbm => 15
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x512, .bf16⟩
  | .hbm, ⟨3, _⟩ => ⟨S1x8192x1024, .bf16⟩
  | .hbm, ⟨4, _⟩ => ⟨S1x512x16x1024, .bf16⟩
  | .hbm, ⟨5, _⟩ => ⟨S1x16x512x1024, .bf16⟩
  | .hbm, ⟨6, _⟩ => ⟨S16x512x1024, .bf16⟩
  | .hbm, ⟨7, _⟩ => ⟨S8192x1024, .bf16⟩
  | .hbm, ⟨8, _⟩ => ⟨S1x8192x512, .bf16⟩
  | .hbm, ⟨9, _⟩ => ⟨S1x512x16x512, .bf16⟩
  | .hbm, ⟨10, _⟩ => ⟨S1x16x512x512, .bf16⟩
  | .hbm, ⟨11, _⟩ => ⟨S16x512x512, .bf16⟩
  | .hbm, ⟨12, _⟩ => ⟨S8192x512, .bf16⟩
  | .hbm, ⟨13, _⟩ => ⟨S8192x512, .bf16⟩
  | .hbm, ⟨14, _⟩ => ⟨S8192x512, .f32⟩
  | .local _ .vmem, ⟨0, _⟩ => ⟨S256x512, .bf16⟩
  | .local _ .vmem, ⟨1, _⟩ => ⟨S256x512, .bf16⟩
  | .local _ .vmem, ⟨2, _⟩ => ⟨S64x512, .bf16⟩
  | .local _ .vmem, ⟨3, _⟩ => ⟨S64x512, .bf16⟩
  | .local _ .vmem, ⟨4, _⟩ => ⟨S256x512, .bf16⟩
  | .local _ .vmem, ⟨5, _⟩ => ⟨S256x512, .bf16⟩
  | .local _ .vmem, ⟨6, _⟩ => ⟨S64x512, .bf16⟩
  | .local _ .vmem, ⟨7, _⟩ => ⟨S64x512, .bf16⟩
  | .local _ .vmem, ⟨8, _⟩ => ⟨S64x512, .bf16⟩
  | .local _ .vmem, ⟨9, _⟩ => ⟨S64x512, .bf16⟩
  | .local _ .vmem, ⟨10, _⟩ => ⟨S256x512, .bf16⟩
  | .local _ .vmem, ⟨11, _⟩ => ⟨S256x512, .bf16⟩
  | .local _ .vmem, ⟨12, _⟩ => ⟨S64x512, .bf16⟩
  | .local _ .vmem, ⟨13, _⟩ => ⟨S64x512, .bf16⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11_0 : Ref sig .tc := ⟨.hbm, 13, rfl⟩
abbrev main_v11_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c4_i32 : BitVec 32 := 4#32
  let v2 : BitVec 32 := Scalar.muli v1 c4_i32
  let c7_i32 : BitVec 32 := 7#32
  let v3 : BitVec 32 := Scalar.minsi v2 c7_i32
  let v4 : BitVec 32 := Scalar.addi v0 v3
  let c1_i32_0 : BitVec 32 := 1#32
  let c0_i32 : BitVec 32 := 0#32
  ![v4.toNat, c1_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.addi arg1 c1_i32
  let c4_i32 : BitVec 32 := 4#32
  let v2 : BitVec 32 := Scalar.muli v1 c4_i32
  let c7_i32 : BitVec 32 := 7#32
  let v3 : BitVec 32 := Scalar.minsi v2 c7_i32
  let v4 : BitVec 32 := Scalar.addi v0 v3
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAttf16Ideal.lean ====
variable {F : FTy → Type} [FloatOps F] [Named F]
def κ : String → Option EReal := fun
  | "mask" => some ⊥
  | _ => none
-- ==== ReferenceAttf16Ideal.lean ====
abbrev S8192x1024 : Shape := ⟨2, ![8192, 1024]⟩
abbrev S8192x2560 : Shape := ⟨2, ![8192, 2560]⟩
abbrev S8192x512 : Shape := ⟨2, ![8192, 512]⟩
abbrev S1x8192x8x64 : Shape := ⟨4, ![1, 8192, 8, 64]⟩
abbrev S1x512x16x8x64 : Shape := ⟨5, ![1, 512, 16, 8, 64]⟩
abbrev S1x16x512x8x64 : Shape := ⟨5, ![1, 16, 512, 8, 64]⟩
abbrev S16x512x8x64 : Shape := ⟨4, ![16, 512, 8, 64]⟩
abbrev S16x8x512x512 : Shape := ⟨4, ![16, 8, 512, 512]⟩
abbrev S_ : Shape := ⟨0, ![]⟩
abbrev S512x512 : Shape := ⟨2, ![512, 512]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S16x512x8x1 : Shape := ⟨4, ![16, 512, 8, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .f32⟩
  | .hbm, ⟨6, _⟩ => ⟨S1x8192x8x64, .f32⟩
  | .hbm, ⟨7, _⟩ => ⟨S1x512x16x8x64, .f32⟩
  | .hbm, ⟨8, _⟩ => ⟨S1x16x512x8x64, .f32⟩
  | .hbm, ⟨9, _⟩ => ⟨S16x512x8x64, .f32⟩
  | .hbm, ⟨10, _⟩ => ⟨S8192x512, .f32⟩
  | .hbm, ⟨11, _⟩ => ⟨S1x8192x8x64, .f32⟩
  | .hbm, ⟨12, _⟩ => ⟨S1x512x16x8x64, .f32⟩
  | .hbm, ⟨13, _⟩ => ⟨S1x16x512x8x64, .f32⟩
  | .hbm, ⟨14, _⟩ => ⟨S16x512x8x64, .f32⟩
  | .hbm, ⟨15, _⟩ => ⟨S8192x512, .f32⟩
  | .hbm, ⟨16, _⟩ => ⟨S1x8192x8x64, .f32⟩
  | .hbm, ⟨17, _⟩ => ⟨S1x512x16x8x64, .f32⟩
  | .hbm, ⟨18, _⟩ => ⟨S1x16x512x8x64, .f32⟩
  | .hbm, ⟨19, _⟩ => ⟨S16x512x8x64, .f32⟩
  | .hbm, ⟨20, _⟩ => ⟨S16x8x512x512, .f32⟩
  | .hbm, ⟨21, _⟩ => ⟨S_, .f32⟩
  | .hbm, ⟨22, _⟩ => ⟨S16x8x512x512, .f32⟩
  | .hbm, ⟨23, _⟩ => ⟨S16x8x512x512, .f32⟩
  | .hbm, ⟨24, _⟩ => ⟨S512x512, .i32⟩
  | .hbm, ⟨25, _⟩ => ⟨S512x512, .i32⟩
  | .hbm, ⟨26, _⟩ => ⟨S512x512, .i32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i1⟩
  | .hbm, ⟨31, _⟩ => ⟨S_, .f32⟩
  | .hbm, ⟨32, _⟩ => ⟨S_, .f32⟩
  | .hbm, ⟨33, _⟩ => ⟨S16x8x512x512, .i1⟩
  | .hbm, ⟨34, _⟩ => ⟨S16x8x512x512, .f32⟩
  | .hbm, ⟨35, _⟩ => ⟨S16x8x512x512, .f32⟩
  | .hbm, ⟨36, _⟩ => ⟨S_, .f32⟩
  | .hbm, ⟨37, _⟩ => ⟨S16x8x512, .f32⟩
  | .hbm, ⟨38, _⟩ => ⟨S16x8x512x1, .f32⟩
  | .hbm, ⟨39, _⟩ => ⟨S16x8x512x512, .f32⟩
  | .hbm, ⟨40, _⟩ => ⟨S16x8x512x512, .f32⟩
  | .hbm, ⟨41, _⟩ => ⟨S16x8x512x512, .f32⟩
  | .hbm, ⟨42, _⟩ => ⟨S_, .f32⟩
  | .hbm, ⟨43, _⟩ => ⟨S16x8x512, .f32⟩
  | .hbm, ⟨44, _⟩ => ⟨S16x8x512x1, .f32⟩
  | .hbm, ⟨45, _⟩ => ⟨S16x8x512x512, .f32⟩
  | .hbm, ⟨46, _⟩ => ⟨S16x8x512x512, .f32⟩
  | .hbm, ⟨47, _⟩ => ⟨S16x8x64x512, .f32⟩
  | .hbm, ⟨48, _⟩ => ⟨S16x512x8x64, .f32⟩
  | .hbm, ⟨49, _⟩ => ⟨S16x8x512x1, .f32⟩
  | .hbm, ⟨50, _⟩ => ⟨S16x8x512x1, .f32⟩
  | .hbm, ⟨51, _⟩ => ⟨S16x512x8x1, .f32⟩
  | .hbm, ⟨52, _⟩ => ⟨S8192x512, .f32⟩
  | .hbm, ⟨53, _⟩ => ⟨S8192x512, .bf16⟩
  | .hbm, ⟨54, _⟩ => ⟨S16x512x8x64, .f32⟩
  | .hbm, ⟨55, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== KernelRms.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelXo.lean ====
abbrev S8192x1024 : Shape := ⟨2, ![8192, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1x1024x1024, .bf16⟩
  | .hbm, ⟨5, _⟩ => ⟨S8192x1024, .f32⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceXoIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelOut.lean ====
abbrev S8192x512 : Shape := ⟨2, ![8192, 512]⟩
abbrev S1x1024x1024 : Shape := ⟨3, ![1, 1024, 1024]⟩
abbrev S8192x1024 : Shape := ⟨2, ![8192, 1024]⟩
abbrev S1x1024 : Shape := ⟨2, ![1, 1024]⟩
abbrev S512x512 : Shape := ⟨2, ![512, 512]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1x1024x1024, .f32⟩
  | .hbm, ⟨3, _⟩ => ⟨S8192x1024, .f32⟩
  | .hbm, ⟨4, _⟩ => ⟨S1x1024, .f32⟩
  | .hbm, ⟨5, _⟩ => ⟨S1x1024x1024, .bf16⟩
  | .hbm, ⟨6, _⟩ => ⟨S8192x1024, .f32⟩
  | .hbm, ⟨7, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOutIdeal.lean ====
abbrev S8192x512 : Shape := ⟨2, ![8192, 512]⟩
abbrev S1x1024x1024 : Shape := ⟨3, ![1, 1024, 1024]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1x1024x1024, .f32⟩
  | .hbm, ⟨3, _⟩ => ⟨S8192x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelUp.lean ====
abbrev S8192x1024 : Shape := ⟨2, ![8192, 1024]⟩
abbrev S1x1024x4096 : Shape := ⟨3, ![1, 1024, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .f32⟩
  | .hbm, ⟨2, _⟩ => ⟨S1024x4096, .f32⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x1024 : Shape := ⟨2, ![8192, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .f32⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDelta.lean ====
abbrev S8192x1024 : Shape := ⟨2, ![8192, 1024]⟩
abbrev S8192x512 : Shape := ⟨2, ![8192, 512]⟩
abbrev S4x2048x512 : Shape := ⟨3, ![4, 2048, 512]⟩
abbrev S16x512x512 : Shape := ⟨3, ![16, 512, 512]⟩
abbrev S512x512 : Shape := ⟨2, ![512, 512]⟩
abbrev S4x128x512 : Shape := ⟨3, ![4, 128, 512]⟩
abbrev S16x32x512 : Shape := ⟨3, ![16, 32, 512]⟩
abbrev S4x512x128 : Shape := ⟨3, ![4, 512, 128]⟩
abbrev S512x64 : Shape := ⟨2, ![512, 64]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .f32⟩
  | .hbm, ⟨3, _⟩ => ⟨S4x2048x512, .f32⟩
  | .hbm, ⟨4, _⟩ => ⟨S16x512x512, .f32⟩
  | .hbm, ⟨5, _⟩ => ⟨S4x2048x512, .bf16⟩
  | .hbm, ⟨6, _⟩ => ⟨S16x512x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S4x128x512, .f32⟩
  | .local _ .vmem, ⟨7, _⟩ => ⟨S4x128x512, .f32⟩
  | .local _ .vmem, ⟨8, _⟩ => ⟨S16x32x512, .f32⟩
  | .local _ .vmem, ⟨9, _⟩ => ⟨S16x32x512, .f32⟩
  | .local _ .vmem, ⟨10, _⟩ => ⟨S4x128x512, .bf16⟩
  | .local _ .vmem, ⟨11, _⟩ => ⟨S4x128x512, .bf16⟩
  | .local _ .vmem, ⟨12, _⟩ => ⟨S16x32x512, .bf16⟩
  | .local _ .vmem, ⟨13, _⟩ => ⟨S16x32x512, .bf16⟩
  | .local _ .vmem, ⟨14, _⟩ => ⟨S4x512x128, .f32⟩
  | .local _ .vmem, ⟨15, _⟩ => ⟨S4x512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceDeltaIdeal.lean ====
abbrev S8192x1024 : Shape := ⟨2, ![8192, 1024]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x8192x8x64 : Shape := ⟨4, ![1, 8192, 8, 64]⟩
abbrev S1x2048x4x8x64 : Shape := ⟨5, ![1, 2048, 4, 8, 64]⟩
abbrev S1x4x2048x8x64 : Shape := ⟨5, ![1, 4, 2048, 8, 64]⟩
abbrev S4x2048x8x64 : Shape := ⟨4, ![4, 2048, 8, 64]⟩
abbrev S4x2048x512 : Shape := ⟨3, ![4, 2048, 512]⟩
abbrev S1x512x16x8x64 : Shape := ⟨5, ![1, 512, 16, 8, 64]⟩
abbrev S1x16x512x8x64 : Shape := ⟨5, ![1, 16, 512, 8, 64]⟩
abbrev S16x512x8x64 : Shape := ⟨4, ![16, 512, 8, 64]⟩
abbrev S16x512x512 : Shape := ⟨3, ![16, 512, 512]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .f32⟩
  | .hbm, ⟨3, _⟩ => ⟨S8192x8x64, .f32⟩
  | .hbm, ⟨4, _⟩ => ⟨S8192x512, .bf16⟩
  | .hbm, ⟨5, _⟩ => ⟨S8192x512, .f32⟩
  | .hbm, ⟨6, _⟩ => ⟨S8192x8x64, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S8192x8x64, .f32⟩
  | .hbm, ⟨11, _⟩ => ⟨S8192x8x64, .f32⟩
  | .hbm, ⟨12, _⟩ => ⟨S8192x8x64, .f32⟩
  | .hbm, ⟨13, _⟩ => ⟨S_, .f32⟩
  | .hbm, ⟨14, _⟩ => ⟨S8192x8, .f32⟩
  | .hbm, ⟨15, _⟩ => ⟨S8192x8x1, .f32⟩
  | .hbm, ⟨16, _⟩ => ⟨S_, .f32⟩
  | .hbm, ⟨17, _⟩ => ⟨S8192x8, .f32⟩
  | .hbm, ⟨18, _⟩ => ⟨S8192x8x1, .f32⟩
  | .hbm, ⟨19, _⟩ => ⟨S8192x8x64, .f32⟩
  | .hbm, ⟨20, _⟩ => ⟨S8192x512, .f32⟩
  | .hbm, ⟨21, _⟩ => ⟨S1x8192x8x64, .f32⟩
  | .hbm, ⟨22, _⟩ => ⟨S1x2048x4x8x64, .f32⟩
  | .hbm, ⟨23, _⟩ => ⟨S1x4x2048x8x64, .f32⟩
  | .hbm, ⟨24, _⟩ => ⟨S4x2048x8x64, .f32⟩
  | .hbm, ⟨25, _⟩ => ⟨S4x2048x512, .f32⟩
  | .hbm, ⟨26, _⟩ => ⟨S1x8192x8x64, .f32⟩
  | .hbm, ⟨27, _⟩ => ⟨S1x512x16x8x64, .f32⟩
  | .hbm, ⟨28, _⟩ => ⟨S1x16x512x8x64, .f32⟩
  | .hbm, ⟨29, _⟩ => ⟨S16x512x8x64, .f32⟩
  | .hbm, ⟨30, _⟩ => ⟨S16x512x512, .f32⟩
  | .hbm, ⟨31, _⟩ => ⟨S1x8192x8x64, .f32⟩
  | .hbm, ⟨32, _⟩ => ⟨S1x2048x4x8x64, .f32⟩
  | .hbm, ⟨33, _⟩ => ⟨S1x4x2048x8x64, .f32⟩
  | .hbm, ⟨34, _⟩ => ⟨S4x2048x8x64, .f32⟩
  | .hbm, ⟨35, _⟩ => ⟨S4x2048x512, .f32⟩
  | .hbm, ⟨36, _⟩ => ⟨S4x2048x512, .bf16⟩
  | .hbm, ⟨37, _⟩ => ⟨S1x8192x8x64, .f32⟩
  | .hbm, ⟨38, _⟩ => ⟨S1x512x16x8x64, .f32⟩
  | .hbm, ⟨39, _⟩ => ⟨S1x16x512x8x64, .f32⟩
  | .hbm, ⟨40, _⟩ => ⟨S16x512x8x64, .f32⟩
  | .hbm, ⟨41, _⟩ => ⟨S16x512x512, .f32⟩
  | .hbm, ⟨42, _⟩ => ⟨S16x512x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== KernelDwup.lean ====
abbrev S8192x1024 : Shape := ⟨2, ![8192, 1024]⟩
abbrev S1x1024x4096 : Shape := ⟨3, ![1, 1024, 4096]⟩
abbrev S8192x4096 : Shape := ⟨2, ![8192, 4096]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .f32⟩
  | .hbm, ⟨2, _⟩ => ⟨S8192x4096, .bf16⟩
  | .hbm, ⟨3, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwupIdeal.lean ====
abbrev S8192x1024 : Shape := ⟨2, ![8192, 1024]⟩
abbrev S1x1024x4096 : Shape := ⟨3, ![1, 1024, 4096]⟩
abbrev S8192x4096 : Shape := ⟨2, ![8192, 4096]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .f32⟩
  | .hbm, ⟨2, _⟩ => ⟨S8192x4096, .bf16⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1x1024x4096, .f32⟩
  | .hbm, ⟨10, _⟩ => ⟨S1024x4096, .f32⟩
  | .hbm, ⟨11, _⟩ => ⟨S1024x4096, .bf16⟩
  | .hbm, ⟨12, _⟩ => ⟨S1024x4x1024, .bf16⟩
  | .hbm, ⟨13, _⟩ => ⟨S4x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelDxo.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .bf16⟩
  | .hbm, ⟨3, _⟩ => ⟨S1x1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxoIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelRope.lean ====
abbrev S8192x2560 : Shape := ⟨2, ![8192, 2560]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x1024 : Shape := ⟨2, ![8192, 1024]⟩
abbrev S4x2048x1024 : Shape := ⟨3, ![4, 2048, 1024]⟩
abbrev S16x512x1024 : Shape := ⟨3, ![16, 512, 1024]⟩
abbrev S4x2048x512 : Shape := ⟨3, ![4, 2048, 512]⟩
abbrev S16x512x512 : Shape := ⟨3, ![16, 512, 512]⟩
abbrev S512x1536 : Shape := ⟨2, ![512, 1536]⟩
abbrev S512x128 : Shape := ⟨2, ![512, 128]⟩
abbrev S512x1024 : Shape := ⟨2, ![512, 1024]⟩
abbrev S4x128x1024 : Shape := ⟨3, ![4, 128, 1024]⟩
abbrev S16x32x1024 : Shape := ⟨3, ![16, 32, 1024]⟩
abbrev S4x128x512 : Shape := ⟨3, ![4, 128, 512]⟩
abbrev S16x32x512 : Shape := ⟨3, ![16, 32, 512]⟩
abbrev S8x512x128 : Shape := ⟨3, ![8, 512, 128]⟩
abbrev S4x512x128 : Shape := ⟨3, ![4, 512, 128]⟩
abbrev S1x512x128 : Shape := ⟨3, ![1, 512, 128]⟩
abbrev S512x512 : Shape := ⟨2, ![512, 512]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 47
  | .vmem => 20
  | .smem => 0
  | _ => 0

abbrev bufTy : (tb : Table) → Fin (tcTables nBuf tb) → BufTy
  | .hbm, ⟨0, _⟩ => ⟨S8192x2560, .bf16⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8192, .f32⟩
  | .hbm, ⟨16, _⟩ => ⟨S8192x1, .f32⟩
  | .hbm, ⟨17, _⟩ => ⟨S1x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S_, .f32⟩
  | .hbm, ⟨24, _⟩ => ⟨S8192x48, .f32⟩
  | .hbm, ⟨25, _⟩ => ⟨S_, .f32⟩
  | .hbm, ⟨26, _⟩ => ⟨S8192x48, .f32⟩
  | .hbm, ⟨27, _⟩ => ⟨S_, .f32⟩
  | .hbm, ⟨28, _⟩ => ⟨S8192x8, .f32⟩
  | .hbm, ⟨29, _⟩ => ⟨S8192x64, .f32⟩
  | .hbm, ⟨30, _⟩ => ⟨S8192x8, .f32⟩
  | .hbm, ⟨31, _⟩ => ⟨S8192x64, .f32⟩
  | .hbm, ⟨32, _⟩ => ⟨S8192x64, .f32⟩
  | .hbm, ⟨33, _⟩ => ⟨S1x8192x1x64, .f32⟩
  | .hbm, ⟨34, _⟩ => ⟨S1x8192x2x64, .f32⟩
  | .hbm, ⟨35, _⟩ => ⟨S8192x128, .f32⟩
  | .hbm, ⟨36, _⟩ => ⟨S1x8192x1x64, .f32⟩
  | .hbm, ⟨37, _⟩ => ⟨S1x8192x2x64, .f32⟩
  | .hbm, ⟨38, _⟩ => ⟨S8192x128, .f32⟩
  | .hbm, ⟨39, _⟩ => ⟨S1x8192x1x64, .f32⟩
  | .hbm, ⟨40, _⟩ => ⟨S1x8192x2x64, .f32⟩
  | .hbm, ⟨41, _⟩ => ⟨S8192x128, .f32⟩
  | .hbm, ⟨42, _⟩ => ⟨S8192x1024, .bf16⟩
  | .hbm, ⟨43, _⟩ => ⟨S4x2048x1024, .bf16⟩
  | .hbm, ⟨44, _⟩ => ⟨S16x512x1024, .bf16⟩
  | .hbm, ⟨45, _⟩ => ⟨S4x2048x512, .bf16⟩
  | .hbm, ⟨46, _⟩ => ⟨S16x512x512, .bf16⟩
  | .local _ .vmem, ⟨0, _⟩ => ⟨S512x1536, .bf16⟩
  | .local _ .vmem, ⟨1, _⟩ => ⟨S512x1536, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S4x128x1024, .bf16⟩
  | .local _ .vmem, ⟨11, _⟩ => ⟨S4x128x1024, .bf16⟩
  | .local _ .vmem, ⟨12, _⟩ => ⟨S16x32x1024, .bf16⟩
  | .local _ .vmem, ⟨13, _⟩ => ⟨S16x32x1024, .bf16⟩
  | .local _ .vmem, ⟨14, _⟩ => ⟨S4x128x512, .bf16⟩
  | .local _ .vmem, ⟨15, _⟩ => ⟨S4x128x512, .bf16⟩
  | .local _ .vmem, ⟨16, _⟩ => ⟨S16x32x512, .bf16⟩
  | .local _ .vmem, ⟨17, _⟩ => ⟨S16x32x512, .bf16⟩
  | .local _ .vmem, ⟨18, _⟩ => ⟨S8x512x128, .f32⟩
  | .local _ .vmem, ⟨19, _⟩ => ⟨S4x512x128, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev main_v34_2 : Ref sig .tc := ⟨.hbm, 44, rfl⟩
abbrev main_v34_3 : Ref sig .tc := ⟨.hbm, 45, rfl⟩
abbrev main_v34_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceRopeIdeal.lean ====
abbrev S8192x2560 : Shape := ⟨2, ![8192, 2560]⟩
abbrev S8192x512 : Shape := ⟨2, ![8192, 512]⟩
abbrev S1x8192x8x64 : Shape := ⟨4, ![1, 8192, 8, 64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S1x8192x8x8 : Shape := ⟨4, ![1, 8192, 8, 8]⟩
abbrev S1x8192x8x48 : Shape := ⟨4, ![1, 8192, 8, 48]⟩
abbrev S8192x1024 : Shape := ⟨2, ![8192, 1024]⟩
abbrev S1x8192x1024 : Shape := ⟨3, ![1, 8192, 1024]⟩
abbrev S1x2048x4x1024 : Shape := ⟨4, ![1, 2048, 4, 1024]⟩
abbrev S1x4x2048x1024 : Shape := ⟨4, ![1, 4, 2048, 1024]⟩
abbrev S4x2048x1024 : Shape := ⟨3, ![4, 2048, 1024]⟩
abbrev S1x512x16x1024 : Shape := ⟨4, ![1, 512, 16, 1024]⟩
abbrev S1x16x512x1024 : Shape := ⟨4, ![1, 16, 512, 1024]⟩
abbrev S16x512x1024 : Shape := ⟨3, ![16, 512, 1024]⟩
abbrev S1x8192x512 : Shape := ⟨3, ![1, 8192, 512]⟩
abbrev S1x2048x4x512 : Shape := ⟨4, ![1, 2048, 4, 512]⟩
abbrev S1x4x2048x512 : Shape := ⟨4, ![1, 4, 2048, 512]⟩
abbrev S4x2048x512 : Shape := ⟨3, ![4, 2048, 512]⟩
abbrev S1x512x16x512 : Shape := ⟨4, ![1, 512, 16, 512]⟩
abbrev S1x16x512x512 : Shape := ⟨4, ![1, 16, 512, 512]⟩
abbrev S16x512x512 : Shape := ⟨3, ![16, 512, 512]⟩

abbrev nBuf : Space → Nat
  | .hbm => 105
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x512, .bf16⟩
  | .hbm, ⟨2, _⟩ => ⟨S1x8192x8x64, .bf16⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8192, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S1x8192x1x8, .f32⟩
  | .hbm, ⟨25, _⟩ => ⟨S8192x8, .f32⟩
  | .hbm, ⟨26, _⟩ => ⟨S1x8192x1x8, .f32⟩
  | .hbm, ⟨27, _⟩ => ⟨S1x8192x8x64, .f32⟩
  | .hbm, ⟨28, _⟩ => ⟨S1x8192x8x8, .f32⟩
  | .hbm, ⟨29, _⟩ => ⟨S1x8192x8x8, .f32⟩
  | .hbm, ⟨30, _⟩ => ⟨S1x8192x8x48, .f32⟩
  | .hbm, ⟨31, _⟩ => ⟨S1x8192x8x8, .f32⟩
  | .hbm, ⟨32, _⟩ => ⟨S1x8192x8x8, .f32⟩
  | .hbm, ⟨33, _⟩ => ⟨S1x8192x8x8, .f32⟩
  | .hbm, ⟨34, _⟩ => ⟨S1x8192x8x8, .f32⟩
  | .hbm, ⟨35, _⟩ => ⟨S1x8192x8x8, .f32⟩
  | .hbm, ⟨36, _⟩ => ⟨S1x8192x8x8, .f32⟩
  | .hbm, ⟨37, _⟩ => ⟨S1x8192x8x8, .f32⟩
  | .hbm, ⟨38, _⟩ => ⟨S1x8192x8x8, .f32⟩
  | .hbm, ⟨39, _⟩ => ⟨S1x8192x8x8, .f32⟩
  | .hbm, ⟨40, _⟩ => ⟨S1x8192x8x8, .f32⟩
  | .hbm, ⟨41, _⟩ => ⟨S1x8192x8x64, .f32⟩
  | .hbm, ⟨42, _⟩ => ⟨S1x8192x8x64, .bf16⟩
  | .hbm, ⟨43, _⟩ => ⟨S8192x512, .bf16⟩
  | .hbm, ⟨44, _⟩ => ⟨S1x8192x8x64, .bf16⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S8192, .f32⟩
  | .hbm, ⟨60, _⟩ => ⟨S8192x1, .f32⟩
  | .hbm, ⟨61, _⟩ => ⟨S1x8, .f32⟩
  | .hbm, ⟨62, _⟩ => ⟨S8192x8, .f32⟩
  | .hbm, ⟨63, _⟩ => ⟨S8192x8, .f32⟩
  | .hbm, ⟨64, _⟩ => ⟨S8192x8, .f32⟩
  | .hbm, ⟨65, _⟩ => ⟨S8192x8, .f32⟩
  | .hbm, ⟨66, _⟩ => ⟨S1x8192x1x8, .f32⟩
  | .hbm, ⟨67, _⟩ => ⟨S8192x8, .f32⟩
  | .hbm, ⟨68, _⟩ => ⟨S1x8192x1x8, .f32⟩
  | .hbm, ⟨69, _⟩ => ⟨S1x8192x8x64, .f32⟩
  | .hbm, ⟨70, _⟩ => ⟨S1x8192x8x8, .f32⟩
  | .hbm, ⟨71, _⟩ => ⟨S1x8192x8x8, .f32⟩
  | .hbm, ⟨72, _⟩ => ⟨S1x8192x8x48, .f32⟩
  | .hbm, ⟨73, _⟩ => ⟨S1x8192x8x8, .f32⟩
  | .hbm, ⟨74, _⟩ => ⟨S1x8192x8x8, .f32⟩
  | .hbm, ⟨75, _⟩ => ⟨S1x8192x8x8, .f32⟩
  | .hbm, ⟨76, _⟩ => ⟨S1x8192x8x8, .f32⟩
  | .hbm, ⟨77, _⟩ => ⟨S1x8192x8x8, .f32⟩
  | .hbm, ⟨78, _⟩ => ⟨S1x8192x8x8, .f32⟩
  | .hbm, ⟨79, _⟩ => ⟨S1x8192x8x8, .f32⟩
  | .hbm, ⟨80, _⟩ => ⟨S1x8192x8x8, .f32⟩
  | .hbm, ⟨81, _⟩ => ⟨S1x8192x8x8, .f32⟩
  | .hbm, ⟨82, _⟩ => ⟨S1x8192x8x8, .f32⟩
  | .hbm, ⟨83, _⟩ => ⟨S1x8192x8x64, .f32⟩
  | .hbm, ⟨84, _⟩ => ⟨S1x8192x8x64, .bf16⟩
  | .hbm, ⟨85, _⟩ => ⟨S8192x512, .bf16⟩
  | .hbm, ⟨86, _⟩ => ⟨S8192x512, .bf16⟩
  | .hbm, ⟨87, _⟩ => ⟨S8192x512, .bf16⟩
  | .hbm, ⟨88, _⟩ => ⟨S8192x1024, .bf16⟩
  | .hbm, ⟨89, _⟩ => ⟨S1x8192x1024, .bf16⟩
  | .hbm, ⟨90, _⟩ => ⟨S1x2048x4x1024, .bf16⟩
  | .hbm, ⟨91, _⟩ => ⟨S1x4x2048x1024, .bf16⟩
  | .hbm, ⟨92, _⟩ => ⟨S4x2048x1024, .bf16⟩
  | .hbm, ⟨93, _⟩ => ⟨S1x8192x1024, .bf16⟩
  | .hbm, ⟨94, _⟩ => ⟨S1x512x16x1024, .bf16⟩
  | .hbm, ⟨95, _⟩ => ⟨S1x16x512x1024, .bf16⟩
  | .hbm, ⟨96, _⟩ => ⟨S16x512x1024, .bf16⟩
  | .hbm, ⟨97, _⟩ => ⟨S1x8192x512, .bf16⟩
  | .hbm, ⟨98, _⟩ => ⟨S1x2048x4x512, .bf16⟩
  | .hbm, ⟨99, _⟩ => ⟨S1x4x2048x512, .bf16⟩
  | .hbm, ⟨100, _⟩ => ⟨S4x2048x512, .bf16⟩
  | .hbm, ⟨101, _⟩ => ⟨S1x8192x512, .bf16⟩
  | .hbm, ⟨102, _⟩ => ⟨S1x512x16x512, .bf16⟩
  | .hbm, ⟨103, _⟩ => ⟨S1x16x512x512, .bf16⟩
  | .hbm, ⟨104, _⟩ => ⟨S16x512x512, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_3 : Ref sig .tc := ⟨.hbm, 46, rfl⟩
abbrev main_v41 : Ref sig .tc := ⟨.hbm, 47, rfl⟩
abbrev main_v42 : Ref sig .tc := ⟨.hbm, 48, rfl⟩
abbrev main_cst_4 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_5 : Ref sig .tc := ⟨.hbm, 53, rfl⟩
abbrev main_v46 : Ref sig .tc := ⟨.hbm, 54, rfl⟩
abbrev main_v47 : Ref sig .tc := ⟨.hbm, 55, rfl⟩
abbrev main_cst_6 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩

abbrev nD : Nat := 1
abbrev τ : Topo := Topo.v7x

variable {F : FTy → Type} [FloatOps F]
-- ==== KernelComb.lean ====
abbrev S8192x512 : Shape := ⟨2, ![8192, 512]⟩
abbrev S4x2048x512 : Shape := ⟨3, ![4, 2048, 512]⟩
abbrev S16x512x512 : Shape := ⟨3, ![16, 512, 512]⟩
abbrev S512x512 : Shape := ⟨2, ![512, 512]⟩
abbrev S4x128x512 : Shape := ⟨3, ![4, 128, 512]⟩
abbrev S16x32x512 : Shape := ⟨3, ![16, 32, 512]⟩
abbrev S4x512x128 : Shape := ⟨3, ![4, 512, 128]⟩
abbrev S1x128x512 : Shape := ⟨3, ![1, 128, 512]⟩
abbrev S128x512 : Shape := ⟨2, ![128, 512]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S1x32x512 : Shape := ⟨3, ![1, 32, 512]⟩
abbrev S32x512 : Shape := ⟨2, ![32, 512]⟩
abbrev S32x128 : Shape := ⟨2, ![32, 128]⟩
abbrev S1x32x128 : Shape := ⟨3, ![1, 32, 128]⟩

abbrev nBuf : Space → Nat
  | .hbm => 14
  | .vmem => 25
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S4x2048x512, .bf16⟩
  | .hbm, ⟨7, _⟩ => ⟨S16x512x512, .bf16⟩
  | .hbm, ⟨8, _⟩ => ⟨S4x2048x512, .f32⟩
  | .hbm, ⟨9, _⟩ => ⟨S16x512x512, .f32⟩
  | .hbm, ⟨10, _⟩ => ⟨S8192x512, .bf16⟩
  | .hbm, ⟨11, _⟩ => ⟨S8192x512, .f32⟩
  | .hbm, ⟨12, _⟩ => ⟨S4x2048x512, .f32⟩
  | .hbm, ⟨13, _⟩ => ⟨S16x512x512, .f32⟩
  | .local _ .vmem, ⟨0, _⟩ => ⟨S512x512, .bf16⟩
  | .local _ .vmem, ⟨1, _⟩ => ⟨S512x512, .bf16⟩
  | .local _ .vmem, ⟨2, _⟩ => ⟨S4x128x512, .bf16⟩
  | .local _ .vmem, ⟨3, _⟩ => ⟨S4x128x512, .bf16⟩
  | .local _ .vmem, ⟨4, _⟩ => ⟨S16x32x512, .bf16⟩
  | .local _ .vmem, ⟨5, _⟩ => ⟨S16x32x512, .bf16⟩
  | .local _ .vmem, ⟨6, _⟩ => ⟨S512x512, .f32⟩
  | .local _ .vmem, ⟨7, _⟩ => ⟨S512x512, .f32⟩
  | .local _ .vmem, ⟨8, _⟩ => ⟨S4x128x512, .f32⟩
  | .local _ .vmem, ⟨9, _⟩ => ⟨S4x128x512, .f32⟩
  | .local _ .vmem, ⟨10, _⟩ => ⟨S16x32x512, .f32⟩
  | .local _ .vmem, ⟨11, _⟩ => ⟨S16x32x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S4x128x512, .f32⟩
  | .local _ .vmem, ⟨17, _⟩ => ⟨S4x128x512, .f32⟩
  | .local _ .vmem, ⟨18, _⟩ => ⟨S16x32x512, .f32⟩
  | .local _ .vmem, ⟨19, _⟩ => ⟨S16x32x512, .f32⟩
  | .local _ .vmem, ⟨20, _⟩ => ⟨S4x512x128, .f32⟩
  | .local _ .vmem, ⟨21, _⟩ => ⟨S4x512x128, .f32⟩
  | .local _ .vmem, ⟨22, _⟩ => ⟨S4x512x128, .f32⟩
  | .local _ .vmem, ⟨23, _⟩ => ⟨S4x512x128, .f32⟩
  | .local _ .vmem, ⟨24, _⟩ => ⟨S4x512x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Proof.Reals.lean ====
/-
  Finite values. An extended real that is a real number, and the operations of the programs on such values: a sum, a
  quotient by a nonzero real, the reciprocal square root of a positive real are again the real operation's value. With these the two sides
  of a claim about finite arguments are each ONE real number, compared by the algebra of the reals.
-/
module

public import Idealize.ShloMosaic.Lib.Pipeline.ValueKit
public import Idealize.ShloMosaic.Lib.Pointwise

@[expose] public section

namespace Cert.Reals

open Idealize.ShloMosaic

/-- The value is a real number, neither infinity. -/
def IsReal (x : EReal) : Prop := ∃ r : ℝ, x = (r : EReal)

theorem isReal_coe (r : ℝ) : IsReal (r : EReal) := ⟨r, rfl⟩

/-- A value whose absolute value is below `⊤` is a real number. -/
theorem isReal_of_abs_lt {x : EReal} (h : max x (-x) < ⊤) : IsReal x := by
  induction x using EReal.rec with
  | bot => simp at h
  | top => simp at h
  | coe r => exact ⟨r, rfl⟩

/-- The word of `+∞`. -/
theorem ofBits_inf_f32 : Ideal.ofBits .f32 0x7F800000#32 = ⊤ := by
  simp [Ideal.ofBits, Ideal.ieee]

/-- The test of finiteness of the preconditions, `|a| < ∞`, read at one element. -/
theorem isReal_of_cmpf {x : EReal} (h : Ideal.cmp .olt (max x (-x)) (Ideal.ofBits .f32 0x7F800000#32) = 1#1) : IsReal x := by
  refine isReal_of_abs_lt ?_
  rw [ofBits_inf_f32] at h
  by_contra hn
  simp [Ideal.cmp, hn] at h

/-- A family of real values is the family of its reals. -/
theorem exists_real {ι : Type*} {f : ι → EReal} (h : ∀ i, IsReal (f i)) : ∃ r : ι → ℝ, f = fun i => (r i : EReal) := by
  choose r hr using h
  exact ⟨r, funext hr⟩

/-- A finite sum of real numbers, in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe {y : ℝ} (h : y ≠ 0) (x : ℝ) : Ideal.div (x : EReal) (y : EReal) = ((x / y : ℝ) : EReal) := by
  rw [Ideal.div_coe h, ← EReal.coe_mul, mul_one_div]

/-- The reciprocal square root of a positive real. -/
theorem rsqrt_pos {x : ℝ} (h : 0 < x) : Ideal.rsqrt (x : EReal) = (((Real.sqrt x)⁻¹ : ℝ) : EReal) := by
  rw [Ideal.rsqrt_coe, if_neg (not_lt.2 h.le), if_neg h.ne']

/-- The word of 1024. -/
theorem ofBits_1024 : Ideal.ofBits .f32 0x44800000#32 = ((1024 : ℝ) : EReal) := by
  simp [Ideal.ofBits, Ideal.ieee]
  rw [← EReal.coe_mul]
  norm_num

/-- The word of −1/2. -/
theorem ofBits_neg_half : Ideal.ofBits .f32 0xBF000000#32 = ((-(1 / 2) : ℝ) : EReal) := by
  simp [Ideal.ofBits, Ideal.ieee]
  rw [← EReal.coe_mul]
  norm_num

/-- The norms' epsilon is a positive real. -/
theorem ofBits_eps : ∃ e : ℝ, 0 < e ∧ Ideal.ofBits .f32 0x358637BD#32 = (e : EReal) := by
  refine ⟨_, ?_, by simp [Ideal.ofBits, Ideal.ieee]; rfl⟩
  norm_num

end Cert.Reals

end
-- ==== Proof.Norm.lean ====
/-
  The gradient of the root-mean-square norm on one row of 1024 features. The row's reciprocal root mean square is
  `invRms x = 1 / √(Σ x²/1024 + ε)`. A kernel forms the gradient in its folded shape
  `r · (u − x̂ · (Σ u·x̂)/1024)`, `x̂ = x·r`; differentiating the forward's lines gives `u·r + x·c + c·x` with
  `c` the cotangent of the mean square over 1024. On finite rows both are the same real number.
-/
module

public import proofs.«01_k».proof.Proof.Reals

@[expose] public section

noncomputable section

namespace Cert.Norm

open Idealize.ShloMosaic Cert.Reals

/-- A row's mean square, plus epsilon. -/
def meanSq (x : Fin 1024 → EReal) : EReal :=
  Ideal.div (∑ j, x j * x j) (Ideal.ofBits .f32 0x44800000#32) + Ideal.ofBits .f32 0x358637BD#32

/-- A row's reciprocal root mean square. -/
def invRms (x : Fin 1024 → EReal) : EReal := Ideal.rsqrt (meanSq x)

/-- The mean square's cotangent over the number of features, as differentiating the forward's lines forms it. -/
def meanCt (x u : Fin 1024 → EReal) : EReal :=
  ∑ _k : Fin 1, Ideal.div ((∑ j, x j * u j) * (Ideal.ofBits .f32 0xBF000000#32 * Ideal.div (invRms x) (meanSq x)))
    (Ideal.ofBits .f32 0x44800000#32)

/-- On a finite row the mean square plus epsilon is a positive real. -/
theorem meanSq_real (x : Fin 1024 → ℝ) : ∃ s : ℝ, 0 < s ∧ meanSq (fun j => (x j : EReal)) = (s : EReal) := by
  obtain ⟨e, he, hE⟩ := ofBits_eps
  refine ⟨(∑ j, x j * x j) / 1024 + e, ?_, ?_⟩
  · have : 0 ≤ ∑ j, x j * x j := Finset.sum_nonneg fun j _ => mul_self_nonneg _
    positivity
  · rw [meanSq, hE, ofBits_1024, EReal.coe_add, ← div_coe_coe (by norm_num), ← coe_sum]
    simp only [EReal.coe_mul]

/-- On a finite row the reciprocal root mean square is a real number whose square times the mean square is one. -/
theorem invRms_real (x : Fin 1024 → ℝ) : ∃ r s : ℝ, 0 < s ∧ r * r * s = 1 ∧ meanSq (fun j => (x j : EReal)) = (s : EReal)
    ∧ invRms (fun j => (x j : EReal)) = (r : EReal) := by
  obtain ⟨s, hs, hS⟩ := meanSq_real x
  refine ⟨(Real.sqrt s)⁻¹, s, hs, ?_, hS, by rw [invRms, hS, rsqrt_pos hs]⟩
  have h2 : Real.sqrt s * Real.sqrt s = s := Real.mul_self_sqrt hs.le
  have h1 : Real.sqrt s ≠ 0 := (Real.sqrt_pos.2 hs).ne'
  rw [← mul_inv, h2, inv_mul_cancel₀ hs.ne']

theorem isReal_invRms {x : Fin 1024 → EReal} (hx : ∀ j, IsReal (x j)) : IsReal (invRms x) := by
  obtain ⟨x, rfl⟩ := exists_real hx
  obtain ⟨r, s, -, -, -, h⟩ := invRms_real x
  exact ⟨r, h⟩

/-- THE NORM'S GRADIENT on a finite row: the folded shape is the differentiated one. -/
theorem grad_row {x u : Fin 1024 → EReal} (hx : ∀ j, IsReal (x j)) (hu : ∀ j, IsReal (u j)) (k : Fin 1024) :
    invRms x * (u k - x k * invRms x * Ideal.div (∑ j, u j * (x j * invRms x)) (Ideal.ofBits .f32 0x44800000#32))
      = u k * invRms x + x k * meanCt x u + meanCt x u * x k := by
  obtain ⟨x, rfl⟩ := exists_real hx
  obtain ⟨u, rfl⟩ := exists_real hu
  obtain ⟨r, s, hs, hrs, hS, hR⟩ := invRms_real x
  have hr : r / s = r * r * r := by rw [div_eq_iff hs.ne', mul_assoc, mul_assoc, ← mul_assoc r r s, hrs, mul_one]
  have hsum : ∑ j, u j * (x j * r) = (∑ j, x j * u j) * r := by
    rw [Finset.sum_mul]; exact Finset.sum_congr rfl fun j _ => by ring
  rw [meanCt, hR, hS, ofBits_1024, ofBits_neg_half, div_coe_coe hs.ne']
  simp only [Fin.sum_univ_one, ← EReal.coe_mul, coe_sum]
  rw [div_coe_coe (by norm_num), div_coe_coe (by norm_num)]
  simp only [← EReal.coe_mul, ← EReal.coe_add, ← EReal.coe_sub]
  rw [hr, hsum]
  congr 1
  ring

/-- Products of real values are real. -/
theorem _root_.Cert.Reals.IsReal.mul {a b : EReal} (ha : IsReal a) (hb : IsReal b) : IsReal (a * b) := by
  obtain ⟨a, rfl⟩ := ha; obtain ⟨b, rfl⟩ := hb
  exact ⟨a * b, (EReal.coe_mul a b).symm⟩

/-- Sums of real values are real. -/
theorem _root_.Cert.Reals.IsReal.add {a b : EReal} (ha : IsReal a) (hb : IsReal b) : IsReal (a + b) := by
  obtain ⟨a, rfl⟩ := ha; obtain ⟨b, rfl⟩ := hb
  exact ⟨a + b, (EReal.coe_add a b).symm⟩

theorem _root_.Cert.Reals.IsReal.sum {ι : Type*} {s : Finset ι} {f : ι → EReal} (h : ∀ i, IsReal (f i)) : IsReal (∑ i ∈ s, f i) := by
  obtain ⟨f, rfl⟩ := exists_real h
  exact ⟨_, coe_sum s f⟩

/-- The same with the residual's cotangent added. -/
theorem grad_row_add {x u : Fin 1024 → EReal} (hx : ∀ j, IsReal (x j)) (hu : ∀ j, IsReal (u j)) (r : EReal) (k : Fin 1024) :
    invRms x * (u k - x k * invRms x * Ideal.div (∑ j, u j * (x j * invRms x)) (Ideal.ofBits .f32 0x44800000#32)) + r
      = r + u k * invRms x + x k * meanCt x u + meanCt x u * x k := by
  rw [grad_row hx hu k]
  ac_rfl

/-- Row `0` of eight holds the sums, the others zeros. -/
def firstRow (s : Fin 1024 → EReal) (i : Fin 8) (k : Fin 1024) : EReal := if i.val = 0 then s k else 0

theorem sum_firstRow {ι : Type*} [Fintype ι] (s : ι → Fin 1024 → EReal) (i : Fin 8) (k : Fin 1024) :
    ∑ j, firstRow (s j) i k = firstRow (fun k => ∑ j, s j k) i k := by
  unfold firstRow
  split
  · rfl
  · exact Finset.sum_const_zero

end Cert.Norm

end
-- ==== Proof.RowStore.lean ====
/-
  A buffer of `R` rows of which a body rewrites only the first: what it holds after the store, and a load of its first row.
-/
module

public import Idealize.ShloMosaic.Lib.Pipeline.ValueKit
public import Idealize.ShloMosaic.Lib.Pipeline.ReadBack
public import Idealize.ShloMosaic.Lib.Pointwise
public import Idealize.ShloMosaic.Lib.WritesUnit

@[expose] public section

noncomputable section

namespace Cert.RowStore

open Idealize.ShloMosaic

variable {R n : ℕ}

/-- After a store of the first row: that row holds the payload, the others what they held. -/
theorem canon_row0 (hR : 0 < R) (inb) (w : FVec Ideal ⟨2, ![1, n]⟩ .f32) (L : List (View.Piece (Elt Ideal) ⟨2, ![R, n]⟩ .f32)) (i : Fin R) (k : Fin n) :
    View.canon ((⟨Rect.unit ![0, 0] ![1, n] inb, w⟩ : View.Piece (Elt Ideal) ⟨2, ![R, n]⟩ .f32) :: L) (ix2 i k)
      = if i.val = 0 then w (ix2 0 k) else View.canon L (ix2 i k) := by
  split
  · next h =>
    have e : (ix2 i k : (⟨2, ![R, n]⟩ : Shape).Idx) = (Rect.unit (s := ⟨2, ![R, n]⟩) ![0, 0] ![1, n] inb).emb (ix2 0 k) := by
      funext a
      refine Fin.ext ?_
      rw [Rect.emb_apply]
      fin_cases a <;> simp [h]
    rw [e, View.canon_cons_emb]
  · next h =>
    refine View.canon_cons_of_not_mem _ _ ?_
    intro hm
    rw [Rect.mem_set_unit] at hm
    have := hm 0
    simp at this
    omega

/-- The same over what a whole buffer held before. -/
theorem read_row0 {sig : RefSig} {κ : Kind} {sp : Space} {M : Memref sig κ sp ⟨2, ![R, n]⟩ .f32} (hM : M.IsWhole) (X : FVec Ideal ⟨2, ![R, n]⟩ .f32) (inb) (w : FVec Ideal ⟨2, ![1, n]⟩ .f32) (i : Fin R) (k : Fin n) :
    M.view.read (Elt Ideal) (M.view.writes (Elt Ideal) (hM.unread X) [(⟨Rect.unit ![0, 0] ![1, n] inb, w⟩ : View.Piece (Elt Ideal) ⟨2, ![R, n]⟩ .f32)]) (ix2 i k)
      = if i.val = 0 then w (ix2 0 k) else X (ix2 i k) := by
  split
  · next h => exact View.read_writes_cons_unit_of_mem (Val := Elt Ideal) M.view _ inb w [] (ix2 i k) (ix2 0 k) rfl fun a => by fin_cases a <;> simp [h]
  · next h =>
    refine (View.read_writes_cons_unit_of_not_mem (Val := Elt Ideal) M.view _ inb w [] (ix2 i k) rfl 0 (Or.inr ?_)).trans ?_
    · simp; omega
    · rw [View.writes_nil, hM.read_unread]

/-- A load of the first row. -/
theorem ld_row0 (X : FVec Ideal ⟨2, ![R, n]⟩ .f32) (hR : 0 < R) (inb) (k : Fin n) :
    View.ld (Val := Elt Ideal) (e' := .f32) X (Rect.unit (s := ⟨2, ![R, n]⟩) ![0, 0] ![1, n] inb) (ix2 0 k) = X (ix2 ⟨0, hR⟩ k) := by
  refine View.ld_unit_apply_of (Val := Elt Ideal) (e := .f32) X _ _ inb _ _ fun a => ?_
  fin_cases a <;> simp

end Cert.RowStore

end
-- ==== Proof.MemValue.lean ====
/-
  The gradient of the norm of the memory rows (`rms_bwd_mem`): its one block against the derivative of the norm.
-/
module

public import proofs.«01_k».proof.Proof.Norm
public import proofs.«01_k».proof.Proof.RowStore
public import proofs.«01_k».proof.Proof.Gen.KernelMemIdeal.Value
public import proofs.«01_k».proof.Proof.Gen.ReferenceMemIdeal.Read

@[expose] public section

set_option maxRecDepth 16384

noncomputable section

namespace Cert.KernelMemIdeal.Value

open Cert.KernelMemIdeal Cert.KernelMemIdeal.Gen Idealize.ShloMosaic Idealize.ShloMosaic.TcCoe Idealize.SL.Sem
open Idealize.ShloMosaic.Pipeline (Dat)
open Cert.ReferenceMemIdeal.Read Cert.Reals

/-- The gradient of the rows: the block's payload is the reference's first result. -/
theorem pay_dx {x : FVec Ideal S256x1024 .f32} {d : FVec Ideal S256x1024 .bf16} {g : FVec Ideal S1x1024 .f32}
    (hx : ∀ i, IsReal (x i)) (hd : ∀ i, IsReal (d i)) (hg : ∀ i, IsReal (g i)) (i : Fin 256) (k : Fin 1024) :
    k0_pay4 (F := Ideal) x d g (ix2 i k) = val_main_v37 (F := Ideal) d x g (ix2 i k) := by
  pointwise [k0_pay4, k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3, val_main_cst_4, val_main_cst_5, val_main_cst_6, val_main_cst_7, val_main_cst_8]
  exact Norm.grad_row (x := fun j => x (ix2 i j)) (u := fun j => d (ix2 i j) * g (ix2 0 j)) (fun j => hx _)
    (fun j => (hd _).mul (hg _)) k

/-- The gradient of the gain, in the first of eight rows. -/
theorem pay_dg (x : FVec Ideal S256x1024 .f32) (d : FVec Ideal S256x1024 .bf16) (z : FVec Ideal S1x1024 .f32) (hz : ∀ k, z (ix2 0 k) = 0) (i : Fin 8) (k : Fin 1024) :
    (if i.val = 0 then k0_pay6 (F := Ideal) x d z (ix2 0 k) else k0_pay5 (F := Ideal) (ix2 i k)) = val_main_v40 (F := Ideal) d x (ix2 i k) := by
  pointwise [k0_pay6, k0_pay5, k0_pay1, k0_pay2, k0_pay3, val_main_v38, val_main_v39, val_main_v40, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3, val_main_cst_4, val_main_cst_5, val_main_cst_6, val_main_cst_7, val_main_cst_8, hz]
  rcases i with ⟨_ | i, hi⟩
  · rw [if_pos rfl, dif_pos Nat.one_pos]
    show (_ : EReal) = _
    rw [Fin.sum_univ_one]
    exact Finset.sum_congr rfl fun j _ => mul_comm _ _
  · rw [if_neg (by simp), dif_neg (by simp)]

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

variable (m : (ℓ : Loc nD τ sig) → Buf (Elt Ideal) ℓ)

/-- The one block of each argument is the argument. -/
theorem blk0 (c : Dev nD) (t : Fin cfg0.N) : iblk m c 0 t = m ((c : Thread nD τ).loc main_arg0) := by
  funext y
  blk_point [iblk, V, idx t]
theorem blk1 (c : Dev nD) (t : Fin cfg0.N) : iblk m c 1 t = m ((c : Thread nD τ).loc main_arg1) := by
  funext y
  blk_point [iblk, V, idx t]
theorem blk2 (c : Dev nD) (t : Fin cfg0.N) : iblk m c 2 t = m ((c : Thread nD τ).loc main_arg2) := by
  funext y
  blk_point [iblk, V, idx t]

theorem final3 (c : Dev nD) (hx : ∀ i, IsReal (m ((c : Thread nD τ).loc main_arg1) i)) (hd : ∀ i, IsReal (m ((c : Thread nD τ).loc main_arg0) i)) (hg : ∀ i, IsReal (m ((c : Thread nD τ).loc main_arg2) i)) :
    (dats m 0 c).arrAt 3 (cfgs 0).N = val_main_v37 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; show (outsAt0 m c t).1 y = _; unfold outsAt0
  frame_out
  rw [blk0, blk1, blk2]
  idx_vars y
  refine (pay_dx hx hd hg _ _).trans (congrArg _ ?_)
  blk_ext [idx t]

theorem final4 (c : Dev nD) :
    (dats m 0 c).arrAt 4 (cfgs 0).N = val_main_v40 (F := Ideal) (m ((c : Thread nD τ).loc main_arg0)) (m ((c : Thread nD τ).loc main_arg1)) := by
  refine (dats m 0 c).arrAt_eq_of_covers 4 _ (by decide +kernel) fun t _ y => ?_
  blk_simp
  rw [after0_4]; show (outsAt0 m c t).2 y = _; unfold outsAt0
  frame_out
  rw [blk0, blk1]
  idx_vars y
  rw [RowStore.canon_row0 (by decide), View.readCov_fill _ _ _ _ _ (by decide), View.canon_cons_unit_lit _ _ _ (by decide)]
  refine (pay_dg _ _ _ (fun k => ?_) _ _).trans (congrArg _ ?_)
  · rw [RowStore.ld_row0 _ (by decide)]
    pointwise [k0_pay5]
  · blk_ext [idx t]

end Cert.KernelMemIdeal.Value

end
-- ==== Proof.Mem.lean ====
/-
  `rms_bwd_mem`: the claim. On finite arguments both results of the kernel are the derivative's.
-/
module

public import proofs.«01_k».proof.Defs
public import proofs.«01_k».proof.Proof.MemValue
public import proofs.«01_k».proof.Proof.Gen.ReferenceMemIdeal.Run
public import proofs.«01_k».proof.Proof.Gen.Pre_finite_mem
public import Idealize.ShloMosaic.Lib.Claim

@[expose] public section

set_option maxRecDepth 16384

noncomputable section

namespace Cert.Mem

open Idealize.ShloMosaic Idealize.ShloMosaic.TcCoe Idealize.SL.Sem
open Cert.KernelMemIdeal Cert.Reals

/-- What the precondition says of the arguments. -/
theorem finite {m : (ℓ : Loc nD τ sig) → Buf (Elt Ideal) ℓ} (h : Cert.Pre_KernelMemIdeal_finite_mem m) (c : Dev nD) :
    (∀ i, IsReal (m ((c : Thread nD τ).loc main_arg0) i)) ∧ (∀ i, IsReal (m ((c : Thread nD τ).loc main_arg1) i))
      ∧ (∀ i, IsReal (m ((c : Thread nD τ).loc main_arg2) i)) :=
  ⟨fun i => isReal_of_cmpf (congrFun (h c).1 i), fun i => isReal_of_cmpf (congrFun (h c).2.1 i), fun i => isReal_of_cmpf (congrFun (h c).2.2 i)⟩

theorem algebraic : Cert.algebraic_KernelMemIdeal_ReferenceMemIdeal_pre_finite_mem := by
  pair_intro
  · run_from Cert.KernelMemIdeal.Value.run_blocks m g
  · run_from Cert.ReferenceMemIdeal.Value.run m' g'
    · obtain ⟨hd, hx, hg⟩ := finite hpre c
      exact (Cert.ReferenceMemIdeal.Read.val_main_v37_eq _ _ _).trans (Cert.KernelMemIdeal.Value.final3 m c hx hd hg).symm
    · exact (Cert.ReferenceMemIdeal.Read.val_main_v40_eq _ _).trans (Cert.KernelMemIdeal.Value.final4 m c).symm

end Cert.Mem

end
-- ==== Proof.Softmax.lean ====
/-
  The softmax of one row of scores, and the gradient through it: what a kernel computes by one reciprocal of the row's
  sum against the quotient rule. Everything is over real entries, where the row's maximum is real and its sum positive.
-/
module

public import proofs.«01_k».proof.Proof.Norm

@[expose] public section

noncomputable section

namespace Cert.Softmax

open Idealize.ShloMosaic Cert.Reals

variable {n : ℕ}

/-- The row's maximum, from minus infinity. -/
def top (s : Fin n → EReal) : EReal := Finset.fold max (Ideal.ofBits .f32 0xFF800000#32) s Finset.univ

/-- An entry's exponential, relative to the row's maximum. -/
def expo (s : Fin n → EReal) (j : Fin n) : EReal := Ideal.exp (s j - top s)

/-- An entry's weight. -/
def weight (s : Fin n → EReal) (j : Fin n) : EReal := expo s j * Ideal.div 1 (∑ l, expo s l)

/-- The gradient of the scores, from the gradient `p` of the weights. -/
def pull (s p : Fin n → EReal) (j : Fin n) : EReal := weight s j * (p j - ∑ l, p l * weight s l)

theorem ofBits_neg_inf : Ideal.ofBits .f32 0xFF800000#32 = (⊥ : EReal) := by
  simp [Ideal.ofBits, Ideal.ieee]

theorem max_top (s : Fin n → EReal) : max (Ideal.ofBits .f32 0xFF800000#32) (top s) = top s := by
  rw [ofBits_neg_inf]; exact max_eq_right bot_le

theorem isReal_top [NeZero n] {s : Fin n → EReal} (hs : ∀ j, IsReal (s j)) : IsReal (top s) := by
  have h : top s = Finset.univ.sup s := by
    unfold top; rw [ofBits_neg_inf]; rfl
  obtain ⟨j, -, hj⟩ := Finset.exists_mem_eq_sup Finset.univ ⟨0, Finset.mem_univ _⟩ s
  rw [h, hj]; exact hs j

/-- Over real scores the exponentials are positive reals, and so is their sum. -/
theorem expo_real [NeZero n] {s : Fin n → EReal} (hs : ∀ j, IsReal (s j)) : ∃ e : Fin n → ℝ, (∀ j, 0 < e j) ∧ expo s = fun j => (e j : EReal) := by
  obtain ⟨t, ht⟩ := isReal_top hs
  obtain ⟨r, rfl⟩ := exists_real hs
  refine ⟨fun j => Real.exp (r j - t), fun j => Real.exp_pos _, ?_⟩
  funext j
  unfold expo
  rw [ht, ← EReal.coe_sub, Ideal.exp_coe]

theorem weight_real [NeZero n] {s : Fin n → EReal} (hs : ∀ j, IsReal (s j)) : ∃ e : Fin n → ℝ, expo s = (fun j => (e j : EReal)) ∧ (0 : ℝ) < ∑ j, e j
    ∧ weight s = fun j => ((e j / ∑ l, e l : ℝ) : EReal) := by
  obtain ⟨e, he, h⟩ := expo_real hs
  have hz : (0 : ℝ) < ∑ j, e j := Finset.sum_pos (fun j _ => he j) ⟨0, Finset.mem_univ _⟩
  refine ⟨e, h, hz, ?_⟩
  funext j
  unfold weight
  rw [h]
  simp only []
  rw [coe_sum, ← EReal.coe_one, div_coe_coe hz.ne', ← EReal.coe_mul, mul_one_div]

theorem isReal_weight [NeZero n] {s : Fin n → EReal} (hs : ∀ j, IsReal (s j)) (j : Fin n) : IsReal (weight s j) := by
  obtain ⟨e, -, -, h⟩ := weight_real hs
  rw [h]; exact ⟨_, rfl⟩

/-- The quotient is the product with the reciprocal. -/
theorem div_eq_weight [NeZero n] {s : Fin n → EReal} (hs : ∀ j, IsReal (s j)) (j : Fin n) : Ideal.div (expo s j) (∑ l, expo s l) = weight s j := by
  obtain ⟨e, h, hz, hw⟩ := weight_real hs
  rw [hw, h]
  simp only []
  rw [coe_sum, div_coe_coe hz.ne']

theorem isReal_pull [NeZero n] {s p : Fin n → EReal} (hs : ∀ j, IsReal (s j)) (hp : ∀ j, IsReal (p j)) (j : Fin n) : IsReal (pull s p j) := by
  obtain ⟨e, -, hz, hw⟩ := weight_real hs
  obtain ⟨p, rfl⟩ := exists_real hp
  unfold pull
  rw [hw]
  simp only [← EReal.coe_mul]
  rw [coe_sum, ← EReal.coe_sub, ← EReal.coe_mul]
  exact ⟨_, rfl⟩

/-- The gradient by the quotient rule: the numerator's part and the denominator's. -/
theorem quotient_rule [NeZero n] {s p : Fin n → EReal} (hs : ∀ j, IsReal (s j)) (hp : ∀ j, IsReal (p j)) (j : Fin n) :
    (Ideal.div (p j) (∑ l, expo s l) + -∑ l, p l * Ideal.div 1 ((∑ a, expo s a) * ∑ a, expo s a) * expo s l) * expo s j = pull s p j := by
  obtain ⟨e, h, hz, hw⟩ := weight_real hs
  obtain ⟨p, rfl⟩ := exists_real hp
  unfold pull
  rw [hw, h]
  simp only []
  rw [coe_sum, ← EReal.coe_mul, div_coe_coe hz.ne', ← EReal.coe_one, div_coe_coe (mul_pos hz hz).ne']
  simp only [← EReal.coe_mul]
  rw [coe_sum, coe_sum, ← EReal.coe_neg, ← EReal.coe_add, ← EReal.coe_sub, ← EReal.coe_mul, ← EReal.coe_mul, EReal.coe_eq_coe_iff]
  have hz' := hz.ne'
  have e1 : ∑ l, p l * (1 / ((∑ a, e a) * ∑ a, e a)) * e l = (∑ l, p l * e l) / ((∑ a, e a) * ∑ a, e a) := by
    rw [Finset.sum_div]; exact Finset.sum_congr rfl fun l _ => by ring
  have e2 : ∑ l, p l * (e l / ∑ a, e a) = (∑ l, p l * e l) / ∑ a, e a := by
    rw [Finset.sum_div]; exact Finset.sum_congr rfl fun l _ => by ring
  rw [e1, e2]
  field_simp
  ring

end Cert.Softmax

end
-- ==== Proof.XattRef.lean ====
/-
  The gradient of the cross-attention to the memory rows, head by head: what one row computes, and the derivative of
  the reference read at an entry.
-/
module

public import proofs.«01_k».proof.Proof.Softmax
public import proofs.«01_k».proof.Proof.Gen.ReferenceXattIdeal.Read

@[expose] public section

set_option maxRecDepth 16384

noncomputable section

namespace Cert.XattRef

open Cert.ReferenceXattIdeal Cert.ReferenceXattIdeal.Gen Idealize.ShloMosaic Idealize.ShloMosaic.TcCoe Idealize.SL.Sem
open Cert.ReferenceXattIdeal.Read Cert.Reals

/-- Column `d` of head `h`. -/
def col (h : Fin 4) (d : Fin 256) : Fin 1024 := ⟨h.val * 256 + d.val, by omega⟩

/-- The scale of the scores, one sixteenth. -/
def scale : EReal := Ideal.ofBits .f32 0x3D800000#32

/-- A row against the rows of a head. -/
def pairing (q : Fin 256 → EReal) (k : Fin 256 → Fin 256 → EReal) (m : Fin 256) : EReal := ∑ d, q d * k m d

/-- The scaled scores of a row. -/
def score (q : Fin 256 → EReal) (k : Fin 256 → Fin 256 → EReal) (m : Fin 256) : EReal := pairing q k m * scale

/-- The gradient of the scaled scores of a row. -/
def pull (q d : Fin 256 → EReal) (k v : Fin 256 → Fin 256 → EReal) (m : Fin 256) : EReal := Softmax.pull (score q k) (pairing d v) m

/-- The rows of head `h`. -/
def head {n : ℕ} (q : FVec Ideal ⟨2, ![n, 1024]⟩ .bf16) (h : Fin 4) (i : Fin n) (d : Fin 256) : EReal := q (ix2 i (col h d))

theorem isReal_scale : IsReal scale := ⟨1 / 16, by
  unfold scale
  simp [Ideal.ofBits, Ideal.ieee]
  rw [← EReal.coe_mul]
  norm_num⟩

theorem isReal_head {n : ℕ} {q : FVec Ideal ⟨2, ![n, 1024]⟩ .bf16} (hq : ∀ i, IsReal (q i)) (h : Fin 4) (i : Fin n) (d : Fin 256) : IsReal (head q h i d) := hq _

theorem isReal_pairing {q : Fin 256 → EReal} {k : Fin 256 → Fin 256 → EReal} (hq : ∀ d, IsReal (q d)) (hk : ∀ m d, IsReal (k m d)) (m : Fin 256) :
    IsReal (pairing q k m) := IsReal.sum fun d => (hq d).mul (hk m d)

theorem isReal_score {q : Fin 256 → EReal} {k : Fin 256 → Fin 256 → EReal} (hq : ∀ d, IsReal (q d)) (hk : ∀ m d, IsReal (k m d)) (m : Fin 256) :
    IsReal (score q k m) := (isReal_pairing hq hk m).mul isReal_scale

theorem isReal_pull {q d : Fin 256 → EReal} {k v : Fin 256 → Fin 256 → EReal} (hq : ∀ c, IsReal (q c)) (hd : ∀ c, IsReal (d c)) (hk : ∀ m c, IsReal (k m c))
    (hv : ∀ m c, IsReal (v m c)) (m : Fin 256) : IsReal (pull q d k v m) :=
  Softmax.isReal_pull (isReal_score hq hk) (isReal_pairing hd hv) m

/-- The maximum over the last axis. -/

theorem fold_max (v : FVec Ideal S4x8192x256 .f32) (c : FVec Ideal S_ .f32) (hr : S4x8192x256.ReducesTo [2] S4x8192) (hu : 0 < S_.numel) (j : S4x8192.Idx) :
    Host.reduce FloatOps.maximumf v c hr hu j = Finset.fold max (c (Shape.Idx.first hu)) (fun k => v (ix3 (j 0) (j 1) k)) Finset.univ := by
  simp only [pointwise]
variable (q : FVec Ideal S8192x1024 .bf16) (k : FVec Ideal S256x1024 .bf16)

theorem s_at (h : Fin 4) (i : Fin 8192) (j : Fin 256) : val_main_v9 (F := Ideal) q k (ix3 h i j) = score (head q h i) (head k h) j := by
  pointwise [val_main_v0, val_main_v1, val_main_v2, val_main_v3, val_main_v4, val_main_v5, val_main_v6, val_main_v7, val_main_v8, val_main_v9, val_main_cst]
  rfl

theorem fold_at (h : Fin 4) (i : Fin 8192) : val_main_v10 (F := Ideal) q k (ix2 h i) = Finset.fold max (val_main_cst_0 (F := Ideal) (Shape.Idx.first h_S_)) (fun j => val_main_v9 (F := Ideal) q k (ix3 h i j)) Finset.univ :=
  fold_max _ _ _ _ _

theorem first_top_at (h : Fin 4) (i : Fin 8192) : val_main_v10 (F := Ideal) q k (ix2 h i) = Softmax.top (score (head q h i) (head k h)) :=
  (fold_at q k h i).trans (by
    rw [show (fun j => val_main_v9 (F := Ideal) q k (ix3 h i j)) = score (head q h i) (head k h) from funext (s_at q k h i)]
    rfl)

theorem top_at (h : Fin 4) (i : Fin 8192) : val_main_v17 (F := Ideal) q k (ix2 h i) = Softmax.top (score (head q h i) (head k h)) := by
  rw [val_main_v17_apply, first_top_at, val_main_v16_apply, val_main_cst_2_apply]
  exact Softmax.max_top _

theorem e_at (h : Fin 4) (i : Fin 8192) (j : Fin 256) : val_main_v30 (F := Ideal) q k (ix3 h i j) = Softmax.expo (score (head q h i) (head k h)) j := by
  pointwise [val_main_v27, val_main_v28, val_main_v29, val_main_v30]
  rw [s_at, top_at]
  rfl

theorem z_at (h : Fin 4) (i : Fin 8192) : val_main_v31 (F := Ideal) q k (ix2 h i) = ∑ j, Softmax.expo (score (head q h i) (head k h)) j := by
  pointwise [val_main_v31, val_main_cst_8]
  simp only [e_at]

theorem p_at (h : Fin 4) (i : Fin 8192) (j : Fin 256) : val_main_v34 (F := Ideal) q k (ix3 h i j) = Ideal.div (Softmax.expo (score (head q h i) (head k h)) j) (∑ j, Softmax.expo (score (head q h i) (head k h)) j) := by
  pointwise [val_main_v32, val_main_v33, val_main_v34]
  rw [e_at, z_at]

section
variable (v : FVec Ideal S256x1024 .bf16) (d : FVec Ideal S8192x1024 .bf16)

theorem pairing_at (h : Fin 4) (i : Fin 8192) (j : Fin 256) : val_main_v43 (F := Ideal) v d (ix3 h i j) = pairing (head d h i) (head v h) j := by
  pointwise [val_main_v2, val_main_v3, val_main_v6, val_main_v41, val_main_v42, val_main_v43]
  rfl

variable {q k v d}
variable (hq : ∀ i, IsReal (q i)) (hk : ∀ i, IsReal (k i)) (hv : ∀ i, IsReal (v i)) (hd : ∀ i, IsReal (d i))
include hq hk

theorem weight_at (h : Fin 4) (i : Fin 8192) (j : Fin 256) : val_main_v34 (F := Ideal) q k (ix3 h i j) = Softmax.weight (score (head q h i) (head k h)) j :=
  (p_at q k h i j).trans (Softmax.div_eq_weight (isReal_score (isReal_head hq h i) (isReal_head hk h)) j)

include hv hd

theorem pull_at (h : Fin 4) (i : Fin 8192) (j : Fin 256) :
    val_main_v57 (F := Ideal) q k v d (ix3 h i j) = pull (head q h i) (head d h i) (head k h) (head v h) j := by
  pointwise [val_main_v57, val_main_v56, val_main_v55, val_main_v54, val_main_v53, val_main_v52, val_main_v51, val_main_v50, val_main_v49, val_main_v48, val_main_v47, val_main_v46, val_main_v37, val_main_v36, val_main_v35, val_main_v32, val_main_cst_9, val_main_cst_10, val_main_cst_11]
  simp only [e_at, z_at, pairing_at]
  show (_ + ∑ _x : Fin 1, _) * _ = _
  rw [Fin.sum_univ_one]
  exact Softmax.quotient_rule (isReal_score (isReal_head hq h i) (isReal_head hk h)) (isReal_pairing (isReal_head hd h i) (isReal_head hv h)) j

/-- The gradient of the queries. -/
theorem dq_at (h : Fin 4) (i : Fin 8192) (c : Fin 256) :
    val_main_v67 (F := Ideal) q k v d (ix2 i (col h c)) = ∑ j, pull (head q h i) (head d h i) (head k h) (head v h) j * scale * head k h j c := by
  unfold col
  pointwise [val_main_v67, val_main_v66, val_main_v63, val_main_v62, val_main_v59, val_main_v58, val_main_cst_12, val_main_v5, val_main_v1]
  simp only [pull_at hq hk hv hd]
  rfl

/-- The gradient of the keys. -/
theorem dk_at (h : Fin 4) (n : Fin 256) (c : Fin 256) :
    val_main_v65 (F := Ideal) q k v d (ix2 n (col h c)) = ∑ i, pull (head q h i) (head d h i) (head k h) (head v h) n * scale * head q h i c := by
  unfold col
  pointwise [val_main_v65, val_main_v61, val_main_v60, val_main_v59, val_main_v58, val_main_cst_12, val_main_v4, val_main_v0]
  simp only [pull_at hq hk hv hd]
  rfl

omit hv hd

/-- The gradient of the values. -/
theorem dv_at (h : Fin 4) (n : Fin 256) (c : Fin 256) :
    val_main_v64 (F := Ideal) q k d (ix2 n (col h c)) = ∑ i, head d h i c * Softmax.weight (score (head q h i) (head k h)) n := by
  unfold col
  pointwise [val_main_v64, val_main_v45, val_main_v44, val_main_v42, val_main_v41, val_main_v3]
  simp only [weight_at hq hk]
  rfl
end

end Cert.XattRef

end
-- ==== Proof.XattValue.lean ====
/-
  The gradient of the cross-attention (`_xatt_bwd`): what one grid point of 512 rows stores and adds, and the three
  arrays after the sixteen points.
-/
module

public import proofs.«01_k».proof.Proof.XattRef
public import proofs.«01_k».proof.Proof.Gen.KernelXattIdeal.Value
public import Idealize.ShloMosaic.Lib.Pipeline.ReadBack

@[expose] public section

set_option maxRecDepth 16384

noncomputable section

namespace Cert.KernelXattIdeal.Value

open Cert.KernelXattIdeal Cert.KernelXattIdeal.Gen Idealize.ShloMosaic Idealize.ShloMosaic.TcCoe Idealize.SL.Sem
open Idealize.ShloMosaic.Pipeline (Dat)
open Cert.Reals Cert.XattRef

/-! ## One head of one point -/

/-- The gradient of the queries at row `i`. -/
def dqTile {n : ℕ} (q d : Fin n → Fin 256 → EReal) (k v : Fin 256 → Fin 256 → EReal) (i : Fin n) (j : Fin 256) : EReal :=
  (∑ r, pull (q i) (d i) k v r * k r j) * scale

/-- What the point's rows add to the gradient of the keys. -/
def dkTile {n : ℕ} (q d : Fin n → Fin 256 → EReal) (k v : Fin 256 → Fin 256 → EReal) (r j : Fin 256) : EReal :=
  (∑ i, pull (q i) (d i) k v r * q i j) * scale

/-- What the point's rows add to the gradient of the values. -/
def dvTile {n : ℕ} (q d : Fin n → Fin 256 → EReal) (k : Fin 256 → Fin 256 → EReal) (r j : Fin 256) : EReal :=
  ∑ i, Softmax.weight (score (q i) k) r * d i j

/-- A tile by rows and columns. -/
def tile {n : ℕ} (q : FVec Ideal ⟨2, ![n, 256]⟩ .bf16) (i : Fin n) (c : Fin 256) : EReal := q (ix2 i c)

theorem dq0 (q d : FVec Ideal S512x256 .bf16) (k v : FVec Ideal S256x256 .bf16) (i : Fin 512) (j : Fin 256) :
    k0_pay28 (F := Ideal) (k0_pay11 d v) (k0_pay18 (k0_pay7 q k)) k (ix2 i j) = dqTile (tile q) (tile d) (tile k) (tile v) i j := by
  pointwise [k0_pay28, k0_pay24, k0_pay11, k0_pay18, k0_pay7]
  rfl
theorem dk0 (q d : FVec Ideal S512x256 .bf16) (k v : FVec Ideal S256x256 .bf16) (a : FVec Ideal S256x256 .f32) (i : Fin 256) (j : Fin 256) :
    k0_pay30 (F := Ideal) (k0_pay24 (k0_pay11 d v) (k0_pay18 (k0_pay7 q k))) a q (ix2 i j) = a (ix2 i j) + dkTile (tile q) (tile d) (tile k) (tile v) i j := by
  pointwise [k0_pay30, k0_pay24, k0_pay11, k0_pay18, k0_pay7]
  rfl
theorem dv0 (q d : FVec Ideal S512x256 .bf16) (k : FVec Ideal S256x256 .bf16) (a : FVec Ideal S256x256 .f32) (i : Fin 256) (j : Fin 256) :
    k0_pay29 (F := Ideal) (k0_pay18 (k0_pay7 q k)) a d (ix2 i j) = a (ix2 i j) + dvTile (tile q) (tile d) (tile k) i j := by
  pointwise [k0_pay29, k0_pay18, k0_pay7]
  rfl
theorem dq1 (q d : FVec Ideal S512x256 .bf16) (k v : FVec Ideal S256x256 .bf16) (i : Fin 512) (j : Fin 256) :
    k0_pay31 (F := Ideal) (k0_pay25 (k0_pay12 d v) (k0_pay15 (k0_pay8 q k)) (k0_pay19 (k0_pay8 q k)) k0_pay20) k (ix2 i j) = dqTile (tile q) (tile d) (tile k) (tile v) i j := by
  pointwise [k0_pay31, k0_pay25, k0_pay21, k0_pay12, k0_pay15, k0_pay8, k0_pay19, k0_pay20]
  rfl
theorem dk1 (q d : FVec Ideal S512x256 .bf16) (k v : FVec Ideal S256x256 .bf16) (a : FVec Ideal S256x256 .f32) (i : Fin 256) (j : Fin 256) :
    k0_pay33 (F := Ideal) (k0_pay25 (k0_pay12 d v) (k0_pay15 (k0_pay8 q k)) (k0_pay19 (k0_pay8 q k)) k0_pay20) a q (ix2 i j) = a (ix2 i j) + dkTile (tile q) (tile d) (tile k) (tile v) i j := by
  pointwise [k0_pay33, k0_pay25, k0_pay21, k0_pay12, k0_pay15, k0_pay8, k0_pay19, k0_pay20]
  rfl
theorem dv1 (q d : FVec Ideal S512x256 .bf16) (k : FVec Ideal S256x256 .bf16) (a : FVec Ideal S256x256 .f32) (i : Fin 256) (j : Fin 256) :
    k0_pay32 (F := Ideal) (k0_pay21 (k0_pay15 (k0_pay8 q k)) (k0_pay19 (k0_pay8 q k)) k0_pay20) a d (ix2 i j) = a (ix2 i j) + dvTile (tile q) (tile d) (tile k) i j := by
  pointwise [k0_pay32, k0_pay21, k0_pay15, k0_pay8, k0_pay19, k0_pay20]
  rfl
theorem dq2 (q d : FVec Ideal S512x256 .bf16) (k v : FVec Ideal S256x256 .bf16) (i : Fin 512) (j : Fin 256) :
    k0_pay34 (F := Ideal) (k0_pay26 (k0_pay13 d v) (k0_pay16 (k0_pay9 q k))) k (ix2 i j) = dqTile (tile q) (tile d) (tile k) (tile v) i j := by
  pointwise [k0_pay34, k0_pay26, k0_pay22, k0_pay13, k0_pay16, k0_pay9]
  rfl
theorem dk2 (q d : FVec Ideal S512x256 .bf16) (k v : FVec Ideal S256x256 .bf16) (a : FVec Ideal S256x256 .f32) (i : Fin 256) (j : Fin 256) :
    k0_pay1 (F := Ideal) (k0_pay36 a) (k0_pay37 (k0_pay26 (k0_pay13 d v) (k0_pay16 (k0_pay9 q k))) q) k0_pay38 (ix2 i j) = a (ix2 i j) + dkTile (tile q) (tile d) (tile k) (tile v) i j := by
  pointwise [k0_pay1, k0_pay36, k0_pay37, k0_pay26, k0_pay22, k0_pay13, k0_pay16, k0_pay9, k0_pay38]
  rfl
theorem dv2 (q d : FVec Ideal S512x256 .bf16) (k : FVec Ideal S256x256 .bf16) (a : FVec Ideal S256x256 .f32) (i : Fin 256) (j : Fin 256) :
    k0_pay35 (F := Ideal) (k0_pay22 (k0_pay16 (k0_pay9 q k))) a d (ix2 i j) = a (ix2 i j) + dvTile (tile q) (tile d) (tile k) i j := by
  pointwise [k0_pay35, k0_pay22, k0_pay16, k0_pay9]
  rfl
theorem dq3 (q d : FVec Ideal S512x256 .bf16) (k v : FVec Ideal S256x256 .bf16) (i : Fin 512) (j : Fin 256) :
    k0_pay2 (F := Ideal) (k0_pay27 (k0_pay14 d v) (k0_pay17 (k0_pay10 q k))) k (ix2 i j) = dqTile (tile q) (tile d) (tile k) (tile v) i j := by
  pointwise [k0_pay2, k0_pay27, k0_pay23, k0_pay14, k0_pay17, k0_pay10]
  rfl
theorem dk3 (q d : FVec Ideal S512x256 .bf16) (k v : FVec Ideal S256x256 .bf16) (a : FVec Ideal S256x256 .f32) (i : Fin 256) (j : Fin 256) :
    k0_pay4 (F := Ideal) (k0_pay27 (k0_pay14 d v) (k0_pay17 (k0_pay10 q k))) a q (ix2 i j) = a (ix2 i j) + dkTile (tile q) (tile d) (tile k) (tile v) i j := by
  pointwise [k0_pay4, k0_pay27, k0_pay23, k0_pay14, k0_pay17, k0_pay10]
  rfl
theorem dv3 (q d : FVec Ideal S512x256 .bf16) (k : FVec Ideal S256x256 .bf16) (a : FVec Ideal S256x256 .f32) (i : Fin 256) (j : Fin 256) :
    k0_pay3 (F := Ideal) (k0_pay23 (k0_pay17 (k0_pay10 q k))) a d (ix2 i j) = a (ix2 i j) + dvTile (tile q) (tile d) (tile k) i j := by
  pointwise [k0_pay3, k0_pay23, k0_pay17, k0_pay10]
  rfl

/-! ## One point: the four heads side by side -/

/-- The head and the column in it of a column. -/
def headOf (y : Fin 1024) : Fin 4 := ⟨y.val / 256, by omega⟩
def laneOf (y : Fin 1024) : Fin 256 := ⟨y.val % 256, by omega⟩

theorem col_headOf (y : Fin 1024) : col (headOf y) (laneOf y) = y := Fin.ext (by show y.val / 256 * 256 + y.val % 256 = y.val; omega)
theorem headOf_eq {y : Fin 1024} {h : Fin 4} {j : Fin 256} (e : y.val = h.val * 256 + j.val) : headOf y = h := Fin.ext (by show y.val / 256 = h.val; omega)
theorem laneOf_eq {y : Fin 1024} {h : Fin 4} {j : Fin 256} (e : y.val = h.val * 256 + j.val) : laneOf y = j := Fin.ext (by show y.val % 256 = j.val; omega)

/-- The tile of a head, loaded. -/
theorem tile_ld {n : ℕ} (B : FVec Ideal ⟨2, ![n, 1024]⟩ .bf16) (h : Fin 4) {o : ℕ} (ho : o = h.val * 256) (inb) :
    tile (n := n) (View.ld (Val := Elt Ideal) (e' := .bf16) B (Rect.unit ![0, o] ![n, 256] inb)) = head B h := by
  funext i c
  refine View.ld_unit_apply_of (Val := Elt Ideal) (e := .bf16) B ![0, o] ![n, 256] inb (ix2 i c) _ fun a => ?_
  match a with
  | ⟨0, _⟩ => exact (Nat.zero_add _).symm
  | ⟨1, _⟩ => show h.val * 256 + c.val = o + c.val; rw [ho]

/-- A row and a column of the tile of a head, in the block. -/
theorem row_emb {n k o : ℕ} (inb) (i : Fin n) (j : Fin 256) :
    ((Rect.unit (s := ⟨2, ![k, 1024]⟩) ![0, o] ![n, 256] inb).emb (ix2 i j) 0).val = i.val := by
  show 0 + 1 * i.val = i.val; omega
theorem col_emb {n k o : ℕ} (inb) (h : Fin 4) (ho : o = h.val * 256) (i : Fin n) (j : Fin 256) :
    ((Rect.unit (s := ⟨2, ![k, 1024]⟩) ![0, o] ![n, 256] inb).emb (ix2 i j) 1).val = h.val * 256 + j.val := by
  show o + 1 * j.val = h.val * 256 + j.val; omega

section
variable (Q D : FVec Ideal S512x1024 .bf16) (K V : FVec Ideal S256x1024 .bf16)

def dqBlock : FVec Ideal S512x1024 .bf16 := fun y => dqTile (head Q (headOf (y 1))) (head D (headOf (y 1))) (head K (headOf (y 1))) (head V (headOf (y 1))) (y 0) (laneOf (y 1))
def dkBlock : FVec Ideal S256x1024 .f32 := fun y => dkTile (head Q (headOf (y 1))) (head D (headOf (y 1))) (head K (headOf (y 1))) (head V (headOf (y 1))) (y 0) (laneOf (y 1))
def dvBlock : FVec Ideal S256x1024 .f32 := fun y => dvTile (head Q (headOf (y 1))) (head D (headOf (y 1))) (head K (headOf (y 1))) (y 0) (laneOf (y 1))

theorem dqBlock_at {y : S512x1024.Idx} {i : Fin 512} {h : Fin 4} {j : Fin 256} (e0 : (y 0).val = i.val) (e1 : (y 1).val = h.val * 256 + j.val) :
    dqBlock Q D K V y = dqTile (head Q h) (head D h) (head K h) (head V h) i j := by
  unfold dqBlock; rw [headOf_eq e1, laneOf_eq e1, show y 0 = i from Fin.ext e0]
theorem dkBlock_at {y : S256x1024.Idx} {i : Fin 256} {h : Fin 4} {j : Fin 256} (e0 : (y 0).val = i.val) (e1 : (y 1).val = h.val * 256 + j.val) :
    dkBlock Q D K V y = dkTile (head Q h) (head D h) (head K h) (head V h) i j := by
  unfold dkBlock; rw [headOf_eq e1, laneOf_eq e1, show y 0 = i from Fin.ext e0]
theorem dvBlock_at {y : S256x1024.Idx} {i : Fin 256} {h : Fin 4} {j : Fin 256} (e0 : (y 0).val = i.val) (e1 : (y 1).val = h.val * 256 + j.val) :
    dvBlock Q D K y = dvTile (head Q h) (head D h) (head K h) i j := by
  unfold dvBlock; rw [headOf_eq e1, laneOf_eq e1, show y 0 = i from Fin.ext e0]
end

variable (m : (ℓ : Loc nD τ sig) → Buf (Elt Ideal) ℓ)

theorem dq_A (c : Dev nD) (t : Fin cfg0.N) (h : t.val % 16 = 0) (y : S512x1024.Idx) :
    (outsAt0 m c t.val t.isLt).1 y = dqBlock (iblk m c 0 t) (iblk m c 3 t) (iblk m c 1 t) (iblk m c 2 t) y := by
  rw [outsAt0_A m c t h]
  frame_out
  refine View.canon_append_of_piecesOf (Val := Elt Ideal) (e := .bf16) (dqBlock (iblk m c 0 t) (iblk m c 3 t) (iblk m c 1 t) (iblk m c 2 t)) [] [_, _, _, _] ⟨?_, ?_, ?_, ?_, trivial⟩ y (View.cover_of_tiledL _ ![512, 256] (by sl_kernel_rfl) y)
  · intro x
    idx_vars x
    refine (dq3 _ _ _ _ _ _).trans ?_
    rw [tile_ld _ 3 (o := 768) rfl, tile_ld _ 3 (o := 768) rfl, tile_ld _ 3 (o := 768) rfl, tile_ld _ 3 (o := 768) rfl]
    exact (dqBlock_at _ _ _ _ (row_emb _ _ _) (col_emb _ 3 (o := 768) rfl _ _)).symm
  · intro x
    idx_vars x
    refine (dq2 _ _ _ _ _ _).trans ?_
    rw [tile_ld _ 2 (o := 512) rfl, tile_ld _ 2 (o := 512) rfl, tile_ld _ 2 (o := 512) rfl, tile_ld _ 2 (o := 512) rfl]
    exact (dqBlock_at _ _ _ _ (row_emb _ _ _) (col_emb _ 2 (o := 512) rfl _ _)).symm
  · intro x
    idx_vars x
    refine (dq1 _ _ _ _ _ _).trans ?_
    rw [tile_ld _ 1 (o := 256) rfl, tile_ld _ 1 (o := 256) rfl, tile_ld _ 1 (o := 256) rfl, tile_ld _ 1 (o := 256) rfl]
    exact (dqBlock_at _ _ _ _ (row_emb _ _ _) (col_emb _ 1 (o := 256) rfl _ _)).symm
  · intro x
    idx_vars x
    refine (dq0 _ _ _ _ _ _).trans ?_
    rw [tile_ld _ 0 (o := 0) rfl, tile_ld _ 0 (o := 0) rfl, tile_ld _ 0 (o := 0) rfl, tile_ld _ 0 (o := 0) rfl]
    exact (dqBlock_at _ _ _ _ (row_emb _ _ _) (col_emb _ 0 (o := 0) rfl _ _)).symm

theorem dq_B (c : Dev nD) (t : Fin cfg0.N) (h : ¬t.val % 16 = 0) (y : S512x1024.Idx) :
    (outsAt0 m c t.val t.isLt).1 y = dqBlock (iblk m c 0 t) (iblk m c 3 t) (iblk m c 1 t) (iblk m c 2 t) y := by
  rw [outsAt0_B m c t h]
  frame_out
  refine View.canon_append_of_piecesOf (Val := Elt Ideal) (e := .bf16) (dqBlock (iblk m c 0 t) (iblk m c 3 t) (iblk m c 1 t) (iblk m c 2 t)) [] [_, _, _, _] ⟨?_, ?_, ?_, ?_, trivial⟩ y (View.cover_of_tiledL _ ![512, 256] (by sl_kernel_rfl) y)
  · intro x
    idx_vars x
    refine (dq3 _ _ _ _ _ _).trans ?_
    rw [tile_ld _ 3 (o := 768) rfl, tile_ld _ 3 (o := 768) rfl, tile_ld _ 3 (o := 768) rfl, tile_ld _ 3 (o := 768) rfl]
    exact (dqBlock_at _ _ _ _ (row_emb _ _ _) (col_emb _ 3 (o := 768) rfl _ _)).symm
  · intro x
    idx_vars x
    refine (dq2 _ _ _ _ _ _).trans ?_
    rw [tile_ld _ 2 (o := 512) rfl, tile_ld _ 2 (o := 512) rfl, tile_ld _ 2 (o := 512) rfl, tile_ld _ 2 (o := 512) rfl]
    exact (dqBlock_at _ _ _ _ (row_emb _ _ _) (col_emb _ 2 (o := 512) rfl _ _)).symm
  · intro x
    idx_vars x
    refine (dq1 _ _ _ _ _ _).trans ?_
    rw [tile_ld _ 1 (o := 256) rfl, tile_ld _ 1 (o := 256) rfl, tile_ld _ 1 (o := 256) rfl, tile_ld _ 1 (o := 256) rfl]
    exact (dqBlock_at _ _ _ _ (row_emb _ _ _) (col_emb _ 1 (o := 256) rfl _ _)).symm
  · intro x
    idx_vars x
    refine (dq0 _ _ _ _ _ _).trans ?_
    rw [tile_ld _ 0 (o := 0) rfl, tile_ld _ 0 (o := 0) rfl, tile_ld _ 0 (o := 0) rfl, tile_ld _ 0 (o := 0) rfl]
    exact (dqBlock_at _ _ _ _ (row_emb _ _ _) (col_emb _ 0 (o := 0) rfl _ _)).symm

theorem dk_A (c : Dev nD) (t : Fin cfg0.N) (h : t.val % 16 = 0) (y : S256x1024.Idx) :
    (outsAt0 m c t.val t.isLt).2.1 y = (0 : EReal) + dkBlock (iblk m c 0 t) (iblk m c 3 t) (iblk m c 1 t) (iblk m c 2 t) y := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (fun y => (0 : EReal) + dkBlock (iblk m c 0 t) (iblk m c 3 t) (iblk m c 1 t) (iblk m c 2 t) y) [_] [_, _, _, _] ⟨?_, ?_, ?_, ?_, trivial⟩ y (View.cover_of_tiledL _ ![256, 256] (by sl_kernel_rfl) y)
  · intro x
    idx_vars x
    refine (dk3 _ _ _ _ _ _ _ ).trans (congrArg₂ (· + ·) ?_ ?_)
    · exact Ideal.ofBits_zero .f32
    · rw [tile_ld _ 3 (o := 768) rfl, tile_ld _ 3 (o := 768) rfl, tile_ld _ 3 (o := 768) rfl, tile_ld _ 3 (o := 768) rfl]
      exact (dkBlock_at _ _ _ _ (row_emb _ _ _) (col_emb _ 3 (o := 768) rfl _ _)).symm
  · intro x
    idx_vars x
    refine (dk2 _ _ _ _ _ _ _ ).trans (congrArg₂ (· + ·) ?_ ?_)
    · exact Ideal.ofBits_zero .f32
    · rw [tile_ld _ 2 (o := 512) rfl, tile_ld _ 2 (o := 512) rfl, tile_ld _ 2 (o := 512) rfl, tile_ld _ 2 (o := 512) rfl]
      exact (dkBlock_at _ _ _ _ (row_emb _ _ _) (col_emb _ 2 (o := 512) rfl _ _)).symm
  · intro x
    idx_vars x
    refine (dk1 _ _ _ _ _ _ _ ).trans (congrArg₂ (· + ·) ?_ ?_)
    · exact Ideal.ofBits_zero .f32
    · rw [tile_ld _ 1 (o := 256) rfl, tile_ld _ 1 (o := 256) rfl, tile_ld _ 1 (o := 256) rfl, tile_ld _ 1 (o := 256) rfl]
      exact (dkBlock_at _ _ _ _ (row_emb _ _ _) (col_emb _ 1 (o := 256) rfl _ _)).symm
  · intro x
    idx_vars x
    refine (dk0 _ _ _ _ _ _ _ ).trans (congrArg₂ (· + ·) ?_ ?_)
    · exact Ideal.ofBits_zero .f32
    · rw [tile_ld _ 0 (o := 0) rfl, tile_ld _ 0 (o := 0) rfl, tile_ld _ 0 (o := 0) rfl, tile_ld _ 0 (o := 0) rfl]
      exact (dkBlock_at _ _ _ _ (row_emb _ _ _) (col_emb _ 0 (o := 0) rfl _ _)).symm

theorem dk_B (c : Dev nD) (t : Fin cfg0.N) (h : ¬t.val % 16 = 0) (y : S256x1024.Idx) :
    (outsAt0 m c t.val t.isLt).2.1 y = (outsAt0 m c (t.val - 1) (Nat.lt_of_le_of_lt (Nat.sub_le _ _) t.isLt)).2.1 y + dkBlock (iblk m c 0 t) (iblk m c 3 t) (iblk m c 1 t) (iblk m c 2 t) y := by
  rw [outsAt0_B m c t h]
  frame_out
  refine View.canon_append_of_piecesOf (Val := Elt Ideal) (e := .f32) (fun y => (outsAt0 m c (t.val - 1) (Nat.lt_of_le_of_lt (Nat.sub_le _ _) t.isLt)).2.1 y + dkBlock (iblk m c 0 t) (iblk m c 3 t) (iblk m c 1 t) (iblk m c 2 t) y) [] [_, _, _, _] ⟨?_, ?_, ?_, ?_, trivial⟩ y (View.cover_of_tiledL _ ![256, 256] (by sl_kernel_rfl) y)
  · intro x
    idx_vars x
    refine (dk3 _ _ _ _ _ _ _ ).trans (congrArg₂ (· + ·) ?_ ?_)
    · rfl
    · rw [tile_ld _ 3 (o := 768) rfl, tile_ld _ 3 (o := 768) rfl, tile_ld _ 3 (o := 768) rfl, tile_ld _ 3 (o := 768) rfl]
      exact (dkBlock_at _ _ _ _ (row_emb _ _ _) (col_emb _ 3 (o := 768) rfl _ _)).symm
  · intro x
    idx_vars x
    refine (dk2 _ _ _ _ _ _ _ ).trans (congrArg₂ (· + ·) ?_ ?_)
    · rfl
    · rw [tile_ld _ 2 (o := 512) rfl, tile_ld _ 2 (o := 512) rfl, tile_ld _ 2 (o := 512) rfl, tile_ld _ 2 (o := 512) rfl]
      exact (dkBlock_at _ _ _ _ (row_emb _ _ _) (col_emb _ 2 (o := 512) rfl _ _)).symm
  · intro x
    idx_vars x
    refine (dk1 _ _ _ _ _ _ _ ).trans (congrArg₂ (· + ·) ?_ ?_)
    · rfl
    · rw [tile_ld _ 1 (o := 256) rfl, tile_ld _ 1 (o := 256) rfl, tile_ld _ 1 (o := 256) rfl, tile_ld _ 1 (o := 256) rfl]
      exact (dkBlock_at _ _ _ _ (row_emb _ _ _) (col_emb _ 1 (o := 256) rfl _ _)).symm
  · intro x
    idx_vars x
    refine (dk0 _ _ _ _ _ _ _ ).trans (congrArg₂ (· + ·) ?_ ?_)
    · rfl
    · rw [tile_ld _ 0 (o := 0) rfl, tile_ld _ 0 (o := 0) rfl, tile_ld _ 0 (o := 0) rfl, tile_ld _ 0 (o := 0) rfl]
      exact (dkBlock_at _ _ _ _ (row_emb _ _ _) (col_emb _ 0 (o := 0) rfl _ _)).symm

theorem dv_A (c : Dev nD) (t : Fin cfg0.N) (h : t.val % 16 = 0) (y : S256x1024.Idx) :
    (outsAt0 m c t.val t.isLt).2.2 y = (0 : EReal) + dvBlock (iblk m c 0 t) (iblk m c 3 t) (iblk m c 1 t) y := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (fun y => (0 : EReal) + dvBlock (iblk m c 0 t) (iblk m c 3 t) (iblk m c 1 t) y) [_] [_, _, _, _] ⟨?_, ?_, ?_, ?_, trivial⟩ y (View.cover_of_tiledL _ ![256, 256] (by sl_kernel_rfl) y)
  · intro x
    idx_vars x
    refine (dv3 _ _ _ _ _ _ ).trans (congrArg₂ (· + ·) ?_ ?_)
    · exact Ideal.ofBits_zero .f32
    · rw [tile_ld _ 3 (o := 768) rfl, tile_ld _ 3 (o := 768) rfl, tile_ld _ 3 (o := 768) rfl]
      exact (dvBlock_at _ _ _ (row_emb _ _ _) (col_emb _ 3 (o := 768) rfl _ _)).symm
  · intro x
    idx_vars x
    refine (dv2 _ _ _ _ _ _ ).trans (congrArg₂ (· + ·) ?_ ?_)
    · exact Ideal.ofBits_zero .f32
    · rw [tile_ld _ 2 (o := 512) rfl, tile_ld _ 2 (o := 512) rfl, tile_ld _ 2 (o := 512) rfl]
      exact (dvBlock_at _ _ _ (row_emb _ _ _) (col_emb _ 2 (o := 512) rfl _ _)).symm
  · intro x
    idx_vars x
    refine (dv1 _ _ _ _ _ _ ).trans (congrArg₂ (· + ·) ?_ ?_)
    · exact Ideal.ofBits_zero .f32
    · rw [tile_ld _ 1 (o := 256) rfl, tile_ld _ 1 (o := 256) rfl, tile_ld _ 1 (o := 256) rfl]
      exact (dvBlock_at _ _ _ (row_emb _ _ _) (col_emb _ 1 (o := 256) rfl _ _)).symm
  · intro x
    idx_vars x
    refine (dv0 _ _ _ _ _ _ ).trans (congrArg₂ (· + ·) ?_ ?_)
    · exact Ideal.ofBits_zero .f32
    · rw [tile_ld _ 0 (o := 0) rfl, tile_ld _ 0 (o := 0) rfl, tile_ld _ 0 (o := 0) rfl]
      exact (dvBlock_at _ _ _ (row_emb _ _ _) (col_emb _ 0 (o := 0) rfl _ _)).symm

theorem dv_B (c : Dev nD) (t : Fin cfg0.N) (h : ¬t.val % 16 = 0) (y : S256x1024.Idx) :
    (outsAt0 m c t.val t.isLt).2.2 y = (outsAt0 m c (t.val - 1) (Nat.lt_of_le_of_lt (Nat.sub_le _ _) t.isLt)).2.2 y + dvBlock (iblk m c 0 t) (iblk m c 3 t) (iblk m c 1 t) y := by
  rw [outsAt0_B m c t h]
  frame_out
  refine View.canon_append_of_piecesOf (Val := Elt Ideal) (e := .f32) (fun y => (outsAt0 m c (t.val - 1) (Nat.lt_of_le_of_lt (Nat.sub_le _ _) t.isLt)).2.2 y + dvBlock (iblk m c 0 t) (iblk m c 3 t) (iblk m c 1 t) y) [] [_, _, _, _] ⟨?_, ?_, ?_, ?_, trivial⟩ y (View.cover_of_tiledL _ ![256, 256] (by sl_kernel_rfl) y)
  · intro x
    idx_vars x
    refine (dv3 _ _ _ _ _ _ ).trans (congrArg₂ (· + ·) ?_ ?_)
    · rfl
    · rw [tile_ld _ 3 (o := 768) rfl, tile_ld _ 3 (o := 768) rfl, tile_ld _ 3 (o := 768) rfl]
      exact (dvBlock_at _ _ _ (row_emb _ _ _) (col_emb _ 3 (o := 768) rfl _ _)).symm
  · intro x
    idx_vars x
    refine (dv2 _ _ _ _ _ _ ).trans (congrArg₂ (· + ·) ?_ ?_)
    · rfl
    · rw [tile_ld _ 2 (o := 512) rfl, tile_ld _ 2 (o := 512) rfl, tile_ld _ 2 (o := 512) rfl]
      exact (dvBlock_at _ _ _ (row_emb _ _ _) (col_emb _ 2 (o := 512) rfl _ _)).symm
  · intro x
    idx_vars x
    refine (dv1 _ _ _ _ _ _ ).trans (congrArg₂ (· + ·) ?_ ?_)
    · rfl
    · rw [tile_ld _ 1 (o := 256) rfl, tile_ld _ 1 (o := 256) rfl, tile_ld _ 1 (o := 256) rfl]
      exact (dvBlock_at _ _ _ (row_emb _ _ _) (col_emb _ 1 (o := 256) rfl _ _)).symm
  · intro x
    idx_vars x
    refine (dv0 _ _ _ _ _ _ ).trans (congrArg₂ (· + ·) ?_ ?_)
    · rfl
    · rw [tile_ld _ 0 (o := 0) rfl, tile_ld _ 0 (o := 0) rfl, tile_ld _ 0 (o := 0) rfl]
      exact (dvBlock_at _ _ _ (row_emb _ _ _) (col_emb _ 0 (o := 0) rfl _ _)).symm

/-! ## The three arrays -/

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![0, 0] ∧ win0_6.index t = ![0, 0] :=
  (by decide +kernel : ∀ t : Fin grid0.N, _)

section
variable (c : Dev nD) (t : Fin cfg0.N)

theorem rows_q (h : Fin 4) (i : Fin 512) (hi : t.val * 512 + i.val < 8192) :
    head (n := 512) (iblk m c 0 t) h i = head (n := 8192) (m ((c : Thread nD τ).loc main_arg0)) h ⟨t.val * 512 + i.val, hi⟩ := by
  funext d
  unfold head
  blk_point [iblk, V, idx t]
theorem rows_d (h : Fin 4) (i : Fin 512) (hi : t.val * 512 + i.val < 8192) :
    head (n := 512) (iblk m c 3 t) h i = head (n := 8192) (m ((c : Thread nD τ).loc main_arg3)) h ⟨t.val * 512 + i.val, hi⟩ := by
  funext d
  unfold head
  blk_point [iblk, V, idx t]
theorem blk_k : iblk m c 1 t = m ((c : Thread nD τ).loc main_arg1) := by
  funext y
  blk_point [iblk, V, idx t]
theorem blk_v : iblk m c 2 t = m ((c : Thread nD τ).loc main_arg2) := by
  funext y
  blk_point [iblk, V, idx t]
end

/-- Real terms: a scale common to the sum. -/
theorem sum_scale {n : ℕ} {f g : Fin n → EReal} {a : EReal} (hf : ∀ i, IsReal (f i)) (hg : ∀ i, IsReal (g i)) (ha : IsReal a) :
    (∑ i, f i * g i) * a = ∑ i, f i * a * g i := by
  obtain ⟨f, rfl⟩ := exists_real hf
  obtain ⟨g, rfl⟩ := exists_real hg
  obtain ⟨a, rfl⟩ := ha
  simp only [← EReal.coe_mul]
  rw [coe_sum, coe_sum, ← EReal.coe_mul, EReal.coe_eq_coe_iff, Finset.sum_mul]
  exact Finset.sum_congr rfl fun i _ => by ring

section
variable (c : Dev nD)
variable (hq : ∀ i, IsReal (m ((c : Thread nD τ).loc main_arg0) i)) (hk : ∀ i, IsReal (m ((c : Thread nD τ).loc main_arg1) i))
variable (hv : ∀ i, IsReal (m ((c : Thread nD τ).loc main_arg2) i)) (hd : ∀ i, IsReal (m ((c : Thread nD τ).loc main_arg3) i))
include hq hk

theorem final6 : (dats m 0 c).arrAt 6 (cfgs 0).N = Cert.ReferenceXattIdeal.Read.val_main_v64 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  idx_vars y
  rw [after0_6, Pipeline.eq_sum_fin_of_reset_step_apply_of_flush (fun n h => (outsAt0 m c n h).2.2) 16 (fun _ => (0 : EReal)) (fun t => dvBlock (iblk m c 0 t) (iblk m c 3 t) (iblk m c 1 t))
    (fun t h j => dv_A m c t h j) (fun t h j => dv_B m c t h j) t ((flush0_6 t).mp hf) _, zero_add]
  have hy : (win0_6.blk t).view.emb (ix2 y0 y1) = ix2 y0 (col (headOf y1) (laneOf y1)) := by
    rw [col_headOf]
    blk_ext [idx t]
  rw [hy, dv_at hq hk]
  have hN : t.val < 16 := t.isLt
  refine (Fin.sum_fin_congr fun s => ?_).trans (Fin.sum_mul_add_fin 16 512 (fun i : Fin 8192 => head (n := 8192) (m ((c : Thread nD τ).loc main_arg3)) (headOf y1) i (laneOf y1) * Softmax.weight (score (head (n := 8192) (m ((c : Thread nD τ).loc main_arg0)) (headOf y1) i) (head (n := 256) (m ((c : Thread nD τ).loc main_arg1)) (headOf y1))) y0))
  refine (dvBlock_at _ _ _ (y := ix2 y0 y1) (i := y0) (h := headOf y1) (j := laneOf y1) rfl (congrArg Fin.val (col_headOf y1)).symm).trans ?_
  unfold dvTile
  refine Fin.sum_fin_congr fun k => ?_
  rw [blk_k, rows_q m c _ _ _ (by show (16 * (t.val / 16) + s.val) * 512 + k.val < 8192; omega), rows_d m c _ _ _ (by show (16 * (t.val / 16) + s.val) * 512 + k.val < 8192; omega), mul_comm]
  have e : 16 * (t.val / 16) + s.val = s.val := by omega
  simp only [e]

include hv hd

theorem final5 : (dats m 0 c).arrAt 5 (cfgs 0).N = Cert.ReferenceXattIdeal.Read.val_main_v65 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  idx_vars y
  rw [after0_5, Pipeline.eq_sum_fin_of_reset_step_apply_of_flush (fun n h => (outsAt0 m c n h).2.1) 16 (fun _ => (0 : EReal)) (fun t => dkBlock (iblk m c 0 t) (iblk m c 3 t) (iblk m c 1 t) (iblk m c 2 t))
    (fun t h j => dk_A m c t h j) (fun t h j => dk_B m c t h j) t ((flush0_5 t).mp hf) _, zero_add]
  have hy : (win0_5.blk t).view.emb (ix2 y0 y1) = ix2 y0 (col (headOf y1) (laneOf y1)) := by
    rw [col_headOf]
    blk_ext [idx t]
  rw [hy, dk_at hq hk hv hd]
  have hN : t.val < 16 := t.isLt
  refine (Fin.sum_fin_congr fun s => ?_).trans (Fin.sum_mul_add_fin 16 512 (fun i : Fin 8192 => pull (head (n := 8192) (m ((c : Thread nD τ).loc main_arg0)) (headOf y1) i) (head (n := 8192) (m ((c : Thread nD τ).loc main_arg3)) (headOf y1) i) (head (n := 256) (m ((c : Thread nD τ).loc main_arg1)) (headOf y1)) (head (n := 256) (m ((c : Thread nD τ).loc main_arg2)) (headOf y1)) y0 * scale * head (n := 8192) (m ((c : Thread nD τ).loc main_arg0)) (headOf y1) i (laneOf y1)))
  refine (dkBlock_at _ _ _ _ (y := ix2 y0 y1) (i := y0) (h := headOf y1) (j := laneOf y1) rfl (congrArg Fin.val (col_headOf y1)).symm).trans ?_
  have e : 16 * (t.val / 16) + s.val = s.val := by omega
  have eq : ∀ k : Fin 512, head (n := 512) (iblk m c 0 ⟨16 * (t.val / 16) + s.val, Pipeline.run_point_lt_of_flush t ((flush0_5 t).mp hf) s⟩) (headOf y1) k = head (n := 8192) (m ((c : Thread nD τ).loc main_arg0)) (headOf y1) ⟨s.val * 512 + k.val, by omega⟩ := by
    intro k
    rw [rows_q m c _ _ _ (by show (16 * (t.val / 16) + s.val) * 512 + k.val < 8192; omega)]
    simp only [e]
  have ed : ∀ k : Fin 512, head (n := 512) (iblk m c 3 ⟨16 * (t.val / 16) + s.val, Pipeline.run_point_lt_of_flush t ((flush0_5 t).mp hf) s⟩) (headOf y1) k = head (n := 8192) (m ((c : Thread nD τ).loc main_arg3)) (headOf y1) ⟨s.val * 512 + k.val, by omega⟩ := by
    intro k
    rw [rows_d m c _ _ _ (by show (16 * (t.val / 16) + s.val) * 512 + k.val < 8192; omega)]
    simp only [e]
  unfold dkTile
  rw [blk_k, blk_v]
  simp only [eq, ed]
  exact sum_scale (fun i => isReal_pull (isReal_head hq _ _) (isReal_head hd _ _) (isReal_head hk _) (isReal_head hv _) _) (fun i => isReal_head hq _ _ _) isReal_scale

theorem final4 : (dats m 0 c).arrAt 4 (cfgs 0).N = Cert.ReferenceXattIdeal.Read.val_main_v67 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  idx_vars y
  have hN : t.val < 16 := t.isLt
  have hy : (win0_4.blk t).view.emb (ix2 y0 y1) = ix2 (⟨t.val * 512 + y0.val, by omega⟩ : Fin 8192) (col (headOf y1) (laneOf y1)) := by
    rw [col_headOf]
    blk_ext [idx t]
  rw [after0_4, hy, dq_at hq hk hv hd]
  have ed : (outsAt0 m c t.val t.isLt).1 (ix2 y0 y1) = dqBlock (iblk m c 0 t) (iblk m c 3 t) (iblk m c 1 t) (iblk m c 2 t) (ix2 y0 y1) := by
    by_cases h : t.val % 16 = 0
    · exact dq_A m c t h _
    · exact dq_B m c t h _
  refine ed.trans ?_
  refine (dqBlock_at _ _ _ _ (y := ix2 y0 y1) (i := y0) (h := headOf y1) (j := laneOf y1) rfl (congrArg Fin.val (col_headOf y1)).symm).trans ?_
  unfold dqTile
  rw [blk_k, blk_v, rows_q m c _ _ _ (by show t.val * 512 + y0.val < 8192; omega), rows_d m c _ _ _ (by show t.val * 512 + y0.val < 8192; omega)]
  exact sum_scale (fun i => isReal_pull (isReal_head hq _ _) (isReal_head hd _ _) (isReal_head hk _) (isReal_head hv _) _) (fun i => isReal_head hk _ _ _) isReal_scale
end

end Cert.KernelXattIdeal.Value

end
-- ==== Proof.Xatt.lean ====
/-
  The claim on the gradient of the cross-attention.
-/
module

public import proofs.«01_k».proof.Defs
public import proofs.«01_k».proof.Proof.XattValue
public import proofs.«01_k».proof.Proof.Gen.ReferenceXattIdeal.Run
public import proofs.«01_k».proof.Proof.Gen.Pre_finite_xatt
public import Idealize.ShloMosaic.Lib.Claim

@[expose] public section

set_option maxRecDepth 16384

noncomputable section

namespace Cert.Xatt

open Idealize.ShloMosaic Idealize.ShloMosaic.TcCoe Idealize.SL.Sem
open Cert.KernelXattIdeal Cert.Reals

/-- What the precondition says of the arguments. -/
theorem finite {m : (ℓ : Loc nD τ sig) → Buf (Elt Ideal) ℓ} (h : Cert.Pre_KernelXattIdeal_finite_xatt m) (c : Dev nD) :
    (∀ i, IsReal (m ((c : Thread nD τ).loc main_arg0) i)) ∧ (∀ i, IsReal (m ((c : Thread nD τ).loc main_arg1) i))
      ∧ (∀ i, IsReal (m ((c : Thread nD τ).loc main_arg2) i)) ∧ (∀ i, IsReal (m ((c : Thread nD τ).loc main_arg3) i)) :=
  ⟨fun i => isReal_of_cmpf (congrFun (h c).1 i), fun i => isReal_of_cmpf (congrFun (h c).2.1 i), fun i => isReal_of_cmpf (congrFun (h c).2.2.1 i), fun i => isReal_of_cmpf (congrFun (h c).2.2.2 i)⟩

theorem algebraic : Cert.algebraic_KernelXattIdeal_ReferenceXattIdeal_pre_finite_xatt := by
  pair_intro
  · run_from Cert.KernelXattIdeal.Value.run_blocks m g
  · run_from Cert.ReferenceXattIdeal.Value.run m' g'
    · obtain ⟨hq, hk, hv, hd⟩ := finite hpre c
      refine (Cert.ReferenceXattIdeal.Read.val_main_v67_eq m' c).trans ?_
      rw [(hagree c).1, (hagree c).2.1, (hagree c).2.2.1, (hagree c).2.2.2]
      exact (Cert.KernelXattIdeal.Value.final4 m c hq hk hv hd).symm
    · obtain ⟨hq, hk, hv, hd⟩ := finite hpre c
      refine (Cert.ReferenceXattIdeal.Read.val_main_v65_eq m' c).trans ?_
      rw [(hagree c).1, (hagree c).2.1, (hagree c).2.2.1, (hagree c).2.2.2]
      exact (Cert.KernelXattIdeal.Value.final5 m c hq hk hv hd).symm
    · obtain ⟨hq, hk, -, -⟩ := finite hpre c
      exact (Cert.ReferenceXattIdeal.Read.val_main_v64_eq _ _ _).trans (Cert.KernelXattIdeal.Value.final6 m c hq hk).symm

end Cert.Xatt

end
-- ==== Proof.HnRef.lean ====
/-
  `d_hn_rms`: the reference's results at one entry.
-/
module

public import proofs.«01_k».proof.Proof.Norm
public import proofs.«01_k».proof.Proof.Gen.ReferenceHnIdeal.Read

@[expose] public section

set_option maxRecDepth 16384

noncomputable section

namespace Cert.HnRef

open Idealize.ShloMosaic Idealize.ShloMosaic.TcCoe Idealize.SL.Sem
open Cert.ReferenceHnIdeal.Read Cert.Reals Cert.Norm

variable (a : FVec Ideal ⟨2, ![8192, 1024]⟩ .bf16) (w : FVec Ideal ⟨3, ![1, 1024, 1024]⟩ .f32) (x r : FVec Ideal ⟨2, ![8192, 1024]⟩ .f32) (g : FVec Ideal ⟨2, ![1, 1024]⟩ .f32)

/-- The cotangent of the norm's result. -/
def ct (n : Fin 8192) (k : Fin 1024) : EReal := ∑ c : Fin 1024, a (ix2 n c) * w (ix3 0 k c)

theorem rows_at (n : Fin 8192) (k : Fin 1024) :
    val_main_v41 (F := Ideal) a w x r g (ix2 n k)
      = r (ix2 n k) + ct a w n k * g (ix2 0 k) * invRms (fun j => x (ix2 n j)) + x (ix2 n k) * meanCt (fun j => x (ix2 n j)) (fun j => ct a w n j * g (ix2 0 j))
        + meanCt (fun j => x (ix2 n j)) (fun j => ct a w n j * g (ix2 0 j)) * x (ix2 n k) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41]
  rfl

theorem copy_at (n : Fin 8192) (k : Fin 1024) :
    val_main_v43 (F := Ideal) a w x r g (ix2 n k) = val_main_v41 (F := Ideal) a w x r g (ix2 n k) := rfl

/-- What a row adds to the gain's gradient. -/
def gainRow (n : Fin 8192) (k : Fin 1024) : EReal := ct a w n k * (x (ix2 n k) * invRms (fun j => x (ix2 n j)))

theorem gain_at (i : Fin 8) (k : Fin 1024) :
    val_main_v45 (F := Ideal) a w x (ix2 i k)
      = firstRow (fun k => ∑ n : Fin 8192, gainRow a w x n k) i k := by
  unfold firstRow gainRow
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v42, val_main_v43, val_main_cst_8, val_main_v44, val_main_v45]
  rcases i with ⟨_ | i, hi⟩
  · rw [if_pos rfl, dif_pos Nat.one_pos]
    show (_ : EReal) = _
    rw [Fin.sum_univ_one]
    exact Finset.sum_congr rfl fun j _ => mul_comm _ _
  · rw [if_neg (by simp), dif_neg (by simp)]

end Cert.HnRef

end
-- ==== Proof.HnValue.lean ====
/-
  The gradient of the norm before the cross-attention (`d_hn_rms`): sixteen blocks of 512 rows.
-/
module

public import proofs.«01_k».proof.Proof.HnRef
public import proofs.«01_k».proof.Proof.RowStore
public import proofs.«01_k».proof.Proof.Gen.KernelHnIdeal.Value

@[expose] public section

set_option maxRecDepth 16384

noncomputable section

namespace Cert.KernelHnIdeal.Value

open Cert.KernelHnIdeal Cert.KernelHnIdeal.Gen Idealize.ShloMosaic Idealize.ShloMosaic.TcCoe Idealize.SL.Sem
open Idealize.ShloMosaic.Pipeline (Dat)
open Cert.ReferenceHnIdeal.Read Cert.Reals Cert.Norm

section
variable (a : FVec Ideal S512x1024 .bf16) (w : FVec Ideal S1x1024x1024 .bf16) (x : FVec Ideal S512x1024 .f32) (g : FVec Ideal S1x1024 .f32) (r : FVec Ideal S512x1024 .f32)

/-- A block's cotangent of the norm's result. -/
def prod (i : Fin 512) (k : Fin 1024) : EReal := ∑ c : Fin 1024, a (ix2 i c) * w (ix3 0 k c)

theorem pay_rows (i : Fin 512) (k : Fin 1024) :
    k0_pay6 (F := Ideal) a w x g r (ix2 i k)
      = invRms (fun j => x (ix2 i j)) * (prod a w i k * g (ix2 0 k) - x (ix2 i k) * invRms (fun j => x (ix2 i j))
          * Ideal.div (∑ j, prod a w i j * g (ix2 0 j) * (x (ix2 i j) * invRms (fun j => x (ix2 i j)))) (Ideal.ofBits .f32 0x44800000#32)) + r (ix2 i k) := by
  pointwise [k0_pay6, k0_pay5, k0_pay4, k0_pay3]
  rfl

/-- What a block adds to the gain's gradient. -/
def gainTerm (k : Fin 1024) : EReal := ∑ i : Fin 512, prod a w i k * (x (ix2 i k) * invRms (fun j => x (ix2 i j)))

/-- A row of a block against the reference's row of which it is a copy. -/
theorem rows_match {a w x g r} {A : FVec Ideal S8192x1024 .bf16} {W : FVec Ideal S1x1024x1024 .f32} {X R : FVec Ideal S8192x1024 .f32} {i : Fin 512} {n : Fin 8192}
    (ha : ∀ l, a (ix2 i l) = A (ix2 n l)) (hw : ∀ k l, w (ix3 0 k l) = W (ix3 0 k l)) (hx : ∀ l, x (ix2 i l) = X (ix2 n l)) (hr : ∀ l, r (ix2 i l) = R (ix2 n l))
    (rA : ∀ y, IsReal (A y)) (rW : ∀ y, IsReal (W y)) (rX : ∀ y, IsReal (X y)) (rg : ∀ y, IsReal (g y)) (k : Fin 1024) :
    k0_pay6 (F := Ideal) a w x g r (ix2 i k) = val_main_v41 (F := Ideal) A W X R g (ix2 n k) := by
  have hp : ∀ l, prod a w i l = HnRef.ct A W n l := fun l => Finset.sum_congr rfl fun j _ => congrArg₂ (· * ·) (ha j) (hw l j)
  rw [pay_rows, HnRef.rows_at]
  simp only [hp, hx, hr]
  have hu : ∀ j, IsReal (HnRef.ct A W n j * g (ix2 0 j)) := by
    intro j
    unfold HnRef.ct
    exact IsReal.mul (IsReal.sum fun l => IsReal.mul (rA (ix2 n l)) (rW (ix3 0 j l))) (rg (ix2 0 j))
  exact grad_row_add (x := fun j => X (ix2 n j)) (u := fun j => HnRef.ct A W n j * g (ix2 0 j)) (fun j => rX (ix2 n j)) hu (R (ix2 n k)) k

theorem pay_gain (z : FVec Ideal S1x1024 .f32) (k : Fin 1024) :
    k0_pay1 (F := Ideal) (k0_pay3 (F := Ideal) a w) (k0_pay5 (F := Ideal) x) z (ix2 0 k) = z (ix2 0 k) + gainTerm a w x k := by
  pointwise [k0_pay1, k0_pay5, k0_pay4, k0_pay3]
  rfl
end

theorem idx : ∀ t : Fin cfg0.N, win0_0.index t = ![t.val, 0] ∧ win0_1.index t = ![0, 0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

variable (m : (ℓ : Loc nD τ sig) → Buf (Elt Ideal) ℓ)

section
variable (c : Dev nD) (t : Fin cfg0.N) (i : Fin 512) (h : t.val * 512 + i.val < 8192)

theorem blk_a (k : Fin 1024) : iblk m c 0 t (ix2 i k) = m ((c : Thread nD τ).loc main_arg0) (ix2 ⟨t.val * 512 + i.val, h⟩ k) := by
  blk_point [iblk, V, idx t]
theorem blk_x (k : Fin 1024) : iblk m c 2 t (ix2 i k) = m ((c : Thread nD τ).loc main_arg2) (ix2 ⟨t.val * 512 + i.val, h⟩ k) := by
  blk_point [iblk, V, idx t]
theorem blk_r (k : Fin 1024) : iblk m c 3 t (ix2 i k) = m ((c : Thread nD τ).loc main_arg3) (ix2 ⟨t.val * 512 + i.val, h⟩ k) := by
  blk_point [iblk, V, idx t]
theorem blk_g : iblk m c 4 t = m ((c : Thread nD τ).loc main_arg4) := by
  funext y
  blk_point [iblk, V, idx t]
theorem blk_w (k l : Fin 1024) : iblk m c 1 t (ix3 0 k l) = m ((c : Thread nD τ).loc main_arg1) (ix3 0 k l) := by
  blk_point [iblk, V, idx t]

theorem prod_blk (k : Fin 1024) :
    prod (iblk m c 0 t) (iblk m c 1 t) i k = HnRef.ct (m ((c : Thread nD τ).loc main_arg0)) (m ((c : Thread nD τ).loc main_arg1)) ⟨t.val * 512 + i.val, h⟩ k :=
  Finset.sum_congr rfl fun l _ => congrArg₂ (· * ·) (blk_a m c t i h l) (blk_w m c t k l)
end

/-- The rows at one point. -/
theorem out_rows (c : Dev nD) (t : Fin cfg0.N) (i : Fin 512) (k : Fin 1024) :
    (outsAt0 m c t.val t.isLt).1 (ix2 i k) = k0_pay6 (F := Ideal) (iblk m c 0 t) (iblk m c 1 t) (iblk m c 2 t) (iblk m c 4 t) (iblk m c 3 t) (ix2 i k) := by
  by_cases h : t.val % 16 = 0
  · rw [outsAt0_A m c t h]
    frame_out
  · rw [outsAt0_B m c t h]
    frame_out

/-- Their copy in the narrow format. -/
theorem out_copy (c : Dev nD) (t : Fin cfg0.N) (i : Fin 512) (k : Fin 1024) :
    (outsAt0 m c t.val t.isLt).2.1 (ix2 i k) = k0_pay6 (F := Ideal) (iblk m c 0 t) (iblk m c 1 t) (iblk m c 2 t) (iblk m c 4 t) (iblk m c 3 t) (ix2 i k) := by
  by_cases h : t.val % 16 = 0
  · rw [outsAt0_A m c t h]
    frame_out
    rfl
  · rw [outsAt0_B m c t h]
    frame_out
    rfl

/-- What a point adds to the sums. -/
def term (c : Dev nD) (t : Fin cfg0.N) (y : S8x1024.Idx) : EReal :=
  firstRow (gainTerm (iblk m c 0 t) (iblk m c 1 t) (iblk m c 2 t)) (y 0) (y 1)

theorem sums_A (c : Dev nD) (t : Fin cfg0.N) (h : t.val % 16 = 0) (y : S8x1024.Idx) :
    (outsAt0 m c t.val t.isLt).2.2 y = (0 : EReal) + term m c t y := by
  rw [outsAt0_A m c t h]
  frame_out
  idx_vars y
  rw [RowStore.canon_row0 (by decide), View.readCov_fill _ _ _ _ _ (by decide), View.canon_cons_unit_lit _ _ _ (by decide)]
  show _ = 0 + firstRow _ y0 y1
  unfold firstRow
  split
  · rw [pay_gain, RowStore.ld_row0 _ (by decide)]
    exact congrArg (· + _) (Ideal.ofBits_zero .f32)
  · rw [add_zero]
    exact Ideal.ofBits_zero .f32

theorem sums_B (c : Dev nD) (t : Fin cfg0.N) (h : ¬t.val % 16 = 0) (y : S8x1024.Idx) :
    (outsAt0 m c t.val t.isLt).2.2 y = (outsAt0 m c (t.val - 1) (Nat.lt_of_le_of_lt (Nat.sub_le _ _) t.isLt)).2.2 y + term m c t y := by
  rw [outsAt0_B m c t h]
  frame_out
  idx_vars y
  rw [RowStore.read_row0]
  show _ = _ + firstRow _ y0 y1
  unfold firstRow
  split
  · next h0 =>
    rw [pay_gain, RowStore.ld_row0 _ (by decide)]
    exact congrArg (fun i => (outsAt0 m c (t.val - 1) (Nat.lt_of_le_of_lt (Nat.sub_le _ _) t.isLt)).2.2 (ix2 i y1) + _) (Fin.ext h0.symm)
  · rw [add_zero]

section
variable (c : Dev nD) (ha : ∀ i, IsReal (m ((c : Thread nD τ).loc main_arg0) i)) (hw : ∀ i, IsReal (m ((c : Thread nD τ).loc main_arg1) i))
  (hx : ∀ i, IsReal (m ((c : Thread nD τ).loc main_arg2) i)) (hg : ∀ i, IsReal (m ((c : Thread nD τ).loc main_arg4) i))
include ha hw hx hg

/-- A row of a block is the reference's row. -/
theorem rows_eq (t : Fin cfg0.N) (i : Fin 512) (h : t.val * 512 + i.val < 8192) (k : Fin 1024) :
    k0_pay6 (F := Ideal) (iblk m c 0 t) (iblk m c 1 t) (iblk m c 2 t) (iblk m c 4 t) (iblk m c 3 t) (ix2 i k)
      = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + i.val, h⟩ k) := by
  rw [blk_g]
  exact rows_match (fun l => blk_a m c t i h l) (fun k l => blk_w m c t k l) (fun l => blk_x m c t i h l) (fun l => blk_r m c t i h l) ha hw hx hg k

theorem final5 : (dats m 0 c).arrAt 5 (cfgs 0).N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  idx_vars y
  have hN : t.val < 16 := t.isLt
  rw [after0_5]
  refine (out_rows m c t y0 y1).trans ((rows_eq m c ha hw hx hg t y0 (by omega) y1).trans (congrArg _ ?_))
  blk_ext [idx t]

theorem final6 : (dats m 0 c).arrAt 6 (cfgs 0).N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  idx_vars y
  have hN : t.val < 16 := t.isLt
  rw [after0_6]
  refine (out_copy m c t y0 y1).trans ((rows_eq m c ha hw hx hg t y0 (by omega) y1).trans ((HnRef.copy_at _ _ _ _ _ _ _).symm.trans (congrArg _ ?_)))
  blk_ext [idx t]
end

/-- What a point adds, by the reference's rows. -/
theorem term_rows (c : Dev nD) (t : Fin cfg0.N) (s : Fin 16) (e : t.val = s.val) (k : Fin 1024) :
    gainTerm (iblk m c 0 t) (iblk m c 1 t) (iblk m c 2 t) k
      = ∑ i : Fin 512, HnRef.gainRow (m ((c : Thread nD τ).loc main_arg0)) (m ((c : Thread nD τ).loc main_arg1)) (m ((c : Thread nD τ).loc main_arg2)) ⟨s.val * 512 + i.val, by omega⟩ k := by
  unfold gainTerm HnRef.gainRow
  refine Finset.sum_congr rfl fun i _ => ?_
  have hs : t.val * 512 + i.val < 8192 := by omega
  simp only [prod_blk m c t i hs, blk_x m c t i hs, e]

theorem final7 (c : Dev nD) : (dats m 0 c).arrAt 7 (cfgs 0).N = val_main_v45 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  idx_vars y
  rw [after0_7, Pipeline.eq_sum_fin_of_reset_step_apply_of_flush (fun n h => (outsAt0 m c n h).2.2) 16 (fun _ => (0 : EReal)) (fun t => term m c t)
    (fun t h j => sums_A m c t h j) (fun t h j => sums_B m c t h j) t ((flush0_7 t).mp hf) _, zero_add]
  have hy : (win0_7.blk t).view.emb (ix2 y0 y1) = ix2 y0 y1 := by blk_ext [idx t]
  have hN : t.val < 16 := t.isLt
  rw [hy, HnRef.gain_at]
  refine (sum_firstRow (fun s : Fin 16 => gainTerm (iblk m c 0 ⟨16 * (t.val / 16) + s.val, Pipeline.run_point_lt_of_flush t ((flush0_7 t).mp hf) s⟩) (iblk m c 1 ⟨16 * (t.val / 16) + s.val, Pipeline.run_point_lt_of_flush t ((flush0_7 t).mp hf) s⟩) (iblk m c 2 ⟨16 * (t.val / 16) + s.val, Pipeline.run_point_lt_of_flush t ((flush0_7 t).mp hf) s⟩)) y0 y1).trans (congrArg (firstRow · y0 y1) (funext fun k => ?_))
  refine (Finset.sum_congr rfl fun s _ => term_rows m c ⟨16 * (t.val / 16) + s.val, Pipeline.run_point_lt_of_flush t ((flush0_7 t).mp hf) s⟩ s (by show 16 * (t.val / 16) + s.val = s.val; omega) k).trans ?_
  exact Fin.sum_mul_add_fin 16 512 (fun n : Fin 8192 => HnRef.gainRow (m ((c : Thread nD τ).loc main_arg0)) (m ((c : Thread nD τ).loc main_arg1)) (m ((c : Thread nD τ).loc main_arg2)) n k)

end Cert.KernelHnIdeal.Value

end
-- ==== Proof.Hn.lean ====
/-
  `d_hn_rms`: the claim. On finite arguments the results of the kernel are the derivative's.
-/
module

public import proofs.«01_k».proof.Defs
public import proofs.«01_k».proof.Proof.HnValue
public import proofs.«01_k».proof.Proof.Gen.ReferenceHnIdeal.Run
public import proofs.«01_k».proof.Proof.Gen.Pre_finite_hn
public import Idealize.ShloMosaic.Lib.Claim

@[expose] public section

set_option maxRecDepth 16384

noncomputable section

namespace Cert.Hn

open Idealize.ShloMosaic Idealize.ShloMosaic.TcCoe Idealize.SL.Sem
open Cert.KernelHnIdeal Cert.Reals

/-- What the precondition says of the arguments. -/
theorem finite {m : (ℓ : Loc nD τ sig) → Buf (Elt Ideal) ℓ} (h : Cert.Pre_KernelHnIdeal_finite_hn m) (c : Dev nD) :
    (∀ i, IsReal (m ((c : Thread nD τ).loc main_arg0) i)) ∧ (∀ i, IsReal (m ((c : Thread nD τ).loc main_arg1) i))
      ∧ (∀ i, IsReal (m ((c : Thread nD τ).loc main_arg2) i)) ∧ (∀ i, IsReal (m ((c : Thread nD τ).loc main_arg4) i)) :=
  ⟨fun i => isReal_of_cmpf (congrFun (h c).1 i), fun i => isReal_of_cmpf (congrFun (h c).2.1 i), fun i => isReal_of_cmpf (congrFun (h c).2.2.1 i), fun i => isReal_of_cmpf (congrFun (h c).2.2.2 i)⟩

theorem algebraic : Cert.algebraic_KernelHnIdeal_ReferenceHnIdeal_pre_finite_hn := by
  pair_intro
  · run_from Cert.KernelHnIdeal.Value.run_blocks m g
  · run_from Cert.ReferenceHnIdeal.Value.run m' g'
    · obtain ⟨ha, hw, hx, hg⟩ := finite hpre c
      refine (Cert.ReferenceHnIdeal.Read.val_main_v41_eq m' c).trans ?_
      rw [(hagree c).1, (hagree c).2.1, (hagree c).2.2.1, (hagree c).2.2.2.1, (hagree c).2.2.2.2]
      exact (Cert.KernelHnIdeal.Value.final5 m c ha hw hx hg).symm
    · obtain ⟨ha, hw, hx, hg⟩ := finite hpre c
      refine (Cert.ReferenceHnIdeal.Read.val_main_v43_eq m' c).trans ?_
      rw [(hagree c).1, (hagree c).2.1, (hagree c).2.2.1, (hagree c).2.2.2.1, (hagree c).2.2.2.2]
      exact (Cert.KernelHnIdeal.Value.final6 m c ha hw hx hg).symm
    · exact (Cert.ReferenceHnIdeal.Read.val_main_v45_eq _ _ _).trans (Cert.KernelHnIdeal.Value.final7 m c).symm

end Cert.Hn

end
-- ==== Proof.XnRef.lean ====
/-
  `d_xn_rms`: the reference's results at one entry.
-/
module

public import proofs.«01_k».proof.Proof.Norm
public import proofs.«01_k».proof.Proof.Gen.ReferenceXnIdeal.Read

@[expose] public section

set_option maxRecDepth 16384

noncomputable section

namespace Cert.XnRef

open Idealize.ShloMosaic Idealize.ShloMosaic.TcCoe Idealize.SL.Sem
open Cert.ReferenceXnIdeal.Read Cert.Reals Cert.Norm

variable (a : FVec Ideal ⟨2, ![8192, 2560]⟩ .bf16) (w : FVec Ideal ⟨3, ![1, 1024, 2560]⟩ .f32) (x r : FVec Ideal ⟨2, ![8192, 1024]⟩ .f32) (g : FVec Ideal ⟨2, ![1, 1024]⟩ .f32)

/-- The cotangent of the norm's result. -/
def ct (n : Fin 8192) (k : Fin 1024) : EReal := ∑ c : Fin 2560, a (ix2 n c) * w (ix3 0 k c)

theorem rows_at (n : Fin 8192) (k : Fin 1024) :
    val_main_v41 (F := Ideal) a w x r g (ix2 n k)
      = r (ix2 n k) + ct a w n k * g (ix2 0 k) * invRms (fun j => x (ix2 n j)) + x (ix2 n k) * meanCt (fun j => x (ix2 n j)) (fun j => ct a w n j * g (ix2 0 j))
        + meanCt (fun j => x (ix2 n j)) (fun j => ct a w n j * g (ix2 0 j)) * x (ix2 n k) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41]
  rfl

/-- What a row adds to the gain's gradient. -/
def gainRow (n : Fin 8192) (k : Fin 1024) : EReal := ct a w n k * (x (ix2 n k) * invRms (fun j => x (ix2 n j)))

theorem gain_at (i : Fin 8) (k : Fin 1024) :
    val_main_v44 (F := Ideal) a w x (ix2 i k)
      = firstRow (fun k => ∑ n : Fin 8192, gainRow a w x n k) i k := by
  unfold firstRow gainRow
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v42, val_main_cst_8, val_main_v43, val_main_v44]
  rcases i with ⟨_ | i, hi⟩
  · rw [if_pos rfl, dif_pos Nat.one_pos]
    show (_ : EReal) = _
    rw [Fin.sum_univ_one]
    exact Finset.sum_congr rfl fun j _ => mul_comm _ _
  · rw [if_neg (by simp), dif_neg (by simp)]

end Cert.XnRef

end
-- ==== Proof.XnValue.lean ====
/-
  The gradient of the norm before the two mixers (`d_xn_rms`): 16 blocks of 512 rows, the product over four slabs of w's columns.
-/
module

public import proofs.«01_k».proof.Proof.XnRef
public import proofs.«01_k».proof.Proof.RowStore
public import proofs.«01_k».proof.Proof.Gen.KernelXnIdeal.Value

@[expose] public section

set_option maxRecDepth 16384

noncomputable section

namespace Cert.KernelXnIdeal.Value

open Cert.KernelXnIdeal Cert.KernelXnIdeal.Gen Idealize.ShloMosaic Idealize.ShloMosaic.TcCoe Idealize.SL.Sem
open Idealize.ShloMosaic.Pipeline (Dat)
open Cert.ReferenceXnIdeal.Read Cert.Reals Cert.Norm

section
variable (a : FVec Ideal S512x2560 .bf16) (w : FVec Ideal S4x1024x640 .bf16) (P x r : FVec Ideal S512x1024 .f32) (g : FVec Ideal S1x1024 .f32)

/-- The rows of a block, from the product. -/
def rowsOf : FVec Ideal S512x1024 .f32 := k0_pay2 (F := Ideal) P x (k0_pay6 (F := Ideal) x) (k0_pay7 (F := Ideal) x) g r

theorem rowsOf_at (i : Fin 512) (k : Fin 1024) :
    rowsOf P x r g (ix2 i k)
      = invRms (fun j => x (ix2 i j)) * (P (ix2 i k) * g (ix2 0 k) - x (ix2 i k) * invRms (fun j => x (ix2 i j))
          * Ideal.div (∑ j, P (ix2 i j) * g (ix2 0 j) * (x (ix2 i j) * invRms (fun j => x (ix2 i j)))) (Ideal.ofBits .f32 0x44800000#32)) + r (ix2 i k) := by
  unfold rowsOf
  pointwise [k0_pay2, k0_pay1, k0_pay6, k0_pay7]
  rfl

/-- What a block adds to the gain's gradient. -/
def gainTerm (k : Fin 1024) : EReal := ∑ i : Fin 512, P (ix2 i k) * (x (ix2 i k) * invRms (fun j => x (ix2 i j)))

theorem pay_gain (z : FVec Ideal S1x1024 .f32) (k : Fin 1024) :
    k0_pay3 (F := Ideal) P x (k0_pay7 (F := Ideal) x) z (ix2 0 k) = z (ix2 0 k) + gainTerm P x k := by
  pointwise [k0_pay3, k0_pay1, k0_pay6, k0_pay7]
  rfl

/-- A block's product: the cotangent of the norm's result, over the four slabs. -/
def product : FVec Ideal S512x1024 .f32 :=
  k0_pay5 (F := Ideal) a (View.ld (Val := Elt Ideal) (e' := .bf16) w (Rect.unit (s := S4x1024x640) ![0, 0, 0] S1x1024x640.size inb_S4x1024x640_S1x1024x640_0_0_0)) (View.ld (Val := Elt Ideal) (e' := .bf16) w (Rect.unit (s := S4x1024x640) ![1, 0, 0] S1x1024x640.size inb_S4x1024x640_S1x1024x640_1_0_0)) (View.ld (Val := Elt Ideal) (e' := .bf16) w (Rect.unit (s := S4x1024x640) ![2, 0, 0] S1x1024x640.size inb_S4x1024x640_S1x1024x640_2_0_0)) (View.ld (Val := Elt Ideal) (e' := .bf16) w (Rect.unit (s := S4x1024x640) ![3, 0, 0] S1x1024x640.size inb_S4x1024x640_S1x1024x640_3_0_0))

/-- One slab's part of the product. -/
def slabSum (i : Fin 512) (k : Fin 1024) (j : Fin 4) : EReal := ∑ l : Fin 640, a (ix2 i ⟨j.val * 640 + l.val, by omega⟩) * w (ix3 j k l)

theorem product_at (i : Fin 512) (k : Fin 1024) :
    product a w (ix2 i k) = ∑ j : Fin 4, slabSum a w i k j := by
  unfold product
  pointwise [k0_pay5]
  rw [Fin.sum_univ_four]
  unfold slabSum
  simp only [Fin.val_zero, Nat.zero_mul, Nat.zero_add]
  rfl

/-- The slabs laid side by side. -/
theorem product_match {a w} {A : FVec Ideal S8192x2560 .bf16} {W : FVec Ideal S1x1024x2560 .f32} {i : Fin 512} {n : Fin 8192} (ha : ∀ l, a (ix2 i l) = A (ix2 n l))
    (hw : ∀ (j : Fin 4) k l, w (ix3 j k l) = W (ix3 0 k ⟨j.val * 640 + l.val, by omega⟩)) (k : Fin 1024) : product a w (ix2 i k) = XnRef.ct A W n k := by
  rw [product_at]
  refine (Finset.sum_congr rfl fun j _ => Finset.sum_congr rfl fun l _ => congrArg₂ (· * ·) (ha _) (hw j k l)).trans ?_
  exact Fin.sum_mul_add_fin 4 640 (fun c : Fin 2560 => A (ix2 n c) * W (ix3 0 k c))

/-- A row of a block against the reference's row of which it is a copy. -/
theorem rows_match {P x g r} {A : FVec Ideal S8192x2560 .bf16} {W : FVec Ideal S1x1024x2560 .f32} {X R : FVec Ideal S8192x1024 .f32} {i : Fin 512} {n : Fin 8192}
    (hp : ∀ l, P (ix2 i l) = XnRef.ct A W n l) (hx : ∀ l, x (ix2 i l) = X (ix2 n l)) (hr : ∀ l, r (ix2 i l) = R (ix2 n l))
    (rA : ∀ y, IsReal (A y)) (rW : ∀ y, IsReal (W y)) (rX : ∀ y, IsReal (X y)) (rg : ∀ y, IsReal (g y)) (k : Fin 1024) :
    rowsOf P x r g (ix2 i k) = val_main_v41 (F := Ideal) A W X R g (ix2 n k) := by
  rw [rowsOf_at, XnRef.rows_at]
  simp only [hp, hx, hr]
  have hu : ∀ j, IsReal (XnRef.ct A W n j * g (ix2 0 j)) := by
    intro j
    unfold XnRef.ct
    exact IsReal.mul (IsReal.sum fun l => IsReal.mul (rA (ix2 n l)) (rW (ix3 0 j l))) (rg (ix2 0 j))
  exact grad_row_add (x := fun j => X (ix2 n j)) (u := fun j => XnRef.ct A W n j * g (ix2 0 j)) (fun j => rX (ix2 n j)) hu (R (ix2 n k)) k
end

theorem idx : ∀ t : Fin cfg0.N, win0_0.index t = ![t.val, 0] ∧ win0_1.index t = ![0, 0, 0] ∧ win0_2.index t = ![t.val, 0] ∧ win0_3.index t = ![t.val, 0]
    ∧ win0_4.index t = ![0, 0] ∧ win0_5.index t = ![t.val, 0] ∧ win0_6.index t = ![0, 0] :=
  (by decide +kernel : ∀ t : Fin grid0.N, _)

variable (m : (ℓ : Loc nD τ sig) → Buf (Elt Ideal) ℓ)

section
variable (c : Dev nD) (t : Fin cfg0.N) (i : Fin 512) (h : t.val * 512 + i.val < 8192)

theorem blk_a (k : Fin 2560) : iblk m c 0 t (ix2 i k) = m ((c : Thread nD τ).loc main_arg0) (ix2 ⟨t.val * 512 + i.val, h⟩ k) := by
  blk_point [iblk, V, idx t]
theorem blk_x (k : Fin 1024) : iblk m c 2 t (ix2 i k) = m ((c : Thread nD τ).loc main_arg2) (ix2 ⟨t.val * 512 + i.val, h⟩ k) := by
  blk_point [iblk, V, idx t]
theorem blk_r (k : Fin 1024) : iblk m c 3 t (ix2 i k) = m ((c : Thread nD τ).loc main_arg3) (ix2 ⟨t.val * 512 + i.val, h⟩ k) := by
  blk_point [iblk, V, idx t]
theorem blk_g : iblk m c 4 t = m ((c : Thread nD τ).loc main_arg4) := by
  funext y
  blk_point [iblk, V, idx t]
theorem blk_w (j : Fin 4) (k : Fin 1024) (l : Fin 640) : iblk m c 1 t (ix3 j k l) = m ((c : Thread nD τ).loc main_arg1) (ix3 0 k ⟨j.val * 640 + l.val, by omega⟩) := by
  blk_point [iblk, V, idx t]

theorem prod_blk (k : Fin 1024) :
    product (iblk m c 0 t) (iblk m c 1 t) (ix2 i k) = XnRef.ct (m ((c : Thread nD τ).loc main_arg0)) (m ((c : Thread nD τ).loc main_arg1)) ⟨t.val * 512 + i.val, h⟩ k :=
  product_match (fun l => blk_a m c t i h l) (fun j k l => blk_w m c t i j k l) k
end

/-- The rows at one point. -/
theorem out_rows (c : Dev nD) (t : Fin cfg0.N) (i : Fin 512) (k : Fin 1024) :
    (outsAt0 m c t.val t.isLt).1 (ix2 i k) = rowsOf (product (iblk m c 0 t) (iblk m c 1 t)) (iblk m c 2 t) (iblk m c 3 t) (iblk m c 4 t) (ix2 i k) := by
  by_cases h : t.val % 16 = 0
  · rw [outsAt0_A m c t h]
    frame_out
    rfl
  · rw [outsAt0_B m c t h]
    frame_out
    rfl

/-- What a point adds to the sums. -/
def term (c : Dev nD) (t : Fin cfg0.N) (y : S8x1024.Idx) : EReal := firstRow (gainTerm (product (iblk m c 0 t) (iblk m c 1 t)) (iblk m c 2 t)) (y 0) (y 1)

theorem sums_A (c : Dev nD) (t : Fin cfg0.N) (h : t.val % 16 = 0) (y : S8x1024.Idx) :
    (outsAt0 m c t.val t.isLt).2 y = (0 : EReal) + term m c t y := by
  rw [outsAt0_A m c t h]
  frame_out
  idx_vars y
  rw [RowStore.canon_row0 (by decide), View.readCov_fill _ _ _ _ _ (by decide), View.canon_cons_unit_lit _ _ _ (by decide)]
  show _ = 0 + firstRow _ y0 y1
  unfold firstRow
  split
  · rw [pay_gain, RowStore.ld_row0 _ (by decide)]
    exact congrArg (· + _) (Ideal.ofBits_zero .f32)
  · rw [add_zero]
    exact Ideal.ofBits_zero .f32

theorem sums_B (c : Dev nD) (t : Fin cfg0.N) (h : ¬t.val % 16 = 0) (y : S8x1024.Idx) :
    (outsAt0 m c t.val t.isLt).2 y = (outsAt0 m c (t.val - 1) (Nat.lt_of_le_of_lt (Nat.sub_le _ _) t.isLt)).2 y + term m c t y := by
  rw [outsAt0_B m c t h]
  frame_out
  idx_vars y
  rw [RowStore.read_row0]
  show _ = _ + firstRow _ y0 y1
  unfold firstRow
  split
  · next h0 =>
    rw [pay_gain, RowStore.ld_row0 _ (by decide)]
    exact congrArg (fun i => (outsAt0 m c (t.val - 1) (Nat.lt_of_le_of_lt (Nat.sub_le _ _) t.isLt)).2 (ix2 i y1) + _) (Fin.ext h0.symm)
  · rw [add_zero]

section
variable (c : Dev nD) (ha : ∀ i, IsReal (m ((c : Thread nD τ).loc main_arg0) i)) (hw : ∀ i, IsReal (m ((c : Thread nD τ).loc main_arg1) i))
  (hx : ∀ i, IsReal (m ((c : Thread nD τ).loc main_arg2) i)) (hg : ∀ i, IsReal (m ((c : Thread nD τ).loc main_arg4) i))
include ha hw hx hg

/-- A row of a block is the reference's row. -/
theorem rows_eq (t : Fin cfg0.N) (i : Fin 512) (h : t.val * 512 + i.val < 8192) (k : Fin 1024) :
    rowsOf (product (iblk m c 0 t) (iblk m c 1 t)) (iblk m c 2 t) (iblk m c 3 t) (iblk m c 4 t) (ix2 i k)
      = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + i.val, h⟩ k) := by
  rw [blk_g]
  exact rows_match (fun l => prod_blk m c t i h l) (fun l => blk_x m c t i h l) (fun l => blk_r m c t i h l) ha hw hx hg k

theorem final5 : (dats m 0 c).arrAt 5 (cfgs 0).N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  idx_vars y
  have hN : t.val < 16 := t.isLt
  rw [after0_5]
  refine (out_rows m c t y0 y1).trans ((rows_eq m c ha hw hx hg t y0 (by omega) y1).trans (congrArg _ ?_))
  blk_ext [idx t]
end

/-- What a point adds, by the reference's rows. -/
theorem term_rows (c : Dev nD) (t : Fin cfg0.N) (s : Fin 16) (e : t.val = s.val) (k : Fin 1024) :
    gainTerm (product (iblk m c 0 t) (iblk m c 1 t)) (iblk m c 2 t) k
      = ∑ i : Fin 512, XnRef.gainRow (m ((c : Thread nD τ).loc main_arg0)) (m ((c : Thread nD τ).loc main_arg1)) (m ((c : Thread nD τ).loc main_arg2)) ⟨s.val * 512 + i.val, by omega⟩ k := by
  unfold gainTerm XnRef.gainRow
  refine Finset.sum_congr rfl fun i _ => ?_
  have hs : t.val * 512 + i.val < 8192 := by omega
  simp only [prod_blk m c t i hs, blk_x m c t i hs, e]

theorem final6 (c : Dev nD) : (dats m 0 c).arrAt 6 (cfgs 0).N = val_main_v44 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  idx_vars y
  rw [after0_6, Pipeline.eq_sum_fin_of_reset_step_apply_of_flush (fun n h => (outsAt0 m c n h).2) 16 (fun _ => (0 : EReal)) (fun t => term m c t)
    (fun t h j => sums_A m c t h j) (fun t h j => sums_B m c t h j) t ((flush0_6 t).mp hf) _, zero_add]
  have hy : (win0_6.blk t).view.emb (ix2 y0 y1) = ix2 y0 y1 := by blk_ext [idx t]
  have hN : t.val < 16 := t.isLt
  rw [hy, XnRef.gain_at]
  refine (sum_firstRow (fun s : Fin 16 => gainTerm (product (iblk m c 0 ⟨16 * (t.val / 16) + s.val, Pipeline.run_point_lt_of_flush t ((flush0_6 t).mp hf) s⟩) (iblk m c 1 ⟨16 * (t.val / 16) + s.val, Pipeline.run_point_lt_of_flush t ((flush0_6 t).mp hf) s⟩)) (iblk m c 2 ⟨16 * (t.val / 16) + s.val, Pipeline.run_point_lt_of_flush t ((flush0_6 t).mp hf) s⟩)) y0 y1).trans (congrArg (firstRow · y0 y1) (funext fun k => ?_))
  refine (Finset.sum_congr rfl fun s _ => term_rows m c ⟨16 * (t.val / 16) + s.val, Pipeline.run_point_lt_of_flush t ((flush0_6 t).mp hf) s⟩ s (by show 16 * (t.val / 16) + s.val = s.val; omega) k).trans ?_
  exact Fin.sum_mul_add_fin 16 512 (fun n : Fin 8192 => XnRef.gainRow (m ((c : Thread nD τ).loc main_arg0)) (m ((c : Thread nD τ).loc main_arg1)) (m ((c : Thread nD τ).loc main_arg2)) n k)

end Cert.KernelXnIdeal.Value

end
-- ==== Proof.Xn.lean ====
/-
  `d_xn_rms`: the claim. On finite arguments the results of the kernel are the derivative's.
-/
module

public import proofs.«01_k».proof.Defs
public import proofs.«01_k».proof.Proof.XnValue
public import proofs.«01_k».proof.Proof.Gen.ReferenceXnIdeal.Run
public import proofs.«01_k».proof.Proof.Gen.Pre_finite_xn
public import Idealize.ShloMosaic.Lib.Claim

@[expose] public section

set_option maxRecDepth 16384

noncomputable section

namespace Cert.Xn

open Idealize.ShloMosaic Idealize.ShloMosaic.TcCoe Idealize.SL.Sem
open Cert.KernelXnIdeal Cert.Reals

/-- What the precondition says of the arguments. -/
theorem finite {m : (ℓ : Loc nD τ sig) → Buf (Elt Ideal) ℓ} (h : Cert.Pre_KernelXnIdeal_finite_xn m) (c : Dev nD) :
    (∀ i, IsReal (m ((c : Thread nD τ).loc main_arg0) i)) ∧ (∀ i, IsReal (m ((c : Thread nD τ).loc main_arg1) i))
      ∧ (∀ i, IsReal (m ((c : Thread nD τ).loc main_arg2) i)) ∧ (∀ i, IsReal (m ((c : Thread nD τ).loc main_arg4) i)) :=
  ⟨fun i => isReal_of_cmpf (congrFun (h c).1 i), fun i => isReal_of_cmpf (congrFun (h c).2.1 i), fun i => isReal_of_cmpf (congrFun (h c).2.2.1 i), fun i => isReal_of_cmpf (congrFun (h c).2.2.2 i)⟩

theorem algebraic : Cert.algebraic_KernelXnIdeal_ReferenceXnIdeal_pre_finite_xn := by
  pair_intro
  · run_from Cert.KernelXnIdeal.Value.run_blocks m g
  · run_from Cert.ReferenceXnIdeal.Value.run m' g'
    · obtain ⟨ha, hw, hx, hg⟩ := finite hpre c
      refine (Cert.ReferenceXnIdeal.Read.val_main_v41_eq m' c).trans ?_
      rw [(hagree c).1, (hagree c).2.1, (hagree c).2.2.1, (hagree c).2.2.2.1, (hagree c).2.2.2.2]
      exact (Cert.KernelXnIdeal.Value.final5 m c ha hw hx hg).symm
    · exact (Cert.ReferenceXnIdeal.Read.val_main_v44_eq _ _ _).trans (Cert.KernelXnIdeal.Value.final6 m c).symm

end Cert.Xn

end
-- ==== Proof.HmRef.lean ====
/-
  `d_hm_rms`: the reference's results at one entry.
-/
module

public import proofs.«01_k».proof.Proof.Norm
public import proofs.«01_k».proof.Proof.Gen.ReferenceHmIdeal.Read

@[expose] public section

set_option maxRecDepth 16384

noncomputable section

namespace Cert.HmRef

open Idealize.ShloMosaic Idealize.ShloMosaic.TcCoe Idealize.SL.Sem
open Cert.ReferenceHmIdeal.Read Cert.Reals Cert.Norm

variable (a : FVec Ideal ⟨2, ![8192, 4096]⟩ .bf16) (w : FVec Ideal ⟨3, ![1, 1024, 4096]⟩ .f32) (x r : FVec Ideal ⟨2, ![8192, 1024]⟩ .f32) (g : FVec Ideal ⟨2, ![1, 1024]⟩ .f32)

/-- The cotangent of the norm's result. -/
def ct (n : Fin 8192) (k : Fin 1024) : EReal := ∑ c : Fin 4096, a (ix2 n c) * w (ix3 0 k c)

theorem rows_at (n : Fin 8192) (k : Fin 1024) :
    val_main_v41 (F := Ideal) a w x r g (ix2 n k)
      = r (ix2 n k) + ct a w n k * g (ix2 0 k) * invRms (fun j => x (ix2 n j)) + x (ix2 n k) * meanCt (fun j => x (ix2 n j)) (fun j => ct a w n j * g (ix2 0 j))
        + meanCt (fun j => x (ix2 n j)) (fun j => ct a w n j * g (ix2 0 j)) * x (ix2 n k) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41]
  rfl

theorem copy_at (n : Fin 8192) (k : Fin 1024) :
    val_main_v43 (F := Ideal) a w x r g (ix2 n k) = val_main_v41 (F := Ideal) a w x r g (ix2 n k) := rfl

/-- What a row adds to the gain's gradient. -/
def gainRow (n : Fin 8192) (k : Fin 1024) : EReal := ct a w n k * (x (ix2 n k) * invRms (fun j => x (ix2 n j)))

theorem gain_at (i : Fin 8) (k : Fin 1024) :
    val_main_v45 (F := Ideal) a w x (ix2 i k)
      = firstRow (fun k => ∑ n : Fin 8192, gainRow a w x n k) i k := by
  unfold firstRow gainRow
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v42, val_main_v43, val_main_cst_8, val_main_v44, val_main_v45]
  rcases i with ⟨_ | i, hi⟩
  · rw [if_pos rfl, dif_pos Nat.one_pos]
    show (_ : EReal) = _
    rw [Fin.sum_univ_one]
    exact Finset.sum_congr rfl fun j _ => mul_comm _ _
  · rw [if_neg (by simp), dif_neg (by simp)]

end Cert.HmRef

end
-- ==== Proof.HmValue.lean ====
/-
  The gradient of the norm before the MLP (`d_hm_rms`): 32 blocks of 256 rows, the product over four slabs of w's columns.
-/
module

public import proofs.«01_k».proof.Proof.HmRef
public import proofs.«01_k».proof.Proof.RowStore
public import proofs.«01_k».proof.Proof.Gen.KernelHmIdeal.Value

@[expose] public section

set_option maxRecDepth 16384

noncomputable section

namespace Cert.KernelHmIdeal.Value

open Cert.KernelHmIdeal Cert.KernelHmIdeal.Gen Idealize.ShloMosaic Idealize.ShloMosaic.TcCoe Idealize.SL.Sem
open Idealize.ShloMosaic.Pipeline (Dat)
open Cert.ReferenceHmIdeal.Read Cert.Reals Cert.Norm

section
variable (a : FVec Ideal S256x4096 .bf16) (w : FVec Ideal S4x1024x1024 .bf16) (P x r : FVec Ideal S256x1024 .f32) (g : FVec Ideal S1x1024 .f32)

/-- The rows of a block, from the product. -/
def rowsOf : FVec Ideal S256x1024 .f32 := k0_pay2 (F := Ideal) P x (k0_pay7 (F := Ideal) x) (k0_pay8 (F := Ideal) x) g r

theorem rowsOf_at (i : Fin 256) (k : Fin 1024) :
    rowsOf P x r g (ix2 i k)
      = invRms (fun j => x (ix2 i j)) * (P (ix2 i k) * g (ix2 0 k) - x (ix2 i k) * invRms (fun j => x (ix2 i j))
          * Ideal.div (∑ j, P (ix2 i j) * g (ix2 0 j) * (x (ix2 i j) * invRms (fun j => x (ix2 i j)))) (Ideal.ofBits .f32 0x44800000#32)) + r (ix2 i k) := by
  unfold rowsOf
  pointwise [k0_pay2, k0_pay1, k0_pay7, k0_pay8]
  rfl

/-- What a block adds to the gain's gradient. -/
def gainTerm (k : Fin 1024) : EReal := ∑ i : Fin 256, P (ix2 i k) * (x (ix2 i k) * invRms (fun j => x (ix2 i j)))

theorem pay_gain (z : FVec Ideal S1x1024 .f32) (k : Fin 1024) :
    k0_pay4 (F := Ideal) P x (k0_pay8 (F := Ideal) x) z (ix2 0 k) = z (ix2 0 k) + gainTerm P x k := by
  pointwise [k0_pay4, k0_pay1, k0_pay7, k0_pay8]
  rfl

/-- A block's product: the cotangent of the norm's result, over the four slabs. -/
def product : FVec Ideal S256x1024 .f32 :=
  k0_pay6 (F := Ideal) a (View.ld (Val := Elt Ideal) (e' := .bf16) w (Rect.unit (s := S4x1024x1024) ![0, 0, 0] S1x1024x1024.size inb_S4x1024x1024_S1x1024x1024_0_0_0)) (View.ld (Val := Elt Ideal) (e' := .bf16) w (Rect.unit (s := S4x1024x1024) ![1, 0, 0] S1x1024x1024.size inb_S4x1024x1024_S1x1024x1024_1_0_0)) (View.ld (Val := Elt Ideal) (e' := .bf16) w (Rect.unit (s := S4x1024x1024) ![2, 0, 0] S1x1024x1024.size inb_S4x1024x1024_S1x1024x1024_2_0_0)) (View.ld (Val := Elt Ideal) (e' := .bf16) w (Rect.unit (s := S4x1024x1024) ![3, 0, 0] S1x1024x1024.size inb_S4x1024x1024_S1x1024x1024_3_0_0))

/-- One slab's part of the product. -/
def slabSum (i : Fin 256) (k : Fin 1024) (j : Fin 4) : EReal := ∑ l : Fin 1024, a (ix2 i ⟨j.val * 1024 + l.val, by omega⟩) * w (ix3 j k l)

theorem product_at (i : Fin 256) (k : Fin 1024) :
    product a w (ix2 i k) = ∑ j : Fin 4, slabSum a w i k j := by
  unfold product
  pointwise [k0_pay6]
  rw [Fin.sum_univ_four]
  unfold slabSum
  simp only [Fin.val_zero, Nat.zero_mul, Nat.zero_add]
  rfl

/-- The slabs laid side by side. -/
theorem product_match {a w} {A : FVec Ideal S8192x4096 .bf16} {W : FVec Ideal S1x1024x4096 .f32} {i : Fin 256} {n : Fin 8192} (ha : ∀ l, a (ix2 i l) = A (ix2 n l))
    (hw : ∀ (j : Fin 4) k l, w (ix3 j k l) = W (ix3 0 k ⟨j.val * 1024 + l.val, by omega⟩)) (k : Fin 1024) : product a w (ix2 i k) = HmRef.ct A W n k := by
  rw [product_at]
  refine (Finset.sum_congr rfl fun j _ => Finset.sum_congr rfl fun l _ => congrArg₂ (· * ·) (ha _) (hw j k l)).trans ?_
  exact Fin.sum_mul_add_fin 4 1024 (fun c : Fin 4096 => A (ix2 n c) * W (ix3 0 k c))

/-- A row of a block against the reference's row of which it is a copy. -/
theorem rows_match {P x g r} {A : FVec Ideal S8192x4096 .bf16} {W : FVec Ideal S1x1024x4096 .f32} {X R : FVec Ideal S8192x1024 .f32} {i : Fin 256} {n : Fin 8192}
    (hp : ∀ l, P (ix2 i l) = HmRef.ct A W n l) (hx : ∀ l, x (ix2 i l) = X (ix2 n l)) (hr : ∀ l, r (ix2 i l) = R (ix2 n l))
    (rA : ∀ y, IsReal (A y)) (rW : ∀ y, IsReal (W y)) (rX : ∀ y, IsReal (X y)) (rg : ∀ y, IsReal (g y)) (k : Fin 1024) :
    rowsOf P x r g (ix2 i k) = val_main_v41 (F := Ideal) A W X R g (ix2 n k) := by
  rw [rowsOf_at, HmRef.rows_at]
  simp only [hp, hx, hr]
  have hu : ∀ j, IsReal (HmRef.ct A W n j * g (ix2 0 j)) := by
    intro j
    unfold HmRef.ct
    exact IsReal.mul (IsReal.sum fun l => IsReal.mul (rA (ix2 n l)) (rW (ix3 0 j l))) (rg (ix2 0 j))
  exact grad_row_add (x := fun j => X (ix2 n j)) (u := fun j => HmRef.ct A W n j * g (ix2 0 j)) (fun j => rX (ix2 n j)) hu (R (ix2 n k)) k
end

theorem idx : ∀ t : Fin cfg0.N, win0_0.index t = ![t.val, 0] ∧ win0_1.index t = ![0, 0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

variable (m : (ℓ : Loc nD τ sig) → Buf (Elt Ideal) ℓ)

section
variable (c : Dev nD) (t : Fin cfg0.N) (i : Fin 256) (h : t.val * 256 + i.val < 8192)

theorem blk_a (k : Fin 4096) : iblk m c 0 t (ix2 i k) = m ((c : Thread nD τ).loc main_arg0) (ix2 ⟨t.val * 256 + i.val, h⟩ k) := by
  blk_point [iblk, V, idx t]
theorem blk_x (k : Fin 1024) : iblk m c 2 t (ix2 i k) = m ((c : Thread nD τ).loc main_arg2) (ix2 ⟨t.val * 256 + i.val, h⟩ k) := by
  blk_point [iblk, V, idx t]
theorem blk_r (k : Fin 1024) : iblk m c 3 t (ix2 i k) = m ((c : Thread nD τ).loc main_arg3) (ix2 ⟨t.val * 256 + i.val, h⟩ k) := by
  blk_point [iblk, V, idx t]
theorem blk_g : iblk m c 4 t = m ((c : Thread nD τ).loc main_arg4) := by
  funext y
  blk_point [iblk, V, idx t]
theorem blk_w (j : Fin 4) (k : Fin 1024) (l : Fin 1024) : iblk m c 1 t (ix3 j k l) = m ((c : Thread nD τ).loc main_arg1) (ix3 0 k ⟨j.val * 1024 + l.val, by omega⟩) := by
  blk_point [iblk, V, idx t]

theorem prod_blk (k : Fin 1024) :
    product (iblk m c 0 t) (iblk m c 1 t) (ix2 i k) = HmRef.ct (m ((c : Thread nD τ).loc main_arg0)) (m ((c : Thread nD τ).loc main_arg1)) ⟨t.val * 256 + i.val, h⟩ k :=
  product_match (fun l => blk_a m c t i h l) (fun j k l => blk_w m c t i j k l) k
end

/-- The rows at one point. -/
theorem out_rows (c : Dev nD) (t : Fin cfg0.N) (i : Fin 256) (k : Fin 1024) :
    (outsAt0 m c t.val t.isLt).1 (ix2 i k) = rowsOf (product (iblk m c 0 t) (iblk m c 1 t)) (iblk m c 2 t) (iblk m c 3 t) (iblk m c 4 t) (ix2 i k) := by
  by_cases h : t.val % 32 = 0
  · rw [outsAt0_A m c t h]
    frame_out
    rfl
  · rw [outsAt0_B m c t h]
    frame_out
    rfl

/-- Their copy in the narrow format. -/
theorem out_copy (c : Dev nD) (t : Fin cfg0.N) (i : Fin 256) (k : Fin 1024) :
    (outsAt0 m c t.val t.isLt).2.1 (ix2 i k) = rowsOf (product (iblk m c 0 t) (iblk m c 1 t)) (iblk m c 2 t) (iblk m c 3 t) (iblk m c 4 t) (ix2 i k) := by
  by_cases h : t.val % 32 = 0
  · rw [outsAt0_A m c t h]
    frame_out
    rfl
  · rw [outsAt0_B m c t h]
    frame_out
    rfl

/-- What a point adds to the sums. -/
def term (c : Dev nD) (t : Fin cfg0.N) (y : S8x1024.Idx) : EReal := firstRow (gainTerm (product (iblk m c 0 t) (iblk m c 1 t)) (iblk m c 2 t)) (y 0) (y 1)

theorem sums_A (c : Dev nD) (t : Fin cfg0.N) (h : t.val % 32 = 0) (y : S8x1024.Idx) :
    (outsAt0 m c t.val t.isLt).2.2 y = (0 : EReal) + term m c t y := by
  rw [outsAt0_A m c t h]
  frame_out
  idx_vars y
  rw [RowStore.canon_row0 (by decide), View.readCov_fill _ _ _ _ _ (by decide), View.canon_cons_unit_lit _ _ _ (by decide)]
  show _ = 0 + firstRow _ y0 y1
  unfold firstRow
  split
  · rw [pay_gain, RowStore.ld_row0 _ (by decide)]
    exact congrArg (· + _) (Ideal.ofBits_zero .f32)
  · rw [add_zero]
    exact Ideal.ofBits_zero .f32

theorem sums_B (c : Dev nD) (t : Fin cfg0.N) (h : ¬t.val % 32 = 0) (y : S8x1024.Idx) :
    (outsAt0 m c t.val t.isLt).2.2 y = (outsAt0 m c (t.val - 1) (Nat.lt_of_le_of_lt (Nat.sub_le _ _) t.isLt)).2.2 y + term m c t y := by
  rw [outsAt0_B m c t h]
  frame_out
  idx_vars y
  rw [RowStore.read_row0]
  show _ = _ + firstRow _ y0 y1
  unfold firstRow
  split
  · next h0 =>
    rw [pay_gain, RowStore.ld_row0 _ (by decide)]
    exact congrArg (fun i => (outsAt0 m c (t.val - 1) (Nat.lt_of_le_of_lt (Nat.sub_le _ _) t.isLt)).2.2 (ix2 i y1) + _) (Fin.ext h0.symm)
  · rw [add_zero]

section
variable (c : Dev nD) (ha : ∀ i, IsReal (m ((c : Thread nD τ).loc main_arg0) i)) (hw : ∀ i, IsReal (m ((c : Thread nD τ).loc main_arg1) i))
  (hx : ∀ i, IsReal (m ((c : Thread nD τ).loc main_arg2) i)) (hg : ∀ i, IsReal (m ((c : Thread nD τ).loc main_arg4) i))
include ha hw hx hg

/-- A row of a block is the reference's row. -/
theorem rows_eq (t : Fin cfg0.N) (i : Fin 256) (h : t.val * 256 + i.val < 8192) (k : Fin 1024) :
    rowsOf (product (iblk m c 0 t) (iblk m c 1 t)) (iblk m c 2 t) (iblk m c 3 t) (iblk m c 4 t) (ix2 i k)
      = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 256 + i.val, h⟩ k) := by
  rw [blk_g]
  exact rows_match (fun l => prod_blk m c t i h l) (fun l => blk_x m c t i h l) (fun l => blk_r m c t i h l) ha hw hx hg k

theorem final5 : (dats m 0 c).arrAt 5 (cfgs 0).N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  idx_vars y
  have hN : t.val < 32 := t.isLt
  rw [after0_5]
  refine (out_rows m c t y0 y1).trans ((rows_eq m c ha hw hx hg t y0 (by omega) y1).trans (congrArg _ ?_))
  blk_ext [idx t]

theorem final6 : (dats m 0 c).arrAt 6 (cfgs 0).N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  idx_vars y
  have hN : t.val < 32 := t.isLt
  rw [after0_6]
  refine (out_copy m c t y0 y1).trans ((rows_eq m c ha hw hx hg t y0 (by omega) y1).trans ((HmRef.copy_at _ _ _ _ _ _ _).symm.trans (congrArg _ ?_)))
  blk_ext [idx t]
end

/-- What a point adds, by the reference's rows. -/
theorem term_rows (c : Dev nD) (t : Fin cfg0.N) (s : Fin 32) (e : t.val = s.val) (k : Fin 1024) :
    gainTerm (product (iblk m c 0 t) (iblk m c 1 t)) (iblk m c 2 t) k
      = ∑ i : Fin 256, HmRef.gainRow (m ((c : Thread nD τ).loc main_arg0)) (m ((c : Thread nD τ).loc main_arg1)) (m ((c : Thread nD τ).loc main_arg2)) ⟨s.val * 256 + i.val, by omega⟩ k := by
  unfold gainTerm HmRef.gainRow
  refine Finset.sum_congr rfl fun i _ => ?_
  have hs : t.val * 256 + i.val < 8192 := by omega
  simp only [prod_blk m c t i hs, blk_x m c t i hs, e]

theorem final7 (c : Dev nD) : (dats m 0 c).arrAt 7 (cfgs 0).N = val_main_v45 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  idx_vars y
  rw [after0_7, Pipeline.eq_sum_fin_of_reset_step_apply_of_flush (fun n h => (outsAt0 m c n h).2.2) 32 (fun _ => (0 : EReal)) (fun t => term m c t)
    (fun t h j => sums_A m c t h j) (fun t h j => sums_B m c t h j) t ((flush0_7 t).mp hf) _, zero_add]
  have hy : (win0_7.blk t).view.emb (ix2 y0 y1) = ix2 y0 y1 := by blk_ext [idx t]
  have hN : t.val < 32 := t.isLt
  rw [hy, HmRef.gain_at]
  refine (sum_firstRow (fun s : Fin 32 => gainTerm (product (iblk m c 0 ⟨32 * (t.val / 32) + s.val, Pipeline.run_point_lt_of_flush t ((flush0_7 t).mp hf) s⟩) (iblk m c 1 ⟨32 * (t.val / 32) + s.val, Pipeline.run_point_lt_of_flush t ((flush0_7 t).mp hf) s⟩)) (iblk m c 2 ⟨32 * (t.val / 32) + s.val, Pipeline.run_point_lt_of_flush t ((flush0_7 t).mp hf) s⟩)) y0 y1).trans (congrArg (firstRow · y0 y1) (funext fun k => ?_))
  refine (Finset.sum_congr rfl fun s _ => term_rows m c ⟨32 * (t.val / 32) + s.val, Pipeline.run_point_lt_of_flush t ((flush0_7 t).mp hf) s⟩ s (by show 32 * (t.val / 32) + s.val = s.val; omega) k).trans ?_
  exact Fin.sum_mul_add_fin 32 256 (fun n : Fin 8192 => HmRef.gainRow (m ((c : Thread nD τ).loc main_arg0)) (m ((c : Thread nD τ).loc main_arg1)) (m ((c : Thread nD τ).loc main_arg2)) n k)

end Cert.KernelHmIdeal.Value

end
-- ==== Proof.Hm.lean ====
/-
  `d_hm_rms`: the claim. On finite arguments the results of the kernel are the derivative's.
-/
module

public import proofs.«01_k».proof.Defs
public import proofs.«01_k».proof.Proof.HmValue
public import proofs.«01_k».proof.Proof.Gen.ReferenceHmIdeal.Run
public import proofs.«01_k».proof.Proof.Gen.Pre_finite_hm
public import Idealize.ShloMosaic.Lib.Claim

@[expose] public section

set_option maxRecDepth 16384

noncomputable section

namespace Cert.Hm

open Idealize.ShloMosaic Idealize.ShloMosaic.TcCoe Idealize.SL.Sem
open Cert.KernelHmIdeal Cert.Reals

/-- What the precondition says of the arguments. -/
theorem finite {m : (ℓ : Loc nD τ sig) → Buf (Elt Ideal) ℓ} (h : Cert.Pre_KernelHmIdeal_finite_hm m) (c : Dev nD) :
    (∀ i, IsReal (m ((c : Thread nD τ).loc main_arg0) i)) ∧ (∀ i, IsReal (m ((c : Thread nD τ).loc main_arg1) i))
      ∧ (∀ i, IsReal (m ((c : Thread nD τ).loc main_arg2) i)) ∧ (∀ i, IsReal (m ((c : Thread nD τ).loc main_arg4) i)) :=
  ⟨fun i => isReal_of_cmpf (congrFun (h c).1 i), fun i => isReal_of_cmpf (congrFun (h c).2.1 i), fun i => isReal_of_cmpf (congrFun (h c).2.2.1 i), fun i => isReal_of_cmpf (congrFun (h c).2.2.2 i)⟩

theorem algebraic : Cert.algebraic_KernelHmIdeal_ReferenceHmIdeal_pre_finite_hm := by
  pair_intro
  · run_from Cert.KernelHmIdeal.Value.run_blocks m g
  · run_from Cert.ReferenceHmIdeal.Value.run m' g'
    · obtain ⟨ha, hw, hx, hg⟩ := finite hpre c
      refine (Cert.ReferenceHmIdeal.Read.val_main_v41_eq m' c).trans ?_
      rw [(hagree c).1, (hagree c).2.1, (hagree c).2.2.1, (hagree c).2.2.2.1, (hagree c).2.2.2.2]
      exact (Cert.KernelHmIdeal.Value.final5 m c ha hw hx hg).symm
    · obtain ⟨ha, hw, hx, hg⟩ := finite hpre c
      refine (Cert.ReferenceHmIdeal.Read.val_main_v43_eq m' c).trans ?_
      rw [(hagree c).1, (hagree c).2.1, (hagree c).2.2.1, (hagree c).2.2.2.1, (hagree c).2.2.2.2]
      exact (Cert.KernelHmIdeal.Value.final6 m c ha hw hx hg).symm
    · exact (Cert.ReferenceHmIdeal.Read.val_main_v45_eq _ _ _).trans (Cert.KernelHmIdeal.Value.final7 m c).symm

end Cert.Hm

end
-- ==== Proof.DactValue.lean ====
/-
  The gradient of the squared ReLU (`d_act`): 16 blocks, each a product times twice the ReLU of the block's entries.
-/
module

public import proofs.«01_k».proof.Proof.Reals
public import proofs.«01_k».proof.Proof.Gen.KernelDactIdeal.Value
public import proofs.«01_k».proof.Proof.Gen.ReferenceDactIdeal.Read

@[expose] public section

set_option maxRecDepth 16384

noncomputable section

namespace Cert.KernelDactIdeal.Value

open Cert.KernelDactIdeal Cert.KernelDactIdeal.Gen Idealize.ShloMosaic Idealize.ShloMosaic.TcCoe Idealize.SL.Sem
open Idealize.ShloMosaic.Pipeline (Dat)
open Cert.ReferenceDactIdeal.Read

/-- An entry of a block: the product of a row of the cotangent with a row of the matrix, times twice the ReLU. -/
theorem pay_at (a : FVec Ideal S2048x1024 .bf16) (w : FVec Ideal S1x1024x1024 .bf16) (u : FVec Ideal S2048x1024 .bf16) (i : Fin 2048) (k : Fin 1024) :
    k0_pay1 (F := Ideal) a w u (ix2 i k) = (∑ l : Fin 1024, a (ix2 i l) * w (ix3 0 k l)) * (Ideal.ofBits .f32 0x40000000#32 * u (ix2 i k)) := by
  pointwise [k0_pay1]

/-- The derivative is the same where the entry is positive, and zero elsewhere, where the ReLU is zero. -/
theorem ref_at (U : FVec Ideal S8192x4096 .f32) (W : FVec Ideal S1x4096x1024 .f32) (A : FVec Ideal S8192x1024 .bf16) (n : Fin 8192) (k : Fin 4096) :
    val_main_v14 (F := Ideal) U W A (ix2 n k) = (∑ l : Fin 1024, A (ix2 n l) * W (ix3 0 k l)) * (Ideal.ofBits .f32 0x40000000#32 * max (U (ix2 n k)) 0) := by
  pointwise [val_main_call0_cst, val_main_call0_v0, val_main_v0, val_main_cst, val_main_v1, val_main_v2, val_main_cst_0, val_main_v3, val_main_v4, val_main_cst_1, val_main_v5, val_main_v6, val_main_v7, val_main_v9, val_main_v10, val_main_v11, val_main_cst_2, val_main_v12, val_main_v13, val_main_v14]
  split
  · rfl
  · next h => rw [max_eq_right (not_lt.mp h), mul_zero, mul_zero]

theorem idx : ∀ t : Fin cfg0.N, win0_0.index t = ![t.val / 4, 0] ∧ win0_1.index t = ![0, t.val % 4, 0] ∧ win0_2.index t = ![t.val / 4, t.val % 4] ∧ win0_3.index t = ![t.val / 4, t.val % 4] :=
  (by decide +kernel : ∀ t : Fin grid0.N, _)

variable (m : (ℓ : Loc nD τ sig) → Buf (Elt Ideal) ℓ)

section
variable (c : Dev nD) (t : Fin cfg0.N) (i : Fin 2048) (k : Fin 1024)

theorem blk_a (h : t.val / 4 * 2048 + i.val < 8192) : iblk m c 0 t (ix2 i k) = m ((c : Thread nD τ).loc main_arg2) (ix2 ⟨t.val / 4 * 2048 + i.val, h⟩ k) := by
  blk_point [iblk, V, idx t]
theorem blk_w (j : Fin 1024) : iblk m c 1 t (ix3 0 j k) = m ((c : Thread nD τ).loc main_arg1) (ix3 0 ⟨t.val % 4 * 1024 + j.val, by omega⟩ k) := by
  blk_point [iblk, V, idx t]
theorem blk_u (h : t.val / 4 * 2048 + i.val < 8192) : iblk m c 2 t (ix2 i k) = max (α := EReal) (m ((c : Thread nD τ).loc main_arg0) (ix2 ⟨t.val / 4 * 2048 + i.val, h⟩ ⟨t.val % 4 * 1024 + k.val, by omega⟩)) 0 := by
  refine Eq.trans (b := max (α := EReal) (m ((c : Thread nD τ).loc main_arg0) ((win0_2.blk t).view.emb (ix2 i k))) 0) ?_ (congrArg (fun j => max (α := EReal) (m ((c : Thread nD τ).loc main_arg0) j) 0) ?_)
  · blk_point [iblk, V, idx t]
  · blk_ext [idx t]
end

theorem final3 (c : Dev nD) : (dats m 0 c).arrAt 3 (cfgs 0).N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  idx_vars y
  have hN : t.val < 16 := t.isLt
  have h : t.val / 4 * 2048 + y0.val < 8192 := by omega
  rw [after0_3]
  have e : (win0_3.blk t).view.emb (ix2 y0 y1) = ix2 ⟨t.val / 4 * 2048 + y0.val, h⟩ ⟨t.val % 4 * 1024 + y1.val, by omega⟩ := by blk_ext [idx t]
  rw [e]
  refine Eq.trans ?_ (ref_at _ _ _ _ _).symm
  frame_out
  rw [pay_at, blk_u m c t y0 y1 h]
  exact congrArg (· * _) (Finset.sum_congr rfl fun l _ => congrArg₂ (· * ·) (blk_a m c t y0 l h) (blk_w m c t l y1))

end Cert.KernelDactIdeal.Value

end
-- ==== Proof.Dact.lean ====
/-
  `d_act`: the claim. The results of the kernel are the derivative's, on all arguments.
-/
module

public import proofs.«01_k».proof.Defs
public import proofs.«01_k».proof.Proof.DactValue
public import proofs.«01_k».proof.Proof.Gen.ReferenceDactIdeal.Run
public import Idealize.ShloMosaic.Lib.Claim

@[expose] public section

set_option maxRecDepth 16384

noncomputable section

namespace Cert.Dact

open Idealize.ShloMosaic Idealize.ShloMosaic.TcCoe Idealize.SL.Sem
open Cert.KernelDactIdeal

theorem algebraic : Cert.algebraic_KernelDactIdeal_ReferenceDactIdeal := by
  pair_intro
  · run_from Cert.KernelDactIdeal.Value.run_blocks m g
  · run_from Cert.ReferenceDactIdeal.Value.run m' g'
    refine (Cert.ReferenceDactIdeal.Read.val_main_v14_eq _ _ _).trans ?_
    exact (Cert.KernelDactIdeal.Value.final3 m c).symm

end Cert.Dact

end
-- ==== Proof.DwdownValue.lean ====
/-
  The gradient of w_down (`dw_down`): four blocks of its rows, each the sum of two products over half of the tokens.
-/
module

public import proofs.«01_k».proof.Proof.Reals
public import proofs.«01_k».proof.Proof.Gen.KernelDwdownIdeal.Value
public import proofs.«01_k».proof.Proof.Gen.ReferenceDwdownIdeal.Read

@[expose] public section

set_option maxRecDepth 16384

noncomputable section

namespace Cert.KernelDwdownIdeal.Value

open Cert.KernelDwdownIdeal Cert.KernelDwdownIdeal.Gen Idealize.ShloMosaic Idealize.ShloMosaic.TcCoe Idealize.SL.Sem
open Idealize.ShloMosaic.Pipeline (Dat)
open Cert.ReferenceDwdownIdeal.Read

/-- The product over the tokens of one block. -/
def part (u d : FVec Ideal S4096x1024 .bf16) (i j : Fin 1024) : EReal := ∑ l : Fin 4096, u (ix2 l i) * u (ix2 l i) * d (ix2 l j)

theorem pay_first (u d : FVec Ideal S4096x1024 .bf16) (i j : Fin 1024) : k0_pay2 (F := Ideal) u d (ix2 i j) = part u d i j := by
  pointwise [k0_pay1, k0_pay2]
  rfl

theorem pay_next (u d : FVec Ideal S4096x1024 .bf16) (acc : FVec Ideal S1024x1024 .f32) (i j : Fin 1024) : k0_pay3 (F := Ideal) u d acc (ix2 i j) = acc (ix2 i j) + part u d i j := by
  pointwise [k0_pay1, k0_pay3]
  rfl

theorem pay_out (acc : FVec Ideal S1024x1024 .f32) (i j : Fin 1024) : k0_pay4 (F := Ideal) acc (ix3 0 i j) = acc (ix2 i j) := by
  pointwise [k0_pay4]

theorem ref_at (U : FVec Ideal S8192x4096 .f32) (D : FVec Ideal S8192x1024 .bf16) (i : Fin 4096) (j : Fin 1024) :
    val_main_v8 (F := Ideal) U D (ix3 0 i j) = ∑ n : Fin 8192, max (U (ix2 n i)) 0 * max (U (ix2 n i)) 0 * D (ix2 n j) := by
  pointwise [val_main_call0_cst, val_main_call0_v0, val_main_v0, val_main_v1, val_main_v4, val_main_v5, val_main_v6, val_main_v7, val_main_v8]
  exact Finset.sum_congr rfl fun n _ => mul_comm _ _

theorem idx : ∀ t : Fin cfg0.N, win0_0.index t = ![t.val % 2, t.val / 2] ∧ win0_1.index t = ![t.val % 2, 0] ∧ win0_2.index t = ![0, t.val / 2, 0] :=
  (by decide +kernel : ∀ t : Fin grid0.N, _)

variable (m : (ℓ : Loc nD τ sig) → Buf (Elt Ideal) ℓ)

section
variable (c : Dev nD) (t : Fin cfg0.N) (l : Fin 4096) (k : Fin 1024)

theorem blk_u (h : t.val / 2 * 1024 + k.val < 4096) : iblk m c 0 t (ix2 l k) = max (α := EReal) (m ((c : Thread nD τ).loc main_arg0) (ix2 ⟨t.val % 2 * 4096 + l.val, by omega⟩ ⟨t.val / 2 * 1024 + k.val, h⟩)) 0 := by
  refine Eq.trans (b := max (α := EReal) (m ((c : Thread nD τ).loc main_arg0) ((win0_0.blk t).view.emb (ix2 l k))) 0) ?_ (congrArg (fun j => max (α := EReal) (m ((c : Thread nD τ).loc main_arg0) j) 0) ?_)
  · blk_point [iblk, V, idx t]
  · blk_ext [idx t]
theorem blk_d : iblk m c 1 t (ix2 l k) = m ((c : Thread nD τ).loc main_arg2) (ix2 ⟨t.val % 2 * 4096 + l.val, by omega⟩ k) := by
  blk_point [iblk, V, idx t]
end

/-- After the second point of a block: the sum of the two points' products. -/
theorem out_at (c : Dev nD) (t : Fin cfg0.N) (h1 : t.val % 2 = 1) (i j : Fin 1024) :
    (outsAt0 m c t.val t.isLt).1 (ix3 0 i j)
      = part (iblk m c 0 ⟨t.val - 1, by omega⟩) (iblk m c 1 ⟨t.val - 1, by omega⟩) i j + part (iblk m c 0 t) (iblk m c 1 t) i j := by
  rw [outsAt0_B m c t (by omega) h1 h1]
  frame_out
  rw [pay_out, pay_next]
  refine congrArg (· + _) ?_
  have e := congrArg Prod.snd (outsAt0_A m c ⟨t.val - 1, by omega⟩ (by show (t.val - 1) % 2 = 0; omega) (by show ¬(t.val - 1) % 2 = 1; omega) (by show ¬(t.val - 1) % 2 = 1; omega))
  rw [(Memref.isWhole_whole _).read_unread]
  refine (congrFun e (ix2 i j)).trans ?_
  frame_out
  exact pay_first _ _ i j

theorem grad_w (c : Dev nD) : (dats m 0 c).arrAt 2 (cfgs 0).N = val_main_v8 (F := Ideal) (m ((c : Thread nD τ).loc main_arg0)) (m ((c : Thread nD τ).loc main_arg2)) := by
  refine (dats m 0 c).arrAt_eq_of_covers 2 _ (by decide +kernel) fun t hf y => ?_
  blk_simp
  idx_vars y
  have hN : t.val < 8 := t.isLt
  have h1 : t.val % 2 = 1 := (flush0_2 t).mp hf
  have h : t.val / 2 * 1024 + y1.val < 4096 := by omega
  obtain rfl : y0 = 0 := Subsingleton.elim _ _
  rw [after0_2]
  have e : (win0_2.blk t).view.emb (ix3 0 y1 y2) = ix3 0 ⟨t.val / 2 * 1024 + y1.val, h⟩ y2 := by blk_ext [idx t]
  rw [e, ref_at]
  refine (out_at m c t h1 y1 y2).trans ?_
  refine Eq.trans ?_ (Fin.sum_mul_add_fin 2 4096 (fun n : Fin 8192 => max (α := EReal) (m ((c : Thread nD τ).loc main_arg0) (ix2 n ⟨t.val / 2 * 1024 + y1.val, h⟩)) 0 * max (α := EReal) (m ((c : Thread nD τ).loc main_arg0) (ix2 n ⟨t.val / 2 * 1024 + y1.val, h⟩)) 0 * m ((c : Thread nD τ).loc main_arg2) (ix2 n y2)))
  rw [Fin.sum_univ_two]
  have hp : (t.val - 1) / 2 = t.val / 2 := by omega
  have hq : (t.val - 1) % 2 = 0 := by omega
  refine congrArg₂ (· + ·) (Finset.sum_congr rfl fun l _ => ?_) (Finset.sum_congr rfl fun l _ => ?_)
  · rw [blk_u m c ⟨t.val - 1, lt_of_le_of_lt (Nat.sub_le _ _) t.isLt⟩ l y1 (by show (t.val - 1) / 2 * 1024 + y1.val < 4096; omega), blk_d]
    simp only [hp, hq]
    rfl
  · rw [blk_u m c t l y1 h, blk_d]
    simp only [h1]
    rfl

end Cert.KernelDwdownIdeal.Value

end
-- ==== Proof.Dwdown.lean ====
/-
  `dw_down`: the claim. The results of the kernel are the derivative's, on all arguments.
-/
module

public import proofs.«01_k».proof.Defs
public import proofs.«01_k».proof.Proof.DwdownValue
public import proofs.«01_k».proof.Proof.Gen.ReferenceDwdownIdeal.Run
public import Idealize.ShloMosaic.Lib.Claim

@[expose] public section

set_option maxRecDepth 16384

noncomputable section

namespace Cert.Dwdown

open Idealize.ShloMosaic Idealize.ShloMosaic.TcCoe Idealize.SL.Sem
open Cert.KernelDwdownIdeal

theorem algebraic : Cert.algebraic_KernelDwdownIdeal_ReferenceDwdownIdeal := by
  pair_intro
  · run_from Cert.KernelDwdownIdeal.Value.run_blocks m g
  · run_from Cert.ReferenceDwdownIdeal.Value.run m' g'
    refine (Cert.ReferenceDwdownIdeal.Read.val_main_v8_eq _ _).trans ?_
    exact (Cert.KernelDwdownIdeal.Value.grad_w m c).symm

end Cert.Dwdown

end
-- ==== Proof.LossRef.lean ====
/-
  The loss and its derivative through the last norm, read from the reference, row by row.
-/
module

public import proofs.«01_k».proof.Proof.Norm
public import proofs.«01_k».proof.Proof.Gen.ReferenceLossIdeal.Read

@[expose] public section

set_option maxRecDepth 16384

noncomputable section

namespace Cert.LossRef

open Idealize.ShloMosaic Idealize.ShloMosaic.TcCoe Idealize.SL.Sem
open Cert.ReferenceLossIdeal.Read Cert.Reals Cert.Norm

/-- The word of one half. -/
theorem ofBits_half : Ideal.ofBits .f32 0x3F000000#32 = ((1 / 2 : ℝ) : EReal) := by
  simp [Ideal.ofBits, Ideal.ieee]
  rw [← EReal.coe_mul]
  norm_num

/-- The coefficient of an entry's cotangent is the word of 1/1024. -/
theorem coef : Ideal.div (Ideal.ofBits .f32 0x3F000000#32) (Ideal.ofBits .f32 0x44800000#32) * Ideal.ofBits .f32 0x40000000#32
    = Ideal.ofBits .f32 0x3A800000#32 := by
  have h2 : Ideal.ofBits .f32 0x40000000#32 = ((2 : ℝ) : EReal) := by
    simp [Ideal.ofBits, Ideal.ieee]
    rw [← EReal.coe_mul]
    norm_num
  have h3 : Ideal.ofBits .f32 0x3A800000#32 = ((1 / 1024 : ℝ) : EReal) := by
    simp [Ideal.ofBits, Ideal.ieee]
    rw [← EReal.coe_mul]
    norm_num
  rw [h2, h3, ofBits_half, ofBits_1024, div_coe_coe (by norm_num), ← EReal.coe_mul]
  norm_num

section
variable (x g r : Fin 1024 → EReal)

/-- An entry's error: the norm of the row, less the target. -/
def err (k : Fin 1024) : EReal := x k * invRms x * g k - r k

/-- The cotangent of the norm's result. -/
def ct (k : Fin 1024) : EReal := err x g r k * Ideal.ofBits .f32 0x3A800000#32

/-- The mean square error of a row. -/
def rowLoss : EReal := Ideal.div (∑ j, err x g r j * err x g r j) (Ideal.ofBits .f32 0x44800000#32)

theorem isReal_err {x g r : Fin 1024 → EReal} (hx : ∀ j, IsReal (x j)) (hg : ∀ j, IsReal (g j)) (hr : ∀ j, IsReal (r j)) (k : Fin 1024) : IsReal (err x g r k) := by
  obtain ⟨a, ha⟩ := IsReal.mul (IsReal.mul (hx k) (isReal_invRms hx)) (hg k)
  obtain ⟨b, hb⟩ := hr k
  exact ⟨a - b, by rw [err, ha, hb, EReal.coe_sub]⟩

theorem isReal_ct {x g r : Fin 1024 → EReal} (hx : ∀ j, IsReal (x j)) (hg : ∀ j, IsReal (g j)) (hr : ∀ j, IsReal (r j)) (k : Fin 1024) : IsReal (ct x g r k) := by
  refine IsReal.mul (isReal_err hx hg hr k) ⟨1 / 1024, ?_⟩
  simp [Ideal.ofBits, Ideal.ieee]
  rw [← EReal.coe_mul]
  norm_num

theorem isReal_rowLoss {x g r : Fin 1024 → EReal} (hx : ∀ j, IsReal (x j)) (hg : ∀ j, IsReal (g j)) (hr : ∀ j, IsReal (r j)) : IsReal (rowLoss x g r) := by
  obtain ⟨s, hs⟩ := IsReal.sum (s := Finset.univ) fun j => IsReal.mul (isReal_err hx hg hr j) (isReal_err hx hg hr j)
  exact ⟨s / 1024, by rw [rowLoss, hs, ofBits_1024, div_coe_coe (by norm_num)]⟩
end

variable (u : FVec Ideal ⟨2, ![8192, 4096]⟩ .f32) (w : FVec Ideal ⟨3, ![1, 4096, 1024]⟩ .f32) (x r : FVec Ideal ⟨2, ![8192, 1024]⟩ .f32) (g : FVec Ideal ⟨2, ![1, 1024]⟩ .f32)

/-- A row of the layer's result. -/
def outRow (n : Fin 8192) (k : Fin 1024) : EReal :=
  x (ix2 n k) + ∑ c : Fin 4096, max (u (ix2 n c)) 0 * max (u (ix2 n c)) 0 * w (ix3 0 c k)

theorem hidden_at (n : Fin 8192) (k : Fin 1024) : val_main_v4 (F := Ideal) u w x (ix2 n k) = outRow u w x n k := by
  unfold outRow
  pointwise [val_main_call0_cst, val_main_call0_v0, val_main_v0, val_main_v1, val_main_v2, val_main_v3, val_main_v4]

/-- A row's cotangent. -/
abbrev ctRow (n : Fin 8192) (k : Fin 1024) : EReal := ct (outRow u w x n) (fun j => g (ix2 0 j)) (fun j => r (ix2 n j)) k

theorem ct_at (n : Fin 8192) (k : Fin 1024) : val_main_v34 (F := Ideal) u w x r g (ix2 n k) = ctRow u w x r g n k := by
  pointwise [val_main_v5, val_main_cst, val_main_v6, val_main_v7, val_main_cst_0, val_main_v8, val_main_v9, val_main_cst_1, val_main_v10, val_main_v11, val_main_v12, val_main_v16, val_main_v17, val_main_v18, val_main_v19, val_main_v20, val_main_cst_3, val_main_v22, val_main_v23, val_main_cst_8, val_main_cst_9, val_main_v29, val_main_v30, val_main_cst_10, val_main_v31, val_main_v32, val_main_v33, val_main_v34]
  simp only [hidden_at]
  rw [← mul_assoc, coef, mul_comm]
  rfl

theorem inv_at (n : Fin 8192) (z : Fin 1) : val_main_v12 (F := Ideal) u w x (ix2 n z) = invRms (outRow u w x n) := by
  pointwise [val_main_v5, val_main_cst, val_main_v6, val_main_v7, val_main_cst_0, val_main_v8, val_main_v9, val_main_cst_1, val_main_v10, val_main_v11, val_main_v12]
  simp only [hidden_at]
  rfl

theorem sq_at (n : Fin 8192) (z : Fin 1) : val_main_v11 (F := Ideal) u w x (ix2 n z) = meanSq (outRow u w x n) := by
  pointwise [val_main_v5, val_main_cst, val_main_v6, val_main_v7, val_main_cst_0, val_main_v8, val_main_v9, val_main_cst_1, val_main_v10, val_main_v11]
  simp only [hidden_at]
  rfl

theorem rows_at (n : Fin 8192) (k : Fin 1024) :
    val_main_v53 (F := Ideal) u w x r g (ix2 n k)
      = ctRow u w x r g n k * g (ix2 0 k) * invRms (outRow u w x n) + outRow u w x n k * meanCt (outRow u w x n) (fun j => ctRow u w x r g n j * g (ix2 0 j))
        + meanCt (outRow u w x n) (fun j => ctRow u w x r g n j * g (ix2 0 j)) * outRow u w x n k := by
  pointwise [val_main_v13, val_main_cst_2, val_main_v14, val_main_v15, val_main_v38, val_main_v39, val_main_v40, val_main_cst_12, val_main_v41, val_main_v42, val_main_v43, val_main_v44, val_main_v45, val_main_cst_13, val_main_v46, val_main_v47, val_main_cst_14, val_main_v48, val_main_v49, val_main_v50, val_main_v51, val_main_v52, val_main_v53]
  simp only [hidden_at, ct_at, inv_at, sq_at]
  rfl

theorem copy_at (n : Fin 8192) (k : Fin 1024) :
    val_main_v54 (F := Ideal) u w x r g (ix2 n k) = val_main_v53 (F := Ideal) u w x r g (ix2 n k) := rfl

/-- What a row adds to the gain's gradient. -/
def gainRow (n : Fin 8192) (k : Fin 1024) : EReal := ctRow u w x r g n k * (outRow u w x n k * invRms (outRow u w x n))

theorem gain_at (i : Fin 8) (k : Fin 1024) :
    val_main_v56 (F := Ideal) u w x r g (ix2 i k)
      = firstRow (fun k => ∑ n : Fin 8192, gainRow u w x r g n k) i k := by
  unfold firstRow gainRow
  pointwise [val_main_v16, val_main_v17, val_main_v35, val_main_cst_11, val_main_v36, val_main_v37, val_main_cst_15, val_main_v55, val_main_v56]
  rcases i with ⟨_ | i, hi⟩
  · rw [if_pos rfl, dif_pos Nat.one_pos]
    simp only [hidden_at, ct_at, inv_at]
    exact Finset.sum_congr rfl fun j _ => mul_comm _ _
  · rw [if_neg (by simp), dif_neg (by simp)]

/-- The loss, in the first entry of a block of zeros. -/
theorem loss_at (i : Fin 8) (k : Fin 128) :
    val_main_v58 (F := Ideal) u w x r g (ix2 i k)
      = if i.val = 0 ∧ k.val = 0 then Ideal.ofBits .f32 0x3F000000#32 * ∑ n : Fin 8192, rowLoss (outRow u w x n) (fun j => g (ix2 0 j)) (fun j => r (ix2 n j)) else 0 := by
  pointwise [val_main_v16, val_main_v17, val_main_v18, val_main_v19, val_main_v20, val_main_v21, val_main_cst_4, val_main_v24, val_main_cst_5, val_main_v25, val_main_v26, val_main_cst_6, val_main_v27, val_main_cst_7, val_main_v28, val_main_v57, val_main_c, val_main_call1_v0, val_main_v58]
  simp only [hidden_at, inv_at, Nat.lt_one_iff]
  split
  · rfl
  · show (((0#32 : BitVec 32).toInt : ℝ) : EReal) = 0
    simp

end Cert.LossRef

end
-- ==== Proof.LossValue.lean ====
/-
  The loss and its gradient through the last norm (`mm_down_loss`): 32 blocks of 256 rows; the gain's gradient and the loss are summed over the blocks.
-/
module

public import proofs.«01_k».proof.Proof.LossRef
public import proofs.«01_k».proof.Proof.RowStore
public import proofs.«01_k».proof.Proof.Gen.KernelLossIdeal.Value

@[expose] public section

set_option maxRecDepth 16384

noncomputable section

namespace Cert.KernelLossIdeal.Value

open Cert.KernelLossIdeal Cert.KernelLossIdeal.Gen Idealize.ShloMosaic Idealize.ShloMosaic.TcCoe Idealize.SL.Sem
open Idealize.ShloMosaic.Pipeline (Dat)
open Cert.ReferenceLossIdeal.Read Cert.Reals Cert.Norm Cert.LossRef

section
variable (u : FVec Ideal S256x4096 .bf16) (w : FVec Ideal S1x4096x1024 .bf16) (x r : FVec Ideal S256x1024 .f32) (g : FVec Ideal S1x1024 .f32)

/-- A row of the layer's result, at a block's row. -/
def blkHidden (i : Fin 256) (k : Fin 1024) : EReal := k0_pay3 (F := Ideal) u w x (ix2 i k)

/-- A row's cotangent, at a block's row. -/
abbrev blkCt (i : Fin 256) (k : Fin 1024) : EReal := ct (blkHidden u w x i) (fun j => g (ix2 0 j)) (fun j => r (ix2 i j)) k

/-- The rows of a block. -/
def rowsOf : FVec Ideal S256x1024 .f32 := k0_pay10 (F := Ideal) (k0_pay4 u w x) (k0_pay5 u w x) (k0_pay8 u w x g r) (k0_pay9 u w x g r)

theorem rowsOf_at (i : Fin 256) (k : Fin 1024) :
    rowsOf u w x r g (ix2 i k)
      = invRms (blkHidden u w x i) * (blkCt u w x r g i k * g (ix2 0 k) - blkHidden u w x i k * invRms (blkHidden u w x i)
          * Ideal.div (∑ j, blkCt u w x r g i j * g (ix2 0 j) * (blkHidden u w x i j * invRms (blkHidden u w x i))) (Ideal.ofBits .f32 0x44800000#32)) := by
  unfold rowsOf
  pointwise [k0_pay4, k0_pay5, k0_pay6, k0_pay7, k0_pay8, k0_pay9, k0_pay10]
  rfl

/-- What a block adds to the gain's gradient. -/
def gainTerm (k : Fin 1024) : EReal := ∑ i : Fin 256, blkCt u w x r g i k * (blkHidden u w x i k * invRms (blkHidden u w x i))

theorem pay_gain (z : FVec Ideal S1x1024 .f32) (k : Fin 1024) :
    k0_pay12 (F := Ideal) (k0_pay5 u w x) (k0_pay7 u w x g r) z (ix2 0 k) = z (ix2 0 k) + gainTerm u w x r g k := by
  pointwise [k0_pay4, k0_pay5, k0_pay6, k0_pay7, k0_pay12]
  rfl

/-- What a block adds to the loss. -/
def lossTerm : EReal := Ideal.ofBits .f32 0x3F000000#32 * ∑ i : Fin 256, rowLoss (blkHidden u w x i) (fun j => g (ix2 0 j)) (fun j => r (ix2 i j))

/-- A number in the first entry of a block of zeros. -/
def corner (s : EReal) (i : Fin 8) (k : Fin 128) : EReal := if i.val = 0 ∧ k.val = 0 then s else 0

theorem sum_corner {ι : Type*} [Fintype ι] (s : ι → EReal) (i : Fin 8) (k : Fin 128) : ∑ j, corner (s j) i k = corner (∑ j, s j) i k := by
  unfold corner
  split
  · rfl
  · exact Finset.sum_const_zero

theorem corner_bit : ∀ (i : Fin 8) (k : Fin 128), IntOp.andi (IntOp.cmpi CmpIPredicate.eq (BitVec.ofNat 32 i.val) 0#32) (IntOp.cmpi CmpIPredicate.eq (BitVec.ofNat 32 k.val) 0#32)
    = if i.val = 0 ∧ k.val = 0 then 1#1 else 0#1 := by decide +kernel

theorem pay_loss (z : FVec Ideal S8x128 .f32) (i : Fin 8) (k : Fin 128) :
    k0_pay13 (F := Ideal) (k0_pay6 u w x g r) z (ix2 i k) = z (ix2 i k) + corner (lossTerm u w x r g) i k := by
  unfold corner
  pointwise [k0_pay4, k0_pay5, k0_pay6, k0_pay13]
  rw [corner_bit]
  split <;> rfl

/-- A block's row of the layer's result, over the whole arrays. -/
theorem hidden_match {u w x} {U : FVec Ideal S8192x4096 .f32} {W : FVec Ideal S1x4096x1024 .f32} {X : FVec Ideal S8192x1024 .f32} {i : Fin 256} {n : Fin 8192}
    (hu : ∀ l, u (ix2 i l) = max (U (ix2 n l)) 0) (hw : ∀ y, w y = W y) (hx : ∀ l, x (ix2 i l) = X (ix2 n l)) : blkHidden u w x i = outRow U W X n := by
  funext k
  unfold blkHidden outRow
  pointwise [k0_pay3]
  rw [hx, add_comm]
  exact congrArg (_ + ·) (Finset.sum_congr rfl fun l _ => by rw [hu, hw])

theorem isReal_hidden {U : FVec Ideal S8192x4096 .f32} {W : FVec Ideal S1x4096x1024 .f32} {X : FVec Ideal S8192x1024 .f32}
    (rU : ∀ y, IsReal (U y)) (rW : ∀ y, IsReal (W y)) (rX : ∀ y, IsReal (X y)) (n : Fin 8192) (k : Fin 1024) : IsReal (outRow U W X n k) := by
  have hm : ∀ y, IsReal (max (U y) 0) := by
    intro y
    obtain ⟨a, ha⟩ := rU y
    exact ⟨max a 0, by rw [ha]; exact (EReal.coe_strictMono.monotone.map_max (a := a) (b := 0)).symm⟩
  exact IsReal.add (rX (ix2 n k)) (IsReal.sum fun c => IsReal.mul (IsReal.mul (hm (ix2 n c)) (hm (ix2 n c))) (rW (ix3 0 c k)))

/-- A row of a block against the reference's row of which it is a copy. -/
theorem rows_match {u w x r g} {U : FVec Ideal S8192x4096 .f32} {W : FVec Ideal S1x4096x1024 .f32} {X R : FVec Ideal S8192x1024 .f32} {i : Fin 256} {n : Fin 8192}
    (hh : blkHidden u w x i = outRow U W X n) (hr : ∀ l, r (ix2 i l) = R (ix2 n l))
    (rU : ∀ y, IsReal (U y)) (rW : ∀ y, IsReal (W y)) (rX : ∀ y, IsReal (X y)) (rR : ∀ y, IsReal (R y)) (rg : ∀ y, IsReal (g y)) (k : Fin 1024) :
    rowsOf u w x r g (ix2 i k) = val_main_v53 (F := Ideal) U W X R g (ix2 n k) := by
  rw [rowsOf_at, rows_at]
  have hb : blkCt u w x r g i = ctRow U W X R g n := by
    funext j
    unfold blkCt ctRow
    rw [hh]
    simp only [hr]
  rw [hb, hh]
  have rh := isReal_hidden rU rW rX n
  exact grad_row (x := outRow U W X n) (u := fun j => ctRow U W X R g n j * g (ix2 0 j)) rh (fun j => IsReal.mul (isReal_ct rh (fun j => rg (ix2 0 j)) (fun j => rR (ix2 n j)) j) (rg (ix2 0 j))) k
end

/-- One half of a sum of real numbers, block by block. -/
theorem half_sum {f : Fin 8192 → EReal} (hf : ∀ n, IsReal (f n)) :
    ∑ s : Fin 32, Ideal.ofBits .f32 0x3F000000#32 * ∑ i : Fin 256, f ⟨s.val * 256 + i.val, by omega⟩ = Ideal.ofBits .f32 0x3F000000#32 * ∑ n, f n := by
  obtain ⟨f, rfl⟩ := exists_real hf
  rw [ofBits_half]
  simp only [coe_sum, ← EReal.coe_mul]
  rw [← Finset.mul_sum]
  exact congrArg (fun z : ℝ => ((1 / 2 * z : ℝ) : EReal)) (Fin.sum_mul_add_fin 32 256 f)

theorem idx : ∀ t : Fin cfg0.N, win0_0.index t = ![t.val, 0] ∧ win0_1.index t = ![0, 0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] ∧ win0_8.index t = ![0, 0] :=
  (by decide +kernel : ∀ t : Fin grid0.N, _)

variable (m : (ℓ : Loc nD τ sig) → Buf (Elt Ideal) ℓ)

section
variable (c : Dev nD) (t : Fin cfg0.N) (i : Fin 256) (h : t.val * 256 + i.val < 8192)

theorem blk_u (k : Fin 4096) : iblk m c 0 t (ix2 i k) = max (α := EReal) (m ((c : Thread nD τ).loc main_arg0) (ix2 ⟨t.val * 256 + i.val, h⟩ k)) 0 := by
  refine Eq.trans (b := max (α := EReal) (m ((c : Thread nD τ).loc main_arg0) ((win0_0.blk t).view.emb (ix2 i k))) 0) ?_ (congrArg (fun j => max (α := EReal) (m ((c : Thread nD τ).loc main_arg0) j) 0) ?_)
  · blk_point [iblk, V, idx t]
  · blk_ext [idx t]
theorem blk_w (y : S1x4096x1024.Idx) : iblk m c 1 t y = m ((c : Thread nD τ).loc main_arg1) y := by
  blk_point [iblk, V, idx t]
theorem blk_x (k : Fin 1024) : iblk m c 2 t (ix2 i k) = m ((c : Thread nD τ).loc main_arg2) (ix2 ⟨t.val * 256 + i.val, h⟩ k) := by
  blk_point [iblk, V, idx t]
theorem blk_r (k : Fin 1024) : iblk m c 3 t (ix2 i k) = m ((c : Thread nD τ).loc main_arg3) (ix2 ⟨t.val * 256 + i.val, h⟩ k) := by
  blk_point [iblk, V, idx t]
theorem blk_g : iblk m c 4 t = m ((c : Thread nD τ).loc main_arg4) := by
  funext y
  blk_point [iblk, V, idx t]

theorem hidden_blk : blkHidden (iblk m c 0 t) (iblk m c 1 t) (iblk m c 2 t) i = outRow (m ((c : Thread nD τ).loc main_arg0)) (m ((c : Thread nD τ).loc main_arg1)) (m ((c : Thread nD τ).loc main_arg2)) ⟨t.val * 256 + i.val, h⟩ :=
  hidden_match (fun l => blk_u m c t i h l) (fun y => blk_w m c t y) (fun l => blk_x m c t i h l)
end

/-- The rows at one point. -/
theorem out_rows (c : Dev nD) (t : Fin cfg0.N) (i : Fin 256) (k : Fin 1024) :
    (outsAt0 m c t.val t.isLt).1 (ix2 i k) = rowsOf (iblk m c 0 t) (iblk m c 1 t) (iblk m c 2 t) (iblk m c 3 t) (iblk m c 4 t) (ix2 i k) := by
  by_cases h : t.val % 32 = 0
  · rw [outsAt0_A m c t h]
    frame_out
    rfl
  · rw [outsAt0_B m c t h]
    frame_out
    rfl

/-- Their copy in the narrow format. -/
theorem out_copy (c : Dev nD) (t : Fin cfg0.N) (i : Fin 256) (k : Fin 1024) :
    (outsAt0 m c t.val t.isLt).2.1 (ix2 i k) = rowsOf (iblk m c 0 t) (iblk m c 1 t) (iblk m c 2 t) (iblk m c 3 t) (iblk m c 4 t) (ix2 i k) := by
  by_cases h : t.val % 32 = 0
  · rw [outsAt0_A m c t h]
    frame_out
    rfl
  · rw [outsAt0_B m c t h]
    frame_out
    rfl

/-- What a point adds to the gain's gradient. -/
def term (c : Dev nD) (t : Fin cfg0.N) (y : S8x1024.Idx) : EReal := firstRow (gainTerm (iblk m c 0 t) (iblk m c 1 t) (iblk m c 2 t) (iblk m c 3 t) (iblk m c 4 t)) (y 0) (y 1)

theorem sums_A (c : Dev nD) (t : Fin cfg0.N) (h : t.val % 32 = 0) (y : S8x1024.Idx) :
    (outsAt0 m c t.val t.isLt).2.2.1 y = (0 : EReal) + term m c t y := by
  rw [outsAt0_A m c t h]
  frame_out
  idx_vars y
  rw [RowStore.canon_row0 (by decide), View.readCov_fill _ _ _ _ _ (by decide), View.canon_cons_unit_lit _ _ _ (by decide)]
  show _ = 0 + firstRow _ y0 y1
  unfold firstRow
  split
  · rw [pay_gain, RowStore.ld_row0 _ (by decide)]
    exact congrArg (· + _) (Ideal.ofBits_zero .f32)
  · rw [add_zero]
    exact Ideal.ofBits_zero .f32

theorem sums_B (c : Dev nD) (t : Fin cfg0.N) (h : ¬t.val % 32 = 0) (y : S8x1024.Idx) :
    (outsAt0 m c t.val t.isLt).2.2.1 y = (outsAt0 m c (t.val - 1) (Nat.lt_of_le_of_lt (Nat.sub_le _ _) t.isLt)).2.2.1 y + term m c t y := by
  rw [outsAt0_B m c t h]
  frame_out
  idx_vars y
  rw [RowStore.read_row0]
  show _ = _ + firstRow _ y0 y1
  unfold firstRow
  split
  · next h0 =>
    rw [pay_gain, RowStore.ld_row0 _ (by decide)]
    exact congrArg (fun i => (outsAt0 m c (t.val - 1) (Nat.lt_of_le_of_lt (Nat.sub_le _ _) t.isLt)).2.2.1 (ix2 i y1) + _) (Fin.ext h0.symm)
  · rw [add_zero]

/-- What a point adds to the loss. -/
def lossAt (c : Dev nD) (t : Fin cfg0.N) (y : S8x128.Idx) : EReal := corner (lossTerm (iblk m c 0 t) (iblk m c 1 t) (iblk m c 2 t) (iblk m c 3 t) (iblk m c 4 t)) (y 0) (y 1)

theorem loss_A (c : Dev nD) (t : Fin cfg0.N) (h : t.val % 32 = 0) (y : S8x128.Idx) :
    (outsAt0 m c t.val t.isLt).2.2.2 y = (0 : EReal) + lossAt m c t y := by
  rw [outsAt0_A m c t h]
  frame_out
  idx_vars y
  rw [pay_loss]
  exact congrArg (· + _) (Ideal.ofBits_zero .f32)

theorem loss_B (c : Dev nD) (t : Fin cfg0.N) (h : ¬t.val % 32 = 0) (y : S8x128.Idx) :
    (outsAt0 m c t.val t.isLt).2.2.2 y = (outsAt0 m c (t.val - 1) (Nat.lt_of_le_of_lt (Nat.sub_le _ _) t.isLt)).2.2.2 y + lossAt m c t y := by
  rw [outsAt0_B m c t h]
  frame_out
  idx_vars y
  exact pay_loss _ _ _ _ _ _ _ _

section
variable (c : Dev nD) (hu : ∀ i, IsReal (m ((c : Thread nD τ).loc main_arg0) i)) (hw : ∀ i, IsReal (m ((c : Thread nD τ).loc main_arg1) i)) (hx : ∀ i, IsReal (m ((c : Thread nD τ).loc main_arg2) i))
  (hr : ∀ i, IsReal (m ((c : Thread nD τ).loc main_arg3) i)) (hg : ∀ i, IsReal (m ((c : Thread nD τ).loc main_arg4) i))
include hu hw hx hr hg

/-- A row of a block is the reference's row. -/
theorem rows_eq (t : Fin cfg0.N) (i : Fin 256) (h : t.val * 256 + i.val < 8192) (k : Fin 1024) :
    rowsOf (iblk m c 0 t) (iblk m c 1 t) (iblk m c 2 t) (iblk m c 3 t) (iblk m c 4 t) (ix2 i k)
      = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 256 + i.val, h⟩ k) := by
  rw [blk_g]
  exact rows_match (hidden_blk m c t i h) (fun l => blk_r m c t i h l) hu hw hx hr hg k

theorem final5 : (dats m 0 c).arrAt 5 (cfgs 0).N = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  idx_vars y
  have hN : t.val < 32 := t.isLt
  rw [after0_5]
  refine (out_rows m c t y0 y1).trans ((rows_eq m c hu hw hx hr hg t y0 (by omega) y1).trans (congrArg _ ?_))
  blk_ext [idx t]

theorem final6 : (dats m 0 c).arrAt 6 (cfgs 0).N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  idx_vars y
  have hN : t.val < 32 := t.isLt
  rw [after0_6]
  refine (out_copy m c t y0 y1).trans ((rows_eq m c hu hw hx hr hg t y0 (by omega) y1).trans ((LossRef.copy_at _ _ _ _ _ _ _).symm.trans (congrArg _ ?_)))
  blk_ext [idx t]

/-- What a point adds to the loss, by the reference's rows. -/
theorem loss_rows (t : Fin cfg0.N) (s : Fin 32) (e : t.val = s.val) :
    lossTerm (iblk m c 0 t) (iblk m c 1 t) (iblk m c 2 t) (iblk m c 3 t) (iblk m c 4 t)
      = Ideal.ofBits .f32 0x3F000000#32 * ∑ i : Fin 256, (fun n : Fin 8192 => rowLoss (outRow (m ((c : Thread nD τ).loc main_arg0)) (m ((c : Thread nD τ).loc main_arg1)) (m ((c : Thread nD τ).loc main_arg2)) n) (fun j => m ((c : Thread nD τ).loc main_arg4) (ix2 0 j)) (fun j => m ((c : Thread nD τ).loc main_arg3) (ix2 n j))) ⟨s.val * 256 + i.val, by omega⟩ := by
  unfold lossTerm
  refine congrArg (_ * ·) (Finset.sum_congr rfl fun i _ => ?_)
  have hs : t.val * 256 + i.val < 8192 := by omega
  simp only [hidden_blk m c t i hs, blk_r m c t i hs, blk_g, e]

theorem final8 : (dats m 0 c).arrAt 8 (cfgs 0).N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  idx_vars y
  rw [after0_8, Pipeline.eq_sum_fin_of_reset_step_apply_of_flush (fun n h => (outsAt0 m c n h).2.2.2) 32 (fun _ => (0 : EReal)) (fun t => lossAt m c t)
    (fun t h j => loss_A m c t h j) (fun t h j => loss_B m c t h j) t ((flush0_8 t).mp hf) _, zero_add]
  have hy : (win0_8.blk t).view.emb (ix2 y0 y1) = ix2 y0 y1 := by blk_ext [idx t]
  have hN : t.val < 32 := t.isLt
  rw [hy, LossRef.loss_at]
  refine (sum_corner (fun s : Fin 32 => lossTerm (iblk m c 0 ⟨32 * (t.val / 32) + s.val, Pipeline.run_point_lt_of_flush t ((flush0_8 t).mp hf) s⟩) (iblk m c 1 ⟨32 * (t.val / 32) + s.val, Pipeline.run_point_lt_of_flush t ((flush0_8 t).mp hf) s⟩) (iblk m c 2 ⟨32 * (t.val / 32) + s.val, Pipeline.run_point_lt_of_flush t ((flush0_8 t).mp hf) s⟩) (iblk m c 3 ⟨32 * (t.val / 32) + s.val, Pipeline.run_point_lt_of_flush t ((flush0_8 t).mp hf) s⟩) (iblk m c 4 ⟨32 * (t.val / 32) + s.val, Pipeline.run_point_lt_of_flush t ((flush0_8 t).mp hf) s⟩)) y0 y1).trans (congrArg (corner · y0 y1) ?_)
  refine (Finset.sum_congr rfl fun s _ => loss_rows m c hu hw hx hr hg ⟨32 * (t.val / 32) + s.val, Pipeline.run_point_lt_of_flush t ((flush0_8 t).mp hf) s⟩ s (by show 32 * (t.val / 32) + s.val = s.val; omega)).trans ?_
  have hl (n : Fin 8192) : IsReal (rowLoss (outRow (m ((c : Thread nD τ).loc main_arg0)) (m ((c : Thread nD τ).loc main_arg1)) (m ((c : Thread nD τ).loc main_arg2)) n) (fun j => m ((c : Thread nD τ).loc main_arg4) (ix2 0 j)) (fun j => m ((c : Thread nD τ).loc main_arg3) (ix2 n j))) :=
    isReal_rowLoss (isReal_hidden hu hw hx n) (fun j => hg (ix2 0 j)) (fun j => hr (ix2 n j))
  exact half_sum hl
end

/-- What a point adds to the gain's gradient, by the reference's rows. -/
theorem term_rows (c : Dev nD) (t : Fin cfg0.N) (s : Fin 32) (e : t.val = s.val) (k : Fin 1024) :
    gainTerm (iblk m c 0 t) (iblk m c 1 t) (iblk m c 2 t) (iblk m c 3 t) (iblk m c 4 t) k
      = ∑ i : Fin 256, LossRef.gainRow (m ((c : Thread nD τ).loc main_arg0)) (m ((c : Thread nD τ).loc main_arg1)) (m ((c : Thread nD τ).loc main_arg2)) (m ((c : Thread nD τ).loc main_arg3)) (m ((c : Thread nD τ).loc main_arg4)) ⟨s.val * 256 + i.val, by omega⟩ k := by
  unfold gainTerm LossRef.gainRow
  refine Finset.sum_congr rfl fun i _ => ?_
  have hs : t.val * 256 + i.val < 8192 := by omega
  unfold blkCt ctRow
  simp only [hidden_blk m c t i hs, blk_r m c t i hs, blk_g, e]

theorem final7 (c : Dev nD) : (dats m 0 c).arrAt 7 (cfgs 0).N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  idx_vars y
  rw [after0_7, Pipeline.eq_sum_fin_of_reset_step_apply_of_flush (fun n h => (outsAt0 m c n h).2.2.1) 32 (fun _ => (0 : EReal)) (fun t => term m c t)
    (fun t h j => sums_A m c t h j) (fun t h j => sums_B m c t h j) t ((flush0_7 t).mp hf) _, zero_add]
  have hy : (win0_7.blk t).view.emb (ix2 y0 y1) = ix2 y0 y1 := by blk_ext [idx t]
  have hN : t.val < 32 := t.isLt
  rw [hy, LossRef.gain_at]
  refine (sum_firstRow (fun s : Fin 32 => gainTerm (iblk m c 0 ⟨32 * (t.val / 32) + s.val, Pipeline.run_point_lt_of_flush t ((flush0_7 t).mp hf) s⟩) (iblk m c 1 ⟨32 * (t.val / 32) + s.val, Pipeline.run_point_lt_of_flush t ((flush0_7 t).mp hf) s⟩) (iblk m c 2 ⟨32 * (t.val / 32) + s.val, Pipeline.run_point_lt_of_flush t ((flush0_7 t).mp hf) s⟩) (iblk m c 3 ⟨32 * (t.val / 32) + s.val, Pipeline.run_point_lt_of_flush t ((flush0_7 t).mp hf) s⟩) (iblk m c 4 ⟨32 * (t.val / 32) + s.val, Pipeline.run_point_lt_of_flush t ((flush0_7 t).mp hf) s⟩)) y0 y1).trans (congrArg (firstRow · y0 y1) (funext fun k => ?_))
  refine (Finset.sum_congr rfl fun s _ => term_rows m c ⟨32 * (t.val / 32) + s.val, Pipeline.run_point_lt_of_flush t ((flush0_7 t).mp hf) s⟩ s (by show 32 * (t.val / 32) + s.val = s.val; omega) k).trans ?_
  exact Fin.sum_mul_add_fin 32 256 (fun n : Fin 8192 => LossRef.gainRow (m ((c : Thread nD τ).loc main_arg0)) (m ((c : Thread nD τ).loc main_arg1)) (m ((c : Thread nD τ).loc main_arg2)) (m ((c : Thread nD τ).loc main_arg3)) (m ((c : Thread nD τ).loc main_arg4)) n k)

end Cert.KernelLossIdeal.Value

end
-- ==== Proof.Loss.lean ====
/-
  `mm_down_loss`: the claim. On finite arguments the results of the kernel are the derivative's.
-/
module

public import proofs.«01_k».proof.Defs
public import proofs.«01_k».proof.Proof.LossValue
public import proofs.«01_k».proof.Proof.Gen.ReferenceLossIdeal.Run
public import proofs.«01_k».proof.Proof.Gen.Pre_finite_loss
public import Idealize.ShloMosaic.Lib.Claim

@[expose] public section

set_option maxRecDepth 16384

noncomputable section

namespace Cert.Loss

open Idealize.ShloMosaic Idealize.ShloMosaic.TcCoe Idealize.SL.Sem
open Cert.KernelLossIdeal Cert.Reals

/-- What the precondition says of the arguments. -/
theorem finite {m : (ℓ : Loc nD τ sig) → Buf (Elt Ideal) ℓ} (h : Cert.Pre_KernelLossIdeal_finite_loss m) (c : Dev nD) :
    (∀ i, IsReal (m ((c : Thread nD τ).loc main_arg0) i)) ∧ (∀ i, IsReal (m ((c : Thread nD τ).loc main_arg1) i))
      ∧ (∀ i, IsReal (m ((c : Thread nD τ).loc main_arg2) i)) ∧ (∀ i, IsReal (m ((c : Thread nD τ).loc main_arg3) i)) ∧ (∀ i, IsReal (m ((c : Thread nD τ).loc main_arg4) i)) :=
  ⟨fun i => isReal_of_cmpf (congrFun (h c).1 i), fun i => isReal_of_cmpf (congrFun (h c).2.1 i), fun i => isReal_of_cmpf (congrFun (h c).2.2.1 i), fun i => isReal_of_cmpf (congrFun (h c).2.2.2.1 i), fun i => isReal_of_cmpf (congrFun (h c).2.2.2.2 i)⟩

theorem algebraic : Cert.algebraic_KernelLossIdeal_ReferenceLossIdeal_pre_finite_loss := by
  pair_intro
  · run_from Cert.KernelLossIdeal.Value.run_blocks m g
  · run_from Cert.ReferenceLossIdeal.Value.run m' g'
    · obtain ⟨hu, hw, hx, hr, hg⟩ := finite hpre c
      refine (Cert.ReferenceLossIdeal.Read.val_main_v53_eq m' c).trans ?_
      rw [(hagree c).1, (hagree c).2.1, (hagree c).2.2.1, (hagree c).2.2.2.1, (hagree c).2.2.2.2]
      exact (Cert.KernelLossIdeal.Value.final5 m c hu hw hx hr hg).symm
    · obtain ⟨hu, hw, hx, hr, hg⟩ := finite hpre c
      refine (Cert.ReferenceLossIdeal.Read.val_main_v54_eq m' c).trans ?_
      rw [(hagree c).1, (hagree c).2.1, (hagree c).2.2.1, (hagree c).2.2.2.1, (hagree c).2.2.2.2]
      exact (Cert.KernelLossIdeal.Value.final6 m c hu hw hx hr hg).symm
    · obtain ⟨hu, hw, hx, hr, hg⟩ := finite hpre c
      refine (Cert.ReferenceLossIdeal.Read.val_main_v56_eq m' c).trans ?_
      rw [(hagree c).1, (hagree c).2.1, (hagree c).2.2.1, (hagree c).2.2.2.1, (hagree c).2.2.2.2]
      exact (Cert.KernelLossIdeal.Value.final7 m c).symm
    · obtain ⟨hu, hw, hx, hr, hg⟩ := finite hpre c
      refine (Cert.ReferenceLossIdeal.Read.val_main_v58_eq m' c).trans ?_
      rw [(hagree c).1, (hagree c).2.1, (hagree c).2.2.1, (hagree c).2.2.2.1, (hagree c).2.2.2.2]
      exact (Cert.KernelLossIdeal.Value.final8 m c hu hw hx hr hg).symm

end Cert.Loss

end
-- ==== Proof.DyScratch.lean ====
/-
  The gradient of y, gathered from the three strides (`_assemble_dy`): what the kernel's scratch holds once every row
  class of a block has been stored into it, whatever was stored there before.
-/
module

public import proofs.«01_k».proof.Proof.Gen.KernelDyIdeal.Value
public import Idealize.ShloMosaic.Lib.Pipeline.ReadBack
public import Idealize.ShloMosaic.Lib.Pipeline.StridedRows
public import proofs.«01_k».proof.Proof.Norm

@[expose] public section

set_option maxRecDepth 16384

noncomputable section

namespace Cert.KernelDyIdeal.Value

open Cert.KernelDyIdeal Cert.KernelDyIdeal.Gen Idealize.ShloMosaic Idealize.ShloMosaic.TcCoe Idealize.SL.Sem

/-- The stores of row class `r` of four, into lane chunk `c`; -/
abbrev row4 (c r : Fin 4) : Rect S4x512x128 := StridedRows.rowRect (C := 4) (N := 128) (DP := 4) (D := 4) (L := 128) le_rfl c r
/-- of sixteen. -/
abbrev row16 (c : Fin 4) (r : Fin 16) : Rect S4x512x128 := StridedRows.rowRect (C := 4) (N := 32) (DP := 16) (D := 16) (L := 128) le_rfl c r

/-- The rows of the four classes `X`, interleaved, at chunk, row and lane; -/
def mix4 (X : Vec Ideal S4x128x512 .bf16) (y : S4x512x128.Idx) : EReal :=
  X (ix3 (⟨(y 1).val % 4, Nat.mod_lt _ (by norm_num)⟩ : Fin 4) (⟨(y 1).val / 4, by have h : (y 1).val < 512 := (y 1).isLt; omega⟩ : Fin 128)
    (⟨(y 0).val * 128 + (y 2).val, by have h : (y 0).val < 4 := (y 0).isLt; have h' : (y 2).val < 128 := (y 2).isLt; omega⟩ : Fin 512))
/-- of the sixteen. -/
def mix16 (X : Vec Ideal S16x32x512 .bf16) (y : S4x512x128.Idx) : EReal :=
  X (ix3 (⟨(y 1).val % 16, Nat.mod_lt _ (by norm_num)⟩ : Fin 16) (⟨(y 1).val / 16, by have h : (y 1).val < 512 := (y 1).isLt; omega⟩ : Fin 32)
    (⟨(y 0).val * 128 + (y 2).val, by have h : (y 0).val < 4 := (y 0).isLt; have h' : (y 2).val < 128 := (y 2).isLt; omega⟩ : Fin 512))

theorem ix3_ext {n1 n2 n3 : ℕ} {a a' : Fin n1} {b b' : Fin n2} {c c' : Fin n3} (h1 : a = a') (h2 : b = b') (h3 : c = c') : ix3 a b c = ix3 a' b' c' := by
  rw [h1, h2, h3]

/-- A lane slice of a loaded class's rows, at a row and a lane; -/
theorem slice4 (V : FVec Ideal S1x128x512 .bf16) (o : ℕ) (h1 : S1x128x512.ShapeCasts S128x512) (h2 : FTy.bits .bf16 < FTy.bits .f32)
    (h3 : S128x512.Slices ![0, o] S128x128) (h4 : S128x128.ShapeCasts S1x128x128) (z : Fin 1) (a : Fin 128) (b : Fin 128) (hb : o + b.val < 512) :
    shapeCast S1x128x128 (extractStridedSlice S128x128 ![0, o] (extf .f32 (shapeCast S128x512 V h1 : FVec Ideal S128x512 .bf16) h2) h3 : FVec Ideal S128x128 .f32) h4 (ix3 z a b)
      = V (ix3 (0 : Fin 1) a (⟨o + b.val, hb⟩ : Fin 512)) := by
  pointwise []

/-- the rows of one class; -/
theorem ld4 (X : Vec Ideal S4x128x512 .bf16) (r : Fin 4) {off : Fin 3 → ℕ} (hr : off = ![r.val, 0, 0])
    (inb : ∀ a, off a + (![1, 128, 512] : Fin 3 → ℕ) a ≤ S4x128x512.size a) (z : Fin 1) (a : Fin 128) (k : Fin 512) :
    View.ld X (Rect.unit (s := S4x128x512) off ![1, 128, 512] inb) (ix3 z a k) = X (ix3 r a k) := by
  subst hr
  refine congrArg X (funext fun d => Fin.ext ?_)
  have hz : z.val = 0 := by omega
  match d with
  | ⟨0, _⟩ => show r.val + 1 * z.val = r.val; omega
  | ⟨1, _⟩ => show 0 + 1 * a.val = a.val; omega
  | ⟨2, _⟩ => show 0 + 1 * k.val = k.val; omega

/-- so one store stages its own rows of `mix4`. -/
theorem piece4 (X : Vec Ideal S4x128x512 .bf16) (c : Fin 4) (r : Fin 4) (o : ℕ) (ho : o = c.val * 128) {off : Fin 3 → ℕ} (hr : off = ![r.val, 0, 0])
    (inb : ∀ a, off a + (![1, 128, 512] : Fin 3 → ℕ) a ≤ S4x128x512.size a) (h1 : S1x128x512.ShapeCasts S128x512) (h2 : FTy.bits .bf16 < FTy.bits .f32)
    (h3 : S128x512.Slices ![0, o] S128x128) (h4 : S128x128.ShapeCasts S1x128x128) (x : S1x128x128.Idx) :
    shapeCast S1x128x128 (extractStridedSlice S128x128 ![0, o] (extf .f32 (shapeCast S128x512 (View.ld X (Rect.unit (s := S4x128x512) off ![1, 128, 512] inb)) h1 : FVec Ideal S128x512 .bf16) h2) h3 : FVec Ideal S128x128 .f32) h4 x
      = mix4 X ((row4 c r).emb x) := by
  obtain ⟨e0, e1, e2⟩ := StridedRows.rowRect_emb_val (C := 4) (N := 128) (DP := 4) (D := 4) (L := 128) le_rfl c r x
  idx_vars x
  have hx1 : x1.val < 128 := x1.isLt
  have hx2 : x2.val < 128 := x2.isLt
  have hr' : r.val < 4 := r.isLt
  have hc : c.val < 4 := c.isLt
  have hb : o + x2.val < 512 := by omega
  rw [slice4 _ o h1 h2 h3 h4 x0 x1 x2 hb, ld4 X r hr inb]
  change _ = r.val + 4 * x1.val at e1
  change _ = x2.val at e2
  refine congrArg X (ix3_ext (Fin.ext ?_) (Fin.ext ?_) (Fin.ext ?_))
  · show r.val = _ % 4; rw [e1]; omega
  · show x1.val = _ / 4; rw [e1]; omega
  · show o + x2.val = _ * 128 + _; rw [e0, e2, ho]

/-- The same, the chunk and the class given as numbers. -/
theorem store4 (X : Vec Ideal S4x128x512 .bf16) (c r : ℕ) (hc : c < 4) (hr' : r < 4) (o : ℕ) (ho : o = c * 128) {off : Fin 3 → ℕ} (hr : off = ![r, 0, 0])
    (x : S1x128x128.Idx) :
    shapeCast S1x128x128 (extractStridedSlice S128x128 ![0, o] (extf .f32 (shapeCast S128x512 (View.ld X (Rect.unit (s := S4x128x512) off ![1, 128, 512]
        (by subst hr; intro a; match a with
            | ⟨0, _⟩ => exact hr'
            | ⟨1, _⟩ => exact le_rfl
            | ⟨2, _⟩ => exact le_rfl))) shapeCasts_S1x128x512_S128x512 : FVec Ideal S128x512 .bf16) bitsLt_bf16_f32)
        ⟨rfl, by subst ho; intro a; match a with
            | ⟨0, _⟩ => exact le_rfl
            | ⟨1, _⟩ => show c * 128 + 128 ≤ 512; omega⟩ : FVec Ideal S128x128 .f32) shapeCasts_S128x128_S1x128x128 x
      = mix4 X ((row4 ⟨c, hc⟩ ⟨r, hr'⟩).emb x) :=
  piece4 X ⟨c, hc⟩ ⟨r, hr'⟩ o ho hr _ _ _ _ _ x

/-- The same for sixteen classes: a lane slice; -/
theorem slice16 (V : FVec Ideal S1x32x512 .bf16) (o : ℕ) (h1 : S1x32x512.ShapeCasts S32x512) (h2 : FTy.bits .bf16 < FTy.bits .f32)
    (h3 : S32x512.Slices ![0, o] S32x128) (h4 : S32x128.ShapeCasts S1x32x128) (z : Fin 1) (a : Fin 32) (b : Fin 128) (hb : o + b.val < 512) :
    shapeCast S1x32x128 (extractStridedSlice S32x128 ![0, o] (extf .f32 (shapeCast S32x512 V h1 : FVec Ideal S32x512 .bf16) h2) h3 : FVec Ideal S32x128 .f32) h4 (ix3 z a b)
      = V (ix3 (0 : Fin 1) a (⟨o + b.val, hb⟩ : Fin 512)) := by
  pointwise []

/-- the rows of one class; -/
theorem ld16 (X : Vec Ideal S16x32x512 .bf16) (r : Fin 16) {off : Fin 3 → ℕ} (hr : off = ![r.val, 0, 0])
    (inb : ∀ a, off a + (![1, 32, 512] : Fin 3 → ℕ) a ≤ S16x32x512.size a) (z : Fin 1) (a : Fin 32) (k : Fin 512) :
    View.ld X (Rect.unit (s := S16x32x512) off ![1, 32, 512] inb) (ix3 z a k) = X (ix3 r a k) := by
  subst hr
  refine congrArg X (funext fun d => Fin.ext ?_)
  have hz : z.val = 0 := by omega
  match d with
  | ⟨0, _⟩ => show r.val + 1 * z.val = r.val; omega
  | ⟨1, _⟩ => show 0 + 1 * a.val = a.val; omega
  | ⟨2, _⟩ => show 0 + 1 * k.val = k.val; omega

/-- so one store stages its own rows of `mix16`. -/
theorem piece16 (X : Vec Ideal S16x32x512 .bf16) (c : Fin 4) (r : Fin 16) (o : ℕ) (ho : o = c.val * 128) {off : Fin 3 → ℕ} (hr : off = ![r.val, 0, 0])
    (inb : ∀ a, off a + (![1, 32, 512] : Fin 3 → ℕ) a ≤ S16x32x512.size a) (h1 : S1x32x512.ShapeCasts S32x512) (h2 : FTy.bits .bf16 < FTy.bits .f32)
    (h3 : S32x512.Slices ![0, o] S32x128) (h4 : S32x128.ShapeCasts S1x32x128) (x : S1x32x128.Idx) :
    shapeCast S1x32x128 (extractStridedSlice S32x128 ![0, o] (extf .f32 (shapeCast S32x512 (View.ld X (Rect.unit (s := S16x32x512) off ![1, 32, 512] inb)) h1 : FVec Ideal S32x512 .bf16) h2) h3 : FVec Ideal S32x128 .f32) h4 x
      = mix16 X ((row16 c r).emb x) := by
  obtain ⟨e0, e1, e2⟩ := StridedRows.rowRect_emb_val (C := 4) (N := 32) (DP := 16) (D := 16) (L := 128) le_rfl c r x
  idx_vars x
  have hx1 : x1.val < 32 := x1.isLt
  have hx2 : x2.val < 128 := x2.isLt
  have hr' : r.val < 16 := r.isLt
  have hc : c.val < 4 := c.isLt
  have hb : o + x2.val < 512 := by omega
  rw [slice16 _ o h1 h2 h3 h4 x0 x1 x2 hb, ld16 X r hr inb]
  change _ = r.val + 16 * x1.val at e1
  change _ = x2.val at e2
  refine congrArg X (ix3_ext (Fin.ext ?_) (Fin.ext ?_) (Fin.ext ?_))
  · show r.val = _ % 16; rw [e1]; omega
  · show x1.val = _ / 16; rw [e1]; omega
  · show o + x2.val = _ * 128 + _; rw [e0, e2, ho]

/-- The same, the chunk and the class given as numbers. -/
theorem store16 (X : Vec Ideal S16x32x512 .bf16) (c r : ℕ) (hc : c < 4) (hr' : r < 16) (o : ℕ) (ho : o = c * 128) {off : Fin 3 → ℕ} (hr : off = ![r, 0, 0])
    (x : S1x32x128.Idx) :
    shapeCast S1x32x128 (extractStridedSlice S32x128 ![0, o] (extf .f32 (shapeCast S32x512 (View.ld X (Rect.unit (s := S16x32x512) off ![1, 32, 512]
        (by subst hr; intro a; match a with
            | ⟨0, _⟩ => exact hr'
            | ⟨1, _⟩ => exact le_rfl
            | ⟨2, _⟩ => exact le_rfl))) shapeCasts_S1x32x512_S32x512 : FVec Ideal S32x512 .bf16) bitsLt_bf16_f32)
        ⟨rfl, by subst ho; intro a; match a with
            | ⟨0, _⟩ => exact le_rfl
            | ⟨1, _⟩ => show c * 128 + 128 ≤ 512; omega⟩ : FVec Ideal S32x128 .f32) shapeCasts_S32x128_S1x32x128 x
      = mix16 X ((row16 ⟨c, hc⟩ ⟨r, hr'⟩).emb x) :=
  piece16 X ⟨c, hc⟩ ⟨r, hr'⟩ o ho hr _ _ _ _ _ x

/-- The stores in the order they are found, the newest first: every lane chunk of the last class, then of the class before. -/
abbrev rows4 : List (Rect S4x512x128) := ([3, 2, 1, 0] : List (Fin 4)).flatMap fun r => [row4 3 r, row4 2 r, row4 1 r, row4 0 r]
abbrev rows16 : List (Rect S4x512x128) :=
  ([15, 14, 13, 12, 11, 10, 9, 8, 7, 6, 5, 4, 3, 2, 1, 0] : List (Fin 16)).flatMap fun r => [row16 3 r, row16 2 r, row16 1 r, row16 0 r]

theorem chunks {α : Type} (f : Fin 4 → α) (c : Fin 4) : f c ∈ [f 3, f 2, f 1, f 0] := by fin_cases c <;> simp

/-- They cover the scratch: row `n` belongs to class `n % 4`, -/
theorem cover4 (y : S4x512x128.Idx) : ∃ ρ ∈ rows4, y ∈ ρ.set := by
  have h1 : (y 1).val < 512 := (y 1).isLt
  refine ⟨row4 (y 0) ⟨(y 1).val % 4, Nat.mod_lt _ (by norm_num)⟩, List.mem_flatMap.2 ⟨_, (by decide : ∀ r : Fin 4, r ∈ ([3, 2, 1, 0] : List (Fin 4))) _, chunks (fun c => row4 c _) _⟩, ?_⟩
  rw [LoadRect.mem_set]
  intro a
  match a with
  | ⟨0, _⟩ => exact ⟨0, Nat.one_pos, show (y 0).val = (y 0).val + 1 * 0 by omega⟩
  | ⟨1, _⟩ => exact ⟨(y 1).val / 4, show (y 1).val / 4 < 128 by omega, show (y 1).val = (y 1).val % 4 + 4 * ((y 1).val / 4) by omega⟩
  | ⟨2, _⟩ => exact ⟨(y 2).val, (y 2).isLt, show (y 2).val = 0 + 1 * (y 2).val by omega⟩
/-- and to class `n % 16`. -/
theorem cover16 (y : S4x512x128.Idx) : ∃ ρ ∈ rows16, y ∈ ρ.set := by
  have h1 : (y 1).val < 512 := (y 1).isLt
  refine ⟨row16 (y 0) ⟨(y 1).val % 16, Nat.mod_lt _ (by norm_num)⟩, List.mem_flatMap.2
    ⟨_, (by decide : ∀ r : Fin 16, r ∈ ([15, 14, 13, 12, 11, 10, 9, 8, 7, 6, 5, 4, 3, 2, 1, 0] : List (Fin 16))) _, chunks (fun c => row16 c _) _⟩, ?_⟩
  rw [LoadRect.mem_set]
  intro a
  match a with
  | ⟨0, _⟩ => exact ⟨0, Nat.one_pos, show (y 0).val = (y 0).val + 1 * 0 by omega⟩
  | ⟨1, _⟩ => exact ⟨(y 1).val / 16, show (y 1).val / 16 < 32 by omega, show (y 1).val = (y 1).val % 16 + 16 * ((y 1).val / 16) by omega⟩
  | ⟨2, _⟩ => exact ⟨(y 2).val, (y 2).isLt, show (y 2).val = 0 + 1 * (y 2).val by omega⟩

/-- Stores that are rows of one function `G` and cover the scratch leave `G`, over any stores before them. -/
theorem canon_front (G : S4x512x128.Idx → EReal) (n : ℕ) (L : List (View.Piece (Elt Ideal) S4x512x128 .f32)) (R : List (Rect S4x512x128))
    (hR : (L.take n).map (fun p => p.1) = R) (hc : ∀ y, ∃ ρ ∈ R, y ∈ ρ.set) (hp : View.PiecesOf (Val := Elt Ideal) (e := .f32) G (L.take n)) (y : S4x512x128.Idx) :
    View.canon (Val := Elt Ideal) (e := .f32) L y = G y := by
  rw [← List.take_append_drop n L]
  refine View.canon_append_of_piecesOf (Val := Elt Ideal) (e := .f32) G (L.drop n) (L.take n) hp y ?_
  obtain ⟨ρ, hρ, hy⟩ := hc y
  rw [← hR] at hρ
  obtain ⟨p, hp', rfl⟩ := List.mem_map.1 hρ
  exact ⟨p, hp', hy⟩

end Cert.KernelDyIdeal.Value

end
-- ==== Proof.DyValue.lean ====
/-
  The gradient of y (`_assemble_dy`): what one grid point of 512 rows stores, column by column.
-/
module

public import proofs.«01_k».proof.Proof.DyScratch

@[expose] public section

set_option maxRecDepth 16384

noncomputable section

namespace Cert.KernelDyIdeal.Value

open Cert.KernelDyIdeal Cert.KernelDyIdeal.Gen Idealize.ShloMosaic Idealize.ShloMosaic.TcCoe Idealize.SL.Sem

/-- Four chunks of 128 lanes, side by side. -/
theorem beside (R : Fin 4 → FVec Ideal S512x128 .f32)
    (hc : Shape.Concatenates [S512x128, S512x128, S512x128, S512x128] S512x512 1) (a b : Fin 512) :
    concatenate (α := Elt Ideal .f32) S512x512 1 [⟨S512x128, R 0⟩, ⟨S512x128, R 1⟩, ⟨S512x128, R 2⟩, ⟨S512x128, R 3⟩] hc (ix2 a b)
      = R ⟨b.val / 128, by omega⟩ (ix2 a (⟨b.val % 128, Nat.mod_lt _ (by norm_num)⟩ : Fin 128)) := by
  pointwise []
  have pick : ∀ (k : Fin 4) (l : ℕ) (hl : l < 128), b.val = k.val * 128 + l →
      R k (ix2 a (⟨l, hl⟩ : Fin 128)) = R ⟨b.val / 128, by omega⟩ (ix2 a (⟨b.val % 128, Nat.mod_lt _ (by norm_num)⟩ : Fin 128)) := by
    intro k l hl e
    have e1 : k = (⟨b.val / 128, by omega⟩ : Fin 4) := Fin.ext (show k.val = b.val / 128 by omega)
    have e2 : (⟨l, hl⟩ : Fin 128) = ⟨b.val % 128, Nat.mod_lt _ (by norm_num)⟩ := Fin.ext (show l = b.val % 128 by omega)
    rw [e2, e1]
  by_cases g0 : b.val < 128
  · exact (dif_pos g0).trans (pick 0 _ _ (show b.val = 0 * 128 + b.val by omega))
  refine (dif_neg g0).trans ?_
  by_cases g1 : b.val - 128 < 128
  · exact (dif_pos g1).trans (pick 1 _ _ (show b.val = 1 * 128 + (b.val - 128) by omega))
  refine (dif_neg g1).trans ?_
  by_cases g2 : b.val - 128 - 128 < 128
  · exact (dif_pos g2).trans (pick 2 _ _ (show b.val = 2 * 128 + (b.val - 128 - 128) by omega))
  exact (dif_neg g2).trans (pick 3 _ (by omega) (show b.val = 3 * 128 + (b.val - 128 - 128 - 128) by omega))

/-- A chunk without its leading axis. -/
theorem drop_at (V : FVec Ideal S1x512x128 .f32) (a : Fin 512) (b : Fin 128) :
    shapeCast S512x128 V shapeCasts_S1x512x128_S512x128 (ix2 a b) = V (ix3 (0 : Fin 1) a b) := by
  pointwise []

/-- A lane chunk of the scratch, read back. -/
theorem ld_chunk {σ : RefSig} {κ : Kind} {sp : Space} (v : View σ κ sp S4x512x128 .f32) (L : List (View.Piece (Elt Ideal) S4x512x128 .f32)) (G : S4x512x128.Idx → EReal)
    (h : ∀ y, View.canon (Val := Elt Ideal) (e := .f32) L y = G y) (k : Fin 4)
    (i0 : ∀ a, (![k.val, 0, 0] : Fin 3 → ℕ) a + (![1, 512, 128] : Fin 3 → ℕ) a ≤ S4x512x128.size a) (a : Fin 512) (b : Fin 128) :
    v.readCov L (Rect.unit (s := S4x512x128) ![k.val, 0, 0] ![1, 512, 128] i0).toLoadRect (ix3 (0 : Fin 1) a b) = G (ix3 k a b) := by
  rw [View.readCov_eq_canon']
  refine (h _).trans (congrArg G (funext fun d => Fin.ext ?_))
  match d with
  | ⟨0, _⟩ => show k.val + 1 * 0 = k.val; omega
  | ⟨1, _⟩ => show 0 + 1 * a.val = a.val; omega
  | ⟨2, _⟩ => show 0 + 1 * b.val = b.val; omega

/-- A block's entries with the two strided parts added. -/
def total (A : Vec Ideal S512x512 .bf16) (G4 G16 : S4x512x128.Idx → EReal) (a b : Fin 512) : EReal :=
  A (ix2 a b) + G4 (ix3 (⟨b.val / 128, by omega⟩ : Fin 4) a (⟨b.val % 128, Nat.mod_lt _ (by norm_num)⟩ : Fin 128))
    + G16 (ix3 (⟨b.val / 128, by omega⟩ : Fin 4) a (⟨b.val % 128, Nat.mod_lt _ (by norm_num)⟩ : Fin 128))

/-- A table's entry at a column of the 512: the table repeats every 128 lanes. -/
abbrev lane (C : Vec Ideal S512x128 .f32) (a b : Fin 512) : EReal := C (ix2 a (⟨b.val % 128, Nat.mod_lt _ (by norm_num)⟩ : Fin 128))

/-- The sum turned back by the tables. -/
def turned (T : Fin 512 → Fin 512 → EReal) (C SA SB : Vec Ideal S512x128 .f32) (a b : Fin 512) : EReal :=
  T a b * lane C a b + T a ⟨(b.val + 504) % 512, Nat.mod_lt _ (by norm_num)⟩ * lane SA a ⟨(b.val + 504) % 512, Nat.mod_lt _ (by norm_num)⟩
    + T a ⟨(b.val + 8) % 512, Nat.mod_lt _ (by norm_num)⟩ * lane SB a ⟨(b.val + 8) % 512, Nat.mod_lt _ (by norm_num)⟩

theorem tile_at (C : Vec Ideal S512x128 .f32) (a b : Fin 512) : k0_pay1 (F := Ideal) C (ix2 a b) = lane C a b := by
  have e : shapeCast S512x128 C shapeCasts_S512x128_S512x128 = C := by
    funext x
    idx_vars x
    pointwise []
  exact (beside (fun _ => shapeCast S512x128 C shapeCasts_S512x128_S512x128) concatenates_S512x128_S512x128_S512x128_S512x128_S512x512_d1 a b).trans (congrFun e _)

/-- Lanes turned round by 8, and by 504. -/
theorem roll8 (V : FVec Ideal S512x512 .f32) (a b : Fin 512) :
    dynamicRotate 1 8#32 none V rotates_S512x512_d1 (ix2 a b) = V (ix2 a (⟨(b.val + 504) % 512, Nat.mod_lt _ (by norm_num)⟩ : Fin 512)) := by
  pointwise []
  exact congrArg (fun k => V (ix2 a k)) (Fin.ext (by show (b.val + 512 - _) % 512 = _ % 512; omega))
theorem roll504 (V : FVec Ideal S512x512 .f32) (a b : Fin 512) :
    dynamicRotate 1 504#32 none V rotates_S512x512_d1 (ix2 a b) = V (ix2 a (⟨(b.val + 8) % 512, Nat.mod_lt _ (by norm_num)⟩ : Fin 512)) := by
  pointwise []
  exact congrArg (fun k => V (ix2 a k)) (Fin.ext (by show (b.val + 512 - _) % 512 = _ % 512; omega))

variable {σ : RefSig} {κ : Kind} {sp : Space} (v : View σ κ sp S4x512x128 .f32) (L4 L16 : List (View.Piece (Elt Ideal) S4x512x128 .f32)) (G4 G16 : S4x512x128.Idx → EReal)
  (h4 : ∀ y, View.canon (Val := Elt Ideal) (e := .f32) L4 y = G4 y) (h16 : ∀ y, View.canon (Val := Elt Ideal) (e := .f32) L16 y = G16 y)

/-- One scratch chunk, read back. -/
abbrev chunk (L : List (View.Piece (Elt Ideal) S4x512x128 .f32)) (k : Fin 4) : FVec Ideal S1x512x128 .f32 :=
  v.readCov L (Rect.unit (s := S4x512x128) ![k.val, 0, 0] ![1, 512, 128] (by
    intro a; match a with
    | ⟨0, _⟩ => show k.val + 1 ≤ 4; omega
    | ⟨1, _⟩ => exact le_rfl
    | ⟨2, _⟩ => exact le_rfl)).toLoadRect

include h4 in
theorem half_at (A : Vec Ideal S512x512 .bf16) (a b : Fin 512) :
    k0_pay27 (F := Ideal) (k0_pay4 (F := Ideal) A) (k0_pay26 (F := Ideal) (chunk v L4 0)) (chunk v L4 1) (chunk v L4 2) (chunk v L4 3) (ix2 a b)
      = A (ix2 a b) + G4 (ix3 (⟨b.val / 128, by omega⟩ : Fin 4) a (⟨b.val % 128, Nat.mod_lt _ (by norm_num)⟩ : Fin 128)) := by
  refine congrArg (fun z => A (ix2 a b) + z) ((beside (fun k => shapeCast S512x128 (chunk v L4 k) shapeCasts_S1x512x128_S512x128) concatenates_S512x128_S512x128_S512x128_S512x128_S512x512_d1 a b).trans ?_)
  exact (drop_at _ _ _).trans (ld_chunk v L4 G4 h4 _ _ _ _)

include h4 h16 in
theorem whole_at (A : Vec Ideal S512x512 .bf16) (a b : Fin 512) :
    k0_pay338 (F := Ideal) (k0_pay27 (F := Ideal) (k0_pay4 (F := Ideal) A) (k0_pay26 (F := Ideal) (chunk v L4 0)) (chunk v L4 1) (chunk v L4 2) (chunk v L4 3))
        (k0_pay26 (F := Ideal) (chunk v L16 0)) (k0_pay26 (F := Ideal) (chunk v L16 1)) (chunk v L16 2) (chunk v L16 3) (ix2 a b)
      = total A G4 G16 a b := by
  refine congrArg₂ (fun x y : EReal => x + y) (half_at v L4 G4 h4 A a b)
    ((beside (fun k => shapeCast S512x128 (chunk v L16 k) shapeCasts_S1x512x128_S512x128) concatenates_S512x128_S512x128_S512x128_S512x128_S512x512_d1 a b).trans ?_)
  exact (drop_at _ _ _).trans (ld_chunk v L16 G16 h16 _ _ _ _)

include h4 h16 in
/-- The stored entry of a turned block. -/
theorem rope_at (A : Vec Ideal S512x512 .bf16) (C SA SB : Vec Ideal S512x128 .f32) (a b : Fin 512) :
    k0_pay115 (F := Ideal) (k0_pay1 (F := Ideal) C) (k0_pay2 (F := Ideal) SA) (k0_pay3 (F := Ideal) SB)
        (k0_pay27 (F := Ideal) (k0_pay4 (F := Ideal) A) (k0_pay26 (F := Ideal) (chunk v L4 0)) (chunk v L4 1) (chunk v L4 2) (chunk v L4 3))
        (chunk v L16 0) (chunk v L16 1) (chunk v L16 2) (chunk v L16 3) (ix2 a b)
      = turned (total A G4 G16) C SA SB a b := by
  have hT := whole_at v L4 L16 G4 G16 h4 h16 A a
  refine congrArg₂ (fun x y : EReal => x + y) (congrArg₂ (fun x y : EReal => x + y) (congrArg₂ (fun x y : EReal => x * y) (hT b) (tile_at C a b))
    ((roll8 _ a b).trans (congrArg₂ (fun x y : EReal => x * y) (hT _) (tile_at SA a _))))
    ((roll504 _ a b).trans (congrArg₂ (fun x y : EReal => x * y) (hT _) (tile_at SB a _)))

variable (m : (ℓ : Loc nD τ sig) → Buf (Elt Ideal) ℓ)

/-- What point `t` stores, column group by column group. -/
def stored (c : Dev nD) (t : Fin cfg0.N) (y : S512x2560.Idx) : EReal :=
  if h0 : (y 1).val < 512 then
    turned (total (iblk m c 0 t) (mix4 (iblk m c 1 t)) (mix16 (iblk m c 2 t))) (iblk m c 10 t) (iblk m c 11 t) (iblk m c 12 t) (y 0) ⟨(y 1).val, h0⟩
  else if h1 : (y 1).val < 1024 then
    turned (total (iblk m c 3 t) (mix4 (iblk m c 4 t)) (mix16 (iblk m c 5 t))) (iblk m c 10 t) (iblk m c 11 t) (iblk m c 12 t) (y 0) ⟨(y 1).val - 512, by omega⟩
  else if h2 : (y 1).val < 1536 then
    total (iblk m c 6 t) (mix4 (iblk m c 7 t)) (mix16 (iblk m c 8 t)) (y 0) ⟨(y 1).val - 1024, by omega⟩
  else (iblk m c 9 t : Vec Ideal S512x1024 .bf16) (ix2 (y 0) (⟨(y 1).val - 1536, by have h : (y 1).val < 2560 := (y 1).isLt; omega⟩ : Fin 1024))

section Groups
variable (c : Dev nD) (t : Fin cfg0.N) (y : S512x2560.Idx) (a : Fin 512)

theorem stored_q (b : Fin 512) (h0 : (y 0).val = a.val) (h1 : (y 1).val = b.val) : stored m c t y
    = turned (total (iblk m c 0 t) (mix4 (iblk m c 1 t)) (mix16 (iblk m c 2 t))) (iblk m c 10 t) (iblk m c 11 t) (iblk m c 12 t) a b := by
  have hb : (y 1).val < 512 := by omega
  unfold stored
  rw [dif_pos hb]
  exact congrArg₂ (turned _ _ _ _) (Fin.ext h0) (Fin.ext h1)

theorem stored_k (b : Fin 512) (h0 : (y 0).val = a.val) (h1 : (y 1).val = 512 + b.val) : stored m c t y
    = turned (total (iblk m c 3 t) (mix4 (iblk m c 4 t)) (mix16 (iblk m c 5 t))) (iblk m c 10 t) (iblk m c 11 t) (iblk m c 12 t) a b := by
  have hb : ¬ (y 1).val < 512 := by omega
  have hb' : (y 1).val < 1024 := by omega
  unfold stored
  rw [dif_neg hb, dif_pos hb']
  exact congrArg₂ (turned _ _ _ _) (Fin.ext h0) (Fin.ext (show (y 1).val - 512 = b.val by omega))

theorem stored_v (b : Fin 512) (h0 : (y 0).val = a.val) (h1 : (y 1).val = 1024 + b.val) : stored m c t y
    = total (iblk m c 6 t) (mix4 (iblk m c 7 t)) (mix16 (iblk m c 8 t)) a b := by
  have hb : ¬ (y 1).val < 512 := by omega
  have hb' : ¬ (y 1).val < 1024 := by omega
  have hb'' : (y 1).val < 1536 := by omega
  unfold stored
  rw [dif_neg hb, dif_neg hb', dif_pos hb'']
  exact congrArg₂ (total _ _ _) (Fin.ext h0) (Fin.ext (show (y 1).val - 1024 = b.val by omega))

theorem stored_g (b : Fin 1024) (h0 : (y 0).val = a.val) (h1 : (y 1).val = 1536 + b.val) :
    stored m c t y = (iblk m c 9 t : Vec Ideal S512x1024 .bf16) (ix2 a b) := by
  have hb : ¬ (y 1).val < 512 := by omega
  have hb' : ¬ (y 1).val < 1024 := by omega
  have hb'' : ¬ (y 1).val < 1536 := by omega
  unfold stored
  rw [dif_neg hb, dif_neg hb', dif_neg hb'']
  exact congrArg₂ (fun i j => (iblk m c 9 t : Vec Ideal S512x1024 .bf16) (ix2 i j)) (Fin.ext h0) (Fin.ext (show (y 1).val - 1536 = b.val by omega))

end Groups

set_option maxHeartbeats 4000000 in
theorem out_eq (c : Dev nD) (t : Fin cfg0.N) (y : S512x2560.Idx) : outsAt0 m c t y = stored m c t y := by
  unfold outsAt0
  frame_out
  refine View.canon_append_of_piecesOf (Val := Elt Ideal) (e := .bf16) (stored m c t) [] [_, _, _, _] ⟨?_, ?_, ?_, ?_, trivial⟩ y (View.cover_of_tiledBy _ ![512,512] (by sl_kernel_rfl) y)
  all_goals (intro x; idx_vars x)
  · exact (stored_g m c t _ x0 x1 (show 0 + 1 * x0.val = _ by omega) (show 1536 + 1 * x1.val = _ by omega)).symm
  · refine Eq.trans ?_ (stored_v m c t _ x0 x1 (show 0 + 1 * x0.val = _ by omega) (show 1024 + 1 * x1.val = _ by omega)).symm
    refine whole_at _ _ _ (mix4 (iblk m c 7 t)) (mix16 (iblk m c 8 t)) (fun y => canon_front _ 16 _ rows4 rfl cover4 ?_ y) (fun y => canon_front _ 64 _ rows16 rfl cover16 ?_ y) _ x0 x1
    · iterate 16
          refine And.intro (fun x => ?_) ?_
          · dsimp only
            exact store4 (iblk m c 7 t) _ _ (by decide) (by decide) _ (by rfl) (by rfl) x
      exact trivial
    · iterate 64
          refine And.intro (fun x => ?_) ?_
          · dsimp only
            exact store16 (iblk m c 8 t) _ _ (by decide) (by decide) _ (by rfl) (by rfl) x
      exact trivial
  · refine Eq.trans ?_ (stored_k m c t _ x0 x1 (show 0 + 1 * x0.val = _ by omega) (show 512 + 1 * x1.val = _ by omega)).symm
    refine rope_at _ _ _ (mix4 (iblk m c 4 t)) (mix16 (iblk m c 5 t)) (fun y => canon_front _ 16 _ rows4 rfl cover4 ?_ y) (fun y => canon_front _ 64 _ rows16 rfl cover16 ?_ y) _ _ _ _ x0 x1
    · iterate 16
          refine And.intro (fun x => ?_) ?_
          · dsimp only
            exact store4 (iblk m c 4 t) _ _ (by decide) (by decide) _ (by rfl) (by rfl) x
      exact trivial
    · iterate 64
          refine And.intro (fun x => ?_) ?_
          · dsimp only
            exact store16 (iblk m c 5 t) _ _ (by decide) (by decide) _ (by rfl) (by rfl) x
      exact trivial
  · refine Eq.trans ?_ (stored_q m c t _ x0 x1 (show 0 + 1 * x0.val = _ by omega) (show 0 + 1 * x1.val = _ by omega)).symm
    refine rope_at _ _ _ (mix4 (iblk m c 1 t)) (mix16 (iblk m c 2 t)) (fun y => canon_front _ 16 _ rows4 rfl cover4 ?_ y) (fun y => canon_front _ 64 _ rows16 rfl cover16 ?_ y) _ _ _ _ x0 x1
    · iterate 16
          refine And.intro (fun x => ?_) ?_
          · dsimp only
            exact store4 (iblk m c 1 t) _ _ (by decide) (by decide) _ (by rfl) (by rfl) x
      exact trivial
    · iterate 64
          refine And.intro (fun x => ?_) ?_
          · dsimp only
            exact store16 (iblk m c 2 t) _ _ (by decide) (by decide) _ (by rfl) (by rfl) x
      exact trivial

end Cert.KernelDyIdeal.Value

end
-- ==== Proof.DyRef.lean ====
module
public import proofs.«01_k».proof.Proof.Norm
public import proofs.«01_k».proof.Proof.Gen.ReferenceDyIdeal.Read
/-!
# The reference's gradient of the projected row, entry by entry

The three patterns' gradients are added at the row a class's row came from; the first sixteen lanes of a head are turned
back by the row's angle, eight against eight; the four groups of columns stand side by side.
-/
@[expose] public section
set_option maxRecDepth 16384
noncomputable section
namespace Cert.DyRef
open Cert.ReferenceDyIdeal Cert.ReferenceDyIdeal.Read Idealize.ShloMosaic Idealize.ShloMosaic.TcCoe Idealize.SL.Sem

abbrev Rows : Type := (⟨S8192x512, .bf16⟩ : BufTy).Contents (Elt Ideal)
abbrev cosines : (⟨S8192x8, .f32⟩ : BufTy).Contents (Elt Ideal) := val_main_v37
abbrev sines : (⟨S8192x8, .f32⟩ : BufTy).Contents (Elt Ideal) := val_main_v39

/-- The three patterns' gradients at one entry of the sequence. -/
def sumOf (x0 x1 x2 : Rows) (n : Fin 8192) (b : Fin 512) : EReal :=
  x0 (ix2 n b) + x1 (ix2 (⟨n.val % 4 * 2048 + n.val / 4, by omega⟩ : Fin 8192) b)
    + x2 (ix2 (⟨n.val % 16 * 512 + n.val / 16, by omega⟩ : Fin 8192) b)

/-- A row of sums turned back by its angle, at one column. -/
def rotated (T : Fin 512 → EReal) (n : Fin 8192) (b : Fin 512) : EReal :=
  if h : b.val % 64 < 8 then
    T b * cosines (ix2 n ⟨b.val % 64, h⟩) + T ⟨b.val + 8, by omega⟩ * sines (ix2 n ⟨b.val % 64, h⟩)
  else if h' : b.val % 64 < 16 then
    T b * cosines (ix2 n ⟨b.val % 64 - 8, by omega⟩) + T ⟨b.val - 8, by omega⟩ * -sines (ix2 n ⟨b.val % 64 - 8, by omega⟩)
  else T b

theorem rotated_lo (T : Fin 512 → EReal) (n : Fin 8192) (b b' : Fin 512) (j : Fin 8) (hj : b.val % 64 = j.val) (hb : b'.val = b.val + 8) :
    rotated T n b = T b * cosines (ix2 n j) + T b' * sines (ix2 n j) := by
  have p : b.val % 64 < 8 := by omega
  have p' : b.val + 8 < 512 := by omega
  have e : j = ⟨b.val % 64, p⟩ := Fin.ext hj.symm
  have e' : b' = ⟨b.val + 8, p'⟩ := Fin.ext hb
  rw [e', e]
  exact dif_pos (by omega)

theorem rotated_mid (T : Fin 512 → EReal) (n : Fin 8192) (b b' : Fin 512) (j : Fin 8) (hj : b.val % 64 = j.val + 8) (hb : b'.val + 8 = b.val) :
    rotated T n b = T b * cosines (ix2 n j) + T b' * -sines (ix2 n j) := by
  have p : b.val % 64 - 8 < 8 := by omega
  have p' : b.val - 8 < 512 := by omega
  have e : j = ⟨b.val % 64 - 8, p⟩ := Fin.ext (by dsimp only; omega)
  have e' : b' = ⟨b.val - 8, p'⟩ := Fin.ext (by dsimp only; omega)
  rw [e', e]
  exact (dif_neg (by omega)).trans (dif_pos (by omega))

theorem rotated_hi (T : Fin 512 → EReal) (n : Fin 8192) (b : Fin 512) (hj : 16 ≤ b.val % 64) : rotated T n b = T b :=
  (dif_neg (by omega)).trans (dif_neg (by omega))

theorem q_at (x0 x1 x2 : Rows) (n : Fin 8192) (h : Fin 8) (e : Fin 64) :
    val_main_v156 x0 x1 x2 (ix4 0 n h e) = sumOf x0 x1 x2 n ⟨h.val * 64 + e.val, by omega⟩ := by
  pointwise [val_main_v156, val_main_v155, val_main_v154, val_main_v153, val_main_v152, val_main_v151, val_main_v150, val_main_v149, val_main_v148, val_main_v147, val_main_v146, val_main_v5, val_main_v4, val_main_v3, val_main_v2, val_main_v1, val_main_v0]
  unfold sumOf
  rw [add_comm, add_comm (x2 _), add_assoc]

theorem v_at (x6 x7 x8 : Rows) (n : Fin 8192) (h : Fin 8) (e : Fin 64) :
    val_main_v134 x6 x7 x8 (ix4 0 n h e) = sumOf x6 x7 x8 n ⟨h.val * 64 + e.val, by omega⟩ := q_at x6 x7 x8 n h e

theorem k_at (x3 x4 x5 : Rows) (n : Fin 8192) (h : Fin 8) (e : Fin 64) :
    val_main_v145 x3 x4 x5 (ix4 0 n h e) = sumOf x3 x4 x5 n ⟨h.val * 64 + e.val, by omega⟩ := q_at x3 x4 x5 n h e

theorem k_turned (x3 x4 x5 : Rows) : val_main_v179 x3 x4 x5 = val_main_v201 x3 x4 x5 := rfl

theorem q_turned (x0 x1 x2 : Rows) (n : Fin 8192) (h : Fin 8) (e : Fin 64) :
    val_main_v200 x0 x1 x2 (ix4 0 n h e) = rotated (sumOf x0 x1 x2 n) n ⟨h.val * 64 + e.val, by omega⟩ := by
  pointwise [val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v38, val_main_v40, val_main_cst_14, val_main_cst_15, val_main_cst_16]
  have at_eq : ∀ (e' : Fin 64) (b : Fin 512), b.val = h.val * 64 + e'.val → val_main_v156 x0 x1 x2 (ix4 0 n h e') = sumOf x0 x1 x2 n b := by
    intro e' b hb
    rw [q_at]
    exact congrArg (sumOf x0 x1 x2 n) (Fin.ext hb.symm)
  by_cases h0 : e.val < 8
  · rw [dif_neg (by omega), dif_neg (by omega), dif_pos h0,
      rotated_lo _ n ⟨h.val * 64 + e.val, by omega⟩ ⟨h.val * 64 + e.val + 8, by omega⟩ ⟨e.val, h0⟩ (by dsimp only; omega) rfl,
      at_eq ⟨8 + e.val, by omega⟩ ⟨h.val * 64 + e.val + 8, by omega⟩ (by dsimp only; omega), at_eq e ⟨h.val * 64 + e.val, by omega⟩ rfl, zero_add, zero_add, add_comm]
  by_cases h1 : e.val < 16
  · rw [dif_neg (by omega), dif_pos (by omega), dif_neg h0,
      rotated_mid _ n ⟨h.val * 64 + e.val, by omega⟩ ⟨h.val * 64 + e.val - 8, by omega⟩ ⟨e.val - 8, by omega⟩ (by dsimp only; omega) (by dsimp only; omega),
      at_eq ⟨e.val - 8, by omega⟩ ⟨h.val * 64 + e.val - 8, by omega⟩ (by dsimp only; omega), at_eq ⟨8 + (e.val - 8), by omega⟩ ⟨h.val * 64 + e.val, by omega⟩ (by dsimp only; omega), zero_add, add_zero,
      neg_mul, mul_neg]
  · rw [dif_pos (by omega), dif_neg (by omega), dif_neg h0, rotated_hi _ n ⟨h.val * 64 + e.val, by omega⟩ (by dsimp only; omega),
      at_eq ⟨16 + (e.val - 16), by omega⟩ ⟨h.val * 64 + e.val, by omega⟩ (by dsimp only; omega), add_zero, add_zero]

theorem q_cols (x0 x1 x2 : Rows) (n : Fin 8192) (b : Fin 512) :
    val_main_v201 x0 x1 x2 (ix3 0 n b) = rotated (sumOf x0 x1 x2 n) n b := by
  pointwise [val_main_v201]
  rw [q_turned]
  exact congrArg (rotated _ n) (Fin.ext (by dsimp only; omega))

theorem v_cols (x6 x7 x8 : Rows) (n : Fin 8192) (b : Fin 512) (h : b.val / 64 < 8) (h' : b.val % 64 < 64) :
    val_main_v134 x6 x7 x8 (ix4 0 n ⟨b.val / 64, h⟩ ⟨b.val % 64, h'⟩) = sumOf x6 x7 x8 n b := by
  rw [v_at]
  exact congrArg (sumOf x6 x7 x8 n) (Fin.ext (by dsimp only; omega))

/-- The result before the columns are told apart. -/
theorem out_at (x0 x1 x2 x3 x4 x5 x6 x7 x8 : Rows) (x9 : (⟨S8192x1024, .bf16⟩ : BufTy).Contents (Elt Ideal)) (n : Fin 8192) (b : Fin 2560) :
    val_main_v205 (F := Ideal) x0 x1 x2 x3 x4 x5 x6 x7 x8 x9 (ix2 n b)
      = (((if h : 1536 ≤ b.val then x9 (ix2 n ⟨b.val - 1536, by omega⟩) else 0)
        + (if h : 1024 ≤ b.val ∧ b.val - 1024 < 512 then sumOf x6 x7 x8 n ⟨b.val - 1024, h.2⟩ else 0))
        + (if h : 512 ≤ b.val ∧ b.val - 512 < 512 then rotated (sumOf x3 x4 x5 n) n ⟨b.val - 512, h.2⟩ else 0))
        + (if h : b.val < 512 then rotated (sumOf x0 x1 x2 n) n ⟨b.val, h⟩ else 0) := by
  pointwise [val_main_v205, val_main_v204, val_main_v203, val_main_v202, val_main_v181, val_main_v180, val_main_v159, val_main_v158, val_main_v123, val_main_v122, val_main_v121, val_main_v157, val_main_cst_8, val_main_cst_9, val_main_cst_13, val_main_cst_17]
  simp only [k_turned, q_cols]
  congr 3
  · by_cases h : 1536 ≤ b.val
    · rw [dif_pos h, dif_pos ⟨h, by omega⟩]
    · rw [dif_neg h, dif_neg (by omega)]
  · by_cases h : 1024 ≤ b.val ∧ b.val - 1024 < 512
    · rw [dif_pos h, dif_pos h]
      exact v_cols x6 x7 x8 n ⟨b.val - 1024, h.2⟩ _ _
    · rw [dif_neg h, dif_neg h]

variable (x0 x1 x2 x3 x4 x5 x6 x7 x8 : Rows) (x9 : (⟨S8192x1024, .bf16⟩ : BufTy).Contents (Elt Ideal)) (n : Fin 8192) (b : Fin 2560)

theorem out_q (d : Fin 512) (hd : b.val = d.val) :
    val_main_v205 (F := Ideal) x0 x1 x2 x3 x4 x5 x6 x7 x8 x9 (ix2 n b) = rotated (sumOf x0 x1 x2 n) n d := by
  rw [out_at, dif_neg (by omega), dif_neg (by omega), dif_neg (by omega), dif_pos (by omega), zero_add, zero_add, zero_add]
  exact congrArg (rotated _ n) (Fin.ext hd)

theorem out_k (d : Fin 512) (hd : b.val = 512 + d.val) :
    val_main_v205 (F := Ideal) x0 x1 x2 x3 x4 x5 x6 x7 x8 x9 (ix2 n b) = rotated (sumOf x3 x4 x5 n) n d := by
  rw [out_at, dif_neg (by omega), dif_neg (by omega), dif_pos (by omega), dif_neg (by omega), zero_add, zero_add, add_zero]
  exact congrArg (rotated _ n) (Fin.ext (by dsimp only; omega))

theorem out_v (d : Fin 512) (hd : b.val = 1024 + d.val) :
    val_main_v205 (F := Ideal) x0 x1 x2 x3 x4 x5 x6 x7 x8 x9 (ix2 n b) = sumOf x6 x7 x8 n d := by
  rw [out_at, dif_neg (by omega), dif_pos (by omega), dif_neg (by omega), dif_neg (by omega), zero_add, add_zero, add_zero]
  exact congrArg (sumOf _ _ _ n) (Fin.ext (by dsimp only; omega))

theorem out_g (d : Fin 1024) (hd : b.val = 1536 + d.val) :
    val_main_v205 (F := Ideal) x0 x1 x2 x3 x4 x5 x6 x7 x8 x9 (ix2 n b) = x9 (ix2 n d) := by
  rw [out_at, dif_pos (by omega), dif_neg (by omega), dif_neg (by omega), dif_neg (by omega), add_zero, add_zero, add_zero]
  exact congrArg x9 (congrArg (ix2 n) (Fin.ext (by dsimp only; omega)))
end Cert.DyRef
end
-- ==== Proof.Angles.lean ====
module
public import proofs.«01_k».proof.Proof.DyRef
public import proofs.«01_k».proof.Proof.Gen.KernelDyIdeal.Value
/-!
# The angle tables

The host lays three tables of 128 lanes: a head's 64 lanes twice, holding the cosine and the two signed sines of the row's
angle at the sixteen lanes that are turned. The other lanes of the first table are one, of the other two nought, so the lanes
brought round by a kernel's two rotations contribute nothing there.
-/
@[expose] public section
set_option maxRecDepth 16384
noncomputable section
namespace Cert.Angles
open Cert.KernelDyIdeal Cert.KernelDyIdeal.Gen Idealize.ShloMosaic Idealize.ShloMosaic.TcCoe Idealize.SL.Sem
open Cert.DyRef
/-- A table of 64 lanes laid twice. -/
abbrev spread (v : (⟨S8192x64, .f32⟩ : BufTy).Contents (Elt Ideal)) : (⟨S8192x128, .f32⟩ : BufTy).Contents (Elt Ideal) :=
  shapeCast S8192x128 (broadcastInDim S1x8192x2x64 ![0, 1, 2, 3] bcast_S1x8192x1x64_S1x8192x2x64_0_1_2_3
    (shapeCast S1x8192x1x64 v shapeCasts_S8192x64_S1x8192x1x64)) shapeCasts_S1x8192x2x64_S8192x128

abbrev const8 : (⟨S8192x8, .f32⟩ : BufTy).Contents (Elt Ideal) := broadcastInDim S8192x8 ![] bcast_S_S8192x8 (constant (F := Ideal) S_ FTy.f32 0x00000000#32)
abbrev const48 (w : BitVec 32) : (⟨S8192x48, .f32⟩ : BufTy).Contents (Elt Ideal) := broadcastInDim S8192x48 ![] bcast_S_S8192x48 (constant (F := Ideal) S_ FTy.f32 w)
/-- Three groups of lanes side by side. -/
abbrev glue (u v : (⟨S8192x8, .f32⟩ : BufTy).Contents (Elt Ideal)) (w : (⟨S8192x48, .f32⟩ : BufTy).Contents (Elt Ideal)) :
    (⟨S8192x64, .f32⟩ : BufTy).Contents (Elt Ideal) :=
  concatenate S8192x64 1 [⟨S8192x8, u⟩, ⟨S8192x8, v⟩, ⟨S8192x48, w⟩] concatenates_S8192x8_S8192x8_S8192x48_S8192x64_d1
theorem glue_congr {u u' v v' w w'} (hu : u = u') (hv : v = v') (hw : w = w') : glue u v w = glue u' v' w' := by
  rw [hu, hv, hw]

theorem spread_at (v) (n : Fin 8192) (l : Fin 128) : spread v (ix2 n l) = v (ix2 n ⟨l.val % 64, by omega⟩) := by
  pointwise [spread]

theorem glue_lo (u v w) (n : Fin 8192) (l : Fin 64) (hl : l.val < 8) : glue u v w (ix2 n l) = u (ix2 n ⟨l.val, hl⟩) := by
  pointwise [glue]
  exact dif_pos hl

theorem glue_mid (u v w) (n : Fin 8192) (l : Fin 64) (hl : 8 ≤ l.val) (hl' : l.val < 16) : glue u v w (ix2 n l) = v (ix2 n ⟨l.val - 8, by omega⟩) := by
  pointwise [glue]
  exact (dif_neg (by omega)).trans (dif_pos (by omega))

theorem glue_hi (u v w) (n : Fin 8192) (l : Fin 64) (hl : 16 ≤ l.val) : glue u v w (ix2 n l) = w (ix2 n ⟨l.val - 16, by omega⟩) := by
  pointwise [glue]
  refine (dif_neg (by omega)).trans ((dif_neg (by omega)).trans ?_)
  exact congrArg w (congrArg (ix2 n) (Fin.ext (by dsimp only; omega)))

theorem const8_at (i) : const8 i = 0 := by
  pointwise []

theorem const48_at (i) : const48 0x00000000#32 i = 0 := by
  pointwise []

theorem one_at (i) : const48 0x3F800000#32 i = 1 := by
  pointwise []
/-- The cosines; -/
abbrev tableC := spread (glue cosines cosines (const48 0x3F800000#32))
/-- the sines at the lanes turned from, negated; -/
abbrev tableA := spread (glue (Host.negf (F := Ideal) (s := S8192x8) (φ := .f32) sines) const8 (const48 0x00000000#32))
/-- the sines at the lanes turned to. -/
abbrev tableB := spread (glue const8 sines (const48 0x00000000#32))

section Lanes
variable (n : Fin 8192) (l : Fin 128)

theorem c_lo (j : Fin 8) (hl : l.val % 64 = j.val) : tableC (ix2 n l) = cosines (ix2 n j) := by
  unfold tableC
  rw [spread_at, glue_lo _ _ _ _ _ (by dsimp only; omega)]
  exact congrArg cosines (congrArg (ix2 n) (Fin.ext hl))
theorem c_mid (j : Fin 8) (hl : l.val % 64 = j.val + 8) : tableC (ix2 n l) = cosines (ix2 n j) := by
  unfold tableC
  rw [spread_at, glue_mid _ _ _ _ _ (by dsimp only; omega) (by dsimp only; omega)]
  exact congrArg cosines (congrArg (ix2 n) (Fin.ext (by dsimp only; omega)))
theorem c_hi (hl : 16 ≤ l.val % 64) : tableC (ix2 n l) = (1 : EReal) := by
  unfold tableC
  rw [spread_at, glue_hi _ _ _ _ _ (by dsimp only; omega), one_at]
theorem a_lo (j : Fin 8) (hl : l.val % 64 = j.val) : tableA (ix2 n l) = -sines (ix2 n j) := by
  unfold tableA
  rw [spread_at, glue_lo _ _ _ _ _ (by dsimp only; omega)]
  exact congrArg (fun z => -sines z) (congrArg (ix2 n) (Fin.ext hl))
theorem a_rest (hl : 8 ≤ l.val % 64) : tableA (ix2 n l) = (0 : EReal) := by
  unfold tableA
  rw [spread_at]
  by_cases h : l.val % 64 < 16
  · rw [glue_mid _ _ _ _ _ (by dsimp only; omega) (by dsimp only; omega), const8_at]
  · rw [glue_hi _ _ _ _ _ (by dsimp only; omega), const48_at]
theorem b_mid (j : Fin 8) (hl : l.val % 64 = j.val + 8) : tableB (ix2 n l) = sines (ix2 n j) := by
  unfold tableB
  rw [spread_at, glue_mid _ _ _ _ _ (by dsimp only; omega) (by dsimp only; omega)]
  exact congrArg sines (congrArg (ix2 n) (Fin.ext (by dsimp only; omega)))
theorem b_rest (hl : l.val % 64 < 8 ∨ 16 ≤ l.val % 64) : tableB (ix2 n l) = (0 : EReal) := by
  unfold tableB
  rw [spread_at]
  by_cases h : l.val % 64 < 8
  · rw [glue_lo _ _ _ _ _ (by dsimp only; omega), const8_at]
  · rw [glue_hi _ _ _ _ _ (by dsimp only; omega), const48_at]
end Lanes
end Cert.Angles
end
-- ==== Proof.DyTables.lean ====
module
public import proofs.«01_k».proof.Proof.DyValue
public import proofs.«01_k».proof.Proof.Angles
/-!
# The kernel's blocks and angle tables, and its result

The kernel's blocks are rows of the arguments and of the three angle tables; turning back by them is the reference's.
-/
@[expose] public section
set_option maxRecDepth 16384
noncomputable section
namespace Cert.KernelDyIdeal.Value
open Cert.KernelDyIdeal Cert.KernelDyIdeal.Gen Idealize.ShloMosaic Idealize.ShloMosaic.TcCoe Idealize.SL.Sem
open Cert.DyRef Cert.Angles
theorem idx : ∀ t : Fin cfg0.N, win0_0.index t = ![t.val, 0] ∧ win0_1.index t = ![0, t.val, 0] ∧ win0_2.index t = ![0, t.val, 0]
    ∧ win0_3.index t = ![t.val, 0] ∧ win0_4.index t = ![0, t.val, 0] ∧ win0_5.index t = ![0, t.val, 0]
    ∧ win0_6.index t = ![t.val, 0] ∧ win0_7.index t = ![0, t.val, 0] ∧ win0_8.index t = ![0, t.val, 0] ∧ win0_9.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, _)

variable (m : (ℓ : Loc nD τ sig) → Buf (Elt Ideal) ℓ) (c : Dev nD)

set_option backward.isDefEq.respectTransparency.types false in
theorem tab_c : V m c main_v27 = tableC := by
  unfold_abbrev_sides
  after_results
  beta_reduce
  refine congrArg spread (glue_congr ?_ ?_ ?_)
  · show (_ : (b : DevRef τ sig) → b.ty.Contents (Elt Ideal)) (Proc.tc.devRef main_v16) = _
    simp only [↓ StableHlo.readResult, ↓ StableHlo.readPieces]
    try rfl
  · show (_ : (b : DevRef τ sig) → b.ty.Contents (Elt Ideal)) (Proc.tc.devRef main_v16) = _
    simp only [↓ StableHlo.readResult, ↓ StableHlo.readPieces]
    try rfl
  · show (_ : (b : DevRef τ sig) → b.ty.Contents (Elt Ideal)) (Proc.tc.devRef main_v18) = _
    simp only [↓ StableHlo.readResult, ↓ StableHlo.readPieces]
    try rfl

set_option backward.isDefEq.respectTransparency.types false in
theorem tab_a : V m c main_v30 = tableA := by
  unfold_abbrev_sides
  after_results
  beta_reduce
  refine congrArg spread (glue_congr ?_ ?_ ?_)
  · show (_ : (b : DevRef τ sig) → b.ty.Contents (Elt Ideal)) (Proc.tc.devRef main_v22) = _
    simp only [↓ StableHlo.readResult, ↓ StableHlo.readPieces]
    try rfl
  · show (_ : (b : DevRef τ sig) → b.ty.Contents (Elt Ideal)) (Proc.tc.devRef main_v20) = _
    simp only [↓ StableHlo.readResult, ↓ StableHlo.readPieces]
    try rfl
  · show (_ : (b : DevRef τ sig) → b.ty.Contents (Elt Ideal)) (Proc.tc.devRef main_v19) = _
    simp only [↓ StableHlo.readResult, ↓ StableHlo.readPieces]
    try rfl

set_option backward.isDefEq.respectTransparency.types false in
theorem tab_b : V m c main_v33 = tableB := by
  unfold_abbrev_sides
  after_results
  beta_reduce
  refine congrArg spread (glue_congr ?_ ?_ ?_)
  · show (_ : (b : DevRef τ sig) → b.ty.Contents (Elt Ideal)) (Proc.tc.devRef main_v20) = _
    simp only [↓ StableHlo.readResult, ↓ StableHlo.readPieces]
    try rfl
  · show (_ : (b : DevRef τ sig) → b.ty.Contents (Elt Ideal)) (Proc.tc.devRef main_v17) = _
    simp only [↓ StableHlo.readResult, ↓ StableHlo.readPieces]
    try rfl
  · show (_ : (b : DevRef τ sig) → b.ty.Contents (Elt Ideal)) (Proc.tc.devRef main_v19) = _
    simp only [↓ StableHlo.readResult, ↓ StableHlo.readPieces]
    try rfl

section Blocks
variable (t : Fin cfg0.N) (a : Fin 512) (h : t.val * 512 + a.val < 8192)

theorem blk_q1 (b : Fin 512) : iblk m c 0 t (ix2 a b) = m ((c : Thread nD τ).loc main_arg0) (ix2 ⟨t.val * 512 + a.val, h⟩ b) := by
  blk_point [iblk, V, idx t]

theorem blk_q4 (r : Fin 4) (i : Fin 128) (hi : t.val * 128 + i.val < 2048) (b : Fin 512) :
    iblk m c 1 t (ix3 r i b) = m ((c : Thread nD τ).loc main_arg1) (ix2 ⟨r.val * 2048 + (t.val * 128 + i.val), by omega⟩ b) := by
  blk_point [iblk, V, idx t]

theorem blk_q16 (r : Fin 16) (i : Fin 32) (hi : t.val * 32 + i.val < 512) (b : Fin 512) :
    iblk m c 2 t (ix3 r i b) = m ((c : Thread nD τ).loc main_arg2) (ix2 ⟨r.val * 512 + (t.val * 32 + i.val), by omega⟩ b) := by
  blk_point [iblk, V, idx t]

theorem blk_k1 (b : Fin 512) : iblk m c 3 t (ix2 a b) = m ((c : Thread nD τ).loc main_arg3) (ix2 ⟨t.val * 512 + a.val, h⟩ b) := by
  blk_point [iblk, V, idx t]

theorem blk_k4 (r : Fin 4) (i : Fin 128) (hi : t.val * 128 + i.val < 2048) (b : Fin 512) :
    iblk m c 4 t (ix3 r i b) = m ((c : Thread nD τ).loc main_arg4) (ix2 ⟨r.val * 2048 + (t.val * 128 + i.val), by omega⟩ b) := by
  blk_point [iblk, V, idx t]

theorem blk_k16 (r : Fin 16) (i : Fin 32) (hi : t.val * 32 + i.val < 512) (b : Fin 512) :
    iblk m c 5 t (ix3 r i b) = m ((c : Thread nD τ).loc main_arg5) (ix2 ⟨r.val * 512 + (t.val * 32 + i.val), by omega⟩ b) := by
  blk_point [iblk, V, idx t]

theorem blk_v1 (b : Fin 512) : iblk m c 6 t (ix2 a b) = m ((c : Thread nD τ).loc main_arg6) (ix2 ⟨t.val * 512 + a.val, h⟩ b) := by
  blk_point [iblk, V, idx t]

theorem blk_v4 (r : Fin 4) (i : Fin 128) (hi : t.val * 128 + i.val < 2048) (b : Fin 512) :
    iblk m c 7 t (ix3 r i b) = m ((c : Thread nD τ).loc main_arg7) (ix2 ⟨r.val * 2048 + (t.val * 128 + i.val), by omega⟩ b) := by
  blk_point [iblk, V, idx t]

theorem blk_v16 (r : Fin 16) (i : Fin 32) (hi : t.val * 32 + i.val < 512) (b : Fin 512) :
    iblk m c 8 t (ix3 r i b) = m ((c : Thread nD τ).loc main_arg8) (ix2 ⟨r.val * 512 + (t.val * 32 + i.val), by omega⟩ b) := by
  blk_point [iblk, V, idx t]

theorem blk_g (b : Fin 1024) : iblk m c 9 t (ix2 a b) = m ((c : Thread nD τ).loc main_arg9) (ix2 ⟨t.val * 512 + a.val, h⟩ b) := by
  blk_point [iblk, V, idx t]

theorem blk_c (l : Fin 128) : iblk m c 10 t (ix2 a l) = V m c main_v27 (ix2 ⟨t.val * 512 + a.val, h⟩ l) := by
  blk_point [iblk, idx t]

theorem blk_a (l : Fin 128) : iblk m c 11 t (ix2 a l) = V m c main_v30 (ix2 ⟨t.val * 512 + a.val, h⟩ l) := by
  blk_point [iblk, idx t]

theorem blk_b (l : Fin 128) : iblk m c 12 t (ix2 a l) = V m c main_v33 (ix2 ⟨t.val * 512 + a.val, h⟩ l) := by
  blk_point [iblk, idx t]

end Blocks

/-- What the kernel's two rotations and three tables leave is the reference's turn. -/
theorem turned_eq (T : Fin 512 → Fin 512 → EReal) (C SA SB : Vec Ideal S512x128 .f32) (a b : Fin 512) (n : Fin 8192)
    (hC : ∀ l : Fin 128, C (ix2 a l) = V m c main_v27 (ix2 n l)) (hA : ∀ l : Fin 128, SA (ix2 a l) = V m c main_v30 (ix2 n l))
    (hB : ∀ l : Fin 128, SB (ix2 a l) = V m c main_v33 (ix2 n l)) : turned T C SA SB a b = rotated (T a) n b := by
  unfold turned
  simp only [lane]
  rw [hC, hA, hB, tab_c, tab_a, tab_b]
  by_cases h0 : b.val % 64 < 8
  · rw [c_lo n _ ⟨b.val % 64, h0⟩ (by dsimp only; omega), a_rest n _ (by dsimp only; omega),
      b_mid n _ ⟨b.val % 64, h0⟩ (by dsimp only; omega), mul_zero, add_zero]
    exact (rotated_lo (T a) n b _ _ rfl (by dsimp only; omega)).symm
  by_cases h1 : b.val % 64 < 16
  · rw [c_mid n _ ⟨b.val % 64 - 8, by omega⟩ (by dsimp only; omega), a_lo n _ ⟨b.val % 64 - 8, by omega⟩ (by dsimp only; omega),
      b_rest n _ (by dsimp only; omega), mul_zero, add_zero]
    exact (rotated_mid (T a) n b _ _ (by dsimp only; omega) (by dsimp only; omega)).symm
  · rw [c_hi n _ (by dsimp only; omega), a_rest n _ (by dsimp only; omega), b_rest n _ (by dsimp only; omega), mul_one, mul_zero, mul_zero,
      add_zero, add_zero]
    exact (rotated_hi (T a) n b (by omega)).symm

/-- The strided patterns' rows of a block, at the row of the sequence. -/
theorem total_eq (A : Vec Ideal S512x512 .bf16) (X4 : Vec Ideal S4x128x512 .bf16) (X16 : Vec Ideal S16x32x512 .bf16) (x0 x1 x2 : Rows)
    (t : Fin cfg0.N) (a : Fin 512) (h : t.val * 512 + a.val < 8192)
    (h1 : ∀ b : Fin 512, A (ix2 a b) = x0 (ix2 ⟨t.val * 512 + a.val, h⟩ b))
    (h4 : ∀ (r : Fin 4) (i : Fin 128) (hi : t.val * 128 + i.val < 2048) (b : Fin 512),
      X4 (ix3 r i b) = x1 (ix2 ⟨r.val * 2048 + (t.val * 128 + i.val), by omega⟩ b))
    (h16 : ∀ (r : Fin 16) (i : Fin 32) (hi : t.val * 32 + i.val < 512) (b : Fin 512),
      X16 (ix3 r i b) = x2 (ix2 ⟨r.val * 512 + (t.val * 32 + i.val), by omega⟩ b)) (b : Fin 512) :
    total A (mix4 X4) (mix16 X16) a b = sumOf x0 x1 x2 ⟨t.val * 512 + a.val, h⟩ b := by
  unfold total sumOf
  refine congrArg₂ (· + ·) (congrArg₂ (· + ·) (h1 b) ?_) ?_
  · refine (h4 _ _ (show t.val * 128 + a.val / 4 < 2048 by omega) _).trans (congrArg x1 (congrArg₂ ix2 (Fin.ext ?_) (Fin.ext ?_)))
    · show a.val % 4 * 2048 + (t.val * 128 + a.val / 4) = (t.val * 512 + a.val) % 4 * 2048 + (t.val * 512 + a.val) / 4
      omega
    · show b.val / 128 * 128 + b.val % 128 = b.val
      omega
  · refine (h16 _ _ (show t.val * 32 + a.val / 16 < 512 by omega) _).trans (congrArg x2 (congrArg₂ ix2 (Fin.ext ?_) (Fin.ext ?_)))
    · show a.val % 16 * 512 + (t.val * 32 + a.val / 16) = (t.val * 512 + a.val) % 16 * 512 + (t.val * 512 + a.val) / 16
      omega
    · show b.val / 128 * 128 + b.val % 128 = b.val
      omega

abbrev arg (i : Ref sig .tc) : Buf (Elt Ideal) ((c : Thread nD τ).loc i) := m ((c : Thread nD τ).loc i)

/-- The result array. -/
def result : (⟨S8192x2560, .bf16⟩ : BufTy).Contents (Elt Ideal) :=
  Cert.ReferenceDyIdeal.Read.val_main_v205 (F := Ideal) (arg m c main_arg0) (arg m c main_arg1) (arg m c main_arg2) (arg m c main_arg3)
    (arg m c main_arg4) (arg m c main_arg5) (arg m c main_arg6) (arg m c main_arg7) (arg m c main_arg8) (arg m c main_arg9)

theorem stored_eq (t : Fin cfg0.N) (a : Fin 512) (b : Fin 2560) (h : t.val * 512 + a.val < 8192) :
    stored m c t (ix2 a b) = result m c (ix2 ⟨t.val * 512 + a.val, h⟩ b) := by
  by_cases h0 : b.val < 512
  · refine (stored_q m c t _ a ⟨b.val, h0⟩ rfl rfl).trans ((turned_eq m c _ _ _ _ a _ ⟨t.val * 512 + a.val, h⟩
      (blk_c m c t a h) (blk_a m c t a h) (blk_b m c t a h)).trans ?_)
    refine Eq.trans ?_ (out_q _ _ _ _ _ _ _ _ _ _ _ b ⟨b.val, h0⟩ rfl).symm
    exact congrArg (fun T => rotated T _ _) (funext fun d => total_eq _ _ _ _ _ _ t a h (blk_q1 m c t a h) (blk_q4 m c t a) (blk_q16 m c t a) d)
  by_cases h1 : b.val < 1024
  · have e : b.val = 512 + (b.val - 512) := by omega
    refine (stored_k m c t _ a ⟨b.val - 512, by omega⟩ rfl e).trans ((turned_eq m c _ _ _ _ a _ ⟨t.val * 512 + a.val, h⟩
      (blk_c m c t a h) (blk_a m c t a h) (blk_b m c t a h)).trans ?_)
    refine Eq.trans ?_ (out_k _ _ _ _ _ _ _ _ _ _ _ b ⟨b.val - 512, by omega⟩ e).symm
    exact congrArg (fun T => rotated T _ _) (funext fun d => total_eq _ _ _ _ _ _ t a h (blk_k1 m c t a h) (blk_k4 m c t a) (blk_k16 m c t a) d)
  by_cases h2 : b.val < 1536
  · have e : b.val = 1024 + (b.val - 1024) := by omega
    refine (stored_v m c t _ a ⟨b.val - 1024, by omega⟩ rfl e).trans ?_
    refine Eq.trans ?_ (out_v _ _ _ _ _ _ _ _ _ _ _ b ⟨b.val - 1024, by omega⟩ e).symm
    exact total_eq _ _ _ _ _ _ t a h (blk_v1 m c t a h) (blk_v4 m c t a) (blk_v16 m c t a) _
  · have e : b.val = 1536 + (b.val - 1536) := by omega
    refine (stored_g m c t _ a ⟨b.val - 1536, by omega⟩ rfl e).trans ?_
    refine Eq.trans ?_ (out_g _ _ _ _ _ _ _ _ _ _ _ b ⟨b.val - 1536, by omega⟩ e).symm
    exact blk_g m c t a h _

theorem final : (dats m 0 c).arrAt 13 (cfgs 0).N = result m c := by
  refine (dats m 0 c).arrAt_eq_of_covers 13 _ (by decide +kernel) fun t hf y => ?_
  blk_simp
  idx_vars y
  have hN : t.val < 16 := t.isLt
  have h : t.val * 512 + y0.val < 8192 := by omega
  have hy : (win0_13.blk t).view.emb (ix2 y0 y1) = ix2 (⟨t.val * 512 + y0.val, h⟩ : Fin 8192) y1 := by
    blk_ext [idx t]
  rw [after0_13, hy, ← stored_eq m c t y0 y1 h]
  exact out_eq m c t _

end Cert.KernelDyIdeal.Value
end
-- ==== Proof.Dy.lean ====
/-
  The claim of the gradient laid together from the three patterns: its rows are the reference's.
-/
module

public import proofs.«01_k».proof.Defs
public import proofs.«01_k».proof.Proof.DyTables
public import proofs.«01_k».proof.Proof.Gen.ReferenceDyIdeal.Run
public import Idealize.ShloMosaic.Lib.Claim

@[expose] public section

noncomputable section

namespace Cert.Dy

open Idealize.ShloMosaic Idealize.ShloMosaic.TcCoe Idealize.SL.Sem
open Cert.KernelDyIdeal

theorem algebraic : Cert.algebraic_KernelDyIdeal_ReferenceDyIdeal := by
  pair_intro
  · run_from Cert.KernelDyIdeal.Value.run_blocks m g
  · run_from Cert.ReferenceDyIdeal.Value.run m' g'
    refine (Cert.ReferenceDyIdeal.Read.val_main_v205_eq _).trans ?_
    obtain ⟨h0, h1, h2, h3, h4, h5, h6, h7, h8, h9⟩ := hagree c
    refine Eq.trans ?_ (Cert.KernelDyIdeal.Value.final m c).symm
    simp only [StableHlo.launchContents]
    erw [h0, h1, h2, h3, h4, h5, h6, h7, h8, h9]
    rfl

end Cert.Dy

end
-- ==== Proof.XattfValue.lean ====
/-
  The cross-attention to the memory rows (`_xatt_fwd`): the reference read at an entry, and what one grid point of 512
  rows stores, head by head.
-/
module

public import proofs.«01_k».proof.Proof.XattValue
public import proofs.«01_k».proof.Proof.Gen.ReferenceXattfIdeal.Read
public import proofs.«01_k».proof.Proof.Gen.KernelXattfIdeal.Value

@[expose] public section

set_option maxRecDepth 16384

noncomputable section

namespace Cert.XattfRef

open Cert.ReferenceXattfIdeal Cert.ReferenceXattfIdeal.Gen Idealize.ShloMosaic Idealize.ShloMosaic.TcCoe Idealize.SL.Sem
open Cert.ReferenceXattfIdeal.Read Cert.Reals
open Cert.XattRef (col scale score head isReal_score isReal_head)

/-- The attention's row `i`, at column `c` of the head. -/
def attend {n : ℕ} (q : Fin n → Fin 256 → EReal) (k v : Fin 256 → Fin 256 → EReal) (i : Fin n) (c : Fin 256) : EReal :=
  ∑ j, Softmax.weight (score (q i) k) j * v j c

/-- The maximum over the last axis. -/
theorem fold_max (v : FVec Ideal S4x8192x256 .f32) (c : FVec Ideal S_ .f32) (hr : S4x8192x256.ReducesTo [2] S4x8192) (hu : 0 < S_.numel) (j : S4x8192.Idx) :
    Host.reduce FloatOps.maximumf v c hr hu j = Finset.fold max (c (Shape.Idx.first hu)) (fun k => v (ix3 (j 0) (j 1) k)) Finset.univ := by
  simp only [pointwise]

variable (q : FVec Ideal S8192x1024 .bf16) (k v : FVec Ideal S256x1024 .bf16)

theorem s_at (h : Fin 4) (i : Fin 8192) (j : Fin 256) : val_main_v8 (F := Ideal) q k (ix3 h i j) = score (head q h i) (head k h) j := by
  pointwise [val_main_v0, val_main_v1, val_main_v3, val_main_v4, val_main_v6, val_main_v7, val_main_v8, val_main_cst]
  rfl

theorem fold_at (h : Fin 4) (i : Fin 8192) : val_main_v9 (F := Ideal) q k (ix2 h i) = Finset.fold max (val_main_cst_0 (F := Ideal) (Shape.Idx.first h_S_)) (fun j => val_main_v8 (F := Ideal) q k (ix3 h i j)) Finset.univ :=
  fold_max _ _ _ _ _

theorem first_top_at (h : Fin 4) (i : Fin 8192) : val_main_v9 (F := Ideal) q k (ix2 h i) = Softmax.top (score (head q h i) (head k h)) :=
  (fold_at q k h i).trans (by
    rw [show (fun j => val_main_v8 (F := Ideal) q k (ix3 h i j)) = score (head q h i) (head k h) from funext (s_at q k h i)]
    rfl)

theorem top_at (h : Fin 4) (i : Fin 8192) : val_main_v11 (F := Ideal) q k (ix2 h i) = Softmax.top (score (head q h i) (head k h)) := by
  rw [val_main_v11_apply, first_top_at, val_main_v10_apply, val_main_cst_1_apply]
  exact Softmax.max_top _

theorem e_at (h : Fin 4) (i : Fin 8192) (j : Fin 256) : val_main_v15 (F := Ideal) q k (ix3 h i j) = Softmax.expo (score (head q h i) (head k h)) j := by
  pointwise [val_main_v12, val_main_v13, val_main_v14, val_main_v15]
  rw [s_at, top_at]
  rfl

theorem z_at (h : Fin 4) (i : Fin 8192) : val_main_v16 (F := Ideal) q k (ix2 h i) = ∑ j, Softmax.expo (score (head q h i) (head k h)) j := by
  pointwise [val_main_v16, val_main_cst_2]
  simp only [e_at]

variable {q k v}
variable (hq : ∀ i, IsReal (q i)) (hk : ∀ i, IsReal (k i))
include hq hk

theorem weight_at (h : Fin 4) (i : Fin 8192) (j : Fin 256) : val_main_v19 (F := Ideal) q k (ix3 h i j) = Softmax.weight (score (head q h i) (head k h)) j := by
  refine Eq.trans ?_ (Softmax.div_eq_weight (isReal_score (isReal_head hq h i) (isReal_head hk h)) j)
  pointwise [val_main_v17, val_main_v18, val_main_v19]
  rw [e_at, z_at]

theorem out_at (h : Fin 4) (i : Fin 8192) (c : Fin 256) : val_main_v23 (F := Ideal) q k v (ix2 i (col h c)) = attend (head q h) (head k h) (head v h) i c := by
  unfold col
  pointwise [val_main_v23, val_main_v22, val_main_v21, val_main_v20, val_main_v5, val_main_v2]
  simp only [weight_at hq hk]
  refine Finset.sum_congr rfl fun j _ => ?_
  rw [mul_comm]
  rfl

end Cert.XattfRef

namespace Cert.KernelXattfIdeal.Value

open Cert.KernelXattfIdeal Cert.KernelXattfIdeal.Gen Idealize.ShloMosaic Idealize.ShloMosaic.TcCoe Idealize.SL.Sem
open Idealize.ShloMosaic.Pipeline (Dat)
open Cert.Reals Cert.XattfRef
open Cert.XattRef (col scale score head)
open Cert.KernelXattIdeal.Value (tile tile_ld headOf laneOf col_headOf headOf_eq laneOf_eq row_emb col_emb)

/-! ## One point -/

theorem pay_0 (q : FVec Ideal S512x256 .bf16) (k v : FVec Ideal S256x256 .bf16) (i : Fin 512) (c : Fin 256) :
    k0_pay10 (F := Ideal) (k0_pay5 q k) v (ix2 i c) = attend (tile q) (tile k) (tile v) i c := by
  pointwise [k0_pay10, k0_pay5]
  rfl
theorem pay_1 (q : FVec Ideal S512x256 .bf16) (k v : FVec Ideal S256x256 .bf16) (i : Fin 512) (c : Fin 256) :
    k0_pay11 (F := Ideal) (k0_pay6 q k) v (ix2 i c) = attend (tile q) (tile k) (tile v) i c := by
  pointwise [k0_pay11, k0_pay6]
  rfl
theorem pay_2 (q : FVec Ideal S512x256 .bf16) (k v : FVec Ideal S256x256 .bf16) (i : Fin 512) (c : Fin 256) :
    k0_pay1 (F := Ideal) (k0_pay8 (k0_pay3 q k) (k0_pay7 q k)) v (ix2 i c) = attend (tile q) (tile k) (tile v) i c := by
  pointwise [k0_pay1, k0_pay8, k0_pay3, k0_pay7]
  rfl
theorem pay_3 (q : FVec Ideal S512x256 .bf16) (k v : FVec Ideal S256x256 .bf16) (i : Fin 512) (c : Fin 256) :
    k0_pay2 (F := Ideal) (k0_pay9 (k0_pay4 q k)) v (ix2 i c) = attend (tile q) (tile k) (tile v) i c := by
  pointwise [k0_pay2, k0_pay9, k0_pay4]
  rfl

/-- The point's block, its heads side by side. -/
def block (Q : FVec Ideal S512x1024 .bf16) (K V : FVec Ideal S256x1024 .bf16) : FVec Ideal S512x1024 .bf16 := fun y =>
  attend (head Q (headOf (y 1))) (head K (headOf (y 1))) (head V (headOf (y 1))) (y 0) (laneOf (y 1))

theorem block_at (Q : FVec Ideal S512x1024 .bf16) (K V : FVec Ideal S256x1024 .bf16) {y : S512x1024.Idx} {i : Fin 512} {h : Fin 4} {j : Fin 256} (e0 : (y 0).val = i.val)
    (e1 : (y 1).val = h.val * 256 + j.val) : block Q K V y = attend (head Q h) (head K h) (head V h) i j := by
  unfold block; rw [headOf_eq e1, laneOf_eq e1, show y 0 = i from Fin.ext e0]

variable (m : (ℓ : Loc nD τ sig) → Buf (Elt Ideal) ℓ)

theorem out_eq (c : Dev nD) (t : Fin cfg0.N) (y : S512x1024.Idx) :
    out0_3 (iblk m c 0 t) (iblk m c 1 t) (iblk m c 2 t) y = block (iblk m c 0 t) (iblk m c 1 t) (iblk m c 2 t) y := by
  frame_out
  refine View.canon_append_of_piecesOf (Val := Elt Ideal) (e := .bf16) (block (iblk m c 0 t) (iblk m c 1 t) (iblk m c 2 t)) [] [_, _, _, _] ⟨?_, ?_, ?_, ?_, trivial⟩ y (View.cover_of_tiledL _ ![512, 256] (by sl_kernel_rfl) y)
  · intro x
    idx_vars x
    refine (pay_3 _ _ _ _ _).trans ?_
    rw [tile_ld _ 3 (o := 768) rfl, tile_ld _ 3 (o := 768) rfl, tile_ld _ 3 (o := 768) rfl]
    exact (block_at _ _ _ (row_emb _ _ _) (col_emb _ 3 (o := 768) rfl _ _)).symm
  · intro x
    idx_vars x
    refine (pay_2 _ _ _ _ _).trans ?_
    rw [tile_ld _ 2 (o := 512) rfl, tile_ld _ 2 (o := 512) rfl, tile_ld _ 2 (o := 512) rfl]
    exact (block_at _ _ _ (row_emb _ _ _) (col_emb _ 2 (o := 512) rfl _ _)).symm
  · intro x
    idx_vars x
    refine (pay_1 _ _ _ _ _).trans ?_
    rw [tile_ld _ 1 (o := 256) rfl, tile_ld _ 1 (o := 256) rfl, tile_ld _ 1 (o := 256) rfl]
    exact (block_at _ _ _ (row_emb _ _ _) (col_emb _ 1 (o := 256) rfl _ _)).symm
  · intro x
    idx_vars x
    refine (pay_0 _ _ _ _ _).trans ?_
    rw [tile_ld _ 0 (o := 0) rfl, tile_ld _ 0 (o := 0) rfl, tile_ld _ 0 (o := 0) rfl]
    exact (block_at _ _ _ (row_emb _ _ _) (col_emb _ 0 (o := 0) rfl _ _)).symm

theorem idx : ∀ t : Fin cfg0.N, win0_0.index t = ![t.val, 0] ∧ win0_1.index t = ![0, 0] ∧ win0_2.index t = ![0, 0] ∧ win0_3.index t = ![t.val, 0] := by
  decide +kernel

section
variable (c : Dev nD) (t : Fin cfg0.N)

theorem rows_q (h : Fin 4) (i : Fin 512) (hi : t.val * 512 + i.val < 8192) :
    head (n := 512) (iblk m c 0 t) h i = head (n := 8192) (m ((c : Thread nD τ).loc main_arg0)) h ⟨t.val * 512 + i.val, hi⟩ := by
  funext d
  unfold head
  blk_point [iblk, V, idx t]
theorem blk_k : iblk m c 1 t = m ((c : Thread nD τ).loc main_arg1) := by
  funext y
  blk_point [iblk, V, idx t]
theorem blk_v : iblk m c 2 t = m ((c : Thread nD τ).loc main_arg2) := by
  funext y
  blk_point [iblk, V, idx t]
end

/-- The attention's rows. -/
theorem final (c : Dev nD) (hq : ∀ i, IsReal (m ((c : Thread nD τ).loc main_arg0) i)) (hk : ∀ i, IsReal (m ((c : Thread nD τ).loc main_arg1) i)) :
    (dats m 0 c).arrAt 3 (cfgs 0).N = Cert.ReferenceXattfIdeal.Read.val_main_v23 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  idx_vars y
  have hN : t.val < 16 := t.isLt
  have hy : (win0_3.blk t).view.emb (ix2 y0 y1) = ix2 (⟨t.val * 512 + y0.val, by omega⟩ : Fin 8192) (col (headOf y1) (laneOf y1)) := by
    rw [col_headOf]
    blk_ext [idx t]
  rw [after0_3, hy, out_at hq hk]
  refine (out_eq m c t _).trans ?_
  refine (block_at _ _ _ (y := ix2 y0 y1) (i := y0) (h := headOf y1) (j := laneOf y1) rfl (congrArg Fin.val (col_headOf y1)).symm).trans ?_
  unfold attend
  rw [blk_k, blk_v, rows_q m c _ _ _ (by show t.val * 512 + y0.val < 8192; omega)]

end Cert.KernelXattfIdeal.Value

end
-- ==== Proof.Xattf.lean ====
/-
  The claim of the cross-attention to the memory rows: its rows are the reference's.
-/
module

public import proofs.«01_k».proof.Defs
public import proofs.«01_k».proof.Proof.XattfValue
public import proofs.«01_k».proof.Proof.Gen.ReferenceXattfIdeal.Run
public import proofs.«01_k».proof.Proof.Gen.Pre_finite_xattf
public import Idealize.ShloMosaic.Lib.Claim

@[expose] public section

noncomputable section

namespace Cert.Xattf

open Idealize.ShloMosaic Idealize.ShloMosaic.TcCoe Idealize.SL.Sem
open Cert.KernelXattfIdeal Cert.Reals

/-- What the precondition says of the arguments. -/
theorem finite {m : (ℓ : Loc nD τ sig) → Buf (Elt Ideal) ℓ} (h : Cert.Pre_KernelXattfIdeal_finite_xattf m) (c : Dev nD) :
    (∀ i, IsReal (m ((c : Thread nD τ).loc main_arg0) i)) ∧ (∀ i, IsReal (m ((c : Thread nD τ).loc main_arg1) i)) :=
  ⟨fun i => isReal_of_cmpf (congrFun (h c).1 i), fun i => isReal_of_cmpf (congrFun (h c).2 i)⟩

theorem algebraic : Cert.algebraic_KernelXattfIdeal_ReferenceXattfIdeal_pre_finite_xattf := by
  pair_intro
  · run_from Cert.KernelXattfIdeal.Value.run_blocks m g
  · run_from Cert.ReferenceXattfIdeal.Value.run m' g'
    obtain ⟨hq, hk⟩ := finite hpre c
    refine (Cert.ReferenceXattfIdeal.Read.val_main_v23_eq _ _ _).trans ?_
    exact (Cert.KernelXattfIdeal.Value.final m c hq hk).symm

end Cert.Xattf

end
-- ==== Proof.Band.lean ====
module
public import proofs.«01_k».proof.Proof.Softmax
/-!
# A softmax row over a band, read through a window

A row attends to the keys of a band. One program runs over all keys and masks the rest with −∞; another runs over a window
that holds the band, and masks what of the window is outside. The two find the same maximum, the same denominators and the
same means.
-/
@[expose] public section
noncomputable section
namespace Cert.Band
open Idealize.ShloMosaic Cert.Reals

/-- A window `place` of `n` slots on `L` keys: the slots in the band are, one to one, the keys in the band. -/
structure Window {n L : ℕ} (inW : Fin n → Prop) (inK : Fin L → Prop) (place : Fin n → Fin L) : Prop where
  lands : ∀ w, inW w → inK (place w)
  once : ∀ w w', inW w → inW w' → place w = place w' → w = w'
  all : ∀ j, inK j → ∃ w, inW w ∧ place w = j

variable {n L : ℕ}

/-- The scores with those outside the band at −∞. -/
def masked (p : Fin n → Prop) [DecidablePred p] (s : Fin n → EReal) (j : Fin n) : EReal := if p j then s j else ⊥
def top (s : Fin n → EReal) : EReal := Finset.fold max ⊥ s Finset.univ
def expo (s : Fin n → EReal) (j : Fin n) : EReal := Ideal.exp (s j - top s)
def den (s : Fin n → EReal) : EReal := ∑ j, expo s j
def lse (s : Fin n → EReal) : EReal := top s + Ideal.log (den s)

variable {inW : Fin n → Prop} {inK : Fin L → Prop} {place : Fin n → Fin L} [DecidablePred inW] [DecidablePred inK]

theorem sum_window (h : Window inW inK place) (F : Fin L → EReal) :
    (∑ w, if inW w then F (place w) else 0) = ∑ j, if inK j then F j else 0 := by
  rw [← Finset.sum_filter, ← Finset.sum_filter]
  refine Finset.sum_bij (fun w _ => place w) ?_ ?_ ?_ ?_
  · intro w hw
    exact Finset.mem_filter.2 ⟨Finset.mem_univ _, h.lands w (Finset.mem_filter.1 hw).2⟩
  · intro w hw w' hw' e
    exact h.once w w' (Finset.mem_filter.1 hw).2 (Finset.mem_filter.1 hw').2 e
  · intro j hj
    obtain ⟨w, hw, e⟩ := h.all j (Finset.mem_filter.1 hj).2
    exact ⟨w, Finset.mem_filter.2 ⟨Finset.mem_univ _, hw⟩, e⟩
  · intro w _
    rfl

theorem top_le {s : Fin n → EReal} {b : EReal} : top s ≤ b ↔ ∀ j, s j ≤ b := by
  unfold top
  rw [Finset.fold_max_le]
  simp

theorem le_top (s : Fin n → EReal) (j : Fin n) : s j ≤ top s := top_le.1 le_rfl j

theorem top_window (h : Window inW inK place) (S : Fin L → EReal) :
    top (masked inW fun w => S (place w)) = top (masked inK S) := by
  refine le_antisymm (top_le.2 fun w => ?_) (top_le.2 fun j => ?_)
  · unfold masked
    by_cases hw : inW w
    · rw [if_pos hw]
      refine le_trans (le_of_eq ?_) (le_top _ (place w))
      exact (if_pos (h.lands w hw)).symm
    · rw [if_neg hw]
      exact bot_le
  · unfold masked
    by_cases hj : inK j
    · obtain ⟨w, hw, rfl⟩ := h.all j hj
      rw [if_pos hj]
      refine le_trans (le_of_eq ?_) (le_top _ w)
      exact (if_pos hw).symm
    · rw [if_neg hj]
      exact bot_le

theorem exp_bot_sub (x : EReal) : Ideal.exp (⊥ - x) = 0 := by
  rw [EReal.bot_sub]
  rfl

/-- Outside the band an exponential is nought. -/
theorem expo_masked (p : Fin n → Prop) [DecidablePred p] (s : Fin n → EReal) (j : Fin n) :
    expo (masked p s) j = if p j then Ideal.exp (s j - top (masked p s)) else 0 := by
  unfold expo
  by_cases hj : p j
  · rw [if_pos hj]
    exact congrArg (fun x => Ideal.exp (x - _)) (if_pos hj)
  · rw [if_neg hj]
    refine Eq.trans (congrArg (fun x => Ideal.exp (x - _)) (if_neg hj)) (exp_bot_sub _)

theorem den_window (h : Window inW inK place) (S : Fin L → EReal) :
    den (masked inW fun w => S (place w)) = den (masked inK S) := by
  unfold den
  simp only [expo_masked]
  rw [top_window h S]
  exact sum_window h fun j => Ideal.exp (S j - top (masked inK S))

theorem lse_window (h : Window inW inK place) (S : Fin L → EReal) :
    lse (masked inW fun w => S (place w)) = lse (masked inK S) := by
  unfold lse
  rw [top_window h, den_window h]

/-- The denominator is positive where a key of the band has a finite score and none has an infinite one. -/
theorem den_ne_zero (s : Fin n → EReal) (p : Fin n → Prop) [DecidablePred p] (hs : ∀ j, IsReal (s j)) (j : Fin n) (hj : p j) :
    den (masked p s) ≠ 0 := by
  have le : IsReal (top (masked p s)) := by
    have hb : ⊥ < top (masked p s) := by
      obtain ⟨r, hr⟩ := hs j
      refine lt_of_lt_of_le ?_ (le_top _ j)
      unfold masked
      rw [if_pos hj, hr]
      exact EReal.bot_lt_coe r
    have ht : top (masked p s) < ⊤ := by
      unfold top
      rw [Finset.fold_max_lt]
      refine ⟨bot_lt_top, fun i _ => ?_⟩
      unfold masked
      split_ifs
      · obtain ⟨r, hr⟩ := hs i
        rw [hr]
        exact EReal.coe_lt_top r
      · exact bot_lt_top
    exact ⟨_, (EReal.coe_toReal ht.ne hb.ne').symm⟩
  obtain ⟨t, ht⟩ := le
  have nonneg : ∀ i, 0 ≤ expo (masked p s) i := by
    intro i
    rw [expo_masked]
    split_ifs
    · obtain ⟨r, hr⟩ := hs i
      rw [ht, hr, ← EReal.coe_sub]
      exact EReal.coe_nonneg.2 (Real.exp_pos _).le
    · exact le_rfl
  have pos : 0 < expo (masked p s) j := by
    rw [expo_masked, if_pos hj]
    obtain ⟨r, hr⟩ := hs j
    rw [ht, hr, ← EReal.coe_sub]
    exact EReal.coe_pos.2 (Real.exp_pos _)
  exact (lt_of_lt_of_le pos (Finset.single_le_sum (fun i _ => nonneg i) (Finset.mem_univ j))).ne'

theorem sum_mul_const {ι : Type*} (s : Finset ι) (f : ι → EReal) {c : EReal} (h0 : 0 ≤ c) (ht : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

theorem den_nonneg (s : Fin n → EReal) : 0 ≤ den s := by
  refine Finset.sum_nonneg fun i _ => ?_
  unfold expo
  induction s i - Band.top s with
  | bot => exact le_rfl
  | coe r => exact EReal.coe_nonneg.2 (Real.exp_pos r).le
  | top => exact _root_.le_top

/-- The window's mean, divided at the end, is the mean of the keys' quotients. -/
theorem mean_window (h : Window inW inK place) (S v : Fin L → EReal) (u : Fin n → EReal) (hu : ∀ w, inW w → u w = v (place w))
    (hd : den (masked inK S) ≠ 0) :
    (∑ w, expo (masked inW fun w => S (place w)) w * u w) * Ideal.div 1 (den (masked inW fun w => S (place w)))
      = ∑ j, Ideal.div (expo (masked inK S) j) (den (masked inK S)) * v j := by
  have e : (∑ w, expo (masked inW fun w => S (place w)) w * u w) = ∑ j, expo (masked inK S) j * v j := by
    refine Eq.trans (Finset.sum_congr rfl fun w _ => ?_) ((sum_window h fun j => Ideal.exp (S j - top (masked inK S)) * v j).trans (Finset.sum_congr rfl fun j _ => ?_))
    · rw [expo_masked, top_window h S]
      by_cases hw : inW w
      · rw [if_pos hw, if_pos hw, hu w hw]
      · rw [if_neg hw, if_neg hw, zero_mul]
    · rw [expo_masked]
      by_cases hj : inK j
      · rw [if_pos hj, if_pos hj]
      · rw [if_neg hj, if_neg hj, zero_mul]
  have div_eq : ∀ x, Ideal.div x (den (masked inK S)) = x * (den (masked inK S))⁻¹ := fun x => if_neg hd
  rw [e, den_window h, div_eq, one_mul, sum_mul_const]
  · refine Finset.sum_congr rfl fun j _ => ?_
    rw [div_eq, mul_right_comm]
  · exact EReal.inv_nonneg_of_nonneg (den_nonneg _)
  · exact (EReal.inv_lt_top _).ne

/-- The mean of `v` by the weights of the scores `s`, divided at the end. -/
def mean (s v : Fin n → EReal) : EReal := (∑ j, expo s j * v j) * Ideal.div 1 (den s)

end Cert.Band

end
-- ==== Proof.BandTile.lean ====
/-
  One tile of the sliding-window attention: 128 rows of two heads that lie side by side in 128 lanes, against a window of
  256 keys. Each head's scores come from a product of all 128 lanes in which the other head's lanes are nought.
-/
module

public import proofs.«01_k».proof.Proof.Band
public import proofs.«01_k».proof.Proof.Gen.KernelAttf1Ideal.Value

@[expose] public section

set_option maxRecDepth 16384

noncomputable section

namespace Cert.BandTile

open Cert.KernelAttf1Ideal Cert.KernelAttf1Ideal.Gen Idealize.ShloMosaic Idealize.ShloMosaic.TcCoe Idealize.SL.Sem
open Cert.Reals Cert.Band

/-! ## The tile's steps -/

def zeros : FVec Ideal S128x128 .bf16 := broadcast S128x128 (Scalar.ofBits .bf16 0x0000#16)

/-- The head of the first 64 lanes, and that of the others. -/
def left (first : IVec S128x128 1) (q : FVec Ideal S128x128 .bf16) : FVec Ideal S128x128 .bf16 := select first q zeros
def right (first : IVec S128x128 1) (q : FVec Ideal S128x128 .bf16) : FVec Ideal S128x128 .bf16 := select first zeros q

def scores (valid : IVec S128x256 1) (q : FVec Ideal S128x128 .bf16) (k : FVec Ideal S256x128 .bf16) : FVec Ideal S128x256 .f32 :=
  select valid (matmul dot_S128x128_S256x128_S128x256_1_1_0_0_n_n none q k (constant S128x256 .f32 0x00000000#32)) (broadcast S128x256 (Named.named κ "mask" 0xF149F2CA#32))

def tops (s : FVec Ideal S128x256 .f32) : FVec Ideal S128x1 .f32 :=
  shapeCast S128x1 (multiReduction .maximumf [1] S128 s 0xFF800000#32 reduces_S128x256_S128 (.inl rfl) rfl) shapeCasts_S128_S128x1

def exps (s : FVec Ideal S128x256 .f32) : FVec Ideal S128x256 .f32 := exp (subf s (broadcastTo S128x256 (tops s) broadcasts_S128x1_S128x256))

def dens (e : FVec Ideal S128x256 .f32) : FVec Ideal S128x1 .f32 :=
  shapeCast S128x1 (multiReduction .add [1] S128 e 0x00000000#32 reduces_S128x256_S128 (.inl rfl) rfl) shapeCasts_S128_S128x1

def means (e : FVec Ideal S128x256 .f32) (v : FVec Ideal S256x128 .bf16) : FVec Ideal S128x128 .f32 :=
  mulf (matmul dot_S128x256_S256x128_S128x128_1_0_0_1_n_n none (truncf .bf16 e bitsLt_bf16_f32) v (constant S128x128 .f32 0x00000000#32))
    (broadcastTo S128x128 (divf (broadcast S128x1 (Scalar.ofBits .f32 0x3F800000#32)) (dens e)) broadcasts_S128x1_S128x128)

def spread (s : FVec Ideal S128x256 .f32) : FVec Ideal S128x128 .f32 :=
  broadcastTo S128x128 (shapeCast S128x1 (addf (tops s) (log (dens (exps s)))) shapeCasts_S128x1_S128x1) broadcasts_S128x1_S128x128

/-- What a tile stores of the means, and of the logarithms of the denominators. -/
def storedO (first : IVec S128x128 1) (valid : IVec S128x256 1) (q : FVec Ideal S128x128 .bf16) (k v : FVec Ideal S256x128 .bf16) : FVec Ideal S128x128 .bf16 :=
  truncf .bf16 (select first (means (exps (scores valid (left first q) k)) v) (means (exps (scores valid (right first q) k)) v)) bitsLt_bf16_f32
def storedL (first : IVec S128x128 1) (valid : IVec S128x256 1) (q : FVec Ideal S128x128 .bf16) (k : FVec Ideal S256x128 .bf16) : FVec Ideal S128x128 .f32 :=
  select first (spread (scores valid (left first q) k)) (spread (scores valid (right first q) k))

/-! ## A tile's entries -/

/-- A row's scores with those outside the window at −∞. -/
def tileScore (valid : IVec S128x256 1) (q : FVec Ideal S128x128 .bf16) (k : FVec Ideal S256x128 .bf16) (r : Fin 128) : Fin 256 → EReal :=
  masked (fun w => valid (ix2 r w) = 1#1) fun w => ∑ d : Fin 128, q (ix2 r d) * k (ix2 w d)

theorem mask_eq : (Named.named κ "mask" 0xF149F2CA#32 : Ideal .f32) = (⊥ : EReal) := rfl

theorem scores_at (valid : IVec S128x256 1) (q : FVec Ideal S128x128 .bf16) (k : FVec Ideal S256x128 .bf16) (r : Fin 128) (w : Fin 256) :
    scores valid q k (ix2 r w) = tileScore valid q k r w := by
  refine if_congr Iff.rfl ?_ mask_eq
  pointwise []

theorem fold_rows (s : FVec Ideal S128x256 .f32) (hr : S128x256.Reduces [1] S128) (h1) (h2) (r : Fin 128) :
    multiReduction .maximumf [1] S128 s 0xFF800000#32 hr h1 h2 (ix1 r) = Finset.fold max (Ideal.ofBits .f32 0xFF800000#32) (fun w => s (ix2 r w)) Finset.univ := by
  simp only [pointwise]

theorem tops_at (s : FVec Ideal S128x256 .f32) (r : Fin 128) : tops s (ix2 r 0) = top fun w => s (ix2 r w) := by
  pointwise [tops]
  rw [Softmax.ofBits_neg_inf]
  rfl

theorem exps_at (s : FVec Ideal S128x256 .f32) (r : Fin 128) (w : Fin 256) : exps s (ix2 r w) = expo (fun w => s (ix2 r w)) w := by
  pointwise [exps]
  rw [tops_at]
  rfl

theorem dens_at (s : FVec Ideal S128x256 .f32) (r : Fin 128) : dens (exps s) (ix2 r 0) = den fun w => s (ix2 r w) := by
  pointwise [dens]
  simp only [exps_at]
  rfl

theorem means_at (s : FVec Ideal S128x256 .f32) (v : FVec Ideal S256x128 .bf16) (r l : Fin 128) :
    means (exps s) v (ix2 r l) = mean (fun w => s (ix2 r w)) fun w => v (ix2 w l) := by
  pointwise [means]
  simp only [exps_at, dens_at]
  rfl

theorem spread_at (s : FVec Ideal S128x256 .f32) (r l : Fin 128) : spread s (ix2 r l) = lse fun w => s (ix2 r w) := by
  pointwise [spread]
  simp only [tops_at, dens_at]
  rfl

/-! ## The two heads of a tile -/

def half (l : Fin 128) : Fin 2 := ⟨l.val / 64, by omega⟩
def lane (h : Fin 2) (d : Fin 64) : Fin 128 := ⟨h.val * 64 + d.val, by omega⟩

variable {first : IVec S128x128 1} (hfirst : ∀ r l, first (ix2 r l) = 1#1 ↔ l.val < 64)

theorem zeros_at (i : S128x128.Idx) : zeros i = (0 : EReal) := Ideal.ofBits_zero .bf16

include hfirst in
theorem left_at (q : FVec Ideal S128x128 .bf16) (r l : Fin 128) : left first q (ix2 r l) = if l.val < 64 then q (ix2 r l) else (0 : EReal) :=
  if_congr (hfirst r l) rfl (zeros_at _)

include hfirst in
theorem right_at (q : FVec Ideal S128x128 .bf16) (r l : Fin 128) : right first q (ix2 r l) = if l.val < 64 then (0 : EReal) else q (ix2 r l) :=
  if_congr (hfirst r l) (zeros_at _) rfl

/-- A row's scores for one of the two heads. -/
def headScore (valid : IVec S128x256 1) (q : FVec Ideal S128x128 .bf16) (k : FVec Ideal S256x128 .bf16) (r : Fin 128) (h : Fin 2) : Fin 256 → EReal :=
  masked (fun w => valid (ix2 r w) = 1#1) fun w => ∑ d : Fin 64, q (ix2 r (lane h d)) * k (ix2 w (lane h d))

variable (valid : IVec S128x256 1) (q : FVec Ideal S128x128 .bf16) (k v : FVec Ideal S256x128 .bf16)

include hfirst in
theorem left_score (r : Fin 128) : (fun w => scores valid (left first q) k (ix2 r w)) = headScore valid q k r 0 := by
  funext w
  rw [scores_at]
  unfold tileScore headScore masked
  refine if_congr Iff.rfl ?_ rfl
  refine (Fin.sum_univ_add (a := 64) (b := 64) _).trans ?_
  rw [show (∑ d : Fin 64, left first q (ix2 r (Fin.natAdd 64 d)) * k (ix2 w (Fin.natAdd 64 d)) : EReal) = 0 from Finset.sum_eq_zero fun d _ => by
    rw [left_at hfirst, if_neg (by simp), zero_mul], add_zero]
  refine Finset.sum_congr rfl fun d _ => ?_
  have e : Fin.castAdd 64 d = lane 0 d := Fin.ext (by simp [lane])
  rw [left_at hfirst, if_pos (by simp), e]

include hfirst in
theorem right_score (r : Fin 128) : (fun w => scores valid (right first q) k (ix2 r w)) = headScore valid q k r 1 := by
  funext w
  rw [scores_at]
  unfold tileScore headScore masked
  refine if_congr Iff.rfl ?_ rfl
  refine (Fin.sum_univ_add (a := 64) (b := 64) _).trans ?_
  rw [show (∑ d : Fin 64, right first q (ix2 r (Fin.castAdd 64 d)) * k (ix2 w (Fin.castAdd 64 d)) : EReal) = 0 from Finset.sum_eq_zero fun d _ => by
    rw [right_at hfirst, if_pos (by simp), zero_mul], zero_add]
  refine Finset.sum_congr rfl fun d _ => ?_
  have e : Fin.natAdd 64 d = lane 1 d := Fin.ext (by simp [lane]; omega)
  rw [right_at hfirst, if_neg (by simp), e]

include hfirst in
theorem storedO_at (r l : Fin 128) : storedO first valid q k v (ix2 r l) = mean (headScore valid q k r (half l)) fun w => v (ix2 w l) := by
  show Scalar.select (first (ix2 r l)) (means _ v (ix2 r l)) (means _ v (ix2 r l)) = _
  rw [means_at, means_at, left_score hfirst, right_score hfirst]
  unfold Scalar.select
  by_cases hl : l.val < 64
  · rw [show half l = 0 from Fin.ext (by simp [half]; omega)]
    exact if_pos ((hfirst r l).2 hl)
  · rw [show half l = 1 from Fin.ext (by simp [half]; omega)]
    exact if_neg fun h => hl ((hfirst r l).1 h)

include hfirst in
theorem storedL_at (r l : Fin 128) : storedL first valid q k (ix2 r l) = lse (headScore valid q k r (half l)) := by
  show Scalar.select (first (ix2 r l)) (spread _ (ix2 r l)) (spread _ (ix2 r l)) = _
  rw [spread_at, spread_at, left_score hfirst, right_score hfirst]
  unfold Scalar.select
  by_cases hl : l.val < 64
  · rw [show half l = 0 from Fin.ext (by simp [half]; omega)]
    exact if_pos ((hfirst r l).2 hl)
  · rw [show half l = 1 from Fin.ext (by simp [half]; omega)]
    exact if_neg fun h => hl ((hfirst r l).1 h)

/-! ## A block: two by four tiles -/

def headOf (x : Fin 512) : Fin 8 := ⟨x.val / 64, by omega⟩
def laneOf (x : Fin 512) : Fin 64 := ⟨x.val % 64, by omega⟩
def col (h : Fin 8) (d : Fin 64) : Fin 512 := ⟨h.val * 64 + d.val, by omega⟩
/-- A tile's row in the block. -/
def rowOf (b : Fin 2) (r : Fin 128) : Fin 256 := ⟨b.val * 128 + r.val, by omega⟩
/-- The row of the 384 keys at hand that slot `w` of row `y`'s window is. -/
def slot (y w : Fin 256) : Fin 384 := ⟨y.val / 128 * 128 + w.val, by omega⟩

theorem col_headOf (x : Fin 512) : col (headOf x) (laneOf x) = x := Fin.ext (by simp only [col, headOf, laneOf]; omega)

/-- The slots of row `y`'s window that are in the band and among the class's `L` rows; the block is the class's `I`th. -/
def inWin (L I : ℕ) (y w : Fin 256) : Prop :=
  (y.val % 128 ≤ w.val ∧ w.val ≤ y.val % 128 + 128) ∧ 64 ≤ I * 256 + y.val / 128 * 128 + w.val ∧ I * 256 + y.val / 128 * 128 + w.val < L + 64

instance (L I : ℕ) (y : Fin 256) : DecidablePred (inWin L I y) := fun w => by unfold inWin; infer_instance

def blockScore (L I : ℕ) (Q : FVec Ideal S256x512 .bf16) (K : FVec Ideal S384x512 .bf16) (y : Fin 256) (h : Fin 8) : Fin 256 → EReal :=
  masked (inWin L I y) fun w => ∑ d : Fin 64, Q (ix2 y (col h d)) * K (ix2 (slot y w) (col h d))

def blockO (L I : ℕ) (Q : FVec Ideal S256x512 .bf16) (K V : FVec Ideal S384x512 .bf16) : FVec Ideal S256x512 .bf16 := fun i =>
  mean (blockScore L I Q K (i 0) (headOf (i 1))) fun w => V (ix2 (slot (i 0) w) (i 1))
def blockL (L I : ℕ) (Q : FVec Ideal S256x512 .bf16) (K : FVec Ideal S384x512 .bf16) : FVec Ideal S256x512 .f32 := fun i =>
  lse (blockScore L I Q K (i 0) (headOf (i 1)))

/-- A tile's queries and keys. -/
def qPart (Q : FVec Ideal S256x512 .bf16) (bo go : ℕ) (hb : S256x512.Slices ![bo, 0] S128x512) (hg : S128x512.Slices ![0, go] S128x128) : FVec Ideal S128x128 .bf16 :=
  extractStridedSlice S128x128 ![0, go] (extractStridedSlice S128x512 ![bo, 0] Q hb) hg
def kPart (K : FVec Ideal S384x512 .bf16) (bo go : ℕ) (hb : S384x512.Slices ![bo, 0] S256x512) (hg : S256x512.Slices ![0, go] S256x128) : FVec Ideal S256x128 .bf16 :=
  extractStridedSlice S256x128 ![0, go] (extractStridedSlice S256x512 ![bo, 0] K hb) hg

theorem qPart_at (Q : FVec Ideal S256x512 .bf16) {bo go : ℕ} (hb hg) (r l : Fin 128) (y : Fin 256) (x : Fin 512) (hy : y.val = bo + r.val) (hx : x.val = go + l.val) :
    qPart Q bo go hb hg (ix2 r l) = Q (ix2 y x) := by
  unfold qPart
  rw [extractStridedSlice_apply ![0, go] _ hg (ix2 r l) (ix2 r x) (by
      intro a
      match a with
      | 0 => exact (Nat.zero_add _).symm
      | 1 => exact hx),
    extractStridedSlice_apply ![bo, 0] _ hb (ix2 r x) (ix2 y x) (by
      intro a
      match a with
      | 0 => exact hy
      | 1 => exact (Nat.zero_add _).symm)]
theorem kPart_at (K : FVec Ideal S384x512 .bf16) {bo go : ℕ} (hb hg) (w : Fin 256) (l : Fin 128) (y : Fin 384) (x : Fin 512) (hy : y.val = bo + w.val) (hx : x.val = go + l.val) :
    kPart K bo go hb hg (ix2 w l) = K (ix2 y x) := by
  unfold kPart
  rw [extractStridedSlice_apply ![0, go] _ hg (ix2 w l) (ix2 w x) (by
      intro a
      match a with
      | 0 => exact (Nat.zero_add _).symm
      | 1 => exact hx),
    extractStridedSlice_apply ![bo, 0] _ hb (ix2 w x) (ix2 y x) (by
      intro a
      match a with
      | 0 => exact hy
      | 1 => exact (Nat.zero_add _).symm)]

section
variable {L I : ℕ} {valid : IVec S128x256 1} {Q : FVec Ideal S256x512 .bf16} {K V : FVec Ideal S384x512 .bf16} (b : Fin 2) (g : Fin 4) {bo go : ℕ}
variable (eb : bo = b.val * 128) (eg : go = g.val * 128)
variable (hv : ∀ (r : Fin 128) (w : Fin 256), valid (ix2 r w) = 1#1 ↔ inWin L I (rowOf b r) w)
variable {hb : S256x512.Slices ![bo, 0] S128x512} {hg : S128x512.Slices ![0, go] S128x128} {hb' : S384x512.Slices ![bo, 0] S256x512} {hg' : S256x512.Slices ![0, go] S256x128}

include eb eg hv in
theorem score_tile (r l : Fin 128) {y : Fin 256} {x : Fin 512} (hy : y.val = b.val * 128 + r.val) (hx : x.val = g.val * 128 + l.val) :
    headScore valid (qPart Q bo go hb hg) (kPart K bo go hb' hg') r (half l) = blockScore L I Q K y (headOf x) := by
  funext w
  unfold headScore blockScore masked
  refine if_congr ((hv r w).trans (iff_of_eq (congrArg (fun y => inWin L I y w) (Fin.ext (a := rowOf b r) hy.symm)))) (Finset.sum_congr rfl fun d _ => ?_) rfl
  have hc : (col (headOf x) d).val = go + (lane (half l) d).val := by simp only [col, headOf, lane, half]; omega
  rw [qPart_at Q hb hg r _ y (col (headOf x) d) (by omega) hc, kPart_at K hb' hg' w _ (slot y w) (col (headOf x) d) (by simp only [slot]; omega) hc]

include hfirst eb eg hv in
theorem pieceO (r l : Fin 128) {i : S256x512.Idx} (hy : (i 0).val = b.val * 128 + r.val) (hx : (i 1).val = g.val * 128 + l.val) :
    storedO first valid (qPart Q bo go hb hg) (kPart K bo go hb' hg') (kPart V bo go hb' hg') (ix2 r l) = blockO L I Q K V i := by
  rw [storedO_at hfirst, score_tile b g eb eg hv r l hy hx]
  unfold blockO
  refine congrArg (mean _) (funext fun w => ?_)
  have hs : (slot (i 0) w).val = bo + w.val := by simp only [slot]; omega
  exact kPart_at V hb' hg' w l _ _ hs (by omega)

include hfirst eb eg hv in
theorem pieceL (r l : Fin 128) {i : S256x512.Idx} (hy : (i 0).val = b.val * 128 + r.val) (hx : (i 1).val = g.val * 128 + l.val) :
    storedL first valid (qPart Q bo go hb hg) (kPart K bo go hb' hg') (ix2 r l) = blockL L I Q K i := by
  rw [storedL_at hfirst, score_tile b g eb eg hv r l hy hx]
  rfl
end

end Cert.BandTile

end
-- ==== Proof.BandClass.lean ====
/-
  A block of 256 rows of the sliding-window attention against the attention over all the keys of its class: each row's
  window of 256 slots holds the row's band.
-/
module

public import proofs.«01_k».proof.Proof.BandTile

@[expose] public section

set_option maxRecDepth 16384

noncomputable section

namespace Cert.BandClass

open Idealize.ShloMosaic Cert.Reals Cert.Band Cert.BandTile
open Cert.KernelAttf1Ideal (S256x512 S384x512)

variable {L : ℕ}

/-- The keys at most 64 rows from row `P`. -/
def band (P j : Fin L) : Prop := P.val ≤ j.val + 64 ∧ j.val ≤ P.val + 64

instance (P : Fin L) : DecidablePred (band P) := fun j => by unfold band; infer_instance

/-- The scores' factor, 1/8. -/
def scale : EReal := Ideal.ofBits .f32 0x3E000000#32

theorem scale_eq : scale = ((1 / 8 : ℝ) : EReal) := by
  unfold scale
  simp [Ideal.ofBits, Ideal.ieee]
  rw [← EReal.coe_mul]
  norm_num
theorem scale16_eq : (Ideal.ofBits .bf16 0x3E00#16 : EReal) = scale := by
  rw [scale_eq]
  simp [Ideal.ofBits, Ideal.ieee]
  rw [← EReal.coe_mul]
  norm_num

/-- A row's score with a key. -/
def score (q : Fin 64 → EReal) (k : Fin L → Fin 64 → EReal) (j : Fin L) : EReal := (∑ d, q d * k j d) * scale
/-- The attention's row `P`, and the logarithm of its denominator. -/
def attend (q : Fin 64 → EReal) (k : Fin L → Fin 64 → EReal) (v : Fin L → EReal) (P : Fin L) : EReal :=
  ∑ j, Ideal.div (expo (masked (band P) (score q k)) j) (den (masked (band P) (score q k))) * v j
def logDen (q : Fin 64 → EReal) (k : Fin L → Fin 64 → EReal) (P : Fin L) : EReal := lse (masked (band P) (score q k))

/-- The key a slot of the window stands for. -/
def place (hL : 0 < L) (I : ℕ) (y w : Fin 256) : Fin L := ⟨min (I * 256 + y.val / 128 * 128 + w.val - 64) (L - 1), by omega⟩

theorem place_val (hL : 0 < L) {I : ℕ} {y w : Fin 256} (h : inWin L I y w) : (place hL I y w).val + 64 = I * 256 + y.val / 128 * 128 + w.val := by
  unfold inWin at h
  simp only [place]
  omega

theorem window (hL : 0 < L) (I : ℕ) (y : Fin 256) (P : Fin L) (hP : P.val = I * 256 + y.val) : Window (inWin L I y) (band P) (place hL I y) where
  lands w h := by
    have e := place_val hL h
    unfold inWin at h
    unfold band
    omega
  once w w' h h' e := by
    have e1 := place_val hL h
    have e2 := place_val hL h'
    rw [e] at e1
    exact Fin.ext (by omega)
  all j h := by
    unfold band at h
    have hj := j.isLt
    have hw : j.val + 64 - (I * 256 + y.val / 128 * 128) < 256 := by omega
    have hi : inWin L I y ⟨_, hw⟩ := by
      unfold inWin
      simp only
      omega
    refine ⟨⟨_, hw⟩, hi, Fin.ext ?_⟩
    have e := place_val hL hi
    simp only at e
    omega

theorem score_scaled (q : Fin 64 → EReal) (k : Fin L → Fin 64 → EReal) (j : Fin L) : (∑ d, q d * scale * k j d) = score q k j := by
  unfold score
  rw [sum_mul_const]
  · exact Finset.sum_congr rfl fun d _ => mul_right_comm _ _ _
  · rw [scale_eq]; exact EReal.coe_nonneg.2 (by norm_num)
  · rw [scale_eq]; exact EReal.coe_ne_top _

theorem isReal_score {q : Fin 64 → EReal} {k : Fin L → Fin 64 → EReal} (hq : ∀ d, IsReal (q d)) (hk : ∀ j d, IsReal (k j d)) (j : Fin L) : IsReal (score q k j) :=
  IsReal.mul (IsReal.sum fun d => IsReal.mul (hq d) (hk j d)) ⟨_, scale_eq⟩

section
variable (hL : 0 < L) {I : ℕ} {Q : FVec Ideal S256x512 .bf16} {K V : FVec Ideal S384x512 .bf16} {y : Fin 256} {h : Fin 8} {P : Fin L} (hP : P.val = I * 256 + y.val)
variable {q : Fin 64 → EReal} {k : Fin L → Fin 64 → EReal} (hQ : ∀ d, Q (ix2 y (col h d)) = q d * scale)
variable (hK : ∀ w d, inWin L I y w → K (ix2 (slot y w) (col h d)) = k (place hL I y w) d)

include hQ hK in
theorem blockScore_eq : blockScore L I Q K y h = masked (inWin L I y) fun w => score q k (place hL I y w) := by
  funext w
  unfold blockScore masked
  by_cases hw : inWin L I y w
  · rw [if_pos hw, if_pos hw]
    exact (Finset.sum_congr rfl fun d _ => by rw [hQ, hK w d hw]).trans (score_scaled q k (place hL I y w))
  · rw [if_neg hw, if_neg hw]

include hP hQ hK in
theorem block_lse : lse (blockScore L I Q K y h) = logDen q k P := by
  rw [blockScore_eq hL hQ hK]
  exact lse_window (window hL I y P hP) _

include hP hQ hK in
theorem block_mean (hq : ∀ d, IsReal (q d)) (hk : ∀ j d, IsReal (k j d)) {u : Fin 256 → EReal} {v : Fin L → EReal} (hV : ∀ w, inWin L I y w → u w = v (place hL I y w)) :
    mean (blockScore L I Q K y h) u = attend q k v P := by
  rw [blockScore_eq hL hQ hK]
  refine mean_window (window hL I y P hP) _ v u hV (den_ne_zero _ _ (isReal_score hq hk) P ?_)
  unfold band
  omega
end

end Cert.BandClass

end
-- ==== Proof.BandBits.lean ====
/-
  The masks of the sliding-window attention: comparisons of 32-bit words that stand for small numbers.
-/
module

public import proofs.«01_k».proof.Proof.BandClass

@[expose] public section

set_option maxRecDepth 16384

noncomputable section

namespace Cert.BandBits

open Idealize.ShloMosaic

theorem toInt_small {n : ℕ} (h : n < 2 ^ 30) : (BitVec.ofNat 32 n).toInt = n := by
  rw [BitVec.toInt_eq_toNat_of_lt] <;> rw [BitVec.toNat_ofNat] <;> omega

theorem toInt_diff {a b : ℕ} (ha : a < 2 ^ 30) (hb : b < 2 ^ 30) : (BitVec.ofNat 32 a - BitVec.ofNat 32 b).toInt = (a : ℤ) - b := by
  rw [BitVec.toInt_sub, toInt_small ha, toInt_small hb]
  exact Int.bmod_eq_of_le (by omega) (by omega)

theorem bit_iff (b : Bool) : BitVec.ofBool b = 1#1 ↔ b = true := by cases b <;> decide

theorem and_iff : ∀ x y : BitVec 1, IntOp.andi x y = 1#1 ↔ x = 1#1 ∧ y = 1#1 := by decide

theorem sle_iff (x y : BitVec 32) : IntOp.cmpi .sle x y = 1#1 ↔ x.toInt ≤ y.toInt := by
  refine (bit_iff (x.sle y)).trans ?_
  rw [BitVec.sle_eq_decide, decide_eq_true_iff]
theorem sge_iff (x y : BitVec 32) : IntOp.cmpi .sge x y = 1#1 ↔ y.toInt ≤ x.toInt := by
  refine (bit_iff (y.sle x)).trans ?_
  rw [BitVec.sle_eq_decide, decide_eq_true_iff]
theorem slt_iff (x y : BitVec 32) : IntOp.cmpi .slt x y = 1#1 ↔ x.toInt < y.toInt := by
  refine (bit_iff (x.slt y)).trans ?_
  rw [BitVec.slt_eq_decide, decide_eq_true_iff]

theorem toInt_abs {a b : ℕ} (ha : a < 2 ^ 30) (hb : b < 2 ^ 30) : (IntOp.absi (BitVec.ofNat 32 a - BitVec.ofNat 32 b)).toInt = |(a : ℤ) - b| := by
  unfold IntOp.absi
  have e := toInt_diff ha hb
  rw [BitVec.msb_eq_toInt, e]
  by_cases h : (a : ℤ) - b < 0
  · rw [if_pos (decide_eq_true h), BitVec.toInt_neg, e, abs_of_neg h]
    exact Int.bmod_eq_of_le (by omega) (by omega)
  · rw [if_neg (by simpa using h), e, abs_of_nonneg (by omega)]

/-- At most 64 rows apart. -/
theorem near_iff {a b : ℕ} (ha : a < 2 ^ 30) (hb : b < 2 ^ 30) :
    IntOp.cmpi .sle (IntOp.absi (BitVec.ofNat 32 a - BitVec.ofNat 32 b)) 64#32 = 1#1 ↔ a ≤ b + 64 ∧ b ≤ a + 64 := by
  rw [sle_iff, toInt_abs ha hb, toInt_small (by norm_num), abs_le]
  omega

/-- In the band, and among the class's rows. -/
theorem window_iff {n r w L : ℕ} (hn : n < 2 ^ 29) (hr : r < 2 ^ 29) (hw : w < 2 ^ 29) (hL : L < 2 ^ 30) :
    IntOp.andi (IntOp.andi (IntOp.andi (IntOp.cmpi .sge (BitVec.ofNat 32 w - BitVec.ofNat 32 r) 0#32) (IntOp.cmpi .sle (BitVec.ofNat 32 w - BitVec.ofNat 32 r) 128#32))
      (IntOp.cmpi .sge (BitVec.ofNat 32 n - 64#32 + BitVec.ofNat 32 w) 0#32)) (IntOp.cmpi .slt (BitVec.ofNat 32 n - 64#32 + BitVec.ofNat 32 w) (BitVec.ofNat 32 L)) = 1#1
    ↔ (r ≤ w ∧ w ≤ r + 128) ∧ 64 ≤ n + w ∧ n + w < L + 64 := by
  have e : BitVec.ofNat 32 n - 64#32 + BitVec.ofNat 32 w = BitVec.ofNat 32 (n + w) - BitVec.ofNat 32 64 := by
    rw [BitVec.ofNat_add, BitVec.sub_eq_add_neg, BitVec.sub_eq_add_neg, BitVec.add_assoc, BitVec.add_assoc, BitVec.add_comm (-64#32)]
  rw [e, and_iff, and_iff, and_iff, sge_iff, sle_iff, sge_iff, slt_iff, toInt_diff (by omega) (by omega), toInt_diff (by omega) (by omega), toInt_small hL, toInt_small (by norm_num),
    toInt_small (by norm_num)]
  omega

end Cert.BandBits

end
-- ==== Proof.BandBlock.lean ====
/-
  A block of 256 rows of the sliding-window attention: its eight tiles, and the words its masks compare.
-/
module

public import proofs.«01_k».proof.Proof.BandBits
public import Idealize.ShloMosaic.Lib.Pipeline.ReadBack

@[expose] public section

set_option maxRecDepth 16384

noncomputable section

namespace Cert.BandBlock

open Cert.KernelAttf1Ideal Cert.KernelAttf1Ideal.Gen Idealize.ShloMosaic Idealize.ShloMosaic.TcCoe Idealize.SL.Sem
open Cert.Reals Cert.Band Cert.BandTile Cert.BandBits

/-! ## The masks -/

theorem first_iff (r l : Fin 128) : k0_pay5 (ix2 r l) = 1#1 ↔ l.val < 64 := by
  have e : k0_pay5 (ix2 r l) = IntOp.cmpi .slt (BitVec.ofNat 32 l.val) 64#32 := by
    pointwise [k0_pay5]
  rw [e, slt_iff, toInt_small (by omega), toInt_small (by norm_num)]
  omega

/-- The word a tile's first row is compared by. -/
def tileRow (I b : ℕ) : BitVec 32 := Scalar.muli (Scalar.addi (Scalar.muli (BitVec.ofNat 32 I) 2#32) (BitVec.ofNat 32 b)) 128#32

theorem tileRow_eq (I b : ℕ) : tileRow I b = BitVec.ofNat 32 ((I * 2 + b) * 128) := by
  rw [BitVec.ofNat_mul, BitVec.ofNat_add, BitVec.ofNat_mul]
  rfl

/-- A tile's mask. -/
def mask (n L : BitVec 32) (r : Fin 128) (w : Fin 256) : BitVec 1 :=
  IntOp.andi (IntOp.andi (IntOp.andi (IntOp.cmpi .sge (BitVec.ofNat 32 w.val - BitVec.ofNat 32 r.val) 0#32) (IntOp.cmpi .sle (BitVec.ofNat 32 w.val - BitVec.ofNat 32 r.val) 128#32))
    (IntOp.cmpi .sge (n - 64#32 + BitVec.ofNat 32 w.val) 0#32)) (IntOp.cmpi .slt (n - 64#32 + BitVec.ofNat 32 w.val) L)

theorem mask_iff {I L : ℕ} (b : Fin 2) (hI : I < 2 ^ 16) (hL : L < 2 ^ 30) (r : Fin 128) (w : Fin 256) :
    mask (tileRow I b.val) (BitVec.ofNat 32 L) r w = 1#1 ↔ inWin L I (rowOf b r) w := by
  unfold mask inWin rowOf
  rw [tileRow_eq]
  refine (window_iff (by omega) (by omega) (by omega) hL).trans ?_
  simp only
  omega

/-! ## The tiles side by side -/

theorem row_emb {o p : ℕ} (inb) (b : Fin 2) (e : o = b.val * 128) (r l : Fin 128) :
    ((Rect.unit (s := S256x512) ![o, p] ![128, 128] inb).emb (ix2 r l) 0).val = b.val * 128 + r.val := by
  show o + 1 * r.val = _; omega
theorem col_emb {o p : ℕ} (inb) (g : Fin 4) (e : p = g.val * 128) (r l : Fin 128) :
    ((Rect.unit (s := S256x512) ![o, p] ![128, 128] inb).emb (ix2 r l) 1).val = g.val * 128 + l.val := by
  show p + 1 * l.val = _; omega

section
variable (first : IVec S128x128 1) (v0 v1 : IVec S128x256 1) (Q : FVec Ideal S256x512 .bf16) (K V : FVec Ideal S384x512 .bf16)

def tilesO : Vec Ideal S256x512 .bf16 :=
  View.canon [⟨r0_9, storedO first v1 (qPart Q 128 384 slices_S256x512_o128_0_S128x512 slices_S128x512_o0_384_S128x128) (kPart K 128 384 slices_S384x512_o128_0_S256x512 slices_S256x512_o0_384_S256x128) (kPart V 128 384 slices_S384x512_o128_0_S256x512 slices_S256x512_o0_384_S256x128)⟩,
    ⟨r0_8, storedO first v1 (qPart Q 128 256 slices_S256x512_o128_0_S128x512 slices_S128x512_o0_256_S128x128) (kPart K 128 256 slices_S384x512_o128_0_S256x512 slices_S256x512_o0_256_S256x128) (kPart V 128 256 slices_S384x512_o128_0_S256x512 slices_S256x512_o0_256_S256x128)⟩,
    ⟨r0_7, storedO first v1 (qPart Q 128 128 slices_S256x512_o128_0_S128x512 slices_S128x512_o0_128_S128x128) (kPart K 128 128 slices_S384x512_o128_0_S256x512 slices_S256x512_o0_128_S256x128) (kPart V 128 128 slices_S384x512_o128_0_S256x512 slices_S256x512_o0_128_S256x128)⟩,
    ⟨r0_6, storedO first v1 (qPart Q 128 0 slices_S256x512_o128_0_S128x512 slices_S128x512_o0_0_S128x128) (kPart K 128 0 slices_S384x512_o128_0_S256x512 slices_S256x512_o0_0_S256x128) (kPart V 128 0 slices_S384x512_o128_0_S256x512 slices_S256x512_o0_0_S256x128)⟩,
    ⟨r0_5, storedO first v0 (qPart Q 0 384 slices_S256x512_o0_0_S128x512 slices_S128x512_o0_384_S128x128) (kPart K 0 384 slices_S384x512_o0_0_S256x512 slices_S256x512_o0_384_S256x128) (kPart V 0 384 slices_S384x512_o0_0_S256x512 slices_S256x512_o0_384_S256x128)⟩,
    ⟨r0_4, storedO first v0 (qPart Q 0 256 slices_S256x512_o0_0_S128x512 slices_S128x512_o0_256_S128x128) (kPart K 0 256 slices_S384x512_o0_0_S256x512 slices_S256x512_o0_256_S256x128) (kPart V 0 256 slices_S384x512_o0_0_S256x512 slices_S256x512_o0_256_S256x128)⟩,
    ⟨r0_3, storedO first v0 (qPart Q 0 128 slices_S256x512_o0_0_S128x512 slices_S128x512_o0_128_S128x128) (kPart K 0 128 slices_S384x512_o0_0_S256x512 slices_S256x512_o0_128_S256x128) (kPart V 0 128 slices_S384x512_o0_0_S256x512 slices_S256x512_o0_128_S256x128)⟩,
    ⟨r0_2, storedO first v0 (qPart Q 0 0 slices_S256x512_o0_0_S128x512 slices_S128x512_o0_0_S128x128) (kPart K 0 0 slices_S384x512_o0_0_S256x512 slices_S256x512_o0_0_S256x128) (kPart V 0 0 slices_S384x512_o0_0_S256x512 slices_S256x512_o0_0_S256x128)⟩]

def tilesL : Vec Ideal S256x512 .f32 :=
  View.canon [⟨r0_9, storedL first v1 (qPart Q 128 384 slices_S256x512_o128_0_S128x512 slices_S128x512_o0_384_S128x128) (kPart K 128 384 slices_S384x512_o128_0_S256x512 slices_S256x512_o0_384_S256x128)⟩,
    ⟨r0_8, storedL first v1 (qPart Q 128 256 slices_S256x512_o128_0_S128x512 slices_S128x512_o0_256_S128x128) (kPart K 128 256 slices_S384x512_o128_0_S256x512 slices_S256x512_o0_256_S256x128)⟩,
    ⟨r0_7, storedL first v1 (qPart Q 128 128 slices_S256x512_o128_0_S128x512 slices_S128x512_o0_128_S128x128) (kPart K 128 128 slices_S384x512_o128_0_S256x512 slices_S256x512_o0_128_S256x128)⟩,
    ⟨r0_6, storedL first v1 (qPart Q 128 0 slices_S256x512_o128_0_S128x512 slices_S128x512_o0_0_S128x128) (kPart K 128 0 slices_S384x512_o128_0_S256x512 slices_S256x512_o0_0_S256x128)⟩,
    ⟨r0_5, storedL first v0 (qPart Q 0 384 slices_S256x512_o0_0_S128x512 slices_S128x512_o0_384_S128x128) (kPart K 0 384 slices_S384x512_o0_0_S256x512 slices_S256x512_o0_384_S256x128)⟩,
    ⟨r0_4, storedL first v0 (qPart Q 0 256 slices_S256x512_o0_0_S128x512 slices_S128x512_o0_256_S128x128) (kPart K 0 256 slices_S384x512_o0_0_S256x512 slices_S256x512_o0_256_S256x128)⟩,
    ⟨r0_3, storedL first v0 (qPart Q 0 128 slices_S256x512_o0_0_S128x512 slices_S128x512_o0_128_S128x128) (kPart K 0 128 slices_S384x512_o0_0_S256x512 slices_S256x512_o0_128_S256x128)⟩,
    ⟨r0_2, storedL first v0 (qPart Q 0 0 slices_S256x512_o0_0_S128x512 slices_S128x512_o0_0_S128x128) (kPart K 0 0 slices_S384x512_o0_0_S256x512 slices_S256x512_o0_0_S256x128)⟩]

variable {first v0 v1} {L I : ℕ}
variable (hfirst : ∀ r l, first (ix2 r l) = 1#1 ↔ l.val < 64)
variable (h0 : ∀ (r : Fin 128) (w : Fin 256), v0 (ix2 r w) = 1#1 ↔ inWin L I (rowOf 0 r) w)
variable (h1 : ∀ (r : Fin 128) (w : Fin 256), v1 (ix2 r w) = 1#1 ↔ inWin L I (rowOf 1 r) w)
include hfirst h0 h1

theorem tilesO_eq (y : S256x512.Idx) : tilesO first v0 v1 Q K V y = blockO L I Q K V y := by
  unfold tilesO
  refine View.canon_append_of_piecesOf (Val := Elt Ideal) (e := .bf16) (blockO L I Q K V) [] [_, _, _, _, _, _, _, _] ⟨?_, ?_, ?_, ?_, ?_, ?_, ?_, ?_, trivial⟩ y (View.cover_of_tiledL _ ![128, 128] (by sl_kernel_rfl) y)
  · intro x
    idx_vars x
    exact pieceO hfirst 1 3 rfl rfl h1 x0 x1 (row_emb _ 1 rfl _ _) (col_emb _ 3 rfl _ _)
  · intro x
    idx_vars x
    exact pieceO hfirst 1 2 rfl rfl h1 x0 x1 (row_emb _ 1 rfl _ _) (col_emb _ 2 rfl _ _)
  · intro x
    idx_vars x
    exact pieceO hfirst 1 1 rfl rfl h1 x0 x1 (row_emb _ 1 rfl _ _) (col_emb _ 1 rfl _ _)
  · intro x
    idx_vars x
    exact pieceO hfirst 1 0 rfl rfl h1 x0 x1 (row_emb _ 1 rfl _ _) (col_emb _ 0 rfl _ _)
  · intro x
    idx_vars x
    exact pieceO hfirst 0 3 rfl rfl h0 x0 x1 (row_emb _ 0 rfl _ _) (col_emb _ 3 rfl _ _)
  · intro x
    idx_vars x
    exact pieceO hfirst 0 2 rfl rfl h0 x0 x1 (row_emb _ 0 rfl _ _) (col_emb _ 2 rfl _ _)
  · intro x
    idx_vars x
    exact pieceO hfirst 0 1 rfl rfl h0 x0 x1 (row_emb _ 0 rfl _ _) (col_emb _ 1 rfl _ _)
  · intro x
    idx_vars x
    exact pieceO hfirst 0 0 rfl rfl h0 x0 x1 (row_emb _ 0 rfl _ _) (col_emb _ 0 rfl _ _)

theorem tilesL_eq (y : S256x512.Idx) : tilesL first v0 v1 Q K y = blockL L I Q K y := by
  unfold tilesL
  refine View.canon_append_of_piecesOf (Val := Elt Ideal) (e := .f32) (blockL L I Q K) [] [_, _, _, _, _, _, _, _] ⟨?_, ?_, ?_, ?_, ?_, ?_, ?_, ?_, trivial⟩ y (View.cover_of_tiledL _ ![128, 128] (by sl_kernel_rfl) y)
  · intro x
    idx_vars x
    exact pieceL hfirst 1 3 rfl rfl h1 x0 x1 (row_emb _ 1 rfl _ _) (col_emb _ 3 rfl _ _)
  · intro x
    idx_vars x
    exact pieceL hfirst 1 2 rfl rfl h1 x0 x1 (row_emb _ 1 rfl _ _) (col_emb _ 2 rfl _ _)
  · intro x
    idx_vars x
    exact pieceL hfirst 1 1 rfl rfl h1 x0 x1 (row_emb _ 1 rfl _ _) (col_emb _ 1 rfl _ _)
  · intro x
    idx_vars x
    exact pieceL hfirst 1 0 rfl rfl h1 x0 x1 (row_emb _ 1 rfl _ _) (col_emb _ 0 rfl _ _)
  · intro x
    idx_vars x
    exact pieceL hfirst 0 3 rfl rfl h0 x0 x1 (row_emb _ 0 rfl _ _) (col_emb _ 3 rfl _ _)
  · intro x
    idx_vars x
    exact pieceL hfirst 0 2 rfl rfl h0 x0 x1 (row_emb _ 0 rfl _ _) (col_emb _ 2 rfl _ _)
  · intro x
    idx_vars x
    exact pieceL hfirst 0 1 rfl rfl h0 x0 x1 (row_emb _ 0 rfl _ _) (col_emb _ 1 rfl _ _)
  · intro x
    idx_vars x
    exact pieceL hfirst 0 0 rfl rfl h0 x0 x1 (row_emb _ 0 rfl _ _) (col_emb _ 0 rfl _ _)
end

end Cert.BandBlock

end
-- ==== Proof.BandRows.lean ====
/-
  The rows of keys or values a block of 256 query rows has at hand, read as rows of the whole class.
-/
module

public import proofs.«01_k».proof.Proof.BandBlock

@[expose] public section

set_option maxRecDepth 16384

noncomputable section

namespace Cert.BandRows

open Idealize.ShloMosaic Idealize.ShloMosaic.TcCoe
open Cert.KernelAttf1Ideal Cert.KernelAttf1Ideal.Gen
open Cert.Reals Cert.Band Cert.BandClass Cert.BandTile

/-- 64 rows before the block, the block, and 64 rows after it. -/
def joined (a : FVec Ideal S64x512 .bf16) (b : FVec Ideal S256x512 .bf16) (c : FVec Ideal S64x512 .bf16) : FVec Ideal S384x512 .bf16 := k0_pay3 (F := Ideal) a b c

theorem joined_at (a : FVec Ideal S64x512 .bf16) (b : FVec Ideal S256x512 .bf16) (c : FVec Ideal S64x512 .bf16) (r : Fin 384) (x : Fin 512) :
    joined a b c (ix2 r x) = if h : r.val < 64 then a (ix2 ⟨r.val, h⟩ x) else if h' : r.val - 64 < 256 then b (ix2 ⟨r.val - 64, h'⟩ x) else c (ix2 ⟨r.val - 64 - 256, by omega⟩ x) := by
  unfold joined
  pointwise [k0_pay3]

section
variable {L : ℕ} (hL : 0 < L) {I : ℕ} {a : FVec Ideal S64x512 .bf16} {b : FVec Ideal S256x512 .bf16} {c : FVec Ideal S64x512 .bf16} {x : Fin 512} {g : Fin L → EReal}
  (ha : ∀ (r : Fin 64) (j : Fin L), j.val + 64 = I * 256 + r.val → a (ix2 r x) = g j)
  (hb : ∀ (r : Fin 256) (j : Fin L), j.val = I * 256 + r.val → b (ix2 r x) = g j)
  (hc : ∀ (r : Fin 64) (j : Fin L), j.val = I * 256 + 256 + r.val → c (ix2 r x) = g j)
include ha hb hc

/-- A row inside the window is the class's row of that place. -/
theorem joined_place {y w : Fin 256} (h : inWin L I y w) : joined a b c (ix2 (slot y w) x) = g (place hL I y w) := by
  have e := place_val hL h
  have s : (slot y w).val = y.val / 128 * 128 + w.val := rfl
  rw [joined_at]
  split
  · refine ha _ _ ?_
    show _ = I * 256 + (slot y w).val
    omega
  · split
    · refine hb _ _ ?_
      show _ = I * 256 + ((slot y w).val - 64)
      omega
    · refine hc _ _ ?_
      show _ = I * 256 + 256 + ((slot y w).val - 64 - 256)
      omega
end

end Cert.BandRows

end
-- ==== Proof.Attf1Ref.lean ====
/-
  The sliding-window attention of the pattern of dilation 1: the reference read at an entry.
-/
module

public import proofs.«01_k».proof.Proof.BandBits
public import proofs.«01_k».proof.Proof.Gen.ReferenceAttf1Ideal.Read

@[expose] public section

set_option maxRecDepth 16384

noncomputable section

namespace Cert.Attf1Ref

open Cert.ReferenceAttf1Ideal Cert.ReferenceAttf1Ideal.Gen Idealize.ShloMosaic Idealize.ShloMosaic.TcCoe Idealize.SL.Sem
open Cert.ReferenceAttf1Ideal.Read Cert.Reals Cert.Band Cert.BandClass Cert.BandBits

/-- A head's queries, keys and values in the rows' columns. -/
def query (x : FVec Ideal S8192x1024 .bf16) (h : Fin 8) (p : Fin 8192) (d : Fin 64) : EReal := x (ix2 p ⟨h.val * 64 + d.val, by omega⟩)
def key (x : FVec Ideal S8192x1024 .bf16) (h : Fin 8) (j : Fin 8192) (d : Fin 64) : EReal := x (ix2 j ⟨512 + (h.val * 64 + d.val), by omega⟩)
def value (y : FVec Ideal S8192x2560 .bf16) (h : Fin 8) (d : Fin 64) (j : Fin 8192) : EReal := y (ix2 j ⟨1024 + (h.val * 64 + d.val), by omega⟩)

/-- The maximum over the last axis. -/
theorem fold_max (v : FVec Ideal S1x8x8192x8192 .f32) (c : FVec Ideal S_ .f32) (hr : S1x8x8192x8192.ReducesTo [3] S1x8x8192) (hu : 0 < S_.numel) (h : Fin 8) (p : Fin 8192) :
    Host.reduce FloatOps.maximumf v c hr hu (ix3 0 h p) = Finset.fold max (c (Shape.Idx.first hu)) (fun k => v (ix4 0 h p k)) Finset.univ := by
  simp only [pointwise]

variable (x : FVec Ideal S8192x1024 .bf16) (y : FVec Ideal S8192x2560 .bf16)

def rowScore (h : Fin 8) (p : Fin 8192) : Fin 8192 → EReal := masked (band p) (score (query x h p) (key x h))

theorem near_at (p j : Fin 8192) : val_main_v17 (F := Ideal) (ix2 p j) = 1#1 ↔ band p j := by
  have e : val_main_v17 (F := Ideal) (ix2 p j) = IntOp.cmpi .sle (IntOp.absi (BitVec.ofNat 32 p.val - BitVec.ofNat 32 j.val)) 64#32 := by
    pointwise [val_main_v17, val_main_v16, val_main_c, val_main_v15, val_main_v14, val_main_v13, val_main_v12]
    rfl
  rw [e]
  exact near_iff (by omega) (by omega)

theorem product_at (h : Fin 8) (p j : Fin 8192) : val_main_v11 (F := Ideal) x (ix4 0 h p j) = score (query x h p) (key x h) j := by
  pointwise [val_main_v11, val_main_v10, val_main_cst, val_main_v9, val_main_v6, val_main_v5, val_main_v4, val_main_v3, val_main_v1, val_main_v0]
  rfl

theorem s_at (h : Fin 8) (p j : Fin 8192) : val_main_v18 (F := Ideal) x (ix4 0 h p j) = rowScore x h p j := by
  rw [val_main_v18_apply]
  unfold rowScore masked Scalar.select
  refine if_congr ?_ (product_at x h p j) ?_
  · refine Iff.trans (iff_of_eq ?_) (near_at p j)
    pointwise [val_main_call0_v1]
    rfl
  · pointwise [val_main_call0_v2, val_main_call0_v0, val_main_cst_0]
    exact Softmax.ofBits_neg_inf

theorem top_at (h : Fin 8) (p : Fin 8192) : val_main_v19 (F := Ideal) x (ix3 0 h p) = top (rowScore x h p) :=
  (show val_main_v19 (F := Ideal) x (ix3 0 h p) = Finset.fold max (val_main_cst_1 (F := Ideal) (Shape.Idx.first h_S_)) (fun j => val_main_v18 (F := Ideal) x (ix4 0 h p j)) Finset.univ from
    fold_max _ _ _ _ h p).trans (by
    rw [show (fun j => val_main_v18 (F := Ideal) x (ix4 0 h p j)) = rowScore x h p from funext (s_at x h p), val_main_cst_1_apply]
    exact congrArg (fun b => Finset.fold max b _ _) Softmax.ofBits_neg_inf)

theorem e_at (h : Fin 8) (p j : Fin 8192) : val_main_v23 (F := Ideal) x (ix4 0 h p j) = expo (rowScore x h p) j := by
  pointwise [val_main_v20, val_main_v21, val_main_v22, val_main_v23]
  rw [s_at, top_at]
  rfl

theorem z_at (h : Fin 8) (p : Fin 8192) : val_main_v24 (F := Ideal) x (ix3 0 h p) = den (rowScore x h p) := by
  pointwise [val_main_v24, val_main_cst_2]
  simp only [e_at]
  rfl

theorem mean_at (h : Fin 8) (p : Fin 8192) (d : Fin 64) : val_main_v28 (F := Ideal) x y (ix4 0 h d p) = attend (query x h p) (key x h) (value y h d) p := by
  pointwise [val_main_v28, val_main_v27, val_main_v26, val_main_v25, val_main_v8, val_main_v7, val_main_v2]
  simp only [e_at, z_at]
  refine Finset.sum_congr rfl fun j _ => ?_
  rw [mul_comm]
  rfl

theorem out_at (p : Fin 8192) (h : Fin 8) (d : Fin 64) :
    val_main_v34 (F := Ideal) x y (ix2 p (BandTile.col h d)) = attend (query x h p) (key x h) (value y h d) p := by
  unfold BandTile.col
  pointwise [val_main_v34, val_main_v33, val_main_v29]
  exact mean_at x y h p d

theorem top_column (h : Fin 8) (p : Fin 8192) : val_main_v20 (F := Ideal) x (ix4 0 h p 0) = val_main_v19 (F := Ideal) x (ix3 0 h p) := by
  pointwise [val_main_v20]

theorem den_column (h : Fin 8) (p : Fin 8192) : val_main_v25 (F := Ideal) x (ix4 0 h p 0) = val_main_v24 (F := Ideal) x (ix3 0 h p) := by
  pointwise [val_main_v25]

theorem log_at (h : Fin 8) (p : Fin 8192) : val_main_v31 (F := Ideal) x (ix4 0 h p 0) = top (rowScore x h p) + Ideal.log (den (rowScore x h p)) := by
  rw [val_main_v31_apply, val_main_v30_apply, top_column, den_column, top_at, z_at]
  generalize top (rowScore x h p) = a, den (rowScore x h p) = b
  rfl

theorem turned_at (h : Fin 8) (p : Fin 8192) : val_main_v32 (F := Ideal) x (ix4 0 p h 0) = val_main_v31 (F := Ideal) x (ix4 0 h p 0) := by
  pointwise [val_main_v32]

theorem spread_at (h : Fin 8) (p : Fin 8192) (d : Fin 64) : val_main_v35 (F := Ideal) x (ix4 0 p h d) = val_main_v32 (F := Ideal) x (ix4 0 p h 0) := by
  pointwise [val_main_v35]

theorem cast_at (p : Fin 8192) (h : Fin 8) (d : Fin 64) : val_main_v36 (F := Ideal) x (ix2 p (BandTile.col h d)) = val_main_v35 (F := Ideal) x (ix4 0 p h d) := by
  unfold BandTile.col
  pointwise [val_main_v36]

theorem lse_at (p : Fin 8192) (h : Fin 8) (d : Fin 64) : val_main_v36 (F := Ideal) x (ix2 p (BandTile.col h d)) = logDen (query x h p) (key x h) p := by
  rw [cast_at, spread_at, turned_at, log_at]
  unfold logDen lse rowScore
  rfl

end Cert.Attf1Ref

end
-- ==== Proof.Attf1Value.lean ====
/-
  The sliding-window attention of the pattern of dilation 1: what a grid point of 256 rows stores, against the reference.
-/
module

public import proofs.«01_k».proof.Proof.BandRows
public import proofs.«01_k».proof.Proof.Attf1Ref

@[expose] public section

set_option maxRecDepth 16384

noncomputable section

namespace Cert.KernelAttf1Ideal.Value

open Cert.KernelAttf1Ideal Cert.KernelAttf1Ideal.Gen Idealize.ShloMosaic Idealize.ShloMosaic.TcCoe Idealize.SL.Sem
open Idealize.ShloMosaic.Pipeline (Dat)
open Cert.Reals Cert.Band Cert.BandClass Cert.BandTile Cert.BandBlock Cert.BandRows Cert.Attf1Ref

/-! ## One point -/

section
variable (i : grid0.Coords) (x0 : FVec Ideal S256x512 .bf16) (x1 : FVec Ideal S64x512 .bf16) (x2 : FVec Ideal S256x512 .bf16) (x3 x4 : FVec Ideal S64x512 .bf16)
variable (x5 : FVec Ideal S256x512 .bf16) (x6 : FVec Ideal S64x512 .bf16)

theorem valid0_iff (r : Fin 128) (w : Fin 256) : k0_pay152 (F := Ideal) i x0 x1 x2 x3 x4 x5 x6 (ix2 r w) = 1#1 ↔ inWin 8192 (i 1).val (rowOf 0 r) w := by
  have e : k0_pay152 (F := Ideal) i x0 x1 x2 x3 x4 x5 x6 (ix2 r w) = mask (tileRow (i 1).val (0 : Fin 2).val) 8192#32 r w := by
    pointwise [k0_pay152, k0_pay6]
    rfl
  rw [e]
  exact mask_iff 0 ((i 1).isLt.trans (by decide)) (by norm_num) r w

theorem valid1_iff (r : Fin 128) (w : Fin 256) : k0_pay178 (F := Ideal) i x0 x1 x2 x3 x4 x5 x6 (ix2 r w) = 1#1 ↔ inWin 8192 (i 1).val (rowOf 1 r) w := by
  have e : k0_pay178 (F := Ideal) i x0 x1 x2 x3 x4 x5 x6 (ix2 r w) = mask (tileRow (i 1).val (1 : Fin 2).val) 8192#32 r w := by
    pointwise [k0_pay178, k0_pay79, k0_pay176, k0_pay177, k0_pay78]
    rfl
  rw [e]
  exact mask_iff 1 ((i 1).isLt.trans (by decide)) (by norm_num) r w

theorem outO_eq (y : S256x512.Idx) : out0_7 (F := Ideal) i x0 x1 x2 x3 x4 x5 x6 y
    = blockO 8192 (i 1).val (k0_pay148 (F := Ideal) i x0 x1 x2 x3 x4 x5 x6) (k0_pay149 (F := Ideal) i x0 x1 x2 x3 x4 x5 x6) (k0_pay150 (F := Ideal) i x0 x1 x2 x3 x4 x5 x6) y :=
  (show out0_7 (F := Ideal) i x0 x1 x2 x3 x4 x5 x6 y = tilesO k0_pay5 (k0_pay152 (F := Ideal) i x0 x1 x2 x3 x4 x5 x6) (k0_pay178 (F := Ideal) i x0 x1 x2 x3 x4 x5 x6)
      (k0_pay148 (F := Ideal) i x0 x1 x2 x3 x4 x5 x6) (k0_pay149 (F := Ideal) i x0 x1 x2 x3 x4 x5 x6) (k0_pay150 (F := Ideal) i x0 x1 x2 x3 x4 x5 x6) y from rfl).trans
    (tilesO_eq _ _ _ first_iff (valid0_iff i x0 x1 x2 x3 x4 x5 x6) (valid1_iff i x0 x1 x2 x3 x4 x5 x6) y)

theorem outL_eq (y : S256x512.Idx) : out0_8 (F := Ideal) i x0 x1 x2 x3 x4 x5 x6 y
    = blockL 8192 (i 1).val (k0_pay148 (F := Ideal) i x0 x1 x2 x3 x4 x5 x6) (k0_pay149 (F := Ideal) i x0 x1 x2 x3 x4 x5 x6) y :=
  (show out0_8 (F := Ideal) i x0 x1 x2 x3 x4 x5 x6 y = tilesL k0_pay5 (k0_pay152 (F := Ideal) i x0 x1 x2 x3 x4 x5 x6) (k0_pay178 (F := Ideal) i x0 x1 x2 x3 x4 x5 x6)
      (k0_pay148 (F := Ideal) i x0 x1 x2 x3 x4 x5 x6) (k0_pay149 (F := Ideal) i x0 x1 x2 x3 x4 x5 x6) y from rfl).trans
    (tilesL_eq _ _ first_iff (valid0_iff i x0 x1 x2 x3 x4 x5 x6) (valid1_iff i x0 x1 x2 x3 x4 x5 x6) y)

theorem whole256 (x : FVec Ideal S256x512 .bf16) : View.ld (Val := Elt Ideal) (e' := .bf16) x r0_0 = x := View.ld_unit_lit (Val := Elt Ideal) (e := .bf16) (S := S256x512) (off := ![0, 0]) _ x (by decide)
theorem whole64 (x : FVec Ideal S64x512 .bf16) : View.ld (Val := Elt Ideal) (e' := .bf16) x r0_1 = x := View.ld_unit_lit (Val := Elt Ideal) (e := .bf16) (S := S64x512) (off := ![0, 0]) _ x (by decide)

theorem q_eq : k0_pay148 (F := Ideal) i x0 x1 x2 x3 x4 x5 x6 = k0_pay2 (F := Ideal) x0 := congrArg (k0_pay2 (F := Ideal)) (whole256 x0)

theorem scaled_at (y : Fin 256) (x : Fin 512) : k0_pay2 (F := Ideal) x0 (ix2 y x) = x0 (ix2 y x) * scale := by
  pointwise [k0_pay2]
  rw [scale16_eq]

theorem k_eq : k0_pay149 (F := Ideal) i x0 x1 x2 x3 x4 x5 x6 = joined x1 x2 x3 := by
  unfold k0_pay149 joined
  erw [whole256 x2, whole64 x1, whole64 x3]

theorem v_eq : k0_pay150 (F := Ideal) i x0 x1 x2 x3 x4 x5 x6 = joined x4 x5 x6 := by
  unfold k0_pay150 joined
  erw [whole256 x5, whole64 x4, whole64 x6]
  rfl
end

/-! ## The blocks -/

variable {m : (ℓ : Loc nD τ sig) → Buf (Elt Ideal) ℓ}

theorem idx : ∀ t : Fin cfg0.N, (grid0.coords t 1).val = t.val ∧ win0_0.index t = ![t.val, 0] ∧ win0_1.index t = ![max (t.val * 4 - 1) 0, 1] ∧ win0_2.index t = ![t.val, 1]
    ∧ win0_3.index t = ![min (t.val * 4 + 4) 127, 1] ∧ win0_4.index t = ![max (t.val * 4 - 1) 0, 2] ∧ win0_5.index t = ![t.val, 2]
    ∧ win0_6.index t = ![min (t.val * 4 + 4) 127, 2] ∧ win0_7.index t = ![t.val, 0] ∧ win0_8.index t = ![t.val, 0] := by
  decide +kernel

section
variable (c : Dev nD) (t : Fin cfg0.N)

theorem q_rows (r : Fin 256) (x : Fin 512) (P : Fin 8192) (hP : P.val = t.val * 256 + r.val) :
    iblk m c 0 t (ix2 r x) = m ((c : Thread nD τ).loc main_arg0) (ix2 P ⟨x.val, by omega⟩) := by
  blk_point [iblk, V, idx t]
theorem k_cur (r : Fin 256) (x : Fin 512) (P : Fin 8192) (hP : P.val = t.val * 256 + r.val) :
    iblk m c 2 t (ix2 r x) = m ((c : Thread nD τ).loc main_arg0) (ix2 P ⟨512 + x.val, by omega⟩) := by
  blk_point [iblk, V, idx t]
theorem k_prev (r : Fin 64) (x : Fin 512) (P : Fin 8192) (hP : P.val + 64 = t.val * 256 + r.val) :
    iblk m c 1 t (ix2 r x) = m ((c : Thread nD τ).loc main_arg0) (ix2 P ⟨512 + x.val, by omega⟩) := by
  blk_point [iblk, V, idx t]
theorem k_next (r : Fin 64) (x : Fin 512) (P : Fin 8192) (hP : P.val = t.val * 256 + 256 + r.val) :
    iblk m c 3 t (ix2 r x) = m ((c : Thread nD τ).loc main_arg0) (ix2 P ⟨512 + x.val, by omega⟩) := by
  blk_point [iblk, V, idx t]
theorem v_cur (r : Fin 256) (x : Fin 512) (P : Fin 8192) (hP : P.val = t.val * 256 + r.val) :
    iblk m c 5 t (ix2 r x) = m ((c : Thread nD τ).loc main_arg1) (ix2 P ⟨1024 + x.val, by omega⟩) := by
  blk_point [iblk, V, idx t]
theorem v_prev (r : Fin 64) (x : Fin 512) (P : Fin 8192) (hP : P.val + 64 = t.val * 256 + r.val) :
    iblk m c 4 t (ix2 r x) = m ((c : Thread nD τ).loc main_arg1) (ix2 P ⟨1024 + x.val, by omega⟩) := by
  blk_point [iblk, V, idx t]
theorem v_next (r : Fin 64) (x : Fin 512) (P : Fin 8192) (hP : P.val = t.val * 256 + 256 + r.val) :
    iblk m c 6 t (ix2 r x) = m ((c : Thread nD τ).loc main_arg1) (ix2 P ⟨1024 + x.val, by omega⟩) := by
  blk_point [iblk, V, idx t]

theorem rows : 0 < 8192 := by norm_num

variable (h : Fin 8)

theorem q_place (y : Fin 256) (P : Fin 8192) (hP : P.val = t.val * 256 + y.val) (d : Fin 64) :
    iblk m c 0 t (ix2 y (col h d)) = query (m ((c : Thread nD τ).loc main_arg0)) h P d := q_rows c t y (col h d) P hP

theorem k_place (y w : Fin 256) (d : Fin 64) (hw : inWin 8192 t.val y w) :
    joined (iblk m c 1 t) (iblk m c 2 t) (iblk m c 3 t) (ix2 (slot y w) (col h d)) = key (m ((c : Thread nD τ).loc main_arg0)) h (place rows t.val y w) d :=
  joined_place (x := col h d) (g := fun j => key (m ((c : Thread nD τ).loc main_arg0)) h j d) rows (fun r j => k_prev c t r (col h d) j) (fun r j => k_cur c t r (col h d) j)
    (fun r j => k_next c t r (col h d) j) hw

theorem v_place (y w : Fin 256) (d : Fin 64) (hw : inWin 8192 t.val y w) :
    joined (iblk m c 4 t) (iblk m c 5 t) (iblk m c 6 t) (ix2 (slot y w) (col h d)) = value (m ((c : Thread nD τ).loc main_arg1)) h d (place rows t.val y w) :=
  joined_place (x := col h d) (g := value (m ((c : Thread nD τ).loc main_arg1)) h d) rows (fun r j => v_prev c t r (col h d) j) (fun r j => v_cur c t r (col h d) j)
    (fun r j => v_next c t r (col h d) j) hw
end

/-- The mean values. -/
theorem final_O (c : Dev nD) (hx : ∀ i, IsReal (m ((c : Thread nD τ).loc main_arg0) i)) :
    (dats m 0 c).arrAt 7 (cfgs 0).N = Cert.ReferenceAttf1Ideal.Read.val_main_v34 (F := Ideal) (m ((c : Thread nD τ).loc main_arg0)) (m ((c : Thread nD τ).loc main_arg1)) := by
  refine (dats m 0 c).arrAt_eq_of_covers 7 _ (by decide +kernel) fun t hf y => ?_
  blk_simp
  idx_vars y
  have hN : t.val < 32 := t.isLt
  have hy : (win0_7.blk t).view.emb (ix2 y0 y1) = ix2 (⟨t.val * 256 + y0.val, by omega⟩ : Fin 8192) (col (headOf y1) (laneOf y1)) := by
    rw [col_headOf]
    blk_ext [idx t]
  rw [after0_7, hy, out_at]
  refine (outO_eq _ _ _ _ _ _ _ _ _).trans ?_
  rw [q_eq, k_eq, v_eq, (idx t).1]
  refine Eq.trans ?_ (block_mean rows (y := y0) (h := headOf y1) (P := ⟨t.val * 256 + y0.val, by omega⟩) rfl
    (fun d => (scaled_at _ _ _).trans (congrArg (· * scale) (q_place c t (headOf y1) y0 _ rfl d))) (fun w d => k_place c t (headOf y1) y0 w d) (fun d => hx _) (fun j d => hx _)
    (fun w => v_place c t (headOf y1) y0 w (laneOf y1)))
  rw [col_headOf]
  rfl

/-- The log-sums. -/
theorem final_L (c : Dev nD) :
    (dats m 0 c).arrAt 8 (cfgs 0).N = Cert.ReferenceAttf1Ideal.Read.val_main_v36 (F := Ideal) (m ((c : Thread nD τ).loc main_arg0)) := by
  refine (dats m 0 c).arrAt_eq_of_covers 8 _ (by decide +kernel) fun t hf y => ?_
  blk_simp
  idx_vars y
  have hN : t.val < 32 := t.isLt
  have hy : (win0_8.blk t).view.emb (ix2 y0 y1) = ix2 (⟨t.val * 256 + y0.val, by omega⟩ : Fin 8192) (col (headOf y1) (laneOf y1)) := by
    rw [col_headOf]
    blk_ext [idx t]
  rw [after0_8, hy, lse_at]
  refine (outL_eq _ _ _ _ _ _ _ _ _).trans ?_
  rw [q_eq, k_eq, (idx t).1]
  exact block_lse rows (y := y0) (h := headOf y1) (P := ⟨t.val * 256 + y0.val, by omega⟩) rfl
    (fun d => (scaled_at _ _ _).trans (congrArg (· * scale) (q_place c t (headOf y1) y0 _ rfl d))) (fun w d => k_place c t (headOf y1) y0 w d)

end Cert.KernelAttf1Ideal.Value

end
-- ==== Proof.Attf1.lean ====
/-
  The claim of the sliding-window attention of dilation 1: its mean values and log-sums are the reference's.
-/
module

public import proofs.«01_k».proof.Defs
public import proofs.«01_k».proof.Proof.Attf1Value
public import proofs.«01_k».proof.Proof.Gen.ReferenceAttf1Ideal.Run
public import proofs.«01_k».proof.Proof.Gen.Pre_finite_attf1
public import Idealize.ShloMosaic.Lib.Claim

@[expose] public section

set_option maxRecDepth 16384

noncomputable section

namespace Cert.Attf1

open Idealize.ShloMosaic Idealize.ShloMosaic.TcCoe Idealize.SL.Sem
open Cert.KernelAttf1Ideal Cert.Reals

/-- What the precondition says of the argument. -/
theorem finite {m : (ℓ : Loc nD τ sig) → Buf (Elt Ideal) ℓ} (h : Cert.Pre_KernelAttf1Ideal_finite_attf1 m) (c : Dev nD) (i) :
    IsReal (m ((c : Thread nD τ).loc main_arg0) i) := isReal_of_cmpf (congrFun (h c) i)

section
open Cert.ReferenceAttf1Ideal Cert.ReferenceAttf1Ideal.Read

/-- What the reference's run leaves, by the names of its stages. -/
theorem reference_run (m : (ℓ : Loc Cert.ReferenceAttf1Ideal.nD Cert.ReferenceAttf1Ideal.τ Cert.ReferenceAttf1Ideal.sig) → Buf (Elt Ideal) ℓ)
    (ρ : Dev Cert.ReferenceAttf1Ideal.nD → PrngReg) :
    θ_run Cert.ReferenceAttf1Ideal.defs (onTc (τ := Cert.ReferenceAttf1Ideal.τ) (Cert.ReferenceAttf1Ideal.main (F := Ideal))) ⟨m, fun _ => 0, ρ⟩ fun r => ∀ c : Dev Cert.ReferenceAttf1Ideal.nD,
      r.2.mem ((c.tc : Thread Cert.ReferenceAttf1Ideal.nD Cert.ReferenceAttf1Ideal.τ).loc Cert.ReferenceAttf1Ideal.main_v34)
          = val_main_v34 (F := Ideal) (m ((c.tc : Thread _ _).loc Cert.ReferenceAttf1Ideal.main_arg0)) (m ((c.tc : Thread _ _).loc Cert.ReferenceAttf1Ideal.main_arg1))
      ∧ r.2.mem ((c.tc : Thread Cert.ReferenceAttf1Ideal.nD Cert.ReferenceAttf1Ideal.τ).loc Cert.ReferenceAttf1Ideal.main_v36) = val_main_v36 (F := Ideal) (m ((c.tc : Thread _ _).loc Cert.ReferenceAttf1Ideal.main_arg0))
      ∧ r.2.mem ((c.tc : Thread Cert.ReferenceAttf1Ideal.nD Cert.ReferenceAttf1Ideal.τ).loc Cert.ReferenceAttf1Ideal.main_arg0) = m ((c.tc : Thread _ _).loc Cert.ReferenceAttf1Ideal.main_arg0)
      ∧ r.2.mem ((c.tc : Thread Cert.ReferenceAttf1Ideal.nD Cert.ReferenceAttf1Ideal.τ).loc Cert.ReferenceAttf1Ideal.main_arg1) = m ((c.tc : Thread _ _).loc Cert.ReferenceAttf1Ideal.main_arg1) :=
  (θ_run _ _ _).mono (fun _ h c => ⟨(h c).1.trans (val_main_v34_eq m c), (h c).2.1.trans (val_main_v36_eq _), (h c).2.2.1, (h c).2.2.2⟩) (Cert.ReferenceAttf1Ideal.Value.run m ρ)
end

theorem algebraic : Cert.algebraic_KernelAttf1Ideal_ReferenceAttf1Ideal_pre_finite_attf1 := by
  pair_intro
  · run_from Cert.KernelAttf1Ideal.Value.run_blocks m g
  · refine Idealize.ShloMosaic.θ_run_mono (reference_run m' g') fun r hr c => ?_
    obtain ⟨e0, e1, e2, e3⟩ := hr c
    obtain ⟨h0, h1⟩ := hagree c
    rw [h0] at e1
    rw [h0, h1] at e0
    exact ⟨e0.trans (Cert.KernelAttf1Ideal.Value.final_O c (finite hpre c)).symm, e1.trans (Cert.KernelAttf1Ideal.Value.final_L c).symm, e2, e3⟩

end Cert.Attf1

end
-- ==== Proof.BandStride.lean ====
/-
  The rows of one class of a stride: where they lie among the 8192 rows, and a head's queries, keys and values in them.
-/
module

public import proofs.«01_k».proof.Proof.BandRows

@[expose] public section

set_option maxRecDepth 16384

noncomputable section

namespace Cert.BandStride

open Idealize.ShloMosaic Idealize.ShloMosaic.TcCoe
open Cert.KernelAttf1Ideal Cert.KernelAttf1Ideal.Gen

section
variable {n L : ℕ} (hn : n * L = 8192)

theorem bound {n L : ℕ} (r : Fin n) (j : Fin L) : r.val * L + j.val < n * L := by
  have h : (r.val + 1) * L ≤ n * L := Nat.mul_le_mul_right L r.isLt
  have e : (r.val + 1) * L = r.val * L + L := by ring
  have := j.isLt
  omega

/-- The row of the arrays laid by classes that is row `j` of class `r`. -/
def laid (r : Fin n) (j : Fin L) : Fin 8192 := ⟨r.val * L + j.val, hn ▸ bound r j⟩
/-- The row it was before. -/
def natural (r : Fin n) (j : Fin L) : Fin 8192 := ⟨j.val * n + r.val, hn ▸ Nat.mul_comm n L ▸ bound j r⟩

variable (x : FVec Ideal S8192x1024 .bf16) (y : FVec Ideal S8192x2560 .bf16) (h : Fin 8) (r : Fin n)

def query (j : Fin L) (d : Fin 64) : EReal := x (ix2 (natural hn r j) ⟨h.val * 64 + d.val, by omega⟩)
def key (j : Fin L) (d : Fin 64) : EReal := x (ix2 (natural hn r j) ⟨512 + (h.val * 64 + d.val), by omega⟩)
def value (d : Fin 64) (j : Fin L) : EReal := y (ix2 (natural hn r j) ⟨1024 + (h.val * 64 + d.val), by omega⟩)
end

end Cert.BandStride

end
-- ==== Proof.Attf4Ref.lean ====
/-
  The sliding-window attention of the pattern of dilation 4: the reference read at an entry.
-/
module

public import proofs.«01_k».proof.Proof.BandStride
public import proofs.«01_k».proof.Proof.Gen.ReferenceAttf4Ideal.Read

@[expose] public section

set_option maxRecDepth 16384

noncomputable section

namespace Cert.Attf4Ref

open Cert.ReferenceAttf4Ideal Cert.ReferenceAttf4Ideal.Gen Idealize.ShloMosaic Idealize.ShloMosaic.TcCoe Idealize.SL.Sem
open Cert.ReferenceAttf4Ideal.Read Cert.Reals Cert.Band Cert.BandClass Cert.BandBits Cert.BandStride

theorem rows : 4 * 2048 = 8192 := by norm_num

section
variable (x : FVec Ideal S8192x1024 .bf16) (y : FVec Ideal S8192x2560 .bf16) (r : Fin 4) (j : Fin 2048) (h : Fin 8) (d : Fin 64)

theorem q_at : val_main_v7 (F := Ideal) x (ix4 r j h d) = query rows x h r j d := by
  unfold query natural
  pointwise [val_main_v7, val_main_v6, val_main_v5, val_main_v4, val_main_v3, val_main_v0]
theorem k_at : val_main_v12 (F := Ideal) x (ix4 r j h d) = key rows x h r j d := by
  unfold key natural
  pointwise [val_main_v12, val_main_v11, val_main_v10, val_main_v9, val_main_v8, val_main_v1]
theorem v_at : val_main_v17 (F := Ideal) y (ix4 r j h d) = value rows y h r d j := by
  unfold value natural
  pointwise [val_main_v17, val_main_v16, val_main_v15, val_main_v14, val_main_v13, val_main_v2]
end

/-- The maximum over the last axis. -/
theorem fold_max (v : FVec Ideal S4x8x2048x2048 .f32) (c : FVec Ideal S_ .f32) (hr : S4x8x2048x2048.ReducesTo [3] S4x8x2048) (hu : 0 < S_.numel) (r : Fin 4) (h : Fin 8) (p : Fin 2048) :
    Host.reduce FloatOps.maximumf v c hr hu (ix3 r h p) = Finset.fold max (c (Shape.Idx.first hu)) (fun k => v (ix4 r h p k)) Finset.univ := by
  simp only [pointwise]

variable (x : FVec Ideal S8192x1024 .bf16) (y : FVec Ideal S8192x2560 .bf16)

def rowScore (r : Fin 4) (h : Fin 8) (p : Fin 2048) : Fin 2048 → EReal := masked (band p) (score (query rows x h r p) (key rows x h r))

theorem near_at (p j : Fin 2048) : val_main_v26 (F := Ideal) (ix2 p j) = 1#1 ↔ band p j := by
  have e : val_main_v26 (F := Ideal) (ix2 p j) = IntOp.cmpi .sle (IntOp.absi (BitVec.ofNat 32 p.val - BitVec.ofNat 32 j.val)) 64#32 := by
    pointwise [val_main_v26, val_main_v25, val_main_c, val_main_v24, val_main_v23, val_main_v22, val_main_v21]
    rfl
  rw [e]
  exact near_iff (by omega) (by omega)

theorem product_at (r : Fin 4) (h : Fin 8) (p j : Fin 2048) : val_main_v20 (F := Ideal) x (ix4 r h p j) = score (query rows x h r p) (key rows x h r) j := by
  pointwise [val_main_v20, val_main_v19, val_main_cst, val_main_v18]
  simp only [q_at, k_at]
  rfl

theorem s_at (r : Fin 4) (h : Fin 8) (p j : Fin 2048) : val_main_v27 (F := Ideal) x (ix4 r h p j) = rowScore x r h p j := by
  rw [val_main_v27_apply]
  unfold rowScore masked Scalar.select
  refine if_congr ?_ (product_at x r h p j) ?_
  · refine Iff.trans (iff_of_eq ?_) (near_at p j)
    pointwise [val_main_call0_v1]
    rfl
  · pointwise [val_main_call0_v2, val_main_call0_v0, val_main_cst_0]
    exact Softmax.ofBits_neg_inf

theorem top_at (r : Fin 4) (h : Fin 8) (p : Fin 2048) : val_main_v28 (F := Ideal) x (ix3 r h p) = top (rowScore x r h p) :=
  (show val_main_v28 (F := Ideal) x (ix3 r h p) = Finset.fold max (val_main_cst_1 (F := Ideal) (Shape.Idx.first h_S_)) (fun j => val_main_v27 (F := Ideal) x (ix4 r h p j)) Finset.univ from
    fold_max _ _ _ _ r h p).trans (by
    rw [show (fun j => val_main_v27 (F := Ideal) x (ix4 r h p j)) = rowScore x r h p from funext (s_at x r h p), val_main_cst_1_apply]
    exact congrArg (fun b => Finset.fold max b _ _) Softmax.ofBits_neg_inf)

theorem e_at (r : Fin 4) (h : Fin 8) (p j : Fin 2048) : val_main_v32 (F := Ideal) x (ix4 r h p j) = expo (rowScore x r h p) j := by
  pointwise [val_main_v29, val_main_v30, val_main_v31, val_main_v32]
  rw [s_at, top_at]
  rfl

theorem z_at (r : Fin 4) (h : Fin 8) (p : Fin 2048) : val_main_v33 (F := Ideal) x (ix3 r h p) = den (rowScore x r h p) := by
  pointwise [val_main_v33, val_main_cst_2]
  simp only [e_at]
  rfl

theorem mean_at (r : Fin 4) (h : Fin 8) (p : Fin 2048) (d : Fin 64) : val_main_v37 (F := Ideal) x y (ix4 r h d p) = attend (query rows x h r p) (key rows x h r) (value rows y h r d) p := by
  pointwise [val_main_v37, val_main_v36, val_main_v35, val_main_v34]
  simp only [e_at, z_at, v_at]
  refine Finset.sum_congr rfl fun j _ => ?_
  rw [mul_comm]
  rfl

theorem out_at (p : Fin 2048) (r : Fin 4) (h : Fin 8) (d : Fin 64) :
    val_main_v43 (F := Ideal) x y (ix2 (laid rows r p) (BandTile.col h d)) = attend (query rows x h r p) (key rows x h r) (value rows y h r d) p := by
  unfold BandTile.col laid
  pointwise [val_main_v43, val_main_v42, val_main_v38]
  exact mean_at x y r h p d

theorem top_column (r : Fin 4) (h : Fin 8) (p : Fin 2048) : val_main_v29 (F := Ideal) x (ix4 r h p 0) = val_main_v28 (F := Ideal) x (ix3 r h p) := by
  pointwise [val_main_v29]

theorem den_column (r : Fin 4) (h : Fin 8) (p : Fin 2048) : val_main_v34 (F := Ideal) x (ix4 r h p 0) = val_main_v33 (F := Ideal) x (ix3 r h p) := by
  pointwise [val_main_v34]

theorem log_at (r : Fin 4) (h : Fin 8) (p : Fin 2048) : val_main_v40 (F := Ideal) x (ix4 r h p 0) = top (rowScore x r h p) + Ideal.log (den (rowScore x r h p)) := by
  rw [val_main_v40_apply, val_main_v39_apply, top_column, den_column, top_at, z_at]
  generalize top (rowScore x r h p) = a, den (rowScore x r h p) = b
  rfl

theorem turned_at (r : Fin 4) (h : Fin 8) (p : Fin 2048) : val_main_v41 (F := Ideal) x (ix4 r p h 0) = val_main_v40 (F := Ideal) x (ix4 r h p 0) := by
  pointwise [val_main_v41]

theorem spread_at (r : Fin 4) (h : Fin 8) (p : Fin 2048) (d : Fin 64) : val_main_v44 (F := Ideal) x (ix4 r p h d) = val_main_v41 (F := Ideal) x (ix4 r p h 0) := by
  pointwise [val_main_v44]

theorem cast_at (p : Fin 2048) (r : Fin 4) (h : Fin 8) (d : Fin 64) : val_main_v45 (F := Ideal) x (ix2 (laid rows r p) (BandTile.col h d)) = val_main_v44 (F := Ideal) x (ix4 r p h d) := by
  unfold BandTile.col laid
  pointwise [val_main_v45]

theorem lse_at (p : Fin 2048) (r : Fin 4) (h : Fin 8) (d : Fin 64) : val_main_v45 (F := Ideal) x (ix2 (laid rows r p) (BandTile.col h d)) = logDen (query rows x h r p) (key rows x h r) p := by
  rw [cast_at, spread_at, turned_at, log_at]
  unfold logDen lse rowScore
  rfl

end Cert.Attf4Ref

end
-- ==== Proof.Attf4Value.lean ====
/-
  The sliding-window attention of the pattern of dilation 4: what a grid point of 256 rows of a class stores, against the
  reference.
-/
module

public import proofs.«01_k».proof.Proof.Attf4Ref
public import proofs.«01_k».proof.Proof.Gen.KernelAttf4Ideal.Value

@[expose] public section

set_option maxRecDepth 16384

noncomputable section

namespace Cert.KernelAttf4Ideal.Value

open Cert.KernelAttf4Ideal Cert.KernelAttf4Ideal.Gen Idealize.ShloMosaic Idealize.ShloMosaic.TcCoe Idealize.SL.Sem
open Idealize.ShloMosaic.Pipeline (Dat)
open Cert.Reals Cert.Band Cert.BandClass Cert.BandTile Cert.BandBlock Cert.BandRows Cert.BandStride Cert.Attf4Ref

/-! ## One point -/

section
variable (i : grid0.Coords) (x0 : FVec Ideal S256x512 .bf16) (x1 : FVec Ideal S64x512 .bf16) (x2 : FVec Ideal S256x512 .bf16) (x3 x4 : FVec Ideal S64x512 .bf16)
variable (x5 : FVec Ideal S256x512 .bf16) (x6 : FVec Ideal S64x512 .bf16)

theorem valid0_iff (r : Fin 128) (w : Fin 256) : k0_pay161 (F := Ideal) i x0 x1 x2 x3 x4 x5 x6 (ix2 r w) = 1#1 ↔ inWin 2048 (i 1).val (rowOf 0 r) w := by
  have e : k0_pay161 (F := Ideal) i x0 x1 x2 x3 x4 x5 x6 (ix2 r w) = mask (tileRow (i 1).val (0 : Fin 2).val) 2048#32 r w := by
    pointwise [k0_pay161, k0_pay160, k0_pay159, k0_pay7, k0_pay8, k0_pay9]
    rfl
  rw [e]
  exact mask_iff 0 ((i 1).isLt.trans (by decide)) (by norm_num) r w

theorem valid1_iff (r : Fin 128) (w : Fin 256) : k0_pay187 (F := Ideal) i x0 x1 x2 x3 x4 x5 x6 (ix2 r w) = 1#1 ↔ inWin 2048 (i 1).val (rowOf 1 r) w := by
  have e : k0_pay187 (F := Ideal) i x0 x1 x2 x3 x4 x5 x6 (ix2 r w) = mask (tileRow (i 1).val (1 : Fin 2).val) 2048#32 r w := by
    pointwise [k0_pay187, k0_pay82]
    rfl
  rw [e]
  exact mask_iff 1 ((i 1).isLt.trans (by decide)) (by norm_num) r w

theorem outO_eq (y : S256x512.Idx) : out0_7 (F := Ideal) i x0 x1 x2 x3 x4 x5 x6 y
    = blockO 2048 (i 1).val (k0_pay155 (F := Ideal) i x0 x1 x2 x3 x4 x5 x6) (k0_pay156 (F := Ideal) i x0 x1 x2 x3 x4 x5 x6) (k0_pay157 (F := Ideal) i x0 x1 x2 x3 x4 x5 x6) y :=
  (show out0_7 (F := Ideal) i x0 x1 x2 x3 x4 x5 x6 y = tilesO k0_pay6 (k0_pay161 (F := Ideal) i x0 x1 x2 x3 x4 x5 x6) (k0_pay187 (F := Ideal) i x0 x1 x2 x3 x4 x5 x6)
      (k0_pay155 (F := Ideal) i x0 x1 x2 x3 x4 x5 x6) (k0_pay156 (F := Ideal) i x0 x1 x2 x3 x4 x5 x6) (k0_pay157 (F := Ideal) i x0 x1 x2 x3 x4 x5 x6) y from rfl).trans
    (tilesO_eq _ _ _ first_iff (valid0_iff i x0 x1 x2 x3 x4 x5 x6) (valid1_iff i x0 x1 x2 x3 x4 x5 x6) y)

theorem outL_eq (y : S256x512.Idx) : out0_8 (F := Ideal) i x0 x1 x2 x3 x4 x5 x6 y
    = blockL 2048 (i 1).val (k0_pay155 (F := Ideal) i x0 x1 x2 x3 x4 x5 x6) (k0_pay156 (F := Ideal) i x0 x1 x2 x3 x4 x5 x6) y :=
  (show out0_8 (F := Ideal) i x0 x1 x2 x3 x4 x5 x6 y = tilesL k0_pay6 (k0_pay161 (F := Ideal) i x0 x1 x2 x3 x4 x5 x6) (k0_pay187 (F := Ideal) i x0 x1 x2 x3 x4 x5 x6)
      (k0_pay155 (F := Ideal) i x0 x1 x2 x3 x4 x5 x6) (k0_pay156 (F := Ideal) i x0 x1 x2 x3 x4 x5 x6) y from rfl).trans
    (tilesL_eq _ _ first_iff (valid0_iff i x0 x1 x2 x3 x4 x5 x6) (valid1_iff i x0 x1 x2 x3 x4 x5 x6) y)

theorem whole256 (x : FVec Ideal S256x512 .bf16) : View.ld (Val := Elt Ideal) (e' := .bf16) x r0_0 = x :=
  View.ld_unit_lit (Val := Elt Ideal) (e := .bf16) (S := S256x512) (off := ![0, 0]) _ x (by decide)
theorem whole64 (x : FVec Ideal S64x512 .bf16) : View.ld (Val := Elt Ideal) (e' := .bf16) x r0_1 = x :=
  View.ld_unit_lit (Val := Elt Ideal) (e := .bf16) (S := S64x512) (off := ![0, 0]) _ x (by decide)

theorem q_eq : k0_pay155 (F := Ideal) i x0 x1 x2 x3 x4 x5 x6 = k0_pay3 (F := Ideal) x0 := congrArg (k0_pay3 (F := Ideal)) (whole256 x0)

theorem scaled_at (y : Fin 256) (x : Fin 512) : k0_pay3 (F := Ideal) x0 (ix2 y x) = x0 (ix2 y x) * scale := by
  pointwise [k0_pay3]
  rw [scale16_eq]

/-- Reading a window as the shape it has changes nothing. -/
theorem joined_eq (a : FVec Ideal S64x512 .bf16) (b : FVec Ideal S256x512 .bf16) (c : FVec Ideal S64x512 .bf16) : k0_pay4 (F := Ideal) a b c = joined a b c := by
  funext z
  idx_vars z
  rw [joined_at]
  pointwise [k0_pay4]

theorem k_eq : k0_pay156 (F := Ideal) i x0 x1 x2 x3 x4 x5 x6 = joined x1 x2 x3 := by
  refine Eq.trans ?_ (joined_eq x1 x2 x3)
  unfold k0_pay156
  erw [whole256 x2, whole64 x1, whole64 x3]

theorem v_eq : k0_pay157 (F := Ideal) i x0 x1 x2 x3 x4 x5 x6 = joined x4 x5 x6 := by
  refine Eq.trans ?_ (joined_eq x4 x5 x6)
  unfold k0_pay157
  erw [whole256 x5, whole64 x4, whole64 x6]
  rfl
end

/-! ## The arrays laid by classes -/

variable {m : (ℓ : Loc nD τ sig) → Buf (Elt Ideal) ℓ}

def laidQk (X : FVec Ideal S8192x1024 .bf16) : FVec Ideal S8192x1024 .bf16 :=
  shapeCast S8192x1024 (shapeCast S4x2048x1024 (transpose S1x4x2048x1024 [0, 2, 1, 3] (shapeCast S1x2048x4x1024 (broadcastInDim S1x8192x1024 ![1, 2] bcast_S8192x1024_S1x8192x1024_1_2 X)
    shapeCasts_S1x8192x1024_S1x2048x4x1024) transposes_S1x2048x4x1024_S1x4x2048x1024_0_2_1_3) shapeCasts_S1x4x2048x1024_S4x2048x1024) shapeCasts_S4x2048x1024_S8192x1024

def laidV (Y : FVec Ideal S8192x2560 .bf16) : FVec Ideal S8192x512 .bf16 :=
  shapeCast S8192x512 (shapeCast S4x2048x512 (transpose S1x4x2048x512 [0, 2, 1, 3] (shapeCast S1x2048x4x512 (broadcastInDim S1x8192x512 ![1, 2] bcast_S8192x512_S1x8192x512_1_2
    (extractStridedSlice S8192x512 ![0, 1024] Y slices_S8192x2560_S8192x512_0_1024))
    shapeCasts_S1x8192x512_S1x2048x4x512) transposes_S1x2048x4x512_S1x4x2048x512_0_2_1_3) shapeCasts_S1x4x2048x512_S4x2048x512) shapeCasts_S4x2048x512_S8192x512

theorem laidQk_at (X : FVec Ideal S8192x1024 .bf16) (r : Fin 4) (j : Fin 2048) (x : Fin 1024) : laidQk X (ix2 (laid rows r j) x) = X (ix2 (natural rows r j) x) := by
  unfold laid natural
  pointwise [laidQk]

theorem laidV_at (Y : FVec Ideal S8192x2560 .bf16) (r : Fin 4) (j : Fin 2048) (x : Fin 512) : laidV Y (ix2 (laid rows r j) x) = Y (ix2 (natural rows r j) ⟨1024 + x.val, by omega⟩) := by
  unfold laid natural
  pointwise [laidV]

theorem V_qk (c : Dev nD) : V m c main_v5 = laidQk (m ((c : Thread nD τ).loc main_arg0)) := by
  unfold_abbrev_sides
  after_results
  rfl

theorem V_v (c : Dev nD) : V m c main_v10 = laidV (m ((c : Thread nD τ).loc main_arg1)) := by
  unfold_abbrev_sides
  after_results
  rfl

/-! ## The blocks -/

theorem idx : ∀ t : Fin cfg0.N, (grid0.coords t 1).val = t.val % 8 ∧ win0_0.index t = ![t.val, 0] ∧ win0_1.index t = ![t.val / 8 * 32 + max (t.val % 8 * 4 - 1) 0, 1] ∧ win0_2.index t = ![t.val, 1]
    ∧ win0_3.index t = ![t.val / 8 * 32 + min (t.val % 8 * 4 + 4) 31, 1] ∧ win0_4.index t = ![t.val / 8 * 32 + max (t.val % 8 * 4 - 1) 0, 0] ∧ win0_5.index t = ![t.val, 0]
    ∧ win0_6.index t = ![t.val / 8 * 32 + min (t.val % 8 * 4 + 4) 31, 0] ∧ win0_7.index t = ![t.val, 0] ∧ win0_8.index t = ![t.val, 0] := by
  decide +kernel

/-- A grid point's class. -/
def cls (t : Fin cfg0.N) : Fin 4 := ⟨t.val / 8, Nat.div_lt_of_lt_mul t.isLt⟩

section
variable (c : Dev nD) (t : Fin cfg0.N)

theorem q_blk (r : Fin 256) (x : Fin 512) (P : Fin 8192) (hP : P.val = t.val * 256 + r.val) : iblk m c 0 t (ix2 r x) = V m c main_v5 (ix2 P ⟨x.val, by omega⟩) := by
  blk_point [iblk, idx t]
theorem k_cur (r : Fin 256) (x : Fin 512) (P : Fin 8192) (hP : P.val = t.val * 256 + r.val) : iblk m c 2 t (ix2 r x) = V m c main_v5 (ix2 P ⟨512 + x.val, by omega⟩) := by
  blk_point [iblk, idx t]
theorem k_prev (r : Fin 64) (x : Fin 512) (P : Fin 8192) (hP : P.val = (t.val / 8 * 32 + max (t.val % 8 * 4 - 1) 0) * 64 + r.val) :
    iblk m c 1 t (ix2 r x) = V m c main_v5 (ix2 P ⟨512 + x.val, by omega⟩) := by
  blk_point [iblk, idx t]
theorem k_next (r : Fin 64) (x : Fin 512) (P : Fin 8192) (hP : P.val = (t.val / 8 * 32 + min (t.val % 8 * 4 + 4) 31) * 64 + r.val) :
    iblk m c 3 t (ix2 r x) = V m c main_v5 (ix2 P ⟨512 + x.val, by omega⟩) := by
  blk_point [iblk, idx t]
theorem v_cur (r : Fin 256) (x : Fin 512) (P : Fin 8192) (hP : P.val = t.val * 256 + r.val) : iblk m c 5 t (ix2 r x) = V m c main_v10 (ix2 P x) := by
  blk_point [iblk, idx t]
theorem v_prev (r : Fin 64) (x : Fin 512) (P : Fin 8192) (hP : P.val = (t.val / 8 * 32 + max (t.val % 8 * 4 - 1) 0) * 64 + r.val) :
    iblk m c 4 t (ix2 r x) = V m c main_v10 (ix2 P x) := by
  blk_point [iblk, idx t]
theorem v_next (r : Fin 64) (x : Fin 512) (P : Fin 8192) (hP : P.val = (t.val / 8 * 32 + min (t.val % 8 * 4 + 4) 31) * 64 + r.val) :
    iblk m c 6 t (ix2 r x) = V m c main_v10 (ix2 P x) := by
  blk_point [iblk, idx t]

theorem laid_val (j : Fin 2048) : (laid rows (cls t) j).val = t.val / 8 * 2048 + j.val := rfl

theorem laid_cur (r : ℕ) (j : Fin 2048) (hj : j.val = t.val % 8 * 256 + r) : (laid rows (cls t) j).val = t.val * 256 + r := by
  rw [laid_val]
  omega
theorem laid_prev (r : Fin 64) (j : Fin 2048) (hj : j.val + 64 = t.val % 8 * 256 + r.val) :
    (laid rows (cls t) j).val = (t.val / 8 * 32 + max (t.val % 8 * 4 - 1) 0) * 64 + r.val := by
  rw [laid_val]
  omega
theorem laid_next (r : Fin 64) (j : Fin 2048) (hj : j.val = t.val % 8 * 256 + 256 + r.val) :
    (laid rows (cls t) j).val = (t.val / 8 * 32 + min (t.val % 8 * 4 + 4) 31) * 64 + r.val := by
  rw [laid_val]
  omega

theorem pos : 0 < 2048 := by norm_num

variable (h : Fin 8)

theorem q_place (y : Fin 256) (j : Fin 2048) (hj : j.val = t.val % 8 * 256 + y.val) (d : Fin 64) :
    iblk m c 0 t (ix2 y (col h d)) = query rows (m ((c : Thread nD τ).loc main_arg0)) h (cls t) j d := by
  rw [q_blk c t y (col h d) _ (laid_cur t _ j hj), V_qk, laidQk_at]
  rfl

theorem k_place (y w : Fin 256) (d : Fin 64) (hw : inWin 2048 (t.val % 8) y w) :
    joined (iblk m c 1 t) (iblk m c 2 t) (iblk m c 3 t) (ix2 (slot y w) (col h d)) = key rows (m ((c : Thread nD τ).loc main_arg0)) h (cls t) (place pos (t.val % 8) y w) d := by
  refine joined_place (x := col h d) (g := fun j => key rows (m ((c : Thread nD τ).loc main_arg0)) h (cls t) j d) pos (fun r j e => ?_) (fun r j e => ?_) (fun r j e => ?_) hw
  · rw [k_prev c t r _ _ (laid_prev t r j e), V_qk, laidQk_at]
    rfl
  · rw [k_cur c t r _ _ (laid_cur t r j e), V_qk, laidQk_at]
    rfl
  · rw [k_next c t r _ _ (laid_next t r j e), V_qk, laidQk_at]
    rfl

theorem v_place (y w : Fin 256) (d : Fin 64) (hw : inWin 2048 (t.val % 8) y w) :
    joined (iblk m c 4 t) (iblk m c 5 t) (iblk m c 6 t) (ix2 (slot y w) (col h d)) = value rows (m ((c : Thread nD τ).loc main_arg1)) h (cls t) d (place pos (t.val % 8) y w) := by
  refine joined_place (x := col h d) (g := value rows (m ((c : Thread nD τ).loc main_arg1)) h (cls t) d) pos (fun r j e => ?_) (fun r j e => ?_) (fun r j e => ?_) hw
  · rw [v_prev c t r _ _ (laid_prev t r j e), V_v, laidV_at]
    rfl
  · rw [v_cur c t r _ _ (laid_cur t r j e), V_v, laidV_at]
    rfl
  · rw [v_next c t r _ _ (laid_next t r j e), V_v, laidV_at]
    rfl

/-- A row of a block as a row of its class. -/
def at_ (y : Fin 256) : Fin 2048 := ⟨t.val % 8 * 256 + y.val, by have := Nat.mod_lt t.val (show 0 < 8 by norm_num); omega⟩
end

/-- The mean values. -/
theorem final_O (c : Dev nD) (hx : ∀ i, IsReal (m ((c : Thread nD τ).loc main_arg0) i)) :
    (dats m 0 c).arrAt 7 (cfgs 0).N = Cert.ReferenceAttf4Ideal.Read.val_main_v43 (F := Ideal) (m ((c : Thread nD τ).loc main_arg0)) (m ((c : Thread nD τ).loc main_arg1)) := by
  refine (dats m 0 c).arrAt_eq_of_covers 7 _ (by decide +kernel) fun t hf y => ?_
  blk_simp
  idx_vars y
  have hy : (win0_7.blk t).view.emb (ix2 y0 y1) = ix2 (laid rows (cls t) (at_ t y0)) (col (headOf y1) (laneOf y1)) := by
    rw [col_headOf, show laid rows (cls t) (at_ t y0) = ⟨t.val * 256 + y0.val, by have := t.isLt; change t.val < 32 at this; omega⟩ from Fin.ext (laid_cur t y0.val _ rfl)]
    blk_ext [idx t]
  rw [after0_7, hy, out_at]
  refine (outO_eq _ _ _ _ _ _ _ _ _).trans ?_
  rw [q_eq, k_eq, v_eq, (idx t).1]
  refine Eq.trans ?_ (block_mean pos (y := y0) (h := headOf y1) (P := at_ t y0) rfl
    (fun d => (scaled_at _ _ _).trans (congrArg (· * scale) (q_place c t (headOf y1) y0 _ rfl d))) (fun w d => k_place c t (headOf y1) y0 w d) (fun d => hx _) (fun j d => hx _)
    (fun w => v_place c t (headOf y1) y0 w (laneOf y1)))
  rw [col_headOf]
  rfl

/-- The log-sums. -/
theorem final_L (c : Dev nD) :
    (dats m 0 c).arrAt 8 (cfgs 0).N = Cert.ReferenceAttf4Ideal.Read.val_main_v45 (F := Ideal) (m ((c : Thread nD τ).loc main_arg0)) := by
  refine (dats m 0 c).arrAt_eq_of_covers 8 _ (by decide +kernel) fun t hf y => ?_
  blk_simp
  idx_vars y
  have hy : (win0_8.blk t).view.emb (ix2 y0 y1) = ix2 (laid rows (cls t) (at_ t y0)) (col (headOf y1) (laneOf y1)) := by
    rw [col_headOf, show laid rows (cls t) (at_ t y0) = ⟨t.val * 256 + y0.val, by have := t.isLt; change t.val < 32 at this; omega⟩ from Fin.ext (laid_cur t y0.val _ rfl)]
    blk_ext [idx t]
  rw [after0_8, hy, lse_at]
  refine (outL_eq _ _ _ _ _ _ _ _ _).trans ?_
  rw [q_eq, k_eq, (idx t).1]
  exact block_lse pos (y := y0) (h := headOf y1) (P := at_ t y0) rfl
    (fun d => (scaled_at _ _ _).trans (congrArg (· * scale) (q_place c t (headOf y1) y0 _ rfl d))) (fun w d => k_place c t (headOf y1) y0 w d)

end Cert.KernelAttf4Ideal.Value

end
-- ==== Proof.Attf4.lean ====
/-
  The claim of the sliding-window attention of dilation 4: its mean values and log-sums are the reference's.
-/
module

public import proofs.«01_k».proof.Defs
public import proofs.«01_k».proof.Proof.Attf4Value
public import proofs.«01_k».proof.Proof.Gen.ReferenceAttf4Ideal.Run
public import proofs.«01_k».proof.Proof.Gen.Pre_finite_attf4
public import Idealize.ShloMosaic.Lib.Claim

@[expose] public section

set_option maxRecDepth 16384

noncomputable section

namespace Cert.Attf4

open Idealize.ShloMosaic Idealize.ShloMosaic.TcCoe Idealize.SL.Sem
open Cert.KernelAttf4Ideal Cert.Reals

/-- What the precondition says of the argument. -/
theorem finite {m : (ℓ : Loc nD τ sig) → Buf (Elt Ideal) ℓ} (h : Cert.Pre_KernelAttf4Ideal_finite_attf4 m) (c : Dev nD) (i) :
    IsReal (m ((c : Thread nD τ).loc main_arg0) i) := isReal_of_cmpf (congrFun (h c) i)

section
open Cert.ReferenceAttf4Ideal Cert.ReferenceAttf4Ideal.Read

/-- What the reference's run leaves, by the names of its stages. -/
theorem reference_run (m : (ℓ : Loc Cert.ReferenceAttf4Ideal.nD Cert.ReferenceAttf4Ideal.τ Cert.ReferenceAttf4Ideal.sig) → Buf (Elt Ideal) ℓ)
    (ρ : Dev Cert.ReferenceAttf4Ideal.nD → PrngReg) :
    θ_run Cert.ReferenceAttf4Ideal.defs (onTc (τ := Cert.ReferenceAttf4Ideal.τ) (Cert.ReferenceAttf4Ideal.main (F := Ideal))) ⟨m, fun _ => 0, ρ⟩ fun r => ∀ c : Dev Cert.ReferenceAttf4Ideal.nD,
      r.2.mem ((c.tc : Thread Cert.ReferenceAttf4Ideal.nD Cert.ReferenceAttf4Ideal.τ).loc Cert.ReferenceAttf4Ideal.main_v43)
          = val_main_v43 (F := Ideal) (m ((c.tc : Thread _ _).loc Cert.ReferenceAttf4Ideal.main_arg0)) (m ((c.tc : Thread _ _).loc Cert.ReferenceAttf4Ideal.main_arg1))
      ∧ r.2.mem ((c.tc : Thread Cert.ReferenceAttf4Ideal.nD Cert.ReferenceAttf4Ideal.τ).loc Cert.ReferenceAttf4Ideal.main_v45) = val_main_v45 (F := Ideal) (m ((c.tc : Thread _ _).loc Cert.ReferenceAttf4Ideal.main_arg0))
      ∧ r.2.mem ((c.tc : Thread Cert.ReferenceAttf4Ideal.nD Cert.ReferenceAttf4Ideal.τ).loc Cert.ReferenceAttf4Ideal.main_arg0) = m ((c.tc : Thread _ _).loc Cert.ReferenceAttf4Ideal.main_arg0)
      ∧ r.2.mem ((c.tc : Thread Cert.ReferenceAttf4Ideal.nD Cert.ReferenceAttf4Ideal.τ).loc Cert.ReferenceAttf4Ideal.main_arg1) = m ((c.tc : Thread _ _).loc Cert.ReferenceAttf4Ideal.main_arg1) :=
  (θ_run _ _ _).mono (fun _ h c => ⟨(h c).1.trans (val_main_v43_eq m c), (h c).2.1.trans (val_main_v45_eq m c), (h c).2.2.1, (h c).2.2.2⟩) (Cert.ReferenceAttf4Ideal.Value.run m ρ)
end

theorem algebraic : Cert.algebraic_KernelAttf4Ideal_ReferenceAttf4Ideal_pre_finite_attf4 := by
  pair_intro
  · run_from Cert.KernelAttf4Ideal.Value.run_blocks m g
  · refine Idealize.ShloMosaic.θ_run_mono (reference_run m' g') fun r hr c => ?_
    obtain ⟨e0, e1, e2, e3⟩ := hr c
    obtain ⟨h0, h1⟩ := hagree c
    rw [h0] at e1
    rw [h0, h1] at e0
    exact ⟨e0.trans (Cert.KernelAttf4Ideal.Value.final_O c (finite hpre c)).symm, e1.trans (Cert.KernelAttf4Ideal.Value.final_L c).symm, e2, e3⟩

end Cert.Attf4

end
-- ==== Proof.Attf16Ref.lean ====
/-
  The sliding-window attention of the pattern of dilation 16: the reference read at an entry.
-/
module

public import proofs.«01_k».proof.Proof.BandStride
public import proofs.«01_k».proof.Proof.Gen.ReferenceAttf16Ideal.Read

@[expose] public section

set_option maxRecDepth 16384

noncomputable section

namespace Cert.Attf16Ref

open Cert.ReferenceAttf16Ideal Cert.ReferenceAttf16Ideal.Gen Idealize.ShloMosaic Idealize.ShloMosaic.TcCoe Idealize.SL.Sem
open Cert.ReferenceAttf16Ideal.Read Cert.Reals Cert.Band Cert.BandClass Cert.BandBits Cert.BandStride

theorem rows : 16 * 512 = 8192 := by norm_num

section
variable (x : FVec Ideal S8192x1024 .bf16) (y : FVec Ideal S8192x2560 .bf16) (r : Fin 16) (j : Fin 512) (h : Fin 8) (d : Fin 64)

theorem q_at : val_main_v7 (F := Ideal) x (ix4 r j h d) = query rows x h r j d := by
  unfold query natural
  pointwise [val_main_v7, val_main_v6, val_main_v5, val_main_v4, val_main_v3, val_main_v0]
theorem k_at : val_main_v12 (F := Ideal) x (ix4 r j h d) = key rows x h r j d := by
  unfold key natural
  pointwise [val_main_v12, val_main_v11, val_main_v10, val_main_v9, val_main_v8, val_main_v1]
theorem v_at : val_main_v17 (F := Ideal) y (ix4 r j h d) = value rows y h r d j := by
  unfold value natural
  pointwise [val_main_v17, val_main_v16, val_main_v15, val_main_v14, val_main_v13, val_main_v2]
end

/-- The maximum over the last axis. -/
theorem fold_max (v : FVec Ideal S16x8x512x512 .f32) (c : FVec Ideal S_ .f32) (hr : S16x8x512x512.ReducesTo [3] S16x8x512) (hu : 0 < S_.numel) (r : Fin 16) (h : Fin 8) (p : Fin 512) :
    Host.reduce FloatOps.maximumf v c hr hu (ix3 r h p) = Finset.fold max (c (Shape.Idx.first hu)) (fun k => v (ix4 r h p k)) Finset.univ := by
  simp only [pointwise]

variable (x : FVec Ideal S8192x1024 .bf16) (y : FVec Ideal S8192x2560 .bf16)

def rowScore (r : Fin 16) (h : Fin 8) (p : Fin 512) : Fin 512 → EReal := masked (band p) (score (query rows x h r p) (key rows x h r))

theorem near_at (p j : Fin 512) : val_main_v26 (F := Ideal) (ix2 p j) = 1#1 ↔ band p j := by
  have e : val_main_v26 (F := Ideal) (ix2 p j) = IntOp.cmpi .sle (IntOp.absi (BitVec.ofNat 32 p.val - BitVec.ofNat 32 j.val)) 64#32 := by
    pointwise [val_main_v26, val_main_v25, val_main_c, val_main_v24, val_main_v23, val_main_v22, val_main_v21]
    rfl
  rw [e]
  exact near_iff (by omega) (by omega)

theorem product_at (r : Fin 16) (h : Fin 8) (p j : Fin 512) : val_main_v20 (F := Ideal) x (ix4 r h p j) = score (query rows x h r p) (key rows x h r) j := by
  pointwise [val_main_v20, val_main_v19, val_main_cst, val_main_v18]
  simp only [q_at, k_at]
  rfl

theorem s_at (r : Fin 16) (h : Fin 8) (p j : Fin 512) : val_main_v27 (F := Ideal) x (ix4 r h p j) = rowScore x r h p j := by
  rw [val_main_v27_apply]
  unfold rowScore masked Scalar.select
  refine if_congr ?_ (product_at x r h p j) ?_
  · refine Iff.trans (iff_of_eq ?_) (near_at p j)
    pointwise [val_main_call0_v1]
    rfl
  · pointwise [val_main_call0_v2, val_main_call0_v0, val_main_cst_0]
    exact Softmax.ofBits_neg_inf

theorem top_at (r : Fin 16) (h : Fin 8) (p : Fin 512) : val_main_v28 (F := Ideal) x (ix3 r h p) = top (rowScore x r h p) :=
  (show val_main_v28 (F := Ideal) x (ix3 r h p) = Finset.fold max (val_main_cst_1 (F := Ideal) (Shape.Idx.first h_S_)) (fun j => val_main_v27 (F := Ideal) x (ix4 r h p j)) Finset.univ from
    fold_max _ _ _ _ r h p).trans (by
    rw [show (fun j => val_main_v27 (F := Ideal) x (ix4 r h p j)) = rowScore x r h p from funext (s_at x r h p), val_main_cst_1_apply]
    exact congrArg (fun b => Finset.fold max b _ _) Softmax.ofBits_neg_inf)

theorem e_at (r : Fin 16) (h : Fin 8) (p j : Fin 512) : val_main_v32 (F := Ideal) x (ix4 r h p j) = expo (rowScore x r h p) j := by
  pointwise [val_main_v29, val_main_v30, val_main_v31, val_main_v32]
  rw [s_at, top_at]
  rfl

theorem z_at (r : Fin 16) (h : Fin 8) (p : Fin 512) : val_main_v33 (F := Ideal) x (ix3 r h p) = den (rowScore x r h p) := by
  pointwise [val_main_v33, val_main_cst_2]
  simp only [e_at]
  rfl

theorem mean_at (r : Fin 16) (h : Fin 8) (p : Fin 512) (d : Fin 64) : val_main_v37 (F := Ideal) x y (ix4 r h d p) = attend (query rows x h r p) (key rows x h r) (value rows y h r d) p := by
  pointwise [val_main_v37, val_main_v36, val_main_v35, val_main_v34]
  simp only [e_at, z_at, v_at]
  refine Finset.sum_congr rfl fun j _ => ?_
  rw [mul_comm]
  rfl

theorem out_at (p : Fin 512) (r : Fin 16) (h : Fin 8) (d : Fin 64) :
    val_main_v43 (F := Ideal) x y (ix2 (laid rows r p) (BandTile.col h d)) = attend (query rows x h r p) (key rows x h r) (value rows y h r d) p := by
  unfold BandTile.col laid
  pointwise [val_main_v43, val_main_v42, val_main_v38]
  exact mean_at x y r h p d

theorem top_column (r : Fin 16) (h : Fin 8) (p : Fin 512) : val_main_v29 (F := Ideal) x (ix4 r h p 0) = val_main_v28 (F := Ideal) x (ix3 r h p) := by
  pointwise [val_main_v29]

theorem den_column (r : Fin 16) (h : Fin 8) (p : Fin 512) : val_main_v34 (F := Ideal) x (ix4 r h p 0) = val_main_v33 (F := Ideal) x (ix3 r h p) := by
  pointwise [val_main_v34]

theorem log_at (r : Fin 16) (h : Fin 8) (p : Fin 512) : val_main_v40 (F := Ideal) x (ix4 r h p 0) = top (rowScore x r h p) + Ideal.log (den (rowScore x r h p)) := by
  rw [val_main_v40_apply, val_main_v39_apply, top_column, den_column, top_at, z_at]
  generalize top (rowScore x r h p) = a, den (rowScore x r h p) = b
  rfl

theorem turned_at (r : Fin 16) (h : Fin 8) (p : Fin 512) : val_main_v41 (F := Ideal) x (ix4 r p h 0) = val_main_v40 (F := Ideal) x (ix4 r h p 0) := by
  pointwise [val_main_v41]

theorem spread_at (r : Fin 16) (h : Fin 8) (p : Fin 512) (d : Fin 64) : val_main_v44 (F := Ideal) x (ix4 r p h d) = val_main_v41 (F := Ideal) x (ix4 r p h 0) := by
  pointwise [val_main_v44]

theorem cast_at (p : Fin 512) (r : Fin 16) (h : Fin 8) (d : Fin 64) : val_main_v45 (F := Ideal) x (ix2 (laid rows r p) (BandTile.col h d)) = val_main_v44 (F := Ideal) x (ix4 r p h d) := by
  unfold BandTile.col laid
  pointwise [val_main_v45]

theorem lse_at (p : Fin 512) (r : Fin 16) (h : Fin 8) (d : Fin 64) : val_main_v45 (F := Ideal) x (ix2 (laid rows r p) (BandTile.col h d)) = logDen (query rows x h r p) (key rows x h r) p := by
  rw [cast_at, spread_at, turned_at, log_at]
  unfold logDen lse rowScore
  rfl

end Cert.Attf16Ref

end
-- ==== Proof.Attf16Value.lean ====
/-
  The sliding-window attention of the pattern of dilation 16: what a grid point of 256 rows of a class stores, against the
  reference.
-/
module

public import proofs.«01_k».proof.Proof.Attf16Ref
public import proofs.«01_k».proof.Proof.Gen.KernelAttf16Ideal.Value

@[expose] public section

set_option maxRecDepth 16384

noncomputable section

namespace Cert.KernelAttf16Ideal.Value

open Cert.KernelAttf16Ideal Cert.KernelAttf16Ideal.Gen Idealize.ShloMosaic Idealize.ShloMosaic.TcCoe Idealize.SL.Sem
open Idealize.ShloMosaic.Pipeline (Dat)
open Cert.Reals Cert.Band Cert.BandClass Cert.BandTile Cert.BandBlock Cert.BandRows Cert.BandStride Cert.Attf16Ref

/-! ## One point -/

section
variable (i : grid0.Coords) (x0 : FVec Ideal S256x512 .bf16) (x1 : FVec Ideal S64x512 .bf16) (x2 : FVec Ideal S256x512 .bf16) (x3 x4 : FVec Ideal S64x512 .bf16)
variable (x5 : FVec Ideal S256x512 .bf16) (x6 : FVec Ideal S64x512 .bf16)

theorem valid0_iff (r : Fin 128) (w : Fin 256) : k0_pay161 (F := Ideal) i x0 x1 x2 x3 x4 x5 x6 (ix2 r w) = 1#1 ↔ inWin 512 (i 1).val (rowOf 0 r) w := by
  have e : k0_pay161 (F := Ideal) i x0 x1 x2 x3 x4 x5 x6 (ix2 r w) = mask (tileRow (i 1).val (0 : Fin 2).val) 512#32 r w := by
    pointwise [k0_pay161, k0_pay160, k0_pay159, k0_pay7, k0_pay8, k0_pay9]
    rfl
  rw [e]
  exact mask_iff 0 ((i 1).isLt.trans (by decide)) (by norm_num) r w

theorem valid1_iff (r : Fin 128) (w : Fin 256) : k0_pay187 (F := Ideal) i x0 x1 x2 x3 x4 x5 x6 (ix2 r w) = 1#1 ↔ inWin 512 (i 1).val (rowOf 1 r) w := by
  have e : k0_pay187 (F := Ideal) i x0 x1 x2 x3 x4 x5 x6 (ix2 r w) = mask (tileRow (i 1).val (1 : Fin 2).val) 512#32 r w := by
    pointwise [k0_pay187, k0_pay82]
    rfl
  rw [e]
  exact mask_iff 1 ((i 1).isLt.trans (by decide)) (by norm_num) r w

theorem outO_eq (y : S256x512.Idx) : out0_7 (F := Ideal) i x0 x1 x2 x3 x4 x5 x6 y
    = blockO 512 (i 1).val (k0_pay155 (F := Ideal) i x0 x1 x2 x3 x4 x5 x6) (k0_pay156 (F := Ideal) i x0 x1 x2 x3 x4 x5 x6) (k0_pay157 (F := Ideal) i x0 x1 x2 x3 x4 x5 x6) y :=
  (show out0_7 (F := Ideal) i x0 x1 x2 x3 x4 x5 x6 y = tilesO k0_pay6 (k0_pay161 (F := Ideal) i x0 x1 x2 x3 x4 x5 x6) (k0_pay187 (F := Ideal) i x0 x1 x2 x3 x4 x5 x6)
      (k0_pay155 (F := Ideal) i x0 x1 x2 x3 x4 x5 x6) (k0_pay156 (F := Ideal) i x0 x1 x2 x3 x4 x5 x6) (k0_pay157 (F := Ideal) i x0 x1 x2 x3 x4 x5 x6) y from rfl).trans
    (tilesO_eq _ _ _ first_iff (valid0_iff i x0 x1 x2 x3 x4 x5 x6) (valid1_iff i x0 x1 x2 x3 x4 x5 x6) y)

theorem outL_eq (y : S256x512.Idx) : out0_8 (F := Ideal) i x0 x1 x2 x3 x4 x5 x6 y
    = blockL 512 (i 1).val (k0_pay155 (F := Ideal) i x0 x1 x2 x3 x4 x5 x6) (k0_pay156 (F := Ideal) i x0 x1 x2 x3 x4 x5 x6) y :=
  (show out0_8 (F := Ideal) i x0 x1 x2 x3 x4 x5 x6 y = tilesL k0_pay6 (k0_pay161 (F := Ideal) i x0 x1 x2 x3 x4 x5 x6) (k0_pay187 (F := Ideal) i x0 x1 x2 x3 x4 x5 x6)
      (k0_pay155 (F := Ideal) i x0 x1 x2 x3 x4 x5 x6) (k0_pay156 (F := Ideal) i x0 x1 x2 x3 x4 x5 x6) y from rfl).trans
    (tilesL_eq _ _ first_iff (valid0_iff i x0 x1 x2 x3 x4 x5 x6) (valid1_iff i x0 x1 x2 x3 x4 x5 x6) y)

theorem whole256 (x : FVec Ideal S256x512 .bf16) : View.ld (Val := Elt Ideal) (e' := .bf16) x r0_0 = x :=
  View.ld_unit_lit (Val := Elt Ideal) (e := .bf16) (S := S256x512) (off := ![0, 0]) _ x (by decide)
theorem whole64 (x : FVec Ideal S64x512 .bf16) : View.ld (Val := Elt Ideal) (e' := .bf16) x r0_1 = x :=
  View.ld_unit_lit (Val := Elt Ideal) (e := .bf16) (S := S64x512) (off := ![0, 0]) _ x (by decide)

theorem q_eq : k0_pay155 (F := Ideal) i x0 x1 x2 x3 x4 x5 x6 = k0_pay3 (F := Ideal) x0 := congrArg (k0_pay3 (F := Ideal)) (whole256 x0)

theorem scaled_at (y : Fin 256) (x : Fin 512) : k0_pay3 (F := Ideal) x0 (ix2 y x) = x0 (ix2 y x) * scale := by
  pointwise [k0_pay3]
  rw [scale16_eq]

/-- Reading a window as the shape it has changes nothing. -/
theorem joined_eq (a : FVec Ideal S64x512 .bf16) (b : FVec Ideal S256x512 .bf16) (c : FVec Ideal S64x512 .bf16) : k0_pay4 (F := Ideal) a b c = joined a b c := by
  funext z
  idx_vars z
  rw [joined_at]
  pointwise [k0_pay4]

theorem k_eq : k0_pay156 (F := Ideal) i x0 x1 x2 x3 x4 x5 x6 = joined x1 x2 x3 := by
  refine Eq.trans ?_ (joined_eq x1 x2 x3)
  unfold k0_pay156
  erw [whole256 x2, whole64 x1, whole64 x3]

theorem v_eq : k0_pay157 (F := Ideal) i x0 x1 x2 x3 x4 x5 x6 = joined x4 x5 x6 := by
  refine Eq.trans ?_ (joined_eq x4 x5 x6)
  unfold k0_pay157
  erw [whole256 x5, whole64 x4, whole64 x6]
  rfl
end

/-! ## The arrays laid by classes -/

variable {m : (ℓ : Loc nD τ sig) → Buf (Elt Ideal) ℓ}

def laidQk (X : FVec Ideal S8192x1024 .bf16) : FVec Ideal S8192x1024 .bf16 :=
  shapeCast S8192x1024 (shapeCast S16x512x1024 (transpose S1x16x512x1024 [0, 2, 1, 3] (shapeCast S1x512x16x1024 (broadcastInDim S1x8192x1024 ![1, 2] bcast_S8192x1024_S1x8192x1024_1_2 X)
    shapeCasts_S1x8192x1024_S1x512x16x1024) transposes_S1x512x16x1024_S1x16x512x1024_0_2_1_3) shapeCasts_S1x16x512x1024_S16x512x1024) shapeCasts_S16x512x1024_S8192x1024

def laidV (Y : FVec Ideal S8192x2560 .bf16) : FVec Ideal S8192x512 .bf16 :=
  shapeCast S8192x512 (shapeCast S16x512x512 (transpose S1x16x512x512 [0, 2, 1, 3] (shapeCast S1x512x16x512 (broadcastInDim S1x8192x512 ![1, 2] bcast_S8192x512_S1x8192x512_1_2
    (extractStridedSlice S8192x512 ![0, 1024] Y slices_S8192x2560_S8192x512_0_1024))
    shapeCasts_S1x8192x512_S1x512x16x512) transposes_S1x512x16x512_S1x16x512x512_0_2_1_3) shapeCasts_S1x16x512x512_S16x512x512) shapeCasts_S16x512x512_S8192x512

theorem laidQk_at (X : FVec Ideal S8192x1024 .bf16) (r : Fin 16) (j : Fin 512) (x : Fin 1024) : laidQk X (ix2 (laid rows r j) x) = X (ix2 (natural rows r j) x) := by
  unfold laid natural
  pointwise [laidQk]

theorem laidV_at (Y : FVec Ideal S8192x2560 .bf16) (r : Fin 16) (j : Fin 512) (x : Fin 512) : laidV Y (ix2 (laid rows r j) x) = Y (ix2 (natural rows r j) ⟨1024 + x.val, by omega⟩) := by
  unfold laid natural
  pointwise [laidV]

theorem V_qk (c : Dev nD) : V m c main_v5 = laidQk (m ((c : Thread nD τ).loc main_arg0)) := by
  unfold_abbrev_sides
  after_results
  rfl

theorem V_v (c : Dev nD) : V m c main_v10 = laidV (m ((c : Thread nD τ).loc main_arg1)) := by
  unfold_abbrev_sides
  after_results
  rfl

/-! ## The blocks -/

theorem idx : ∀ t : Fin cfg0.N, (grid0.coords t 1).val = t.val % 2 ∧ win0_0.index t = ![t.val, 0] ∧ win0_1.index t = ![t.val / 2 * 8 + max (t.val % 2 * 4 - 1) 0, 1] ∧ win0_2.index t = ![t.val, 1]
    ∧ win0_3.index t = ![t.val / 2 * 8 + min (t.val % 2 * 4 + 4) 7, 1] ∧ win0_4.index t = ![t.val / 2 * 8 + max (t.val % 2 * 4 - 1) 0, 0] ∧ win0_5.index t = ![t.val, 0]
    ∧ win0_6.index t = ![t.val / 2 * 8 + min (t.val % 2 * 4 + 4) 7, 0] ∧ win0_7.index t = ![t.val, 0] ∧ win0_8.index t = ![t.val, 0] := by
  decide +kernel

/-- A grid point's class. -/
def cls (t : Fin cfg0.N) : Fin 16 := ⟨t.val / 2, Nat.div_lt_of_lt_mul t.isLt⟩

section
variable (c : Dev nD) (t : Fin cfg0.N)

theorem q_blk (r : Fin 256) (x : Fin 512) (P : Fin 8192) (hP : P.val = t.val * 256 + r.val) : iblk m c 0 t (ix2 r x) = V m c main_v5 (ix2 P ⟨x.val, by omega⟩) := by
  blk_point [iblk, idx t]
theorem k_cur (r : Fin 256) (x : Fin 512) (P : Fin 8192) (hP : P.val = t.val * 256 + r.val) : iblk m c 2 t (ix2 r x) = V m c main_v5 (ix2 P ⟨512 + x.val, by omega⟩) := by
  blk_point [iblk, idx t]
theorem k_prev (r : Fin 64) (x : Fin 512) (P : Fin 8192) (hP : P.val = (t.val / 2 * 8 + max (t.val % 2 * 4 - 1) 0) * 64 + r.val) :
    iblk m c 1 t (ix2 r x) = V m c main_v5 (ix2 P ⟨512 + x.val, by omega⟩) := by
  blk_point [iblk, idx t]
theorem k_next (r : Fin 64) (x : Fin 512) (P : Fin 8192) (hP : P.val = (t.val / 2 * 8 + min (t.val % 2 * 4 + 4) 7) * 64 + r.val) :
    iblk m c 3 t (ix2 r x) = V m c main_v5 (ix2 P ⟨512 + x.val, by omega⟩) := by
  blk_point [iblk, idx t]
theorem v_cur (r : Fin 256) (x : Fin 512) (P : Fin 8192) (hP : P.val = t.val * 256 + r.val) : iblk m c 5 t (ix2 r x) = V m c main_v10 (ix2 P x) := by
  blk_point [iblk, idx t]
theorem v_prev (r : Fin 64) (x : Fin 512) (P : Fin 8192) (hP : P.val = (t.val / 2 * 8 + max (t.val % 2 * 4 - 1) 0) * 64 + r.val) :
    iblk m c 4 t (ix2 r x) = V m c main_v10 (ix2 P x) := by
  blk_point [iblk, idx t]
theorem v_next (r : Fin 64) (x : Fin 512) (P : Fin 8192) (hP : P.val = (t.val / 2 * 8 + min (t.val % 2 * 4 + 4) 7) * 64 + r.val) :
    iblk m c 6 t (ix2 r x) = V m c main_v10 (ix2 P x) := by
  blk_point [iblk, idx t]

theorem laid_val (j : Fin 512) : (laid rows (cls t) j).val = t.val / 2 * 512 + j.val := rfl

theorem laid_cur (r : ℕ) (j : Fin 512) (hj : j.val = t.val % 2 * 256 + r) : (laid rows (cls t) j).val = t.val * 256 + r := by
  rw [laid_val]
  omega
theorem laid_prev (r : Fin 64) (j : Fin 512) (hj : j.val + 64 = t.val % 2 * 256 + r.val) :
    (laid rows (cls t) j).val = (t.val / 2 * 8 + max (t.val % 2 * 4 - 1) 0) * 64 + r.val := by
  rw [laid_val]
  omega
theorem laid_next (r : Fin 64) (j : Fin 512) (hj : j.val = t.val % 2 * 256 + 256 + r.val) :
    (laid rows (cls t) j).val = (t.val / 2 * 8 + min (t.val % 2 * 4 + 4) 7) * 64 + r.val := by
  rw [laid_val]
  omega

theorem pos : 0 < 512 := by norm_num

variable (h : Fin 8)

theorem q_place (y : Fin 256) (j : Fin 512) (hj : j.val = t.val % 2 * 256 + y.val) (d : Fin 64) :
    iblk m c 0 t (ix2 y (col h d)) = query rows (m ((c : Thread nD τ).loc main_arg0)) h (cls t) j d := by
  rw [q_blk c t y (col h d) _ (laid_cur t _ j hj), V_qk, laidQk_at]
  rfl

theorem k_place (y w : Fin 256) (d : Fin 64) (hw : inWin 512 (t.val % 2) y w) :
    joined (iblk m c 1 t) (iblk m c 2 t) (iblk m c 3 t) (ix2 (slot y w) (col h d)) = key rows (m ((c : Thread nD τ).loc main_arg0)) h (cls t) (place pos (t.val % 2) y w) d := by
  refine joined_place (x := col h d) (g := fun j => key rows (m ((c : Thread nD τ).loc main_arg0)) h (cls t) j d) pos (fun r j e => ?_) (fun r j e => ?_) (fun r j e => ?_) hw
  · rw [k_prev c t r _ _ (laid_prev t r j e), V_qk, laidQk_at]
    rfl
  · rw [k_cur c t r _ _ (laid_cur t r j e), V_qk, laidQk_at]
    rfl
  · rw [k_next c t r _ _ (laid_next t r j e), V_qk, laidQk_at]
    rfl

theorem v_place (y w : Fin 256) (d : Fin 64) (hw : inWin 512 (t.val % 2) y w) :
    joined (iblk m c 4 t) (iblk m c 5 t) (iblk m c 6 t) (ix2 (slot y w) (col h d)) = value rows (m ((c : Thread nD τ).loc main_arg1)) h (cls t) d (place pos (t.val % 2) y w) := by
  refine joined_place (x := col h d) (g := value rows (m ((c : Thread nD τ).loc main_arg1)) h (cls t) d) pos (fun r j e => ?_) (fun r j e => ?_) (fun r j e => ?_) hw
  · rw [v_prev c t r _ _ (laid_prev t r j e), V_v, laidV_at]
    rfl
  · rw [v_cur c t r _ _ (laid_cur t r j e), V_v, laidV_at]
    rfl
  · rw [v_next c t r _ _ (laid_next t r j e), V_v, laidV_at]
    rfl

/-- A row of a block as a row of its class. -/
def at_ (y : Fin 256) : Fin 512 := ⟨t.val % 2 * 256 + y.val, by have := Nat.mod_lt t.val (show 0 < 2 by norm_num); omega⟩
end

/-- The mean values. -/
theorem final_O (c : Dev nD) (hx : ∀ i, IsReal (m ((c : Thread nD τ).loc main_arg0) i)) :
    (dats m 0 c).arrAt 7 (cfgs 0).N = Cert.ReferenceAttf16Ideal.Read.val_main_v43 (F := Ideal) (m ((c : Thread nD τ).loc main_arg0)) (m ((c : Thread nD τ).loc main_arg1)) := by
  refine (dats m 0 c).arrAt_eq_of_covers 7 _ (by decide +kernel) fun t hf y => ?_
  blk_simp
  idx_vars y
  have hy : (win0_7.blk t).view.emb (ix2 y0 y1) = ix2 (laid rows (cls t) (at_ t y0)) (col (headOf y1) (laneOf y1)) := by
    rw [col_headOf, show laid rows (cls t) (at_ t y0) = ⟨t.val * 256 + y0.val, by have := t.isLt; change t.val < 32 at this; omega⟩ from Fin.ext (laid_cur t y0.val _ rfl)]
    blk_ext [idx t]
  rw [after0_7, hy, out_at]
  refine (outO_eq _ _ _ _ _ _ _ _ _).trans ?_
  rw [q_eq, k_eq, v_eq, (idx t).1]
  refine Eq.trans ?_ (block_mean pos (y := y0) (h := headOf y1) (P := at_ t y0) rfl
    (fun d => (scaled_at _ _ _).trans (congrArg (· * scale) (q_place c t (headOf y1) y0 _ rfl d))) (fun w d => k_place c t (headOf y1) y0 w d) (fun d => hx _) (fun j d => hx _)
    (fun w => v_place c t (headOf y1) y0 w (laneOf y1)))
  rw [col_headOf]
  rfl

/-- The log-sums. -/
theorem final_L (c : Dev nD) :
    (dats m 0 c).arrAt 8 (cfgs 0).N = Cert.ReferenceAttf16Ideal.Read.val_main_v45 (F := Ideal) (m ((c : Thread nD τ).loc main_arg0)) := by
  refine (dats m 0 c).arrAt_eq_of_covers 8 _ (by decide +kernel) fun t hf y => ?_
  blk_simp
  idx_vars y
  have hy : (win0_8.blk t).view.emb (ix2 y0 y1) = ix2 (laid rows (cls t) (at_ t y0)) (col (headOf y1) (laneOf y1)) := by
    rw [col_headOf, show laid rows (cls t) (at_ t y0) = ⟨t.val * 256 + y0.val, by have := t.isLt; change t.val < 32 at this; omega⟩ from Fin.ext (laid_cur t y0.val _ rfl)]
    blk_ext [idx t]
  rw [after0_8, hy, lse_at]
  refine (outL_eq _ _ _ _ _ _ _ _ _).trans ?_
  rw [q_eq, k_eq, (idx t).1]
  exact block_lse pos (y := y0) (h := headOf y1) (P := at_ t y0) rfl
    (fun d => (scaled_at _ _ _).trans (congrArg (· * scale) (q_place c t (headOf y1) y0 _ rfl d))) (fun w d => k_place c t (headOf y1) y0 w d)

end Cert.KernelAttf16Ideal.Value

end
-- ==== Proof.Attf16.lean ====
/-
  The claim of the sliding-window attention of dilation 16: its mean values and log-sums are the reference's.
-/
module

public import proofs.«01_k».proof.Defs
public import proofs.«01_k».proof.Proof.Attf16Value
public import proofs.«01_k».proof.Proof.Gen.ReferenceAttf16Ideal.Run
public import proofs.«01_k».proof.Proof.Gen.Pre_finite_attf16
public import Idealize.ShloMosaic.Lib.Claim

@[expose] public section

set_option maxRecDepth 16384

noncomputable section

namespace Cert.Attf16

open Idealize.ShloMosaic Idealize.ShloMosaic.TcCoe Idealize.SL.Sem
open Cert.KernelAttf16Ideal Cert.Reals

/-- What the precondition says of the argument. -/
theorem finite {m : (ℓ : Loc nD τ sig) → Buf (Elt Ideal) ℓ} (h : Cert.Pre_KernelAttf16Ideal_finite_attf16 m) (c : Dev nD) (i) :
    IsReal (m ((c : Thread nD τ).loc main_arg0) i) := isReal_of_cmpf (congrFun (h c) i)

section
open Cert.ReferenceAttf16Ideal Cert.ReferenceAttf16Ideal.Read

/-- What the reference's run leaves, by the names of its stages. -/
theorem reference_run (m : (ℓ : Loc Cert.ReferenceAttf16Ideal.nD Cert.ReferenceAttf16Ideal.τ Cert.ReferenceAttf16Ideal.sig) → Buf (Elt Ideal) ℓ)
    (ρ : Dev Cert.ReferenceAttf16Ideal.nD → PrngReg) :
    θ_run Cert.ReferenceAttf16Ideal.defs (onTc (τ := Cert.ReferenceAttf16Ideal.τ) (Cert.ReferenceAttf16Ideal.main (F := Ideal))) ⟨m, fun _ => 0, ρ⟩ fun r => ∀ c : Dev Cert.ReferenceAttf16Ideal.nD,
      r.2.mem ((c.tc : Thread Cert.ReferenceAttf16Ideal.nD Cert.ReferenceAttf16Ideal.τ).loc Cert.ReferenceAttf16Ideal.main_v43)
          = val_main_v43 (F := Ideal) (m ((c.tc : Thread _ _).loc Cert.ReferenceAttf16Ideal.main_arg0)) (m ((c.tc : Thread _ _).loc Cert.ReferenceAttf16Ideal.main_arg1))
      ∧ r.2.mem ((c.tc : Thread Cert.ReferenceAttf16Ideal.nD Cert.ReferenceAttf16Ideal.τ).loc Cert.ReferenceAttf16Ideal.main_v45) = val_main_v45 (F := Ideal) (m ((c.tc : Thread _ _).loc Cert.ReferenceAttf16Ideal.main_arg0))
      ∧ r.2.mem ((c.tc : Thread Cert.ReferenceAttf16Ideal.nD Cert.ReferenceAttf16Ideal.τ).loc Cert.ReferenceAttf16Ideal.main_arg0) = m ((c.tc : Thread _ _).loc Cert.ReferenceAttf16Ideal.main_arg0)
      ∧ r.2.mem ((c.tc : Thread Cert.ReferenceAttf16Ideal.nD Cert.ReferenceAttf16Ideal.τ).loc Cert.ReferenceAttf16Ideal.main_arg1) = m ((c.tc : Thread _ _).loc Cert.ReferenceAttf16Ideal.main_arg1) :=
  (θ_run _ _ _).mono (fun _ h c => ⟨(h c).1.trans (val_main_v43_eq m c), (h c).2.1.trans (val_main_v45_eq m c), (h c).2.2.1, (h c).2.2.2⟩) (Cert.ReferenceAttf16Ideal.Value.run m ρ)
end

theorem algebraic : Cert.algebraic_KernelAttf16Ideal_ReferenceAttf16Ideal_pre_finite_attf16 := by
  pair_intro
  · run_from Cert.KernelAttf16Ideal.Value.run_blocks m g
  · refine Idealize.ShloMosaic.θ_run_mono (reference_run m' g') fun r hr c => ?_
    obtain ⟨e0, e1, e2, e3⟩ := hr c
    obtain ⟨h0, h1⟩ := hagree c
    rw [h0] at e1
    rw [h0, h1] at e0
    exact ⟨e0.trans (Cert.KernelAttf16Ideal.Value.final_O c (finite hpre c)).symm, e1.trans (Cert.KernelAttf16Ideal.Value.final_L c).symm, e2, e3⟩

end Cert.Attf16

end
-- ==== Proof.RmsValue.lean ====
/-
  The norm of the stream's rows (`rms_mix`): sixteen blocks of 512 rows.
-/
module

public import proofs.«01_k».proof.Proof.Norm
public import proofs.«01_k».proof.Proof.Gen.KernelRmsIdeal.Value
public import proofs.«01_k».proof.Proof.Gen.ReferenceRmsIdeal.Read

@[expose] public section

set_option maxRecDepth 16384

noncomputable section

namespace Cert.KernelRmsIdeal.Value

open Cert.KernelRmsIdeal Cert.KernelRmsIdeal.Gen Idealize.ShloMosaic Idealize.ShloMosaic.TcCoe Idealize.SL.Sem
open Idealize.ShloMosaic.Pipeline (Dat)
open Cert.ReferenceRmsIdeal.Read Cert.Reals Cert.Norm

/-- A row of a block, normed. -/
theorem pay_at (x : FVec Ideal S512x1024 .f32) (g : FVec Ideal S1x1024 .f32) (i : Fin 512) (k : Fin 1024) :
    k0_pay1 (F := Ideal) x g (ix2 i k) = x (ix2 i k) * invRms (fun j => x (ix2 i j)) * g (ix2 0 k) := by
  pointwise [k0_pay1]
  rfl

/-- A row of the reference's result. -/
theorem ref_at (X : FVec Ideal S8192x1024 .f32) (g : FVec Ideal S1x1024 .f32) (n : Fin 8192) (k : Fin 1024) :
    val_main_v14 (F := Ideal) X g (ix2 n k) = X (ix2 n k) * invRms (fun j => X (ix2 n j)) * g (ix2 0 k) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]
  rfl

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

section
variable (c : Dev nD) (t : Fin cfg0.N)

theorem blk_x (i : Fin 512) (k : Fin 1024) (h : t.val * 512 + i.val < 8192) : iblk m c 0 t (ix2 i k) = m ((c : Thread nD τ).loc main_arg0) (ix2 ⟨t.val * 512 + i.val, h⟩ k) := by
  blk_point [iblk, V, idx t]
theorem blk_g (k : Fin 1024) : iblk m c 1 t (ix2 0 k) = m ((c : Thread nD τ).loc main_arg1) (ix2 0 k) := by
  blk_point [iblk, V, idx t]
end

theorem final2 (c : Dev nD) : (dats m 0 c).arrAt 2 (cfgs 0).N = val_main_v14 (F := Ideal) (m ((c : Thread nD τ).loc main_arg0)) (m ((c : Thread nD τ).loc main_arg1)) := by
  refine (dats m 0 c).arrAt_eq_of_covers 2 _ (by decide +kernel) fun t hf y => ?_
  blk_simp
  idx_vars y
  have hN : t.val < 16 := t.isLt
  have h : t.val * 512 + y0.val < 8192 := by omega
  rw [after0_2]
  have e : (win0_2.blk t).view.emb (ix2 y0 y1) = ix2 ⟨t.val * 512 + y0.val, h⟩ y1 := by blk_ext [idx t]
  rw [e]
  refine Eq.trans ?_ (ref_at _ _ _ _).symm
  frame_out
  rw [pay_at]
  simp only [blk_x m c t y0 _ h, blk_g]

end Cert.KernelRmsIdeal.Value

end
-- ==== Proof.Rms.lean ====
/-
  `rms_mix`: the claim. The kernel's rows are the reference's, whatever the arguments hold.
-/
module

public import proofs.«01_k».proof.Defs
public import proofs.«01_k».proof.Proof.RmsValue
public import proofs.«01_k».proof.Proof.Gen.ReferenceRmsIdeal.Run
public import Idealize.ShloMosaic.Lib.Claim

@[expose] public section

set_option maxRecDepth 16384

noncomputable section

namespace Cert.Rms

open Idealize.ShloMosaic Idealize.ShloMosaic.TcCoe Idealize.SL.Sem
open Cert.KernelRmsIdeal

theorem algebraic : Cert.algebraic_KernelRmsIdeal_ReferenceRmsIdeal := by
  pair_intro
  · run_from Cert.KernelRmsIdeal.Value.run_blocks m g
  · run_from Cert.ReferenceRmsIdeal.Value.run m' g'
    exact (Cert.ReferenceRmsIdeal.Read.val_main_v14_eq _ _).trans (Cert.KernelRmsIdeal.Value.final2 m c).symm

end Cert.Rms

end
-- ==== Proof.XoValue.lean ====
/-
  The cross-attention's product added to the stream, and the norm after it (`mm_xo_rms`): sixteen blocks of 512 rows.
-/
module

public import proofs.«01_k».proof.Proof.Norm
public import proofs.«01_k».proof.Proof.Gen.KernelXoIdeal.Value
public import proofs.«01_k».proof.Proof.Gen.ReferenceXoIdeal.Read

@[expose] public section

set_option maxRecDepth 16384

noncomputable section

namespace Cert.KernelXoIdeal.Value

open Cert.KernelXoIdeal Cert.KernelXoIdeal.Gen Idealize.ShloMosaic Idealize.ShloMosaic.TcCoe Idealize.SL.Sem
open Idealize.ShloMosaic.Pipeline (Dat)
open Cert.ReferenceXoIdeal.Read Cert.Reals Cert.Norm

/-- An entry of a block: the product of a row with a column, and the stream's entry. -/
theorem pay_sum (a : FVec Ideal S512x1024 .bf16) (w : FVec Ideal S1x1024x1024 .bf16) (x : FVec Ideal S512x1024 .f32) (i : Fin 512) (k : Fin 1024) :
    k0_pay1 (F := Ideal) a w x (ix2 i k) = (∑ l : Fin 1024, a (ix2 i l) * w (ix3 0 l k)) + x (ix2 i k) := by
  pointwise [k0_pay1]

/-- A row of a block, normed. -/
theorem pay_norm (a : FVec Ideal S512x1024 .bf16) (w : FVec Ideal S1x1024x1024 .bf16) (x : FVec Ideal S512x1024 .f32) (g : FVec Ideal S1x1024 .f32) (i : Fin 512) (k : Fin 1024) :
    k0_pay2 (F := Ideal) a w x g (ix2 i k)
      = k0_pay1 (F := Ideal) a w x (ix2 i k) * invRms (fun j => k0_pay1 (F := Ideal) a w x (ix2 i j)) * g (ix2 0 k) := by
  pointwise [k0_pay2]
  rfl

/-- An entry of the reference's stream. -/
theorem ref_sum (A : FVec Ideal S8192x1024 .bf16) (W : FVec Ideal S1x1024x1024 .f32) (X : FVec Ideal S8192x1024 .f32) (n : Fin 8192) (k : Fin 1024) :
    val_main_v3 (F := Ideal) A W X (ix2 n k) = X (ix2 n k) + ∑ l : Fin 1024, A (ix2 n l) * W (ix3 0 l k) := by
  pointwise [val_main_v0, val_main_v1, val_main_v2, val_main_v3]

/-- A row of the reference's norm. -/
theorem ref_norm (A : FVec Ideal S8192x1024 .bf16) (W : FVec Ideal S1x1024x1024 .f32) (X : FVec Ideal S8192x1024 .f32) (g : FVec Ideal S1x1024 .f32) (n : Fin 8192) (k : Fin 1024) :
    val_main_v18 (F := Ideal) A W X g (ix2 n k)
      = val_main_v3 (F := Ideal) A W X (ix2 n k) * invRms (fun j => val_main_v3 (F := Ideal) A W X (ix2 n j)) * g (ix2 0 k) := by
  pointwise [val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18]
  rfl

theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] :=
  (by decide +kernel : ∀ t : Fin grid0.N, _)

variable (m : (ℓ : Loc nD τ sig) → Buf (Elt Ideal) ℓ)

section
variable (c : Dev nD) (t : Fin cfg0.N) (i : Fin 512) (h : t.val * 512 + i.val < 8192)

theorem blk_a (l : Fin 1024) : iblk m c 0 t (ix2 i l) = m ((c : Thread nD τ).loc main_arg0) (ix2 ⟨t.val * 512 + i.val, h⟩ l) := by
  blk_point [iblk, V, idx t]
theorem blk_w (l k : Fin 1024) : iblk m c 1 t (ix3 0 l k) = m ((c : Thread nD τ).loc main_arg1) (ix3 0 l k) := by
  blk_point [iblk, V, idx t]
theorem blk_x (k : Fin 1024) : iblk m c 2 t (ix2 i k) = m ((c : Thread nD τ).loc main_arg2) (ix2 ⟨t.val * 512 + i.val, h⟩ k) := by
  blk_point [iblk, V, idx t]
theorem blk_g (k : Fin 1024) : iblk m c 3 t (ix2 0 k) = m ((c : Thread nD τ).loc main_arg3) (ix2 0 k) := by
  blk_point [iblk, V, idx t]

/-- An entry of a block is the reference's. -/
theorem sum_eq (k : Fin 1024) :
    k0_pay1 (F := Ideal) (iblk m c 0 t) (iblk m c 1 t) (iblk m c 2 t) (ix2 i k) = val_main_v3 (F := Ideal) (m ((c : Thread nD τ).loc main_arg0)) (m ((c : Thread nD τ).loc main_arg1)) (m ((c : Thread nD τ).loc main_arg2)) (ix2 ⟨t.val * 512 + i.val, h⟩ k) := by
  rw [pay_sum, ref_sum, blk_x m c t i h, add_comm]
  simp only [blk_a m c t i h, blk_w]
end

theorem final4 (c : Dev nD) : (dats m 0 c).arrAt 4 (cfgs 0).N = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  idx_vars y
  have hN : t.val < 16 := t.isLt
  have h : t.val * 512 + y0.val < 8192 := by omega
  rw [after0_4]
  have e : (win0_4.blk t).view.emb (ix2 y0 y1) = ix2 ⟨t.val * 512 + y0.val, h⟩ y1 := by blk_ext [idx t]
  rw [e]
  refine Eq.trans ?_ (sum_eq m c t y0 h y1)
  frame_out

theorem final5 (c : Dev nD) : (dats m 0 c).arrAt 5 (cfgs 0).N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  idx_vars y
  have hN : t.val < 16 := t.isLt
  have h : t.val * 512 + y0.val < 8192 := by omega
  rw [after0_5]
  have e : (win0_5.blk t).view.emb (ix2 y0 y1) = ix2 ⟨t.val * 512 + y0.val, h⟩ y1 := by blk_ext [idx t]
  rw [e]
  refine Eq.trans ?_ (ref_norm _ _ _ _ _ _).symm
  frame_out
  rw [pay_norm]
  simp only [sum_eq m c t y0 h, blk_g]

end Cert.KernelXoIdeal.Value

end
-- ==== Proof.Xo.lean ====
/-
  `mm_xo_rms`: the claim. The stream and its norm are the reference's, whatever the arguments hold.
-/
module

public import proofs.«01_k».proof.Defs
public import proofs.«01_k».proof.Proof.XoValue
public import proofs.«01_k».proof.Proof.Gen.ReferenceXoIdeal.Run
public import Idealize.ShloMosaic.Lib.Claim

@[expose] public section

set_option maxRecDepth 16384

noncomputable section

namespace Cert.Xo

open Idealize.ShloMosaic Idealize.ShloMosaic.TcCoe Idealize.SL.Sem
open Cert.KernelXoIdeal

theorem algebraic : Cert.algebraic_KernelXoIdeal_ReferenceXoIdeal := by
  pair_intro
  · run_from Cert.KernelXoIdeal.Value.run_blocks m g
  · run_from Cert.ReferenceXoIdeal.Value.run m' g'
    · exact (Cert.ReferenceXoIdeal.Read.val_main_v3_eq _ _ _).trans (Cert.KernelXoIdeal.Value.final4 m c).symm
    · exact (Cert.ReferenceXoIdeal.Read.val_main_v18_eq _ _ _ _).trans (Cert.KernelXoIdeal.Value.final5 m c).symm

end Cert.Xo

end
-- ==== Proof.OutValue.lean ====
/-
  The mixers' product added to the stream, and the norm after it (`mm_out_rms`): sixteen blocks of 512 rows, the attention's and the convolution's columns side by side.
-/
module

public import proofs.«01_k».proof.Proof.Norm
public import proofs.«01_k».proof.Proof.Gen.KernelOutIdeal.Value
public import proofs.«01_k».proof.Proof.Gen.ReferenceOutIdeal.Read

@[expose] public section

set_option maxRecDepth 16384

noncomputable section

namespace Cert.KernelOutIdeal.Value

open Cert.KernelOutIdeal Cert.KernelOutIdeal.Gen Idealize.ShloMosaic Idealize.ShloMosaic.TcCoe Idealize.SL.Sem
open Idealize.ShloMosaic.Pipeline (Dat)
open Cert.ReferenceOutIdeal.Read Cert.Reals Cert.Norm

/-- Two rows of 512 side by side, times a column of 1024. -/
def halves (a b : Fin 512 → EReal) (w : Fin 1024 → EReal) : EReal :=
  (∑ l : Fin 512, a l * w ⟨l.val, by omega⟩) + ∑ l : Fin 512, b l * w ⟨512 + l.val, by omega⟩

/-- An entry of a block: the product of a row with a column, and the stream's entry. -/
theorem pay_sum (a b : FVec Ideal S512x512 .bf16) (w : FVec Ideal S1x1024x1024 .bf16) (x : FVec Ideal S512x1024 .f32) (i : Fin 512) (k : Fin 1024) :
    k0_pay1 (F := Ideal) a b w x (ix2 i k) = halves (fun l => a (ix2 i l)) (fun l => b (ix2 i l)) (fun l => w (ix3 0 l k)) + x (ix2 i k) := by
  pointwise [k0_pay1]
  rfl

/-- A row of a block, normed. -/
theorem pay_norm (a b : FVec Ideal S512x512 .bf16) (w : FVec Ideal S1x1024x1024 .bf16) (x : FVec Ideal S512x1024 .f32) (g : FVec Ideal S1x1024 .f32) (i : Fin 512) (k : Fin 1024) :
    k0_pay2 (F := Ideal) a b w x g (ix2 i k)
      = k0_pay1 (F := Ideal) a b w x (ix2 i k) * invRms (fun j => k0_pay1 (F := Ideal) a b w x (ix2 i j)) * g (ix2 0 k) := by
  pointwise [k0_pay2]
  rfl

/-- An entry of the reference's stream. -/
theorem ref_sum (A B : FVec Ideal S8192x512 .bf16) (W : FVec Ideal S1x1024x1024 .f32) (X : FVec Ideal S8192x1024 .f32) (n : Fin 8192) (k : Fin 1024) :
    val_main_v4 (F := Ideal) A B W X (ix2 n k) = X (ix2 n k) + halves (fun l => A (ix2 n l)) (fun l => B (ix2 n l)) (fun l => W (ix3 0 l k)) := by
  pointwise [val_main_v0, val_main_v1, val_main_v2, val_main_v3, val_main_v4]
  rfl

/-- A row of the reference's norm. -/
theorem ref_norm (A B : FVec Ideal S8192x512 .bf16) (W : FVec Ideal S1x1024x1024 .f32) (X : FVec Ideal S8192x1024 .f32) (g : FVec Ideal S1x1024 .f32) (n : Fin 8192) (k : Fin 1024) :
    val_main_v19 (F := Ideal) A B W X g (ix2 n k)
      = val_main_v4 (F := Ideal) A B W X (ix2 n k) * invRms (fun j => val_main_v4 (F := Ideal) A B W X (ix2 n j)) * g (ix2 0 k) := by
  pointwise [val_main_v5, val_main_v6, val_main_cst, val_main_v7, val_main_v8, val_main_cst_0, val_main_v9, val_main_v10, val_main_cst_1, val_main_v11, val_main_v12, val_main_v13, val_main_v14, val_main_v15, val_main_v16, val_main_v17, val_main_v18, val_main_v19]
  rfl

theorem idx : ∀ t : Fin cfg0.N, win0_0.index t = ![t.val, 0] ∧ win0_1.index t = ![t.val, 0] ∧ win0_2.index t = ![0, 0, 0] ∧ win0_3.index t = ![t.val, 0] ∧ win0_4.index t = ![0, 0]
    ∧ win0_5.index t = ![t.val, 0] ∧ win0_6.index t = ![t.val, 0] :=
  (by decide +kernel : ∀ t : Fin grid0.N, _)

variable (m : (ℓ : Loc nD τ sig) → Buf (Elt Ideal) ℓ)

section
variable (c : Dev nD) (t : Fin cfg0.N) (i : Fin 512) (h : t.val * 512 + i.val < 8192)

theorem blk_a (l : Fin 512) : iblk m c 0 t (ix2 i l) = m ((c : Thread nD τ).loc main_arg0) (ix2 ⟨t.val * 512 + i.val, h⟩ l) := by
  blk_point [iblk, V, idx t]
theorem blk_b (l : Fin 512) : iblk m c 1 t (ix2 i l) = m ((c : Thread nD τ).loc main_arg1) (ix2 ⟨t.val * 512 + i.val, h⟩ l) := by
  blk_point [iblk, V, idx t]
theorem blk_w (l k : Fin 1024) : iblk m c 2 t (ix3 0 l k) = m ((c : Thread nD τ).loc main_arg2) (ix3 0 l k) := by
  blk_point [iblk, V, idx t]
theorem blk_x (k : Fin 1024) : iblk m c 3 t (ix2 i k) = m ((c : Thread nD τ).loc main_arg3) (ix2 ⟨t.val * 512 + i.val, h⟩ k) := by
  blk_point [iblk, V, idx t]
theorem blk_g (k : Fin 1024) : iblk m c 4 t (ix2 0 k) = m ((c : Thread nD τ).loc main_arg4) (ix2 0 k) := by
  blk_point [iblk, V, idx t]

/-- An entry of a block is the reference's. -/
theorem sum_eq (k : Fin 1024) :
    k0_pay1 (F := Ideal) (iblk m c 0 t) (iblk m c 1 t) (iblk m c 2 t) (iblk m c 3 t) (ix2 i k) = val_main_v4 (F := Ideal) (m ((c : Thread nD τ).loc main_arg0)) (m ((c : Thread nD τ).loc main_arg1)) (m ((c : Thread nD τ).loc main_arg2)) (m ((c : Thread nD τ).loc main_arg3)) (ix2 ⟨t.val * 512 + i.val, h⟩ k) := by
  rw [pay_sum, ref_sum, blk_x m c t i h, add_comm]
  simp only [blk_a m c t i h, blk_b m c t i h, blk_w]
end

theorem final5 (c : Dev nD) : (dats m 0 c).arrAt 5 (cfgs 0).N = val_main_v4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  idx_vars y
  have hN : t.val < 16 := t.isLt
  have h : t.val * 512 + y0.val < 8192 := by omega
  rw [after0_5]
  have e : (win0_5.blk t).view.emb (ix2 y0 y1) = ix2 ⟨t.val * 512 + y0.val, h⟩ y1 := by blk_ext [idx t]
  rw [e]
  refine Eq.trans ?_ (sum_eq m c t y0 h y1)
  frame_out

theorem final6 (c : Dev nD) : (dats m 0 c).arrAt 6 (cfgs 0).N = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  idx_vars y
  have hN : t.val < 16 := t.isLt
  have h : t.val * 512 + y0.val < 8192 := by omega
  rw [after0_6]
  have e : (win0_6.blk t).view.emb (ix2 y0 y1) = ix2 ⟨t.val * 512 + y0.val, h⟩ y1 := by blk_ext [idx t]
  rw [e]
  refine Eq.trans ?_ (ref_norm _ _ _ _ _ _ _).symm
  frame_out
  rw [pay_norm]
  simp only [sum_eq m c t y0 h, blk_g]

end Cert.KernelOutIdeal.Value

end
-- ==== Proof.Out.lean ====
/-
  `mm_out_rms`: the claim. The stream and its norm are the reference's, whatever the arguments hold.
-/
module

public import proofs.«01_k».proof.Defs
public import proofs.«01_k».proof.Proof.OutValue
public import proofs.«01_k».proof.Proof.Gen.ReferenceOutIdeal.Run
public import Idealize.ShloMosaic.Lib.Claim

@[expose] public section

set_option maxRecDepth 16384

noncomputable section

namespace Cert.Out

open Idealize.ShloMosaic Idealize.ShloMosaic.TcCoe Idealize.SL.Sem
open Cert.KernelOutIdeal

theorem algebraic : Cert.algebraic_KernelOutIdeal_ReferenceOutIdeal := by
  pair_intro
  · run_from Cert.KernelOutIdeal.Value.run_blocks m g
  · run_from Cert.ReferenceOutIdeal.Value.run m' g'
    · exact (Cert.ReferenceOutIdeal.Read.val_main_v4_eq _ _ _ _).trans (Cert.KernelOutIdeal.Value.final5 m c).symm
    · exact (Cert.ReferenceOutIdeal.Read.val_main_v19_eq _ _ _ _ _).trans (Cert.KernelOutIdeal.Value.final6 m c).symm

end Cert.Out

end
-- ==== Proof.UpValue.lean ====
/-
  The MLP's first product and its ReLU (`mm_up`): four blocks of 2048 rows by four slabs of 1024 columns.
-/
module

public import proofs.«01_k».proof.Proof.Norm
public import proofs.«01_k».proof.Proof.Gen.KernelUpIdeal.Value
public import proofs.«01_k».proof.Proof.Gen.ReferenceUpIdeal.Read

@[expose] public section

set_option maxRecDepth 16384

noncomputable section

namespace Cert.KernelUpIdeal.Value

open Cert.KernelUpIdeal Cert.KernelUpIdeal.Gen Idealize.ShloMosaic Idealize.ShloMosaic.TcCoe Idealize.SL.Sem
open Idealize.ShloMosaic.Pipeline (Dat)
open Cert.ReferenceUpIdeal.Read Cert.Reals Cert.Norm

/-- An entry of a block: the product of a row with a column, not below zero. -/
theorem pay_at (a : FVec Ideal S2048x1024 .bf16) (w : FVec Ideal S1x1024x1024 .bf16) (i : Fin 2048) (k : Fin 1024) :
    k0_pay1 (F := Ideal) a w (ix2 i k) = max (∑ l : Fin 1024, a (ix2 i l) * w (ix3 0 l k)) 0 := by
  pointwise [k0_pay1]

/-- An entry of the reference's result. -/
theorem ref_at (A : FVec Ideal S8192x1024 .bf16) (W : FVec Ideal S1x1024x4096 .f32) (n : Fin 8192) (k : Fin 4096) :
    val_main_v4 (F := Ideal) A W (ix2 n k) = max (∑ l : Fin 1024, A (ix2 n l) * W (ix3 0 l k)) 0 := by
  pointwise [val_main_v0, val_main_v1, val_main_v2, val_main_call0_cst, val_main_call0_v0, val_main_v3, val_main_v4]

theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

variable (m : (ℓ : Loc nD τ sig) → Buf (Elt Ideal) ℓ)

section
variable (c : Dev nD) (t : Fin cfg0.N)

theorem blk_a (i : Fin 2048) (l : Fin 1024) (h : t.val / 4 * 2048 + i.val < 8192) : iblk m c 0 t (ix2 i l) = m ((c : Thread nD τ).loc main_arg0) (ix2 ⟨t.val / 4 * 2048 + i.val, h⟩ l) := by
  blk_point [iblk, V, idx t]
theorem blk_w (l k : Fin 1024) : iblk m c 1 t (ix3 0 l k) = m ((c : Thread nD τ).loc main_arg1) (ix3 0 l ⟨t.val % 4 * 1024 + k.val, by omega⟩) := by
  blk_point [iblk, V, idx t]
end

theorem final2 (c : Dev nD) : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  idx_vars y
  have hN : t.val < 16 := t.isLt
  have h : t.val / 4 * 2048 + y0.val < 8192 := by omega
  rw [after0_2]
  have e : (win0_2.blk t).view.emb (ix2 y0 y1) = ix2 ⟨t.val / 4 * 2048 + y0.val, h⟩ ⟨t.val % 4 * 1024 + y1.val, by omega⟩ := by blk_ext [idx t]
  rw [e]
  refine Eq.trans ?_ (ref_at _ _ _ _).symm
  frame_out
  rw [pay_at]
  simp only [blk_a m c t y0 _ h, blk_w]

end Cert.KernelUpIdeal.Value

end
-- ==== Proof.Up.lean ====
/-
  `mm_up`: the claim. The kernel's entries are the reference's, whatever the arguments hold.
-/
module

public import proofs.«01_k».proof.Defs
public import proofs.«01_k».proof.Proof.UpValue
public import proofs.«01_k».proof.Proof.Gen.ReferenceUpIdeal.Run
public import Idealize.ShloMosaic.Lib.Claim

@[expose] public section

set_option maxRecDepth 16384

noncomputable section

namespace Cert.Up

open Idealize.ShloMosaic Idealize.ShloMosaic.TcCoe Idealize.SL.Sem
open Cert.KernelUpIdeal

theorem algebraic : Cert.algebraic_KernelUpIdeal_ReferenceUpIdeal := by
  pair_intro
  · run_from Cert.KernelUpIdeal.Value.run_blocks m g
  · run_from Cert.ReferenceUpIdeal.Value.run m' g'
    exact (Cert.ReferenceUpIdeal.Read.val_main_v4_eq _ _).trans (Cert.KernelUpIdeal.Value.final2 m c).symm

end Cert.Up

end
-- ==== Proof.DeltaRef.lean ====
/-
  The row sums of the attention's cotangent times its output (`_att_delta`): the reference's results entry by entry. A head's sum
  stands in each of its 64 columns; a class takes every fourth (or sixteenth) row.
-/
module

public import proofs.«01_k».proof.Proof.Norm
public import proofs.«01_k».proof.Proof.Gen.ReferenceDeltaIdeal.Read

@[expose] public section

set_option maxRecDepth 16384

noncomputable section

namespace Cert.DeltaRef

open Cert.ReferenceDeltaIdeal Cert.ReferenceDeltaIdeal.Read Idealize.ShloMosaic Idealize.ShloMosaic.TcCoe Idealize.SL.Sem

abbrev Cot : Type := (⟨S8192x1024, .bf16⟩ : BufTy).Contents (Elt Ideal)
abbrev Att : Type := (⟨S8192x512, .bf16⟩ : BufTy).Contents (Elt Ideal)

/-- The sum of a row's products over the head of column `k`. -/
def rowSum (A : Cot) (B : Att) (n : Fin 8192) (k : Fin 512) : EReal :=
  ∑ j : Fin 64, A (ix2 n ⟨k.val / 64 * 64 + j.val, by omega⟩) * B (ix2 n ⟨k.val / 64 * 64 + j.val, by omega⟩)

variable (A : Cot) (B : Att)

theorem head_at (n : Fin 8192) (h : Fin 8) (e : Fin 64) :
    val_main_v14 (F := Ideal) A B (ix3 n h e) = ∑ j : Fin 64, A (ix2 n ⟨h.val * 64 + j.val, by omega⟩) * B (ix2 n ⟨h.val * 64 + j.val, by omega⟩) := by
  pointwise [val_main_v0, val_main_v1, val_main_v2, val_main_v3, val_main_v4, val_main_v9, val_main_cst_0, val_main_v10, val_main_v11, val_main_cst_1, val_main_v12, val_main_v13, val_main_v14]
  exact Fin.sum_univ_one _

theorem sums_at (n : Fin 8192) (k : Fin 512) : val_main_v15 (F := Ideal) A B (ix2 n k) = rowSum A B n k := by
  pointwise [val_main_v15]
  rw [head_at]
  rfl

theorem sums4_at (r : Fin 4) (n : Fin 2048) (k : Fin 512) : val_main_v20 (F := Ideal) A B (ix3 r n k) = rowSum A B ⟨n.val * 4 + r.val, by omega⟩ k := by
  pointwise [val_main_v20, val_main_v19, val_main_v18, val_main_v17, val_main_v16]
  rw [head_at]
  rfl

theorem sums16_at (r : Fin 16) (n : Fin 512) (k : Fin 512) : val_main_v25 (F := Ideal) A B (ix3 r n k) = rowSum A B ⟨n.val * 16 + r.val, by omega⟩ k := by
  pointwise [val_main_v25, val_main_v24, val_main_v23, val_main_v22, val_main_v21]
  rw [head_at]
  rfl

theorem rows4_at (r : Fin 4) (n : Fin 2048) (k : Fin 512) : val_main_v31 (F := Ideal) A (ix3 r n k) = A (ix2 ⟨n.val * 4 + r.val, by omega⟩ ⟨k.val, by omega⟩) := by
  pointwise [val_main_v31, val_main_v30, val_main_v29, val_main_v28, val_main_v27, val_main_v26, val_main_v4, val_main_v3, val_main_v2]

theorem rows16_at (r : Fin 16) (n : Fin 512) (k : Fin 512) : val_main_v37 (F := Ideal) A (ix3 r n k) = A (ix2 ⟨n.val * 16 + r.val, by omega⟩ ⟨k.val, by omega⟩) := by
  pointwise [val_main_v37, val_main_v36, val_main_v35, val_main_v34, val_main_v33, val_main_v32, val_main_v4, val_main_v3, val_main_v2]

end Cert.DeltaRef

end
-- ==== Proof.DeltaScratch.lean ====
/-
  The row sums of the attention's cotangent times its output (`_att_delta`): a block of 512 rows is staged in four lane chunks, and
  the rows of a class (every fourth, or every sixteenth) are read back out of the chunks, a class and a chunk at a time.
-/
module

public import proofs.«01_k».proof.Proof.DeltaRef
public import proofs.«01_k».proof.Proof.Gen.KernelDeltaIdeal.Value
public import Idealize.ShloMosaic.Lib.Pipeline.ReadBack

@[expose] public section

set_option maxRecDepth 16384

noncomputable section

namespace Cert.KernelDeltaIdeal.Value

open Cert.KernelDeltaIdeal Cert.KernelDeltaIdeal.Gen Idealize.ShloMosaic Idealize.ShloMosaic.TcCoe Idealize.SL.Sem

section
variable (P : FVec Ideal S512x512 .f32)

/-- The four lane chunks of a block: chunk, row, lane. -/
def plane (y : S4x512x128.Idx) : EReal :=
  P (ix2 (⟨(y 1).val, (y 1).isLt⟩ : Fin 512) (⟨(y 0).val * 128 + (y 2).val, by have h : (y 0).val < 4 := (y 0).isLt; have h' : (y 2).val < 128 := (y 2).isLt; omega⟩ : Fin 512))

/-- The four classes of a block's rows: class, row of the class, column; -/
def classes4 (y : S4x128x512.Idx) : EReal :=
  P (ix2 (⟨(y 1).val * 4 + (y 0).val, by have h : (y 0).val < 4 := (y 0).isLt; have h' : (y 1).val < 128 := (y 1).isLt; omega⟩ : Fin 512) (⟨(y 2).val, (y 2).isLt⟩ : Fin 512))
/-- the sixteen. -/
def classes16 (y : S16x32x512.Idx) : EReal :=
  P (ix2 (⟨(y 1).val * 16 + (y 0).val, by have h : (y 0).val < 16 := (y 0).isLt; have h' : (y 1).val < 32 := (y 1).isLt; omega⟩ : Fin 512) (⟨(y 2).val, (y 2).isLt⟩ : Fin 512))

theorem at_eq {a a' b b' : ℕ} (ha : a < 512) (ha' : a' < 512) (hb : b < 512) (hb' : b' < 512) (h1 : a = a') (h2 : b = b') :
    P (ix2 (⟨a, ha⟩ : Fin 512) (⟨b, hb⟩ : Fin 512)) = P (ix2 (⟨a', ha'⟩ : Fin 512) (⟨b', hb'⟩ : Fin 512)) := by
  subst h1 h2; rfl

/-- One chunk, cut from the block. -/
theorem chunk_at (c o : ℕ) (ho : o = c * 128) (h3 : S512x512.Slices ![0, o] S512x128)
    (inb : ∀ a, (![c, 0, 0] : Fin 3 → ℕ) a + (![1, 512, 128] : Fin 3 → ℕ) a ≤ S4x512x128.size a) (x : S1x512x128.Idx) :
    shapeCast S1x512x128 (extractStridedSlice S512x128 ![0, o] P h3 : FVec Ideal S512x128 .f32) shapeCasts_S512x128_S1x512x128 x
      = plane P ((Rect.unit (s := S4x512x128) ![c, 0, 0] ![1, 512, 128] inb).emb x) := by
  idx_vars x
  have hx : x2.val < 128 := x2.isLt
  have hc : c + 1 ≤ 4 := inb 0
  have h0 : x0.val = 0 := by omega
  have hb : o + x2.val < 512 := by omega
  refine Eq.trans (b := P (ix2 (⟨x1.val, x1.isLt⟩ : Fin 512) (⟨o + x2.val, hb⟩ : Fin 512))) ?_ ?_
  · pointwise []
  · refine at_eq P _ _ _ _ ?_ ?_
    · show x1.val = 0 + 1 * x1.val; omega
    · show o + x2.val = (c + 1 * x0.val) * 128 + (0 + 1 * x2.val); omega

/-- The four stores, the newest first. -/
abbrev fills : List (View.Piece (Elt Ideal) S4x512x128 .f32) :=
  [⟨Rect.unit (s := S4x512x128) ![3, 0, 0] S1x512x128.size inb_S4x512x128_S1x512x128_3_0_0, k0_pay7 (F := Ideal) P⟩,
   ⟨Rect.unit (s := S4x512x128) ![2, 0, 0] S1x512x128.size inb_S4x512x128_S1x512x128_2_0_0, k0_pay6 (F := Ideal) P⟩,
   ⟨Rect.unit (s := S4x512x128) ![1, 0, 0] S1x512x128.size inb_S4x512x128_S1x512x128_1_0_0, k0_pay5 (F := Ideal) P⟩,
   ⟨Rect.unit (s := S4x512x128) ![0, 0, 0] S1x512x128.size inb_S4x512x128_S1x512x128_0_0_0, k0_pay4 (F := Ideal) P⟩]

theorem fills_eq (y : S4x512x128.Idx) : View.canon (Val := Elt Ideal) (e := .f32) (fills P) y = plane P y := by
  refine View.canon_append_of_piecesOf (Val := Elt Ideal) (e := .f32) (plane P) [] [_, _, _, _] ⟨?_, ?_, ?_, ?_, trivial⟩ y (View.cover_of_tiledL (s := S4x512x128) _ ![1, 512, 128] (by sl_kernel_rfl) y)
  · exact fun x => chunk_at P 3 384 rfl slices_S512x512_o0_384_S512x128 inb_S4x512x128_S1x512x128_3_0_0 x
  · exact fun x => chunk_at P 2 256 rfl slices_S512x512_o0_256_S512x128 inb_S4x512x128_S1x512x128_2_0_0 x
  · exact fun x => chunk_at P 1 128 rfl slices_S512x512_o0_128_S512x128 inb_S4x512x128_S1x512x128_1_0_0 x
  · exact fun x => chunk_at P 0 0 rfl slices_S512x512_o0_0_S512x128 inb_S4x512x128_S1x512x128_0_0_0 x

variable {σ : RefSig} {κ : Kind} {sp : Space} (v : View σ κ sp S4x512x128 .f32)

/-- One class's rows of one chunk, read back: a store of them stages its own part of `classes4`; -/
theorem twice4 (V : FVec Ideal S1x128x128 .f32) (x : S1x128x128.Idx) :
    shapeCast S1x128x128 (shapeCast S128x128 (V : FVec Ideal S1x128x128 .f32) shapeCasts_S1x128x128_S128x128 : FVec Ideal S128x128 .f32) shapeCasts_S128x128_S1x128x128 x = V x := by
  idx_vars x
  have h0 : x0 = 0 := by omega
  subst h0
  pointwise []

theorem take4 (c r o : ℕ) (ho : o = c * 128)
    (inb : ∀ a, (![1, 128, 128] : Fin 3 → ℕ) a = 0 ∨ (![c, r, 0] : Fin 3 → ℕ) a + (![1, 4, 1] : Fin 3 → ℕ) a * ((![1, 128, 128] : Fin 3 → ℕ) a - 1) < S4x512x128.size a)
    (inb' : ∀ a, (![r, 0, o] : Fin 3 → ℕ) a + (![1, 128, 128] : Fin 3 → ℕ) a ≤ S4x128x512.size a) (x : S1x128x128.Idx) :
    shapeCast S1x128x128 (shapeCast S128x128 ((v.readCov (fills P) (⟨![c, r, 0], ![1, 128, 128], ![1, 4, 1], inb⟩ : LoadRect S4x512x128)) : FVec Ideal S1x128x128 .f32) shapeCasts_S1x128x128_S128x128 : FVec Ideal S128x128 .f32) shapeCasts_S128x128_S1x128x128 x
      = classes4 P ((Rect.unit (s := S4x128x512) ![r, 0, o] ![1, 128, 128] inb').emb x) := by
  rw [twice4, View.readCov_eq_canon']
  refine (fills_eq P _).trans ?_
  idx_vars x
  have h0 : x0.val = 0 := by omega
  refine at_eq P _ _ _ _ ?_ ?_
  · show r + 4 * x1.val = (0 + 1 * x1.val) * 4 + (r + 1 * x0.val); omega
  · show (c + 1 * x0.val) * 128 + (0 + 1 * x2.val) = o + 1 * x2.val; omega

/-- of `classes16`; -/
theorem twice16 (V : FVec Ideal S1x32x128 .f32) (x : S1x32x128.Idx) :
    shapeCast S1x32x128 (shapeCast S32x128 (V : FVec Ideal S1x32x128 .f32) shapeCasts_S1x32x128_S32x128 : FVec Ideal S32x128 .f32) shapeCasts_S32x128_S1x32x128 x = V x := by
  idx_vars x
  have h0 : x0 = 0 := by omega
  subst h0
  pointwise []

theorem take16 (c r o : ℕ) (ho : o = c * 128)
    (inb : ∀ a, (![1, 32, 128] : Fin 3 → ℕ) a = 0 ∨ (![c, r, 0] : Fin 3 → ℕ) a + (![1, 16, 1] : Fin 3 → ℕ) a * ((![1, 32, 128] : Fin 3 → ℕ) a - 1) < S4x512x128.size a)
    (inb' : ∀ a, (![r, 0, o] : Fin 3 → ℕ) a + (![1, 32, 128] : Fin 3 → ℕ) a ≤ S16x32x512.size a) (x : S1x32x128.Idx) :
    shapeCast S1x32x128 (shapeCast S32x128 ((v.readCov (fills P) (⟨![c, r, 0], ![1, 32, 128], ![1, 16, 1], inb⟩ : LoadRect S4x512x128)) : FVec Ideal S1x32x128 .f32) shapeCasts_S1x32x128_S32x128 : FVec Ideal S32x128 .f32) shapeCasts_S32x128_S1x32x128 x
      = classes16 P ((Rect.unit (s := S16x32x512) ![r, 0, o] ![1, 32, 128] inb').emb x) := by
  rw [twice16, View.readCov_eq_canon']
  refine (fills_eq P _).trans ?_
  idx_vars x
  have h0 : x0.val = 0 := by omega
  refine at_eq P _ _ _ _ ?_ ?_
  · show r + 16 * x1.val = (0 + 1 * x1.val) * 16 + (r + 1 * x0.val); omega
  · show (c + 1 * x0.val) * 128 + (0 + 1 * x2.val) = o + 1 * x2.val; omega

/-- the same in the narrow format. -/
theorem twice4n (V : FVec Ideal S1x128x128 .f32) (x : S1x128x128.Idx) :
    shapeCast S1x128x128 (truncf .bf16 (shapeCast S128x128 (V : FVec Ideal S1x128x128 .f32) shapeCasts_S1x128x128_S128x128 : FVec Ideal S128x128 .f32) bitsLt_bf16_f32 : FVec Ideal S128x128 .bf16) shapeCasts_S128x128_S1x128x128 x = V x := by
  idx_vars x
  have h0 : x0 = 0 := by omega
  subst h0
  pointwise []

theorem take4n (c r o : ℕ) (ho : o = c * 128)
    (inb : ∀ a, (![1, 128, 128] : Fin 3 → ℕ) a = 0 ∨ (![c, r, 0] : Fin 3 → ℕ) a + (![1, 4, 1] : Fin 3 → ℕ) a * ((![1, 128, 128] : Fin 3 → ℕ) a - 1) < S4x512x128.size a)
    (inb' : ∀ a, (![r, 0, o] : Fin 3 → ℕ) a + (![1, 128, 128] : Fin 3 → ℕ) a ≤ S4x128x512.size a) (x : S1x128x128.Idx) :
    shapeCast S1x128x128 (truncf .bf16 (shapeCast S128x128 ((v.readCov (fills P) (⟨![c, r, 0], ![1, 128, 128], ![1, 4, 1], inb⟩ : LoadRect S4x512x128)) : FVec Ideal S1x128x128 .f32) shapeCasts_S1x128x128_S128x128 : FVec Ideal S128x128 .f32) bitsLt_bf16_f32 : FVec Ideal S128x128 .bf16) shapeCasts_S128x128_S1x128x128 x
      = classes4 P ((Rect.unit (s := S4x128x512) ![r, 0, o] ![1, 128, 128] inb').emb x) := by
  rw [twice4n, View.readCov_eq_canon']
  refine (fills_eq P _).trans ?_
  idx_vars x
  have h0 : x0.val = 0 := by omega
  refine at_eq P _ _ _ _ ?_ ?_
  · show r + 4 * x1.val = (0 + 1 * x1.val) * 4 + (r + 1 * x0.val); omega
  · show (c + 1 * x0.val) * 128 + (0 + 1 * x2.val) = o + 1 * x2.val; omega

/-- Sixteen classes in the narrow format. -/
theorem twice16n (V : FVec Ideal S1x32x128 .f32) (x : S1x32x128.Idx) :
    shapeCast S1x32x128 (truncf .bf16 (shapeCast S32x128 (V : FVec Ideal S1x32x128 .f32) shapeCasts_S1x32x128_S32x128 : FVec Ideal S32x128 .f32) bitsLt_bf16_f32 : FVec Ideal S32x128 .bf16) shapeCasts_S32x128_S1x32x128 x = V x := by
  idx_vars x
  have h0 : x0 = 0 := by omega
  subst h0
  pointwise []

theorem take16n (c r o : ℕ) (ho : o = c * 128)
    (inb : ∀ a, (![1, 32, 128] : Fin 3 → ℕ) a = 0 ∨ (![c, r, 0] : Fin 3 → ℕ) a + (![1, 16, 1] : Fin 3 → ℕ) a * ((![1, 32, 128] : Fin 3 → ℕ) a - 1) < S4x512x128.size a)
    (inb' : ∀ a, (![r, 0, o] : Fin 3 → ℕ) a + (![1, 32, 128] : Fin 3 → ℕ) a ≤ S16x32x512.size a) (x : S1x32x128.Idx) :
    shapeCast S1x32x128 (truncf .bf16 (shapeCast S32x128 ((v.readCov (fills P) (⟨![c, r, 0], ![1, 32, 128], ![1, 16, 1], inb⟩ : LoadRect S4x512x128)) : FVec Ideal S1x32x128 .f32) shapeCasts_S1x32x128_S32x128 : FVec Ideal S32x128 .f32) bitsLt_bf16_f32 : FVec Ideal S32x128 .bf16) shapeCasts_S32x128_S1x32x128 x
      = classes16 P ((Rect.unit (s := S16x32x512) ![r, 0, o] ![1, 32, 128] inb').emb x) := by
  rw [twice16n, View.readCov_eq_canon']
  refine (fills_eq P _).trans ?_
  idx_vars x
  have h0 : x0.val = 0 := by omega
  refine at_eq P _ _ _ _ ?_ ?_
  · show r + 16 * x1.val = (0 + 1 * x1.val) * 16 + (r + 1 * x0.val); omega
  · show (c + 1 * x0.val) * 128 + (0 + 1 * x2.val) = o + 1 * x2.val; omega

end

end Cert.KernelDeltaIdeal.Value

end
-- ==== Proof.DeltaHeads.lean ====
/-
  The row sums of the attention's cotangent times its output (`_att_delta`): a block's sums, a head's sum in each of its 64 columns.
-/
module

public import proofs.«01_k».proof.Proof.DeltaScratch

@[expose] public section

set_option maxRecDepth 16384

noncomputable section

namespace Cert.KernelDeltaIdeal.Value

open Cert.KernelDeltaIdeal Cert.KernelDeltaIdeal.Gen Idealize.ShloMosaic Idealize.ShloMosaic.TcCoe Idealize.SL.Sem

/-- The sum of a row's products over the 64 columns from `o` on. -/
def headSum (x0 x1 : FVec Ideal S512x512 .bf16) (i : Fin 512) (o : ℕ) (h : o + 64 ≤ 512) : EReal :=
  ∑ j : Fin 64, x0 (ix2 i ⟨o + j.val, by omega⟩) * x1 (ix2 i ⟨o + j.val, by omega⟩)

theorem headSum_of (x0 x1 : FVec Ideal S512x512 .bf16) (i : Fin 512) (o : ℕ) (h : o + 64 ≤ 512) (f : Fin 64 → Fin 512) (hf : ∀ j, (f j).val = o + j.val) :
    ∑ j, x0 (ix2 i (f j)) * x1 (ix2 i (f j)) = headSum x0 x1 i o h := by
  refine Finset.sum_congr rfl fun j _ => ?_
  have e : f j = ⟨o + j.val, by omega⟩ := Fin.ext (hf j)
  rw [e]

/-- A block's sums. -/
theorem pay3_at (x0 x1 : FVec Ideal S512x512 .bf16) (i k : Fin 512) :
    k0_pay3 (F := Ideal) x0 x1 (ix2 i k) = headSum x0 x1 i (k.val / 64 * 64) (by omega) := by
  pointwise [k0_pay3, k0_pay2]
  split_ifs
  all_goals exact headSum_of x0 x1 i _ _ _ fun j => by dsimp only; omega

variable (m : (ℓ : Loc nD τ sig) → Buf (Elt Ideal) ℓ)

theorem out2 (c : Dev nD) (t : Fin cfg0.N) (y : S512x512.Idx) : (outsAt0 m c t).1 y = k0_pay3 (F := Ideal) (iblk m c 0 t) (iblk m c 1 t) y := by
  unfold outsAt0
  frame_out

/-- What a point stores of the classes of the sums, -/
theorem out3 (c : Dev nD) (t : Fin cfg0.N) (y : S4x128x512.Idx) : (outsAt0 m c t).2.1 y = classes4 (k0_pay3 (F := Ideal) (iblk m c 0 t) (iblk m c 1 t)) y := by
  unfold outsAt0
  frame_out
  refine View.canon_append_of_piecesOf (Val := Elt Ideal) (e := .f32) (classes4 (k0_pay3 (F := Ideal) (iblk m c 0 t) (iblk m c 1 t))) [] [_, _, _, _, _, _, _, _, _, _, _, _, _, _, _, _] ?_ y (View.cover_of_tiledL (s := S4x128x512) _ ![1, 128, 128] (by sl_kernel_rfl) y)
  iterate 16
    refine And.intro (fun x => ?_) ?_
    · dsimp only
      exact take4 _ _ _ _ _ (by rfl) (by decide) (by decide) x
  exact trivial

theorem out4 (c : Dev nD) (t : Fin cfg0.N) (y : S16x32x512.Idx) : (outsAt0 m c t).2.2.1 y = classes16 (k0_pay3 (F := Ideal) (iblk m c 0 t) (iblk m c 1 t)) y := by
  unfold outsAt0
  frame_out
  refine View.canon_append_of_piecesOf (Val := Elt Ideal) (e := .f32) (classes16 (k0_pay3 (F := Ideal) (iblk m c 0 t) (iblk m c 1 t))) [] [_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _] ?_ y (View.cover_of_tiledL (s := S16x32x512) _ ![1, 32, 128] (by sl_kernel_rfl) y)
  iterate 64
    refine And.intro (fun x => ?_) ?_
    · dsimp only
      exact take16 _ _ _ _ _ (by rfl) (by decide) (by decide) x
  exact trivial

/-- and of the classes of the cotangent. -/
theorem out5 (c : Dev nD) (t : Fin cfg0.N) (y : S4x128x512.Idx) : (outsAt0 m c t).2.2.2.1 y = classes4 (k0_pay2 (F := Ideal) (iblk m c 0 t)) y := by
  unfold outsAt0
  frame_out
  refine View.canon_append_of_piecesOf (Val := Elt Ideal) (e := .bf16) (classes4 (k0_pay2 (F := Ideal) (iblk m c 0 t))) [] [_, _, _, _, _, _, _, _, _, _, _, _, _, _, _, _] ?_ y (View.cover_of_tiledL (s := S4x128x512) _ ![1, 128, 128] (by sl_kernel_rfl) y)
  iterate 16
    refine And.intro (fun x => ?_) ?_
    · dsimp only
      exact take4n _ _ _ _ _ (by rfl) (by decide) (by decide) x
  exact trivial

theorem out6 (c : Dev nD) (t : Fin cfg0.N) (y : S16x32x512.Idx) : (outsAt0 m c t).2.2.2.2 y = classes16 (k0_pay2 (F := Ideal) (iblk m c 0 t)) y := by
  unfold outsAt0
  frame_out
  refine View.canon_append_of_piecesOf (Val := Elt Ideal) (e := .bf16) (classes16 (k0_pay2 (F := Ideal) (iblk m c 0 t))) [] [_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _] ?_ y (View.cover_of_tiledL (s := S16x32x512) _ ![1, 32, 128] (by sl_kernel_rfl) y)
  iterate 64
    refine And.intro (fun x => ?_) ?_
    · dsimp only
      exact take16n _ _ _ _ _ (by rfl) (by decide) (by decide) x
  exact trivial

end Cert.KernelDeltaIdeal.Value

end
-- ==== Proof.DeltaValue.lean ====
/-
  The row sums of the attention's cotangent times its output (`_att_delta`): the five arrays the kernel leaves are the reference's.
-/
module

public import proofs.«01_k».proof.Proof.DeltaHeads

@[expose] public section

set_option maxRecDepth 16384

noncomputable section

namespace Cert.KernelDeltaIdeal.Value

open Cert.KernelDeltaIdeal Cert.KernelDeltaIdeal.Gen Idealize.ShloMosaic Idealize.ShloMosaic.TcCoe Idealize.SL.Sem
open Idealize.ShloMosaic.Pipeline (Dat)
open Cert.ReferenceDeltaIdeal.Read Cert.DeltaRef

theorem idx : ∀ t : Fin cfg0.N, win0_0.index t = ![t.val, 0] ∧ win0_1.index t = ![t.val, 0] ∧ win0_2.index t = ![t.val, 0] ∧ win0_3.index t = ![0, t.val, 0]
    ∧ win0_4.index t = ![0, t.val, 0] ∧ win0_5.index t = ![0, t.val, 0] ∧ win0_6.index t = ![0, t.val, 0] :=
  (by decide +kernel : ∀ t : Fin grid0.N, _)

variable (m : (ℓ : Loc nD τ sig) → Buf (Elt Ideal) ℓ)

section
variable (c : Dev nD) (t : Fin cfg0.N) (i : Fin 512) (n : Fin 8192) (h : t.val * 512 + i.val = n.val)
include h

theorem blk_do (k : Fin 512) : iblk m c 0 t (ix2 i k) = m ((c : Thread nD τ).loc main_arg0) (ix2 n ⟨k.val, by omega⟩) := by
  have hn : t.val * 512 + i.val < 8192 := by omega
  obtain rfl : n = ⟨t.val * 512 + i.val, hn⟩ := Fin.ext h.symm
  blk_point [iblk, V, idx t]
theorem blk_o (k : Fin 512) : iblk m c 1 t (ix2 i k) = m ((c : Thread nD τ).loc main_arg1) (ix2 n k) := by
  have hn : t.val * 512 + i.val < 8192 := by omega
  obtain rfl : n = ⟨t.val * 512 + i.val, hn⟩ := Fin.ext h.symm
  blk_point [iblk, V, idx t]

/-- A block's sums are the rows' sums. -/
theorem sums_blk (k : Fin 512) : k0_pay3 (F := Ideal) (iblk m c 0 t) (iblk m c 1 t) (ix2 i k) = rowSum (m ((c : Thread nD τ).loc main_arg0)) (m ((c : Thread nD τ).loc main_arg1)) n k := by
  rw [pay3_at]
  exact Finset.sum_congr rfl fun j _ => by rw [blk_do m c t i n h, blk_o m c t i n h]

theorem do_blk (k : Fin 512) : k0_pay2 (F := Ideal) (iblk m c 0 t) (ix2 i k) = m ((c : Thread nD τ).loc main_arg0) (ix2 n ⟨k.val, by omega⟩) := by
  refine Eq.trans ?_ (blk_do m c t i n h k)
  pointwise [k0_pay2]
end

theorem final2 (c : Dev nD) : (dats m 0 c).arrAt 2 (cfgs 0).N = val_main_v15 (F := Ideal) (m ((c : Thread nD τ).loc main_arg0)) (m ((c : Thread nD τ).loc main_arg1)) := by
  refine (dats m 0 c).arrAt_eq_of_covers 2 _ (by decide +kernel) fun t hf y => ?_
  blk_simp
  idx_vars y
  have hN : t.val < 16 := t.isLt
  have h : t.val * 512 + y0.val < 8192 := by omega
  rw [after0_2]
  have e : (win0_2.blk t).view.emb (ix2 y0 y1) = ix2 ⟨t.val * 512 + y0.val, h⟩ y1 := by blk_ext [idx t]
  rw [e]
  refine Eq.trans ?_ (sums_at _ _ _ _).symm
  refine (out2 m c t (ix2 y0 y1)).trans ?_
  exact sums_blk m c t y0 _ rfl y1

theorem final3 (c : Dev nD) : (dats m 0 c).arrAt 3 (cfgs 0).N = val_main_v20 (F := Ideal) (m ((c : Thread nD τ).loc main_arg0)) (m ((c : Thread nD τ).loc main_arg1)) := by
  refine (dats m 0 c).arrAt_eq_of_covers 3 _ (by decide +kernel) fun t hf y => ?_
  blk_simp
  idx_vars y
  have hN : t.val < 16 := t.isLt
  have h : t.val * 128 + y1.val < 2048 := by omega
  rw [after0_3]
  have e : (win0_3.blk t).view.emb (ix3 y0 y1 y2) = ix3 y0 ⟨t.val * 128 + y1.val, h⟩ y2 := by blk_ext [idx t]
  rw [e]
  refine Eq.trans ?_ (sums4_at _ _ _ _ _).symm
  refine (out3 m c t (ix3 y0 y1 y2)).trans ?_
  exact sums_blk m c t ⟨y1.val * 4 + y0.val, by omega⟩ _ (by dsimp only; omega) y2

theorem final4 (c : Dev nD) : (dats m 0 c).arrAt 4 (cfgs 0).N = val_main_v25 (F := Ideal) (m ((c : Thread nD τ).loc main_arg0)) (m ((c : Thread nD τ).loc main_arg1)) := by
  refine (dats m 0 c).arrAt_eq_of_covers 4 _ (by decide +kernel) fun t hf y => ?_
  blk_simp
  idx_vars y
  have hN : t.val < 16 := t.isLt
  have h : t.val * 32 + y1.val < 512 := by omega
  rw [after0_4]
  have e : (win0_4.blk t).view.emb (ix3 y0 y1 y2) = ix3 y0 ⟨t.val * 32 + y1.val, h⟩ y2 := by blk_ext [idx t]
  rw [e]
  refine Eq.trans ?_ (sums16_at _ _ _ _ _).symm
  refine (out4 m c t (ix3 y0 y1 y2)).trans ?_
  exact sums_blk m c t ⟨y1.val * 16 + y0.val, by omega⟩ _ (by dsimp only; omega) y2

theorem final5 (c : Dev nD) : (dats m 0 c).arrAt 5 (cfgs 0).N = val_main_v31 (F := Ideal) (m ((c : Thread nD τ).loc main_arg0)) := by
  refine (dats m 0 c).arrAt_eq_of_covers 5 _ (by decide +kernel) fun t hf y => ?_
  blk_simp
  idx_vars y
  have hN : t.val < 16 := t.isLt
  have h : t.val * 128 + y1.val < 2048 := by omega
  rw [after0_5]
  have e : (win0_5.blk t).view.emb (ix3 y0 y1 y2) = ix3 y0 ⟨t.val * 128 + y1.val, h⟩ y2 := by blk_ext [idx t]
  rw [e]
  refine Eq.trans ?_ (rows4_at _ _ _ _).symm
  refine (out5 m c t (ix3 y0 y1 y2)).trans ?_
  exact do_blk m c t ⟨y1.val * 4 + y0.val, by omega⟩ _ (by dsimp only; omega) y2

theorem final6 (c : Dev nD) : (dats m 0 c).arrAt 6 (cfgs 0).N = val_main_v37 (F := Ideal) (m ((c : Thread nD τ).loc main_arg0)) := by
  refine (dats m 0 c).arrAt_eq_of_covers 6 _ (by decide +kernel) fun t hf y => ?_
  blk_simp
  idx_vars y
  have hN : t.val < 16 := t.isLt
  have h : t.val * 32 + y1.val < 512 := by omega
  rw [after0_6]
  have e : (win0_6.blk t).view.emb (ix3 y0 y1 y2) = ix3 y0 ⟨t.val * 32 + y1.val, h⟩ y2 := by blk_ext [idx t]
  rw [e]
  refine Eq.trans ?_ (rows16_at _ _ _ _).symm
  refine (out6 m c t (ix3 y0 y1 y2)).trans ?_
  exact do_blk m c t ⟨y1.val * 16 + y0.val, by omega⟩ _ (by dsimp only; omega) y2

end Cert.KernelDeltaIdeal.Value

end
-- ==== Proof.Delta.lean ====
/-
  `_att_delta`: the claim. The kernel's five arrays are the reference's, whatever the arguments hold.
-/
module

public import proofs.«01_k».proof.Defs
public import proofs.«01_k».proof.Proof.DeltaValue
public import proofs.«01_k».proof.Proof.Gen.ReferenceDeltaIdeal.Run
public import Idealize.ShloMosaic.Lib.Claim

@[expose] public section

set_option maxRecDepth 16384

noncomputable section

namespace Cert.Delta

open Idealize.ShloMosaic Idealize.ShloMosaic.TcCoe Idealize.SL.Sem
open Cert.KernelDeltaIdeal

section
open Cert.ReferenceDeltaIdeal Cert.ReferenceDeltaIdeal.Read

/-- What the reference's run leaves, by the names of its stages. -/
theorem reference_run (m : (ℓ : Loc Cert.ReferenceDeltaIdeal.nD Cert.ReferenceDeltaIdeal.τ Cert.ReferenceDeltaIdeal.sig) → Buf (Elt Ideal) ℓ)
    (ρ : Dev Cert.ReferenceDeltaIdeal.nD → PrngReg) :
    θ_run Cert.ReferenceDeltaIdeal.defs (onTc (τ := Cert.ReferenceDeltaIdeal.τ) (Cert.ReferenceDeltaIdeal.main (F := Ideal))) ⟨m, fun _ => 0, ρ⟩ fun r => ∀ c : Dev Cert.ReferenceDeltaIdeal.nD,
      r.2.mem ((c.tc : Thread Cert.ReferenceDeltaIdeal.nD Cert.ReferenceDeltaIdeal.τ).loc Cert.ReferenceDeltaIdeal.main_v15) = val_main_v15 (F := Ideal) (m ((c.tc : Thread _ _).loc Cert.ReferenceDeltaIdeal.main_arg0)) (m ((c.tc : Thread _ _).loc Cert.ReferenceDeltaIdeal.main_arg1))
      ∧ r.2.mem ((c.tc : Thread Cert.ReferenceDeltaIdeal.nD Cert.ReferenceDeltaIdeal.τ).loc Cert.ReferenceDeltaIdeal.main_v20) = val_main_v20 (F := Ideal) (m ((c.tc : Thread _ _).loc Cert.ReferenceDeltaIdeal.main_arg0)) (m ((c.tc : Thread _ _).loc Cert.ReferenceDeltaIdeal.main_arg1))
      ∧ r.2.mem ((c.tc : Thread Cert.ReferenceDeltaIdeal.nD Cert.ReferenceDeltaIdeal.τ).loc Cert.ReferenceDeltaIdeal.main_v25) = val_main_v25 (F := Ideal) (m ((c.tc : Thread _ _).loc Cert.ReferenceDeltaIdeal.main_arg0)) (m ((c.tc : Thread _ _).loc Cert.ReferenceDeltaIdeal.main_arg1))
      ∧ r.2.mem ((c.tc : Thread Cert.ReferenceDeltaIdeal.nD Cert.ReferenceDeltaIdeal.τ).loc Cert.ReferenceDeltaIdeal.main_v31) = val_main_v31 (F := Ideal) (m ((c.tc : Thread _ _).loc Cert.ReferenceDeltaIdeal.main_arg0))
      ∧ r.2.mem ((c.tc : Thread Cert.ReferenceDeltaIdeal.nD Cert.ReferenceDeltaIdeal.τ).loc Cert.ReferenceDeltaIdeal.main_v37) = val_main_v37 (F := Ideal) (m ((c.tc : Thread _ _).loc Cert.ReferenceDeltaIdeal.main_arg0))
      ∧ r.2.mem ((c.tc : Thread Cert.ReferenceDeltaIdeal.nD Cert.ReferenceDeltaIdeal.τ).loc Cert.ReferenceDeltaIdeal.main_arg0) = m ((c.tc : Thread _ _).loc Cert.ReferenceDeltaIdeal.main_arg0)
      ∧ r.2.mem ((c.tc : Thread Cert.ReferenceDeltaIdeal.nD Cert.ReferenceDeltaIdeal.τ).loc Cert.ReferenceDeltaIdeal.main_arg1) = m ((c.tc : Thread _ _).loc Cert.ReferenceDeltaIdeal.main_arg1) :=
  (θ_run _ _ _).mono (fun _ h c => ⟨(h c).1.trans (val_main_v15_eq _ _), (h c).2.1.trans (val_main_v20_eq _ _), (h c).2.2.1.trans (val_main_v25_eq _ _),
    (h c).2.2.2.1.trans (val_main_v31_eq _), (h c).2.2.2.2.1.trans (val_main_v37_eq _), (h c).2.2.2.2.2.1, (h c).2.2.2.2.2.2⟩) (Cert.ReferenceDeltaIdeal.Value.run m ρ)
end

theorem algebraic : Cert.algebraic_KernelDeltaIdeal_ReferenceDeltaIdeal := by
  pair_intro
  · run_from Cert.KernelDeltaIdeal.Value.run_blocks m g
  · refine Idealize.ShloMosaic.θ_run_mono (reference_run m' g') fun r hr c => ?_
    obtain ⟨e0, e1, e2, e3, e4, e5, e6⟩ := hr c
    obtain ⟨h0, h1⟩ := hagree c
    rw [h0, h1] at e0 e1 e2
    rw [h0] at e3 e4
    exact ⟨e0.trans (Cert.KernelDeltaIdeal.Value.final2 m c).symm, e1.trans (Cert.KernelDeltaIdeal.Value.final3 m c).symm, e2.trans (Cert.KernelDeltaIdeal.Value.final4 m c).symm,
      e3.trans (Cert.KernelDeltaIdeal.Value.final5 m c).symm, e4.trans (Cert.KernelDeltaIdeal.Value.final6 m c).symm, e5, e6⟩

end Cert.Delta

end
-- ==== Proof.DwupValue.lean ====
/-
  The gradient of w_up (`dw_up`): four shards of its columns, each the sum of two products over half of the tokens.
-/
module

public import proofs.«01_k».proof.Proof.Reals
public import proofs.«01_k».proof.Proof.Gen.KernelDwupIdeal.Value
public import proofs.«01_k».proof.Proof.Gen.ReferenceDwupIdeal.Read

@[expose] public section

set_option maxRecDepth 16384

noncomputable section

namespace Cert.KernelDwupIdeal.Value

open Cert.KernelDwupIdeal Cert.KernelDwupIdeal.Gen Idealize.ShloMosaic Idealize.ShloMosaic.TcCoe Idealize.SL.Sem
open Idealize.ShloMosaic.Pipeline (Dat)
open Cert.ReferenceDwupIdeal.Read

/-- The product over the tokens of one block. -/
def part (u d : FVec Ideal S4096x1024 .bf16) (i j : Fin 1024) : EReal := ∑ l : Fin 4096, u (ix2 l i) * d (ix2 l j)

theorem pay_first (u d : FVec Ideal S4096x1024 .bf16) (i j : Fin 1024) : k0_pay2 (F := Ideal) u d (ix2 i j) = part u d i j := by
  pointwise [k0_pay1, k0_pay2]
  rfl

theorem pay_next (u d : FVec Ideal S4096x1024 .bf16) (acc : FVec Ideal S1024x1024 .f32) (i j : Fin 1024) : k0_pay3 (F := Ideal) u d acc (ix2 i j) = acc (ix2 i j) + part u d i j := by
  pointwise [k0_pay1, k0_pay3]
  rfl

theorem pay_out (acc : FVec Ideal S1024x1024 .f32) (i j : Fin 1024) : k0_pay4 (F := Ideal) acc (ix3 0 i j) = acc (ix2 i j) := by
  pointwise [k0_pay4]

theorem ref_at (U : FVec Ideal S8192x1024 .bf16) (D : FVec Ideal S8192x4096 .bf16) (k : Fin 4) (i j : Fin 1024) :
    val_main_v10 (F := Ideal) U D (ix3 k i j) = ∑ n : Fin 8192, U (ix2 n i) * D (ix2 n ⟨k.val * 1024 + j.val, by omega⟩) := by
  pointwise [val_main_v10, val_main_v9, val_main_v8, val_main_v7, val_main_v6, val_main_v5, val_main_v4, val_main_v3, val_main_v0]
  exact Finset.sum_congr rfl fun n _ => mul_comm _ _

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

variable (m : (ℓ : Loc nD τ sig) → Buf (Elt Ideal) ℓ)

section
variable (c : Dev nD) (t : Fin cfg0.N) (l : Fin 4096) (k : Fin 1024)

theorem blk_u : iblk m c 0 t (ix2 l k) = m ((c : Thread nD τ).loc main_arg0) (ix2 ⟨t.val % 2 * 4096 + l.val, by omega⟩ k) := by
  blk_point [iblk, V, idx t]
theorem blk_d (h : t.val / 2 * 1024 + k.val < 4096) : iblk m c 1 t (ix2 l k) = m ((c : Thread nD τ).loc main_arg2) (ix2 ⟨t.val % 2 * 4096 + l.val, by omega⟩ ⟨t.val / 2 * 1024 + k.val, h⟩) := by
  blk_point [iblk, V, idx t]
end

/-- After the second point of a block: the sum of the two points' products. -/
theorem out_at (c : Dev nD) (t : Fin cfg0.N) (h1 : t.val % 2 = 1) (i j : Fin 1024) :
    (outsAt0 m c t.val t.isLt).1 (ix3 0 i j)
      = part (iblk m c 0 ⟨t.val - 1, by omega⟩) (iblk m c 1 ⟨t.val - 1, by omega⟩) i j + part (iblk m c 0 t) (iblk m c 1 t) i j := by
  rw [outsAt0_B m c t (by omega) h1 h1]
  frame_out
  rw [pay_out, pay_next]
  refine congrArg (· + _) ?_
  have e := congrArg Prod.snd (outsAt0_A m c ⟨t.val - 1, by omega⟩ (by show (t.val - 1) % 2 = 0; omega) (by show ¬(t.val - 1) % 2 = 1; omega) (by show ¬(t.val - 1) % 2 = 1; omega))
  rw [(Memref.isWhole_whole _).read_unread]
  refine (congrFun e (ix2 i j)).trans ?_
  frame_out
  exact pay_first _ _ i j

theorem grad_w (c : Dev nD) : (dats m 0 c).arrAt 2 (cfgs 0).N = val_main_v10 (F := Ideal) (m ((c : Thread nD τ).loc main_arg0)) (m ((c : Thread nD τ).loc main_arg2)) := by
  refine (dats m 0 c).arrAt_eq_of_covers 2 _ (by decide +kernel) fun t hf y => ?_
  blk_simp
  idx_vars y
  have hN : t.val < 8 := t.isLt
  have h1 : t.val % 2 = 1 := (flush0_2 t).mp hf
  have h : t.val / 2 * 1024 + y2.val < 4096 := by omega
  have h' : t.val / 2 < 4 := by omega
  obtain rfl : y0 = 0 := Subsingleton.elim _ _
  rw [after0_2]
  have e : (win0_2.blk t).view.emb (ix3 0 y1 y2) = ix3 ⟨t.val / 2, h'⟩ y1 y2 := by blk_ext [idx t]
  rw [e, ref_at]
  refine (out_at m c t h1 y1 y2).trans ?_
  refine Eq.trans ?_ (Fin.sum_mul_add_fin 2 4096 (fun n : Fin 8192 => HMul.hMul (α := EReal) (β := EReal) (γ := EReal) (m ((c : Thread nD τ).loc main_arg0) (ix2 n y1)) (m ((c : Thread nD τ).loc main_arg2) (ix2 n ⟨t.val / 2 * 1024 + y2.val, h⟩))))
  rw [Fin.sum_univ_two]
  have hp : (t.val - 1) / 2 = t.val / 2 := by omega
  have hq : (t.val - 1) % 2 = 0 := by omega
  refine congrArg₂ (· + ·) (Finset.sum_congr rfl fun l _ => ?_) (Finset.sum_congr rfl fun l _ => ?_)
  · rw [blk_u, blk_d m c ⟨t.val - 1, lt_of_le_of_lt (Nat.sub_le _ _) t.isLt⟩ l y2 (by show (t.val - 1) / 2 * 1024 + y2.val < 4096; omega)]
    simp only [hp, hq]
    rfl
  · rw [blk_u, blk_d m c t l y2 h]
    simp only [h1]
    rfl

end Cert.KernelDwupIdeal.Value

end
-- ==== Proof.Dwup.lean ====
/-
  `dw_up`: the claim. The results of the kernel are the derivative's, on all arguments.
-/
module

public import proofs.«01_k».proof.Defs
public import proofs.«01_k».proof.Proof.DwupValue
public import proofs.«01_k».proof.Proof.Gen.ReferenceDwupIdeal.Run
public import Idealize.ShloMosaic.Lib.Claim

@[expose] public section

set_option maxRecDepth 16384

noncomputable section

namespace Cert.Dwup

open Idealize.ShloMosaic Idealize.ShloMosaic.TcCoe Idealize.SL.Sem
open Cert.KernelDwupIdeal

theorem algebraic : Cert.algebraic_KernelDwupIdeal_ReferenceDwupIdeal := by
  pair_intro
  · run_from Cert.KernelDwupIdeal.Value.run_blocks m g
  · run_from Cert.ReferenceDwupIdeal.Value.run m' g'
    exact (Cert.ReferenceDwupIdeal.Read.val_main_v10_eq _ _).trans (Cert.KernelDwupIdeal.Value.grad_w m c).symm

end Cert.Dwup

end
-- ==== Proof.DxoValue.lean ====
/-
  The gradient of the cross-attention's rows (`d_xo`): eight blocks of 1024 rows.
-/
module

public import proofs.«01_k».proof.Proof.Norm
public import proofs.«01_k».proof.Proof.Gen.KernelDxoIdeal.Value
public import proofs.«01_k».proof.Proof.Gen.ReferenceDxoIdeal.Read

@[expose] public section

set_option maxRecDepth 16384

noncomputable section

namespace Cert.KernelDxoIdeal.Value

open Cert.KernelDxoIdeal Cert.KernelDxoIdeal.Gen Idealize.ShloMosaic Idealize.ShloMosaic.TcCoe Idealize.SL.Sem
open Idealize.ShloMosaic.Pipeline (Dat)
open Cert.ReferenceDxoIdeal.Read

/-- An entry of a block: a row of the cotangent times a row of the weight. -/
theorem pay_at (d : FVec Ideal S1024x1024 .bf16) (w : FVec Ideal S1x1024x1024 .bf16) (i k : Fin 1024) :
    k0_pay1 (F := Ideal) d w (ix2 i k) = ∑ l : Fin 1024, d (ix2 i l) * w (ix3 0 k l) := by
  pointwise [k0_pay1]

/-- An entry of the derivative. -/
theorem ref_at (W : FVec Ideal S1x1024x1024 .f32) (D : FVec Ideal S8192x1024 .bf16) (n : Fin 8192) (k : Fin 1024) :
    val_main_v5 (F := Ideal) W D (ix2 n k) = ∑ l : Fin 1024, D (ix2 n l) * W (ix3 0 k l) := by
  pointwise [val_main_v5, val_main_v4, val_main_v3, val_main_v1]

theorem idx : ∀ t : Fin cfg0.N, win0_0.index t = ![t.val, 0] ∧ win0_1.index t = ![0, 0, 0] ∧ win0_2.index t = ![t.val, 0] :=
  (by decide +kernel : ∀ t : Fin grid0.N, _)

variable (m : (ℓ : Loc nD τ sig) → Buf (Elt Ideal) ℓ)

section
variable (c : Dev nD) (t : Fin cfg0.N)

theorem blk_d (i l : Fin 1024) (h : t.val * 1024 + i.val < 8192) : iblk m c 0 t (ix2 i l) = m ((c : Thread nD τ).loc main_arg2) (ix2 ⟨t.val * 1024 + i.val, h⟩ l) := by
  blk_point [iblk, V, idx t]
theorem blk_w (k l : Fin 1024) : iblk m c 1 t (ix3 0 k l) = m ((c : Thread nD τ).loc main_arg1) (ix3 0 k l) := by
  blk_point [iblk, V, idx t]
end

theorem final2 (c : Dev nD) : (dats m 0 c).arrAt 2 (cfgs 0).N = val_main_v5 (F := Ideal) (m ((c : Thread nD τ).loc main_arg1)) (m ((c : Thread nD τ).loc main_arg2)) := by
  refine (dats m 0 c).arrAt_eq_of_covers 2 _ (by decide +kernel) fun t hf y => ?_
  blk_simp
  idx_vars y
  have hN : t.val < 8 := t.isLt
  have h : t.val * 1024 + y0.val < 8192 := by omega
  rw [after0_2]
  have e : (win0_2.blk t).view.emb (ix2 y0 y1) = ix2 ⟨t.val * 1024 + y0.val, h⟩ y1 := by blk_ext [idx t]
  rw [e]
  refine Eq.trans ?_ (ref_at _ _ _ _).symm
  frame_out
  rw [pay_at]
  simp only [blk_d m c t y0 _ h, blk_w]

end Cert.KernelDxoIdeal.Value

end
-- ==== Proof.Dxo.lean ====
/-
  `d_xo`: the claim. The results of the kernel are the derivative's, on all arguments.
-/
module

public import proofs.«01_k».proof.Defs
public import proofs.«01_k».proof.Proof.DxoValue
public import proofs.«01_k».proof.Proof.Gen.ReferenceDxoIdeal.Run
public import Idealize.ShloMosaic.Lib.Claim

@[expose] public section

set_option maxRecDepth 16384

noncomputable section

namespace Cert.Dxo

open Idealize.ShloMosaic Idealize.ShloMosaic.TcCoe Idealize.SL.Sem
open Cert.KernelDxoIdeal

theorem algebraic : Cert.algebraic_KernelDxoIdeal_ReferenceDxoIdeal := by
  pair_intro
  · run_from Cert.KernelDxoIdeal.Value.run_blocks m g
  · run_from Cert.ReferenceDxoIdeal.Value.run m' g'
    exact (Cert.ReferenceDxoIdeal.Read.val_main_v5_eq _ _).trans (Cert.KernelDxoIdeal.Value.final2 m c).symm

end Cert.Dxo

end
-- ==== Proof.RopeScratch.lean ====
/-
  The rotary of the queries and keys (`_rope_fwd`): a block of 512 rows is staged in eight lane chunks, and the rows of a class are
  read back out of them, a class and a chunk at a time.
-/
module

public import proofs.«01_k».proof.Proof.DeltaScratch
public import proofs.«01_k».proof.Proof.Gen.KernelRopeIdeal.Value
public import Idealize.ShloMosaic.Lib.Pipeline.ReadBack

@[expose] public section

set_option maxRecDepth 16384

noncomputable section

namespace Cert.KernelRopeIdeal.Value

open Cert.KernelRopeIdeal Cert.KernelRopeIdeal.Gen Idealize.ShloMosaic Idealize.ShloMosaic.TcCoe Idealize.SL.Sem
open Cert.KernelDeltaIdeal.Value (twice4n twice16n)

section
variable (P : FVec Ideal S512x1024 .f32)

/-- The eight lane chunks of a block: chunk, row, lane. -/
def chunks (y : S8x512x128.Idx) : EReal :=
  P (ix2 (⟨(y 1).val, (y 1).isLt⟩ : Fin 512) (⟨(y 0).val * 128 + (y 2).val, by have h : (y 0).val < 8 := (y 0).isLt; have h' : (y 2).val < 128 := (y 2).isLt; omega⟩ : Fin 1024))

/-- The four classes of a block's rows: class, row of the class, column; -/
def fours (y : S4x128x1024.Idx) : EReal :=
  P (ix2 (⟨(y 1).val * 4 + (y 0).val, by have h : (y 0).val < 4 := (y 0).isLt; have h' : (y 1).val < 128 := (y 1).isLt; omega⟩ : Fin 512) (⟨(y 2).val, (y 2).isLt⟩ : Fin 1024))
/-- the sixteen. -/
def sixteens (y : S16x32x1024.Idx) : EReal :=
  P (ix2 (⟨(y 1).val * 16 + (y 0).val, by have h : (y 0).val < 16 := (y 0).isLt; have h' : (y 1).val < 32 := (y 1).isLt; omega⟩ : Fin 512) (⟨(y 2).val, (y 2).isLt⟩ : Fin 1024))

theorem entry_eq {a a' b b' : ℕ} (ha : a < 512) (ha' : a' < 512) (hb : b < 1024) (hb' : b' < 1024) (h1 : a = a') (h2 : b = b') :
    P (ix2 (⟨a, ha⟩ : Fin 512) (⟨b, hb⟩ : Fin 1024)) = P (ix2 (⟨a', ha'⟩ : Fin 512) (⟨b', hb'⟩ : Fin 1024)) := by
  subst h1 h2; rfl

/-- One chunk, cut from the block. -/
abbrev cut (o : ℕ) (h : S512x1024.Slices ![0, o] S512x128) : FVec Ideal S1x512x128 .f32 :=
  shapeCast S1x512x128 (extractStridedSlice S512x128 ![0, o] P h : FVec Ideal S512x128 .f32) shapeCasts_S512x128_S1x512x128

theorem cut_at (c o : ℕ) (ho : o = c * 128) (h3 : S512x1024.Slices ![0, o] S512x128)
    (inb : ∀ a, (![c, 0, 0] : Fin 3 → ℕ) a + (![1, 512, 128] : Fin 3 → ℕ) a ≤ S8x512x128.size a) (x : S1x512x128.Idx) :
    cut P o h3 x = chunks P ((Rect.unit (s := S8x512x128) ![c, 0, 0] ![1, 512, 128] inb).emb x) := by
  idx_vars x
  have hx : x2.val < 128 := x2.isLt
  have hc : c + 1 ≤ 8 := inb 0
  have h0 : x0.val = 0 := by omega
  have hb : o + x2.val < 1024 := by omega
  refine Eq.trans (b := P (ix2 (⟨x1.val, x1.isLt⟩ : Fin 512) (⟨o + x2.val, hb⟩ : Fin 1024))) ?_ ?_
  · pointwise [cut]
  · refine entry_eq P _ _ _ _ ?_ ?_
    · show x1.val = 0 + 1 * x1.val; omega
    · show o + x2.val = (c + 1 * x0.val) * 128 + (0 + 1 * x2.val); omega

/-- The eight stores, the newest first. -/
abbrev stores : List (View.Piece (Elt Ideal) S8x512x128 .f32) :=
  [⟨Rect.unit (s := S8x512x128) ![7, 0, 0] S1x512x128.size inb_S8x512x128_S1x512x128_7_0_0, cut P 896 slices_S512x1024_o0_896_S512x128⟩,
   ⟨Rect.unit (s := S8x512x128) ![6, 0, 0] S1x512x128.size inb_S8x512x128_S1x512x128_6_0_0, cut P 768 slices_S512x1024_o0_768_S512x128⟩,
   ⟨Rect.unit (s := S8x512x128) ![5, 0, 0] S1x512x128.size inb_S8x512x128_S1x512x128_5_0_0, cut P 640 slices_S512x1024_o0_640_S512x128⟩,
   ⟨Rect.unit (s := S8x512x128) ![4, 0, 0] S1x512x128.size inb_S8x512x128_S1x512x128_4_0_0, cut P 512 slices_S512x1024_o0_512_S512x128⟩,
   ⟨Rect.unit (s := S8x512x128) ![3, 0, 0] S1x512x128.size inb_S8x512x128_S1x512x128_3_0_0, cut P 384 slices_S512x1024_o0_384_S512x128⟩,
   ⟨Rect.unit (s := S8x512x128) ![2, 0, 0] S1x512x128.size inb_S8x512x128_S1x512x128_2_0_0, cut P 256 slices_S512x1024_o0_256_S512x128⟩,
   ⟨Rect.unit (s := S8x512x128) ![1, 0, 0] S1x512x128.size inb_S8x512x128_S1x512x128_1_0_0, cut P 128 slices_S512x1024_o0_128_S512x128⟩,
   ⟨Rect.unit (s := S8x512x128) ![0, 0, 0] S1x512x128.size inb_S8x512x128_S1x512x128_0_0_0, cut P 0 slices_S512x1024_o0_0_S512x128⟩]

theorem stores_eq (y : S8x512x128.Idx) : View.canon (Val := Elt Ideal) (e := .f32) (stores P) y = chunks P y := by
  refine View.canon_append_of_piecesOf (Val := Elt Ideal) (e := .f32) (chunks P) [] [_, _, _, _, _, _, _, _] ?_ y (View.cover_of_tiledL (s := S8x512x128) _ ![1, 512, 128] (by sl_kernel_rfl) y)
  iterate 8
    refine And.intro (fun x => ?_) ?_
    · dsimp only
      exact cut_at P _ _ (by rfl) _ (by decide) x
  exact trivial

variable {κ : Kind} {sp : Space} (v : View sig κ sp S8x512x128 .f32)

/-- One class's rows of one chunk, read back: a store of them stages its own part of `fours`; -/
theorem read4 (c r o : ℕ) (ho : o = c * 128)
    (inb : ∀ a, (![1, 128, 128] : Fin 3 → ℕ) a = 0 ∨ (![c, r, 0] : Fin 3 → ℕ) a + (![1, 4, 1] : Fin 3 → ℕ) a * ((![1, 128, 128] : Fin 3 → ℕ) a - 1) < S8x512x128.size a)
    (inb' : ∀ a, (![r, 0, o] : Fin 3 → ℕ) a + (![1, 128, 128] : Fin 3 → ℕ) a ≤ S4x128x1024.size a) (x : S1x128x128.Idx) :
    shapeCast S1x128x128 (truncf .bf16 (shapeCast S128x128 ((v.readCov (stores P) (⟨![c, r, 0], ![1, 128, 128], ![1, 4, 1], inb⟩ : LoadRect S8x512x128)) : FVec Ideal S1x128x128 .f32) shapeCasts_S1x128x128_S128x128 : FVec Ideal S128x128 .f32) bitsLt_bf16_f32 : FVec Ideal S128x128 .bf16) shapeCasts_S128x128_S1x128x128 x
      = fours P ((Rect.unit (s := S4x128x1024) ![r, 0, o] ![1, 128, 128] inb').emb x) := by
  rw [twice4n, View.readCov_eq_canon']
  refine (stores_eq P _).trans ?_
  idx_vars x
  have h0 : x0.val = 0 := by omega
  refine entry_eq P _ _ _ _ ?_ ?_
  · show r + 4 * x1.val = (0 + 1 * x1.val) * 4 + (r + 1 * x0.val); omega
  · show (c + 1 * x0.val) * 128 + (0 + 1 * x2.val) = o + 1 * x2.val; omega

/-- of `sixteens`. -/
theorem read16 (c r o : ℕ) (ho : o = c * 128)
    (inb : ∀ a, (![1, 32, 128] : Fin 3 → ℕ) a = 0 ∨ (![c, r, 0] : Fin 3 → ℕ) a + (![1, 16, 1] : Fin 3 → ℕ) a * ((![1, 32, 128] : Fin 3 → ℕ) a - 1) < S8x512x128.size a)
    (inb' : ∀ a, (![r, 0, o] : Fin 3 → ℕ) a + (![1, 32, 128] : Fin 3 → ℕ) a ≤ S16x32x1024.size a) (x : S1x32x128.Idx) :
    shapeCast S1x32x128 (truncf .bf16 (shapeCast S32x128 ((v.readCov (stores P) (⟨![c, r, 0], ![1, 32, 128], ![1, 16, 1], inb⟩ : LoadRect S8x512x128)) : FVec Ideal S1x32x128 .f32) shapeCasts_S1x32x128_S32x128 : FVec Ideal S32x128 .f32) bitsLt_bf16_f32 : FVec Ideal S32x128 .bf16) shapeCasts_S32x128_S1x32x128 x
      = sixteens P ((Rect.unit (s := S16x32x1024) ![r, 0, o] ![1, 32, 128] inb').emb x) := by
  rw [twice16n, View.readCov_eq_canon']
  refine (stores_eq P _).trans ?_
  idx_vars x
  have h0 : x0.val = 0 := by omega
  refine entry_eq P _ _ _ _ ?_ ?_
  · show r + 16 * x1.val = (0 + 1 * x1.val) * 16 + (r + 1 * x0.val); omega
  · show (c + 1 * x0.val) * 128 + (0 + 1 * x2.val) = o + 1 * x2.val; omega

end

end Cert.KernelRopeIdeal.Value

end
-- ==== Proof.RopeRef.lean ====
/-
  The rotary of the queries and keys (`_rope_fwd`): the reference's five arrays, entry by entry. The first sixteen lanes of a head
  are turned by the row's angle, eight against eight; the rows of a class are every fourth, or every sixteenth.
-/
module

public import proofs.«01_k».proof.Proof.DyRef
public import proofs.«01_k».proof.Proof.Gen.ReferenceRopeIdeal.Read

@[expose] public section

set_option maxRecDepth 16384

noncomputable section

namespace Cert.RopeRef

open Cert.ReferenceRopeIdeal Cert.ReferenceRopeIdeal.Read Cert.DyRef Idealize.ShloMosaic Idealize.ShloMosaic.TcCoe Idealize.SL.Sem

abbrev Whole : Type := (⟨S8192x2560, .bf16⟩ : BufTy).Contents (Elt Ideal)

/-- A row of queries and keys turned by its angle, at one column. -/
def forward (T : Fin 1024 → EReal) (n : Fin 8192) (b : Fin 1024) : EReal :=
  if h : b.val % 64 < 8 then
    T b * cosines (ix2 n ⟨b.val % 64, h⟩) - T ⟨b.val + 8, by omega⟩ * sines (ix2 n ⟨b.val % 64, h⟩)
  else if h' : b.val % 64 < 16 then
    T b * cosines (ix2 n ⟨b.val % 64 - 8, by omega⟩) + T ⟨b.val - 8, by omega⟩ * sines (ix2 n ⟨b.val % 64 - 8, by omega⟩)
  else T b

section
variable (T : Fin 1024 → EReal) (n : Fin 8192) (b b' : Fin 1024) (j : Fin 8)

theorem forward_lo (hj : b.val % 64 = j.val) (hb : b'.val = b.val + 8) :
    forward T n b = T b * cosines (ix2 n j) - T b' * sines (ix2 n j) := by
  have p : b.val % 64 < 8 := by omega
  have p' : b.val + 8 < 1024 := by omega
  have e : j = ⟨b.val % 64, p⟩ := Fin.ext hj.symm
  have e' : b' = ⟨b.val + 8, p'⟩ := Fin.ext hb
  rw [e', e]
  exact dif_pos (by omega)

theorem forward_mid (hj : b.val % 64 = j.val + 8) (hb : b'.val + 8 = b.val) :
    forward T n b = T b * cosines (ix2 n j) + T b' * sines (ix2 n j) := by
  have p : b.val % 64 - 8 < 8 := by omega
  have p' : b.val - 8 < 1024 := by omega
  have e : j = ⟨b.val % 64 - 8, p⟩ := Fin.ext (by dsimp only; omega)
  have e' : b' = ⟨b.val - 8, p'⟩ := Fin.ext (by dsimp only; omega)
  rw [e', e]
  exact (dif_neg (by omega)).trans (dif_pos (by omega))

theorem forward_hi (hj : 16 ≤ b.val % 64) : forward T n b = T b :=
  (dif_neg (by omega)).trans (dif_neg (by omega))
end

/-- The queries and keys of a row. -/
def row (x : Whole) (n : Fin 8192) (b : Fin 1024) : EReal := x (ix2 n ⟨b.val, by omega⟩)

theorem row_eq (x : Whole) (n : Fin 8192) (b : Fin 1024) (c : ℕ) (hc : c < 2560) (h : c = b.val) : x (ix2 n ⟨c, hc⟩) = row x n b := by
  subst h; rfl

theorem cosines_eq : val_main_v18 (F := Ideal) = cosines := rfl
theorem sines_eq : val_main_v20 (F := Ideal) = sines := rfl
theorem cosines_eq' : val_main_v56 (F := Ideal) = cosines := rfl
theorem sines_eq' : val_main_v58 (F := Ideal) = sines := rfl

/-- A head of the queries, turned; -/
theorem q_at (x : Whole) (n : Fin 8192) (h : Fin 8) (e : Fin 64) (b : Fin 1024) (hb : b.val = (h.val * 64 + e.val)) :
    val_main_v37 (F := Ideal) x (ix4 0 n h e) = forward (row x n) n b := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v19, val_main_v1, val_main_v0]
  by_cases h0 : e.val < 8
  · have p : b.val + 8 < 1024 := by omega
    rw [forward_lo _ n b ⟨b.val + 8, p⟩ ⟨e.val, h0⟩ (by dsimp only; omega) rfl]
    split_ifs <;> first | (exfalso; omega) | exact congrArg₂ (· - ·) (congrArg₂ (· * ·) (row_eq x n _ _ _ (by first | omega | (dsimp only; omega))) rfl) (congrArg₂ (· * ·) (row_eq x n _ _ _ (by first | omega | (dsimp only; omega))) rfl)
  by_cases h1 : e.val < 16
  · have p : b.val - 8 < 1024 := by omega
    rw [forward_mid _ n b ⟨b.val - 8, p⟩ ⟨e.val - 8, by omega⟩ (by dsimp only; omega) (by dsimp only; omega)]
    split_ifs <;> first | (exfalso; omega) | exact congrArg₂ (· + ·) (congrArg₂ (· * ·) (row_eq x n _ _ _ (by first | omega | (dsimp only; omega))) rfl) (congrArg₂ (· * ·) (row_eq x n _ _ _ (by first | omega | (dsimp only; omega))) rfl)
  · rw [forward_hi _ n b (by omega)]
    split_ifs <;> first | (exfalso; omega) | exact row_eq x n _ _ _ (by first | omega | (dsimp only; omega))

/-- and of the keys. -/
theorem k_at (x : Whole) (n : Fin 8192) (h : Fin 8) (e : Fin 64) (b : Fin 1024) (hb : b.val = 512 + (h.val * 64 + e.val)) :
    val_main_v75 (F := Ideal) x (ix4 0 n h e) = forward (row x n) n b := by
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v57, val_main_v39, val_main_v38]
  by_cases h0 : e.val < 8
  · have p : b.val + 8 < 1024 := by omega
    rw [forward_lo _ n b ⟨b.val + 8, p⟩ ⟨e.val, h0⟩ (by dsimp only; omega) rfl]
    split_ifs <;> first | (exfalso; omega) | exact congrArg₂ (· - ·) (congrArg₂ (· * ·) (row_eq x n _ _ _ (by first | omega | (dsimp only; omega))) rfl) (congrArg₂ (· * ·) (row_eq x n _ _ _ (by first | omega | (dsimp only; omega))) rfl)
  by_cases h1 : e.val < 16
  · have p : b.val - 8 < 1024 := by omega
    rw [forward_mid _ n b ⟨b.val - 8, p⟩ ⟨e.val - 8, by omega⟩ (by dsimp only; omega) (by dsimp only; omega)]
    split_ifs <;> first | (exfalso; omega) | exact congrArg₂ (· + ·) (congrArg₂ (· * ·) (row_eq x n _ _ _ (by first | omega | (dsimp only; omega))) rfl) (congrArg₂ (· * ·) (row_eq x n _ _ _ (by first | omega | (dsimp only; omega))) rfl)
  · rw [forward_hi _ n b (by omega)]
    split_ifs <;> first | (exfalso; omega) | exact row_eq x n _ _ _ (by first | omega | (dsimp only; omega))

/-- The queries and keys, a row after the other; -/
theorem out_at (x : Whole) (n : Fin 8192) (b : Fin 1024) : val_main_v79 (F := Ideal) x (ix2 n b) = forward (row x n) n b := by
  pointwise [val_main_v79, val_main_v78, val_main_v77]
  by_cases h : b.val < 512
  · rw [dif_pos h]
    exact q_at x n _ _ b (by dsimp only; omega)
  · rw [dif_neg h]
    try rw [dif_pos (by omega)]
    exact k_at x n _ _ b (by dsimp only; omega)

section
variable (x : Whole) (r4 : Fin 4) (i4 : Fin 2048) (r16 : Fin 16) (i16 : Fin 512)

/-- by the four classes; -/
theorem out4_at (b : Fin 1024) : val_main_v83 (F := Ideal) x (ix3 r4 i4 b) = forward (row x ⟨i4.val * 4 + r4.val, by omega⟩) ⟨i4.val * 4 + r4.val, by omega⟩ b := by
  refine Eq.trans ?_ (out_at x _ b)
  pointwise [val_main_v83, val_main_v82, val_main_v81, val_main_v80]

/-- and by the sixteen. -/
theorem out16_at (b : Fin 1024) : val_main_v87 (F := Ideal) x (ix3 r16 i16 b) = forward (row x ⟨i16.val * 16 + r16.val, by omega⟩) ⟨i16.val * 16 + r16.val, by omega⟩ b := by
  refine Eq.trans ?_ (out_at x _ b)
  pointwise [val_main_v87, val_main_v86, val_main_v85, val_main_v84]

/-- The values, by the four classes -/
theorem v4_at (b : Fin 512) : val_main_v91 (F := Ideal) x (ix3 r4 i4 b) = x (ix2 ⟨i4.val * 4 + r4.val, by omega⟩ ⟨1024 + b.val, by omega⟩) := by
  pointwise [val_main_v91, val_main_v90, val_main_v89, val_main_v88, val_main_v76]

/-- and by the sixteen. -/
theorem v16_at (b : Fin 512) : val_main_v95 (F := Ideal) x (ix3 r16 i16 b) = x (ix2 ⟨i16.val * 16 + r16.val, by omega⟩ ⟨1024 + b.val, by omega⟩) := by
  pointwise [val_main_v95, val_main_v94, val_main_v93, val_main_v92, val_main_v76]
end

end Cert.RopeRef

end
-- ==== Proof.RopeHeads.lean ====
/-
  The rotary of the queries and keys (`_rope_fwd`): what a block of 512 rows is turned to, and what is stored of it.
-/
module

public import proofs.«01_k».proof.Proof.RopeScratch
public import proofs.«01_k».proof.Proof.RopeRef
public import proofs.«01_k».proof.Proof.Angles

@[expose] public section

set_option maxRecDepth 16384

noncomputable section

namespace Cert.KernelRopeIdeal.Value

open Cert.KernelRopeIdeal Cert.KernelRopeIdeal.Gen Idealize.ShloMosaic Idealize.ShloMosaic.TcCoe Idealize.SL.Sem
open Cert.RopeRef Cert.Angles
open Cert.KernelDeltaIdeal.Value (take4n take16n classes4 classes16)

/-- A table's entry at a column of the 1024: the table repeats every 128 lanes. -/
abbrev lane8 (C : FVec Ideal S512x128 .f32) (a : Fin 512) (b : Fin 1024) : EReal := C (ix2 a (⟨b.val % 128, Nat.mod_lt _ (by norm_num)⟩ : Fin 128))

/-- A table laid eight times, side by side. -/
theorem tile8_at (C : FVec Ideal S512x128 .f32) (h1 : S512x128.ShapeCasts S512x128) (hc : Shape.Concatenates [S512x128, S512x128, S512x128, S512x128, S512x128, S512x128, S512x128, S512x128] S512x1024 1) (a : Fin 512) (b : Fin 1024) :
    concatenate (α := Elt Ideal .f32) S512x1024 1 [⟨S512x128, shapeCast S512x128 C h1⟩, ⟨S512x128, shapeCast S512x128 C h1⟩, ⟨S512x128, shapeCast S512x128 C h1⟩, ⟨S512x128, shapeCast S512x128 C h1⟩, ⟨S512x128, shapeCast S512x128 C h1⟩, ⟨S512x128, shapeCast S512x128 C h1⟩, ⟨S512x128, shapeCast S512x128 C h1⟩, ⟨S512x128, shapeCast S512x128 C h1⟩] hc (ix2 a b) = lane8 C a b := by
  pointwise []
  have pick : ∀ (k l : ℕ) (hl : l < 128), b.val = k * 128 + l → C (ix2 a (⟨l, hl⟩ : Fin 128)) = lane8 C a b :=
    fun k l hl e => congrArg (fun z => C (ix2 a z)) (Fin.ext (by dsimp only; omega))
  split_ifs <;> first | exact pick 0 _ _ (by omega) | exact pick 1 _ _ (by omega) | exact pick 2 _ _ (by omega) | exact pick 3 _ _ (by omega) | exact pick 4 _ _ (by omega) | exact pick 5 _ _ (by omega) | exact pick 6 _ _ (by omega) | exact pick 7 _ _ (by omega) | exact pick 7 _ _ (by dsimp only; omega)

/-- Lanes turned round by 1016, and by 8. -/
theorem roll1016 (V : FVec Ideal S512x1024 .f32) (a : Fin 512) (b : Fin 1024) :
    dynamicRotate 1 1016#32 none V rotates_S512x1024_d1 (ix2 a b) = V (ix2 a (⟨(b.val + 8) % 1024, Nat.mod_lt _ (by norm_num)⟩ : Fin 1024)) := by
  pointwise []
  exact congrArg (fun k => V (ix2 a k)) (Fin.ext (by show (b.val + 1024 - _) % 1024 = _ % 1024; omega))
theorem roll8 (V : FVec Ideal S512x1024 .f32) (a : Fin 512) (b : Fin 1024) :
    dynamicRotate 1 8#32 none V rotates_S512x1024_d1 (ix2 a b) = V (ix2 a (⟨(b.val + 1016) % 1024, Nat.mod_lt _ (by norm_num)⟩ : Fin 1024)) := by
  pointwise []
  exact congrArg (fun k => V (ix2 a k)) (Fin.ext (by show (b.val + 1024 - _) % 1024 = _ % 1024; omega))

theorem pay2_at (V : FVec Ideal S512x1024 .bf16) (C SA SB : FVec Ideal S512x128 .f32) (a : Fin 512) (b : Fin 1024) :
    k0_pay2 (F := Ideal) V C SA SB (ix2 a b)
      = V (ix2 a b) * lane8 C a b + V (ix2 a (⟨(b.val + 8) % 1024, Nat.mod_lt _ (by norm_num)⟩ : Fin 1024)) * lane8 SA a b
        + V (ix2 a (⟨(b.val + 1016) % 1024, Nat.mod_lt _ (by norm_num)⟩ : Fin 1024)) * lane8 SB a b :=
  congrArg₂ (fun x y : EReal => x + y) (congrArg₂ (fun x y : EReal => x + y) (congrArg (fun y : EReal => V (ix2 a b) * y) (tile8_at C _ _ a b))
    (congrArg₂ (fun x y : EReal => x * y) (roll1016 (extf .f32 V bitsLt_bf16_f32) a b) (tile8_at SA _ _ a b)))
    (congrArg₂ (fun x y : EReal => x * y) (roll8 (extf .f32 V bitsLt_bf16_f32) a b) (tile8_at SB _ _ a b))

/-- What the kernel's two rotations and three tables leave is the reference's turn. -/
theorem turned_eq (V : FVec Ideal S512x1024 .bf16) (C SA SB : FVec Ideal S512x128 .f32) (T : Fin 1024 → EReal) (a : Fin 512) (b : Fin 1024) (n : Fin 8192)
    (hV : ∀ l, V (ix2 a l) = T l) (hC : ∀ l : Fin 128, C (ix2 a l) = tableC (ix2 n l)) (hA : ∀ l : Fin 128, SA (ix2 a l) = tableA (ix2 n l))
    (hB : ∀ l : Fin 128, SB (ix2 a l) = tableB (ix2 n l)) : k0_pay2 (F := Ideal) V C SA SB (ix2 a b) = forward T n b := by
  rw [pay2_at]
  simp only [lane8]
  rw [hV, hV, hV, hC, hA, hB]
  by_cases h0 : b.val % 64 < 8
  · rw [c_lo n _ ⟨b.val % 64, h0⟩ (by dsimp only; omega), a_lo n _ ⟨b.val % 64, h0⟩ (by dsimp only; omega),
      b_rest n _ (by dsimp only; omega), mul_zero, add_zero, mul_neg, ← sub_eq_add_neg]
    exact (forward_lo T n b _ _ rfl (by dsimp only; omega)).symm
  by_cases h1 : b.val % 64 < 16
  · rw [c_mid n _ ⟨b.val % 64 - 8, by omega⟩ (by dsimp only; omega), a_rest n _ (by dsimp only; omega),
      b_mid n _ ⟨b.val % 64 - 8, by omega⟩ (by dsimp only; omega), mul_zero, add_zero]
    exact (forward_mid T n b _ _ (by dsimp only; omega) (by dsimp only; omega)).symm
  · rw [c_hi n _ (by dsimp only; omega), a_rest n _ (by dsimp only; omega), b_rest n _ (by dsimp only; omega), mul_one, mul_zero, mul_zero,
      add_zero, add_zero]
    exact (forward_hi T n b (by omega)).symm

variable (m : (ℓ : Loc nD τ sig) → Buf (Elt Ideal) ℓ) (c : Dev nD) (t : Fin cfg0.N)

/-- A block's queries and keys; -/
abbrev qk : FVec Ideal S512x1024 .bf16 := View.ld (X0_0 m c t) (Rect.unit (s := S512x1536) ![0, 0] ![512, 1024] inb_S512x1536_S512x1024_0_0)
/-- its values; -/
abbrev vals : FVec Ideal S512x512 .bf16 := View.ld (X0_0 m c t) (Rect.unit (s := S512x1536) ![0, 1024] ![512, 512] inb_S512x1536_S512x512_0_1024)
/-- the queries and keys turned. -/
abbrev rows : FVec Ideal S512x1024 .f32 := k0_pay2 (F := Ideal) (qk m c t) (iblk m c 1 t) (iblk m c 2 t) (iblk m c 3 t)

theorem out4 (y : S512x1024.Idx) : (outsAt0 m c t).1 y = k0_pay3 (F := Ideal) (qk m c t) (iblk m c 1 t) (iblk m c 2 t) (iblk m c 3 t) y := by
  unfold outsAt0
  frame_out
  rfl

/-- What a point stores of the classes of the turned rows, -/
theorem out5 (y : S4x128x1024.Idx) : (outsAt0 m c t).2.1 y = fours (rows m c t) y := by
  unfold outsAt0
  frame_out
  refine View.canon_append_of_piecesOf (Val := Elt Ideal) (e := .bf16) (fours (rows m c t)) [] [_, _, _, _, _, _, _, _, _, _, _, _, _, _, _, _, _, _, _, _, _, _, _, _, _, _, _, _, _, _, _, _] ?_ y (View.cover_of_tiledL (s := S4x128x1024) _ ![1, 128, 128] (by sl_kernel_rfl) y)
  iterate 32
    refine And.intro (fun x => ?_) ?_
    · dsimp only
      exact read4 _ _ _ _ _ (by rfl) (by decide) (by decide) x
  exact trivial

theorem out6 (y : S16x32x1024.Idx) : (outsAt0 m c t).2.2.1 y = sixteens (rows m c t) y := by
  unfold outsAt0
  frame_out
  refine View.canon_append_of_piecesOf (Val := Elt Ideal) (e := .bf16) (sixteens (rows m c t)) [] [_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _] ?_ y (View.cover_of_tiledL (s := S16x32x1024) _ ![1, 32, 128] (by sl_kernel_rfl) y)
  iterate 128
    refine And.intro (fun x => ?_) ?_
    · dsimp only
      exact read16 _ _ _ _ _ (by rfl) (by decide) (by decide) x
  exact trivial

/-- and of the classes of the values. -/
theorem out7 (y : S4x128x512.Idx) : (outsAt0 m c t).2.2.2.1 y = classes4 (k0_pay13 (F := Ideal) (vals m c t)) y := by
  unfold outsAt0
  frame_out
  refine View.canon_append_of_piecesOf (Val := Elt Ideal) (e := .bf16) (classes4 (k0_pay13 (F := Ideal) (vals m c t))) [] [_, _, _, _, _, _, _, _, _, _, _, _, _, _, _, _] ?_ y (View.cover_of_tiledL (s := S4x128x512) _ ![1, 128, 128] (by sl_kernel_rfl) y)
  iterate 16
    refine And.intro (fun x => ?_) ?_
    · dsimp only
      exact take4n (k0_pay13 (F := Ideal) (vals m c t)) _ _ _ _ (by rfl) (by decide) (by decide) x
  exact trivial

theorem out8 (y : S16x32x512.Idx) : (outsAt0 m c t).2.2.2.2 y = classes16 (k0_pay13 (F := Ideal) (vals m c t)) y := by
  unfold outsAt0
  frame_out
  refine View.canon_append_of_piecesOf (Val := Elt Ideal) (e := .bf16) (classes16 (k0_pay13 (F := Ideal) (vals m c t))) [] [_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _] ?_ y (View.cover_of_tiledL (s := S16x32x512) _ ![1, 32, 128] (by sl_kernel_rfl) y)
  iterate 64
    refine And.intro (fun x => ?_) ?_
    · dsimp only
      exact take16n (k0_pay13 (F := Ideal) (vals m c t)) _ _ _ _ (by rfl) (by decide) (by decide) x
  exact trivial

end Cert.KernelRopeIdeal.Value

end
-- ==== Proof.RopeValue.lean ====
/-
  The rotary of the queries and keys (`_rope_fwd`): the five arrays the kernel leaves are the reference's.
-/
module

public import proofs.«01_k».proof.Proof.RopeHeads

@[expose] public section

set_option maxRecDepth 16384

noncomputable section

namespace Cert.KernelRopeIdeal.Value

open Cert.KernelRopeIdeal Cert.KernelRopeIdeal.Gen Idealize.ShloMosaic Idealize.ShloMosaic.TcCoe Idealize.SL.Sem
open Idealize.ShloMosaic.Pipeline (Dat)
open Cert.RopeRef Cert.DyRef Cert.Angles Cert.ReferenceRopeIdeal.Read

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, _)

variable (m : (ℓ : Loc nD τ sig) → Buf (Elt Ideal) ℓ)

section Tables
variable (c : Dev nD)

set_option backward.isDefEq.respectTransparency.types false in
theorem tab_c : V m c main_v27 = tableC := by
  unfold_abbrev_sides
  after_results
  beta_reduce
  refine congrArg spread (glue_congr ?_ ?_ ?_)
  · show (_ : (b : DevRef τ sig) → b.ty.Contents (Elt Ideal)) (Proc.tc.devRef main_v16) = _
    simp only [↓ StableHlo.readResult, ↓ StableHlo.readPieces]
    try rfl
  · show (_ : (b : DevRef τ sig) → b.ty.Contents (Elt Ideal)) (Proc.tc.devRef main_v16) = _
    simp only [↓ StableHlo.readResult, ↓ StableHlo.readPieces]
    try rfl
  · show (_ : (b : DevRef τ sig) → b.ty.Contents (Elt Ideal)) (Proc.tc.devRef main_v18) = _
    simp only [↓ StableHlo.readResult, ↓ StableHlo.readPieces]
    try rfl

set_option backward.isDefEq.respectTransparency.types false in
theorem tab_a : V m c main_v30 = tableA := by
  unfold_abbrev_sides
  after_results
  beta_reduce
  refine congrArg spread (glue_congr ?_ ?_ ?_)
  · show (_ : (b : DevRef τ sig) → b.ty.Contents (Elt Ideal)) (Proc.tc.devRef main_v22) = _
    simp only [↓ StableHlo.readResult, ↓ StableHlo.readPieces]
    try rfl
  · show (_ : (b : DevRef τ sig) → b.ty.Contents (Elt Ideal)) (Proc.tc.devRef main_v20) = _
    simp only [↓ StableHlo.readResult, ↓ StableHlo.readPieces]
    try rfl
  · show (_ : (b : DevRef τ sig) → b.ty.Contents (Elt Ideal)) (Proc.tc.devRef main_v19) = _
    simp only [↓ StableHlo.readResult, ↓ StableHlo.readPieces]
    try rfl

set_option backward.isDefEq.respectTransparency.types false in
theorem tab_b : V m c main_v33 = tableB := by
  unfold_abbrev_sides
  after_results
  beta_reduce
  refine congrArg spread (glue_congr ?_ ?_ ?_)
  · show (_ : (b : DevRef τ sig) → b.ty.Contents (Elt Ideal)) (Proc.tc.devRef main_v20) = _
    simp only [↓ StableHlo.readResult, ↓ StableHlo.readPieces]
    try rfl
  · show (_ : (b : DevRef τ sig) → b.ty.Contents (Elt Ideal)) (Proc.tc.devRef main_v17) = _
    simp only [↓ StableHlo.readResult, ↓ StableHlo.readPieces]
    try rfl
  · show (_ : (b : DevRef τ sig) → b.ty.Contents (Elt Ideal)) (Proc.tc.devRef main_v19) = _
    simp only [↓ StableHlo.readResult, ↓ StableHlo.readPieces]
    try rfl
end Tables

/-- Columns of a block. -/
theorem cols_at (X : Vec Ideal S512x1536 .bf16) (o w : ℕ) (inb : ∀ a, (![0, o] : Fin 2 → ℕ) a + (![512, w] : Fin 2 → ℕ) a ≤ S512x1536.size a) (a : Fin 512) (k : Fin w) (h : o + k.val < 1536) :
    View.ld X (Rect.unit (s := S512x1536) ![0, o] ![512, w] inb) (ix2 a k) = X (ix2 a ⟨o + k.val, h⟩) := by
  refine congrArg X (funext fun d => Fin.ext ?_)
  match d with
  | ⟨0, _⟩ => show 0 + 1 * a.val = a.val; omega
  | ⟨1, _⟩ => show o + 1 * k.val = o + k.val; omega

section
variable (c : Dev nD) (t : Fin cfg0.N) (i : Fin 512) (n : Fin 8192) (h : t.val * 512 + i.val = n.val)
include h

theorem blk_y (k : Fin 1536) : X0_0 m c t (ix2 i k) = m ((c : Thread nD τ).loc main_arg0) (ix2 n ⟨k.val, by omega⟩) := by
  have hn : t.val * 512 + i.val < 8192 := by omega
  obtain rfl : n = ⟨t.val * 512 + i.val, hn⟩ := Fin.ext h.symm
  unfold X0_0 Pipeline.Window.fill
  rw [dif_pos (moved0_0 t _)]
  blk_point [iblk, V, idx t]
theorem blk_c (l : Fin 128) : iblk m c 1 t (ix2 i l) = tableC (ix2 n l) := by
  have hn : t.val * 512 + i.val < 8192 := by omega
  obtain rfl : n = ⟨t.val * 512 + i.val, hn⟩ := Fin.ext h.symm
  refine Eq.trans ?_ (congrFun (tab_c m c) _)
  blk_point [iblk, idx t]
theorem blk_a (l : Fin 128) : iblk m c 2 t (ix2 i l) = tableA (ix2 n l) := by
  have hn : t.val * 512 + i.val < 8192 := by omega
  obtain rfl : n = ⟨t.val * 512 + i.val, hn⟩ := Fin.ext h.symm
  refine Eq.trans ?_ (congrFun (tab_a m c) _)
  blk_point [iblk, idx t]
theorem blk_b (l : Fin 128) : iblk m c 3 t (ix2 i l) = tableB (ix2 n l) := by
  have hn : t.val * 512 + i.val < 8192 := by omega
  obtain rfl : n = ⟨t.val * 512 + i.val, hn⟩ := Fin.ext h.symm
  refine Eq.trans ?_ (congrFun (tab_b m c) _)
  blk_point [iblk, idx t]

/-- A block's rows are turned as the reference turns them; -/
theorem rows_at (k : Fin 1024) : rows m c t (ix2 i k) = forward (row (m ((c : Thread nD τ).loc main_arg0)) n) n k :=
  turned_eq _ _ _ _ _ i k n (fun l => (cols_at _ 0 1024 _ i l (by omega)).trans ((blk_y m c t i n h _).trans (row_eq _ n l _ _ (Nat.zero_add _))))
    (blk_c m c t i n h) (blk_a m c t i n h) (blk_b m c t i n h)

/-- its values are carried over. -/
theorem vals_at (k : Fin 512) : k0_pay13 (F := Ideal) (vals m c t) (ix2 i k) = m ((c : Thread nD τ).loc main_arg0) (ix2 n ⟨1024 + k.val, by omega⟩) :=
  (cols_at _ 1024 512 _ i k (by omega)).trans (blk_y m c t i n h _)
end

section
variable (c : Dev nD)

theorem final4 : (dats m 0 c).arrAt 4 (cfgs 0).N = val_main_v79 (F := Ideal) (m ((c : Thread nD τ).loc main_arg0)) := by
  refine (dats m 0 c).arrAt_eq_of_covers 4 _ (by decide +kernel) fun t hf y => ?_
  blk_simp
  idx_vars y
  have hN : t.val < 16 := t.isLt
  have h : t.val * 512 + y0.val < 8192 := by omega
  rw [after0_4]
  have e : (win0_4.blk t).view.emb (ix2 y0 y1) = ix2 ⟨t.val * 512 + y0.val, h⟩ y1 := by blk_ext [idx t]
  rw [e]
  refine Eq.trans ?_ (RopeRef.out_at _ _ _).symm
  refine (out4 m c t (ix2 y0 y1)).trans ?_
  exact rows_at m c t y0 _ rfl y1

theorem final5 : (dats m 0 c).arrAt 5 (cfgs 0).N = val_main_v83 (F := Ideal) (m ((c : Thread nD τ).loc main_arg0)) := by
  refine (dats m 0 c).arrAt_eq_of_covers 5 _ (by decide +kernel) fun t hf y => ?_
  blk_simp
  idx_vars y
  have hN : t.val < 16 := t.isLt
  have h : t.val * 128 + y1.val < 2048 := by omega
  rw [after0_5]
  have e : (win0_5.blk t).view.emb (ix3 y0 y1 y2) = ix3 y0 ⟨t.val * 128 + y1.val, h⟩ y2 := by blk_ext [idx t]
  rw [e]
  refine Eq.trans ?_ (out4_at _ _ _ _).symm
  refine (out5 m c t (ix3 y0 y1 y2)).trans ?_
  exact rows_at m c t ⟨y1.val * 4 + y0.val, by omega⟩ _ (by dsimp only; omega) y2

theorem final6 : (dats m 0 c).arrAt 6 (cfgs 0).N = val_main_v87 (F := Ideal) (m ((c : Thread nD τ).loc main_arg0)) := by
  refine (dats m 0 c).arrAt_eq_of_covers 6 _ (by decide +kernel) fun t hf y => ?_
  blk_simp
  idx_vars y
  have hN : t.val < 16 := t.isLt
  have h : t.val * 32 + y1.val < 512 := by omega
  rw [after0_6]
  have e : (win0_6.blk t).view.emb (ix3 y0 y1 y2) = ix3 y0 ⟨t.val * 32 + y1.val, h⟩ y2 := by blk_ext [idx t]
  rw [e]
  refine Eq.trans ?_ (out16_at _ _ _ _).symm
  refine (out6 m c t (ix3 y0 y1 y2)).trans ?_
  exact rows_at m c t ⟨y1.val * 16 + y0.val, by omega⟩ _ (by dsimp only; omega) y2

theorem final7 : (dats m 0 c).arrAt 7 (cfgs 0).N = val_main_v91 (F := Ideal) (m ((c : Thread nD τ).loc main_arg0)) := by
  refine (dats m 0 c).arrAt_eq_of_covers 7 _ (by decide +kernel) fun t hf y => ?_
  blk_simp
  idx_vars y
  have hN : t.val < 16 := t.isLt
  have h : t.val * 128 + y1.val < 2048 := by omega
  rw [after0_7]
  have e : (win0_7.blk t).view.emb (ix3 y0 y1 y2) = ix3 y0 ⟨t.val * 128 + y1.val, h⟩ y2 := by blk_ext [idx t]
  rw [e]
  refine Eq.trans ?_ (v4_at _ _ _ _).symm
  refine (out7 m c t (ix3 y0 y1 y2)).trans ?_
  exact vals_at m c t ⟨y1.val * 4 + y0.val, by omega⟩ _ (by dsimp only; omega) y2

theorem final8 : (dats m 0 c).arrAt 8 (cfgs 0).N = val_main_v95 (F := Ideal) (m ((c : Thread nD τ).loc main_arg0)) := by
  refine (dats m 0 c).arrAt_eq_of_covers 8 _ (by decide +kernel) fun t hf y => ?_
  blk_simp
  idx_vars y
  have hN : t.val < 16 := t.isLt
  have h : t.val * 32 + y1.val < 512 := by omega
  rw [after0_8]
  have e : (win0_8.blk t).view.emb (ix3 y0 y1 y2) = ix3 y0 ⟨t.val * 32 + y1.val, h⟩ y2 := by blk_ext [idx t]
  rw [e]
  refine Eq.trans ?_ (v16_at _ _ _ _).symm
  refine (out8 m c t (ix3 y0 y1 y2)).trans ?_
  exact vals_at m c t ⟨y1.val * 16 + y0.val, by omega⟩ _ (by dsimp only; omega) y2
end

end Cert.KernelRopeIdeal.Value

end
-- ==== Proof.Rope.lean ====
/-
  `_rope_fwd`: the claim. The kernel's five arrays are the reference's, whatever the argument holds.
-/
module

public import proofs.«01_k».proof.Defs
public import proofs.«01_k».proof.Proof.RopeValue
public import proofs.«01_k».proof.Proof.Gen.ReferenceRopeIdeal.Run
public import Idealize.ShloMosaic.Lib.Claim

@[expose] public section

set_option maxRecDepth 16384

noncomputable section

namespace Cert.Rope

open Idealize.ShloMosaic Idealize.ShloMosaic.TcCoe Idealize.SL.Sem
open Cert.KernelRopeIdeal

section
open Cert.ReferenceRopeIdeal Cert.ReferenceRopeIdeal.Read

/-- What the reference's run leaves, by the names of its stages. -/
theorem reference_run (m : (ℓ : Loc Cert.ReferenceRopeIdeal.nD Cert.ReferenceRopeIdeal.τ Cert.ReferenceRopeIdeal.sig) → Buf (Elt Ideal) ℓ)
    (ρ : Dev Cert.ReferenceRopeIdeal.nD → PrngReg) :
    θ_run Cert.ReferenceRopeIdeal.defs (onTc (τ := Cert.ReferenceRopeIdeal.τ) (Cert.ReferenceRopeIdeal.main (F := Ideal))) ⟨m, fun _ => 0, ρ⟩ fun r => ∀ c : Dev Cert.ReferenceRopeIdeal.nD,
      r.2.mem ((c.tc : Thread Cert.ReferenceRopeIdeal.nD Cert.ReferenceRopeIdeal.τ).loc Cert.ReferenceRopeIdeal.main_v79) = val_main_v79 (F := Ideal) (m ((c.tc : Thread _ _).loc Cert.ReferenceRopeIdeal.main_arg0))
      ∧ r.2.mem ((c.tc : Thread Cert.ReferenceRopeIdeal.nD Cert.ReferenceRopeIdeal.τ).loc Cert.ReferenceRopeIdeal.main_v83) = val_main_v83 (F := Ideal) (m ((c.tc : Thread _ _).loc Cert.ReferenceRopeIdeal.main_arg0))
      ∧ r.2.mem ((c.tc : Thread Cert.ReferenceRopeIdeal.nD Cert.ReferenceRopeIdeal.τ).loc Cert.ReferenceRopeIdeal.main_v87) = val_main_v87 (F := Ideal) (m ((c.tc : Thread _ _).loc Cert.ReferenceRopeIdeal.main_arg0))
      ∧ r.2.mem ((c.tc : Thread Cert.ReferenceRopeIdeal.nD Cert.ReferenceRopeIdeal.τ).loc Cert.ReferenceRopeIdeal.main_v91) = val_main_v91 (F := Ideal) (m ((c.tc : Thread _ _).loc Cert.ReferenceRopeIdeal.main_arg0))
      ∧ r.2.mem ((c.tc : Thread Cert.ReferenceRopeIdeal.nD Cert.ReferenceRopeIdeal.τ).loc Cert.ReferenceRopeIdeal.main_v95) = val_main_v95 (F := Ideal) (m ((c.tc : Thread _ _).loc Cert.ReferenceRopeIdeal.main_arg0))
      ∧ r.2.mem ((c.tc : Thread Cert.ReferenceRopeIdeal.nD Cert.ReferenceRopeIdeal.τ).loc Cert.ReferenceRopeIdeal.main_arg0) = m ((c.tc : Thread _ _).loc Cert.ReferenceRopeIdeal.main_arg0) :=
  (θ_run _ _ _).mono (fun _ h c => ⟨(h c).1.trans (val_main_v79_eq m c), (h c).2.1.trans (val_main_v83_eq m c), (h c).2.2.1.trans (val_main_v87_eq m c), (h c).2.2.2.1.trans (val_main_v91_eq _), (h c).2.2.2.2.1.trans (val_main_v95_eq _), (h c).2.2.2.2.2⟩) (Cert.ReferenceRopeIdeal.Value.run m ρ)
end

theorem algebraic : Cert.algebraic_KernelRopeIdeal_ReferenceRopeIdeal := by
  pair_intro
  · run_from Cert.KernelRopeIdeal.Value.run_blocks m g
  · refine Idealize.ShloMosaic.θ_run_mono (reference_run m' g') fun r hr c => ?_
    obtain ⟨e0, e1, e2, e3, e4, e5⟩ := hr c
    have h0 := hagree c
    rw [h0] at e0 e1 e2 e3 e4
    exact ⟨e0.trans (Cert.KernelRopeIdeal.Value.final4 m c).symm, e1.trans (Cert.KernelRopeIdeal.Value.final5 m c).symm, e2.trans (Cert.KernelRopeIdeal.Value.final6 m c).symm, e3.trans (Cert.KernelRopeIdeal.Value.final7 m c).symm, e4.trans (Cert.KernelRopeIdeal.Value.final8 m c).symm, e5⟩

end Cert.Rope

end
-- ==== Proof.lean ====
/-
  The claims, assembled: the frames of every program, and for each pair the equation of the kernel's results with its reference's.
-/
module

public import proofs.«01_k».proof.Defs
public import proofs.«01_k».proof.Proof.Gen.KernelMem
public import proofs.«01_k».proof.Proof.Gen.KernelMemIdeal
public import proofs.«01_k».proof.Proof.Gen.ReferenceMemIdeal
public import proofs.«01_k».proof.Proof.Gen.KernelXatt
public import proofs.«01_k».proof.Proof.Gen.KernelXattIdeal
public import proofs.«01_k».proof.Proof.Gen.ReferenceXattIdeal
public import proofs.«01_k».proof.Proof.Gen.KernelHn
public import proofs.«01_k».proof.Proof.Gen.KernelHnIdeal
public import proofs.«01_k».proof.Proof.Gen.ReferenceHnIdeal
public import proofs.«01_k».proof.Proof.Gen.KernelXn
public import proofs.«01_k».proof.Proof.Gen.KernelXnIdeal
public import proofs.«01_k».proof.Proof.Gen.ReferenceXnIdeal
public import proofs.«01_k».proof.Proof.Gen.KernelHm
public import proofs.«01_k».proof.Proof.Gen.KernelHmIdeal
public import proofs.«01_k».proof.Proof.Gen.ReferenceHmIdeal
public import proofs.«01_k».proof.Proof.Gen.KernelDact
public import proofs.«01_k».proof.Proof.Gen.KernelDactIdeal
public import proofs.«01_k».proof.Proof.Gen.ReferenceDactIdeal
public import proofs.«01_k».proof.Proof.Gen.KernelDwdown
public import proofs.«01_k».proof.Proof.Gen.KernelDwdownIdeal
public import proofs.«01_k».proof.Proof.Gen.ReferenceDwdownIdeal
public import proofs.«01_k».proof.Proof.Gen.KernelLoss
public import proofs.«01_k».proof.Proof.Gen.KernelLossIdeal
public import proofs.«01_k».proof.Proof.Gen.ReferenceLossIdeal
public import proofs.«01_k».proof.Proof.Gen.KernelDy
public import proofs.«01_k».proof.Proof.Gen.KernelDyIdeal
public import proofs.«01_k».proof.Proof.Gen.ReferenceDyIdeal
public import proofs.«01_k».proof.Proof.Gen.KernelXattf
public import proofs.«01_k».proof.Proof.Gen.KernelXattfIdeal
public import proofs.«01_k».proof.Proof.Gen.ReferenceXattfIdeal
public import proofs.«01_k».proof.Proof.Gen.KernelAttf1
public import proofs.«01_k».proof.Proof.Gen.KernelAttf1Ideal
public import proofs.«01_k».proof.Proof.Gen.ReferenceAttf1Ideal
public import proofs.«01_k».proof.Proof.Gen.KernelAttf4
public import proofs.«01_k».proof.Proof.Gen.KernelAttf4Ideal
public import proofs.«01_k».proof.Proof.Gen.ReferenceAttf4Ideal
public import proofs.«01_k».proof.Proof.Gen.KernelAttf16
public import proofs.«01_k».proof.Proof.Gen.KernelAttf16Ideal
public import proofs.«01_k».proof.Proof.Gen.ReferenceAttf16Ideal
public import proofs.«01_k».proof.Proof.Gen.KernelRms
public import proofs.«01_k».proof.Proof.Gen.KernelRmsIdeal
public import proofs.«01_k».proof.Proof.Gen.ReferenceRmsIdeal
public import proofs.«01_k».proof.Proof.Gen.KernelXo
public import proofs.«01_k».proof.Proof.Gen.KernelXoIdeal
public import proofs.«01_k».proof.Proof.Gen.ReferenceXoIdeal
public import proofs.«01_k».proof.Proof.Gen.KernelOut
public import proofs.«01_k».proof.Proof.Gen.KernelOutIdeal
public import proofs.«01_k».proof.Proof.Gen.ReferenceOutIdeal
public import proofs.«01_k».proof.Proof.Gen.KernelUp
public import proofs.«01_k».proof.Proof.Gen.KernelUpIdeal
public import proofs.«01_k».proof.Proof.Gen.ReferenceUpIdeal
public import proofs.«01_k».proof.Proof.Gen.KernelDelta
public import proofs.«01_k».proof.Proof.Gen.KernelDeltaIdeal
public import proofs.«01_k».proof.Proof.Gen.ReferenceDeltaIdeal
public import proofs.«01_k».proof.Proof.Gen.KernelDwup
public import proofs.«01_k».proof.Proof.Gen.KernelDwupIdeal
public import proofs.«01_k».proof.Proof.Gen.ReferenceDwupIdeal
public import proofs.«01_k».proof.Proof.Gen.KernelDxo
public import proofs.«01_k».proof.Proof.Gen.KernelDxoIdeal
public import proofs.«01_k».proof.Proof.Gen.ReferenceDxoIdeal
public import proofs.«01_k».proof.Proof.Gen.KernelRope
public import proofs.«01_k».proof.Proof.Gen.KernelRopeIdeal
public import proofs.«01_k».proof.Proof.Gen.ReferenceRopeIdeal
public import proofs.«01_k».proof.Proof.Gen.KernelComb
public import proofs.«01_k».proof.Proof.Gen.KernelCombIdeal
public import proofs.«01_k».proof.Proof.Gen.Pre_finite_mem
public import proofs.«01_k».proof.Proof.Gen.Pre_finite_xatt
public import proofs.«01_k».proof.Proof.Gen.Pre_finite_hn
public import proofs.«01_k».proof.Proof.Gen.Pre_finite_xn
public import proofs.«01_k».proof.Proof.Gen.Pre_finite_hm
public import proofs.«01_k».proof.Proof.Gen.Pre_finite_loss
public import proofs.«01_k».proof.Proof.Gen.Pre_finite_xattf
public import proofs.«01_k».proof.Proof.Gen.Pre_finite_attf1
public import proofs.«01_k».proof.Proof.Gen.Pre_finite_attf4
public import proofs.«01_k».proof.Proof.Gen.Pre_finite_attf16
public import proofs.«01_k».proof.Proof.Gen.KernelMem.Frame
public import proofs.«01_k».proof.Proof.Gen.KernelMemIdeal.Frame
public import proofs.«01_k».proof.Proof.Gen.KernelMemIdeal.Value
public import proofs.«01_k».proof.Proof.Gen.ReferenceMemIdeal.Run
public import proofs.«01_k».proof.Proof.Gen.ReferenceMemIdeal.Read
public import proofs.«01_k».proof.Proof.Mem
public import proofs.«01_k».proof.Proof.Gen.KernelXatt.Frame
public import proofs.«01_k».proof.Proof.Gen.KernelXattIdeal.Frame
public import proofs.«01_k».proof.Proof.Gen.KernelXattIdeal.Value
public import proofs.«01_k».proof.Proof.Gen.ReferenceXattIdeal.Run
public import proofs.«01_k».proof.Proof.Gen.ReferenceXattIdeal.Read
public import proofs.«01_k».proof.Proof.Xatt
public import proofs.«01_k».proof.Proof.Gen.KernelHn.Frame
public import proofs.«01_k».proof.Proof.Gen.KernelHnIdeal.Frame
public import proofs.«01_k».proof.Proof.Gen.KernelHnIdeal.Value
public import proofs.«01_k».proof.Proof.Gen.ReferenceHnIdeal.Run
public import proofs.«01_k».proof.Proof.Gen.ReferenceHnIdeal.Read
public import proofs.«01_k».proof.Proof.Hn
public import proofs.«01_k».proof.Proof.Gen.KernelXn.Frame
public import proofs.«01_k».proof.Proof.Gen.KernelXnIdeal.Frame
public import proofs.«01_k».proof.Proof.Gen.KernelXnIdeal.Value
public import proofs.«01_k».proof.Proof.Gen.ReferenceXnIdeal.Run
public import proofs.«01_k».proof.Proof.Gen.ReferenceXnIdeal.Read
public import proofs.«01_k».proof.Proof.Xn
public import proofs.«01_k».proof.Proof.Gen.KernelHm.Frame
public import proofs.«01_k».proof.Proof.Gen.KernelHmIdeal.Frame
public import proofs.«01_k».proof.Proof.Gen.KernelHmIdeal.Value
public import proofs.«01_k».proof.Proof.Gen.ReferenceHmIdeal.Run
public import proofs.«01_k».proof.Proof.Gen.ReferenceHmIdeal.Read
public import proofs.«01_k».proof.Proof.Hm
public import proofs.«01_k».proof.Proof.Gen.KernelDact.Frame
public import proofs.«01_k».proof.Proof.Gen.KernelDactIdeal.Frame
public import proofs.«01_k».proof.Proof.Gen.KernelDactIdeal.Value
public import proofs.«01_k».proof.Proof.Gen.ReferenceDactIdeal.Run
public import proofs.«01_k».proof.Proof.Gen.ReferenceDactIdeal.Read
public import proofs.«01_k».proof.Proof.Dact
public import proofs.«01_k».proof.Proof.Gen.KernelDwdown.Frame
public import proofs.«01_k».proof.Proof.Gen.KernelDwdownIdeal.Frame
public import proofs.«01_k».proof.Proof.Gen.KernelDwdownIdeal.Value
public import proofs.«01_k».proof.Proof.Gen.ReferenceDwdownIdeal.Run
public import proofs.«01_k».proof.Proof.Gen.ReferenceDwdownIdeal.Read
public import proofs.«01_k».proof.Proof.Dwdown
public import proofs.«01_k».proof.Proof.Gen.KernelLoss.Frame
public import proofs.«01_k».proof.Proof.Gen.KernelLossIdeal.Frame
public import proofs.«01_k».proof.Proof.Gen.KernelLossIdeal.Value
public import proofs.«01_k».proof.Proof.Gen.ReferenceLossIdeal.Run
public import proofs.«01_k».proof.Proof.Gen.ReferenceLossIdeal.Read
public import proofs.«01_k».proof.Proof.Loss
public import proofs.«01_k».proof.Proof.Gen.KernelDy.Frame
public import proofs.«01_k».proof.Proof.Gen.KernelDyIdeal.Frame
public import proofs.«01_k».proof.Proof.Gen.KernelDyIdeal.Value
public import proofs.«01_k».proof.Proof.Gen.ReferenceDyIdeal.Run
public import proofs.«01_k».proof.Proof.Gen.ReferenceDyIdeal.Read
public import proofs.«01_k».proof.Proof.Dy
public import proofs.«01_k».proof.Proof.Gen.KernelXattf.Frame
public import proofs.«01_k».proof.Proof.Gen.KernelXattfIdeal.Frame
public import proofs.«01_k».proof.Proof.Gen.KernelXattfIdeal.Value
public import proofs.«01_k».proof.Proof.Gen.ReferenceXattfIdeal.Run
public import proofs.«01_k».proof.Proof.Gen.ReferenceXattfIdeal.Read
public import proofs.«01_k».proof.Proof.Xattf
public import proofs.«01_k».proof.Proof.Gen.KernelAttf1.Frame
public import proofs.«01_k».proof.Proof.Gen.KernelAttf1Ideal.Frame
public import proofs.«01_k».proof.Proof.Gen.KernelAttf1Ideal.Value
public import proofs.«01_k».proof.Proof.Gen.ReferenceAttf1Ideal.Run
public import proofs.«01_k».proof.Proof.Gen.ReferenceAttf1Ideal.Read
public import proofs.«01_k».proof.Proof.Attf1
public import proofs.«01_k».proof.Proof.Gen.KernelAttf4.Frame
public import proofs.«01_k».proof.Proof.Gen.KernelAttf4Ideal.Frame
public import proofs.«01_k».proof.Proof.Gen.KernelAttf4Ideal.Value
public import proofs.«01_k».proof.Proof.Gen.ReferenceAttf4Ideal.Run
public import proofs.«01_k».proof.Proof.Gen.ReferenceAttf4Ideal.Read
public import proofs.«01_k».proof.Proof.Attf4
public import proofs.«01_k».proof.Proof.Gen.KernelAttf16.Frame
public import proofs.«01_k».proof.Proof.Gen.KernelAttf16Ideal.Frame
public import proofs.«01_k».proof.Proof.Gen.KernelAttf16Ideal.Value
public import proofs.«01_k».proof.Proof.Gen.ReferenceAttf16Ideal.Run
public import proofs.«01_k».proof.Proof.Gen.ReferenceAttf16Ideal.Read
public import proofs.«01_k».proof.Proof.Attf16
public import proofs.«01_k».proof.Proof.Gen.KernelRms.Frame
public import proofs.«01_k».proof.Proof.Gen.KernelRmsIdeal.Frame
public import proofs.«01_k».proof.Proof.Gen.KernelRmsIdeal.Value
public import proofs.«01_k».proof.Proof.Gen.ReferenceRmsIdeal.Run
public import proofs.«01_k».proof.Proof.Gen.ReferenceRmsIdeal.Read
public import proofs.«01_k».proof.Proof.Rms
public import proofs.«01_k».proof.Proof.Gen.KernelXo.Frame
public import proofs.«01_k».proof.Proof.Gen.KernelXoIdeal.Frame
public import proofs.«01_k».proof.Proof.Gen.KernelXoIdeal.Value
public import proofs.«01_k».proof.Proof.Gen.ReferenceXoIdeal.Run
public import proofs.«01_k».proof.Proof.Gen.ReferenceXoIdeal.Read
public import proofs.«01_k».proof.Proof.Xo
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Out
public import proofs.«01_k».proof.Proof.Gen.KernelUp.Frame
public import proofs.«01_k».proof.Proof.Gen.KernelUpIdeal.Frame
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Up
public import proofs.«01_k».proof.Proof.Gen.KernelDelta.Frame
public import proofs.«01_k».proof.Proof.Gen.KernelDeltaIdeal.Frame
public import proofs.«01_k».proof.Proof.Gen.KernelDeltaIdeal.Value
public import proofs.«01_k».proof.Proof.Gen.ReferenceDeltaIdeal.Run
public import proofs.«01_k».proof.Proof.Gen.ReferenceDeltaIdeal.Read
public import proofs.«01_k».proof.Proof.Delta
public import proofs.«01_k».proof.Proof.Gen.KernelDwup.Frame
public import proofs.«01_k».proof.Proof.Gen.KernelDwupIdeal.Frame
public import proofs.«01_k».proof.Proof.Gen.KernelDwupIdeal.Value
public import proofs.«01_k».proof.Proof.Gen.ReferenceDwupIdeal.Run
public import proofs.«01_k».proof.Proof.Gen.ReferenceDwupIdeal.Read
public import proofs.«01_k».proof.Proof.Dwup
public import proofs.«01_k».proof.Proof.Gen.KernelDxo.Frame
public import proofs.«01_k».proof.Proof.Gen.KernelDxoIdeal.Frame
public import proofs.«01_k».proof.Proof.Gen.KernelDxoIdeal.Value
public import proofs.«01_k».proof.Proof.Gen.ReferenceDxoIdeal.Run
public import proofs.«01_k».proof.Proof.Gen.ReferenceDxoIdeal.Read
public import proofs.«01_k».proof.Proof.Dxo
public import proofs.«01_k».proof.Proof.Gen.KernelRope.Frame
public import proofs.«01_k».proof.Proof.Gen.KernelRopeIdeal.Frame
public import proofs.«01_k».proof.Proof.Gen.KernelRopeIdeal.Value
public import proofs.«01_k».proof.Proof.Gen.ReferenceRopeIdeal.Run
public import proofs.«01_k».proof.Proof.Gen.ReferenceRopeIdeal.Read
public import proofs.«01_k».proof.Proof.Rope
public import proofs.«01_k».proof.Proof.Gen.KernelComb.Frame
public import proofs.«01_k».proof.Proof.Gen.KernelCombIdeal.Frame

public import Idealize.ShloMosaic.Lib.Claim

@[expose] public section

noncomputable section

namespace Cert.Proof

open Idealize.ShloMosaic Idealize.SL.Sem

theorem claim : Cert.Claim :=
  ⟨Cert.KernelMem.Gen.facts, Cert.KernelMemIdeal.Gen.facts, Cert.ReferenceMemIdeal.Gen.facts, Cert.KernelXatt.Gen.facts, Cert.KernelXattIdeal.Gen.facts, Cert.ReferenceXattIdeal.Gen.facts, Cert.KernelHn.Gen.facts, Cert.KernelHnIdeal.Gen.facts, Cert.ReferenceHnIdeal.Gen.facts, Cert.KernelXn.Gen.facts, Cert.KernelXnIdeal.Gen.facts, Cert.ReferenceXnIdeal.Gen.facts, Cert.KernelHm.Gen.facts, Cert.KernelHmIdeal.Gen.facts, Cert.ReferenceHmIdeal.Gen.facts, Cert.KernelDact.Gen.facts, Cert.KernelDactIdeal.Gen.facts, Cert.ReferenceDactIdeal.Gen.facts, Cert.KernelDwdown.Gen.facts, Cert.KernelDwdownIdeal.Gen.facts, Cert.ReferenceDwdownIdeal.Gen.facts, Cert.KernelLoss.Gen.facts, Cert.KernelLossIdeal.Gen.facts, Cert.ReferenceLossIdeal.Gen.facts, Cert.KernelDy.Gen.facts, Cert.KernelDyIdeal.Gen.facts, Cert.ReferenceDyIdeal.Gen.facts, Cert.KernelXattf.Gen.facts, Cert.KernelXattfIdeal.Gen.facts, Cert.ReferenceXattfIdeal.Gen.facts, Cert.KernelAttf1.Gen.facts, Cert.KernelAttf1Ideal.Gen.facts, Cert.ReferenceAttf1Ideal.Gen.facts, Cert.KernelAttf4.Gen.facts, Cert.KernelAttf4Ideal.Gen.facts, Cert.ReferenceAttf4Ideal.Gen.facts, Cert.KernelAttf16.Gen.facts, Cert.KernelAttf16Ideal.Gen.facts, Cert.ReferenceAttf16Ideal.Gen.facts, Cert.KernelRms.Gen.facts, Cert.KernelRmsIdeal.Gen.facts, Cert.ReferenceRmsIdeal.Gen.facts, Cert.KernelXo.Gen.facts, Cert.KernelXoIdeal.Gen.facts, Cert.ReferenceXoIdeal.Gen.facts, Cert.KernelOut.Gen.facts, Cert.KernelOutIdeal.Gen.facts, Cert.ReferenceOutIdeal.Gen.facts, Cert.KernelUp.Gen.facts, Cert.KernelUpIdeal.Gen.facts, Cert.ReferenceUpIdeal.Gen.facts, Cert.KernelDelta.Gen.facts, Cert.KernelDeltaIdeal.Gen.facts, Cert.ReferenceDeltaIdeal.Gen.facts, Cert.KernelDwup.Gen.facts, Cert.KernelDwupIdeal.Gen.facts, Cert.ReferenceDwupIdeal.Gen.facts, Cert.KernelDxo.Gen.facts, Cert.KernelDxoIdeal.Gen.facts, Cert.ReferenceDxoIdeal.Gen.facts, Cert.KernelRope.Gen.facts, Cert.KernelRopeIdeal.Gen.facts, Cert.ReferenceRopeIdeal.Gen.facts, Cert.KernelComb.Gen.facts, Cert.KernelCombIdeal.Gen.facts, Cert.Pre_finite_mem.Gen.facts, Cert.Pre_finite_xatt.Gen.facts, Cert.Pre_finite_hn.Gen.facts, Cert.Pre_finite_xn.Gen.facts, Cert.Pre_finite_hm.Gen.facts, Cert.Pre_finite_loss.Gen.facts, Cert.Pre_finite_xattf.Gen.facts, Cert.Pre_finite_attf1.Gen.facts, Cert.Pre_finite_attf4.Gen.facts, Cert.Pre_finite_attf16.Gen.facts,
    fun m ρ _ => Cert.KernelMem.Gen.frame m ρ,
    fun m ρ _ => Cert.KernelMemIdeal.Gen.frame m ρ,
    fun m ρ _ => Cert.KernelMemIdeal.Gen.frame m ρ,
    fun m ρ _ => (θ_run Cert.ReferenceMemIdeal.defs _ _).mono (fun r h => ⟨fun c => (h c).2.2, sem_eq_zero_of_no_sems (by decide) r.2⟩) (Cert.ReferenceMemIdeal.Value.run m ρ),
    fun m ρ _ => (θ_run Cert.ReferenceMemIdeal.defs _ _).mono (fun r h => ⟨fun c => (h c).2.2, sem_eq_zero_of_no_sems (by decide) r.2⟩) (Cert.ReferenceMemIdeal.Value.run m ρ),
    fun m ρ _ => Cert.KernelXatt.Gen.frame m ρ,
    fun m ρ _ => Cert.KernelXattIdeal.Gen.frame m ρ,
    fun m ρ _ => Cert.KernelXattIdeal.Gen.frame m ρ,
    fun m ρ _ => (θ_run Cert.ReferenceXattIdeal.defs _ _).mono (fun r h => ⟨fun c => (h c).2.2.2, sem_eq_zero_of_no_sems (by decide) r.2⟩) (Cert.ReferenceXattIdeal.Value.run m ρ),
    fun m ρ _ => (θ_run Cert.ReferenceXattIdeal.defs _ _).mono (fun r h => ⟨fun c => (h c).2.2.2, sem_eq_zero_of_no_sems (by decide) r.2⟩) (Cert.ReferenceXattIdeal.Value.run m ρ),
    fun m ρ _ => Cert.KernelHn.Gen.frame m ρ,
    fun m ρ _ => Cert.KernelHnIdeal.Gen.frame m ρ,
    fun m ρ _ => Cert.KernelHnIdeal.Gen.frame m ρ,
    fun m ρ _ => (θ_run Cert.ReferenceHnIdeal.defs _ _).mono (fun r h => ⟨fun c => (h c).2.2.2, sem_eq_zero_of_no_sems (by decide) r.2⟩) (Cert.ReferenceHnIdeal.Value.run m ρ),
    fun m ρ _ => (θ_run Cert.ReferenceHnIdeal.defs _ _).mono (fun r h => ⟨fun c => (h c).2.2.2, sem_eq_zero_of_no_sems (by decide) r.2⟩) (Cert.ReferenceHnIdeal.Value.run m ρ),
    fun m ρ _ => Cert.KernelXn.Gen.frame m ρ,
    fun m ρ _ => Cert.KernelXnIdeal.Gen.frame m ρ,
    fun m ρ _ => Cert.KernelXnIdeal.Gen.frame m ρ,
    fun m ρ _ => (θ_run Cert.ReferenceXnIdeal.defs _ _).mono (fun r h => ⟨fun c => (h c).2.2, sem_eq_zero_of_no_sems (by decide) r.2⟩) (Cert.ReferenceXnIdeal.Value.run m ρ),
    fun m ρ _ => (θ_run Cert.ReferenceXnIdeal.defs _ _).mono (fun r h => ⟨fun c => (h c).2.2, sem_eq_zero_of_no_sems (by decide) r.2⟩) (Cert.ReferenceXnIdeal.Value.run m ρ),
    fun m ρ _ => Cert.KernelHm.Gen.frame m ρ,
    fun m ρ _ => Cert.KernelHmIdeal.Gen.frame m ρ,
    fun m ρ _ => Cert.KernelHmIdeal.Gen.frame m ρ,
    fun m ρ _ => (θ_run Cert.ReferenceHmIdeal.defs _ _).mono (fun r h => ⟨fun c => (h c).2.2.2, sem_eq_zero_of_no_sems (by decide) r.2⟩) (Cert.ReferenceHmIdeal.Value.run m ρ),
    fun m ρ _ => (θ_run Cert.ReferenceHmIdeal.defs _ _).mono (fun r h => ⟨fun c => (h c).2.2.2, sem_eq_zero_of_no_sems (by decide) r.2⟩) (Cert.ReferenceHmIdeal.Value.run m ρ),
    fun m ρ _ => Cert.KernelDact.Gen.frame m ρ,
    fun m ρ _ => Cert.KernelDactIdeal.Gen.frame m ρ,
    fun m ρ _ => (θ_run Cert.ReferenceDactIdeal.defs _ _).mono (fun r h => ⟨fun c => (h c).2, sem_eq_zero_of_no_sems (by decide) r.2⟩) (Cert.ReferenceDactIdeal.Value.run m ρ),
    fun m ρ _ => Cert.KernelDwdown.Gen.frame m ρ,
    fun m ρ _ => Cert.KernelDwdownIdeal.Gen.frame m ρ,
    fun m ρ _ => (θ_run Cert.ReferenceDwdownIdeal.defs _ _).mono (fun r h => ⟨fun c => (h c).2, sem_eq_zero_of_no_sems (by decide) r.2⟩) (Cert.ReferenceDwdownIdeal.Value.run m ρ),
    fun m ρ _ => Cert.KernelLoss.Gen.frame m ρ,
    fun m ρ _ => Cert.KernelLossIdeal.Gen.frame m ρ,
    fun m ρ _ => Cert.KernelLossIdeal.Gen.frame m ρ,
    fun m ρ _ => (θ_run Cert.ReferenceLossIdeal.defs _ _).mono (fun r h => ⟨fun c => (h c).2.2.2.2, sem_eq_zero_of_no_sems (by decide) r.2⟩) (Cert.ReferenceLossIdeal.Value.run m ρ),
    fun m ρ _ => (θ_run Cert.ReferenceLossIdeal.defs _ _).mono (fun r h => ⟨fun c => (h c).2.2.2.2, sem_eq_zero_of_no_sems (by decide) r.2⟩) (Cert.ReferenceLossIdeal.Value.run m ρ),
    fun m ρ _ => Cert.KernelDy.Gen.frame m ρ,
    fun m ρ _ => Cert.KernelDyIdeal.Gen.frame m ρ,
    fun m ρ _ => (θ_run Cert.ReferenceDyIdeal.defs _ _).mono (fun r h => ⟨fun c => (h c).2, sem_eq_zero_of_no_sems (by decide) r.2⟩) (Cert.ReferenceDyIdeal.Value.run m ρ),
    fun m ρ _ => Cert.KernelXattf.Gen.frame m ρ,
    fun m ρ _ => Cert.KernelXattfIdeal.Gen.frame m ρ,
    fun m ρ _ => Cert.KernelXattfIdeal.Gen.frame m ρ,
    fun m ρ _ => (θ_run Cert.ReferenceXattfIdeal.defs _ _).mono (fun r h => ⟨fun c => (h c).2, sem_eq_zero_of_no_sems (by decide) r.2⟩) (Cert.ReferenceXattfIdeal.Value.run m ρ),
    fun m ρ _ => (θ_run Cert.ReferenceXattfIdeal.defs _ _).mono (fun r h => ⟨fun c => (h c).2, sem_eq_zero_of_no_sems (by decide) r.2⟩) (Cert.ReferenceXattfIdeal.Value.run m ρ),
    fun m ρ _ => Cert.KernelAttf1.Gen.frame m ρ,
    fun m ρ _ => Cert.KernelAttf1Ideal.Gen.frame m ρ,
    fun m ρ _ => Cert.KernelAttf1Ideal.Gen.frame m ρ,
    fun m ρ _ => (θ_run Cert.ReferenceAttf1Ideal.defs _ _).mono (fun r h => ⟨fun c => (h c).2.2, sem_eq_zero_of_no_sems (by decide) r.2⟩) (Cert.ReferenceAttf1Ideal.Value.run m ρ),
    fun m ρ _ => (θ_run Cert.ReferenceAttf1Ideal.defs _ _).mono (fun r h => ⟨fun c => (h c).2.2, sem_eq_zero_of_no_sems (by decide) r.2⟩) (Cert.ReferenceAttf1Ideal.Value.run m ρ),
    fun m ρ _ => Cert.KernelAttf4.Gen.frame m ρ,
    fun m ρ _ => Cert.KernelAttf4Ideal.Gen.frame m ρ,
    fun m ρ _ => Cert.KernelAttf4Ideal.Gen.frame m ρ,
    fun m ρ _ => (θ_run Cert.ReferenceAttf4Ideal.defs _ _).mono (fun r h => ⟨fun c => (h c).2.2, sem_eq_zero_of_no_sems (by decide) r.2⟩) (Cert.ReferenceAttf4Ideal.Value.run m ρ),
    fun m ρ _ => (θ_run Cert.ReferenceAttf4Ideal.defs _ _).mono (fun r h => ⟨fun c => (h c).2.2, sem_eq_zero_of_no_sems (by decide) r.2⟩) (Cert.ReferenceAttf4Ideal.Value.run m ρ),
    fun m ρ _ => Cert.KernelAttf16.Gen.frame m ρ,
    fun m ρ _ => Cert.KernelAttf16Ideal.Gen.frame m ρ,
    fun m ρ _ => Cert.KernelAttf16Ideal.Gen.frame m ρ,
    fun m ρ _ => (θ_run Cert.ReferenceAttf16Ideal.defs _ _).mono (fun r h => ⟨fun c => (h c).2.2, sem_eq_zero_of_no_sems (by decide) r.2⟩) (Cert.ReferenceAttf16Ideal.Value.run m ρ),
    fun m ρ _ => (θ_run Cert.ReferenceAttf16Ideal.defs _ _).mono (fun r h => ⟨fun c => (h c).2.2, sem_eq_zero_of_no_sems (by decide) r.2⟩) (Cert.ReferenceAttf16Ideal.Value.run m ρ),
    fun m ρ _ => Cert.KernelRms.Gen.frame m ρ,
    fun m ρ _ => Cert.KernelRmsIdeal.Gen.frame m ρ,
    fun m ρ _ => (θ_run Cert.ReferenceRmsIdeal.defs _ _).mono (fun r h => ⟨fun c => (h c).2, sem_eq_zero_of_no_sems (by decide) r.2⟩) (Cert.ReferenceRmsIdeal.Value.run m ρ),
    fun m ρ _ => Cert.KernelXo.Gen.frame m ρ,
    fun m ρ _ => Cert.KernelXoIdeal.Gen.frame m ρ,
    fun m ρ _ => (θ_run Cert.ReferenceXoIdeal.defs _ _).mono (fun r h => ⟨fun c => (h c).2.2, sem_eq_zero_of_no_sems (by decide) r.2⟩) (Cert.ReferenceXoIdeal.Value.run m ρ),
    fun m ρ _ => Cert.KernelOut.Gen.frame m ρ,
    fun m ρ _ => Cert.KernelOutIdeal.Gen.frame m ρ,
    fun m ρ _ => (θ_run Cert.ReferenceOutIdeal.defs _ _).mono (fun r h => ⟨fun c => (h c).2.2, sem_eq_zero_of_no_sems (by decide) r.2⟩) (Cert.ReferenceOutIdeal.Value.run m ρ),
    fun m ρ _ => Cert.KernelUp.Gen.frame m ρ,
    fun m ρ _ => Cert.KernelUpIdeal.Gen.frame m ρ,
    fun m ρ _ => (θ_run Cert.ReferenceUpIdeal.defs _ _).mono (fun r h => ⟨fun c => (h c).2, sem_eq_zero_of_no_sems (by decide) r.2⟩) (Cert.ReferenceUpIdeal.Value.run m ρ),
    fun m ρ _ => Cert.KernelDelta.Gen.frame m ρ,
    fun m ρ _ => Cert.KernelDeltaIdeal.Gen.frame m ρ,
    fun m ρ _ => (θ_run Cert.ReferenceDeltaIdeal.defs _ _).mono (fun r h => ⟨fun c => (h c).2.2.2.2.2, sem_eq_zero_of_no_sems (by decide) r.2⟩) (Cert.ReferenceDeltaIdeal.Value.run m ρ),
    fun m ρ _ => Cert.KernelDwup.Gen.frame m ρ,
    fun m ρ _ => Cert.KernelDwupIdeal.Gen.frame m ρ,
    fun m ρ _ => (θ_run Cert.ReferenceDwupIdeal.defs _ _).mono (fun r h => ⟨fun c => (h c).2, sem_eq_zero_of_no_sems (by decide) r.2⟩) (Cert.ReferenceDwupIdeal.Value.run m ρ),
    fun m ρ _ => Cert.KernelDxo.Gen.frame m ρ,
    fun m ρ _ => Cert.KernelDxoIdeal.Gen.frame m ρ,
    fun m ρ _ => (θ_run Cert.ReferenceDxoIdeal.defs _ _).mono (fun r h => ⟨fun c => (h c).2, sem_eq_zero_of_no_sems (by decide) r.2⟩) (Cert.ReferenceDxoIdeal.Value.run m ρ),
    fun m ρ _ => Cert.KernelRope.Gen.frame m ρ,
    fun m ρ _ => Cert.KernelRopeIdeal.Gen.frame m ρ,
    fun m ρ _ => (θ_run Cert.ReferenceRopeIdeal.defs _ _).mono (fun r h => ⟨fun c => (h c).2.2.2.2.2, sem_eq_zero_of_no_sems (by decide) r.2⟩) (Cert.ReferenceRopeIdeal.Value.run m ρ),
    fun m ρ _ => Cert.KernelComb.Gen.frame m ρ,
    fun m ρ _ => Cert.KernelCombIdeal.Gen.frame m ρ,
    trivial,
    Cert.Mem.algebraic,
    trivial,
    Cert.Xatt.algebraic,
    trivial,
    Cert.Hn.algebraic,
    trivial,
    Cert.Xn.algebraic,
    trivial,
    Cert.Hm.algebraic,
    trivial,
    Cert.Dact.algebraic,
    trivial,
    Cert.Dwdown.algebraic,
    trivial,
    Cert.Loss.algebraic,
    trivial,
    Cert.Dy.algebraic,
    trivial,
    Cert.Xattf.algebraic,
    IdealRules.named_const.statement Cert.KernelAttf1Ideal.κ "mask" .f32 0xF149F2CA#32 ⊥ rfl,
    Cert.Attf1.algebraic,
    IdealRules.named_const.statement Cert.KernelAttf4Ideal.κ "mask" .f32 0xF149F2CA#32 ⊥ rfl,
    Cert.Attf4.algebraic,
    IdealRules.named_const.statement Cert.KernelAttf16Ideal.κ "mask" .f32 0xF149F2CA#32 ⊥ rfl,
    Cert.Attf16.algebraic,
    trivial,
    Cert.Rms.algebraic,
    trivial,
    Cert.Xo.algebraic,
    trivial,
    Cert.Out.algebraic,
    trivial,
    Cert.Up.algebraic,
    trivial,
    Cert.Delta.algebraic,
    trivial,
    Cert.Dwup.algebraic,
    trivial,
    Cert.Dxo.algebraic,
    trivial,
    Cert.Rope.algebraic,
    trivial⟩

end Cert.Proof

end
